-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S24x16x2x128 Cert.KernelIdeal.S24x16x1x128
  ∧ IdealRules.bf16_pair.BufferStatement Cert.KernelIdeal.S6x20x80x2x128 Cert.KernelIdeal.S6x20x80x1x128
  ∧ IdealRules.bf16_pair.Statement Cert.KernelIdeal.S24x16x2x128 Cert.KernelIdeal.S24x16x1x128
  ∧ IdealRules.bf16_pair.SelectZeroStatement Cert.KernelIdeal.S24x16x128
  ∧ IdealRules.bf16_pair.Statement Cert.KernelIdeal.S20x80 Cert.KernelIdeal.S10x80
  ∧ IdealRules.bf16_pair.Statement Cert.KernelIdeal.S1x10x2x80 Cert.KernelIdeal.S1x10x1x80
  ∧ IdealRules.bf16_pair.Statement Cert.KernelIdeal.S1x1x10x2x128 Cert.KernelIdeal.S1x1x10x1x128
  ∧ IdealRules.bf16_pair.SelectZeroStatement Cert.KernelIdeal.S1x1x10x128
  ∧ IdealRules.bf16_pair.Statement Cert.KernelIdeal.S1x16x2x128 Cert.KernelIdeal.S1x16x1x128
  ∧ IdealRules.bf16_pair.Statement Cert.KernelIdeal.S16x128 Cert.KernelIdeal.S8x128
  ∧ IdealRules.bf16_pair.Statement Cert.KernelIdeal.S20x128 Cert.KernelIdeal.S10x128
  ∧ IdealRules.bf16_pair.Statement Cert.KernelIdeal.S1x1x1x2x128 Cert.KernelIdeal.S1x1x1x1x128
  ∧ IdealRules.bf16_pair.SelectZeroStatement Cert.KernelIdeal.S1x1x1x128
  ∧ IdealRules.bf16_pair.Statement Cert.KernelIdeal.S1x1x9x2x128 Cert.KernelIdeal.S1x1x9x1x128
  ∧ IdealRules.bf16_pair.Statement Cert.KernelIdeal.S1x1x64x2x128 Cert.KernelIdeal.S1x1x64x1x128
  ∧ IdealRules.bf16_pair.Statement Cert.KernelIdeal.S128x256 Cert.KernelIdeal.S64x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x12x20x2560 : Shape := ⟨4, ![2, 12, 20, 2560]⟩
abbrev S2x12x20x80 : Shape := ⟨4, ![2, 12, 20, 80]⟩
abbrev S3x3x2560x2048 : Shape := ⟨4, ![3, 3, 2560, 2048]⟩
abbrev S3x3x80x2048 : Shape := ⟨4, ![3, 3, 80, 2048]⟩
abbrev S2048 : Shape := ⟨1, ![2048]⟩
abbrev S1x2048 : Shape := ⟨2, ![1, 2048]⟩
abbrev S2x6x10x2048 : Shape := ⟨4, ![2, 6, 10, 2048]⟩
abbrev S36x2560x512 : Shape := ⟨3, ![36, 2560, 512]⟩
abbrev S9x80x2048 : Shape := ⟨3, ![9, 80, 2048]⟩
abbrev S24x16x128 : Shape := ⟨3, ![24, 16, 128]⟩
abbrev S6x20x80x128 : Shape := ⟨4, ![6, 20, 80, 128]⟩
abbrev S80x512 : Shape := ⟨2, ![80, 512]⟩
abbrev S4x128x512 : Shape := ⟨3, ![4, 128, 512]⟩
abbrev S2 : Shape := ⟨1, ![2]⟩
abbrev S36 : Shape := ⟨1, ![36]⟩
abbrev S9 : Shape := ⟨1, ![9]⟩
abbrev S1 : Shape := ⟨1, ![1]⟩
abbrev S_ : Shape := ⟨0, ![]⟩
abbrev S1x80x2048 : Shape := ⟨3, ![1, 80, 2048]⟩
abbrev S80x2048 : Shape := ⟨2, ![80, 2048]⟩
abbrev S1x1x80x2048 : Shape := ⟨4, ![1, 1, 80, 2048]⟩
abbrev S1x2560x512 : Shape := ⟨3, ![1, 2560, 512]⟩
abbrev S2560x512 : Shape := ⟨2, ![2560, 512]⟩
abbrev S1x1x2560x512 : Shape := ⟨4, ![1, 1, 2560, 512]⟩
abbrev S1x1x20x80 : Shape := ⟨4, ![1, 1, 20, 80]⟩
abbrev S20x80 : Shape := ⟨2, ![20, 80]⟩
abbrev S10x80 : Shape := ⟨2, ![10, 80]⟩
abbrev S1x10x80 : Shape := ⟨3, ![1, 10, 80]⟩
abbrev S16x128 : Shape := ⟨2, ![16, 128]⟩
abbrev S1x128 : Shape := ⟨2, ![1, 128]⟩
abbrev S10x128 : Shape := ⟨2, ![10, 128]⟩
abbrev S1x1x10x128 : Shape := ⟨4, ![1, 1, 10, 128]⟩
abbrev S1x1x20x128 : Shape := ⟨4, ![1, 1, 20, 128]⟩
abbrev S20x128 : Shape := ⟨2, ![20, 128]⟩
abbrev S1x16x128 : Shape := ⟨3, ![1, 16, 128]⟩
abbrev S8x128 : Shape := ⟨2, ![8, 128]⟩
abbrev S16x128x1 : Shape := ⟨3, ![16, 128, 1]⟩
abbrev S1x1x1x128 : Shape := ⟨4, ![1, 1, 1, 128]⟩
abbrev S9x128 : Shape := ⟨2, ![9, 128]⟩
abbrev S1x1x9x128 : Shape := ⟨4, ![1, 1, 9, 128]⟩
abbrev S1x80x512 : Shape := ⟨3, ![1, 80, 512]⟩
abbrev S128x512 : Shape := ⟨2, ![128, 512]⟩
abbrev S1x1x64x128 : Shape := ⟨4, ![1, 1, 64, 128]⟩
abbrev S64x128 : Shape := ⟨2, ![64, 128]⟩
abbrev S64x256 : Shape := ⟨2, ![64, 256]⟩
abbrev S128x256 : Shape := ⟨2, ![128, 256]⟩
abbrev S1x512 : Shape := ⟨2, ![1, 512]⟩
abbrev S16x512 : Shape := ⟨2, ![16, 512]⟩
abbrev S1x32x512 : Shape := ⟨3, ![1, 32, 512]⟩
abbrev S32x512 : Shape := ⟨2, ![32, 512]⟩
abbrev S256x512 : Shape := ⟨2, ![256, 512]⟩
abbrev S1x128x512 : Shape := ⟨3, ![1, 128, 512]⟩
abbrev S64x2x512 : Shape := ⟨3, ![64, 2, 512]⟩
abbrev S60x2x512 : Shape := ⟨3, ![60, 2, 512]⟩
abbrev S10x1x512 : Shape := ⟨3, ![10, 1, 512]⟩
abbrev S10x512 : Shape := ⟨2, ![10, 512]⟩
abbrev S1x1x10x512 : Shape := ⟨4, ![1, 1, 10, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x12x20x2560, .fp8e4m3⟩
  | .hbm, ⟨1, _⟩ => ⟨S2x12x20x80, .i8⟩
  | .hbm, ⟨2, _⟩ => ⟨S3x3x2560x2048, .fp8e4m3⟩
  | .hbm, ⟨3, _⟩ => ⟨S3x3x80x2048, .i8⟩
  | .hbm, ⟨4, _⟩ => ⟨S2048, .f32⟩
  | .hbm, ⟨5, _⟩ => ⟨S1x2048, .f32⟩
  | .hbm, ⟨6, _⟩ => ⟨S2x6x10x2048, .bf16⟩
  | .local _ .vmem, ⟨0, _⟩ => ⟨S1x2048, .f32⟩
  | .local _ .vmem, ⟨1, _⟩ => ⟨S2x6x10x2048, .bf16⟩
  | .local _ .vmem, ⟨2, _⟩ => ⟨S2x12x20x2560, .fp8e4m3⟩
  | .local _ .vmem, ⟨3, _⟩ => ⟨S2x12x20x80, .i8⟩
  | .local _ .vmem, ⟨4, _⟩ => ⟨S36x2560x512, .fp8e4m3⟩
  | .local _ .vmem, ⟨5, _⟩ => ⟨S9x80x2048, .i8⟩
  | .local _ .vmem, ⟨6, _⟩ => ⟨S24x16x128, .i32⟩
  | .local _ .vmem, ⟨7, _⟩ => ⟨S6x20x80x128, .i32⟩
  | .local _ .vmem, ⟨8, _⟩ => ⟨S80x512, .i32⟩
  | .local _ .vmem, ⟨9, _⟩ => ⟨S4x128x512, .f32⟩
  | _, _ => ⟨S2x12x20x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

def k0_mult1 : BitVec 32 :=
  let c0_i32_8_r0 : BitVec 32 := 0#32
  c0_i32_8_r0
def k0_mult2 : BitVec 32 :=
  let c0_i32_24_r0 : BitVec 32 := 0#32
  c0_i32_24_r0
def k0_mult3 : BitVec 32 :=
  let c0_i32_39_r0 : BitVec 32 := 0#32
  c0_i32_39_r0
def k0_mult4 : BitVec 32 :=
  let c0_i32_54_r0 : BitVec 32 := 0#32
  c0_i32_54_r0
def k0_mult5 : BitVec 32 :=
  let c0_i32_69_r0 : BitVec 32 := 0#32
  c0_i32_69_r0
def k0_mult6 : BitVec 32 :=
  let c0_i32_84_r0 : BitVec 32 := 0#32
  c0_i32_84_r0
def k0_mult7 : BitVec 32 :=
  let c0_i32_99_r0 : BitVec 32 := 0#32
  c0_i32_99_r0
def k0_mult8 : BitVec 32 :=
  let c0_i32_114_r0 : BitVec 32 := 0#32
  c0_i32_114_r0
def k0_mult9 : BitVec 32 :=
  let c0_i32_129_r0 : BitVec 32 := 0#32
  c0_i32_129_r0
def k0_mult10 : BitVec 32 :=
  let c512_i32_r0 : BitVec 32 := 512#32
  c512_i32_r0
def k0_mult11 : BitVec 32 :=
  let c512_i32_143_r0 : BitVec 32 := 512#32
  c512_i32_143_r0
def k0_mult12 : BitVec 32 :=
  let c512_i32_150_r0 : BitVec 32 := 512#32
  c512_i32_150_r0
def k0_mult13 : BitVec 32 :=
  let c512_i32_157_r0 : BitVec 32 := 512#32
  c512_i32_157_r0
def k0_mult14 : BitVec 32 :=
  let c512_i32_164_r0 : BitVec 32 := 512#32
  c512_i32_164_r0
def k0_mult15 : BitVec 32 :=
  let c512_i32_171_r0 : BitVec 32 := 512#32
  c512_i32_171_r0
def k0_mult16 : BitVec 32 :=
  let c512_i32_178_r0 : BitVec 32 := 512#32
  c512_i32_178_r0
def k0_mult17 : BitVec 32 :=
  let c512_i32_185_r0 : BitVec 32 := 512#32
  c512_i32_185_r0
def k0_mult18 : BitVec 32 :=
  let c512_i32_192_r0 : BitVec 32 := 512#32
  c512_i32_192_r0
def k0_mult19 : BitVec 32 :=
  let c1024_i32_r0 : BitVec 32 := 1024#32
  c1024_i32_r0
def k0_mult20 : BitVec 32 :=
  let c1024_i32_205_r0 : BitVec 32 := 1024#32
  c1024_i32_205_r0
def k0_mult21 : BitVec 32 :=
  let c1024_i32_212_r0 : BitVec 32 := 1024#32
  c1024_i32_212_r0
def k0_mult22 : BitVec 32 :=
  let c1024_i32_219_r0 : BitVec 32 := 1024#32
  c1024_i32_219_r0
def k0_mult23 : BitVec 32 :=
  let c1024_i32_226_r0 : BitVec 32 := 1024#32
  c1024_i32_226_r0
def k0_mult24 : BitVec 32 :=
  let c1024_i32_233_r0 : BitVec 32 := 1024#32
  c1024_i32_233_r0
def k0_mult25 : BitVec 32 :=
  let c1024_i32_240_r0 : BitVec 32 := 1024#32
  c1024_i32_240_r0
def k0_mult26 : BitVec 32 :=
  let c1024_i32_247_r0 : BitVec 32 := 1024#32
  c1024_i32_247_r0
def k0_mult27 : BitVec 32 :=
  let c1024_i32_254_r0 : BitVec 32 := 1024#32
  c1024_i32_254_r0
def k0_mult28 : BitVec 32 :=
  let c1536_i32_r0 : BitVec 32 := 1536#32
  c1536_i32_r0
def k0_mult29 : BitVec 32 :=
  let c1536_i32_267_r0 : BitVec 32 := 1536#32
  c1536_i32_267_r0
def k0_mult30 : BitVec 32 :=
  let c1536_i32_274_r0 : BitVec 32 := 1536#32
  c1536_i32_274_r0
def k0_mult31 : BitVec 32 :=
  let c1536_i32_281_r0 : BitVec 32 := 1536#32
  c1536_i32_281_r0
def k0_mult32 : BitVec 32 :=
  let c1536_i32_288_r0 : BitVec 32 := 1536#32
  c1536_i32_288_r0
def k0_mult33 : BitVec 32 :=
  let c1536_i32_295_r0 : BitVec 32 := 1536#32
  c1536_i32_295_r0
def k0_mult34 : BitVec 32 :=
  let c1536_i32_302_r0 : BitVec 32 := 1536#32
  c1536_i32_302_r0
def k0_mult35 : BitVec 32 :=
  let c1536_i32_309_r0 : BitVec 32 := 1536#32
  c1536_i32_309_r0
def k0_mult36 : BitVec 32 :=
  let c1536_i32_316_r0 : BitVec 32 := 1536#32
  c1536_i32_316_r0
@[reducible] def k0_t1_loop : Scf.Loop 32 :=
  let c0_i32_506_r0 : BitVec 32 := 0#32
  let c20_i32_507_r0 : BitVec 32 := 20#32
  let v611_r0 : BitVec 32 := Scalar.addi c0_i32_506_r0 c20_i32_507_r0
  let c1_i32_508_r0 : BitVec 32 := 1#32
  ⟨c0_i32_506_r0, v611_r0, c1_i32_508_r0⟩
def k0_mult37 (k0_t1 : Fin k0_t1_loop.trips) : BitVec 32 :=
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  v933_r0
def k0_off1 (k0_t1 : Fin k0_t1_loop.trips) : Fin 4 → Nat :=
  let c0_725_r0 : Index := 0#32
  let c0_i32_506_r0 : BitVec 32 := 0#32
  let c1_i32_508_r0 : BitVec 32 := 1#32
  let arg14_r0 : BitVec 32 := Scf.iv c0_i32_506_r0 c1_i32_508_r0 k0_t1
  let v939_r0 : Index := Scalar.indexCast arg14_r0
  let c0_726_r0 : Index := 0#32
  let c0_727_r0 : Index := 0#32
  ![0, v939_r0.toNat, 0, 0]
def k0_off2 (k0_t1 : Fin k0_t1_loop.trips) : Fin 4 → Nat :=
  let c0_729_r0 : Index := 0#32
  let c0_i32_506_r0 : BitVec 32 := 0#32
  let c1_i32_508_r0 : BitVec 32 := 1#32
  let arg14_r0 : BitVec 32 := Scf.iv c0_i32_506_r0 c1_i32_508_r0 k0_t1
  let v944_r0 : Index := Scalar.indexCast arg14_r0
  let c70_r0 : Index := 70#32
  let c0_730_r0 : Index := 0#32
  ![0, v944_r0.toNat, 70, 0]
def k0_off3 (k0_t1 : Fin k0_t1_loop.trips) : Fin 4 → Nat :=
  let c1_732_r0 : Index := 1#32
  let c0_i32_506_r0 : BitVec 32 := 0#32
  let c1_i32_508_r0 : BitVec 32 := 1#32
  let arg14_r0 : BitVec 32 := Scf.iv c0_i32_506_r0 c1_i32_508_r0 k0_t1
  let v949_r0 : Index := Scalar.indexCast arg14_r0
  let c0_733_r0 : Index := 0#32
  let c0_734_r0 : Index := 0#32
  ![1, v949_r0.toNat, 0, 0]
def k0_off4 (k0_t1 : Fin k0_t1_loop.trips) : Fin 4 → Nat :=
  let c1_736_r0 : Index := 1#32
  let c0_i32_506_r0 : BitVec 32 := 0#32
  let c1_i32_508_r0 : BitVec 32 := 1#32
  let arg14_r0 : BitVec 32 := Scf.iv c0_i32_506_r0 c1_i32_508_r0 k0_t1
  let v954_r0 : Index := Scalar.indexCast arg14_r0
  let c70_737_r0 : Index := 70#32
  let c0_738_r0 : Index := 0#32
  ![1, v954_r0.toNat, 70, 0]
def k0_off5 (k0_t1 : Fin k0_t1_loop.trips) : Fin 4 → Nat :=
  let c2_740_r0 : Index := 2#32
  let c0_i32_506_r0 : BitVec 32 := 0#32
  let c1_i32_508_r0 : BitVec 32 := 1#32
  let arg14_r0 : BitVec 32 := Scf.iv c0_i32_506_r0 c1_i32_508_r0 k0_t1
  let v959_r0 : Index := Scalar.indexCast arg14_r0
  let c0_741_r0 : Index := 0#32
  let c0_742_r0 : Index := 0#32
  ![2, v959_r0.toNat, 0, 0]
def k0_off6 (k0_t1 : Fin k0_t1_loop.trips) : Fin 4 → Nat :=
  let c2_744_r0 : Index := 2#32
  let c0_i32_506_r0 : BitVec 32 := 0#32
  let c1_i32_508_r0 : BitVec 32 := 1#32
  let arg14_r0 : BitVec 32 := Scf.iv c0_i32_506_r0 c1_i32_508_r0 k0_t1
  let v964_r0 : Index := Scalar.indexCast arg14_r0
  let c70_745_r0 : Index := 70#32
  let c0_746_r0 : Index := 0#32
  ![2, v964_r0.toNat, 70, 0]
def k0_off7 (k0_t1 : Fin k0_t1_loop.trips) : Fin 4 → Nat :=
  let c3_748_r0 : Index := 3#32
  let c0_i32_506_r0 : BitVec 32 := 0#32
  let c1_i32_508_r0 : BitVec 32 := 1#32
  let arg14_r0 : BitVec 32 := Scf.iv c0_i32_506_r0 c1_i32_508_r0 k0_t1
  let v969_r0 : Index := Scalar.indexCast arg14_r0
  let c0_749_r0 : Index := 0#32
  let c0_750_r0 : Index := 0#32
  ![3, v969_r0.toNat, 0, 0]
def k0_off8 (k0_t1 : Fin k0_t1_loop.trips) : Fin 4 → Nat :=
  let c3_752_r0 : Index := 3#32
  let c0_i32_506_r0 : BitVec 32 := 0#32
  let c1_i32_508_r0 : BitVec 32 := 1#32
  let arg14_r0 : BitVec 32 := Scf.iv c0_i32_506_r0 c1_i32_508_r0 k0_t1
  let v974_r0 : Index := Scalar.indexCast arg14_r0
  let c70_753_r0 : Index := 70#32
  let c0_754_r0 : Index := 0#32
  ![3, v974_r0.toNat, 70, 0]
def k0_off9 (k0_t1 : Fin k0_t1_loop.trips) : Fin 4 → Nat :=
  let c4_756_r0 : Index := 4#32
  let c0_i32_506_r0 : BitVec 32 := 0#32
  let c1_i32_508_r0 : BitVec 32 := 1#32
  let arg14_r0 : BitVec 32 := Scf.iv c0_i32_506_r0 c1_i32_508_r0 k0_t1
  let v979_r0 : Index := Scalar.indexCast arg14_r0
  let c0_757_r0 : Index := 0#32
  let c0_758_r0 : Index := 0#32
  ![4, v979_r0.toNat, 0, 0]
def k0_off10 (k0_t1 : Fin k0_t1_loop.trips) : Fin 4 → Nat :=
  let c4_760_r0 : Index := 4#32
  let c0_i32_506_r0 : BitVec 32 := 0#32
  let c1_i32_508_r0 : BitVec 32 := 1#32
  let arg14_r0 : BitVec 32 := Scf.iv c0_i32_506_r0 c1_i32_508_r0 k0_t1
  let v984_r0 : Index := Scalar.indexCast arg14_r0
  let c70_761_r0 : Index := 70#32
  let c0_762_r0 : Index := 0#32
  ![4, v984_r0.toNat, 70, 0]
def k0_off11 (k0_t1 : Fin k0_t1_loop.trips) : Fin 4 → Nat :=
  let c5_764_r0 : Index := 5#32
  let c0_i32_506_r0 : BitVec 32 := 0#32
  let c1_i32_508_r0 : BitVec 32 := 1#32
  let arg14_r0 : BitVec 32 := Scf.iv c0_i32_506_r0 c1_i32_508_r0 k0_t1
  let v989_r0 : Index := Scalar.indexCast arg14_r0
  let c0_765_r0 : Index := 0#32
  let c0_766_r0 : Index := 0#32
  ![5, v989_r0.toNat, 0, 0]
def k0_off12 (k0_t1 : Fin k0_t1_loop.trips) : Fin 4 → Nat :=
  let c5_768_r0 : Index := 5#32
  let c0_i32_506_r0 : BitVec 32 := 0#32
  let c1_i32_508_r0 : BitVec 32 := 1#32
  let arg14_r0 : BitVec 32 := Scf.iv c0_i32_506_r0 c1_i32_508_r0 k0_t1
  let v994_r0 : Index := Scalar.indexCast arg14_r0
  let c70_769_r0 : Index := 70#32
  let c0_770_r0 : Index := 0#32
  ![5, v994_r0.toNat, 70, 0]
def k0_off13 (k0_t1 : Fin k0_t1_loop.trips) : Fin 4 → Nat :=
  let c0_771_r0 : Index := 0#32
  let c0_772_r0 : Index := 0#32
  let c0_773_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v998_r0 : Index := Scalar.indexCast v934_r0
  ![0, 0, 0, v998_r0.toNat]
def k0_off14 (k0_t1 : Fin k0_t1_loop.trips) : Fin 4 → Nat :=
  let c1_781_r0 : Index := 1#32
  let c0_782_r0 : Index := 0#32
  let c0_783_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1035_r0 : Index := Scalar.indexCast v934_r0
  ![1, 0, 0, v1035_r0.toNat]
def k0_off15 (k0_t1 : Fin k0_t1_loop.trips) : Fin 4 → Nat :=
  let c1_793_r0 : Index := 1#32
  let c0_i32_506_r0 : BitVec 32 := 0#32
  let c1_i32_508_r0 : BitVec 32 := 1#32
  let arg14_r0 : BitVec 32 := Scf.iv c0_i32_506_r0 c1_i32_508_r0 k0_t1
  let v1082_r0 : Index := Scalar.indexCast arg14_r0
  let c10_794_r0 : Index := 10#32
  let c0_795_r0 : Index := 0#32
  ![1, v1082_r0.toNat, 10, 0]
def k0_off16 (k0_t1 : Fin k0_t1_loop.trips) : Fin 4 → Nat :=
  let c2_796_r0 : Index := 2#32
  let c0_i32_506_r0 : BitVec 32 := 0#32
  let c1_i32_508_r0 : BitVec 32 := 1#32
  let arg14_r0 : BitVec 32 := Scf.iv c0_i32_506_r0 c1_i32_508_r0 k0_t1
  let v1086_r0 : Index := Scalar.indexCast arg14_r0
  let c10_797_r0 : Index := 10#32
  let c0_798_r0 : Index := 0#32
  ![2, v1086_r0.toNat, 10, 0]
def k0_off17 (k0_t1 : Fin k0_t1_loop.trips) : Fin 4 → Nat :=
  let c0_799_r0 : Index := 0#32
  let c0_i32_506_r0 : BitVec 32 := 0#32
  let c1_i32_508_r0 : BitVec 32 := 1#32
  let arg14_r0 : BitVec 32 := Scf.iv c0_i32_506_r0 c1_i32_508_r0 k0_t1
  let v1090_r0 : Index := Scalar.indexCast arg14_r0
  let c10_800_r0 : Index := 10#32
  let c0_801_r0 : Index := 0#32
  ![0, v1090_r0.toNat, 10, 0]
def k0_off18 (k0_t1 : Fin k0_t1_loop.trips) : Fin 4 → Nat :=
  let c0_802_r0 : Index := 0#32
  let c0_i32_506_r0 : BitVec 32 := 0#32
  let c1_i32_508_r0 : BitVec 32 := 1#32
  let arg14_r0 : BitVec 32 := Scf.iv c0_i32_506_r0 c1_i32_508_r0 k0_t1
  let v1095_r0 : Index := Scalar.indexCast arg14_r0
  let c11_803_r0 : Index := 11#32
  let c0_804_r0 : Index := 0#32
  ![0, v1095_r0.toNat, 11, 0]
def k0_off19 (k0_t1 : Fin k0_t1_loop.trips) : Fin 4 → Nat :=
  let c0_805_r0 : Index := 0#32
  let c1_806_r0 : Index := 1#32
  let c0_807_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1099_r0 : Index := Scalar.indexCast v934_r0
  ![0, 1, 0, v1099_r0.toNat]
def k0_off20 (k0_t1 : Fin k0_t1_loop.trips) : Fin 4 → Nat :=
  let c1_815_r0 : Index := 1#32
  let c1_816_r0 : Index := 1#32
  let c0_817_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1136_r0 : Index := Scalar.indexCast v934_r0
  ![1, 1, 0, v1136_r0.toNat]
def k0_off21 (k0_t1 : Fin k0_t1_loop.trips) : Fin 4 → Nat :=
  let c4_827_r0 : Index := 4#32
  let c0_i32_506_r0 : BitVec 32 := 0#32
  let c1_i32_508_r0 : BitVec 32 := 1#32
  let arg14_r0 : BitVec 32 := Scf.iv c0_i32_506_r0 c1_i32_508_r0 k0_t1
  let v1183_r0 : Index := Scalar.indexCast arg14_r0
  let c10_828_r0 : Index := 10#32
  let c0_829_r0 : Index := 0#32
  ![4, v1183_r0.toNat, 10, 0]
def k0_off22 (k0_t1 : Fin k0_t1_loop.trips) : Fin 4 → Nat :=
  let c5_830_r0 : Index := 5#32
  let c0_i32_506_r0 : BitVec 32 := 0#32
  let c1_i32_508_r0 : BitVec 32 := 1#32
  let arg14_r0 : BitVec 32 := Scf.iv c0_i32_506_r0 c1_i32_508_r0 k0_t1
  let v1187_r0 : Index := Scalar.indexCast arg14_r0
  let c10_831_r0 : Index := 10#32
  let c0_832_r0 : Index := 0#32
  ![5, v1187_r0.toNat, 10, 0]
def k0_off23 (k0_t1 : Fin k0_t1_loop.trips) : Fin 4 → Nat :=
  let c3_833_r0 : Index := 3#32
  let c0_i32_506_r0 : BitVec 32 := 0#32
  let c1_i32_508_r0 : BitVec 32 := 1#32
  let arg14_r0 : BitVec 32 := Scf.iv c0_i32_506_r0 c1_i32_508_r0 k0_t1
  let v1191_r0 : Index := Scalar.indexCast arg14_r0
  let c10_834_r0 : Index := 10#32
  let c0_835_r0 : Index := 0#32
  ![3, v1191_r0.toNat, 10, 0]
def k0_off24 (k0_t1 : Fin k0_t1_loop.trips) : Fin 4 → Nat :=
  let c3_836_r0 : Index := 3#32
  let c0_i32_506_r0 : BitVec 32 := 0#32
  let c1_i32_508_r0 : BitVec 32 := 1#32
  let arg14_r0 : BitVec 32 := Scf.iv c0_i32_506_r0 c1_i32_508_r0 k0_t1
  let v1196_r0 : Index := Scalar.indexCast arg14_r0
  let c11_837_r0 : Index := 11#32
  let c0_838_r0 : Index := 0#32
  ![3, v1196_r0.toNat, 11, 0]
def k0_off25 (k0_t1 : Fin k0_t1_loop.trips) : Fin 4 → Nat :=
  let c0_839_r0 : Index := 0#32
  let c2_840_r0 : Index := 2#32
  let c0_841_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1200_r0 : Index := Scalar.indexCast v934_r0
  ![0, 2, 0, v1200_r0.toNat]
def k0_off26 (k0_t1 : Fin k0_t1_loop.trips) : Fin 4 → Nat :=
  let c1_849_r0 : Index := 1#32
  let c2_850_r0 : Index := 2#32
  let c0_851_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1237_r0 : Index := Scalar.indexCast v934_r0
  ![1, 2, 0, v1237_r0.toNat]
def k0_off27 (k0_t1 : Fin k0_t1_loop.trips) : Fin 4 → Nat :=
  let c1_861_r0 : Index := 1#32
  let c0_i32_506_r0 : BitVec 32 := 0#32
  let c1_i32_508_r0 : BitVec 32 := 1#32
  let arg14_r0 : BitVec 32 := Scf.iv c0_i32_506_r0 c1_i32_508_r0 k0_t1
  let v1284_r0 : Index := Scalar.indexCast arg14_r0
  let c20_862_r0 : Index := 20#32
  let c0_863_r0 : Index := 0#32
  ![1, v1284_r0.toNat, 20, 0]
def k0_off28 (k0_t1 : Fin k0_t1_loop.trips) : Fin 4 → Nat :=
  let c2_864_r0 : Index := 2#32
  let c0_i32_506_r0 : BitVec 32 := 0#32
  let c1_i32_508_r0 : BitVec 32 := 1#32
  let arg14_r0 : BitVec 32 := Scf.iv c0_i32_506_r0 c1_i32_508_r0 k0_t1
  let v1288_r0 : Index := Scalar.indexCast arg14_r0
  let c20_865_r0 : Index := 20#32
  let c0_866_r0 : Index := 0#32
  ![2, v1288_r0.toNat, 20, 0]
def k0_off29 (k0_t1 : Fin k0_t1_loop.trips) : Fin 4 → Nat :=
  let c0_867_r0 : Index := 0#32
  let c0_i32_506_r0 : BitVec 32 := 0#32
  let c1_i32_508_r0 : BitVec 32 := 1#32
  let arg14_r0 : BitVec 32 := Scf.iv c0_i32_506_r0 c1_i32_508_r0 k0_t1
  let v1292_r0 : Index := Scalar.indexCast arg14_r0
  let c20_868_r0 : Index := 20#32
  let c0_869_r0 : Index := 0#32
  ![0, v1292_r0.toNat, 20, 0]
def k0_off30 (k0_t1 : Fin k0_t1_loop.trips) : Fin 4 → Nat :=
  let c0_870_r0 : Index := 0#32
  let c0_i32_506_r0 : BitVec 32 := 0#32
  let c1_i32_508_r0 : BitVec 32 := 1#32
  let arg14_r0 : BitVec 32 := Scf.iv c0_i32_506_r0 c1_i32_508_r0 k0_t1
  let v1297_r0 : Index := Scalar.indexCast arg14_r0
  let c21_871_r0 : Index := 21#32
  let c0_872_r0 : Index := 0#32
  ![0, v1297_r0.toNat, 21, 0]
def k0_off31 (k0_t1 : Fin k0_t1_loop.trips) : Fin 4 → Nat :=
  let c0_873_r0 : Index := 0#32
  let c3_874_r0 : Index := 3#32
  let c0_875_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1301_r0 : Index := Scalar.indexCast v934_r0
  ![0, 3, 0, v1301_r0.toNat]
def k0_off32 (k0_t1 : Fin k0_t1_loop.trips) : Fin 4 → Nat :=
  let c1_883_r0 : Index := 1#32
  let c3_884_r0 : Index := 3#32
  let c0_885_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1338_r0 : Index := Scalar.indexCast v934_r0
  ![1, 3, 0, v1338_r0.toNat]
def k0_off33 (k0_t1 : Fin k0_t1_loop.trips) : Fin 4 → Nat :=
  let c4_895_r0 : Index := 4#32
  let c0_i32_506_r0 : BitVec 32 := 0#32
  let c1_i32_508_r0 : BitVec 32 := 1#32
  let arg14_r0 : BitVec 32 := Scf.iv c0_i32_506_r0 c1_i32_508_r0 k0_t1
  let v1385_r0 : Index := Scalar.indexCast arg14_r0
  let c20_896_r0 : Index := 20#32
  let c0_897_r0 : Index := 0#32
  ![4, v1385_r0.toNat, 20, 0]
def k0_off34 (k0_t1 : Fin k0_t1_loop.trips) : Fin 4 → Nat :=
  let c5_898_r0 : Index := 5#32
  let c0_i32_506_r0 : BitVec 32 := 0#32
  let c1_i32_508_r0 : BitVec 32 := 1#32
  let arg14_r0 : BitVec 32 := Scf.iv c0_i32_506_r0 c1_i32_508_r0 k0_t1
  let v1389_r0 : Index := Scalar.indexCast arg14_r0
  let c20_899_r0 : Index := 20#32
  let c0_900_r0 : Index := 0#32
  ![5, v1389_r0.toNat, 20, 0]
def k0_off35 (k0_t1 : Fin k0_t1_loop.trips) : Fin 4 → Nat :=
  let c3_901_r0 : Index := 3#32
  let c0_i32_506_r0 : BitVec 32 := 0#32
  let c1_i32_508_r0 : BitVec 32 := 1#32
  let arg14_r0 : BitVec 32 := Scf.iv c0_i32_506_r0 c1_i32_508_r0 k0_t1
  let v1393_r0 : Index := Scalar.indexCast arg14_r0
  let c20_902_r0 : Index := 20#32
  let c0_903_r0 : Index := 0#32
  ![3, v1393_r0.toNat, 20, 0]
def k0_off36 (k0_t1 : Fin k0_t1_loop.trips) : Fin 4 → Nat :=
  let c3_904_r0 : Index := 3#32
  let c0_i32_506_r0 : BitVec 32 := 0#32
  let c1_i32_508_r0 : BitVec 32 := 1#32
  let arg14_r0 : BitVec 32 := Scf.iv c0_i32_506_r0 c1_i32_508_r0 k0_t1
  let v1398_r0 : Index := Scalar.indexCast arg14_r0
  let c21_905_r0 : Index := 21#32
  let c0_906_r0 : Index := 0#32
  ![3, v1398_r0.toNat, 21, 0]
def k0_off37 (k0_t1 : Fin k0_t1_loop.trips) : Fin 4 → Nat :=
  let c0_907_r0 : Index := 0#32
  let c4_908_r0 : Index := 4#32
  let c0_909_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1402_r0 : Index := Scalar.indexCast v934_r0
  ![0, 4, 0, v1402_r0.toNat]
def k0_off38 (k0_t1 : Fin k0_t1_loop.trips) : Fin 4 → Nat :=
  let c1_917_r0 : Index := 1#32
  let c4_918_r0 : Index := 4#32
  let c0_919_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1439_r0 : Index := Scalar.indexCast v934_r0
  ![1, 4, 0, v1439_r0.toNat]
def k0_off39 (k0_t1 : Fin k0_t1_loop.trips) : Fin 4 → Nat :=
  let c1_929_r0 : Index := 1#32
  let c0_i32_506_r0 : BitVec 32 := 0#32
  let c1_i32_508_r0 : BitVec 32 := 1#32
  let arg14_r0 : BitVec 32 := Scf.iv c0_i32_506_r0 c1_i32_508_r0 k0_t1
  let v1486_r0 : Index := Scalar.indexCast arg14_r0
  let c30_r0 : Index := 30#32
  let c0_930_r0 : Index := 0#32
  ![1, v1486_r0.toNat, 30, 0]
def k0_off40 (k0_t1 : Fin k0_t1_loop.trips) : Fin 4 → Nat :=
  let c2_931_r0 : Index := 2#32
  let c0_i32_506_r0 : BitVec 32 := 0#32
  let c1_i32_508_r0 : BitVec 32 := 1#32
  let arg14_r0 : BitVec 32 := Scf.iv c0_i32_506_r0 c1_i32_508_r0 k0_t1
  let v1490_r0 : Index := Scalar.indexCast arg14_r0
  let c30_932_r0 : Index := 30#32
  let c0_933_r0 : Index := 0#32
  ![2, v1490_r0.toNat, 30, 0]
def k0_off41 (k0_t1 : Fin k0_t1_loop.trips) : Fin 4 → Nat :=
  let c0_934_r0 : Index := 0#32
  let c0_i32_506_r0 : BitVec 32 := 0#32
  let c1_i32_508_r0 : BitVec 32 := 1#32
  let arg14_r0 : BitVec 32 := Scf.iv c0_i32_506_r0 c1_i32_508_r0 k0_t1
  let v1494_r0 : Index := Scalar.indexCast arg14_r0
  let c30_935_r0 : Index := 30#32
  let c0_936_r0 : Index := 0#32
  ![0, v1494_r0.toNat, 30, 0]
def k0_off42 (k0_t1 : Fin k0_t1_loop.trips) : Fin 4 → Nat :=
  let c0_937_r0 : Index := 0#32
  let c0_i32_506_r0 : BitVec 32 := 0#32
  let c1_i32_508_r0 : BitVec 32 := 1#32
  let arg14_r0 : BitVec 32 := Scf.iv c0_i32_506_r0 c1_i32_508_r0 k0_t1
  let v1499_r0 : Index := Scalar.indexCast arg14_r0
  let c31_r0 : Index := 31#32
  let c0_938_r0 : Index := 0#32
  ![0, v1499_r0.toNat, 31, 0]
def k0_off43 (k0_t1 : Fin k0_t1_loop.trips) : Fin 4 → Nat :=
  let c0_939_r0 : Index := 0#32
  let c5_940_r0 : Index := 5#32
  let c0_941_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1503_r0 : Index := Scalar.indexCast v934_r0
  ![0, 5, 0, v1503_r0.toNat]
def k0_off44 (k0_t1 : Fin k0_t1_loop.trips) : Fin 4 → Nat :=
  let c1_949_r0 : Index := 1#32
  let c5_950_r0 : Index := 5#32
  let c0_951_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1540_r0 : Index := Scalar.indexCast v934_r0
  ![1, 5, 0, v1540_r0.toNat]
def k0_off45 (k0_t1 : Fin k0_t1_loop.trips) : Fin 4 → Nat :=
  let c4_961_r0 : Index := 4#32
  let c0_i32_506_r0 : BitVec 32 := 0#32
  let c1_i32_508_r0 : BitVec 32 := 1#32
  let arg14_r0 : BitVec 32 := Scf.iv c0_i32_506_r0 c1_i32_508_r0 k0_t1
  let v1587_r0 : Index := Scalar.indexCast arg14_r0
  let c30_962_r0 : Index := 30#32
  let c0_963_r0 : Index := 0#32
  ![4, v1587_r0.toNat, 30, 0]
def k0_off46 (k0_t1 : Fin k0_t1_loop.trips) : Fin 4 → Nat :=
  let c5_964_r0 : Index := 5#32
  let c0_i32_506_r0 : BitVec 32 := 0#32
  let c1_i32_508_r0 : BitVec 32 := 1#32
  let arg14_r0 : BitVec 32 := Scf.iv c0_i32_506_r0 c1_i32_508_r0 k0_t1
  let v1591_r0 : Index := Scalar.indexCast arg14_r0
  let c30_965_r0 : Index := 30#32
  let c0_966_r0 : Index := 0#32
  ![5, v1591_r0.toNat, 30, 0]
def k0_off47 (k0_t1 : Fin k0_t1_loop.trips) : Fin 4 → Nat :=
  let c3_967_r0 : Index := 3#32
  let c0_i32_506_r0 : BitVec 32 := 0#32
  let c1_i32_508_r0 : BitVec 32 := 1#32
  let arg14_r0 : BitVec 32 := Scf.iv c0_i32_506_r0 c1_i32_508_r0 k0_t1
  let v1595_r0 : Index := Scalar.indexCast arg14_r0
  let c30_968_r0 : Index := 30#32
  let c0_969_r0 : Index := 0#32
  ![3, v1595_r0.toNat, 30, 0]
def k0_off48 (k0_t1 : Fin k0_t1_loop.trips) : Fin 4 → Nat :=
  let c3_970_r0 : Index := 3#32
  let c0_i32_506_r0 : BitVec 32 := 0#32
  let c1_i32_508_r0 : BitVec 32 := 1#32
  let arg14_r0 : BitVec 32 := Scf.iv c0_i32_506_r0 c1_i32_508_r0 k0_t1
  let v1600_r0 : Index := Scalar.indexCast arg14_r0
  let c31_971_r0 : Index := 31#32
  let c0_972_r0 : Index := 0#32
  ![3, v1600_r0.toNat, 31, 0]
def k0_off49 (k0_t1 : Fin k0_t1_loop.trips) : Fin 4 → Nat :=
  let c0_973_r0 : Index := 0#32
  let c6_974_r0 : Index := 6#32
  let c0_975_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1604_r0 : Index := Scalar.indexCast v934_r0
  ![0, 6, 0, v1604_r0.toNat]
def k0_off50 (k0_t1 : Fin k0_t1_loop.trips) : Fin 4 → Nat :=
  let c1_983_r0 : Index := 1#32
  let c6_984_r0 : Index := 6#32
  let c0_985_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1641_r0 : Index := Scalar.indexCast v934_r0
  ![1, 6, 0, v1641_r0.toNat]
def k0_off51 (k0_t1 : Fin k0_t1_loop.trips) : Fin 4 → Nat :=
  let c1_995_r0 : Index := 1#32
  let c0_i32_506_r0 : BitVec 32 := 0#32
  let c1_i32_508_r0 : BitVec 32 := 1#32
  let arg14_r0 : BitVec 32 := Scf.iv c0_i32_506_r0 c1_i32_508_r0 k0_t1
  let v1688_r0 : Index := Scalar.indexCast arg14_r0
  let c40_r0 : Index := 40#32
  let c0_996_r0 : Index := 0#32
  ![1, v1688_r0.toNat, 40, 0]
def k0_off52 (k0_t1 : Fin k0_t1_loop.trips) : Fin 4 → Nat :=
  let c2_997_r0 : Index := 2#32
  let c0_i32_506_r0 : BitVec 32 := 0#32
  let c1_i32_508_r0 : BitVec 32 := 1#32
  let arg14_r0 : BitVec 32 := Scf.iv c0_i32_506_r0 c1_i32_508_r0 k0_t1
  let v1692_r0 : Index := Scalar.indexCast arg14_r0
  let c40_998_r0 : Index := 40#32
  let c0_999_r0 : Index := 0#32
  ![2, v1692_r0.toNat, 40, 0]
def k0_off53 (k0_t1 : Fin k0_t1_loop.trips) : Fin 4 → Nat :=
  let c0_1000_r0 : Index := 0#32
  let c0_i32_506_r0 : BitVec 32 := 0#32
  let c1_i32_508_r0 : BitVec 32 := 1#32
  let arg14_r0 : BitVec 32 := Scf.iv c0_i32_506_r0 c1_i32_508_r0 k0_t1
  let v1696_r0 : Index := Scalar.indexCast arg14_r0
  let c40_1001_r0 : Index := 40#32
  let c0_1002_r0 : Index := 0#32
  ![0, v1696_r0.toNat, 40, 0]
def k0_off54 (k0_t1 : Fin k0_t1_loop.trips) : Fin 4 → Nat :=
  let c0_1003_r0 : Index := 0#32
  let c0_i32_506_r0 : BitVec 32 := 0#32
  let c1_i32_508_r0 : BitVec 32 := 1#32
  let arg14_r0 : BitVec 32 := Scf.iv c0_i32_506_r0 c1_i32_508_r0 k0_t1
  let v1701_r0 : Index := Scalar.indexCast arg14_r0
  let c41_r0 : Index := 41#32
  let c0_1004_r0 : Index := 0#32
  ![0, v1701_r0.toNat, 41, 0]
def k0_off55 (k0_t1 : Fin k0_t1_loop.trips) : Fin 4 → Nat :=
  let c0_1005_r0 : Index := 0#32
  let c7_1006_r0 : Index := 7#32
  let c0_1007_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1705_r0 : Index := Scalar.indexCast v934_r0
  ![0, 7, 0, v1705_r0.toNat]
def k0_off56 (k0_t1 : Fin k0_t1_loop.trips) : Fin 4 → Nat :=
  let c1_1015_r0 : Index := 1#32
  let c7_1016_r0 : Index := 7#32
  let c0_1017_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1742_r0 : Index := Scalar.indexCast v934_r0
  ![1, 7, 0, v1742_r0.toNat]
def k0_off57 (k0_t1 : Fin k0_t1_loop.trips) : Fin 4 → Nat :=
  let c4_1027_r0 : Index := 4#32
  let c0_i32_506_r0 : BitVec 32 := 0#32
  let c1_i32_508_r0 : BitVec 32 := 1#32
  let arg14_r0 : BitVec 32 := Scf.iv c0_i32_506_r0 c1_i32_508_r0 k0_t1
  let v1789_r0 : Index := Scalar.indexCast arg14_r0
  let c40_1028_r0 : Index := 40#32
  let c0_1029_r0 : Index := 0#32
  ![4, v1789_r0.toNat, 40, 0]
def k0_off58 (k0_t1 : Fin k0_t1_loop.trips) : Fin 4 → Nat :=
  let c5_1030_r0 : Index := 5#32
  let c0_i32_506_r0 : BitVec 32 := 0#32
  let c1_i32_508_r0 : BitVec 32 := 1#32
  let arg14_r0 : BitVec 32 := Scf.iv c0_i32_506_r0 c1_i32_508_r0 k0_t1
  let v1793_r0 : Index := Scalar.indexCast arg14_r0
  let c40_1031_r0 : Index := 40#32
  let c0_1032_r0 : Index := 0#32
  ![5, v1793_r0.toNat, 40, 0]
def k0_off59 (k0_t1 : Fin k0_t1_loop.trips) : Fin 4 → Nat :=
  let c3_1033_r0 : Index := 3#32
  let c0_i32_506_r0 : BitVec 32 := 0#32
  let c1_i32_508_r0 : BitVec 32 := 1#32
  let arg14_r0 : BitVec 32 := Scf.iv c0_i32_506_r0 c1_i32_508_r0 k0_t1
  let v1797_r0 : Index := Scalar.indexCast arg14_r0
  let c40_1034_r0 : Index := 40#32
  let c0_1035_r0 : Index := 0#32
  ![3, v1797_r0.toNat, 40, 0]
def k0_off60 (k0_t1 : Fin k0_t1_loop.trips) : Fin 4 → Nat :=
  let c3_1036_r0 : Index := 3#32
  let c0_i32_506_r0 : BitVec 32 := 0#32
  let c1_i32_508_r0 : BitVec 32 := 1#32
  let arg14_r0 : BitVec 32 := Scf.iv c0_i32_506_r0 c1_i32_508_r0 k0_t1
  let v1802_r0 : Index := Scalar.indexCast arg14_r0
  let c41_1037_r0 : Index := 41#32
  let c0_1038_r0 : Index := 0#32
  ![3, v1802_r0.toNat, 41, 0]
def k0_off61 (k0_t1 : Fin k0_t1_loop.trips) : Fin 4 → Nat :=
  let c0_1039_r0 : Index := 0#32
  let c8_1040_r0 : Index := 8#32
  let c0_1041_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1806_r0 : Index := Scalar.indexCast v934_r0
  ![0, 8, 0, v1806_r0.toNat]
def k0_off62 (k0_t1 : Fin k0_t1_loop.trips) : Fin 4 → Nat :=
  let c1_1049_r0 : Index := 1#32
  let c8_1050_r0 : Index := 8#32
  let c0_1051_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1843_r0 : Index := Scalar.indexCast v934_r0
  ![1, 8, 0, v1843_r0.toNat]
def k0_off63 (k0_t1 : Fin k0_t1_loop.trips) : Fin 4 → Nat :=
  let c1_1061_r0 : Index := 1#32
  let c0_i32_506_r0 : BitVec 32 := 0#32
  let c1_i32_508_r0 : BitVec 32 := 1#32
  let arg14_r0 : BitVec 32 := Scf.iv c0_i32_506_r0 c1_i32_508_r0 k0_t1
  let v1890_r0 : Index := Scalar.indexCast arg14_r0
  let c50_r0 : Index := 50#32
  let c0_1062_r0 : Index := 0#32
  ![1, v1890_r0.toNat, 50, 0]
def k0_off64 (k0_t1 : Fin k0_t1_loop.trips) : Fin 4 → Nat :=
  let c2_1063_r0 : Index := 2#32
  let c0_i32_506_r0 : BitVec 32 := 0#32
  let c1_i32_508_r0 : BitVec 32 := 1#32
  let arg14_r0 : BitVec 32 := Scf.iv c0_i32_506_r0 c1_i32_508_r0 k0_t1
  let v1894_r0 : Index := Scalar.indexCast arg14_r0
  let c50_1064_r0 : Index := 50#32
  let c0_1065_r0 : Index := 0#32
  ![2, v1894_r0.toNat, 50, 0]
def k0_off65 (k0_t1 : Fin k0_t1_loop.trips) : Fin 4 → Nat :=
  let c0_1066_r0 : Index := 0#32
  let c0_i32_506_r0 : BitVec 32 := 0#32
  let c1_i32_508_r0 : BitVec 32 := 1#32
  let arg14_r0 : BitVec 32 := Scf.iv c0_i32_506_r0 c1_i32_508_r0 k0_t1
  let v1898_r0 : Index := Scalar.indexCast arg14_r0
  let c50_1067_r0 : Index := 50#32
  let c0_1068_r0 : Index := 0#32
  ![0, v1898_r0.toNat, 50, 0]
def k0_off66 (k0_t1 : Fin k0_t1_loop.trips) : Fin 4 → Nat :=
  let c0_1069_r0 : Index := 0#32
  let c0_i32_506_r0 : BitVec 32 := 0#32
  let c1_i32_508_r0 : BitVec 32 := 1#32
  let arg14_r0 : BitVec 32 := Scf.iv c0_i32_506_r0 c1_i32_508_r0 k0_t1
  let v1903_r0 : Index := Scalar.indexCast arg14_r0
  let c51_r0 : Index := 51#32
  let c0_1070_r0 : Index := 0#32
  ![0, v1903_r0.toNat, 51, 0]
def k0_off67 (k0_t1 : Fin k0_t1_loop.trips) : Fin 4 → Nat :=
  let c0_1071_r0 : Index := 0#32
  let c9_1072_r0 : Index := 9#32
  let c0_1073_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1907_r0 : Index := Scalar.indexCast v934_r0
  ![0, 9, 0, v1907_r0.toNat]
def k0_off68 (k0_t1 : Fin k0_t1_loop.trips) : Fin 4 → Nat :=
  let c1_1081_r0 : Index := 1#32
  let c9_1082_r0 : Index := 9#32
  let c0_1083_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1944_r0 : Index := Scalar.indexCast v934_r0
  ![1, 9, 0, v1944_r0.toNat]
def k0_off69 (k0_t1 : Fin k0_t1_loop.trips) : Fin 4 → Nat :=
  let c4_1093_r0 : Index := 4#32
  let c0_i32_506_r0 : BitVec 32 := 0#32
  let c1_i32_508_r0 : BitVec 32 := 1#32
  let arg14_r0 : BitVec 32 := Scf.iv c0_i32_506_r0 c1_i32_508_r0 k0_t1
  let v1991_r0 : Index := Scalar.indexCast arg14_r0
  let c50_1094_r0 : Index := 50#32
  let c0_1095_r0 : Index := 0#32
  ![4, v1991_r0.toNat, 50, 0]
def k0_off70 (k0_t1 : Fin k0_t1_loop.trips) : Fin 4 → Nat :=
  let c5_1096_r0 : Index := 5#32
  let c0_i32_506_r0 : BitVec 32 := 0#32
  let c1_i32_508_r0 : BitVec 32 := 1#32
  let arg14_r0 : BitVec 32 := Scf.iv c0_i32_506_r0 c1_i32_508_r0 k0_t1
  let v1995_r0 : Index := Scalar.indexCast arg14_r0
  let c50_1097_r0 : Index := 50#32
  let c0_1098_r0 : Index := 0#32
  ![5, v1995_r0.toNat, 50, 0]
def k0_off71 (k0_t1 : Fin k0_t1_loop.trips) : Fin 4 → Nat :=
  let c3_1099_r0 : Index := 3#32
  let c0_i32_506_r0 : BitVec 32 := 0#32
  let c1_i32_508_r0 : BitVec 32 := 1#32
  let arg14_r0 : BitVec 32 := Scf.iv c0_i32_506_r0 c1_i32_508_r0 k0_t1
  let v1999_r0 : Index := Scalar.indexCast arg14_r0
  let c50_1100_r0 : Index := 50#32
  let c0_1101_r0 : Index := 0#32
  ![3, v1999_r0.toNat, 50, 0]
def k0_off72 (k0_t1 : Fin k0_t1_loop.trips) : Fin 4 → Nat :=
  let c3_1102_r0 : Index := 3#32
  let c0_i32_506_r0 : BitVec 32 := 0#32
  let c1_i32_508_r0 : BitVec 32 := 1#32
  let arg14_r0 : BitVec 32 := Scf.iv c0_i32_506_r0 c1_i32_508_r0 k0_t1
  let v2004_r0 : Index := Scalar.indexCast arg14_r0
  let c51_1103_r0 : Index := 51#32
  let c0_1104_r0 : Index := 0#32
  ![3, v2004_r0.toNat, 51, 0]
def k0_off73 (k0_t1 : Fin k0_t1_loop.trips) : Fin 4 → Nat :=
  let c0_1105_r0 : Index := 0#32
  let c10_1106_r0 : Index := 10#32
  let c0_1107_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v2008_r0 : Index := Scalar.indexCast v934_r0
  ![0, 10, 0, v2008_r0.toNat]
def k0_off74 (k0_t1 : Fin k0_t1_loop.trips) : Fin 4 → Nat :=
  let c1_1115_r0 : Index := 1#32
  let c10_1116_r0 : Index := 10#32
  let c0_1117_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v2045_r0 : Index := Scalar.indexCast v934_r0
  ![1, 10, 0, v2045_r0.toNat]
def k0_off75 (k0_t1 : Fin k0_t1_loop.trips) : Fin 4 → Nat :=
  let c1_1127_r0 : Index := 1#32
  let c0_i32_506_r0 : BitVec 32 := 0#32
  let c1_i32_508_r0 : BitVec 32 := 1#32
  let arg14_r0 : BitVec 32 := Scf.iv c0_i32_506_r0 c1_i32_508_r0 k0_t1
  let v2092_r0 : Index := Scalar.indexCast arg14_r0
  let c60_r0 : Index := 60#32
  let c0_1128_r0 : Index := 0#32
  ![1, v2092_r0.toNat, 60, 0]
def k0_off76 (k0_t1 : Fin k0_t1_loop.trips) : Fin 4 → Nat :=
  let c2_1129_r0 : Index := 2#32
  let c0_i32_506_r0 : BitVec 32 := 0#32
  let c1_i32_508_r0 : BitVec 32 := 1#32
  let arg14_r0 : BitVec 32 := Scf.iv c0_i32_506_r0 c1_i32_508_r0 k0_t1
  let v2096_r0 : Index := Scalar.indexCast arg14_r0
  let c60_1130_r0 : Index := 60#32
  let c0_1131_r0 : Index := 0#32
  ![2, v2096_r0.toNat, 60, 0]
def k0_off77 (k0_t1 : Fin k0_t1_loop.trips) : Fin 4 → Nat :=
  let c0_1132_r0 : Index := 0#32
  let c0_i32_506_r0 : BitVec 32 := 0#32
  let c1_i32_508_r0 : BitVec 32 := 1#32
  let arg14_r0 : BitVec 32 := Scf.iv c0_i32_506_r0 c1_i32_508_r0 k0_t1
  let v2100_r0 : Index := Scalar.indexCast arg14_r0
  let c60_1133_r0 : Index := 60#32
  let c0_1134_r0 : Index := 0#32
  ![0, v2100_r0.toNat, 60, 0]
def k0_off78 (k0_t1 : Fin k0_t1_loop.trips) : Fin 4 → Nat :=
  let c0_1135_r0 : Index := 0#32
  let c0_i32_506_r0 : BitVec 32 := 0#32
  let c1_i32_508_r0 : BitVec 32 := 1#32
  let arg14_r0 : BitVec 32 := Scf.iv c0_i32_506_r0 c1_i32_508_r0 k0_t1
  let v2105_r0 : Index := Scalar.indexCast arg14_r0
  let c61_r0 : Index := 61#32
  let c0_1136_r0 : Index := 0#32
  ![0, v2105_r0.toNat, 61, 0]
def k0_off79 (k0_t1 : Fin k0_t1_loop.trips) : Fin 4 → Nat :=
  let c0_1137_r0 : Index := 0#32
  let c11_1138_r0 : Index := 11#32
  let c0_1139_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v2109_r0 : Index := Scalar.indexCast v934_r0
  ![0, 11, 0, v2109_r0.toNat]
def k0_off80 (k0_t1 : Fin k0_t1_loop.trips) : Fin 4 → Nat :=
  let c1_1147_r0 : Index := 1#32
  let c11_1148_r0 : Index := 11#32
  let c0_1149_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v2146_r0 : Index := Scalar.indexCast v934_r0
  ![1, 11, 0, v2146_r0.toNat]
def k0_off81 (k0_t1 : Fin k0_t1_loop.trips) : Fin 4 → Nat :=
  let c4_1159_r0 : Index := 4#32
  let c0_i32_506_r0 : BitVec 32 := 0#32
  let c1_i32_508_r0 : BitVec 32 := 1#32
  let arg14_r0 : BitVec 32 := Scf.iv c0_i32_506_r0 c1_i32_508_r0 k0_t1
  let v2193_r0 : Index := Scalar.indexCast arg14_r0
  let c60_1160_r0 : Index := 60#32
  let c0_1161_r0 : Index := 0#32
  ![4, v2193_r0.toNat, 60, 0]
def k0_off82 (k0_t1 : Fin k0_t1_loop.trips) : Fin 4 → Nat :=
  let c5_1162_r0 : Index := 5#32
  let c0_i32_506_r0 : BitVec 32 := 0#32
  let c1_i32_508_r0 : BitVec 32 := 1#32
  let arg14_r0 : BitVec 32 := Scf.iv c0_i32_506_r0 c1_i32_508_r0 k0_t1
  let v2197_r0 : Index := Scalar.indexCast arg14_r0
  let c60_1163_r0 : Index := 60#32
  let c0_1164_r0 : Index := 0#32
  ![5, v2197_r0.toNat, 60, 0]
def k0_off83 (k0_t1 : Fin k0_t1_loop.trips) : Fin 4 → Nat :=
  let c3_1165_r0 : Index := 3#32
  let c0_i32_506_r0 : BitVec 32 := 0#32
  let c1_i32_508_r0 : BitVec 32 := 1#32
  let arg14_r0 : BitVec 32 := Scf.iv c0_i32_506_r0 c1_i32_508_r0 k0_t1
  let v2201_r0 : Index := Scalar.indexCast arg14_r0
  let c60_1166_r0 : Index := 60#32
  let c0_1167_r0 : Index := 0#32
  ![3, v2201_r0.toNat, 60, 0]
def k0_off84 (k0_t1 : Fin k0_t1_loop.trips) : Fin 4 → Nat :=
  let c3_1168_r0 : Index := 3#32
  let c0_i32_506_r0 : BitVec 32 := 0#32
  let c1_i32_508_r0 : BitVec 32 := 1#32
  let arg14_r0 : BitVec 32 := Scf.iv c0_i32_506_r0 c1_i32_508_r0 k0_t1
  let v2206_r0 : Index := Scalar.indexCast arg14_r0
  let c61_1169_r0 : Index := 61#32
  let c0_1170_r0 : Index := 0#32
  ![3, v2206_r0.toNat, 61, 0]
@[reducible] def k0_t2_loop : Scf.Loop 32 :=
  let c0_i32_511_r0 : BitVec 32 := 0#32
  let c36_i32_r0 : BitVec 32 := 36#32
  let v612_r0 : BitVec 32 := Scalar.addi c0_i32_511_r0 c36_i32_r0
  let c1_i32_512_r0 : BitVec 32 := 1#32
  ⟨c0_i32_511_r0, v612_r0, c1_i32_512_r0⟩
def k0_cond1 (k0_t2 : Fin k0_t2_loop.trips) : BitVec 1 :=
  let c0_i32_511_r0 : BitVec 32 := 0#32
  let c1_i32_512_r0 : BitVec 32 := 1#32
  let arg14_r0 : BitVec 32 := Scf.iv c0_i32_511_r0 c1_i32_512_r0 k0_t2
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let c0_i32_755_r0 : BitVec 32 := 0#32
  let v992_r0 : BitVec 1 := Scalar.cmpi .eq v949_r0 c0_i32_755_r0
  let v993_r0 : BitVec 32 := Scalar.extui v992_r0
  let c0_i32_756_r0 : BitVec 32 := 0#32
  let v994_r0 : BitVec 1 := Scalar.cmpi .ne v993_r0 c0_i32_756_r0
  v994_r0

def k0_off85 (k0_t2 : Fin k0_t2_loop.trips) : Fin 1 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  ![v959_r0.toNat]
def k0_off86 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_1050_r0 : BitVec 32 := 0#32
  let c0_i32_1051_r0 : BitVec 32 := 0#32
  ![v959_r0.toNat, 0, 0]
def k0_off87 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_1038_r0 : BitVec 32 := 0#32
  let v1930_r0 : BitVec 1 := Scalar.cmpi .sgt v959_r0 c0_i32_1038_r0
  let v1931_r0 : BitVec 32 := Scalar.extui v1930_r0
  let c0_i32_1039_r0 : BitVec 32 := 0#32
  let v1932_r0 : BitVec 1 := Scalar.cmpi .slt v959_r0 c0_i32_1039_r0
  let v1933_r0 : BitVec 32 := Scalar.extui v1932_r0
  let v1934_r0 : BitVec 32 := Scalar.subi v1931_r0 v1933_r0
  let c3_i32_1037_r0 : BitVec 32 := 3#32
  let c0_i32_1040_r0 : BitVec 32 := 0#32
  let v1935_r0 : BitVec 1 := Scalar.cmpi .sgt c3_i32_1037_r0 c0_i32_1040_r0
  let v1936_r0 : BitVec 32 := Scalar.extui v1935_r0
  let c0_i32_1041_r0 : BitVec 32 := 0#32
  let v1937_r0 : BitVec 1 := Scalar.cmpi .slt c3_i32_1037_r0 c0_i32_1041_r0
  let v1938_r0 : BitVec 32 := Scalar.extui v1937_r0
  let v1939_r0 : BitVec 32 := Scalar.subi v1936_r0 v1938_r0
  let v1940_r0 : BitVec 1 := Scalar.cmpi .ne v1934_r0 v1939_r0
  let v1941_r0 : BitVec 32 := Scalar.remsi v959_r0 c3_i32_1037_r0
  let c0_i32_1042_r0 : BitVec 32 := 0#32
  let v1942_r0 : BitVec 1 := Scalar.cmpi .ne v1941_r0 c0_i32_1042_r0
  let v1943_r0 : BitVec 1 := Scalar.andi v1940_r0 v1942_r0
  let v1929_r0 : BitVec 32 := Scalar.divsi v959_r0 c3_i32_1037_r0
  let c1_i32_1043_r0 : BitVec 32 := 1#32
  let v1944_r0 : BitVec 32 := Scalar.subi v1929_r0 c1_i32_1043_r0
  let v1945_r0 : BitVec 32 := Scalar.select v1943_r0 v1944_r0 v1929_r0
  let c3_i32_1044_r0 : BitVec 32 := 3#32
  let c0_i32_1045_r0 : BitVec 32 := 0#32
  let v1946_r0 : BitVec 1 := Scalar.cmpi .eq c3_i32_1044_r0 c0_i32_1045_r0
  let c1_i32_1046_r0 : BitVec 32 := 1#32
  let v1947_r0 : BitVec 32 := Scalar.select v1946_r0 c1_i32_1046_r0 c3_i32_1044_r0
  let v1948_r0 : BitVec 32 := Scalar.remsi v959_r0 v1947_r0
  let c0_i32_1048_r0 : BitVec 32 := 0#32
  let v1950_r0 : BitVec 1 := Scalar.cmpi .slt v1948_r0 c0_i32_1048_r0
  let c0_i32_1049_r0 : BitVec 32 := 0#32
  let v1951_r0 : BitVec 1 := Scalar.cmpi .slt v1947_r0 c0_i32_1049_r0
  let v1952_r0 : BitVec 1 := Scalar.xori v1950_r0 v1951_r0
  let c0_i32_1047_r0 : BitVec 32 := 0#32
  let v1949_r0 : BitVec 1 := Scalar.cmpi .ne v1948_r0 c0_i32_1047_r0
  let v1953_r0 : BitVec 1 := Scalar.andi v1952_r0 v1949_r0
  let v1954_r0 : BitVec 32 := Scalar.addi v1948_r0 v1947_r0
  let v1955_r0 : BitVec 32 := Scalar.select v1953_r0 v1954_r0 v1948_r0
  let c0_i32_1052_r0 : BitVec 32 := 0#32
  let c0_i32_1053_r0 : BitVec 32 := 0#32
  ![v1945_r0.toNat, v1955_r0.toNat, 0, 0]
def k0_mult38 (k0_t2 : Fin k0_t2_loop.trips) : BitVec 32 :=
  let c0_i32_511_r0 : BitVec 32 := 0#32
  let c1_i32_512_r0 : BitVec 32 := 1#32
  let arg14_r0 : BitVec 32 := Scf.iv c0_i32_511_r0 c1_i32_512_r0 k0_t2
  let c0_i32_758_r0 : BitVec 32 := 0#32
  let v996_r0 : BitVec 1 := Scalar.cmpi .sgt arg14_r0 c0_i32_758_r0
  let v997_r0 : BitVec 32 := Scalar.extui v996_r0
  let c0_i32_759_r0 : BitVec 32 := 0#32
  let v998_r0 : BitVec 1 := Scalar.cmpi .slt arg14_r0 c0_i32_759_r0
  let v999_r0 : BitVec 32 := Scalar.extui v998_r0
  let v1000_r0 : BitVec 32 := Scalar.subi v997_r0 v999_r0
  let c9_i32_757_r0 : BitVec 32 := 9#32
  let c0_i32_760_r0 : BitVec 32 := 0#32
  let v1001_r0 : BitVec 1 := Scalar.cmpi .sgt c9_i32_757_r0 c0_i32_760_r0
  let v1002_r0 : BitVec 32 := Scalar.extui v1001_r0
  let c0_i32_761_r0 : BitVec 32 := 0#32
  let v1003_r0 : BitVec 1 := Scalar.cmpi .slt c9_i32_757_r0 c0_i32_761_r0
  let v1004_r0 : BitVec 32 := Scalar.extui v1003_r0
  let v1005_r0 : BitVec 32 := Scalar.subi v1002_r0 v1004_r0
  let v1006_r0 : BitVec 1 := Scalar.cmpi .ne v1000_r0 v1005_r0
  let v1007_r0 : BitVec 32 := Scalar.remsi arg14_r0 c9_i32_757_r0
  let c0_i32_762_r0 : BitVec 32 := 0#32
  let v1008_r0 : BitVec 1 := Scalar.cmpi .ne v1007_r0 c0_i32_762_r0
  let v1009_r0 : BitVec 1 := Scalar.andi v1006_r0 v1008_r0
  let v995_r0 : BitVec 32 := Scalar.divsi arg14_r0 c9_i32_757_r0
  let c1_i32_763_r0 : BitVec 32 := 1#32
  let v1010_r0 : BitVec 32 := Scalar.subi v995_r0 c1_i32_763_r0
  let v1011_r0 : BitVec 32 := Scalar.select v1009_r0 v1010_r0 v995_r0
  let c512_i32_783_r0 : BitVec 32 := 512#32
  let v1049_r0 : BitVec 32 := Scalar.muli v1011_r0 c512_i32_783_r0
  v1049_r0
def k0_off88 (k0_t2 : Fin k0_t2_loop.trips) : Fin 1 → Nat :=
  let c0_i32_511_r0 : BitVec 32 := 0#32
  let c1_i32_512_r0 : BitVec 32 := 1#32
  let arg14_r0 : BitVec 32 := Scf.iv c0_i32_511_r0 c1_i32_512_r0 k0_t2
  ![arg14_r0.toNat]
def k0_off89 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c0_i32_784_r0 : BitVec 32 := 0#32
  let c0_i32_785_r0 : BitVec 32 := 0#32
  ![arg14_r0.toNat, 0, 0]
def k0_off90 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_764_r0 : BitVec 32 := 9#32
  let c0_i32_765_r0 : BitVec 32 := 0#32
  let v1012_r0 : BitVec 1 := Scalar.cmpi .eq c9_i32_764_r0 c0_i32_765_r0
  let c1_i32_766_r0 : BitVec 32 := 1#32
  let v1013_r0 : BitVec 32 := Scalar.select v1012_r0 c1_i32_766_r0 c9_i32_764_r0
  let v1014_r0 : BitVec 32 := Scalar.remsi arg14_r0 v1013_r0
  let c0_i32_768_r0 : BitVec 32 := 0#32
  let v1016_r0 : BitVec 1 := Scalar.cmpi .slt v1014_r0 c0_i32_768_r0
  let c0_i32_769_r0 : BitVec 32 := 0#32
  let v1017_r0 : BitVec 1 := Scalar.cmpi .slt v1013_r0 c0_i32_769_r0
  let v1018_r0 : BitVec 1 := Scalar.xori v1016_r0 v1017_r0
  let c0_i32_767_r0 : BitVec 32 := 0#32
  let v1015_r0 : BitVec 1 := Scalar.cmpi .ne v1014_r0 c0_i32_767_r0
  let v1019_r0 : BitVec 1 := Scalar.andi v1018_r0 v1015_r0
  let v1020_r0 : BitVec 32 := Scalar.addi v1014_r0 v1013_r0
  let v1021_r0 : BitVec 32 := Scalar.select v1019_r0 v1020_r0 v1014_r0
  let c0_i32_771_r0 : BitVec 32 := 0#32
  let v1023_r0 : BitVec 1 := Scalar.cmpi .sgt v1021_r0 c0_i32_771_r0
  let v1024_r0 : BitVec 32 := Scalar.extui v1023_r0
  let c0_i32_772_r0 : BitVec 32 := 0#32
  let v1025_r0 : BitVec 1 := Scalar.cmpi .slt v1021_r0 c0_i32_772_r0
  let v1026_r0 : BitVec 32 := Scalar.extui v1025_r0
  let v1027_r0 : BitVec 32 := Scalar.subi v1024_r0 v1026_r0
  let c3_i32_770_r0 : BitVec 32 := 3#32
  let c0_i32_773_r0 : BitVec 32 := 0#32
  let v1028_r0 : BitVec 1 := Scalar.cmpi .sgt c3_i32_770_r0 c0_i32_773_r0
  let v1029_r0 : BitVec 32 := Scalar.extui v1028_r0
  let c0_i32_774_r0 : BitVec 32 := 0#32
  let v1030_r0 : BitVec 1 := Scalar.cmpi .slt c3_i32_770_r0 c0_i32_774_r0
  let v1031_r0 : BitVec 32 := Scalar.extui v1030_r0
  let v1032_r0 : BitVec 32 := Scalar.subi v1029_r0 v1031_r0
  let v1033_r0 : BitVec 1 := Scalar.cmpi .ne v1027_r0 v1032_r0
  let v1034_r0 : BitVec 32 := Scalar.remsi v1021_r0 c3_i32_770_r0
  let c0_i32_775_r0 : BitVec 32 := 0#32
  let v1035_r0 : BitVec 1 := Scalar.cmpi .ne v1034_r0 c0_i32_775_r0
  let v1036_r0 : BitVec 1 := Scalar.andi v1033_r0 v1035_r0
  let v1022_r0 : BitVec 32 := Scalar.divsi v1021_r0 c3_i32_770_r0
  let c1_i32_776_r0 : BitVec 32 := 1#32
  let v1037_r0 : BitVec 32 := Scalar.subi v1022_r0 c1_i32_776_r0
  let v1038_r0 : BitVec 32 := Scalar.select v1036_r0 v1037_r0 v1022_r0
  let c3_i32_777_r0 : BitVec 32 := 3#32
  let c0_i32_778_r0 : BitVec 32 := 0#32
  let v1039_r0 : BitVec 1 := Scalar.cmpi .eq c3_i32_777_r0 c0_i32_778_r0
  let c1_i32_779_r0 : BitVec 32 := 1#32
  let v1040_r0 : BitVec 32 := Scalar.select v1039_r0 c1_i32_779_r0 c3_i32_777_r0
  let v1041_r0 : BitVec 32 := Scalar.remsi v1021_r0 v1040_r0
  let c0_i32_781_r0 : BitVec 32 := 0#32
  let v1043_r0 : BitVec 1 := Scalar.cmpi .slt v1041_r0 c0_i32_781_r0
  let c0_i32_782_r0 : BitVec 32 := 0#32
  let v1044_r0 : BitVec 1 := Scalar.cmpi .slt v1040_r0 c0_i32_782_r0
  let v1045_r0 : BitVec 1 := Scalar.xori v1043_r0 v1044_r0
  let c0_i32_780_r0 : BitVec 32 := 0#32
  let v1042_r0 : BitVec 1 := Scalar.cmpi .ne v1041_r0 c0_i32_780_r0
  let v1046_r0 : BitVec 1 := Scalar.andi v1045_r0 v1042_r0
  let v1047_r0 : BitVec 32 := Scalar.addi v1041_r0 v1040_r0
  let v1048_r0 : BitVec 32 := Scalar.select v1046_r0 v1047_r0 v1041_r0
  let c0_i32_786_r0 : BitVec 32 := 0#32
  let c0_i32_758_r0 : BitVec 32 := 0#32
  let v996_r0 : BitVec 1 := Scalar.cmpi .sgt arg14_r0 c0_i32_758_r0
  let v997_r0 : BitVec 32 := Scalar.extui v996_r0
  let c0_i32_759_r0 : BitVec 32 := 0#32
  let v998_r0 : BitVec 1 := Scalar.cmpi .slt arg14_r0 c0_i32_759_r0
  let v999_r0 : BitVec 32 := Scalar.extui v998_r0
  let v1000_r0 : BitVec 32 := Scalar.subi v997_r0 v999_r0
  let c9_i32_757_r0 : BitVec 32 := 9#32
  let c0_i32_760_r0 : BitVec 32 := 0#32
  let v1001_r0 : BitVec 1 := Scalar.cmpi .sgt c9_i32_757_r0 c0_i32_760_r0
  let v1002_r0 : BitVec 32 := Scalar.extui v1001_r0
  let c0_i32_761_r0 : BitVec 32 := 0#32
  let v1003_r0 : BitVec 1 := Scalar.cmpi .slt c9_i32_757_r0 c0_i32_761_r0
  let v1004_r0 : BitVec 32 := Scalar.extui v1003_r0
  let v1005_r0 : BitVec 32 := Scalar.subi v1002_r0 v1004_r0
  let v1006_r0 : BitVec 1 := Scalar.cmpi .ne v1000_r0 v1005_r0
  let v1007_r0 : BitVec 32 := Scalar.remsi arg14_r0 c9_i32_757_r0
  let c0_i32_762_r0 : BitVec 32 := 0#32
  let v1008_r0 : BitVec 1 := Scalar.cmpi .ne v1007_r0 c0_i32_762_r0
  let v1009_r0 : BitVec 1 := Scalar.andi v1006_r0 v1008_r0
  let v995_r0 : BitVec 32 := Scalar.divsi arg14_r0 c9_i32_757_r0
  let c1_i32_763_r0 : BitVec 32 := 1#32
  let v1010_r0 : BitVec 32 := Scalar.subi v995_r0 c1_i32_763_r0
  let v1011_r0 : BitVec 32 := Scalar.select v1009_r0 v1010_r0 v995_r0
  let c512_i32_783_r0 : BitVec 32 := 512#32
  let v1049_r0 : BitVec 32 := Scalar.muli v1011_r0 c512_i32_783_r0
  let v1050_r0 : BitVec 32 := v1049_r0
  ![v1038_r0.toNat, v1048_r0.toNat, 0, v1050_r0.toNat]
def k0_mult39 (k0_t2 : Fin k0_t2_loop.trips) : BitVec 32 :=
  let c0_i32_511_r0 : BitVec 32 := 0#32
  let c1_i32_512_r0 : BitVec 32 := 1#32
  let arg14_r0 : BitVec 32 := Scf.iv c0_i32_511_r0 c1_i32_512_r0 k0_t2
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let c512_i32_787_r0 : BitVec 32 := 512#32
  let v1057_r0 : BitVec 32 := Scalar.muli v949_r0 c512_i32_787_r0
  v1057_r0
def k0_off91 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let v1059_r0 : Index := Scalar.indexCast v959_r0
  let c0_788_r0 : Index := 0#32
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let c512_i32_787_r0 : BitVec 32 := 512#32
  let v1057_r0 : BitVec 32 := Scalar.muli v949_r0 c512_i32_787_r0
  let v1058_r0 : BitVec 32 := v1057_r0
  let v1060_r0 : Index := Scalar.indexCast v1058_r0
  ![v1059_r0.toNat, 0, v1060_r0.toNat]
def k0_off92 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1073_r0 : Index := Scalar.indexCast v989_r0
  let c0_793_r0 : Index := 0#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1074_r0 : Index := Scalar.indexCast v991_r0
  let c0_794_r0 : Index := 0#32
  ![v1073_r0.toNat, 0, v1074_r0.toNat, 0]
def k0_off93 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1077_r0 : Index := Scalar.indexCast v989_r0
  let c1_795_r0 : Index := 1#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1078_r0 : Index := Scalar.indexCast v991_r0
  let c0_796_r0 : Index := 0#32
  ![v1077_r0.toNat, 1, v1078_r0.toNat, 0]
def k0_off94 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1086_r0 : Index := Scalar.indexCast arg14_r0
  let c0_799_r0 : Index := 0#32
  let c0_800_r0 : Index := 0#32
  ![v1086_r0.toNat, 0, 0]
def k0_off95 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1095_r0 : Index := Scalar.indexCast arg14_r0
  let c32_r0 : Index := 32#32
  let c0_803_r0 : Index := 0#32
  ![v1095_r0.toNat, 32, 0]
def k0_off96 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1104_r0 : Index := Scalar.indexCast arg14_r0
  let c64_r0 : Index := 64#32
  let c0_806_r0 : Index := 0#32
  ![v1104_r0.toNat, 64, 0]
def k0_off97 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1113_r0 : Index := Scalar.indexCast arg14_r0
  let c96_r0 : Index := 96#32
  let c0_809_r0 : Index := 0#32
  ![v1113_r0.toNat, 96, 0]
def k0_off98 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1122_r0 : Index := Scalar.indexCast arg14_r0
  let c128_r0 : Index := 128#32
  let c0_812_r0 : Index := 0#32
  ![v1122_r0.toNat, 128, 0]
def k0_off99 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1131_r0 : Index := Scalar.indexCast arg14_r0
  let c160_r0 : Index := 160#32
  let c0_815_r0 : Index := 0#32
  ![v1131_r0.toNat, 160, 0]
def k0_off100 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1140_r0 : Index := Scalar.indexCast arg14_r0
  let c192_r0 : Index := 192#32
  let c0_818_r0 : Index := 0#32
  ![v1140_r0.toNat, 192, 0]
def k0_off101 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1149_r0 : Index := Scalar.indexCast arg14_r0
  let c224_r0 : Index := 224#32
  let c0_821_r0 : Index := 0#32
  ![v1149_r0.toNat, 224, 0]
def k0_off102 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1158_r0 : Index := Scalar.indexCast v989_r0
  let c2_823_r0 : Index := 2#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1159_r0 : Index := Scalar.indexCast v991_r0
  let c0_824_r0 : Index := 0#32
  ![v1158_r0.toNat, 2, v1159_r0.toNat, 0]
def k0_off103 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1162_r0 : Index := Scalar.indexCast v989_r0
  let c3_825_r0 : Index := 3#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1163_r0 : Index := Scalar.indexCast v991_r0
  let c0_826_r0 : Index := 0#32
  ![v1162_r0.toNat, 3, v1163_r0.toNat, 0]
def k0_off104 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1171_r0 : Index := Scalar.indexCast arg14_r0
  let c256_r0 : Index := 256#32
  let c0_829_r0 : Index := 0#32
  ![v1171_r0.toNat, 256, 0]
def k0_off105 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1180_r0 : Index := Scalar.indexCast arg14_r0
  let c288_r0 : Index := 288#32
  let c0_832_r0 : Index := 0#32
  ![v1180_r0.toNat, 288, 0]
def k0_off106 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1189_r0 : Index := Scalar.indexCast arg14_r0
  let c320_r0 : Index := 320#32
  let c0_835_r0 : Index := 0#32
  ![v1189_r0.toNat, 320, 0]
def k0_off107 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1198_r0 : Index := Scalar.indexCast arg14_r0
  let c352_r0 : Index := 352#32
  let c0_838_r0 : Index := 0#32
  ![v1198_r0.toNat, 352, 0]
def k0_off108 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1207_r0 : Index := Scalar.indexCast arg14_r0
  let c384_r0 : Index := 384#32
  let c0_841_r0 : Index := 0#32
  ![v1207_r0.toNat, 384, 0]
def k0_off109 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1216_r0 : Index := Scalar.indexCast arg14_r0
  let c416_r0 : Index := 416#32
  let c0_844_r0 : Index := 0#32
  ![v1216_r0.toNat, 416, 0]
def k0_off110 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1225_r0 : Index := Scalar.indexCast arg14_r0
  let c448_r0 : Index := 448#32
  let c0_847_r0 : Index := 0#32
  ![v1225_r0.toNat, 448, 0]
def k0_off111 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1234_r0 : Index := Scalar.indexCast arg14_r0
  let c480_r0 : Index := 480#32
  let c0_850_r0 : Index := 0#32
  ![v1234_r0.toNat, 480, 0]
def k0_off112 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1243_r0 : Index := Scalar.indexCast v989_r0
  let c4_852_r0 : Index := 4#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1244_r0 : Index := Scalar.indexCast v991_r0
  let c0_853_r0 : Index := 0#32
  ![v1243_r0.toNat, 4, v1244_r0.toNat, 0]
def k0_off113 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1247_r0 : Index := Scalar.indexCast v989_r0
  let c5_854_r0 : Index := 5#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1248_r0 : Index := Scalar.indexCast v991_r0
  let c0_855_r0 : Index := 0#32
  ![v1247_r0.toNat, 5, v1248_r0.toNat, 0]
def k0_off114 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1256_r0 : Index := Scalar.indexCast arg14_r0
  let c512_858_r0 : Index := 512#32
  let c0_859_r0 : Index := 0#32
  ![v1256_r0.toNat, 512, 0]
def k0_off115 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1265_r0 : Index := Scalar.indexCast arg14_r0
  let c544_r0 : Index := 544#32
  let c0_862_r0 : Index := 0#32
  ![v1265_r0.toNat, 544, 0]
def k0_off116 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1274_r0 : Index := Scalar.indexCast arg14_r0
  let c576_r0 : Index := 576#32
  let c0_865_r0 : Index := 0#32
  ![v1274_r0.toNat, 576, 0]
def k0_off117 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1283_r0 : Index := Scalar.indexCast arg14_r0
  let c608_r0 : Index := 608#32
  let c0_868_r0 : Index := 0#32
  ![v1283_r0.toNat, 608, 0]
def k0_off118 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1292_r0 : Index := Scalar.indexCast arg14_r0
  let c640_r0 : Index := 640#32
  let c0_871_r0 : Index := 0#32
  ![v1292_r0.toNat, 640, 0]
def k0_off119 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1301_r0 : Index := Scalar.indexCast arg14_r0
  let c672_r0 : Index := 672#32
  let c0_874_r0 : Index := 0#32
  ![v1301_r0.toNat, 672, 0]
def k0_off120 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1310_r0 : Index := Scalar.indexCast arg14_r0
  let c704_r0 : Index := 704#32
  let c0_877_r0 : Index := 0#32
  ![v1310_r0.toNat, 704, 0]
def k0_off121 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1319_r0 : Index := Scalar.indexCast arg14_r0
  let c736_r0 : Index := 736#32
  let c0_880_r0 : Index := 0#32
  ![v1319_r0.toNat, 736, 0]
def k0_off122 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1328_r0 : Index := Scalar.indexCast v989_r0
  let c6_882_r0 : Index := 6#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1329_r0 : Index := Scalar.indexCast v991_r0
  let c0_883_r0 : Index := 0#32
  ![v1328_r0.toNat, 6, v1329_r0.toNat, 0]
def k0_off123 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1332_r0 : Index := Scalar.indexCast v989_r0
  let c7_884_r0 : Index := 7#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1333_r0 : Index := Scalar.indexCast v991_r0
  let c0_885_r0 : Index := 0#32
  ![v1332_r0.toNat, 7, v1333_r0.toNat, 0]
def k0_off124 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1341_r0 : Index := Scalar.indexCast arg14_r0
  let c768_r0 : Index := 768#32
  let c0_887_r0 : Index := 0#32
  ![v1341_r0.toNat, 768, 0]
def k0_off125 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1350_r0 : Index := Scalar.indexCast arg14_r0
  let c800_r0 : Index := 800#32
  let c0_889_r0 : Index := 0#32
  ![v1350_r0.toNat, 800, 0]
def k0_off126 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1359_r0 : Index := Scalar.indexCast arg14_r0
  let c832_r0 : Index := 832#32
  let c0_891_r0 : Index := 0#32
  ![v1359_r0.toNat, 832, 0]
def k0_off127 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1368_r0 : Index := Scalar.indexCast arg14_r0
  let c864_r0 : Index := 864#32
  let c0_893_r0 : Index := 0#32
  ![v1368_r0.toNat, 864, 0]
def k0_off128 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1377_r0 : Index := Scalar.indexCast arg14_r0
  let c896_r0 : Index := 896#32
  let c0_895_r0 : Index := 0#32
  ![v1377_r0.toNat, 896, 0]
def k0_off129 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1386_r0 : Index := Scalar.indexCast arg14_r0
  let c928_r0 : Index := 928#32
  let c0_897_r0 : Index := 0#32
  ![v1386_r0.toNat, 928, 0]
def k0_off130 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1395_r0 : Index := Scalar.indexCast arg14_r0
  let c960_r0 : Index := 960#32
  let c0_899_r0 : Index := 0#32
  ![v1395_r0.toNat, 960, 0]
def k0_off131 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1404_r0 : Index := Scalar.indexCast arg14_r0
  let c992_r0 : Index := 992#32
  let c0_901_r0 : Index := 0#32
  ![v1404_r0.toNat, 992, 0]
def k0_off132 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1413_r0 : Index := Scalar.indexCast v989_r0
  let c8_903_r0 : Index := 8#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1414_r0 : Index := Scalar.indexCast v991_r0
  let c0_904_r0 : Index := 0#32
  ![v1413_r0.toNat, 8, v1414_r0.toNat, 0]
def k0_off133 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1417_r0 : Index := Scalar.indexCast v989_r0
  let c9_905_r0 : Index := 9#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1418_r0 : Index := Scalar.indexCast v991_r0
  let c0_906_r0 : Index := 0#32
  ![v1417_r0.toNat, 9, v1418_r0.toNat, 0]
def k0_off134 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1426_r0 : Index := Scalar.indexCast arg14_r0
  let c1024_909_r0 : Index := 1024#32
  let c0_910_r0 : Index := 0#32
  ![v1426_r0.toNat, 1024, 0]
def k0_off135 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1435_r0 : Index := Scalar.indexCast arg14_r0
  let c1056_r0 : Index := 1056#32
  let c0_912_r0 : Index := 0#32
  ![v1435_r0.toNat, 1056, 0]
def k0_off136 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1444_r0 : Index := Scalar.indexCast arg14_r0
  let c1088_r0 : Index := 1088#32
  let c0_914_r0 : Index := 0#32
  ![v1444_r0.toNat, 1088, 0]
def k0_off137 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1453_r0 : Index := Scalar.indexCast arg14_r0
  let c1120_r0 : Index := 1120#32
  let c0_916_r0 : Index := 0#32
  ![v1453_r0.toNat, 1120, 0]
def k0_off138 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1462_r0 : Index := Scalar.indexCast arg14_r0
  let c1152_r0 : Index := 1152#32
  let c0_918_r0 : Index := 0#32
  ![v1462_r0.toNat, 1152, 0]
def k0_off139 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1471_r0 : Index := Scalar.indexCast arg14_r0
  let c1184_r0 : Index := 1184#32
  let c0_920_r0 : Index := 0#32
  ![v1471_r0.toNat, 1184, 0]
def k0_off140 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1480_r0 : Index := Scalar.indexCast arg14_r0
  let c1216_r0 : Index := 1216#32
  let c0_922_r0 : Index := 0#32
  ![v1480_r0.toNat, 1216, 0]
def k0_off141 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1489_r0 : Index := Scalar.indexCast arg14_r0
  let c1248_r0 : Index := 1248#32
  let c0_924_r0 : Index := 0#32
  ![v1489_r0.toNat, 1248, 0]
def k0_off142 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1498_r0 : Index := Scalar.indexCast v989_r0
  let c10_926_r0 : Index := 10#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1499_r0 : Index := Scalar.indexCast v991_r0
  let c0_927_r0 : Index := 0#32
  ![v1498_r0.toNat, 10, v1499_r0.toNat, 0]
def k0_off143 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1502_r0 : Index := Scalar.indexCast v989_r0
  let c11_928_r0 : Index := 11#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1503_r0 : Index := Scalar.indexCast v991_r0
  let c0_929_r0 : Index := 0#32
  ![v1502_r0.toNat, 11, v1503_r0.toNat, 0]
def k0_off144 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1511_r0 : Index := Scalar.indexCast arg14_r0
  let c1280_r0 : Index := 1280#32
  let c0_931_r0 : Index := 0#32
  ![v1511_r0.toNat, 1280, 0]
def k0_off145 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1520_r0 : Index := Scalar.indexCast arg14_r0
  let c1312_r0 : Index := 1312#32
  let c0_933_r0 : Index := 0#32
  ![v1520_r0.toNat, 1312, 0]
def k0_off146 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1529_r0 : Index := Scalar.indexCast arg14_r0
  let c1344_r0 : Index := 1344#32
  let c0_935_r0 : Index := 0#32
  ![v1529_r0.toNat, 1344, 0]
def k0_off147 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1538_r0 : Index := Scalar.indexCast arg14_r0
  let c1376_r0 : Index := 1376#32
  let c0_937_r0 : Index := 0#32
  ![v1538_r0.toNat, 1376, 0]
def k0_off148 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1547_r0 : Index := Scalar.indexCast arg14_r0
  let c1408_r0 : Index := 1408#32
  let c0_939_r0 : Index := 0#32
  ![v1547_r0.toNat, 1408, 0]
def k0_off149 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1556_r0 : Index := Scalar.indexCast arg14_r0
  let c1440_r0 : Index := 1440#32
  let c0_941_r0 : Index := 0#32
  ![v1556_r0.toNat, 1440, 0]
def k0_off150 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1565_r0 : Index := Scalar.indexCast arg14_r0
  let c1472_r0 : Index := 1472#32
  let c0_943_r0 : Index := 0#32
  ![v1565_r0.toNat, 1472, 0]
def k0_off151 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1574_r0 : Index := Scalar.indexCast arg14_r0
  let c1504_r0 : Index := 1504#32
  let c0_945_r0 : Index := 0#32
  ![v1574_r0.toNat, 1504, 0]
def k0_off152 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1583_r0 : Index := Scalar.indexCast v989_r0
  let c12_947_r0 : Index := 12#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1584_r0 : Index := Scalar.indexCast v991_r0
  let c0_948_r0 : Index := 0#32
  ![v1583_r0.toNat, 12, v1584_r0.toNat, 0]
def k0_off153 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1587_r0 : Index := Scalar.indexCast v989_r0
  let c13_949_r0 : Index := 13#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1588_r0 : Index := Scalar.indexCast v991_r0
  let c0_950_r0 : Index := 0#32
  ![v1587_r0.toNat, 13, v1588_r0.toNat, 0]
def k0_off154 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1596_r0 : Index := Scalar.indexCast arg14_r0
  let c1536_952_r0 : Index := 1536#32
  let c0_953_r0 : Index := 0#32
  ![v1596_r0.toNat, 1536, 0]
def k0_off155 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1605_r0 : Index := Scalar.indexCast arg14_r0
  let c1568_r0 : Index := 1568#32
  let c0_955_r0 : Index := 0#32
  ![v1605_r0.toNat, 1568, 0]
def k0_off156 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1614_r0 : Index := Scalar.indexCast arg14_r0
  let c1600_r0 : Index := 1600#32
  let c0_957_r0 : Index := 0#32
  ![v1614_r0.toNat, 1600, 0]
def k0_off157 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1623_r0 : Index := Scalar.indexCast arg14_r0
  let c1632_r0 : Index := 1632#32
  let c0_959_r0 : Index := 0#32
  ![v1623_r0.toNat, 1632, 0]
def k0_off158 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1632_r0 : Index := Scalar.indexCast arg14_r0
  let c1664_r0 : Index := 1664#32
  let c0_961_r0 : Index := 0#32
  ![v1632_r0.toNat, 1664, 0]
def k0_off159 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1641_r0 : Index := Scalar.indexCast arg14_r0
  let c1696_r0 : Index := 1696#32
  let c0_963_r0 : Index := 0#32
  ![v1641_r0.toNat, 1696, 0]
def k0_off160 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1650_r0 : Index := Scalar.indexCast arg14_r0
  let c1728_r0 : Index := 1728#32
  let c0_965_r0 : Index := 0#32
  ![v1650_r0.toNat, 1728, 0]
def k0_off161 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1659_r0 : Index := Scalar.indexCast arg14_r0
  let c1760_r0 : Index := 1760#32
  let c0_967_r0 : Index := 0#32
  ![v1659_r0.toNat, 1760, 0]
def k0_off162 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1668_r0 : Index := Scalar.indexCast v989_r0
  let c14_969_r0 : Index := 14#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1669_r0 : Index := Scalar.indexCast v991_r0
  let c0_970_r0 : Index := 0#32
  ![v1668_r0.toNat, 14, v1669_r0.toNat, 0]
def k0_off163 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1672_r0 : Index := Scalar.indexCast v989_r0
  let c15_971_r0 : Index := 15#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1673_r0 : Index := Scalar.indexCast v991_r0
  let c0_972_r0 : Index := 0#32
  ![v1672_r0.toNat, 15, v1673_r0.toNat, 0]
def k0_off164 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1681_r0 : Index := Scalar.indexCast arg14_r0
  let c1792_r0 : Index := 1792#32
  let c0_974_r0 : Index := 0#32
  ![v1681_r0.toNat, 1792, 0]
def k0_off165 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1690_r0 : Index := Scalar.indexCast arg14_r0
  let c1824_r0 : Index := 1824#32
  let c0_976_r0 : Index := 0#32
  ![v1690_r0.toNat, 1824, 0]
def k0_off166 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1699_r0 : Index := Scalar.indexCast arg14_r0
  let c1856_r0 : Index := 1856#32
  let c0_978_r0 : Index := 0#32
  ![v1699_r0.toNat, 1856, 0]
def k0_off167 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1708_r0 : Index := Scalar.indexCast arg14_r0
  let c1888_r0 : Index := 1888#32
  let c0_980_r0 : Index := 0#32
  ![v1708_r0.toNat, 1888, 0]
def k0_off168 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1717_r0 : Index := Scalar.indexCast arg14_r0
  let c1920_r0 : Index := 1920#32
  let c0_982_r0 : Index := 0#32
  ![v1717_r0.toNat, 1920, 0]
def k0_off169 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1726_r0 : Index := Scalar.indexCast arg14_r0
  let c1952_r0 : Index := 1952#32
  let c0_984_r0 : Index := 0#32
  ![v1726_r0.toNat, 1952, 0]
def k0_off170 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1735_r0 : Index := Scalar.indexCast arg14_r0
  let c1984_r0 : Index := 1984#32
  let c0_986_r0 : Index := 0#32
  ![v1735_r0.toNat, 1984, 0]
def k0_off171 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1744_r0 : Index := Scalar.indexCast arg14_r0
  let c2016_r0 : Index := 2016#32
  let c0_988_r0 : Index := 0#32
  ![v1744_r0.toNat, 2016, 0]
def k0_off172 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1753_r0 : Index := Scalar.indexCast v989_r0
  let c16_990_r0 : Index := 16#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1754_r0 : Index := Scalar.indexCast v991_r0
  let c0_991_r0 : Index := 0#32
  ![v1753_r0.toNat, 16, v1754_r0.toNat, 0]
def k0_off173 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1757_r0 : Index := Scalar.indexCast v989_r0
  let c17_992_r0 : Index := 17#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1758_r0 : Index := Scalar.indexCast v991_r0
  let c0_993_r0 : Index := 0#32
  ![v1757_r0.toNat, 17, v1758_r0.toNat, 0]
def k0_off174 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1766_r0 : Index := Scalar.indexCast arg14_r0
  let c2048_r0 : Index := 2048#32
  let c0_996_r0 : Index := 0#32
  ![v1766_r0.toNat, 2048, 0]
def k0_off175 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1775_r0 : Index := Scalar.indexCast arg14_r0
  let c2080_r0 : Index := 2080#32
  let c0_998_r0 : Index := 0#32
  ![v1775_r0.toNat, 2080, 0]
def k0_off176 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1784_r0 : Index := Scalar.indexCast arg14_r0
  let c2112_r0 : Index := 2112#32
  let c0_1000_r0 : Index := 0#32
  ![v1784_r0.toNat, 2112, 0]
def k0_off177 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1793_r0 : Index := Scalar.indexCast arg14_r0
  let c2144_r0 : Index := 2144#32
  let c0_1002_r0 : Index := 0#32
  ![v1793_r0.toNat, 2144, 0]
def k0_off178 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1802_r0 : Index := Scalar.indexCast arg14_r0
  let c2176_r0 : Index := 2176#32
  let c0_1004_r0 : Index := 0#32
  ![v1802_r0.toNat, 2176, 0]
def k0_off179 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1811_r0 : Index := Scalar.indexCast arg14_r0
  let c2208_r0 : Index := 2208#32
  let c0_1006_r0 : Index := 0#32
  ![v1811_r0.toNat, 2208, 0]
def k0_off180 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1820_r0 : Index := Scalar.indexCast arg14_r0
  let c2240_r0 : Index := 2240#32
  let c0_1008_r0 : Index := 0#32
  ![v1820_r0.toNat, 2240, 0]
def k0_off181 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1829_r0 : Index := Scalar.indexCast arg14_r0
  let c2272_r0 : Index := 2272#32
  let c0_1010_r0 : Index := 0#32
  ![v1829_r0.toNat, 2272, 0]
def k0_off182 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1838_r0 : Index := Scalar.indexCast v989_r0
  let c18_1012_r0 : Index := 18#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1839_r0 : Index := Scalar.indexCast v991_r0
  let c0_1013_r0 : Index := 0#32
  ![v1838_r0.toNat, 18, v1839_r0.toNat, 0]
def k0_off183 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1842_r0 : Index := Scalar.indexCast v989_r0
  let c19_1014_r0 : Index := 19#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1843_r0 : Index := Scalar.indexCast v991_r0
  let c0_1015_r0 : Index := 0#32
  ![v1842_r0.toNat, 19, v1843_r0.toNat, 0]
def k0_off184 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1851_r0 : Index := Scalar.indexCast arg14_r0
  let c2304_r0 : Index := 2304#32
  let c0_1017_r0 : Index := 0#32
  ![v1851_r0.toNat, 2304, 0]
def k0_off185 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1860_r0 : Index := Scalar.indexCast arg14_r0
  let c2336_r0 : Index := 2336#32
  let c0_1019_r0 : Index := 0#32
  ![v1860_r0.toNat, 2336, 0]
def k0_off186 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1869_r0 : Index := Scalar.indexCast arg14_r0
  let c2368_r0 : Index := 2368#32
  let c0_1021_r0 : Index := 0#32
  ![v1869_r0.toNat, 2368, 0]
def k0_off187 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1878_r0 : Index := Scalar.indexCast arg14_r0
  let c2400_r0 : Index := 2400#32
  let c0_1023_r0 : Index := 0#32
  ![v1878_r0.toNat, 2400, 0]
def k0_off188 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1887_r0 : Index := Scalar.indexCast arg14_r0
  let c2432_r0 : Index := 2432#32
  let c0_1025_r0 : Index := 0#32
  ![v1887_r0.toNat, 2432, 0]
def k0_off189 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1896_r0 : Index := Scalar.indexCast arg14_r0
  let c2464_r0 : Index := 2464#32
  let c0_1027_r0 : Index := 0#32
  ![v1896_r0.toNat, 2464, 0]
def k0_off190 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1905_r0 : Index := Scalar.indexCast arg14_r0
  let c2496_r0 : Index := 2496#32
  let c0_1029_r0 : Index := 0#32
  ![v1905_r0.toNat, 2496, 0]
def k0_off191 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1914_r0 : Index := Scalar.indexCast arg14_r0
  let c2528_r0 : Index := 2528#32
  let c0_1031_r0 : Index := 0#32
  ![v1914_r0.toNat, 2528, 0]
def k0_cond2 (k0_t2 : Fin k0_t2_loop.trips) : BitVec 1 :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_1033_r0 : BitVec 32 := 0#32
  let v1923_r0 : BitVec 1 := Scalar.cmpi .eq v959_r0 c0_i32_1033_r0
  let v1924_r0 : BitVec 32 := Scalar.extui v1923_r0
  let c0_i32_1034_r0 : BitVec 32 := 0#32
  let v1925_r0 : BitVec 1 := Scalar.cmpi .ne v1924_r0 c0_i32_1034_r0
  v1925_r0

def k0_off192 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let v1929_r0 : Index := Scalar.indexCast v949_r0
  let c0_1037_r0 : Index := 0#32
  let c0_1038_r0 : Index := 0#32
  ![v1929_r0.toNat, 0, 0]
def k0_cond3 (k0_t2 : Fin k0_t2_loop.trips) : BitVec 1 :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_1035_r0 : BitVec 32 := 0#32
  let v1926_r0 : BitVec 1 := Scalar.cmpi .sgt v959_r0 c0_i32_1035_r0
  let v1927_r0 : BitVec 32 := Scalar.extui v1926_r0
  let c0_i32_1036_r0 : BitVec 32 := 0#32
  let v1928_r0 : BitVec 1 := Scalar.cmpi .ne v1927_r0 c0_i32_1036_r0
  v1928_r0

def k0_off193 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let v1929_r0 : Index := Scalar.indexCast v949_r0
  let c0_1037_r0 : Index := 0#32
  let c0_1038_r0 : Index := 0#32
  ![v1929_r0.toNat, 0, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6x10x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
abbrev S2x12x20x2560 : Shape := ⟨4, ![2, 12, 20, 2560]⟩
abbrev S2x12x20x80 : Shape := ⟨4, ![2, 12, 20, 80]⟩
abbrev S3x3x2560x2048 : Shape := ⟨4, ![3, 3, 2560, 2048]⟩
abbrev S3x3x80x2048 : Shape := ⟨4, ![3, 3, 80, 2048]⟩
abbrev S2048 : Shape := ⟨1, ![2048]⟩
abbrev S1x2048 : Shape := ⟨2, ![1, 2048]⟩
abbrev S2x6x10x2048 : Shape := ⟨4, ![2, 6, 10, 2048]⟩
abbrev S36x2560x512 : Shape := ⟨3, ![36, 2560, 512]⟩
abbrev S9x80x2048 : Shape := ⟨3, ![9, 80, 2048]⟩
abbrev S24x16x128 : Shape := ⟨3, ![24, 16, 128]⟩
abbrev S24x16x2x128 : Shape := ⟨4, ![24, 16, 2, 128]⟩
abbrev S24x16x1x128 : Shape := ⟨4, ![24, 16, 1, 128]⟩
abbrev S6x20x80x128 : Shape := ⟨4, ![6, 20, 80, 128]⟩
abbrev S6x20x80x2x128 : Shape := ⟨5, ![6, 20, 80, 2, 128]⟩
abbrev S6x20x80x1x128 : Shape := ⟨5, ![6, 20, 80, 1, 128]⟩
abbrev S80x512 : Shape := ⟨2, ![80, 512]⟩
abbrev S4x128x512 : Shape := ⟨3, ![4, 128, 512]⟩
abbrev S2 : Shape := ⟨1, ![2]⟩
abbrev S36 : Shape := ⟨1, ![36]⟩
abbrev S9 : Shape := ⟨1, ![9]⟩
abbrev S1 : Shape := ⟨1, ![1]⟩
abbrev S_ : Shape := ⟨0, ![]⟩
abbrev S1x80x2048 : Shape := ⟨3, ![1, 80, 2048]⟩
abbrev S80x2048 : Shape := ⟨2, ![80, 2048]⟩
abbrev S1x1x80x2048 : Shape := ⟨4, ![1, 1, 80, 2048]⟩
abbrev S1x2560x512 : Shape := ⟨3, ![1, 2560, 512]⟩
abbrev S2560x512 : Shape := ⟨2, ![2560, 512]⟩
abbrev S1x1x2560x512 : Shape := ⟨4, ![1, 1, 2560, 512]⟩
abbrev S1x1x20x80 : Shape := ⟨4, ![1, 1, 20, 80]⟩
abbrev S20x80 : Shape := ⟨2, ![20, 80]⟩
abbrev S10x80 : Shape := ⟨2, ![10, 80]⟩
abbrev S1x10x80 : Shape := ⟨3, ![1, 10, 80]⟩
abbrev S1x10x2x80 : Shape := ⟨4, ![1, 10, 2, 80]⟩
abbrev S1x10x1x80 : Shape := ⟨4, ![1, 10, 1, 80]⟩
abbrev S16x128 : Shape := ⟨2, ![16, 128]⟩
abbrev S1x128 : Shape := ⟨2, ![1, 128]⟩
abbrev S10x128 : Shape := ⟨2, ![10, 128]⟩
abbrev S1x1x10x128 : Shape := ⟨4, ![1, 1, 10, 128]⟩
abbrev S1x1x10x2x128 : Shape := ⟨5, ![1, 1, 10, 2, 128]⟩
abbrev S1x1x10x1x128 : Shape := ⟨5, ![1, 1, 10, 1, 128]⟩
abbrev S1x1x20x128 : Shape := ⟨4, ![1, 1, 20, 128]⟩
abbrev S20x128 : Shape := ⟨2, ![20, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S8x128 : Shape := ⟨2, ![8, 128]⟩
abbrev S16x128x1 : Shape := ⟨3, ![16, 128, 1]⟩
abbrev S1x1x1x128 : Shape := ⟨4, ![1, 1, 1, 128]⟩
abbrev S1x1x1x2x128 : Shape := ⟨5, ![1, 1, 1, 2, 128]⟩
abbrev S1x1x1x1x128 : Shape := ⟨5, ![1, 1, 1, 1, 128]⟩
abbrev S9x128 : Shape := ⟨2, ![9, 128]⟩
abbrev S1x1x9x128 : Shape := ⟨4, ![1, 1, 9, 128]⟩
abbrev S1x1x9x2x128 : Shape := ⟨5, ![1, 1, 9, 2, 128]⟩
abbrev S1x1x9x1x128 : Shape := ⟨5, ![1, 1, 9, 1, 128]⟩
abbrev S1x80x512 : Shape := ⟨3, ![1, 80, 512]⟩
abbrev S128x512 : Shape := ⟨2, ![128, 512]⟩
abbrev S1x1x64x128 : Shape := ⟨4, ![1, 1, 64, 128]⟩
abbrev S1x1x64x2x128 : Shape := ⟨5, ![1, 1, 64, 2, 128]⟩
abbrev S1x1x64x1x128 : Shape := ⟨5, ![1, 1, 64, 1, 128]⟩
abbrev S64x128 : Shape := ⟨2, ![64, 128]⟩
abbrev S64x256 : Shape := ⟨2, ![64, 256]⟩
abbrev S128x256 : Shape := ⟨2, ![128, 256]⟩
abbrev S1x512 : Shape := ⟨2, ![1, 512]⟩
abbrev S16x512 : Shape := ⟨2, ![16, 512]⟩
abbrev S1x32x512 : Shape := ⟨3, ![1, 32, 512]⟩
abbrev S32x512 : Shape := ⟨2, ![32, 512]⟩
abbrev S256x512 : Shape := ⟨2, ![256, 512]⟩
abbrev S1x128x512 : Shape := ⟨3, ![1, 128, 512]⟩
abbrev S64x2x512 : Shape := ⟨3, ![64, 2, 512]⟩
abbrev S60x2x512 : Shape := ⟨3, ![60, 2, 512]⟩
abbrev S10x1x512 : Shape := ⟨3, ![10, 1, 512]⟩
abbrev S10x512 : Shape := ⟨2, ![10, 512]⟩
abbrev S1x1x10x512 : Shape := ⟨4, ![1, 1, 10, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x12x20x2560, .fp8e4m3⟩
  | .hbm, ⟨1, _⟩ => ⟨S2x12x20x80, .i8⟩
  | .hbm, ⟨2, _⟩ => ⟨S3x3x2560x2048, .fp8e4m3⟩
  | .hbm, ⟨3, _⟩ => ⟨S3x3x80x2048, .i8⟩
  | .hbm, ⟨4, _⟩ => ⟨S2048, .f32⟩
  | .hbm, ⟨5, _⟩ => ⟨S1x2048, .f32⟩
  | .hbm, ⟨6, _⟩ => ⟨S2x6x10x2048, .bf16⟩
  | .local _ .vmem, ⟨0, _⟩ => ⟨S1x2048, .f32⟩
  | .local _ .vmem, ⟨1, _⟩ => ⟨S2x6x10x2048, .bf16⟩
  | .local _ .vmem, ⟨2, _⟩ => ⟨S2x12x20x2560, .fp8e4m3⟩
  | .local _ .vmem, ⟨3, _⟩ => ⟨S2x12x20x80, .i8⟩
  | .local _ .vmem, ⟨4, _⟩ => ⟨S36x2560x512, .fp8e4m3⟩
  | .local _ .vmem, ⟨5, _⟩ => ⟨S9x80x2048, .i8⟩
  | .local _ .vmem, ⟨6, _⟩ => ⟨S24x16x2x128, .bf16⟩
  | .local _ .vmem, ⟨7, _⟩ => ⟨S6x20x80x2x128, .bf16⟩
  | .local _ .vmem, ⟨8, _⟩ => ⟨S80x512, .i32⟩
  | .local _ .vmem, ⟨9, _⟩ => ⟨S4x128x512, .f32⟩
  | _, _ => ⟨S2x12x20x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32_8_r0 : BitVec 32 := 0#32
  c0_i32_8_r0
def k0_mult2 : BitVec 32 :=
  let c0_i32_24_r0 : BitVec 32 := 0#32
  c0_i32_24_r0
def k0_mult3 : BitVec 32 :=
  let c0_i32_39_r0 : BitVec 32 := 0#32
  c0_i32_39_r0
def k0_mult4 : BitVec 32 :=
  let c0_i32_54_r0 : BitVec 32 := 0#32
  c0_i32_54_r0
def k0_mult5 : BitVec 32 :=
  let c0_i32_69_r0 : BitVec 32 := 0#32
  c0_i32_69_r0
def k0_mult6 : BitVec 32 :=
  let c0_i32_84_r0 : BitVec 32 := 0#32
  c0_i32_84_r0
def k0_mult7 : BitVec 32 :=
  let c0_i32_99_r0 : BitVec 32 := 0#32
  c0_i32_99_r0
def k0_mult8 : BitVec 32 :=
  let c0_i32_114_r0 : BitVec 32 := 0#32
  c0_i32_114_r0
def k0_mult9 : BitVec 32 :=
  let c0_i32_129_r0 : BitVec 32 := 0#32
  c0_i32_129_r0
def k0_mult10 : BitVec 32 :=
  let c512_i32_r0 : BitVec 32 := 512#32
  c512_i32_r0
def k0_mult11 : BitVec 32 :=
  let c512_i32_143_r0 : BitVec 32 := 512#32
  c512_i32_143_r0
def k0_mult12 : BitVec 32 :=
  let c512_i32_150_r0 : BitVec 32 := 512#32
  c512_i32_150_r0
def k0_mult13 : BitVec 32 :=
  let c512_i32_157_r0 : BitVec 32 := 512#32
  c512_i32_157_r0
def k0_mult14 : BitVec 32 :=
  let c512_i32_164_r0 : BitVec 32 := 512#32
  c512_i32_164_r0
def k0_mult15 : BitVec 32 :=
  let c512_i32_171_r0 : BitVec 32 := 512#32
  c512_i32_171_r0
def k0_mult16 : BitVec 32 :=
  let c512_i32_178_r0 : BitVec 32 := 512#32
  c512_i32_178_r0
def k0_mult17 : BitVec 32 :=
  let c512_i32_185_r0 : BitVec 32 := 512#32
  c512_i32_185_r0
def k0_mult18 : BitVec 32 :=
  let c512_i32_192_r0 : BitVec 32 := 512#32
  c512_i32_192_r0
def k0_mult19 : BitVec 32 :=
  let c1024_i32_r0 : BitVec 32 := 1024#32
  c1024_i32_r0
def k0_mult20 : BitVec 32 :=
  let c1024_i32_205_r0 : BitVec 32 := 1024#32
  c1024_i32_205_r0
def k0_mult21 : BitVec 32 :=
  let c1024_i32_212_r0 : BitVec 32 := 1024#32
  c1024_i32_212_r0
def k0_mult22 : BitVec 32 :=
  let c1024_i32_219_r0 : BitVec 32 := 1024#32
  c1024_i32_219_r0
def k0_mult23 : BitVec 32 :=
  let c1024_i32_226_r0 : BitVec 32 := 1024#32
  c1024_i32_226_r0
def k0_mult24 : BitVec 32 :=
  let c1024_i32_233_r0 : BitVec 32 := 1024#32
  c1024_i32_233_r0
def k0_mult25 : BitVec 32 :=
  let c1024_i32_240_r0 : BitVec 32 := 1024#32
  c1024_i32_240_r0
def k0_mult26 : BitVec 32 :=
  let c1024_i32_247_r0 : BitVec 32 := 1024#32
  c1024_i32_247_r0
def k0_mult27 : BitVec 32 :=
  let c1024_i32_254_r0 : BitVec 32 := 1024#32
  c1024_i32_254_r0
def k0_mult28 : BitVec 32 :=
  let c1536_i32_r0 : BitVec 32 := 1536#32
  c1536_i32_r0
def k0_mult29 : BitVec 32 :=
  let c1536_i32_267_r0 : BitVec 32 := 1536#32
  c1536_i32_267_r0
def k0_mult30 : BitVec 32 :=
  let c1536_i32_274_r0 : BitVec 32 := 1536#32
  c1536_i32_274_r0
def k0_mult31 : BitVec 32 :=
  let c1536_i32_281_r0 : BitVec 32 := 1536#32
  c1536_i32_281_r0
def k0_mult32 : BitVec 32 :=
  let c1536_i32_288_r0 : BitVec 32 := 1536#32
  c1536_i32_288_r0
def k0_mult33 : BitVec 32 :=
  let c1536_i32_295_r0 : BitVec 32 := 1536#32
  c1536_i32_295_r0
def k0_mult34 : BitVec 32 :=
  let c1536_i32_302_r0 : BitVec 32 := 1536#32
  c1536_i32_302_r0
def k0_mult35 : BitVec 32 :=
  let c1536_i32_309_r0 : BitVec 32 := 1536#32
  c1536_i32_309_r0
def k0_mult36 : BitVec 32 :=
  let c1536_i32_316_r0 : BitVec 32 := 1536#32
  c1536_i32_316_r0
@[reducible] def k0_t1_loop : Scf.Loop 32 :=
  let c0_i32_506_r0 : BitVec 32 := 0#32
  let c20_i32_507_r0 : BitVec 32 := 20#32
  let v611_r0 : BitVec 32 := Scalar.addi c0_i32_506_r0 c20_i32_507_r0
  let c1_i32_508_r0 : BitVec 32 := 1#32
  ⟨c0_i32_506_r0, v611_r0, c1_i32_508_r0⟩
def k0_mult37 (k0_t1 : Fin k0_t1_loop.trips) : BitVec 32 :=
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  v933_r0
def k0_off1 (k0_t1 : Fin k0_t1_loop.trips) : Fin 5 → Nat :=
  let c0_725_r0 : Index := 0#32
  let c0_i32_506_r0 : BitVec 32 := 0#32
  let c1_i32_508_r0 : BitVec 32 := 1#32
  let arg14_r0 : BitVec 32 := Scf.iv c0_i32_506_r0 c1_i32_508_r0 k0_t1
  let v939_r0 : Index := Scalar.indexCast arg14_r0
  let c0_726_r0 : Index := 0#32
  let c0_727_r0 : Index := 0#32
  ![0, v939_r0.toNat, 0, 0, 0]
def k0_off2 (k0_t1 : Fin k0_t1_loop.trips) : Fin 5 → Nat :=
  let c0_729_r0 : Index := 0#32
  let c0_i32_506_r0 : BitVec 32 := 0#32
  let c1_i32_508_r0 : BitVec 32 := 1#32
  let arg14_r0 : BitVec 32 := Scf.iv c0_i32_506_r0 c1_i32_508_r0 k0_t1
  let v944_r0 : Index := Scalar.indexCast arg14_r0
  let c70_r0 : Index := 70#32
  let c0_730_r0 : Index := 0#32
  ![0, v944_r0.toNat, 70, 0, 0]
def k0_off3 (k0_t1 : Fin k0_t1_loop.trips) : Fin 5 → Nat :=
  let c1_732_r0 : Index := 1#32
  let c0_i32_506_r0 : BitVec 32 := 0#32
  let c1_i32_508_r0 : BitVec 32 := 1#32
  let arg14_r0 : BitVec 32 := Scf.iv c0_i32_506_r0 c1_i32_508_r0 k0_t1
  let v949_r0 : Index := Scalar.indexCast arg14_r0
  let c0_733_r0 : Index := 0#32
  let c0_734_r0 : Index := 0#32
  ![1, v949_r0.toNat, 0, 0, 0]
def k0_off4 (k0_t1 : Fin k0_t1_loop.trips) : Fin 5 → Nat :=
  let c1_736_r0 : Index := 1#32
  let c0_i32_506_r0 : BitVec 32 := 0#32
  let c1_i32_508_r0 : BitVec 32 := 1#32
  let arg14_r0 : BitVec 32 := Scf.iv c0_i32_506_r0 c1_i32_508_r0 k0_t1
  let v954_r0 : Index := Scalar.indexCast arg14_r0
  let c70_737_r0 : Index := 70#32
  let c0_738_r0 : Index := 0#32
  ![1, v954_r0.toNat, 70, 0, 0]
def k0_off5 (k0_t1 : Fin k0_t1_loop.trips) : Fin 5 → Nat :=
  let c2_740_r0 : Index := 2#32
  let c0_i32_506_r0 : BitVec 32 := 0#32
  let c1_i32_508_r0 : BitVec 32 := 1#32
  let arg14_r0 : BitVec 32 := Scf.iv c0_i32_506_r0 c1_i32_508_r0 k0_t1
  let v959_r0 : Index := Scalar.indexCast arg14_r0
  let c0_741_r0 : Index := 0#32
  let c0_742_r0 : Index := 0#32
  ![2, v959_r0.toNat, 0, 0, 0]
def k0_off6 (k0_t1 : Fin k0_t1_loop.trips) : Fin 5 → Nat :=
  let c2_744_r0 : Index := 2#32
  let c0_i32_506_r0 : BitVec 32 := 0#32
  let c1_i32_508_r0 : BitVec 32 := 1#32
  let arg14_r0 : BitVec 32 := Scf.iv c0_i32_506_r0 c1_i32_508_r0 k0_t1
  let v964_r0 : Index := Scalar.indexCast arg14_r0
  let c70_745_r0 : Index := 70#32
  let c0_746_r0 : Index := 0#32
  ![2, v964_r0.toNat, 70, 0, 0]
def k0_off7 (k0_t1 : Fin k0_t1_loop.trips) : Fin 5 → Nat :=
  let c3_748_r0 : Index := 3#32
  let c0_i32_506_r0 : BitVec 32 := 0#32
  let c1_i32_508_r0 : BitVec 32 := 1#32
  let arg14_r0 : BitVec 32 := Scf.iv c0_i32_506_r0 c1_i32_508_r0 k0_t1
  let v969_r0 : Index := Scalar.indexCast arg14_r0
  let c0_749_r0 : Index := 0#32
  let c0_750_r0 : Index := 0#32
  ![3, v969_r0.toNat, 0, 0, 0]
def k0_off8 (k0_t1 : Fin k0_t1_loop.trips) : Fin 5 → Nat :=
  let c3_752_r0 : Index := 3#32
  let c0_i32_506_r0 : BitVec 32 := 0#32
  let c1_i32_508_r0 : BitVec 32 := 1#32
  let arg14_r0 : BitVec 32 := Scf.iv c0_i32_506_r0 c1_i32_508_r0 k0_t1
  let v974_r0 : Index := Scalar.indexCast arg14_r0
  let c70_753_r0 : Index := 70#32
  let c0_754_r0 : Index := 0#32
  ![3, v974_r0.toNat, 70, 0, 0]
def k0_off9 (k0_t1 : Fin k0_t1_loop.trips) : Fin 5 → Nat :=
  let c4_756_r0 : Index := 4#32
  let c0_i32_506_r0 : BitVec 32 := 0#32
  let c1_i32_508_r0 : BitVec 32 := 1#32
  let arg14_r0 : BitVec 32 := Scf.iv c0_i32_506_r0 c1_i32_508_r0 k0_t1
  let v979_r0 : Index := Scalar.indexCast arg14_r0
  let c0_757_r0 : Index := 0#32
  let c0_758_r0 : Index := 0#32
  ![4, v979_r0.toNat, 0, 0, 0]
def k0_off10 (k0_t1 : Fin k0_t1_loop.trips) : Fin 5 → Nat :=
  let c4_760_r0 : Index := 4#32
  let c0_i32_506_r0 : BitVec 32 := 0#32
  let c1_i32_508_r0 : BitVec 32 := 1#32
  let arg14_r0 : BitVec 32 := Scf.iv c0_i32_506_r0 c1_i32_508_r0 k0_t1
  let v984_r0 : Index := Scalar.indexCast arg14_r0
  let c70_761_r0 : Index := 70#32
  let c0_762_r0 : Index := 0#32
  ![4, v984_r0.toNat, 70, 0, 0]
def k0_off11 (k0_t1 : Fin k0_t1_loop.trips) : Fin 5 → Nat :=
  let c5_764_r0 : Index := 5#32
  let c0_i32_506_r0 : BitVec 32 := 0#32
  let c1_i32_508_r0 : BitVec 32 := 1#32
  let arg14_r0 : BitVec 32 := Scf.iv c0_i32_506_r0 c1_i32_508_r0 k0_t1
  let v989_r0 : Index := Scalar.indexCast arg14_r0
  let c0_765_r0 : Index := 0#32
  let c0_766_r0 : Index := 0#32
  ![5, v989_r0.toNat, 0, 0, 0]
def k0_off12 (k0_t1 : Fin k0_t1_loop.trips) : Fin 5 → Nat :=
  let c5_768_r0 : Index := 5#32
  let c0_i32_506_r0 : BitVec 32 := 0#32
  let c1_i32_508_r0 : BitVec 32 := 1#32
  let arg14_r0 : BitVec 32 := Scf.iv c0_i32_506_r0 c1_i32_508_r0 k0_t1
  let v994_r0 : Index := Scalar.indexCast arg14_r0
  let c70_769_r0 : Index := 70#32
  let c0_770_r0 : Index := 0#32
  ![5, v994_r0.toNat, 70, 0, 0]
def k0_off13 (k0_t1 : Fin k0_t1_loop.trips) : Fin 4 → Nat :=
  let c0_771_r0 : Index := 0#32
  let c0_772_r0 : Index := 0#32
  let c0_773_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v998_r0 : Index := Scalar.indexCast v934_r0
  ![0, 0, 0, v998_r0.toNat]
def k0_off14 (k0_t1 : Fin k0_t1_loop.trips) : Fin 4 → Nat :=
  let c1_781_r0 : Index := 1#32
  let c0_782_r0 : Index := 0#32
  let c0_783_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1035_r0 : Index := Scalar.indexCast v934_r0
  ![1, 0, 0, v1035_r0.toNat]
def k0_off15 (k0_t1 : Fin k0_t1_loop.trips) : Fin 5 → Nat :=
  let c1_793_r0 : Index := 1#32
  let c0_i32_506_r0 : BitVec 32 := 0#32
  let c1_i32_508_r0 : BitVec 32 := 1#32
  let arg14_r0 : BitVec 32 := Scf.iv c0_i32_506_r0 c1_i32_508_r0 k0_t1
  let v1082_r0 : Index := Scalar.indexCast arg14_r0
  let c10_794_r0 : Index := 10#32
  let c0_795_r0 : Index := 0#32
  ![1, v1082_r0.toNat, 10, 0, 0]
def k0_off16 (k0_t1 : Fin k0_t1_loop.trips) : Fin 5 → Nat :=
  let c2_796_r0 : Index := 2#32
  let c0_i32_506_r0 : BitVec 32 := 0#32
  let c1_i32_508_r0 : BitVec 32 := 1#32
  let arg14_r0 : BitVec 32 := Scf.iv c0_i32_506_r0 c1_i32_508_r0 k0_t1
  let v1086_r0 : Index := Scalar.indexCast arg14_r0
  let c10_797_r0 : Index := 10#32
  let c0_798_r0 : Index := 0#32
  ![2, v1086_r0.toNat, 10, 0, 0]
def k0_off17 (k0_t1 : Fin k0_t1_loop.trips) : Fin 5 → Nat :=
  let c0_799_r0 : Index := 0#32
  let c0_i32_506_r0 : BitVec 32 := 0#32
  let c1_i32_508_r0 : BitVec 32 := 1#32
  let arg14_r0 : BitVec 32 := Scf.iv c0_i32_506_r0 c1_i32_508_r0 k0_t1
  let v1090_r0 : Index := Scalar.indexCast arg14_r0
  let c10_800_r0 : Index := 10#32
  let c0_801_r0 : Index := 0#32
  ![0, v1090_r0.toNat, 10, 0, 0]
def k0_off18 (k0_t1 : Fin k0_t1_loop.trips) : Fin 5 → Nat :=
  let c0_802_r0 : Index := 0#32
  let c0_i32_506_r0 : BitVec 32 := 0#32
  let c1_i32_508_r0 : BitVec 32 := 1#32
  let arg14_r0 : BitVec 32 := Scf.iv c0_i32_506_r0 c1_i32_508_r0 k0_t1
  let v1095_r0 : Index := Scalar.indexCast arg14_r0
  let c11_803_r0 : Index := 11#32
  let c0_804_r0 : Index := 0#32
  ![0, v1095_r0.toNat, 11, 0, 0]
def k0_off19 (k0_t1 : Fin k0_t1_loop.trips) : Fin 4 → Nat :=
  let c0_805_r0 : Index := 0#32
  let c1_806_r0 : Index := 1#32
  let c0_807_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1099_r0 : Index := Scalar.indexCast v934_r0
  ![0, 1, 0, v1099_r0.toNat]
def k0_off20 (k0_t1 : Fin k0_t1_loop.trips) : Fin 4 → Nat :=
  let c1_815_r0 : Index := 1#32
  let c1_816_r0 : Index := 1#32
  let c0_817_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1136_r0 : Index := Scalar.indexCast v934_r0
  ![1, 1, 0, v1136_r0.toNat]
def k0_off21 (k0_t1 : Fin k0_t1_loop.trips) : Fin 5 → Nat :=
  let c4_827_r0 : Index := 4#32
  let c0_i32_506_r0 : BitVec 32 := 0#32
  let c1_i32_508_r0 : BitVec 32 := 1#32
  let arg14_r0 : BitVec 32 := Scf.iv c0_i32_506_r0 c1_i32_508_r0 k0_t1
  let v1183_r0 : Index := Scalar.indexCast arg14_r0
  let c10_828_r0 : Index := 10#32
  let c0_829_r0 : Index := 0#32
  ![4, v1183_r0.toNat, 10, 0, 0]
def k0_off22 (k0_t1 : Fin k0_t1_loop.trips) : Fin 5 → Nat :=
  let c5_830_r0 : Index := 5#32
  let c0_i32_506_r0 : BitVec 32 := 0#32
  let c1_i32_508_r0 : BitVec 32 := 1#32
  let arg14_r0 : BitVec 32 := Scf.iv c0_i32_506_r0 c1_i32_508_r0 k0_t1
  let v1187_r0 : Index := Scalar.indexCast arg14_r0
  let c10_831_r0 : Index := 10#32
  let c0_832_r0 : Index := 0#32
  ![5, v1187_r0.toNat, 10, 0, 0]
def k0_off23 (k0_t1 : Fin k0_t1_loop.trips) : Fin 5 → Nat :=
  let c3_833_r0 : Index := 3#32
  let c0_i32_506_r0 : BitVec 32 := 0#32
  let c1_i32_508_r0 : BitVec 32 := 1#32
  let arg14_r0 : BitVec 32 := Scf.iv c0_i32_506_r0 c1_i32_508_r0 k0_t1
  let v1191_r0 : Index := Scalar.indexCast arg14_r0
  let c10_834_r0 : Index := 10#32
  let c0_835_r0 : Index := 0#32
  ![3, v1191_r0.toNat, 10, 0, 0]
def k0_off24 (k0_t1 : Fin k0_t1_loop.trips) : Fin 5 → Nat :=
  let c3_836_r0 : Index := 3#32
  let c0_i32_506_r0 : BitVec 32 := 0#32
  let c1_i32_508_r0 : BitVec 32 := 1#32
  let arg14_r0 : BitVec 32 := Scf.iv c0_i32_506_r0 c1_i32_508_r0 k0_t1
  let v1196_r0 : Index := Scalar.indexCast arg14_r0
  let c11_837_r0 : Index := 11#32
  let c0_838_r0 : Index := 0#32
  ![3, v1196_r0.toNat, 11, 0, 0]
def k0_off25 (k0_t1 : Fin k0_t1_loop.trips) : Fin 4 → Nat :=
  let c0_839_r0 : Index := 0#32
  let c2_840_r0 : Index := 2#32
  let c0_841_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1200_r0 : Index := Scalar.indexCast v934_r0
  ![0, 2, 0, v1200_r0.toNat]
def k0_off26 (k0_t1 : Fin k0_t1_loop.trips) : Fin 4 → Nat :=
  let c1_849_r0 : Index := 1#32
  let c2_850_r0 : Index := 2#32
  let c0_851_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1237_r0 : Index := Scalar.indexCast v934_r0
  ![1, 2, 0, v1237_r0.toNat]
def k0_off27 (k0_t1 : Fin k0_t1_loop.trips) : Fin 5 → Nat :=
  let c1_861_r0 : Index := 1#32
  let c0_i32_506_r0 : BitVec 32 := 0#32
  let c1_i32_508_r0 : BitVec 32 := 1#32
  let arg14_r0 : BitVec 32 := Scf.iv c0_i32_506_r0 c1_i32_508_r0 k0_t1
  let v1284_r0 : Index := Scalar.indexCast arg14_r0
  let c20_862_r0 : Index := 20#32
  let c0_863_r0 : Index := 0#32
  ![1, v1284_r0.toNat, 20, 0, 0]
def k0_off28 (k0_t1 : Fin k0_t1_loop.trips) : Fin 5 → Nat :=
  let c2_864_r0 : Index := 2#32
  let c0_i32_506_r0 : BitVec 32 := 0#32
  let c1_i32_508_r0 : BitVec 32 := 1#32
  let arg14_r0 : BitVec 32 := Scf.iv c0_i32_506_r0 c1_i32_508_r0 k0_t1
  let v1288_r0 : Index := Scalar.indexCast arg14_r0
  let c20_865_r0 : Index := 20#32
  let c0_866_r0 : Index := 0#32
  ![2, v1288_r0.toNat, 20, 0, 0]
def k0_off29 (k0_t1 : Fin k0_t1_loop.trips) : Fin 5 → Nat :=
  let c0_867_r0 : Index := 0#32
  let c0_i32_506_r0 : BitVec 32 := 0#32
  let c1_i32_508_r0 : BitVec 32 := 1#32
  let arg14_r0 : BitVec 32 := Scf.iv c0_i32_506_r0 c1_i32_508_r0 k0_t1
  let v1292_r0 : Index := Scalar.indexCast arg14_r0
  let c20_868_r0 : Index := 20#32
  let c0_869_r0 : Index := 0#32
  ![0, v1292_r0.toNat, 20, 0, 0]
def k0_off30 (k0_t1 : Fin k0_t1_loop.trips) : Fin 5 → Nat :=
  let c0_870_r0 : Index := 0#32
  let c0_i32_506_r0 : BitVec 32 := 0#32
  let c1_i32_508_r0 : BitVec 32 := 1#32
  let arg14_r0 : BitVec 32 := Scf.iv c0_i32_506_r0 c1_i32_508_r0 k0_t1
  let v1297_r0 : Index := Scalar.indexCast arg14_r0
  let c21_871_r0 : Index := 21#32
  let c0_872_r0 : Index := 0#32
  ![0, v1297_r0.toNat, 21, 0, 0]
def k0_off31 (k0_t1 : Fin k0_t1_loop.trips) : Fin 4 → Nat :=
  let c0_873_r0 : Index := 0#32
  let c3_874_r0 : Index := 3#32
  let c0_875_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1301_r0 : Index := Scalar.indexCast v934_r0
  ![0, 3, 0, v1301_r0.toNat]
def k0_off32 (k0_t1 : Fin k0_t1_loop.trips) : Fin 4 → Nat :=
  let c1_883_r0 : Index := 1#32
  let c3_884_r0 : Index := 3#32
  let c0_885_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1338_r0 : Index := Scalar.indexCast v934_r0
  ![1, 3, 0, v1338_r0.toNat]
def k0_off33 (k0_t1 : Fin k0_t1_loop.trips) : Fin 5 → Nat :=
  let c4_895_r0 : Index := 4#32
  let c0_i32_506_r0 : BitVec 32 := 0#32
  let c1_i32_508_r0 : BitVec 32 := 1#32
  let arg14_r0 : BitVec 32 := Scf.iv c0_i32_506_r0 c1_i32_508_r0 k0_t1
  let v1385_r0 : Index := Scalar.indexCast arg14_r0
  let c20_896_r0 : Index := 20#32
  let c0_897_r0 : Index := 0#32
  ![4, v1385_r0.toNat, 20, 0, 0]
def k0_off34 (k0_t1 : Fin k0_t1_loop.trips) : Fin 5 → Nat :=
  let c5_898_r0 : Index := 5#32
  let c0_i32_506_r0 : BitVec 32 := 0#32
  let c1_i32_508_r0 : BitVec 32 := 1#32
  let arg14_r0 : BitVec 32 := Scf.iv c0_i32_506_r0 c1_i32_508_r0 k0_t1
  let v1389_r0 : Index := Scalar.indexCast arg14_r0
  let c20_899_r0 : Index := 20#32
  let c0_900_r0 : Index := 0#32
  ![5, v1389_r0.toNat, 20, 0, 0]
def k0_off35 (k0_t1 : Fin k0_t1_loop.trips) : Fin 5 → Nat :=
  let c3_901_r0 : Index := 3#32
  let c0_i32_506_r0 : BitVec 32 := 0#32
  let c1_i32_508_r0 : BitVec 32 := 1#32
  let arg14_r0 : BitVec 32 := Scf.iv c0_i32_506_r0 c1_i32_508_r0 k0_t1
  let v1393_r0 : Index := Scalar.indexCast arg14_r0
  let c20_902_r0 : Index := 20#32
  let c0_903_r0 : Index := 0#32
  ![3, v1393_r0.toNat, 20, 0, 0]
def k0_off36 (k0_t1 : Fin k0_t1_loop.trips) : Fin 5 → Nat :=
  let c3_904_r0 : Index := 3#32
  let c0_i32_506_r0 : BitVec 32 := 0#32
  let c1_i32_508_r0 : BitVec 32 := 1#32
  let arg14_r0 : BitVec 32 := Scf.iv c0_i32_506_r0 c1_i32_508_r0 k0_t1
  let v1398_r0 : Index := Scalar.indexCast arg14_r0
  let c21_905_r0 : Index := 21#32
  let c0_906_r0 : Index := 0#32
  ![3, v1398_r0.toNat, 21, 0, 0]
def k0_off37 (k0_t1 : Fin k0_t1_loop.trips) : Fin 4 → Nat :=
  let c0_907_r0 : Index := 0#32
  let c4_908_r0 : Index := 4#32
  let c0_909_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1402_r0 : Index := Scalar.indexCast v934_r0
  ![0, 4, 0, v1402_r0.toNat]
def k0_off38 (k0_t1 : Fin k0_t1_loop.trips) : Fin 4 → Nat :=
  let c1_917_r0 : Index := 1#32
  let c4_918_r0 : Index := 4#32
  let c0_919_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1439_r0 : Index := Scalar.indexCast v934_r0
  ![1, 4, 0, v1439_r0.toNat]
def k0_off39 (k0_t1 : Fin k0_t1_loop.trips) : Fin 5 → Nat :=
  let c1_929_r0 : Index := 1#32
  let c0_i32_506_r0 : BitVec 32 := 0#32
  let c1_i32_508_r0 : BitVec 32 := 1#32
  let arg14_r0 : BitVec 32 := Scf.iv c0_i32_506_r0 c1_i32_508_r0 k0_t1
  let v1486_r0 : Index := Scalar.indexCast arg14_r0
  let c30_r0 : Index := 30#32
  let c0_930_r0 : Index := 0#32
  ![1, v1486_r0.toNat, 30, 0, 0]
def k0_off40 (k0_t1 : Fin k0_t1_loop.trips) : Fin 5 → Nat :=
  let c2_931_r0 : Index := 2#32
  let c0_i32_506_r0 : BitVec 32 := 0#32
  let c1_i32_508_r0 : BitVec 32 := 1#32
  let arg14_r0 : BitVec 32 := Scf.iv c0_i32_506_r0 c1_i32_508_r0 k0_t1
  let v1490_r0 : Index := Scalar.indexCast arg14_r0
  let c30_932_r0 : Index := 30#32
  let c0_933_r0 : Index := 0#32
  ![2, v1490_r0.toNat, 30, 0, 0]
def k0_off41 (k0_t1 : Fin k0_t1_loop.trips) : Fin 5 → Nat :=
  let c0_934_r0 : Index := 0#32
  let c0_i32_506_r0 : BitVec 32 := 0#32
  let c1_i32_508_r0 : BitVec 32 := 1#32
  let arg14_r0 : BitVec 32 := Scf.iv c0_i32_506_r0 c1_i32_508_r0 k0_t1
  let v1494_r0 : Index := Scalar.indexCast arg14_r0
  let c30_935_r0 : Index := 30#32
  let c0_936_r0 : Index := 0#32
  ![0, v1494_r0.toNat, 30, 0, 0]
def k0_off42 (k0_t1 : Fin k0_t1_loop.trips) : Fin 5 → Nat :=
  let c0_937_r0 : Index := 0#32
  let c0_i32_506_r0 : BitVec 32 := 0#32
  let c1_i32_508_r0 : BitVec 32 := 1#32
  let arg14_r0 : BitVec 32 := Scf.iv c0_i32_506_r0 c1_i32_508_r0 k0_t1
  let v1499_r0 : Index := Scalar.indexCast arg14_r0
  let c31_r0 : Index := 31#32
  let c0_938_r0 : Index := 0#32
  ![0, v1499_r0.toNat, 31, 0, 0]
def k0_off43 (k0_t1 : Fin k0_t1_loop.trips) : Fin 4 → Nat :=
  let c0_939_r0 : Index := 0#32
  let c5_940_r0 : Index := 5#32
  let c0_941_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1503_r0 : Index := Scalar.indexCast v934_r0
  ![0, 5, 0, v1503_r0.toNat]
def k0_off44 (k0_t1 : Fin k0_t1_loop.trips) : Fin 4 → Nat :=
  let c1_949_r0 : Index := 1#32
  let c5_950_r0 : Index := 5#32
  let c0_951_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1540_r0 : Index := Scalar.indexCast v934_r0
  ![1, 5, 0, v1540_r0.toNat]
def k0_off45 (k0_t1 : Fin k0_t1_loop.trips) : Fin 5 → Nat :=
  let c4_961_r0 : Index := 4#32
  let c0_i32_506_r0 : BitVec 32 := 0#32
  let c1_i32_508_r0 : BitVec 32 := 1#32
  let arg14_r0 : BitVec 32 := Scf.iv c0_i32_506_r0 c1_i32_508_r0 k0_t1
  let v1587_r0 : Index := Scalar.indexCast arg14_r0
  let c30_962_r0 : Index := 30#32
  let c0_963_r0 : Index := 0#32
  ![4, v1587_r0.toNat, 30, 0, 0]
def k0_off46 (k0_t1 : Fin k0_t1_loop.trips) : Fin 5 → Nat :=
  let c5_964_r0 : Index := 5#32
  let c0_i32_506_r0 : BitVec 32 := 0#32
  let c1_i32_508_r0 : BitVec 32 := 1#32
  let arg14_r0 : BitVec 32 := Scf.iv c0_i32_506_r0 c1_i32_508_r0 k0_t1
  let v1591_r0 : Index := Scalar.indexCast arg14_r0
  let c30_965_r0 : Index := 30#32
  let c0_966_r0 : Index := 0#32
  ![5, v1591_r0.toNat, 30, 0, 0]
def k0_off47 (k0_t1 : Fin k0_t1_loop.trips) : Fin 5 → Nat :=
  let c3_967_r0 : Index := 3#32
  let c0_i32_506_r0 : BitVec 32 := 0#32
  let c1_i32_508_r0 : BitVec 32 := 1#32
  let arg14_r0 : BitVec 32 := Scf.iv c0_i32_506_r0 c1_i32_508_r0 k0_t1
  let v1595_r0 : Index := Scalar.indexCast arg14_r0
  let c30_968_r0 : Index := 30#32
  let c0_969_r0 : Index := 0#32
  ![3, v1595_r0.toNat, 30, 0, 0]
def k0_off48 (k0_t1 : Fin k0_t1_loop.trips) : Fin 5 → Nat :=
  let c3_970_r0 : Index := 3#32
  let c0_i32_506_r0 : BitVec 32 := 0#32
  let c1_i32_508_r0 : BitVec 32 := 1#32
  let arg14_r0 : BitVec 32 := Scf.iv c0_i32_506_r0 c1_i32_508_r0 k0_t1
  let v1600_r0 : Index := Scalar.indexCast arg14_r0
  let c31_971_r0 : Index := 31#32
  let c0_972_r0 : Index := 0#32
  ![3, v1600_r0.toNat, 31, 0, 0]
def k0_off49 (k0_t1 : Fin k0_t1_loop.trips) : Fin 4 → Nat :=
  let c0_973_r0 : Index := 0#32
  let c6_974_r0 : Index := 6#32
  let c0_975_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1604_r0 : Index := Scalar.indexCast v934_r0
  ![0, 6, 0, v1604_r0.toNat]
def k0_off50 (k0_t1 : Fin k0_t1_loop.trips) : Fin 4 → Nat :=
  let c1_983_r0 : Index := 1#32
  let c6_984_r0 : Index := 6#32
  let c0_985_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1641_r0 : Index := Scalar.indexCast v934_r0
  ![1, 6, 0, v1641_r0.toNat]
def k0_off51 (k0_t1 : Fin k0_t1_loop.trips) : Fin 5 → Nat :=
  let c1_995_r0 : Index := 1#32
  let c0_i32_506_r0 : BitVec 32 := 0#32
  let c1_i32_508_r0 : BitVec 32 := 1#32
  let arg14_r0 : BitVec 32 := Scf.iv c0_i32_506_r0 c1_i32_508_r0 k0_t1
  let v1688_r0 : Index := Scalar.indexCast arg14_r0
  let c40_r0 : Index := 40#32
  let c0_996_r0 : Index := 0#32
  ![1, v1688_r0.toNat, 40, 0, 0]
def k0_off52 (k0_t1 : Fin k0_t1_loop.trips) : Fin 5 → Nat :=
  let c2_997_r0 : Index := 2#32
  let c0_i32_506_r0 : BitVec 32 := 0#32
  let c1_i32_508_r0 : BitVec 32 := 1#32
  let arg14_r0 : BitVec 32 := Scf.iv c0_i32_506_r0 c1_i32_508_r0 k0_t1
  let v1692_r0 : Index := Scalar.indexCast arg14_r0
  let c40_998_r0 : Index := 40#32
  let c0_999_r0 : Index := 0#32
  ![2, v1692_r0.toNat, 40, 0, 0]
def k0_off53 (k0_t1 : Fin k0_t1_loop.trips) : Fin 5 → Nat :=
  let c0_1000_r0 : Index := 0#32
  let c0_i32_506_r0 : BitVec 32 := 0#32
  let c1_i32_508_r0 : BitVec 32 := 1#32
  let arg14_r0 : BitVec 32 := Scf.iv c0_i32_506_r0 c1_i32_508_r0 k0_t1
  let v1696_r0 : Index := Scalar.indexCast arg14_r0
  let c40_1001_r0 : Index := 40#32
  let c0_1002_r0 : Index := 0#32
  ![0, v1696_r0.toNat, 40, 0, 0]
def k0_off54 (k0_t1 : Fin k0_t1_loop.trips) : Fin 5 → Nat :=
  let c0_1003_r0 : Index := 0#32
  let c0_i32_506_r0 : BitVec 32 := 0#32
  let c1_i32_508_r0 : BitVec 32 := 1#32
  let arg14_r0 : BitVec 32 := Scf.iv c0_i32_506_r0 c1_i32_508_r0 k0_t1
  let v1701_r0 : Index := Scalar.indexCast arg14_r0
  let c41_r0 : Index := 41#32
  let c0_1004_r0 : Index := 0#32
  ![0, v1701_r0.toNat, 41, 0, 0]
def k0_off55 (k0_t1 : Fin k0_t1_loop.trips) : Fin 4 → Nat :=
  let c0_1005_r0 : Index := 0#32
  let c7_1006_r0 : Index := 7#32
  let c0_1007_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1705_r0 : Index := Scalar.indexCast v934_r0
  ![0, 7, 0, v1705_r0.toNat]
def k0_off56 (k0_t1 : Fin k0_t1_loop.trips) : Fin 4 → Nat :=
  let c1_1015_r0 : Index := 1#32
  let c7_1016_r0 : Index := 7#32
  let c0_1017_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1742_r0 : Index := Scalar.indexCast v934_r0
  ![1, 7, 0, v1742_r0.toNat]
def k0_off57 (k0_t1 : Fin k0_t1_loop.trips) : Fin 5 → Nat :=
  let c4_1027_r0 : Index := 4#32
  let c0_i32_506_r0 : BitVec 32 := 0#32
  let c1_i32_508_r0 : BitVec 32 := 1#32
  let arg14_r0 : BitVec 32 := Scf.iv c0_i32_506_r0 c1_i32_508_r0 k0_t1
  let v1789_r0 : Index := Scalar.indexCast arg14_r0
  let c40_1028_r0 : Index := 40#32
  let c0_1029_r0 : Index := 0#32
  ![4, v1789_r0.toNat, 40, 0, 0]
def k0_off58 (k0_t1 : Fin k0_t1_loop.trips) : Fin 5 → Nat :=
  let c5_1030_r0 : Index := 5#32
  let c0_i32_506_r0 : BitVec 32 := 0#32
  let c1_i32_508_r0 : BitVec 32 := 1#32
  let arg14_r0 : BitVec 32 := Scf.iv c0_i32_506_r0 c1_i32_508_r0 k0_t1
  let v1793_r0 : Index := Scalar.indexCast arg14_r0
  let c40_1031_r0 : Index := 40#32
  let c0_1032_r0 : Index := 0#32
  ![5, v1793_r0.toNat, 40, 0, 0]
def k0_off59 (k0_t1 : Fin k0_t1_loop.trips) : Fin 5 → Nat :=
  let c3_1033_r0 : Index := 3#32
  let c0_i32_506_r0 : BitVec 32 := 0#32
  let c1_i32_508_r0 : BitVec 32 := 1#32
  let arg14_r0 : BitVec 32 := Scf.iv c0_i32_506_r0 c1_i32_508_r0 k0_t1
  let v1797_r0 : Index := Scalar.indexCast arg14_r0
  let c40_1034_r0 : Index := 40#32
  let c0_1035_r0 : Index := 0#32
  ![3, v1797_r0.toNat, 40, 0, 0]
def k0_off60 (k0_t1 : Fin k0_t1_loop.trips) : Fin 5 → Nat :=
  let c3_1036_r0 : Index := 3#32
  let c0_i32_506_r0 : BitVec 32 := 0#32
  let c1_i32_508_r0 : BitVec 32 := 1#32
  let arg14_r0 : BitVec 32 := Scf.iv c0_i32_506_r0 c1_i32_508_r0 k0_t1
  let v1802_r0 : Index := Scalar.indexCast arg14_r0
  let c41_1037_r0 : Index := 41#32
  let c0_1038_r0 : Index := 0#32
  ![3, v1802_r0.toNat, 41, 0, 0]
def k0_off61 (k0_t1 : Fin k0_t1_loop.trips) : Fin 4 → Nat :=
  let c0_1039_r0 : Index := 0#32
  let c8_1040_r0 : Index := 8#32
  let c0_1041_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1806_r0 : Index := Scalar.indexCast v934_r0
  ![0, 8, 0, v1806_r0.toNat]
def k0_off62 (k0_t1 : Fin k0_t1_loop.trips) : Fin 4 → Nat :=
  let c1_1049_r0 : Index := 1#32
  let c8_1050_r0 : Index := 8#32
  let c0_1051_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1843_r0 : Index := Scalar.indexCast v934_r0
  ![1, 8, 0, v1843_r0.toNat]
def k0_off63 (k0_t1 : Fin k0_t1_loop.trips) : Fin 5 → Nat :=
  let c1_1061_r0 : Index := 1#32
  let c0_i32_506_r0 : BitVec 32 := 0#32
  let c1_i32_508_r0 : BitVec 32 := 1#32
  let arg14_r0 : BitVec 32 := Scf.iv c0_i32_506_r0 c1_i32_508_r0 k0_t1
  let v1890_r0 : Index := Scalar.indexCast arg14_r0
  let c50_r0 : Index := 50#32
  let c0_1062_r0 : Index := 0#32
  ![1, v1890_r0.toNat, 50, 0, 0]
def k0_off64 (k0_t1 : Fin k0_t1_loop.trips) : Fin 5 → Nat :=
  let c2_1063_r0 : Index := 2#32
  let c0_i32_506_r0 : BitVec 32 := 0#32
  let c1_i32_508_r0 : BitVec 32 := 1#32
  let arg14_r0 : BitVec 32 := Scf.iv c0_i32_506_r0 c1_i32_508_r0 k0_t1
  let v1894_r0 : Index := Scalar.indexCast arg14_r0
  let c50_1064_r0 : Index := 50#32
  let c0_1065_r0 : Index := 0#32
  ![2, v1894_r0.toNat, 50, 0, 0]
def k0_off65 (k0_t1 : Fin k0_t1_loop.trips) : Fin 5 → Nat :=
  let c0_1066_r0 : Index := 0#32
  let c0_i32_506_r0 : BitVec 32 := 0#32
  let c1_i32_508_r0 : BitVec 32 := 1#32
  let arg14_r0 : BitVec 32 := Scf.iv c0_i32_506_r0 c1_i32_508_r0 k0_t1
  let v1898_r0 : Index := Scalar.indexCast arg14_r0
  let c50_1067_r0 : Index := 50#32
  let c0_1068_r0 : Index := 0#32
  ![0, v1898_r0.toNat, 50, 0, 0]
def k0_off66 (k0_t1 : Fin k0_t1_loop.trips) : Fin 5 → Nat :=
  let c0_1069_r0 : Index := 0#32
  let c0_i32_506_r0 : BitVec 32 := 0#32
  let c1_i32_508_r0 : BitVec 32 := 1#32
  let arg14_r0 : BitVec 32 := Scf.iv c0_i32_506_r0 c1_i32_508_r0 k0_t1
  let v1903_r0 : Index := Scalar.indexCast arg14_r0
  let c51_r0 : Index := 51#32
  let c0_1070_r0 : Index := 0#32
  ![0, v1903_r0.toNat, 51, 0, 0]
def k0_off67 (k0_t1 : Fin k0_t1_loop.trips) : Fin 4 → Nat :=
  let c0_1071_r0 : Index := 0#32
  let c9_1072_r0 : Index := 9#32
  let c0_1073_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1907_r0 : Index := Scalar.indexCast v934_r0
  ![0, 9, 0, v1907_r0.toNat]
def k0_off68 (k0_t1 : Fin k0_t1_loop.trips) : Fin 4 → Nat :=
  let c1_1081_r0 : Index := 1#32
  let c9_1082_r0 : Index := 9#32
  let c0_1083_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v1944_r0 : Index := Scalar.indexCast v934_r0
  ![1, 9, 0, v1944_r0.toNat]
def k0_off69 (k0_t1 : Fin k0_t1_loop.trips) : Fin 5 → Nat :=
  let c4_1093_r0 : Index := 4#32
  let c0_i32_506_r0 : BitVec 32 := 0#32
  let c1_i32_508_r0 : BitVec 32 := 1#32
  let arg14_r0 : BitVec 32 := Scf.iv c0_i32_506_r0 c1_i32_508_r0 k0_t1
  let v1991_r0 : Index := Scalar.indexCast arg14_r0
  let c50_1094_r0 : Index := 50#32
  let c0_1095_r0 : Index := 0#32
  ![4, v1991_r0.toNat, 50, 0, 0]
def k0_off70 (k0_t1 : Fin k0_t1_loop.trips) : Fin 5 → Nat :=
  let c5_1096_r0 : Index := 5#32
  let c0_i32_506_r0 : BitVec 32 := 0#32
  let c1_i32_508_r0 : BitVec 32 := 1#32
  let arg14_r0 : BitVec 32 := Scf.iv c0_i32_506_r0 c1_i32_508_r0 k0_t1
  let v1995_r0 : Index := Scalar.indexCast arg14_r0
  let c50_1097_r0 : Index := 50#32
  let c0_1098_r0 : Index := 0#32
  ![5, v1995_r0.toNat, 50, 0, 0]
def k0_off71 (k0_t1 : Fin k0_t1_loop.trips) : Fin 5 → Nat :=
  let c3_1099_r0 : Index := 3#32
  let c0_i32_506_r0 : BitVec 32 := 0#32
  let c1_i32_508_r0 : BitVec 32 := 1#32
  let arg14_r0 : BitVec 32 := Scf.iv c0_i32_506_r0 c1_i32_508_r0 k0_t1
  let v1999_r0 : Index := Scalar.indexCast arg14_r0
  let c50_1100_r0 : Index := 50#32
  let c0_1101_r0 : Index := 0#32
  ![3, v1999_r0.toNat, 50, 0, 0]
def k0_off72 (k0_t1 : Fin k0_t1_loop.trips) : Fin 5 → Nat :=
  let c3_1102_r0 : Index := 3#32
  let c0_i32_506_r0 : BitVec 32 := 0#32
  let c1_i32_508_r0 : BitVec 32 := 1#32
  let arg14_r0 : BitVec 32 := Scf.iv c0_i32_506_r0 c1_i32_508_r0 k0_t1
  let v2004_r0 : Index := Scalar.indexCast arg14_r0
  let c51_1103_r0 : Index := 51#32
  let c0_1104_r0 : Index := 0#32
  ![3, v2004_r0.toNat, 51, 0, 0]
def k0_off73 (k0_t1 : Fin k0_t1_loop.trips) : Fin 4 → Nat :=
  let c0_1105_r0 : Index := 0#32
  let c10_1106_r0 : Index := 10#32
  let c0_1107_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v2008_r0 : Index := Scalar.indexCast v934_r0
  ![0, 10, 0, v2008_r0.toNat]
def k0_off74 (k0_t1 : Fin k0_t1_loop.trips) : Fin 4 → Nat :=
  let c1_1115_r0 : Index := 1#32
  let c10_1116_r0 : Index := 10#32
  let c0_1117_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v2045_r0 : Index := Scalar.indexCast v934_r0
  ![1, 10, 0, v2045_r0.toNat]
def k0_off75 (k0_t1 : Fin k0_t1_loop.trips) : Fin 5 → Nat :=
  let c1_1127_r0 : Index := 1#32
  let c0_i32_506_r0 : BitVec 32 := 0#32
  let c1_i32_508_r0 : BitVec 32 := 1#32
  let arg14_r0 : BitVec 32 := Scf.iv c0_i32_506_r0 c1_i32_508_r0 k0_t1
  let v2092_r0 : Index := Scalar.indexCast arg14_r0
  let c60_r0 : Index := 60#32
  let c0_1128_r0 : Index := 0#32
  ![1, v2092_r0.toNat, 60, 0, 0]
def k0_off76 (k0_t1 : Fin k0_t1_loop.trips) : Fin 5 → Nat :=
  let c2_1129_r0 : Index := 2#32
  let c0_i32_506_r0 : BitVec 32 := 0#32
  let c1_i32_508_r0 : BitVec 32 := 1#32
  let arg14_r0 : BitVec 32 := Scf.iv c0_i32_506_r0 c1_i32_508_r0 k0_t1
  let v2096_r0 : Index := Scalar.indexCast arg14_r0
  let c60_1130_r0 : Index := 60#32
  let c0_1131_r0 : Index := 0#32
  ![2, v2096_r0.toNat, 60, 0, 0]
def k0_off77 (k0_t1 : Fin k0_t1_loop.trips) : Fin 5 → Nat :=
  let c0_1132_r0 : Index := 0#32
  let c0_i32_506_r0 : BitVec 32 := 0#32
  let c1_i32_508_r0 : BitVec 32 := 1#32
  let arg14_r0 : BitVec 32 := Scf.iv c0_i32_506_r0 c1_i32_508_r0 k0_t1
  let v2100_r0 : Index := Scalar.indexCast arg14_r0
  let c60_1133_r0 : Index := 60#32
  let c0_1134_r0 : Index := 0#32
  ![0, v2100_r0.toNat, 60, 0, 0]
def k0_off78 (k0_t1 : Fin k0_t1_loop.trips) : Fin 5 → Nat :=
  let c0_1135_r0 : Index := 0#32
  let c0_i32_506_r0 : BitVec 32 := 0#32
  let c1_i32_508_r0 : BitVec 32 := 1#32
  let arg14_r0 : BitVec 32 := Scf.iv c0_i32_506_r0 c1_i32_508_r0 k0_t1
  let v2105_r0 : Index := Scalar.indexCast arg14_r0
  let c61_r0 : Index := 61#32
  let c0_1136_r0 : Index := 0#32
  ![0, v2105_r0.toNat, 61, 0, 0]
def k0_off79 (k0_t1 : Fin k0_t1_loop.trips) : Fin 4 → Nat :=
  let c0_1137_r0 : Index := 0#32
  let c11_1138_r0 : Index := 11#32
  let c0_1139_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v2109_r0 : Index := Scalar.indexCast v934_r0
  ![0, 11, 0, v2109_r0.toNat]
def k0_off80 (k0_t1 : Fin k0_t1_loop.trips) : Fin 4 → Nat :=
  let c1_1147_r0 : Index := 1#32
  let c11_1148_r0 : Index := 11#32
  let c0_1149_r0 : Index := 0#32
  let c0_i32_506_r0 : BitVec 32 := 0#32
  let c1_i32_508_r0 : BitVec 32 := 1#32
  let arg14_r0 : BitVec 32 := Scf.iv c0_i32_506_r0 c1_i32_508_r0 k0_t1
  let c128_i32_r0 : BitVec 32 := 128#32
  let v933_r0 : BitVec 32 := Scalar.muli arg14_r0 c128_i32_r0
  let v934_r0 : BitVec 32 := v933_r0
  let v2146_r0 : Index := Scalar.indexCast v934_r0
  ![1, 11, 0, v2146_r0.toNat]
def k0_off81 (k0_t1 : Fin k0_t1_loop.trips) : Fin 5 → Nat :=
  let c4_1159_r0 : Index := 4#32
  let c0_i32_506_r0 : BitVec 32 := 0#32
  let c1_i32_508_r0 : BitVec 32 := 1#32
  let arg14_r0 : BitVec 32 := Scf.iv c0_i32_506_r0 c1_i32_508_r0 k0_t1
  let v2193_r0 : Index := Scalar.indexCast arg14_r0
  let c60_1160_r0 : Index := 60#32
  let c0_1161_r0 : Index := 0#32
  ![4, v2193_r0.toNat, 60, 0, 0]
def k0_off82 (k0_t1 : Fin k0_t1_loop.trips) : Fin 5 → Nat :=
  let c5_1162_r0 : Index := 5#32
  let c0_i32_506_r0 : BitVec 32 := 0#32
  let c1_i32_508_r0 : BitVec 32 := 1#32
  let arg14_r0 : BitVec 32 := Scf.iv c0_i32_506_r0 c1_i32_508_r0 k0_t1
  let v2197_r0 : Index := Scalar.indexCast arg14_r0
  let c60_1163_r0 : Index := 60#32
  let c0_1164_r0 : Index := 0#32
  ![5, v2197_r0.toNat, 60, 0, 0]
def k0_off83 (k0_t1 : Fin k0_t1_loop.trips) : Fin 5 → Nat :=
  let c3_1165_r0 : Index := 3#32
  let c0_i32_506_r0 : BitVec 32 := 0#32
  let c1_i32_508_r0 : BitVec 32 := 1#32
  let arg14_r0 : BitVec 32 := Scf.iv c0_i32_506_r0 c1_i32_508_r0 k0_t1
  let v2201_r0 : Index := Scalar.indexCast arg14_r0
  let c60_1166_r0 : Index := 60#32
  let c0_1167_r0 : Index := 0#32
  ![3, v2201_r0.toNat, 60, 0, 0]
def k0_off84 (k0_t1 : Fin k0_t1_loop.trips) : Fin 5 → Nat :=
  let c3_1168_r0 : Index := 3#32
  let c0_i32_506_r0 : BitVec 32 := 0#32
  let c1_i32_508_r0 : BitVec 32 := 1#32
  let arg14_r0 : BitVec 32 := Scf.iv c0_i32_506_r0 c1_i32_508_r0 k0_t1
  let v2206_r0 : Index := Scalar.indexCast arg14_r0
  let c61_1169_r0 : Index := 61#32
  let c0_1170_r0 : Index := 0#32
  ![3, v2206_r0.toNat, 61, 0, 0]
@[reducible] def k0_t2_loop : Scf.Loop 32 :=
  let c0_i32_511_r0 : BitVec 32 := 0#32
  let c36_i32_r0 : BitVec 32 := 36#32
  let v612_r0 : BitVec 32 := Scalar.addi c0_i32_511_r0 c36_i32_r0
  let c1_i32_512_r0 : BitVec 32 := 1#32
  ⟨c0_i32_511_r0, v612_r0, c1_i32_512_r0⟩
def k0_cond1 (k0_t2 : Fin k0_t2_loop.trips) : BitVec 1 :=
  let c0_i32_511_r0 : BitVec 32 := 0#32
  let c1_i32_512_r0 : BitVec 32 := 1#32
  let arg14_r0 : BitVec 32 := Scf.iv c0_i32_511_r0 c1_i32_512_r0 k0_t2
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let c0_i32_755_r0 : BitVec 32 := 0#32
  let v992_r0 : BitVec 1 := Scalar.cmpi .eq v949_r0 c0_i32_755_r0
  let v993_r0 : BitVec 32 := Scalar.extui v992_r0
  let c0_i32_756_r0 : BitVec 32 := 0#32
  let v994_r0 : BitVec 1 := Scalar.cmpi .ne v993_r0 c0_i32_756_r0
  v994_r0

def k0_off85 (k0_t2 : Fin k0_t2_loop.trips) : Fin 1 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  ![v959_r0.toNat]
def k0_off86 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_1050_r0 : BitVec 32 := 0#32
  let c0_i32_1051_r0 : BitVec 32 := 0#32
  ![v959_r0.toNat, 0, 0]
def k0_off87 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_1038_r0 : BitVec 32 := 0#32
  let v1930_r0 : BitVec 1 := Scalar.cmpi .sgt v959_r0 c0_i32_1038_r0
  let v1931_r0 : BitVec 32 := Scalar.extui v1930_r0
  let c0_i32_1039_r0 : BitVec 32 := 0#32
  let v1932_r0 : BitVec 1 := Scalar.cmpi .slt v959_r0 c0_i32_1039_r0
  let v1933_r0 : BitVec 32 := Scalar.extui v1932_r0
  let v1934_r0 : BitVec 32 := Scalar.subi v1931_r0 v1933_r0
  let c3_i32_1037_r0 : BitVec 32 := 3#32
  let c0_i32_1040_r0 : BitVec 32 := 0#32
  let v1935_r0 : BitVec 1 := Scalar.cmpi .sgt c3_i32_1037_r0 c0_i32_1040_r0
  let v1936_r0 : BitVec 32 := Scalar.extui v1935_r0
  let c0_i32_1041_r0 : BitVec 32 := 0#32
  let v1937_r0 : BitVec 1 := Scalar.cmpi .slt c3_i32_1037_r0 c0_i32_1041_r0
  let v1938_r0 : BitVec 32 := Scalar.extui v1937_r0
  let v1939_r0 : BitVec 32 := Scalar.subi v1936_r0 v1938_r0
  let v1940_r0 : BitVec 1 := Scalar.cmpi .ne v1934_r0 v1939_r0
  let v1941_r0 : BitVec 32 := Scalar.remsi v959_r0 c3_i32_1037_r0
  let c0_i32_1042_r0 : BitVec 32 := 0#32
  let v1942_r0 : BitVec 1 := Scalar.cmpi .ne v1941_r0 c0_i32_1042_r0
  let v1943_r0 : BitVec 1 := Scalar.andi v1940_r0 v1942_r0
  let v1929_r0 : BitVec 32 := Scalar.divsi v959_r0 c3_i32_1037_r0
  let c1_i32_1043_r0 : BitVec 32 := 1#32
  let v1944_r0 : BitVec 32 := Scalar.subi v1929_r0 c1_i32_1043_r0
  let v1945_r0 : BitVec 32 := Scalar.select v1943_r0 v1944_r0 v1929_r0
  let c3_i32_1044_r0 : BitVec 32 := 3#32
  let c0_i32_1045_r0 : BitVec 32 := 0#32
  let v1946_r0 : BitVec 1 := Scalar.cmpi .eq c3_i32_1044_r0 c0_i32_1045_r0
  let c1_i32_1046_r0 : BitVec 32 := 1#32
  let v1947_r0 : BitVec 32 := Scalar.select v1946_r0 c1_i32_1046_r0 c3_i32_1044_r0
  let v1948_r0 : BitVec 32 := Scalar.remsi v959_r0 v1947_r0
  let c0_i32_1048_r0 : BitVec 32 := 0#32
  let v1950_r0 : BitVec 1 := Scalar.cmpi .slt v1948_r0 c0_i32_1048_r0
  let c0_i32_1049_r0 : BitVec 32 := 0#32
  let v1951_r0 : BitVec 1 := Scalar.cmpi .slt v1947_r0 c0_i32_1049_r0
  let v1952_r0 : BitVec 1 := Scalar.xori v1950_r0 v1951_r0
  let c0_i32_1047_r0 : BitVec 32 := 0#32
  let v1949_r0 : BitVec 1 := Scalar.cmpi .ne v1948_r0 c0_i32_1047_r0
  let v1953_r0 : BitVec 1 := Scalar.andi v1952_r0 v1949_r0
  let v1954_r0 : BitVec 32 := Scalar.addi v1948_r0 v1947_r0
  let v1955_r0 : BitVec 32 := Scalar.select v1953_r0 v1954_r0 v1948_r0
  let c0_i32_1052_r0 : BitVec 32 := 0#32
  let c0_i32_1053_r0 : BitVec 32 := 0#32
  ![v1945_r0.toNat, v1955_r0.toNat, 0, 0]
def k0_mult38 (k0_t2 : Fin k0_t2_loop.trips) : BitVec 32 :=
  let c0_i32_511_r0 : BitVec 32 := 0#32
  let c1_i32_512_r0 : BitVec 32 := 1#32
  let arg14_r0 : BitVec 32 := Scf.iv c0_i32_511_r0 c1_i32_512_r0 k0_t2
  let c0_i32_758_r0 : BitVec 32 := 0#32
  let v996_r0 : BitVec 1 := Scalar.cmpi .sgt arg14_r0 c0_i32_758_r0
  let v997_r0 : BitVec 32 := Scalar.extui v996_r0
  let c0_i32_759_r0 : BitVec 32 := 0#32
  let v998_r0 : BitVec 1 := Scalar.cmpi .slt arg14_r0 c0_i32_759_r0
  let v999_r0 : BitVec 32 := Scalar.extui v998_r0
  let v1000_r0 : BitVec 32 := Scalar.subi v997_r0 v999_r0
  let c9_i32_757_r0 : BitVec 32 := 9#32
  let c0_i32_760_r0 : BitVec 32 := 0#32
  let v1001_r0 : BitVec 1 := Scalar.cmpi .sgt c9_i32_757_r0 c0_i32_760_r0
  let v1002_r0 : BitVec 32 := Scalar.extui v1001_r0
  let c0_i32_761_r0 : BitVec 32 := 0#32
  let v1003_r0 : BitVec 1 := Scalar.cmpi .slt c9_i32_757_r0 c0_i32_761_r0
  let v1004_r0 : BitVec 32 := Scalar.extui v1003_r0
  let v1005_r0 : BitVec 32 := Scalar.subi v1002_r0 v1004_r0
  let v1006_r0 : BitVec 1 := Scalar.cmpi .ne v1000_r0 v1005_r0
  let v1007_r0 : BitVec 32 := Scalar.remsi arg14_r0 c9_i32_757_r0
  let c0_i32_762_r0 : BitVec 32 := 0#32
  let v1008_r0 : BitVec 1 := Scalar.cmpi .ne v1007_r0 c0_i32_762_r0
  let v1009_r0 : BitVec 1 := Scalar.andi v1006_r0 v1008_r0
  let v995_r0 : BitVec 32 := Scalar.divsi arg14_r0 c9_i32_757_r0
  let c1_i32_763_r0 : BitVec 32 := 1#32
  let v1010_r0 : BitVec 32 := Scalar.subi v995_r0 c1_i32_763_r0
  let v1011_r0 : BitVec 32 := Scalar.select v1009_r0 v1010_r0 v995_r0
  let c512_i32_783_r0 : BitVec 32 := 512#32
  let v1049_r0 : BitVec 32 := Scalar.muli v1011_r0 c512_i32_783_r0
  v1049_r0
def k0_off88 (k0_t2 : Fin k0_t2_loop.trips) : Fin 1 → Nat :=
  let c0_i32_511_r0 : BitVec 32 := 0#32
  let c1_i32_512_r0 : BitVec 32 := 1#32
  let arg14_r0 : BitVec 32 := Scf.iv c0_i32_511_r0 c1_i32_512_r0 k0_t2
  ![arg14_r0.toNat]
def k0_off89 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c0_i32_784_r0 : BitVec 32 := 0#32
  let c0_i32_785_r0 : BitVec 32 := 0#32
  ![arg14_r0.toNat, 0, 0]
def k0_off90 (k0_t2 : Fin k0_t2_loop.trips) : Fin 4 → Nat :=
  let c0_i32_511_r0 : BitVec 32 := 0#32
  let c1_i32_512_r0 : BitVec 32 := 1#32
  let arg14_r0 : BitVec 32 := Scf.iv c0_i32_511_r0 c1_i32_512_r0 k0_t2
  let c9_i32_764_r0 : BitVec 32 := 9#32
  let c0_i32_765_r0 : BitVec 32 := 0#32
  let v1012_r0 : BitVec 1 := Scalar.cmpi .eq c9_i32_764_r0 c0_i32_765_r0
  let c1_i32_766_r0 : BitVec 32 := 1#32
  let v1013_r0 : BitVec 32 := Scalar.select v1012_r0 c1_i32_766_r0 c9_i32_764_r0
  let v1014_r0 : BitVec 32 := Scalar.remsi arg14_r0 v1013_r0
  let c0_i32_768_r0 : BitVec 32 := 0#32
  let v1016_r0 : BitVec 1 := Scalar.cmpi .slt v1014_r0 c0_i32_768_r0
  let c0_i32_769_r0 : BitVec 32 := 0#32
  let v1017_r0 : BitVec 1 := Scalar.cmpi .slt v1013_r0 c0_i32_769_r0
  let v1018_r0 : BitVec 1 := Scalar.xori v1016_r0 v1017_r0
  let c0_i32_767_r0 : BitVec 32 := 0#32
  let v1015_r0 : BitVec 1 := Scalar.cmpi .ne v1014_r0 c0_i32_767_r0
  let v1019_r0 : BitVec 1 := Scalar.andi v1018_r0 v1015_r0
  let v1020_r0 : BitVec 32 := Scalar.addi v1014_r0 v1013_r0
  let v1021_r0 : BitVec 32 := Scalar.select v1019_r0 v1020_r0 v1014_r0
  let c0_i32_771_r0 : BitVec 32 := 0#32
  let v1023_r0 : BitVec 1 := Scalar.cmpi .sgt v1021_r0 c0_i32_771_r0
  let v1024_r0 : BitVec 32 := Scalar.extui v1023_r0
  let c0_i32_772_r0 : BitVec 32 := 0#32
  let v1025_r0 : BitVec 1 := Scalar.cmpi .slt v1021_r0 c0_i32_772_r0
  let v1026_r0 : BitVec 32 := Scalar.extui v1025_r0
  let v1027_r0 : BitVec 32 := Scalar.subi v1024_r0 v1026_r0
  let c3_i32_770_r0 : BitVec 32 := 3#32
  let c0_i32_773_r0 : BitVec 32 := 0#32
  let v1028_r0 : BitVec 1 := Scalar.cmpi .sgt c3_i32_770_r0 c0_i32_773_r0
  let v1029_r0 : BitVec 32 := Scalar.extui v1028_r0
  let c0_i32_774_r0 : BitVec 32 := 0#32
  let v1030_r0 : BitVec 1 := Scalar.cmpi .slt c3_i32_770_r0 c0_i32_774_r0
  let v1031_r0 : BitVec 32 := Scalar.extui v1030_r0
  let v1032_r0 : BitVec 32 := Scalar.subi v1029_r0 v1031_r0
  let v1033_r0 : BitVec 1 := Scalar.cmpi .ne v1027_r0 v1032_r0
  let v1034_r0 : BitVec 32 := Scalar.remsi v1021_r0 c3_i32_770_r0
  let c0_i32_775_r0 : BitVec 32 := 0#32
  let v1035_r0 : BitVec 1 := Scalar.cmpi .ne v1034_r0 c0_i32_775_r0
  let v1036_r0 : BitVec 1 := Scalar.andi v1033_r0 v1035_r0
  let v1022_r0 : BitVec 32 := Scalar.divsi v1021_r0 c3_i32_770_r0
  let c1_i32_776_r0 : BitVec 32 := 1#32
  let v1037_r0 : BitVec 32 := Scalar.subi v1022_r0 c1_i32_776_r0
  let v1038_r0 : BitVec 32 := Scalar.select v1036_r0 v1037_r0 v1022_r0
  let c3_i32_777_r0 : BitVec 32 := 3#32
  let c0_i32_778_r0 : BitVec 32 := 0#32
  let v1039_r0 : BitVec 1 := Scalar.cmpi .eq c3_i32_777_r0 c0_i32_778_r0
  let c1_i32_779_r0 : BitVec 32 := 1#32
  let v1040_r0 : BitVec 32 := Scalar.select v1039_r0 c1_i32_779_r0 c3_i32_777_r0
  let v1041_r0 : BitVec 32 := Scalar.remsi v1021_r0 v1040_r0
  let c0_i32_781_r0 : BitVec 32 := 0#32
  let v1043_r0 : BitVec 1 := Scalar.cmpi .slt v1041_r0 c0_i32_781_r0
  let c0_i32_782_r0 : BitVec 32 := 0#32
  let v1044_r0 : BitVec 1 := Scalar.cmpi .slt v1040_r0 c0_i32_782_r0
  let v1045_r0 : BitVec 1 := Scalar.xori v1043_r0 v1044_r0
  let c0_i32_780_r0 : BitVec 32 := 0#32
  let v1042_r0 : BitVec 1 := Scalar.cmpi .ne v1041_r0 c0_i32_780_r0
  let v1046_r0 : BitVec 1 := Scalar.andi v1045_r0 v1042_r0
  let v1047_r0 : BitVec 32 := Scalar.addi v1041_r0 v1040_r0
  let v1048_r0 : BitVec 32 := Scalar.select v1046_r0 v1047_r0 v1041_r0
  let c0_i32_786_r0 : BitVec 32 := 0#32
  let c0_i32_758_r0 : BitVec 32 := 0#32
  let v996_r0 : BitVec 1 := Scalar.cmpi .sgt arg14_r0 c0_i32_758_r0
  let v997_r0 : BitVec 32 := Scalar.extui v996_r0
  let c0_i32_759_r0 : BitVec 32 := 0#32
  let v998_r0 : BitVec 1 := Scalar.cmpi .slt arg14_r0 c0_i32_759_r0
  let v999_r0 : BitVec 32 := Scalar.extui v998_r0
  let v1000_r0 : BitVec 32 := Scalar.subi v997_r0 v999_r0
  let c9_i32_757_r0 : BitVec 32 := 9#32
  let c0_i32_760_r0 : BitVec 32 := 0#32
  let v1001_r0 : BitVec 1 := Scalar.cmpi .sgt c9_i32_757_r0 c0_i32_760_r0
  let v1002_r0 : BitVec 32 := Scalar.extui v1001_r0
  let c0_i32_761_r0 : BitVec 32 := 0#32
  let v1003_r0 : BitVec 1 := Scalar.cmpi .slt c9_i32_757_r0 c0_i32_761_r0
  let v1004_r0 : BitVec 32 := Scalar.extui v1003_r0
  let v1005_r0 : BitVec 32 := Scalar.subi v1002_r0 v1004_r0
  let v1006_r0 : BitVec 1 := Scalar.cmpi .ne v1000_r0 v1005_r0
  let v1007_r0 : BitVec 32 := Scalar.remsi arg14_r0 c9_i32_757_r0
  let c0_i32_762_r0 : BitVec 32 := 0#32
  let v1008_r0 : BitVec 1 := Scalar.cmpi .ne v1007_r0 c0_i32_762_r0
  let v1009_r0 : BitVec 1 := Scalar.andi v1006_r0 v1008_r0
  let v995_r0 : BitVec 32 := Scalar.divsi arg14_r0 c9_i32_757_r0
  let c1_i32_763_r0 : BitVec 32 := 1#32
  let v1010_r0 : BitVec 32 := Scalar.subi v995_r0 c1_i32_763_r0
  let v1011_r0 : BitVec 32 := Scalar.select v1009_r0 v1010_r0 v995_r0
  let c512_i32_783_r0 : BitVec 32 := 512#32
  let v1049_r0 : BitVec 32 := Scalar.muli v1011_r0 c512_i32_783_r0
  let v1050_r0 : BitVec 32 := v1049_r0
  ![v1038_r0.toNat, v1048_r0.toNat, 0, v1050_r0.toNat]
def k0_mult39 (k0_t2 : Fin k0_t2_loop.trips) : BitVec 32 :=
  let c0_i32_511_r0 : BitVec 32 := 0#32
  let c1_i32_512_r0 : BitVec 32 := 1#32
  let arg14_r0 : BitVec 32 := Scf.iv c0_i32_511_r0 c1_i32_512_r0 k0_t2
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let c512_i32_787_r0 : BitVec 32 := 512#32
  let v1057_r0 : BitVec 32 := Scalar.muli v949_r0 c512_i32_787_r0
  v1057_r0
def k0_off91 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let v1059_r0 : Index := Scalar.indexCast v959_r0
  let c0_788_r0 : Index := 0#32
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let c512_i32_787_r0 : BitVec 32 := 512#32
  let v1057_r0 : BitVec 32 := Scalar.muli v949_r0 c512_i32_787_r0
  let v1058_r0 : BitVec 32 := v1057_r0
  let v1060_r0 : Index := Scalar.indexCast v1058_r0
  ![v1059_r0.toNat, 0, v1060_r0.toNat]
def k0_off92 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1073_r0 : Index := Scalar.indexCast v989_r0
  let c0_793_r0 : Index := 0#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1074_r0 : Index := Scalar.indexCast v991_r0
  let c0_794_r0 : Index := 0#32
  ![v1073_r0.toNat, 0, v1074_r0.toNat, 0, 0]
def k0_off93 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1077_r0 : Index := Scalar.indexCast v989_r0
  let c1_795_r0 : Index := 1#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1078_r0 : Index := Scalar.indexCast v991_r0
  let c0_796_r0 : Index := 0#32
  ![v1077_r0.toNat, 1, v1078_r0.toNat, 0, 0]
def k0_off94 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1086_r0 : Index := Scalar.indexCast arg14_r0
  let c0_799_r0 : Index := 0#32
  let c0_800_r0 : Index := 0#32
  ![v1086_r0.toNat, 0, 0]
def k0_off95 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1095_r0 : Index := Scalar.indexCast arg14_r0
  let c32_r0 : Index := 32#32
  let c0_803_r0 : Index := 0#32
  ![v1095_r0.toNat, 32, 0]
def k0_off96 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1104_r0 : Index := Scalar.indexCast arg14_r0
  let c64_r0 : Index := 64#32
  let c0_806_r0 : Index := 0#32
  ![v1104_r0.toNat, 64, 0]
def k0_off97 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1113_r0 : Index := Scalar.indexCast arg14_r0
  let c96_r0 : Index := 96#32
  let c0_809_r0 : Index := 0#32
  ![v1113_r0.toNat, 96, 0]
def k0_off98 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1122_r0 : Index := Scalar.indexCast arg14_r0
  let c128_r0 : Index := 128#32
  let c0_812_r0 : Index := 0#32
  ![v1122_r0.toNat, 128, 0]
def k0_off99 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1131_r0 : Index := Scalar.indexCast arg14_r0
  let c160_r0 : Index := 160#32
  let c0_815_r0 : Index := 0#32
  ![v1131_r0.toNat, 160, 0]
def k0_off100 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1140_r0 : Index := Scalar.indexCast arg14_r0
  let c192_r0 : Index := 192#32
  let c0_818_r0 : Index := 0#32
  ![v1140_r0.toNat, 192, 0]
def k0_off101 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1149_r0 : Index := Scalar.indexCast arg14_r0
  let c224_r0 : Index := 224#32
  let c0_821_r0 : Index := 0#32
  ![v1149_r0.toNat, 224, 0]
def k0_off102 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1158_r0 : Index := Scalar.indexCast v989_r0
  let c2_823_r0 : Index := 2#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1159_r0 : Index := Scalar.indexCast v991_r0
  let c0_824_r0 : Index := 0#32
  ![v1158_r0.toNat, 2, v1159_r0.toNat, 0, 0]
def k0_off103 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1162_r0 : Index := Scalar.indexCast v989_r0
  let c3_825_r0 : Index := 3#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1163_r0 : Index := Scalar.indexCast v991_r0
  let c0_826_r0 : Index := 0#32
  ![v1162_r0.toNat, 3, v1163_r0.toNat, 0, 0]
def k0_off104 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1171_r0 : Index := Scalar.indexCast arg14_r0
  let c256_r0 : Index := 256#32
  let c0_829_r0 : Index := 0#32
  ![v1171_r0.toNat, 256, 0]
def k0_off105 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1180_r0 : Index := Scalar.indexCast arg14_r0
  let c288_r0 : Index := 288#32
  let c0_832_r0 : Index := 0#32
  ![v1180_r0.toNat, 288, 0]
def k0_off106 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1189_r0 : Index := Scalar.indexCast arg14_r0
  let c320_r0 : Index := 320#32
  let c0_835_r0 : Index := 0#32
  ![v1189_r0.toNat, 320, 0]
def k0_off107 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1198_r0 : Index := Scalar.indexCast arg14_r0
  let c352_r0 : Index := 352#32
  let c0_838_r0 : Index := 0#32
  ![v1198_r0.toNat, 352, 0]
def k0_off108 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1207_r0 : Index := Scalar.indexCast arg14_r0
  let c384_r0 : Index := 384#32
  let c0_841_r0 : Index := 0#32
  ![v1207_r0.toNat, 384, 0]
def k0_off109 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1216_r0 : Index := Scalar.indexCast arg14_r0
  let c416_r0 : Index := 416#32
  let c0_844_r0 : Index := 0#32
  ![v1216_r0.toNat, 416, 0]
def k0_off110 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1225_r0 : Index := Scalar.indexCast arg14_r0
  let c448_r0 : Index := 448#32
  let c0_847_r0 : Index := 0#32
  ![v1225_r0.toNat, 448, 0]
def k0_off111 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1234_r0 : Index := Scalar.indexCast arg14_r0
  let c480_r0 : Index := 480#32
  let c0_850_r0 : Index := 0#32
  ![v1234_r0.toNat, 480, 0]
def k0_off112 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1243_r0 : Index := Scalar.indexCast v989_r0
  let c4_852_r0 : Index := 4#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1244_r0 : Index := Scalar.indexCast v991_r0
  let c0_853_r0 : Index := 0#32
  ![v1243_r0.toNat, 4, v1244_r0.toNat, 0, 0]
def k0_off113 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1247_r0 : Index := Scalar.indexCast v989_r0
  let c5_854_r0 : Index := 5#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1248_r0 : Index := Scalar.indexCast v991_r0
  let c0_855_r0 : Index := 0#32
  ![v1247_r0.toNat, 5, v1248_r0.toNat, 0, 0]
def k0_off114 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1256_r0 : Index := Scalar.indexCast arg14_r0
  let c512_858_r0 : Index := 512#32
  let c0_859_r0 : Index := 0#32
  ![v1256_r0.toNat, 512, 0]
def k0_off115 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1265_r0 : Index := Scalar.indexCast arg14_r0
  let c544_r0 : Index := 544#32
  let c0_862_r0 : Index := 0#32
  ![v1265_r0.toNat, 544, 0]
def k0_off116 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1274_r0 : Index := Scalar.indexCast arg14_r0
  let c576_r0 : Index := 576#32
  let c0_865_r0 : Index := 0#32
  ![v1274_r0.toNat, 576, 0]
def k0_off117 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1283_r0 : Index := Scalar.indexCast arg14_r0
  let c608_r0 : Index := 608#32
  let c0_868_r0 : Index := 0#32
  ![v1283_r0.toNat, 608, 0]
def k0_off118 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1292_r0 : Index := Scalar.indexCast arg14_r0
  let c640_r0 : Index := 640#32
  let c0_871_r0 : Index := 0#32
  ![v1292_r0.toNat, 640, 0]
def k0_off119 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1301_r0 : Index := Scalar.indexCast arg14_r0
  let c672_r0 : Index := 672#32
  let c0_874_r0 : Index := 0#32
  ![v1301_r0.toNat, 672, 0]
def k0_off120 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1310_r0 : Index := Scalar.indexCast arg14_r0
  let c704_r0 : Index := 704#32
  let c0_877_r0 : Index := 0#32
  ![v1310_r0.toNat, 704, 0]
def k0_off121 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1319_r0 : Index := Scalar.indexCast arg14_r0
  let c736_r0 : Index := 736#32
  let c0_880_r0 : Index := 0#32
  ![v1319_r0.toNat, 736, 0]
def k0_off122 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1328_r0 : Index := Scalar.indexCast v989_r0
  let c6_882_r0 : Index := 6#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1329_r0 : Index := Scalar.indexCast v991_r0
  let c0_883_r0 : Index := 0#32
  ![v1328_r0.toNat, 6, v1329_r0.toNat, 0, 0]
def k0_off123 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1332_r0 : Index := Scalar.indexCast v989_r0
  let c7_884_r0 : Index := 7#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1333_r0 : Index := Scalar.indexCast v991_r0
  let c0_885_r0 : Index := 0#32
  ![v1332_r0.toNat, 7, v1333_r0.toNat, 0, 0]
def k0_off124 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1341_r0 : Index := Scalar.indexCast arg14_r0
  let c768_r0 : Index := 768#32
  let c0_887_r0 : Index := 0#32
  ![v1341_r0.toNat, 768, 0]
def k0_off125 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1350_r0 : Index := Scalar.indexCast arg14_r0
  let c800_r0 : Index := 800#32
  let c0_889_r0 : Index := 0#32
  ![v1350_r0.toNat, 800, 0]
def k0_off126 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1359_r0 : Index := Scalar.indexCast arg14_r0
  let c832_r0 : Index := 832#32
  let c0_891_r0 : Index := 0#32
  ![v1359_r0.toNat, 832, 0]
def k0_off127 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1368_r0 : Index := Scalar.indexCast arg14_r0
  let c864_r0 : Index := 864#32
  let c0_893_r0 : Index := 0#32
  ![v1368_r0.toNat, 864, 0]
def k0_off128 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1377_r0 : Index := Scalar.indexCast arg14_r0
  let c896_r0 : Index := 896#32
  let c0_895_r0 : Index := 0#32
  ![v1377_r0.toNat, 896, 0]
def k0_off129 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1386_r0 : Index := Scalar.indexCast arg14_r0
  let c928_r0 : Index := 928#32
  let c0_897_r0 : Index := 0#32
  ![v1386_r0.toNat, 928, 0]
def k0_off130 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1395_r0 : Index := Scalar.indexCast arg14_r0
  let c960_r0 : Index := 960#32
  let c0_899_r0 : Index := 0#32
  ![v1395_r0.toNat, 960, 0]
def k0_off131 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1404_r0 : Index := Scalar.indexCast arg14_r0
  let c992_r0 : Index := 992#32
  let c0_901_r0 : Index := 0#32
  ![v1404_r0.toNat, 992, 0]
def k0_off132 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1413_r0 : Index := Scalar.indexCast v989_r0
  let c8_903_r0 : Index := 8#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1414_r0 : Index := Scalar.indexCast v991_r0
  let c0_904_r0 : Index := 0#32
  ![v1413_r0.toNat, 8, v1414_r0.toNat, 0, 0]
def k0_off133 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1417_r0 : Index := Scalar.indexCast v989_r0
  let c9_905_r0 : Index := 9#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1418_r0 : Index := Scalar.indexCast v991_r0
  let c0_906_r0 : Index := 0#32
  ![v1417_r0.toNat, 9, v1418_r0.toNat, 0, 0]
def k0_off134 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1426_r0 : Index := Scalar.indexCast arg14_r0
  let c1024_909_r0 : Index := 1024#32
  let c0_910_r0 : Index := 0#32
  ![v1426_r0.toNat, 1024, 0]
def k0_off135 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1435_r0 : Index := Scalar.indexCast arg14_r0
  let c1056_r0 : Index := 1056#32
  let c0_912_r0 : Index := 0#32
  ![v1435_r0.toNat, 1056, 0]
def k0_off136 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1444_r0 : Index := Scalar.indexCast arg14_r0
  let c1088_r0 : Index := 1088#32
  let c0_914_r0 : Index := 0#32
  ![v1444_r0.toNat, 1088, 0]
def k0_off137 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1453_r0 : Index := Scalar.indexCast arg14_r0
  let c1120_r0 : Index := 1120#32
  let c0_916_r0 : Index := 0#32
  ![v1453_r0.toNat, 1120, 0]
def k0_off138 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1462_r0 : Index := Scalar.indexCast arg14_r0
  let c1152_r0 : Index := 1152#32
  let c0_918_r0 : Index := 0#32
  ![v1462_r0.toNat, 1152, 0]
def k0_off139 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1471_r0 : Index := Scalar.indexCast arg14_r0
  let c1184_r0 : Index := 1184#32
  let c0_920_r0 : Index := 0#32
  ![v1471_r0.toNat, 1184, 0]
def k0_off140 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1480_r0 : Index := Scalar.indexCast arg14_r0
  let c1216_r0 : Index := 1216#32
  let c0_922_r0 : Index := 0#32
  ![v1480_r0.toNat, 1216, 0]
def k0_off141 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1489_r0 : Index := Scalar.indexCast arg14_r0
  let c1248_r0 : Index := 1248#32
  let c0_924_r0 : Index := 0#32
  ![v1489_r0.toNat, 1248, 0]
def k0_off142 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1498_r0 : Index := Scalar.indexCast v989_r0
  let c10_926_r0 : Index := 10#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1499_r0 : Index := Scalar.indexCast v991_r0
  let c0_927_r0 : Index := 0#32
  ![v1498_r0.toNat, 10, v1499_r0.toNat, 0, 0]
def k0_off143 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1502_r0 : Index := Scalar.indexCast v989_r0
  let c11_928_r0 : Index := 11#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1503_r0 : Index := Scalar.indexCast v991_r0
  let c0_929_r0 : Index := 0#32
  ![v1502_r0.toNat, 11, v1503_r0.toNat, 0, 0]
def k0_off144 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1511_r0 : Index := Scalar.indexCast arg14_r0
  let c1280_r0 : Index := 1280#32
  let c0_931_r0 : Index := 0#32
  ![v1511_r0.toNat, 1280, 0]
def k0_off145 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1520_r0 : Index := Scalar.indexCast arg14_r0
  let c1312_r0 : Index := 1312#32
  let c0_933_r0 : Index := 0#32
  ![v1520_r0.toNat, 1312, 0]
def k0_off146 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1529_r0 : Index := Scalar.indexCast arg14_r0
  let c1344_r0 : Index := 1344#32
  let c0_935_r0 : Index := 0#32
  ![v1529_r0.toNat, 1344, 0]
def k0_off147 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1538_r0 : Index := Scalar.indexCast arg14_r0
  let c1376_r0 : Index := 1376#32
  let c0_937_r0 : Index := 0#32
  ![v1538_r0.toNat, 1376, 0]
def k0_off148 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1547_r0 : Index := Scalar.indexCast arg14_r0
  let c1408_r0 : Index := 1408#32
  let c0_939_r0 : Index := 0#32
  ![v1547_r0.toNat, 1408, 0]
def k0_off149 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1556_r0 : Index := Scalar.indexCast arg14_r0
  let c1440_r0 : Index := 1440#32
  let c0_941_r0 : Index := 0#32
  ![v1556_r0.toNat, 1440, 0]
def k0_off150 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1565_r0 : Index := Scalar.indexCast arg14_r0
  let c1472_r0 : Index := 1472#32
  let c0_943_r0 : Index := 0#32
  ![v1565_r0.toNat, 1472, 0]
def k0_off151 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1574_r0 : Index := Scalar.indexCast arg14_r0
  let c1504_r0 : Index := 1504#32
  let c0_945_r0 : Index := 0#32
  ![v1574_r0.toNat, 1504, 0]
def k0_off152 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1583_r0 : Index := Scalar.indexCast v989_r0
  let c12_947_r0 : Index := 12#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1584_r0 : Index := Scalar.indexCast v991_r0
  let c0_948_r0 : Index := 0#32
  ![v1583_r0.toNat, 12, v1584_r0.toNat, 0, 0]
def k0_off153 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1587_r0 : Index := Scalar.indexCast v989_r0
  let c13_949_r0 : Index := 13#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1588_r0 : Index := Scalar.indexCast v991_r0
  let c0_950_r0 : Index := 0#32
  ![v1587_r0.toNat, 13, v1588_r0.toNat, 0, 0]
def k0_off154 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1596_r0 : Index := Scalar.indexCast arg14_r0
  let c1536_952_r0 : Index := 1536#32
  let c0_953_r0 : Index := 0#32
  ![v1596_r0.toNat, 1536, 0]
def k0_off155 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1605_r0 : Index := Scalar.indexCast arg14_r0
  let c1568_r0 : Index := 1568#32
  let c0_955_r0 : Index := 0#32
  ![v1605_r0.toNat, 1568, 0]
def k0_off156 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1614_r0 : Index := Scalar.indexCast arg14_r0
  let c1600_r0 : Index := 1600#32
  let c0_957_r0 : Index := 0#32
  ![v1614_r0.toNat, 1600, 0]
def k0_off157 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1623_r0 : Index := Scalar.indexCast arg14_r0
  let c1632_r0 : Index := 1632#32
  let c0_959_r0 : Index := 0#32
  ![v1623_r0.toNat, 1632, 0]
def k0_off158 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1632_r0 : Index := Scalar.indexCast arg14_r0
  let c1664_r0 : Index := 1664#32
  let c0_961_r0 : Index := 0#32
  ![v1632_r0.toNat, 1664, 0]
def k0_off159 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1641_r0 : Index := Scalar.indexCast arg14_r0
  let c1696_r0 : Index := 1696#32
  let c0_963_r0 : Index := 0#32
  ![v1641_r0.toNat, 1696, 0]
def k0_off160 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1650_r0 : Index := Scalar.indexCast arg14_r0
  let c1728_r0 : Index := 1728#32
  let c0_965_r0 : Index := 0#32
  ![v1650_r0.toNat, 1728, 0]
def k0_off161 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1659_r0 : Index := Scalar.indexCast arg14_r0
  let c1760_r0 : Index := 1760#32
  let c0_967_r0 : Index := 0#32
  ![v1659_r0.toNat, 1760, 0]
def k0_off162 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1668_r0 : Index := Scalar.indexCast v989_r0
  let c14_969_r0 : Index := 14#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1669_r0 : Index := Scalar.indexCast v991_r0
  let c0_970_r0 : Index := 0#32
  ![v1668_r0.toNat, 14, v1669_r0.toNat, 0, 0]
def k0_off163 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1672_r0 : Index := Scalar.indexCast v989_r0
  let c15_971_r0 : Index := 15#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1673_r0 : Index := Scalar.indexCast v991_r0
  let c0_972_r0 : Index := 0#32
  ![v1672_r0.toNat, 15, v1673_r0.toNat, 0, 0]
def k0_off164 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1681_r0 : Index := Scalar.indexCast arg14_r0
  let c1792_r0 : Index := 1792#32
  let c0_974_r0 : Index := 0#32
  ![v1681_r0.toNat, 1792, 0]
def k0_off165 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1690_r0 : Index := Scalar.indexCast arg14_r0
  let c1824_r0 : Index := 1824#32
  let c0_976_r0 : Index := 0#32
  ![v1690_r0.toNat, 1824, 0]
def k0_off166 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1699_r0 : Index := Scalar.indexCast arg14_r0
  let c1856_r0 : Index := 1856#32
  let c0_978_r0 : Index := 0#32
  ![v1699_r0.toNat, 1856, 0]
def k0_off167 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1708_r0 : Index := Scalar.indexCast arg14_r0
  let c1888_r0 : Index := 1888#32
  let c0_980_r0 : Index := 0#32
  ![v1708_r0.toNat, 1888, 0]
def k0_off168 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1717_r0 : Index := Scalar.indexCast arg14_r0
  let c1920_r0 : Index := 1920#32
  let c0_982_r0 : Index := 0#32
  ![v1717_r0.toNat, 1920, 0]
def k0_off169 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1726_r0 : Index := Scalar.indexCast arg14_r0
  let c1952_r0 : Index := 1952#32
  let c0_984_r0 : Index := 0#32
  ![v1726_r0.toNat, 1952, 0]
def k0_off170 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1735_r0 : Index := Scalar.indexCast arg14_r0
  let c1984_r0 : Index := 1984#32
  let c0_986_r0 : Index := 0#32
  ![v1735_r0.toNat, 1984, 0]
def k0_off171 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1744_r0 : Index := Scalar.indexCast arg14_r0
  let c2016_r0 : Index := 2016#32
  let c0_988_r0 : Index := 0#32
  ![v1744_r0.toNat, 2016, 0]
def k0_off172 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1753_r0 : Index := Scalar.indexCast v989_r0
  let c16_990_r0 : Index := 16#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1754_r0 : Index := Scalar.indexCast v991_r0
  let c0_991_r0 : Index := 0#32
  ![v1753_r0.toNat, 16, v1754_r0.toNat, 0, 0]
def k0_off173 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1757_r0 : Index := Scalar.indexCast v989_r0
  let c17_992_r0 : Index := 17#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1758_r0 : Index := Scalar.indexCast v991_r0
  let c0_993_r0 : Index := 0#32
  ![v1757_r0.toNat, 17, v1758_r0.toNat, 0, 0]
def k0_off174 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1766_r0 : Index := Scalar.indexCast arg14_r0
  let c2048_r0 : Index := 2048#32
  let c0_996_r0 : Index := 0#32
  ![v1766_r0.toNat, 2048, 0]
def k0_off175 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1775_r0 : Index := Scalar.indexCast arg14_r0
  let c2080_r0 : Index := 2080#32
  let c0_998_r0 : Index := 0#32
  ![v1775_r0.toNat, 2080, 0]
def k0_off176 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1784_r0 : Index := Scalar.indexCast arg14_r0
  let c2112_r0 : Index := 2112#32
  let c0_1000_r0 : Index := 0#32
  ![v1784_r0.toNat, 2112, 0]
def k0_off177 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1793_r0 : Index := Scalar.indexCast arg14_r0
  let c2144_r0 : Index := 2144#32
  let c0_1002_r0 : Index := 0#32
  ![v1793_r0.toNat, 2144, 0]
def k0_off178 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1802_r0 : Index := Scalar.indexCast arg14_r0
  let c2176_r0 : Index := 2176#32
  let c0_1004_r0 : Index := 0#32
  ![v1802_r0.toNat, 2176, 0]
def k0_off179 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1811_r0 : Index := Scalar.indexCast arg14_r0
  let c2208_r0 : Index := 2208#32
  let c0_1006_r0 : Index := 0#32
  ![v1811_r0.toNat, 2208, 0]
def k0_off180 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1820_r0 : Index := Scalar.indexCast arg14_r0
  let c2240_r0 : Index := 2240#32
  let c0_1008_r0 : Index := 0#32
  ![v1820_r0.toNat, 2240, 0]
def k0_off181 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1829_r0 : Index := Scalar.indexCast arg14_r0
  let c2272_r0 : Index := 2272#32
  let c0_1010_r0 : Index := 0#32
  ![v1829_r0.toNat, 2272, 0]
def k0_off182 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1838_r0 : Index := Scalar.indexCast v989_r0
  let c18_1012_r0 : Index := 18#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1839_r0 : Index := Scalar.indexCast v991_r0
  let c0_1013_r0 : Index := 0#32
  ![v1838_r0.toNat, 18, v1839_r0.toNat, 0, 0]
def k0_off183 (k0_t2 : Fin k0_t2_loop.trips) : Fin 5 → Nat :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_737_r0 : BitVec 32 := 0#32
  let v961_r0 : BitVec 1 := Scalar.cmpi .sgt v959_r0 c0_i32_737_r0
  let v962_r0 : BitVec 32 := Scalar.extui v961_r0
  let c0_i32_738_r0 : BitVec 32 := 0#32
  let v963_r0 : BitVec 1 := Scalar.cmpi .slt v959_r0 c0_i32_738_r0
  let v964_r0 : BitVec 32 := Scalar.extui v963_r0
  let v965_r0 : BitVec 32 := Scalar.subi v962_r0 v964_r0
  let c3_i32_736_r0 : BitVec 32 := 3#32
  let c0_i32_739_r0 : BitVec 32 := 0#32
  let v966_r0 : BitVec 1 := Scalar.cmpi .sgt c3_i32_736_r0 c0_i32_739_r0
  let v967_r0 : BitVec 32 := Scalar.extui v966_r0
  let c0_i32_740_r0 : BitVec 32 := 0#32
  let v968_r0 : BitVec 1 := Scalar.cmpi .slt c3_i32_736_r0 c0_i32_740_r0
  let v969_r0 : BitVec 32 := Scalar.extui v968_r0
  let v970_r0 : BitVec 32 := Scalar.subi v967_r0 v969_r0
  let v971_r0 : BitVec 1 := Scalar.cmpi .ne v965_r0 v970_r0
  let v972_r0 : BitVec 32 := Scalar.remsi v959_r0 c3_i32_736_r0
  let c0_i32_741_r0 : BitVec 32 := 0#32
  let v973_r0 : BitVec 1 := Scalar.cmpi .ne v972_r0 c0_i32_741_r0
  let v974_r0 : BitVec 1 := Scalar.andi v971_r0 v973_r0
  let v960_r0 : BitVec 32 := Scalar.divsi v959_r0 c3_i32_736_r0
  let c1_i32_742_r0 : BitVec 32 := 1#32
  let v975_r0 : BitVec 32 := Scalar.subi v960_r0 c1_i32_742_r0
  let v976_r0 : BitVec 32 := Scalar.select v974_r0 v975_r0 v960_r0
  let c1_i32_749_r0 : BitVec 32 := 1#32
  let v987_r0 : BitVec 1 := Scalar.cmpi .eq v976_r0 c1_i32_749_r0
  let c0_i32_750_r0 : BitVec 32 := 0#32
  let c3_i32_751_r0 : BitVec 32 := 3#32
  let v988_r0 : BitVec 32 := Scalar.select v987_r0 c0_i32_750_r0 c3_i32_751_r0
  let c3_i32_743_r0 : BitVec 32 := 3#32
  let c0_i32_744_r0 : BitVec 32 := 0#32
  let v977_r0 : BitVec 1 := Scalar.cmpi .eq c3_i32_743_r0 c0_i32_744_r0
  let c1_i32_745_r0 : BitVec 32 := 1#32
  let v978_r0 : BitVec 32 := Scalar.select v977_r0 c1_i32_745_r0 c3_i32_743_r0
  let v979_r0 : BitVec 32 := Scalar.remsi v959_r0 v978_r0
  let c0_i32_747_r0 : BitVec 32 := 0#32
  let v981_r0 : BitVec 1 := Scalar.cmpi .slt v979_r0 c0_i32_747_r0
  let c0_i32_748_r0 : BitVec 32 := 0#32
  let v982_r0 : BitVec 1 := Scalar.cmpi .slt v978_r0 c0_i32_748_r0
  let v983_r0 : BitVec 1 := Scalar.xori v981_r0 v982_r0
  let c0_i32_746_r0 : BitVec 32 := 0#32
  let v980_r0 : BitVec 1 := Scalar.cmpi .ne v979_r0 c0_i32_746_r0
  let v984_r0 : BitVec 1 := Scalar.andi v983_r0 v980_r0
  let v985_r0 : BitVec 32 := Scalar.addi v979_r0 v978_r0
  let v986_r0 : BitVec 32 := Scalar.select v984_r0 v985_r0 v979_r0
  let v989_r0 : BitVec 32 := Scalar.addi v988_r0 v986_r0
  let v1842_r0 : Index := Scalar.indexCast v989_r0
  let c19_1014_r0 : Index := 19#32
  let c0_i32_752_r0 : BitVec 32 := 0#32
  let v990_r0 : BitVec 1 := Scalar.cmpi .eq v976_r0 c0_i32_752_r0
  let c0_i32_753_r0 : BitVec 32 := 0#32
  let c10_i32_754_r0 : BitVec 32 := 10#32
  let v991_r0 : BitVec 32 := Scalar.select v990_r0 c0_i32_753_r0 c10_i32_754_r0
  let v1843_r0 : Index := Scalar.indexCast v991_r0
  let c0_1015_r0 : Index := 0#32
  ![v1842_r0.toNat, 19, v1843_r0.toNat, 0, 0]
def k0_off184 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1851_r0 : Index := Scalar.indexCast arg14_r0
  let c2304_r0 : Index := 2304#32
  let c0_1017_r0 : Index := 0#32
  ![v1851_r0.toNat, 2304, 0]
def k0_off185 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1860_r0 : Index := Scalar.indexCast arg14_r0
  let c2336_r0 : Index := 2336#32
  let c0_1019_r0 : Index := 0#32
  ![v1860_r0.toNat, 2336, 0]
def k0_off186 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1869_r0 : Index := Scalar.indexCast arg14_r0
  let c2368_r0 : Index := 2368#32
  let c0_1021_r0 : Index := 0#32
  ![v1869_r0.toNat, 2368, 0]
def k0_off187 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1878_r0 : Index := Scalar.indexCast arg14_r0
  let c2400_r0 : Index := 2400#32
  let c0_1023_r0 : Index := 0#32
  ![v1878_r0.toNat, 2400, 0]
def k0_off188 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1887_r0 : Index := Scalar.indexCast arg14_r0
  let c2432_r0 : Index := 2432#32
  let c0_1025_r0 : Index := 0#32
  ![v1887_r0.toNat, 2432, 0]
def k0_off189 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1896_r0 : Index := Scalar.indexCast arg14_r0
  let c2464_r0 : Index := 2464#32
  let c0_1027_r0 : Index := 0#32
  ![v1896_r0.toNat, 2464, 0]
def k0_off190 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1905_r0 : Index := Scalar.indexCast arg14_r0
  let c2496_r0 : Index := 2496#32
  let c0_1029_r0 : Index := 0#32
  ![v1905_r0.toNat, 2496, 0]
def k0_off191 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let v1914_r0 : Index := Scalar.indexCast arg14_r0
  let c2528_r0 : Index := 2528#32
  let c0_1031_r0 : Index := 0#32
  ![v1914_r0.toNat, 2528, 0]
def k0_cond2 (k0_t2 : Fin k0_t2_loop.trips) : BitVec 1 :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_1033_r0 : BitVec 32 := 0#32
  let v1923_r0 : BitVec 1 := Scalar.cmpi .eq v959_r0 c0_i32_1033_r0
  let v1924_r0 : BitVec 32 := Scalar.extui v1923_r0
  let c0_i32_1034_r0 : BitVec 32 := 0#32
  let v1925_r0 : BitVec 1 := Scalar.cmpi .ne v1924_r0 c0_i32_1034_r0
  v1925_r0

def k0_off192 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let v1929_r0 : Index := Scalar.indexCast v949_r0
  let c0_1037_r0 : Index := 0#32
  let c0_1038_r0 : Index := 0#32
  ![v1929_r0.toNat, 0, 0]
def k0_cond3 (k0_t2 : Fin k0_t2_loop.trips) : BitVec 1 :=
  let c0_i32_511_r0 : BitVec 32 := 0#32
  let c1_i32_512_r0 : BitVec 32 := 1#32
  let arg14_r0 : BitVec 32 := Scf.iv c0_i32_511_r0 c1_i32_512_r0 k0_t2
  let c9_i32_730_r0 : BitVec 32 := 9#32
  let c0_i32_731_r0 : BitVec 32 := 0#32
  let v950_r0 : BitVec 1 := Scalar.cmpi .eq c9_i32_730_r0 c0_i32_731_r0
  let c1_i32_732_r0 : BitVec 32 := 1#32
  let v951_r0 : BitVec 32 := Scalar.select v950_r0 c1_i32_732_r0 c9_i32_730_r0
  let v952_r0 : BitVec 32 := Scalar.remsi arg14_r0 v951_r0
  let c0_i32_734_r0 : BitVec 32 := 0#32
  let v954_r0 : BitVec 1 := Scalar.cmpi .slt v952_r0 c0_i32_734_r0
  let c0_i32_735_r0 : BitVec 32 := 0#32
  let v955_r0 : BitVec 1 := Scalar.cmpi .slt v951_r0 c0_i32_735_r0
  let v956_r0 : BitVec 1 := Scalar.xori v954_r0 v955_r0
  let c0_i32_733_r0 : BitVec 32 := 0#32
  let v953_r0 : BitVec 1 := Scalar.cmpi .ne v952_r0 c0_i32_733_r0
  let v957_r0 : BitVec 1 := Scalar.andi v956_r0 v953_r0
  let v958_r0 : BitVec 32 := Scalar.addi v952_r0 v951_r0
  let v959_r0 : BitVec 32 := Scalar.select v957_r0 v958_r0 v952_r0
  let c0_i32_1035_r0 : BitVec 32 := 0#32
  let v1926_r0 : BitVec 1 := Scalar.cmpi .sgt v959_r0 c0_i32_1035_r0
  let v1927_r0 : BitVec 32 := Scalar.extui v1926_r0
  let c0_i32_1036_r0 : BitVec 32 := 0#32
  let v1928_r0 : BitVec 1 := Scalar.cmpi .ne v1927_r0 c0_i32_1036_r0
  v1928_r0

def k0_off193 (k0_t2 : Fin k0_t2_loop.trips) : Fin 3 → Nat :=
  let c0_i32_511_r0 : BitVec 32 := 0#32
  let c1_i32_512_r0 : BitVec 32 := 1#32
  let arg14_r0 : BitVec 32 := Scf.iv c0_i32_511_r0 c1_i32_512_r0 k0_t2
  let c0_i32_724_r0 : BitVec 32 := 0#32
  let v934_r0 : BitVec 1 := Scalar.cmpi .sgt arg14_r0 c0_i32_724_r0
  let v935_r0 : BitVec 32 := Scalar.extui v934_r0
  let c0_i32_725_r0 : BitVec 32 := 0#32
  let v936_r0 : BitVec 1 := Scalar.cmpi .slt arg14_r0 c0_i32_725_r0
  let v937_r0 : BitVec 32 := Scalar.extui v936_r0
  let v938_r0 : BitVec 32 := Scalar.subi v935_r0 v937_r0
  let c9_i32_723_r0 : BitVec 32 := 9#32
  let c0_i32_726_r0 : BitVec 32 := 0#32
  let v939_r0 : BitVec 1 := Scalar.cmpi .sgt c9_i32_723_r0 c0_i32_726_r0
  let v940_r0 : BitVec 32 := Scalar.extui v939_r0
  let c0_i32_727_r0 : BitVec 32 := 0#32
  let v941_r0 : BitVec 1 := Scalar.cmpi .slt c9_i32_723_r0 c0_i32_727_r0
  let v942_r0 : BitVec 32 := Scalar.extui v941_r0
  let v943_r0 : BitVec 32 := Scalar.subi v940_r0 v942_r0
  let v944_r0 : BitVec 1 := Scalar.cmpi .ne v938_r0 v943_r0
  let v945_r0 : BitVec 32 := Scalar.remsi arg14_r0 c9_i32_723_r0
  let c0_i32_728_r0 : BitVec 32 := 0#32
  let v946_r0 : BitVec 1 := Scalar.cmpi .ne v945_r0 c0_i32_728_r0
  let v947_r0 : BitVec 1 := Scalar.andi v944_r0 v946_r0
  let v933_r0 : BitVec 32 := Scalar.divsi arg14_r0 c9_i32_723_r0
  let c1_i32_729_r0 : BitVec 32 := 1#32
  let v948_r0 : BitVec 32 := Scalar.subi v933_r0 c1_i32_729_r0
  let v949_r0 : BitVec 32 := Scalar.select v947_r0 v948_r0 v933_r0
  let v1929_r0 : Index := Scalar.indexCast v949_r0
  let c0_1037_r0 : Index := 0#32
  let c0_1038_r0 : Index := 0#32
  ![v1929_r0.toNat, 0, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6x10x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x12x20x2560 : Shape := ⟨4, ![2, 12, 20, 2560]⟩
abbrev S2x12x20x80 : Shape := ⟨4, ![2, 12, 20, 80]⟩
abbrev S3x3x2560x2048 : Shape := ⟨4, ![3, 3, 2560, 2048]⟩
abbrev S3x3x80x2048 : Shape := ⟨4, ![3, 3, 80, 2048]⟩
abbrev S2048 : Shape := ⟨1, ![2048]⟩
abbrev S2x12x20x80x32 : Shape := ⟨5, ![2, 12, 20, 80, 32]⟩
abbrev S_ : Shape := ⟨0, ![]⟩
abbrev S2x12x20x80x1 : Shape := ⟨5, ![2, 12, 20, 80, 1]⟩
abbrev S3x3x80x32x2048 : Shape := ⟨5, ![3, 3, 80, 32, 2048]⟩
abbrev S3x3x80x1x2048 : Shape := ⟨5, ![3, 3, 80, 1, 2048]⟩
abbrev S2x14x22x2560 : Shape := ⟨4, ![2, 14, 22, 2560]⟩
abbrev S2x6x10x2048 : Shape := ⟨4, ![2, 6, 10, 2048]⟩
abbrev S2x6x10x2560 : Shape := ⟨4, ![2, 6, 10, 2560]⟩
abbrev S1x1x2560x2048 : Shape := ⟨4, ![1, 1, 2560, 2048]⟩
abbrev S2560x2048 : Shape := ⟨2, ![2560, 2048]⟩
abbrev S1x1x1x2048 : Shape := ⟨4, ![1, 1, 1, 2048]⟩

abbrev nBuf : Space → Nat
  | .hbm => 117
  | .vmem => 4
  | .smem => 0
  | _ => 0

abbrev bufTy : (tb : Table) → Fin (tcTables nBuf tb) → BufTy
  | .hbm, ⟨0, _⟩ => ⟨S2x12x20x2560, .fp8e4m3⟩
  | .hbm, ⟨1, _⟩ => ⟨S2x12x20x80, .i8⟩
  | .hbm, ⟨2, _⟩ => ⟨S3x3x2560x2048, .fp8e4m3⟩
  | .hbm, ⟨3, _⟩ => ⟨S3x3x80x2048, .i8⟩
  | .hbm, ⟨4, _⟩ => ⟨S2048, .f32⟩
  | .hbm, ⟨5, _⟩ => ⟨S2x12x20x2560, .bf16⟩
  | .hbm, ⟨6, _⟩ => ⟨S3x3x2560x2048, .bf16⟩
  | .hbm, ⟨7, _⟩ => ⟨S2x12x20x80x32, .bf16⟩
  | .hbm, ⟨8, _⟩ => ⟨S2x12x20x80, .i32⟩
  | .hbm, ⟨9, _⟩ => ⟨S_, .i32⟩
  | .hbm, ⟨10, _⟩ => ⟨S2x12x20x80, .i32⟩
  | .hbm, ⟨11, _⟩ => ⟨S2x12x20x80, .i32⟩
  | .hbm, ⟨12, _⟩ => ⟨S2x12x20x80, .f32⟩
  | .hbm, ⟨13, _⟩ => ⟨S_, .f32⟩
  | .hbm, ⟨14, _⟩ => ⟨S2x12x20x80, .f32⟩
  | .hbm, ⟨15, _⟩ => ⟨S2x12x20x80, .f32⟩
  | .hbm, ⟨16, _⟩ => ⟨S_, .i8⟩
  | .hbm, ⟨17, _⟩ => ⟨S2x12x20x80, .i8⟩
  | .hbm, ⟨18, _⟩ => ⟨S2x12x20x80, .i1⟩
  | .hbm, ⟨19, _⟩ => ⟨S_, .i8⟩
  | .hbm, ⟨20, _⟩ => ⟨S2x12x20x80, .i8⟩
  | .hbm, ⟨21, _⟩ => ⟨S2x12x20x80, .i1⟩
  | .hbm, ⟨22, _⟩ => ⟨S_, .f32⟩
  | .hbm, ⟨23, _⟩ => ⟨S_, .f32⟩
  | .hbm, ⟨24, _⟩ => ⟨S2x12x20x80, .f32⟩
  | .hbm, ⟨25, _⟩ => ⟨S2x12x20x80, .f32⟩
  | .hbm, ⟨26, _⟩ => ⟨S_, .f32⟩
  | .hbm, ⟨27, _⟩ => ⟨S_, .f32⟩
  | .hbm, ⟨28, _⟩ => ⟨S2x12x20x80, .f32⟩
  | .hbm, ⟨29, _⟩ => ⟨S2x12x20x80, .f32⟩
  | .hbm, ⟨30, _⟩ => ⟨S2x12x20x80, .bf16⟩
  | .hbm, ⟨31, _⟩ => ⟨S2x12x20x80x1, .bf16⟩
  | .hbm, ⟨32, _⟩ => ⟨S2x12x20x80x32, .bf16⟩
  | .hbm, ⟨33, _⟩ => ⟨S2x12x20x80x32, .bf16⟩
  | .hbm, ⟨34, _⟩ => ⟨S2x12x20x2560, .bf16⟩
  | .hbm, ⟨35, _⟩ => ⟨S3x3x80x32x2048, .bf16⟩
  | .hbm, ⟨36, _⟩ => ⟨S3x3x80x2048, .i32⟩
  | .hbm, ⟨37, _⟩ => ⟨S_, .i32⟩
  | .hbm, ⟨38, _⟩ => ⟨S3x3x80x2048, .i32⟩
  | .hbm, ⟨39, _⟩ => ⟨S3x3x80x2048, .i32⟩
  | .hbm, ⟨40, _⟩ => ⟨S3x3x80x2048, .f32⟩
  | .hbm, ⟨41, _⟩ => ⟨S_, .f32⟩
  | .hbm, ⟨42, _⟩ => ⟨S3x3x80x2048, .f32⟩
  | .hbm, ⟨43, _⟩ => ⟨S3x3x80x2048, .f32⟩
  | .hbm, ⟨44, _⟩ => ⟨S_, .i8⟩
  | .hbm, ⟨45, _⟩ => ⟨S3x3x80x2048, .i8⟩
  | .hbm, ⟨46, _⟩ => ⟨S3x3x80x2048, .i1⟩
  | .hbm, ⟨47, _⟩ => ⟨S_, .i8⟩
  | .hbm, ⟨48, _⟩ => ⟨S3x3x80x2048, .i8⟩
  | .hbm, ⟨49, _⟩ => ⟨S3x3x80x2048, .i1⟩
  | .hbm, ⟨50, _⟩ => ⟨S_, .f32⟩
  | .hbm, ⟨51, _⟩ => ⟨S_, .f32⟩
  | .hbm, ⟨52, _⟩ => ⟨S3x3x80x2048, .f32⟩
  | .hbm, ⟨53, _⟩ => ⟨S3x3x80x2048, .f32⟩
  | .hbm, ⟨54, _⟩ => ⟨S_, .f32⟩
  | .hbm, ⟨55, _⟩ => ⟨S_, .f32⟩
  | .hbm, ⟨56, _⟩ => ⟨S3x3x80x2048, .f32⟩
  | .hbm, ⟨57, _⟩ => ⟨S3x3x80x2048, .f32⟩
  | .hbm, ⟨58, _⟩ => ⟨S3x3x80x2048, .bf16⟩
  | .hbm, ⟨59, _⟩ => ⟨S3x3x80x1x2048, .bf16⟩
  | .hbm, ⟨60, _⟩ => ⟨S3x3x80x32x2048, .bf16⟩
  | .hbm, ⟨61, _⟩ => ⟨S3x3x80x32x2048, .bf16⟩
  | .hbm, ⟨62, _⟩ => ⟨S3x3x2560x2048, .bf16⟩
  | .hbm, ⟨63, _⟩ => ⟨S_, .i32⟩
  | .hbm, ⟨64, _⟩ => ⟨S_, .bf16⟩
  | .hbm, ⟨65, _⟩ => ⟨S2x14x22x2560, .bf16⟩
  | .hbm, ⟨66, _⟩ => ⟨S_, .f32⟩
  | .hbm, ⟨67, _⟩ => ⟨S2x6x10x2048, .f32⟩
  | .hbm, ⟨68, _⟩ => ⟨S2x6x10x2560, .bf16⟩
  | .hbm, ⟨69, _⟩ => ⟨S1x1x2560x2048, .bf16⟩
  | .hbm, ⟨70, _⟩ => ⟨S2560x2048, .bf16⟩
  | .hbm, ⟨71, _⟩ => ⟨S2x6x10x2048, .f32⟩
  | .hbm, ⟨72, _⟩ => ⟨S2x6x10x2048, .f32⟩
  | .hbm, ⟨73, _⟩ => ⟨S2x6x10x2560, .bf16⟩
  | .hbm, ⟨74, _⟩ => ⟨S1x1x2560x2048, .bf16⟩
  | .hbm, ⟨75, _⟩ => ⟨S2560x2048, .bf16⟩
  | .hbm, ⟨76, _⟩ => ⟨S2x6x10x2048, .f32⟩
  | .hbm, ⟨77, _⟩ => ⟨S2x6x10x2048, .f32⟩
  | .hbm, ⟨78, _⟩ => ⟨S2x6x10x2560, .bf16⟩
  | .hbm, ⟨79, _⟩ => ⟨S1x1x2560x2048, .bf16⟩
  | .hbm, ⟨80, _⟩ => ⟨S2560x2048, .bf16⟩
  | .hbm, ⟨81, _⟩ => ⟨S2x6x10x2048, .f32⟩
  | .hbm, ⟨82, _⟩ => ⟨S2x6x10x2048, .f32⟩
  | .hbm, ⟨83, _⟩ => ⟨S2x6x10x2560, .bf16⟩
  | .hbm, ⟨84, _⟩ => ⟨S1x1x2560x2048, .bf16⟩
  | .hbm, ⟨85, _⟩ => ⟨S2560x2048, .bf16⟩
  | .hbm, ⟨86, _⟩ => ⟨S2x6x10x2048, .f32⟩
  | .hbm, ⟨87, _⟩ => ⟨S2x6x10x2048, .f32⟩
  | .hbm, ⟨88, _⟩ => ⟨S2x6x10x2560, .bf16⟩
  | .hbm, ⟨89, _⟩ => ⟨S1x1x2560x2048, .bf16⟩
  | .hbm, ⟨90, _⟩ => ⟨S2560x2048, .bf16⟩
  | .hbm, ⟨91, _⟩ => ⟨S2x6x10x2048, .f32⟩
  | .hbm, ⟨92, _⟩ => ⟨S2x6x10x2048, .f32⟩
  | .hbm, ⟨93, _⟩ => ⟨S2x6x10x2560, .bf16⟩
  | .hbm, ⟨94, _⟩ => ⟨S1x1x2560x2048, .bf16⟩
  | .hbm, ⟨95, _⟩ => ⟨S2560x2048, .bf16⟩
  | .hbm, ⟨96, _⟩ => ⟨S2x6x10x2048, .f32⟩
  | .hbm, ⟨97, _⟩ => ⟨S2x6x10x2048, .f32⟩
  | .hbm, ⟨98, _⟩ => ⟨S2x6x10x2560, .bf16⟩
  | .hbm, ⟨99, _⟩ => ⟨S1x1x2560x2048, .bf16⟩
  | .hbm, ⟨100, _⟩ => ⟨S2560x2048, .bf16⟩
  | .hbm, ⟨101, _⟩ => ⟨S2x6x10x2048, .f32⟩
  | .hbm, ⟨102, _⟩ => ⟨S2x6x10x2048, .f32⟩
  | .hbm, ⟨103, _⟩ => ⟨S2x6x10x2560, .bf16⟩
  | .hbm, ⟨104, _⟩ => ⟨S1x1x2560x2048, .bf16⟩
  | .hbm, ⟨105, _⟩ => ⟨S2560x2048, .bf16⟩
  | .hbm, ⟨106, _⟩ => ⟨S2x6x10x2048, .f32⟩
  | .hbm, ⟨107, _⟩ => ⟨S2x6x10x2048, .f32⟩
  | .hbm, ⟨108, _⟩ => ⟨S2x6x10x2560, .bf16⟩
  | .hbm, ⟨109, _⟩ => ⟨S1x1x2560x2048, .bf16⟩
  | .hbm, ⟨110, _⟩ => ⟨S2560x2048, .bf16⟩
  | .hbm, ⟨111, _⟩ => ⟨S2x6x10x2048, .f32⟩
  | .hbm, ⟨112, _⟩ => ⟨S2x6x10x2048, .f32⟩
  | .hbm, ⟨113, _⟩ => ⟨S1x1x1x2048, .f32⟩
  | .hbm, ⟨114, _⟩ => ⟨S2x6x10x2048, .f32⟩
  | .hbm, ⟨115, _⟩ => ⟨S2x6x10x2048, .f32⟩
  | .hbm, ⟨116, _⟩ => ⟨S2x6x10x2048, .bf16⟩
  | .local _ .vmem, ⟨0, _⟩ => ⟨S2x12x20x2560, .fp8e4m3⟩
  | .local _ .vmem, ⟨1, _⟩ => ⟨S3x3x2560x2048, .fp8e4m3⟩
  | .local _ .vmem, ⟨2, _⟩ => ⟨S2x12x20x2560, .bf16⟩
  | .local _ .vmem, ⟨3, _⟩ => ⟨S3x3x2560x2048, .bf16⟩
  | _, _ => ⟨S2x12x20x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_call2_v0 : Ref sig .tc := ⟨.hbm, 51, rfl⟩
abbrev main_call2_v1 : Ref sig .tc := ⟨.hbm, 52, rfl⟩
abbrev main_v30 : Ref sig .tc := ⟨.hbm, 53, rfl⟩
abbrev main_cst_9 : Ref sig .tc := ⟨.hbm, 54, rfl⟩
abbrev main_call3_v0 : Ref sig .tc := ⟨.hbm, 55, rfl⟩
abbrev main_call3_v1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_call4_v0 : Ref sig .tc := ⟨.hbm, 64, rfl⟩
abbrev main_v37 : Ref sig .tc := ⟨.hbm, 65, rfl⟩
abbrev main_cst_11 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x12x20x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x2560x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12x20x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x2560x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Base.lean ====
/-
  The kernel's buffers and cells, its 36 weight slabs and 9 scale slabs as families of rectangles, and what the
  transfers into them leave: one description of the whole weight buffer (`WK`) and of the whole scale buffer (`SK`)
  after all the transfers, read off the arrays in HBM.
-/
module

public import proofs.«01_k».proof.Proof.Gen.Kernel.Frame
public import proofs.«01_k».proof.Proof.Gen.Kernel.Loops
public import Idealize.ShloMosaic.Lib.ValueLayout

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The buffers -/

abbrev MX : Memref sig .tc .vmem S2x12x20x2560 .fp8e4m3 := Memref.whole cc0_scratch0
abbrev MS : Memref sig .tc .vmem S2x12x20x80 .i8 := Memref.whole cc0_scratch1
abbrev MW : Memref sig .tc .vmem S36x2560x512 .fp8e4m3 := Memref.whole cc0_scratch2
abbrev MWS : Memref sig .tc .vmem S9x80x2048 .i8 := Memref.whole cc0_scratch3
abbrev MC : Memref sig .tc .vmem S24x16x128 .i32 := Memref.whole cc0_scratch4
abbrev MP : Memref sig .tc .vmem S6x20x80x128 .i32 := Memref.whole cc0_scratch5
abbrev MD : Memref sig .tc .vmem S80x512 .i32 := Memref.whole cc0_scratch6
abbrev MA : Memref sig .tc .vmem S4x128x512 .f32 := Memref.whole cc0_scratch7
abbrev HX : Memref sig .tc .hbm S2x12x20x2560 .fp8e4m3 := Memref.whole main_arg0
abbrev HS : Memref sig .tc .hbm S2x12x20x80 .i8 := Memref.whole main_arg1
abbrev HW : Memref sig .tc .hbm S3x3x2560x2048 .fp8e4m3 := Memref.whole main_arg2
abbrev HWS : Memref sig .tc .hbm S3x3x80x2048 .i8 := Memref.whole main_arg3

/-- A memref's buffer's contents on core `c`. -/
abbrev HbBuf (F : FTy → Type) (c : Dev nD) {sp : Space} {S : Shape} {e : EltTy} (M : Memref sig .tc sp S e) : Type := Buf (Elt F) (M.view.loc (c : Thread nD τ))
/-- A memref held whole. -/
abbrev holds (c : Dev nD) {sp : Space} {S : Shape} {e : EltTy} (M : Memref sig .tc sp S e) (f : HbBuf F c M) : sProp 𝕄 :=
  M.view.loc (c : Thread nD τ) ↦[M.view.set]{fullShare} f
/-- A memref's rectangle held. -/
abbrev holdsOn (c : Dev nD) {sp : Space} {S : Shape} {e : EltTy} (M : Memref sig .tc sp S e) (R : Rect S) (f : HbBuf F c M) : sProp 𝕄 :=
  M.view.loc (c : Thread nD τ) ↦[M.view.setOn R.set]{fullShare} f

/-! ## The slabs -/

theorem trips2 : k0_t2_loop.trips = 36 := by decide

theorem w_inb (k : Fin 36) : ∀ a, (![k.val, 0, 0] : Fin 3 → ℕ) a + S1x2560x512.size a ≤ S36x2560x512.size a := by
  revert k; decide +kernel
theorem hw_inb (k : Fin 36) : ∀ a, (![k.val % 9 / 3, k.val % 3, 0, 512 * (k.val / 9)] : Fin 4 → ℕ) a + S1x1x2560x512.size a ≤ S3x3x2560x2048.size a := by
  revert k; decide +kernel
theorem s_inb (t : Fin 9) : ∀ a, (![t.val, 0, 0] : Fin 3 → ℕ) a + S1x80x2048.size a ≤ S9x80x2048.size a := by
  revert t; decide +kernel
theorem hs_inb (t : Fin 9) : ∀ a, (![t.val / 3, t.val % 3, 0, 0] : Fin 4 → ℕ) a + S1x1x80x2048.size a ≤ S3x3x80x2048.size a := by
  revert t; decide +kernel

/-- Step `k`'s weight slab in VMEM, and the window of the weights in HBM it is copied from. -/
abbrev wrect (k : Fin 36) : Rect S36x2560x512 := Rect.unit (s := S36x2560x512) ![k.val, 0, 0] S1x2560x512.size (w_inb k)
abbrev hwrect (k : Fin 36) : Rect S3x3x2560x2048 := Rect.unit (s := S3x3x2560x2048) ![k.val % 9 / 3, k.val % 3, 0, 512 * (k.val / 9)] S1x1x2560x512.size (hw_inb k)
/-- Tap `t`'s scale slab in VMEM, and its window in HBM. -/
abbrev srect (t : Fin 9) : Rect S9x80x2048 := Rect.unit (s := S9x80x2048) ![t.val, 0, 0] S1x80x2048.size (s_inb t)
abbrev hsrect (t : Fin 9) : Rect S3x3x80x2048 := Rect.unit (s := S3x3x80x2048) ![t.val / 3, t.val % 3, 0, 0] S1x1x80x2048.size (hs_inb t)

abbrev wslot (k : Fin 36) : Memref sig .tc .vmem S2560x512 .fp8e4m3 := (MW.slice (wrect k) (fun _ => rfl)).squeeze S2560x512 squeezes_S1x2560x512_S2560x512
abbrev wsrc (k : Fin 36) : Memref sig .tc .hbm S2560x512 .fp8e4m3 := (HW.slice (hwrect k) (fun _ => rfl)).squeeze S2560x512 squeezes_S1x1x2560x512_S2560x512
abbrev sslot (t : Fin 9) : Memref sig .tc .vmem S80x2048 .i8 := (MWS.slice (srect t) (fun _ => rfl)).squeeze S80x2048 squeezes_S1x80x2048_S80x2048
abbrev ssrc (t : Fin 9) : Memref sig .tc .hbm S80x2048 .i8 := (HWS.slice (hsrect t) (fun _ => rfl)).squeeze S80x2048 squeezes_S1x1x80x2048_S80x2048

/-- The cells of the pool: step `k`'s weight cell, tap `t`'s scale cell. -/
abbrev wcell (k : Fin 36) : SemLoc sig := SemLoc.dma ⟨4 + k.val, by have := k.isLt; show 4 + k.val < 49; omega⟩
abbrev scell (t : Fin 9) : SemLoc sig := SemLoc.dma ⟨40 + t.val, by have := t.isLt; show 40 + t.val < 49; omega⟩

variable {c : Dev nD}

/-! ## What the transfers leave -/

/-- Where the element of the weight buffer at an index comes from. -/
def srcW (i : S36x2560x512.Idx) : S3x3x2560x2048.Idx :=
  ix4 (⟨(i 0).val % 9 / 3, by omega⟩ : Fin 3) (⟨(i 0).val % 3, by omega⟩ : Fin 3) (⟨(i 1).val, (i 1).isLt⟩ : Fin 2560)
    (⟨512 * ((i 0).val / 9) + (i 2).val, by have h0 : (i 0).val < 36 := (i 0).isLt; have h2 : (i 2).val < 512 := (i 2).isLt; omega⟩ : Fin 2048)
/-- Where the element of the scale buffer at an index comes from. -/
def srcS (i : S9x80x2048.Idx) : S3x3x80x2048.Idx :=
  ix4 (⟨(i 0).val / 3, by have h0 : (i 0).val < 9 := (i 0).isLt; omega⟩ : Fin 3) (⟨(i 0).val % 3, by omega⟩ : Fin 3)
    (⟨(i 1).val, (i 1).isLt⟩ : Fin 80) (⟨(i 2).val, (i 2).isLt⟩ : Fin 2048)
/-- The weight buffer once every slab has landed. -/
def WK (hw : HbBuf F c HW) : HbBuf F c MW := fun i => hw (srcW i)
/-- The scale buffer once every slab has landed. -/
def SK (hs : HbBuf F c HWS) : HbBuf F c MWS := fun i => hs (srcS i)

theorem set_wslot (k : Fin 36) : (wslot k).view.set = MW.view.setOn (wrect k).set := (Memref.set_view_squeeze _ _).trans (View.set_slice _ _)
theorem set_wsrc (k : Fin 36) : (wsrc k).view.set = HW.view.setOn (hwrect k).set := (Memref.set_view_squeeze _ _).trans (View.set_slice _ _)
theorem set_sslot (t : Fin 9) : (sslot t).view.set = MWS.view.setOn (srect t).set := (Memref.set_view_squeeze _ _).trans (View.set_slice _ _)
theorem set_ssrc (t : Fin 9) : (ssrc t).view.set = HWS.view.setOn (hsrect t).set := (Memref.set_view_squeeze _ _).trans (View.set_slice _ _)

theorem emb_wslot (k : Fin 36) (a : Fin 2560) (b : Fin 512) : (wslot k).view.emb (ix2 a b) = ix3 k a b := by
  show (wrect k).emb (Shape.reshapeEquiv _ (ix2 a b)) = _
  erw [reshapeEquiv_ix2_1ab]
  funext x
  match x with
  | ⟨0, _⟩ => exact Fin.ext (by show k.val + 1 * 0 = k.val; omega)
  | ⟨1, _⟩ => exact Fin.ext (by show 0 + 1 * a.val = a.val; omega)
  | ⟨2, _⟩ => exact Fin.ext (by show 0 + 1 * b.val = b.val; omega)

theorem emb_wsrc (k : Fin 36) (a : Fin 2560) (b : Fin 512) : (wsrc k).view.emb (ix2 a b) = srcW (ix3 k a b) := by
  show (hwrect k).emb (Shape.reshapeEquiv _ (ix2 a b)) = _
  erw [reshapeEquiv_ix2_11ab]
  funext x
  match x with
  | ⟨0, _⟩ => exact Fin.ext (by show k.val % 9 / 3 + 1 * 0 = k.val % 9 / 3; omega)
  | ⟨1, _⟩ => exact Fin.ext (by show k.val % 3 + 1 * 0 = k.val % 3; omega)
  | ⟨2, _⟩ => exact Fin.ext (by show 0 + 1 * a.val = a.val; omega)
  | ⟨3, _⟩ => exact Fin.ext (by show 512 * (k.val / 9) + 1 * b.val = 512 * (k.val / 9) + b.val; omega)

theorem emb_sslot (k : Fin 9) (a : Fin 80) (b : Fin 2048) : (sslot k).view.emb (ix2 a b) = ix3 k a b := by
  show (srect k).emb (Shape.reshapeEquiv _ (ix2 a b)) = _
  erw [reshapeEquiv_ix2_1ab]
  funext x
  match x with
  | ⟨0, _⟩ => exact Fin.ext (by show k.val + 1 * 0 = k.val; omega)
  | ⟨1, _⟩ => exact Fin.ext (by show 0 + 1 * a.val = a.val; omega)
  | ⟨2, _⟩ => exact Fin.ext (by show 0 + 1 * b.val = b.val; omega)

theorem emb_ssrc (k : Fin 9) (a : Fin 80) (b : Fin 2048) : (ssrc k).view.emb (ix2 a b) = srcS (ix3 k a b) := by
  show (hsrect k).emb (Shape.reshapeEquiv _ (ix2 a b)) = _
  erw [reshapeEquiv_ix2_11ab]
  funext x
  match x with
  | ⟨0, _⟩ => exact Fin.ext (by show k.val / 3 + 1 * 0 = k.val / 3; omega)
  | ⟨1, _⟩ => exact Fin.ext (by show k.val % 3 + 1 * 0 = k.val % 3; omega)
  | ⟨2, _⟩ => exact Fin.ext (by show 0 + 1 * a.val = a.val; omega)
  | ⟨3, _⟩ => exact Fin.ext (by show 0 + 1 * b.val = b.val; omega)

/-- On slab `k` the transfer into it leaves `WK`. -/
theorem land_w (k : Fin 36) (f : HbBuf F c MW) (hw : HbBuf F c HW) : ∀ i ∈ (wslot k).view.set,
    View.write (Elt F) (wslot k).view f (View.read (Elt F) (wsrc k).view hw) Finset.univ i = WK hw i := by
  intro i hi
  obtain ⟨x, -, rfl⟩ := Finset.mem_map.mp hi
  rw [View.write_emb_of_mem _ _ (Finset.mem_univ x)]
  obtain ⟨a, b, rfl⟩ : ∃ (a : Fin 2560) (b : Fin 512), x = ix2 a b := ⟨x 0, x 1, eq_ix2 x⟩
  rw [emb_wslot]
  show hw ((wsrc k).view.emb _) = hw (srcW _)
  rw [emb_wsrc]

/-- On scale slab `t` the transfer into it leaves `SK`. -/
theorem land_s (t : Fin 9) (f : HbBuf F c MWS) (hs : HbBuf F c HWS) : ∀ i ∈ (sslot t).view.set,
    View.write (Elt F) (sslot t).view f (View.read (Elt F) (ssrc t).view hs) Finset.univ i = SK hs i := by
  intro i hi
  obtain ⟨x, -, rfl⟩ := Finset.mem_map.mp hi
  rw [View.write_emb_of_mem _ _ (Finset.mem_univ x)]
  obtain ⟨a, b, rfl⟩ : ∃ (a : Fin 80) (b : Fin 2048), x = ix2 a b := ⟨x 0, x 1, eq_ix2 x⟩
  rw [emb_sslot]
  show hs ((ssrc t).view.emb _) = hs (srcS _)
  rw [emb_ssrc]

/-! ## The families -/

/-- What the transfer of step `k` delivers: the slab landed, its window of the weights given back. -/
abbrev Dw (hw : HbBuf F c HW) (k : Fin 36) : sProp 𝕄 := iprop(holdsOn c MW (wrect k) (WK hw) ∗ holdsOn c HW (hwrect k) hw)
/-- What the transfer of tap `t`'s scales delivers. -/
abbrev Ds (hs : HbBuf F c HWS) (t : Fin 9) : sProp 𝕄 := iprop(holdsOn c MWS (srect t) (SK hs) ∗ holdsOn c HWS (hsrect t) hs)

/-- Step `k`'s transfer: in flight, or landed with its cell at zero. -/
def Φw (hw : HbBuf F c HW) (k : Fin 36) (b : Bool) : sProp 𝕄 :=
  if b then Transfers.Flight (countersEmb (U := Pipeline.UD sig nD τ)) (c : Thread nD τ) (wcell k) () 40960 (Dw hw k)
  else iprop(semVal ((c : Thread nD τ), wcell k) 0 ∗ Dw hw k)
/-- Tap `t`'s transfer of scales, alike. -/
def Φs (hs : HbBuf F c HWS) (t : Fin 9) (b : Bool) : sProp 𝕄 :=
  if b then Transfers.Flight (countersEmb (U := Pipeline.UD sig nD τ)) (c : Thread nD τ) (scell t) () 6144 (Ds hs t)
  else iprop(semVal ((c : Thread nD τ), scell t) 0 ∗ Ds hs t)

theorem deliver_w (k : Fin 36) (f : HbBuf F c MW) (hw : HbBuf F c HW) :
    (iprop(((wslot k).view.loc (c : Thread nD τ) ↦[(wslot k).view.set]{fullShare} View.write (Elt F) (wslot k).view f (View.read (Elt F) (wsrc k).view hw) Finset.univ)
      ∗ (wsrc k).view.loc (c : Thread nD τ) ↦[(wsrc k).view.set]{fullShare} hw) : sProp 𝕄) ⊢ Dw hw k := by
  refine sep_mono (Entails.of_eq ((pointsTo_congr (land_w k f hw)).trans ?_)) (Entails.of_eq ?_)
  · rw [set_wslot]
  · rw [set_wsrc]
theorem deliver_s (t : Fin 9) (f : HbBuf F c MWS) (hs : HbBuf F c HWS) :
    (iprop(((sslot t).view.loc (c : Thread nD τ) ↦[(sslot t).view.set]{fullShare} View.write (Elt F) (sslot t).view f (View.read (Elt F) (ssrc t).view hs) Finset.univ)
      ∗ (ssrc t).view.loc (c : Thread nD τ) ↦[(ssrc t).view.set]{fullShare} hs) : sProp 𝕄) ⊢ Ds hs t := by
  refine sep_mono (Entails.of_eq ((pointsTo_congr (land_s t f hs)).trans ?_)) (Entails.of_eq ?_)
  · rw [set_sslot]
  · rw [set_ssrc]

/-- A transfer just issued is the family's member in flight. -/
theorem flight_w (k : Fin 36) (f : HbBuf F c MW) (hw : HbBuf F c HW) :
    (Transfers.Flight (countersEmb (U := Pipeline.UD sig nD τ)) (c : Thread nD τ) (wcell k) () 40960
      iprop(((wslot k).view.loc (c : Thread nD τ) ↦[(wslot k).view.set]{fullShare} View.write (Elt F) (wslot k).view f (View.read (Elt F) (wsrc k).view hw) Finset.univ)
      ∗ (wsrc k).view.loc (c : Thread nD τ) ↦[(wsrc k).view.set]{fullShare} hw) : sProp 𝕄) ⊢ Φw hw k true :=
  Transfers.Flight_mono _ _ (deliver_w k f hw)
theorem flight_s (t : Fin 9) (f : HbBuf F c MWS) (hs : HbBuf F c HWS) :
    (Transfers.Flight (countersEmb (U := Pipeline.UD sig nD τ)) (c : Thread nD τ) (scell t) () 6144
      iprop(((sslot t).view.loc (c : Thread nD τ) ↦[(sslot t).view.set]{fullShare} View.write (Elt F) (sslot t).view f (View.read (Elt F) (ssrc t).view hs) Finset.univ)
      ∗ (ssrc t).view.loc (c : Thread nD τ) ↦[(ssrc t).view.set]{fullShare} hs) : sProp 𝕄) ⊢ Φs hs t true :=
  Transfers.Flight_mono _ _ (deliver_s t f hs)

/-! ## The whole buffers, slab by slab -/

theorem disj_w (k k' : Fin 36) (h : k ≠ k') : Disjoint (MW.view.setOn (wrect k).set) (MW.view.setOn (wrect k').set) :=
  (Finset.disjoint_map _).mpr (Finset.disjoint_left.mpr fun i hi hi' => h (Fin.ext (by
    have h1 := Rect.mem_set_unit.mp hi 0
    have h2 := Rect.mem_set_unit.mp hi' 0
    have a1 : k.val ≤ (i 0).val := h1.1
    have a2 : (i 0).val < k.val + 1 := h1.2
    have b1 : k'.val ≤ (i 0).val := h2.1
    have b2 : (i 0).val < k'.val + 1 := h2.2
    omega)))
theorem cover_w : Finset.univ.biUnion (fun k : Fin 36 => MW.view.setOn (wrect k).set) = Finset.univ := by
  ext i
  simp only [Finset.mem_biUnion, Finset.mem_univ, true_and, iff_true]
  refine ⟨⟨(i 0).val, (i 0).isLt⟩, Finset.mem_map.mpr ⟨i, Rect.mem_set_unit.mpr fun a => ?_, rfl⟩⟩
  match a with
  | ⟨0, _⟩ => exact ⟨Nat.le_refl _, Nat.lt_succ_self _⟩
  | ⟨1, _⟩ => exact ⟨Nat.zero_le _, by have : (i 1).val < 2560 := (i 1).isLt; show (i 1).val < 0 + 2560; omega⟩
  | ⟨2, _⟩ => exact ⟨Nat.zero_le _, by have : (i 2).val < 512 := (i 2).isLt; show (i 2).val < 0 + 512; omega⟩
theorem disj_s (k k' : Fin 9) (h : k ≠ k') : Disjoint (MWS.view.setOn (srect k).set) (MWS.view.setOn (srect k').set) :=
  (Finset.disjoint_map _).mpr (Finset.disjoint_left.mpr fun i hi hi' => h (Fin.ext (by
    have h1 := Rect.mem_set_unit.mp hi 0
    have h2 := Rect.mem_set_unit.mp hi' 0
    have a1 : k.val ≤ (i 0).val := h1.1
    have a2 : (i 0).val < k.val + 1 := h1.2
    have b1 : k'.val ≤ (i 0).val := h2.1
    have b2 : (i 0).val < k'.val + 1 := h2.2
    omega)))
theorem cover_s : Finset.univ.biUnion (fun k : Fin 9 => MWS.view.setOn (srect k).set) = Finset.univ := by
  ext i
  simp only [Finset.mem_biUnion, Finset.mem_univ, true_and, iff_true]
  refine ⟨⟨(i 0).val, (i 0).isLt⟩, Finset.mem_map.mpr ⟨i, Rect.mem_set_unit.mpr fun a => ?_, rfl⟩⟩
  match a with
  | ⟨0, _⟩ => exact ⟨Nat.le_refl _, Nat.lt_succ_self _⟩
  | ⟨1, _⟩ => exact ⟨Nat.zero_le _, by have : (i 1).val < 80 := (i 1).isLt; show (i 1).val < 0 + 80; omega⟩
  | ⟨2, _⟩ => exact ⟨Nat.zero_le _, by have : (i 2).val < 2048 := (i 2).isLt; show (i 2).val < 0 + 2048; omega⟩
theorem disj_hw (k k' : Fin 36) (h : k ≠ k') : Disjoint (HW.view.setOn (hwrect k).set) (HW.view.setOn (hwrect k').set) :=
  (Finset.disjoint_map _).mpr (Finset.disjoint_left.mpr fun i hi hi' => h (Fin.ext (by
    have h1 := Rect.mem_set_unit.mp hi
    have h2 := Rect.mem_set_unit.mp hi'
    have a0 : k.val % 9 / 3 ≤ (i 0).val := (h1 0).1
    have a1 : (i 0).val < k.val % 9 / 3 + 1 := (h1 0).2
    have a2 : k'.val % 9 / 3 ≤ (i 0).val := (h2 0).1
    have a3 : (i 0).val < k'.val % 9 / 3 + 1 := (h2 0).2
    have b0 : k.val % 3 ≤ (i 1).val := (h1 1).1
    have b1 : (i 1).val < k.val % 3 + 1 := (h1 1).2
    have b2 : k'.val % 3 ≤ (i 1).val := (h2 1).1
    have b3 : (i 1).val < k'.val % 3 + 1 := (h2 1).2
    have c0 : 512 * (k.val / 9) ≤ (i 3).val := (h1 3).1
    have c1 : (i 3).val < 512 * (k.val / 9) + 512 := (h1 3).2
    have c2 : 512 * (k'.val / 9) ≤ (i 3).val := (h2 3).1
    have c3 : (i 3).val < 512 * (k'.val / 9) + 512 := (h2 3).2
    omega)))
theorem cover_hw : Finset.univ.biUnion (fun k : Fin 36 => HW.view.setOn (hwrect k).set) = Finset.univ := by
  ext i
  simp only [Finset.mem_biUnion, Finset.mem_univ, true_and, iff_true]
  have h0 : (i 0).val < 3 := (i 0).isLt
  have h1 : (i 1).val < 3 := (i 1).isLt
  have h2 : (i 2).val < 2560 := (i 2).isLt
  have h3 : (i 3).val < 2048 := (i 3).isLt
  refine ⟨⟨9 * ((i 3).val / 512) + 3 * (i 0).val + (i 1).val, by omega⟩, Finset.mem_map.mpr ⟨i, Rect.mem_set_unit.mpr fun a => ?_, rfl⟩⟩
  match a with
  | ⟨0, _⟩ =>
    show (9 * ((i 3).val / 512) + 3 * (i 0).val + (i 1).val) % 9 / 3 ≤ (i 0).val ∧ (i 0).val < (9 * ((i 3).val / 512) + 3 * (i 0).val + (i 1).val) % 9 / 3 + 1
    omega
  | ⟨1, _⟩ =>
    show (9 * ((i 3).val / 512) + 3 * (i 0).val + (i 1).val) % 3 ≤ (i 1).val ∧ (i 1).val < (9 * ((i 3).val / 512) + 3 * (i 0).val + (i 1).val) % 3 + 1
    omega
  | ⟨2, _⟩ => exact ⟨Nat.zero_le _, by show (i 2).val < 0 + 2560; omega⟩
  | ⟨3, _⟩ =>
    show 512 * ((9 * ((i 3).val / 512) + 3 * (i 0).val + (i 1).val) / 9) ≤ (i 3).val ∧ (i 3).val < 512 * ((9 * ((i 3).val / 512) + 3 * (i 0).val + (i 1).val) / 9) + 512
    omega
theorem disj_hs (k k' : Fin 9) (h : k ≠ k') : Disjoint (HWS.view.setOn (hsrect k).set) (HWS.view.setOn (hsrect k').set) :=
  (Finset.disjoint_map _).mpr (Finset.disjoint_left.mpr fun i hi hi' => h (Fin.ext (by
    have h1 := Rect.mem_set_unit.mp hi
    have h2 := Rect.mem_set_unit.mp hi'
    have a0 : k.val / 3 ≤ (i 0).val := (h1 0).1
    have a1 : (i 0).val < k.val / 3 + 1 := (h1 0).2
    have a2 : k'.val / 3 ≤ (i 0).val := (h2 0).1
    have a3 : (i 0).val < k'.val / 3 + 1 := (h2 0).2
    have b0 : k.val % 3 ≤ (i 1).val := (h1 1).1
    have b1 : (i 1).val < k.val % 3 + 1 := (h1 1).2
    have b2 : k'.val % 3 ≤ (i 1).val := (h2 1).1
    have b3 : (i 1).val < k'.val % 3 + 1 := (h2 1).2
    omega)))
theorem cover_hs : Finset.univ.biUnion (fun k : Fin 9 => HWS.view.setOn (hsrect k).set) = Finset.univ := by
  ext i
  simp only [Finset.mem_biUnion, Finset.mem_univ, true_and, iff_true]
  have h0 : (i 0).val < 3 := (i 0).isLt
  have h1 : (i 1).val < 3 := (i 1).isLt
  have h2 : (i 2).val < 80 := (i 2).isLt
  have h3 : (i 3).val < 2048 := (i 3).isLt
  refine ⟨⟨3 * (i 0).val + (i 1).val, by omega⟩, Finset.mem_map.mpr ⟨i, Rect.mem_set_unit.mpr fun a => ?_, rfl⟩⟩
  match a with
  | ⟨0, _⟩ =>
    show (3 * (i 0).val + (i 1).val) / 3 ≤ (i 0).val ∧ (i 0).val < (3 * (i 0).val + (i 1).val) / 3 + 1
    omega
  | ⟨1, _⟩ =>
    show (3 * (i 0).val + (i 1).val) % 3 ≤ (i 1).val ∧ (i 1).val < (3 * (i 0).val + (i 1).val) % 3 + 1
    omega
  | ⟨2, _⟩ => exact ⟨Nat.zero_le _, by show (i 2).val < 0 + 80; omega⟩
  | ⟨3, _⟩ => exact ⟨Nat.zero_le _, by show (i 3).val < 0 + 2048; omega⟩

theorem split_w (f : HbBuf F c MW) : (holds c MW f : sProp 𝕄) = bigSep Finset.univ fun k : Fin 36 => holdsOn c MW (wrect k) f :=
  (by unfold holds; rw [View.set_whole] : (holds c MW f : sProp 𝕄) = _).trans (Ring.pointsTo_blocks _ disj_w cover_w f)
theorem split_s (f : HbBuf F c MWS) : (holds c MWS f : sProp 𝕄) = bigSep Finset.univ fun k : Fin 9 => holdsOn c MWS (srect k) f :=
  (by unfold holds; rw [View.set_whole] : (holds c MWS f : sProp 𝕄) = _).trans (Ring.pointsTo_blocks _ disj_s cover_s f)
theorem split_hw (f : HbBuf F c HW) : (holds c HW f : sProp 𝕄) = bigSep Finset.univ fun k : Fin 36 => holdsOn c HW (hwrect k) f :=
  (by unfold holds; rw [View.set_whole] : (holds c HW f : sProp 𝕄) = _).trans (Ring.pointsTo_blocks _ disj_hw cover_hw f)
theorem split_hs (f : HbBuf F c HWS) : (holds c HWS f : sProp 𝕄) = bigSep Finset.univ fun k : Fin 9 => holdsOn c HWS (hsrect k) f :=
  (by unfold holds; rw [View.set_whole] : (holds c HWS f : sProp 𝕄) = _).trans (Ring.pointsTo_blocks _ disj_hs cover_hs f)

/-! ## The loop's words in closed form -/

theorem off91_eq : ∀ k : Fin k0_t2_loop.trips, k0_off91 k = ![k.val % 9, 0, 512 * (k.val / 9)] := by decide +kernel
instance closedOff_off91 (k : Fin k0_t2_loop.trips) : ClosedOff (k0_off91 k) := ⟨![k.val % 9, 0, 512 * (k.val / 9)], off91_eq k⟩
theorem cond1_iff : ∀ k : Fin k0_t2_loop.trips, k0_cond1 k = 1#1 ↔ k.val < 9 := by decide +kernel
theorem cond2_iff : ∀ k : Fin k0_t2_loop.trips, k0_cond2 k = 1#1 ↔ k.val % 9 = 0 := by decide +kernel
theorem cond3_iff : ∀ k : Fin k0_t2_loop.trips, k0_cond3 k = 1#1 ↔ ¬ k.val % 9 = 0 := by decide +kernel

end Cert.Kernel.Hand

end
-- ==== Proof.Kernel.Loop.lean ====
/-
  One step of the kernel's 36-step loop, at a symbolic step: it waits for its weight slab (and in the first nine steps
  for its tap's scales), decodes the scales, multiplies and adds into the accumulator. The slabs are members of the two
  families of Base; the loop's invariant is that the members from `k` on are still in flight.
-/
module

public import proofs.«01_k».proof.Proof.Kernel.Base

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The step's slabs and cells as the program names them -/

abbrev pwcell (k : Fin k0_t2_loop.trips) : SemLoc sig :=
  SemLoc.dma ((cc0_scoped1.slice (Rect.unit (s := S36) (k0_off88 k) S1.size (k0_off88_inb k))).squeeze S_ squeezes_S1_S_).sem
abbrev pwslot (k : Fin k0_t2_loop.trips) : Memref sig .tc .vmem S2560x512 .fp8e4m3 :=
  (MW.slice (Rect.unit (s := S36x2560x512) (k0_off89 k) S1x2560x512.size (k0_off89_inb k)) (fun _ => rfl)).squeeze S2560x512 squeezes_S1x2560x512_S2560x512
abbrev pscell (k : Fin k0_t2_loop.trips) (h : k0_cond1 k = 1#1) : SemLoc sig :=
  SemLoc.dma ((cc0_scoped2.slice (Rect.unit (s := S9) (k0_off85 k) S1.size (k0_off85_inb k h))).squeeze S_ squeezes_S1_S_).sem
abbrev psslot (k : Fin k0_t2_loop.trips) (h : k0_cond1 k = 1#1) : Memref sig .tc .vmem S80x2048 .i8 :=
  (MWS.slice (Rect.unit (s := S9x80x2048) (k0_off86 k) S1x80x2048.size (k0_off86_inb k h)) (fun _ => rfl)).squeeze S80x2048 squeezes_S1x80x2048_S80x2048

/-- Step `k` as a member of the families. -/
abbrev mem36 (k : Fin k0_t2_loop.trips) : Fin 36 := ⟨k.val, lt_of_lt_of_eq k.isLt trips2⟩
abbrev mem9 (k : Fin k0_t2_loop.trips) : Fin 9 := ⟨k.val % 9, Nat.mod_lt _ (by decide)⟩

theorem pwcell_eq : ∀ k : Fin k0_t2_loop.trips, pwcell k = wcell (mem36 k) := by decide +kernel
theorem pscell_eq : ∀ (k : Fin k0_t2_loop.trips) (h : k0_cond1 k = 1#1), pscell k h = scell (mem9 k) := by decide +kernel
theorem pwcredit (k : Fin k0_t2_loop.trips) : (pwslot k).view.dmaCredit = 40960 := by rfl
theorem pscredit (k : Fin k0_t2_loop.trips) (h : k0_cond1 k = 1#1) : (psslot k h).view.dmaCredit = 6144 := by rfl

theorem s_inb' (t : Fin k0_t2_loop.trips) : ∀ a, (![t.val % 9, 0, 0] : Fin 3 → ℕ) a + S1x80x2048.size a ≤ S9x80x2048.size a := by
  revert t; decide +kernel
abbrev srect' (t : Fin k0_t2_loop.trips) : Rect S9x80x2048 := Rect.unit (s := S9x80x2048) ![t.val % 9, 0, 0] S1x80x2048.size (s_inb' t)

variable (c : Dev nD)

/-- What a step does to the accumulator: of no interest for the frame. -/
def AccStep (k : Fin k0_t2_loop.trips) (fw : HbBuf F c MW) (fws : HbBuf F c MWS) (fp : HbBuf F c MP) (fa fa' : HbBuf F c MA) : Prop := True
/-- What the accumulator holds before step `k`. -/
def AccInv (hw : HbBuf F c HW) (hs : HbBuf F c HWS) (fp : HbBuf F c MP) (k : ℕ) (fa : HbBuf F c MA) : Prop := True
@[simp] theorem accInv_zero (hw : HbBuf F c HW) (hs : HbBuf F c HWS) (fp : HbBuf F c MP) (fa : HbBuf F c MA) : AccInv c hw hs fp 0 fa := trivial
theorem accInv_succ (hw : HbBuf F c HW) (hs : HbBuf F c HWS) (fp : HbBuf F c MP) (k : Fin k0_t2_loop.trips) (fa fa' : HbBuf F c MA)
    (h : AccInv c hw hs fp k.val fa) (h' : AccStep c k (WK hw) (SK hs) fp fa fa') : AccInv c hw hs fp (k.val + 1) fa' := trivial

/-- The step's program. -/
abbrev body2 (arg4 : Memref sig .tc .vmem S1x2048 .f32) (harg4 : arg4.IsWhole) (arg5 : Memref sig .tc .vmem S2x6x10x2048 .bf16) (harg5 : arg5.IsWhole) :
    Fin k0_t2_loop.trips → Unit → Prog (TpuEff nD τ sig (Elt F) Λ₀ .tc) Unit :=
  k0_t2_body HX (Memref.isWhole_whole _) HS (Memref.isWhole_whole _) HW (Memref.isWhole_whole _) HWS (Memref.isWhole_whole _) arg4 harg4 arg5 harg5
    MX (Memref.isWhole_whole _) MS (Memref.isWhole_whole _) MW (Memref.isWhole_whole _) MWS (Memref.isWhole_whole _)
    MC (Memref.isWhole_whole _) MP (Memref.isWhole_whole _) MD (Memref.isWhole_whole _) MA (Memref.isWhole_whole _) cc0_scoped0 cc0_scoped1 cc0_scoped2

/-- The first step: the scales awaited, the accumulator started. -/
theorem trip_A (k : Fin k0_t2_loop.trips) (h1 : k0_cond1 k = 1#1) (h2 : k0_cond2 k = 1#1) (h3 : ¬ k0_cond3 k = 1#1)
    (arg4 : Memref sig .tc .vmem S1x2048 .f32) (harg4 : arg4.IsWhole) (arg5 : Memref sig .tc .vmem S2x6x10x2048 .bf16) (harg5 : arg5.IsWhole)
    (fw : HbBuf F c MW) (fh : HbBuf F c HW) (fws : HbBuf F c MWS) (fs : HbBuf F c HWS) (fp : HbBuf F c MP) (fa : HbBuf F c MA) (W : Waits sig Unit) :
    (iprop(Transfers.Flight (countersEmb (U := Pipeline.UD sig nD τ)) (c : Thread nD τ) (pwcell k) () (pwslot k).view.dmaCredit
         iprop((MW.view.loc (c : Thread nD τ) ↦[MW.view.setOn (wrect (mem36 k)).set]{fullShare} fw) ∗ holdsOn c HW (hwrect (mem36 k)) fh)
      ∗ Transfers.Flight (countersEmb (U := Pipeline.UD sig nD τ)) (c : Thread nD τ) (pscell k h1) () (psslot k h1).view.dmaCredit
         iprop((MWS.view.loc (c : Thread nD τ) ↦[MWS.view.setOn (srect' k).set]{fullShare} fws) ∗ holdsOn c HWS (hsrect (mem9 k)) fs)
      ∗ holds c MP fp
      ∗ (∃ fd, holds c MD fd)
      ∗ holds c MA fa
      ∗ owes (c : Thread nD τ) 0 W) : sProp 𝕄)
    ⊢ wp frame (wpE (defs₀ (F := F)) Variants.none c none) Set.univ
      (body2 arg4 harg4 arg5 harg5 k ())
      (fun _ => iprop((semVal ((c : Thread nD τ), pwcell k) 0 ∗ holdsOn c MW (wrect (mem36 k)) fw ∗ holdsOn c HW (hwrect (mem36 k)) fh)
        ∗ (semVal ((c : Thread nD τ), pscell k h1) 0 ∗ (MWS.view.loc (c : Thread nD τ) ↦[MWS.view.setOn (srect' k).set]{fullShare} fws) ∗ holdsOn c HWS (hsrect (mem9 k)) fs)
        ∗ holds c MP fp
        ∗ (∃ fd, holds c MD fd)
        ∗ (∃ fa', holds c MA fa' ∗ ⌜AccStep c k fw fws fp fa fa'⌝)
        ∗ ∃ W, owes (c : Thread nD τ) 0 W)) := by
  have hk : k.val < 36 := Nat.lt_of_lt_of_le k.isLt (by decide)
  unfold body2 k0_t2_body
  iintro ⟨Hf, Hg, Hp, ⟨%fd, Hd⟩, Ha, HO⟩
  sl_exec
  sl_step
  isplitl [Hf Hf_dst Hf_src]
  · isplitl [Hf]; · iexact Hf
    isplitl [Hf_dst]; · iexact Hf_dst
    iexact Hf_src
  isplitl [Hg Hg_dst Hg_src]
  · isplitl [Hg]; · iexact Hg
    isplitl [Hg_dst]; · iexact Hg_dst
    iexact Hg_src
  isplitl [Hp]; · iexact Hp
  isplitl [Hd]; · iexists _; iexact Hd
  isplitr [HO]
  · iexists _
    isplitl [Ha]; · iexact Ha
    ipureintro
    trivial
  · iexists _; iexact HO

/-- Steps 1 to 8: the scales awaited, the accumulator added to. -/
theorem trip_B (k : Fin k0_t2_loop.trips) (h1 : k0_cond1 k = 1#1) (h2 : ¬ k0_cond2 k = 1#1) (h3 : k0_cond3 k = 1#1)
    (arg4 : Memref sig .tc .vmem S1x2048 .f32) (harg4 : arg4.IsWhole) (arg5 : Memref sig .tc .vmem S2x6x10x2048 .bf16) (harg5 : arg5.IsWhole)
    (fw : HbBuf F c MW) (fh : HbBuf F c HW) (fws : HbBuf F c MWS) (fs : HbBuf F c HWS) (fp : HbBuf F c MP) (fa : HbBuf F c MA) (W : Waits sig Unit) :
    (iprop(Transfers.Flight (countersEmb (U := Pipeline.UD sig nD τ)) (c : Thread nD τ) (pwcell k) () (pwslot k).view.dmaCredit
         iprop((MW.view.loc (c : Thread nD τ) ↦[MW.view.setOn (wrect (mem36 k)).set]{fullShare} fw) ∗ holdsOn c HW (hwrect (mem36 k)) fh)
      ∗ Transfers.Flight (countersEmb (U := Pipeline.UD sig nD τ)) (c : Thread nD τ) (pscell k h1) () (psslot k h1).view.dmaCredit
         iprop((MWS.view.loc (c : Thread nD τ) ↦[MWS.view.setOn (srect' k).set]{fullShare} fws) ∗ holdsOn c HWS (hsrect (mem9 k)) fs)
      ∗ holds c MP fp
      ∗ (∃ fd, holds c MD fd)
      ∗ holds c MA fa
      ∗ owes (c : Thread nD τ) 0 W) : sProp 𝕄)
    ⊢ wp frame (wpE (defs₀ (F := F)) Variants.none c none) Set.univ
      (body2 arg4 harg4 arg5 harg5 k ())
      (fun _ => iprop((semVal ((c : Thread nD τ), pwcell k) 0 ∗ holdsOn c MW (wrect (mem36 k)) fw ∗ holdsOn c HW (hwrect (mem36 k)) fh)
        ∗ (semVal ((c : Thread nD τ), pscell k h1) 0 ∗ (MWS.view.loc (c : Thread nD τ) ↦[MWS.view.setOn (srect' k).set]{fullShare} fws) ∗ holdsOn c HWS (hsrect (mem9 k)) fs)
        ∗ holds c MP fp
        ∗ (∃ fd, holds c MD fd)
        ∗ (∃ fa', holds c MA fa' ∗ ⌜AccStep c k fw fws fp fa fa'⌝)
        ∗ ∃ W, owes (c : Thread nD τ) 0 W)) := by
  have hk : k.val < 36 := Nat.lt_of_lt_of_le k.isLt (by decide)
  unfold body2 k0_t2_body
  iintro ⟨Hf, Hg, Hp, ⟨%fd, Hd⟩, Ha, HO⟩
  sl_exec
  sl_step
  isplitl [Hf Hf_dst Hf_src]
  · isplitl [Hf]; · iexact Hf
    isplitl [Hf_dst]; · iexact Hf_dst
    iexact Hf_src
  isplitl [Hg Hg_dst Hg_src]
  · isplitl [Hg]; · iexact Hg
    isplitl [Hg_dst]; · iexact Hg_dst
    iexact Hg_src
  isplitl [Hp]; · iexact Hp
  isplitl [Hd]; · iexists _; iexact Hd
  isplitr [HO]
  · iexists _
    isplitl [Ha]; · iexact Ha
    ipureintro
    trivial
  · iexists _; iexact HO

/-- Steps 9, 18 and 27: the accumulator started. -/
theorem trip_C (k : Fin k0_t2_loop.trips) (h1 : ¬ k0_cond1 k = 1#1) (h2 : k0_cond2 k = 1#1) (h3 : ¬ k0_cond3 k = 1#1)
    (arg4 : Memref sig .tc .vmem S1x2048 .f32) (harg4 : arg4.IsWhole) (arg5 : Memref sig .tc .vmem S2x6x10x2048 .bf16) (harg5 : arg5.IsWhole)
    (fw : HbBuf F c MW) (fh : HbBuf F c HW) (fws : HbBuf F c MWS) (fs : HbBuf F c HWS) (fp : HbBuf F c MP) (fa : HbBuf F c MA) (W : Waits sig Unit) :
    (iprop(Transfers.Flight (countersEmb (U := Pipeline.UD sig nD τ)) (c : Thread nD τ) (pwcell k) () (pwslot k).view.dmaCredit
         iprop((MW.view.loc (c : Thread nD τ) ↦[MW.view.setOn (wrect (mem36 k)).set]{fullShare} fw) ∗ holdsOn c HW (hwrect (mem36 k)) fh)
      ∗ (semVal ((c : Thread nD τ), scell (mem9 k)) 0 ∗ (MWS.view.loc (c : Thread nD τ) ↦[MWS.view.setOn (srect' k).set]{fullShare} fws) ∗ holdsOn c HWS (hsrect (mem9 k)) fs)
      ∗ holds c MP fp
      ∗ (∃ fd, holds c MD fd)
      ∗ holds c MA fa
      ∗ owes (c : Thread nD τ) 0 W) : sProp 𝕄)
    ⊢ wp frame (wpE (defs₀ (F := F)) Variants.none c none) Set.univ
      (body2 arg4 harg4 arg5 harg5 k ())
      (fun _ => iprop((semVal ((c : Thread nD τ), pwcell k) 0 ∗ holdsOn c MW (wrect (mem36 k)) fw ∗ holdsOn c HW (hwrect (mem36 k)) fh)
        ∗ (semVal ((c : Thread nD τ), scell (mem9 k)) 0 ∗ (MWS.view.loc (c : Thread nD τ) ↦[MWS.view.setOn (srect' k).set]{fullShare} fws) ∗ holdsOn c HWS (hsrect (mem9 k)) fs)
        ∗ holds c MP fp
        ∗ (∃ fd, holds c MD fd)
        ∗ (∃ fa', holds c MA fa' ∗ ⌜AccStep c k fw fws fp fa fa'⌝)
        ∗ ∃ W, owes (c : Thread nD τ) 0 W)) := by
  have hk : k.val < 36 := Nat.lt_of_lt_of_le k.isLt (by decide)
  unfold body2 k0_t2_body
  iintro ⟨Hf, ⟨Hg, Hg_dst, Hg_src⟩, Hp, ⟨%fd, Hd⟩, Ha, HO⟩
  sl_exec
  sl_step
  isplitl [Hf Hf_dst Hf_src]
  · isplitl [Hf]; · iexact Hf
    isplitl [Hf_dst]; · iexact Hf_dst
    iexact Hf_src
  isplitl [Hg Hg_dst Hg_src]
  · isplitl [Hg]; · iexact Hg
    isplitl [Hg_dst]; · iexact Hg_dst
    iexact Hg_src
  isplitl [Hp]; · iexact Hp
  isplitl [Hd]; · iexists _; iexact Hd
  isplitr [HO]
  · iexists _
    isplitl [Ha]; · iexact Ha
    ipureintro
    trivial
  · iexists _; iexact HO

/-- The other steps: the accumulator added to. -/
theorem trip_D (k : Fin k0_t2_loop.trips) (h1 : ¬ k0_cond1 k = 1#1) (h2 : ¬ k0_cond2 k = 1#1) (h3 : k0_cond3 k = 1#1)
    (arg4 : Memref sig .tc .vmem S1x2048 .f32) (harg4 : arg4.IsWhole) (arg5 : Memref sig .tc .vmem S2x6x10x2048 .bf16) (harg5 : arg5.IsWhole)
    (fw : HbBuf F c MW) (fh : HbBuf F c HW) (fws : HbBuf F c MWS) (fs : HbBuf F c HWS) (fp : HbBuf F c MP) (fa : HbBuf F c MA) (W : Waits sig Unit) :
    (iprop(Transfers.Flight (countersEmb (U := Pipeline.UD sig nD τ)) (c : Thread nD τ) (pwcell k) () (pwslot k).view.dmaCredit
         iprop((MW.view.loc (c : Thread nD τ) ↦[MW.view.setOn (wrect (mem36 k)).set]{fullShare} fw) ∗ holdsOn c HW (hwrect (mem36 k)) fh)
      ∗ (semVal ((c : Thread nD τ), scell (mem9 k)) 0 ∗ (MWS.view.loc (c : Thread nD τ) ↦[MWS.view.setOn (srect' k).set]{fullShare} fws) ∗ holdsOn c HWS (hsrect (mem9 k)) fs)
      ∗ holds c MP fp
      ∗ (∃ fd, holds c MD fd)
      ∗ holds c MA fa
      ∗ owes (c : Thread nD τ) 0 W) : sProp 𝕄)
    ⊢ wp frame (wpE (defs₀ (F := F)) Variants.none c none) Set.univ
      (body2 arg4 harg4 arg5 harg5 k ())
      (fun _ => iprop((semVal ((c : Thread nD τ), pwcell k) 0 ∗ holdsOn c MW (wrect (mem36 k)) fw ∗ holdsOn c HW (hwrect (mem36 k)) fh)
        ∗ (semVal ((c : Thread nD τ), scell (mem9 k)) 0 ∗ (MWS.view.loc (c : Thread nD τ) ↦[MWS.view.setOn (srect' k).set]{fullShare} fws) ∗ holdsOn c HWS (hsrect (mem9 k)) fs)
        ∗ holds c MP fp
        ∗ (∃ fd, holds c MD fd)
        ∗ (∃ fa', holds c MA fa' ∗ ⌜AccStep c k fw fws fp fa fa'⌝)
        ∗ ∃ W, owes (c : Thread nD τ) 0 W)) := by
  have hk : k.val < 36 := Nat.lt_of_lt_of_le k.isLt (by decide)
  unfold body2 k0_t2_body
  iintro ⟨Hf, ⟨Hg, Hg_dst, Hg_src⟩, Hp, ⟨%fd, Hd⟩, Ha, HO⟩
  sl_exec
  sl_step
  isplitl [Hf Hf_dst Hf_src]
  · isplitl [Hf]; · iexact Hf
    isplitl [Hf_dst]; · iexact Hf_dst
    iexact Hf_src
  isplitl [Hg Hg_dst Hg_src]
  · isplitl [Hg]; · iexact Hg
    isplitl [Hg_dst]; · iexact Hg_dst
    iexact Hg_src
  isplitl [Hp]; · iexact Hp
  isplitl [Hd]; · iexists _; iexact Hd
  isplitr [HO]
  · iexists _
    isplitl [Ha]; · iexact Ha
    ipureintro
    trivial
  · iexists _; iexact HO

/-! ## The invariant -/

/-- The weight family before step `k`: the members from `k` on in flight. -/
def stW (k : ℕ) : Fin 36 → Bool := fun j => decide (k ≤ j.val)
/-- The scale family before step `k`. -/
def stS (k : ℕ) : Fin 9 → Bool := fun j => decide (k ≤ j.val)

theorem stW_succ (k : Fin 36) : Function.update (stW k.val) k false = stW (k.val + 1) := by
  funext j
  by_cases hj : j = k
  · subst hj; rw [Function.update_self]; simp [stW]
  · rw [Function.update_of_ne hj]
    have hv : j.val ≠ k.val := fun h => hj (Fin.ext h)
    exact decide_eq_decide.mpr (by omega)
theorem stS_succ (k : ℕ) (h : k < 9) : Function.update (stS k) (⟨k % 9, Nat.mod_lt _ (by decide)⟩ : Fin 9) false = stS (k + 1) := by
  funext j
  by_cases hj : j = ⟨k % 9, Nat.mod_lt _ (by decide)⟩
  · subst hj; rw [Function.update_self]; have : k % 9 = k := Nat.mod_eq_of_lt h; simp [stS, this]
  · rw [Function.update_of_ne hj]
    have hv : j.val ≠ k := fun h' => hj (Fin.ext (by rw [h']; exact (Nat.mod_eq_of_lt h).symm))
    exact decide_eq_decide.mpr (by omega)
theorem stS_succ' (k : ℕ) (h : ¬ k < 9) : Function.update (stS k) (⟨k % 9, Nat.mod_lt _ (by decide)⟩ : Fin 9) false = stS (k + 1) := by
  funext j
  have hj' := j.isLt
  by_cases hj : j = ⟨k % 9, Nat.mod_lt _ (by decide)⟩
  · subst hj; rw [Function.update_self]; exact (decide_eq_false (by show ¬ k + 1 ≤ k % 9; omega)).symm
  · rw [Function.update_of_ne hj]
    exact decide_eq_decide.mpr (by omega)

/-- Before step `k`: the members from `k` on in flight, the planes as the earlier loop left them, the accumulator as
    `AccInv` says. -/
abbrev inv2 (hw : HbBuf F c HW) (hs : HbBuf F c HWS) (fp : HbBuf F c MP) (k : ℕ) (_ : Unit) : sProp 𝕄 :=
  iprop(Ring.AtW (Φw (c := c) hw) (stW k) ∗ Ring.AtW (Φs (c := c) hs) (stS k)
    ∗ holds c MP fp ∗ (∃ fd, holds c MD fd) ∗ (∃ fa, holds c MA fa ∗ ⌜AccInv c hw hs fp k fa⌝) ∗ ∃ W, owes (c : Thread nD τ) 0 W)

/-- What one step does to the two focused members and the buffers. -/
theorem trip_fam (hw : HbBuf F c HW) (hs : HbBuf F c HWS) (fp : HbBuf F c MP) (fa : HbBuf F c MA) (k : Fin k0_t2_loop.trips)
    (arg4 : Memref sig .tc .vmem S1x2048 .f32) (harg4 : arg4.IsWhole) (arg5 : Memref sig .tc .vmem S2x6x10x2048 .bf16) (harg5 : arg5.IsWhole) (W : Waits sig Unit) :
    (iprop(Φw (c := c) hw (mem36 k) true ∗ Φs (c := c) hs (mem9 k) (decide (k.val < 9))
      ∗ holds c MP fp ∗ (∃ fd, holds c MD fd) ∗ holds c MA fa ∗ owes (c : Thread nD τ) 0 W) : sProp 𝕄)
    ⊢ wp frame (wpE (defs₀ (F := F)) Variants.none c none) Set.univ (body2 arg4 harg4 arg5 harg5 k ())
      (fun _ => iprop(Φw (c := c) hw (mem36 k) false ∗ Φs (c := c) hs (mem9 k) false
        ∗ holds c MP fp ∗ (∃ fd, holds c MD fd) ∗ (∃ fa', holds c MA fa' ∗ ⌜AccStep c k (WK hw) (SK hs) fp fa fa'⌝) ∗ ∃ W, owes (c : Thread nD τ) 0 W)) := by
  have e1 := cond1_iff k
  have e2 := cond2_iff k
  have e3 := cond3_iff k
  simp only [Φw, if_true, Bool.false_eq_true, if_false, ← pwcell_eq k, ← pwcredit k]
  by_cases h : k.val < 9
  · have h1 := e1.mpr h
    simp only [Φs, h, decide_true, if_true, Bool.false_eq_true, if_false, ← pscell_eq k h1, ← pscredit k h1]
    by_cases h0 : k.val % 9 = 0
    · exact trip_A c k h1 (e2.mpr h0) (fun h' => e3.mp h' h0) arg4 harg4 arg5 harg5 (WK hw) hw (SK hs) hs fp fa W
    · exact trip_B c k h1 (fun h' => h0 (e2.mp h')) (e3.mpr h0) arg4 harg4 arg5 harg5 (WK hw) hw (SK hs) hs fp fa W
  · have h1 : ¬ k0_cond1 k = 1#1 := fun h' => h (e1.mp h')
    simp only [Φs, h, decide_false, Bool.false_eq_true, if_false]
    by_cases h0 : k.val % 9 = 0
    · exact trip_C c k h1 (e2.mpr h0) (fun h' => e3.mp h' h0) arg4 harg4 arg5 harg5 (WK hw) hw (SK hs) hs fp fa W
    · exact trip_D c k h1 (fun h' => h0 (e2.mp h')) (e3.mpr h0) arg4 harg4 arg5 harg5 (WK hw) hw (SK hs) hs fp fa W

theorem step2 (hw : HbBuf F c HW) (hs : HbBuf F c HWS) (fp : HbBuf F c MP) (k : Fin k0_t2_loop.trips)
    (arg4 : Memref sig .tc .vmem S1x2048 .f32) (harg4 : arg4.IsWhole) (arg5 : Memref sig .tc .vmem S2x6x10x2048 .bf16) (harg5 : arg5.IsWhole) :
    inv2 c hw hs fp k.val () ⊢ wp frame (wpE (defs₀ (F := F)) Variants.none c none) Set.univ (body2 arg4 harg4 arg5 harg5 k ())
      (inv2 c hw hs fp (k.val + 1)) := by
  unfold inv2
  rw [Ring.AtW_focus (Φw (c := c) hw) (stW k.val) (mem36 k), Ring.AtW_focus (Φs (c := c) hs) (stS k.val) (mem9 k)]
  have eW : stW k.val (mem36 k) = true := decide_eq_true (Nat.le_refl _)
  have eS : stS k.val (mem9 k) = decide (k.val < 9) := decide_eq_decide.mpr (by show k.val ≤ k.val % 9 ↔ _; omega)
  have uS : Function.update (stS k.val) (mem9 k) false = stS (k.val + 1) := by
    by_cases h : k.val < 9
    · exact stS_succ k.val h
    · exact stS_succ' k.val h
  have uW : Function.update (stW k.val) (mem36 k) false = stW (k.val + 1) := stW_succ (mem36 k)
  rw [eW, eS, ← uW, ← uS]
  iintro ⟨⟨Hw, Hwr⟩, ⟨Hs, Hsr⟩, Hp, Hd, ⟨%fa, Ha, %hfa⟩, ⟨%W, HO⟩⟩
  iapply (wp_wand_r frame (wpE (defs₀ (F := F)) Variants.none c none) Set.univ)
  isplitl [Hw Hs Hp Hd Ha HO]
  · iapply (trip_fam c hw hs fp fa k arg4 harg4 arg5 harg5 W)
    isplitl [Hw]; · iexact Hw
    isplitl [Hs]; · iexact Hs
    isplitl [Hp]; · iexact Hp
    isplitl [Hd]; · iexact Hd
    isplitl [Ha]; · iexact Ha
    iexact HO
  · iintro %_ ⟨Hw, Hs, Hp, Hd, ⟨%fa', Ha, %hfa'⟩, HO⟩
    isplitl [Hw Hwr]
    · iapply (Ring.AtW_update (Φw (c := c) hw) (stW k.val) (mem36 k) false)
      isplitl [Hw]; · iexact Hw
      iexact Hwr
    isplitl [Hs Hsr]
    · iapply (Ring.AtW_update (Φs (c := c) hs) (stS k.val) (mem9 k) false)
      isplitl [Hs]; · iexact Hs
      iexact Hsr
    isplitl [Hp]; · iexact Hp
    isplitl [Hd]; · iexact Hd
    isplitl [Ha]
    · iexists fa'
      isplitl [Ha]; · iexact Ha
      ipureintro
      exact accInv_succ c hw hs fp k fa fa' hfa hfa'
    · iexact HO

set_option warn.classDefReducibility false in
/-- The loop's invariant, for the run. -/
@[sl_loop] def loop2 (hw : HbBuf F c HW) (hs : HbBuf F c HWS) (fp : HbBuf F c MP)
    (arg4 : Memref sig .tc .vmem S1x2048 .f32) (harg4 : arg4.IsWhole) (arg5 : Memref sig .tc .vmem S2x6x10x2048 .bf16) (harg5 : arg5.IsWhole) :
    LoopInvTy_k0_t2 (F := F) Unit ℕ (Pipeline.UD sig nD τ) ℕ Variants.none c none Set.univ HX (Memref.isWhole_whole _) HS (Memref.isWhole_whole _) HW (Memref.isWhole_whole _) HWS (Memref.isWhole_whole _) arg4 harg4 arg5 harg5 MX (Memref.isWhole_whole _) MS (Memref.isWhole_whole _) MW (Memref.isWhole_whole _) MWS (Memref.isWhole_whole _) MC (Memref.isWhole_whole _) MP (Memref.isWhole_whole _) MD (Memref.isWhole_whole _) MA (Memref.isWhole_whole _) cc0_scoped0 cc0_scoped1 cc0_scoped2 where
  inv := inv2 c hw hs fp
  step k _ := step2 c hw hs fp k arg4 harg4 arg5 harg5

end Cert.Kernel.Hand

end
-- ==== Proof.Kernel.Planes.lean ====
/-
  The kernel's first loop, twenty steps, one lane tile of the input each: it decodes the tile's codes and scales and
  lays them out in the planes the matrix products read.
-/
module

public import proofs.«01_k».proof.Proof.Kernel.Base

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD)

/-- What the planes hold before step `k`: of no interest for the frame. -/
def PlaneInv (X : HbBuf F c MX) (C : HbBuf F c MC) (k : ℕ) (f : HbBuf F c MP) : Prop := True
@[simp] theorem planeInv_zero (X : HbBuf F c MX) (C : HbBuf F c MC) (f : HbBuf F c MP) : PlaneInv c X C 0 f := trivial

/-- The step's program. -/
abbrev body1 (arg4 : Memref sig .tc .vmem S1x2048 .f32) (harg4 : arg4.IsWhole) (arg5 : Memref sig .tc .vmem S2x6x10x2048 .bf16) (harg5 : arg5.IsWhole) (v574_r0 : IVec S20x80 32) (c23_i32_493_r0 : BitVec 32) :
    Fin k0_t1_loop.trips → Unit → Prog (TpuEff nD τ sig (Elt F) Λ₀ .tc) Unit :=
  k0_t1_body HX (Memref.isWhole_whole _) HS (Memref.isWhole_whole _) HW (Memref.isWhole_whole _) HWS (Memref.isWhole_whole _) arg4 harg4 arg5 harg5
    MX (Memref.isWhole_whole _) MS (Memref.isWhole_whole _) MW (Memref.isWhole_whole _) MWS (Memref.isWhole_whole _)
    MC (Memref.isWhole_whole _) MP (Memref.isWhole_whole _) MD (Memref.isWhole_whole _) MA (Memref.isWhole_whole _) cc0_scoped0 cc0_scoped1 cc0_scoped2 v574_r0 c23_i32_493_r0

/-- Before step `k`: the codes and the scales as they are, the planes as `PlaneInv` says. -/
abbrev inv1 (X : HbBuf F c MX) (C : HbBuf F c MC) (k : ℕ) (_ : Unit) : sProp 𝕄 :=
  iprop(holds c MX X ∗ holds c MC C ∗ ∃ f, holds c MP f ∗ ⌜PlaneInv c X C k f⌝)

theorem step1 (X : HbBuf F c MX) (C : HbBuf F c MC) (k : Fin k0_t1_loop.trips)
    (arg4 : Memref sig .tc .vmem S1x2048 .f32) (harg4 : arg4.IsWhole) (arg5 : Memref sig .tc .vmem S2x6x10x2048 .bf16) (harg5 : arg5.IsWhole) (v574_r0 : IVec S20x80 32) (c23_i32_493_r0 : BitVec 32) :
    inv1 c X C k.val () ⊢ wp frame (wpE (defs₀ (F := F)) Variants.none c none) Set.univ (body1 arg4 harg4 arg5 harg5 v574_r0 c23_i32_493_r0 k ())
      (inv1 c X C (k.val + 1)) := by
  have hk : k.val < 20 := Nat.lt_of_lt_of_le k.isLt (by decide)
  unfold body1 k0_t1_body
  iintro ⟨Hx, Hc, ⟨%f, Hp, %hf⟩⟩
  sl_exec
  sl_step
  isplitl [Hx]; · iexact Hx
  isplitl [Hc]; · iexact Hc
  iexists _
  isplitl [Hp]; · iexact Hp
  ipureintro
  trivial

set_option warn.classDefReducibility false in
/-- The loop's invariant, for the run. -/
@[sl_loop] def loop1 (X : HbBuf F c MX) (C : HbBuf F c MC)
    (arg4 : Memref sig .tc .vmem S1x2048 .f32) (harg4 : arg4.IsWhole) (arg5 : Memref sig .tc .vmem S2x6x10x2048 .bf16) (harg5 : arg5.IsWhole) (v574_r0 : IVec S20x80 32) (c23_i32_493_r0 : BitVec 32) :
    LoopInvTy_k0_t1 (F := F) Unit ℕ (Pipeline.UD sig nD τ) ℕ Variants.none c none Set.univ HX (Memref.isWhole_whole _) HS (Memref.isWhole_whole _) HW (Memref.isWhole_whole _) HWS (Memref.isWhole_whole _) arg4 harg4 arg5 harg5 MX (Memref.isWhole_whole _) MS (Memref.isWhole_whole _) MW (Memref.isWhole_whole _) MWS (Memref.isWhole_whole _) MC (Memref.isWhole_whole _) MP (Memref.isWhole_whole _) MD (Memref.isWhole_whole _) MA (Memref.isWhole_whole _) cc0_scoped0 cc0_scoped1 cc0_scoped2 v574_r0 c23_i32_493_r0 where
  inv := inv1 c X C
  step k _ := step1 c X C k arg4 harg4 arg5 harg5 v574_r0 c23_i32_493_r0

end Cert.Kernel.Hand

end
-- ==== Proof.Kernel.Run.lean ====
/-
  The kernel's whole run on one core: the 47 transfers issued, the two loops, the bias added and the result stored.
-/
module

public import proofs.«01_k».proof.Proof.Kernel.Loop
public import proofs.«01_k».proof.Proof.Kernel.Planes

@[expose] public section

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD)

/-- What the run stores: of no interest for the frame. -/
def OutFact (arg4 : Memref sig .tc .vmem S1x2048 .f32) (arg5 : Memref sig .tc .vmem S2x6x10x2048 .bf16) (hx : HbBuf F c HX) (hs : HbBuf F c HS) (hw : HbBuf F c HW) (hws : HbBuf F c HWS)
    (bias : BufTy.Contents (Elt F) arg4.view.ty) (fo : BufTy.Contents (Elt F) arg5.view.ty) : Prop := True

theorem pack_w (hw : HbBuf F c HW) :
    (iprop(Φw (c := c) hw (0) true ∗ Φw (c := c) hw (1) true ∗ Φw (c := c) hw (2) true ∗ Φw (c := c) hw (3) true ∗ Φw (c := c) hw (4) true ∗ Φw (c := c) hw (5) true ∗ Φw (c := c) hw (6) true ∗ Φw (c := c) hw (7) true ∗ Φw (c := c) hw (8) true ∗ Φw (c := c) hw (9) true ∗ Φw (c := c) hw (10) true ∗ Φw (c := c) hw (11) true ∗ Φw (c := c) hw (12) true ∗ Φw (c := c) hw (13) true ∗ Φw (c := c) hw (14) true ∗ Φw (c := c) hw (15) true ∗ Φw (c := c) hw (16) true ∗ Φw (c := c) hw (17) true ∗ Φw (c := c) hw (18) true ∗ Φw (c := c) hw (19) true ∗ Φw (c := c) hw (20) true ∗ Φw (c := c) hw (21) true ∗ Φw (c := c) hw (22) true ∗ Φw (c := c) hw (23) true ∗ Φw (c := c) hw (24) true ∗ Φw (c := c) hw (25) true ∗ Φw (c := c) hw (26) true ∗ Φw (c := c) hw (27) true ∗ Φw (c := c) hw (28) true ∗ Φw (c := c) hw (29) true ∗ Φw (c := c) hw (30) true ∗ Φw (c := c) hw (31) true ∗ Φw (c := c) hw (32) true ∗ Φw (c := c) hw (33) true ∗ Φw (c := c) hw (34) true ∗ Φw (c := c) hw (35) true) : sProp 𝕄) ⊢ Ring.AtW (Φw (c := c) hw) (stW 0) :=
  by
  unfold Ring.AtW
  exact Entails.of_eq (BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35] (by decide) (by decide) (fun k : Fin 36 => Φw (c := c) hw k (stW 0 k))).symm
theorem pack_s (hs : HbBuf F c HWS) :
    (iprop(Φs (c := c) hs (0) true ∗ Φs (c := c) hs (1) true ∗ Φs (c := c) hs (2) true ∗ Φs (c := c) hs (3) true ∗ Φs (c := c) hs (4) true ∗ Φs (c := c) hs (5) true ∗ Φs (c := c) hs (6) true ∗ Φs (c := c) hs (7) true ∗ Φs (c := c) hs (8) true) : sProp 𝕄) ⊢ Ring.AtW (Φs (c := c) hs) (stS 0) :=
  by
  unfold Ring.AtW
  exact Entails.of_eq (BI.bigSep_eq_bigSepL_of_eq [0, 1, 2, 3, 4, 5, 6, 7, 8] (by decide) (by decide) (fun k : Fin 9 => Φs (c := c) hs k (stS 0 k))).symm

set_option maxHeartbeats 4000000 in
/-- The weight slabs, windows and cells, one by one, from the whole buffers and the family of cells. -/
theorem start_w (fw : HbBuf F c MW) (hw : HbBuf F c HW) :
    (iprop(holds c MW fw ∗ holds c HW hw ∗ bigSep Finset.univ fun k : Fin 36 => semVal ((c : Thread nD τ), wcell k) 0) : sProp 𝕄) ⊢ iprop(((holdsOn c MW (Rect.unit (s := S36x2560x512) ![0, 0, 0] S1x2560x512.size inb_S36x2560x512_S1x2560x512_0_0_0) fw ∗ holdsOn c HW (Rect.unit (s := S3x3x2560x2048) ![0, 0, 0, 0] S1x1x2560x512.size inb_S3x3x2560x2048_S1x1x2560x512_0_0_0_0) hw ∗ semVal ((c : Thread nD τ), SemLoc.dma ((cc0_scoped1.slice (Rect.unit (s := S36) ![0] S1.size inb_S36_S1_0)).squeeze S_ squeezes_S1_S_).sem) 0)
      ∗ (holdsOn c MW (Rect.unit (s := S36x2560x512) ![1, 0, 0] S1x2560x512.size inb_S36x2560x512_S1x2560x512_1_0_0) fw ∗ holdsOn c HW (Rect.unit (s := S3x3x2560x2048) ![0, 1, 0, 0] S1x1x2560x512.size inb_S3x3x2560x2048_S1x1x2560x512_0_1_0_0) hw ∗ semVal ((c : Thread nD τ), SemLoc.dma ((cc0_scoped1.slice (Rect.unit (s := S36) ![1] S1.size inb_S36_S1_1)).squeeze S_ squeezes_S1_S_).sem) 0)
      ∗ (holdsOn c MW (Rect.unit (s := S36x2560x512) ![2, 0, 0] S1x2560x512.size inb_S36x2560x512_S1x2560x512_2_0_0) fw ∗ holdsOn c HW (Rect.unit (s := S3x3x2560x2048) ![0, 2, 0, 0] S1x1x2560x512.size inb_S3x3x2560x2048_S1x1x2560x512_0_2_0_0) hw ∗ semVal ((c : Thread nD τ), SemLoc.dma ((cc0_scoped1.slice (Rect.unit (s := S36) ![2] S1.size inb_S36_S1_2)).squeeze S_ squeezes_S1_S_).sem) 0)
      ∗ (holdsOn c MW (Rect.unit (s := S36x2560x512) ![3, 0, 0] S1x2560x512.size inb_S36x2560x512_S1x2560x512_3_0_0) fw ∗ holdsOn c HW (Rect.unit (s := S3x3x2560x2048) ![1, 0, 0, 0] S1x1x2560x512.size inb_S3x3x2560x2048_S1x1x2560x512_1_0_0_0) hw ∗ semVal ((c : Thread nD τ), SemLoc.dma ((cc0_scoped1.slice (Rect.unit (s := S36) ![3] S1.size inb_S36_S1_3)).squeeze S_ squeezes_S1_S_).sem) 0)
      ∗ (holdsOn c MW (Rect.unit (s := S36x2560x512) ![4, 0, 0] S1x2560x512.size inb_S36x2560x512_S1x2560x512_4_0_0) fw ∗ holdsOn c HW (Rect.unit (s := S3x3x2560x2048) ![1, 1, 0, 0] S1x1x2560x512.size inb_S3x3x2560x2048_S1x1x2560x512_1_1_0_0) hw ∗ semVal ((c : Thread nD τ), SemLoc.dma ((cc0_scoped1.slice (Rect.unit (s := S36) ![4] S1.size inb_S36_S1_4)).squeeze S_ squeezes_S1_S_).sem) 0)
      ∗ (holdsOn c MW (Rect.unit (s := S36x2560x512) ![5, 0, 0] S1x2560x512.size inb_S36x2560x512_S1x2560x512_5_0_0) fw ∗ holdsOn c HW (Rect.unit (s := S3x3x2560x2048) ![1, 2, 0, 0] S1x1x2560x512.size inb_S3x3x2560x2048_S1x1x2560x512_1_2_0_0) hw ∗ semVal ((c : Thread nD τ), SemLoc.dma ((cc0_scoped1.slice (Rect.unit (s := S36) ![5] S1.size inb_S36_S1_5)).squeeze S_ squeezes_S1_S_).sem) 0)
      ∗ (holdsOn c MW (Rect.unit (s := S36x2560x512) ![6, 0, 0] S1x2560x512.size inb_S36x2560x512_S1x2560x512_6_0_0) fw ∗ holdsOn c HW (Rect.unit (s := S3x3x2560x2048) ![2, 0, 0, 0] S1x1x2560x512.size inb_S3x3x2560x2048_S1x1x2560x512_2_0_0_0) hw ∗ semVal ((c : Thread nD τ), SemLoc.dma ((cc0_scoped1.slice (Rect.unit (s := S36) ![6] S1.size inb_S36_S1_6)).squeeze S_ squeezes_S1_S_).sem) 0)
      ∗ (holdsOn c MW (Rect.unit (s := S36x2560x512) ![7, 0, 0] S1x2560x512.size inb_S36x2560x512_S1x2560x512_7_0_0) fw ∗ holdsOn c HW (Rect.unit (s := S3x3x2560x2048) ![2, 1, 0, 0] S1x1x2560x512.size inb_S3x3x2560x2048_S1x1x2560x512_2_1_0_0) hw ∗ semVal ((c : Thread nD τ), SemLoc.dma ((cc0_scoped1.slice (Rect.unit (s := S36) ![7] S1.size inb_S36_S1_7)).squeeze S_ squeezes_S1_S_).sem) 0)
      ∗ (holdsOn c MW (Rect.unit (s := S36x2560x512) ![8, 0, 0] S1x2560x512.size inb_S36x2560x512_S1x2560x512_8_0_0) fw ∗ holdsOn c HW (Rect.unit (s := S3x3x2560x2048) ![2, 2, 0, 0] S1x1x2560x512.size inb_S3x3x2560x2048_S1x1x2560x512_2_2_0_0) hw ∗ semVal ((c : Thread nD τ), SemLoc.dma ((cc0_scoped1.slice (Rect.unit (s := S36) ![8] S1.size inb_S36_S1_8)).squeeze S_ squeezes_S1_S_).sem) 0)
      ∗ (holdsOn c MW (Rect.unit (s := S36x2560x512) ![9, 0, 0] S1x2560x512.size inb_S36x2560x512_S1x2560x512_9_0_0) fw ∗ holdsOn c HW (Rect.unit (s := S3x3x2560x2048) ![0, 0, 0, 512] S1x1x2560x512.size inb_S3x3x2560x2048_S1x1x2560x512_0_0_0_512) hw ∗ semVal ((c : Thread nD τ), SemLoc.dma ((cc0_scoped1.slice (Rect.unit (s := S36) ![9] S1.size inb_S36_S1_9)).squeeze S_ squeezes_S1_S_).sem) 0)
      ∗ (holdsOn c MW (Rect.unit (s := S36x2560x512) ![10, 0, 0] S1x2560x512.size inb_S36x2560x512_S1x2560x512_10_0_0) fw ∗ holdsOn c HW (Rect.unit (s := S3x3x2560x2048) ![0, 1, 0, 512] S1x1x2560x512.size inb_S3x3x2560x2048_S1x1x2560x512_0_1_0_512) hw ∗ semVal ((c : Thread nD τ), SemLoc.dma ((cc0_scoped1.slice (Rect.unit (s := S36) ![10] S1.size inb_S36_S1_10)).squeeze S_ squeezes_S1_S_).sem) 0)
      ∗ (holdsOn c MW (Rect.unit (s := S36x2560x512) ![11, 0, 0] S1x2560x512.size inb_S36x2560x512_S1x2560x512_11_0_0) fw ∗ holdsOn c HW (Rect.unit (s := S3x3x2560x2048) ![0, 2, 0, 512] S1x1x2560x512.size inb_S3x3x2560x2048_S1x1x2560x512_0_2_0_512) hw ∗ semVal ((c : Thread nD τ), SemLoc.dma ((cc0_scoped1.slice (Rect.unit (s := S36) ![11] S1.size inb_S36_S1_11)).squeeze S_ squeezes_S1_S_).sem) 0)
      ∗ (holdsOn c MW (Rect.unit (s := S36x2560x512) ![12, 0, 0] S1x2560x512.size inb_S36x2560x512_S1x2560x512_12_0_0) fw ∗ holdsOn c HW (Rect.unit (s := S3x3x2560x2048) ![1, 0, 0, 512] S1x1x2560x512.size inb_S3x3x2560x2048_S1x1x2560x512_1_0_0_512) hw ∗ semVal ((c : Thread nD τ), SemLoc.dma ((cc0_scoped1.slice (Rect.unit (s := S36) ![12] S1.size inb_S36_S1_12)).squeeze S_ squeezes_S1_S_).sem) 0)
      ∗ (holdsOn c MW (Rect.unit (s := S36x2560x512) ![13, 0, 0] S1x2560x512.size inb_S36x2560x512_S1x2560x512_13_0_0) fw ∗ holdsOn c HW (Rect.unit (s := S3x3x2560x2048) ![1, 1, 0, 512] S1x1x2560x512.size inb_S3x3x2560x2048_S1x1x2560x512_1_1_0_512) hw ∗ semVal ((c : Thread nD τ), SemLoc.dma ((cc0_scoped1.slice (Rect.unit (s := S36) ![13] S1.size inb_S36_S1_13)).squeeze S_ squeezes_S1_S_).sem) 0)
      ∗ (holdsOn c MW (Rect.unit (s := S36x2560x512) ![14, 0, 0] S1x2560x512.size inb_S36x2560x512_S1x2560x512_14_0_0) fw ∗ holdsOn c HW (Rect.unit (s := S3x3x2560x2048) ![1, 2, 0, 512] S1x1x2560x512.size inb_S3x3x2560x2048_S1x1x2560x512_1_2_0_512) hw ∗ semVal ((c : Thread nD τ), SemLoc.dma ((cc0_scoped1.slice (Rect.unit (s := S36) ![14] S1.size inb_S36_S1_14)).squeeze S_ squeezes_S1_S_).sem) 0)
      ∗ (holdsOn c MW (Rect.unit (s := S36x2560x512) ![15, 0, 0] S1x2560x512.size inb_S36x2560x512_S1x2560x512_15_0_0) fw ∗ holdsOn c HW (Rect.unit (s := S3x3x2560x2048) ![2, 0, 0, 512] S1x1x2560x512.size inb_S3x3x2560x2048_S1x1x2560x512_2_0_0_512) hw ∗ semVal ((c : Thread nD τ), SemLoc.dma ((cc0_scoped1.slice (Rect.unit (s := S36) ![15] S1.size inb_S36_S1_15)).squeeze S_ squeezes_S1_S_).sem) 0)
      ∗ (holdsOn c MW (Rect.unit (s := S36x2560x512) ![16, 0, 0] S1x2560x512.size inb_S36x2560x512_S1x2560x512_16_0_0) fw ∗ holdsOn c HW (Rect.unit (s := S3x3x2560x2048) ![2, 1, 0, 512] S1x1x2560x512.size inb_S3x3x2560x2048_S1x1x2560x512_2_1_0_512) hw ∗ semVal ((c : Thread nD τ), SemLoc.dma ((cc0_scoped1.slice (Rect.unit (s := S36) ![16] S1.size inb_S36_S1_16)).squeeze S_ squeezes_S1_S_).sem) 0)
      ∗ (holdsOn c MW (Rect.unit (s := S36x2560x512) ![17, 0, 0] S1x2560x512.size inb_S36x2560x512_S1x2560x512_17_0_0) fw ∗ holdsOn c HW (Rect.unit (s := S3x3x2560x2048) ![2, 2, 0, 512] S1x1x2560x512.size inb_S3x3x2560x2048_S1x1x2560x512_2_2_0_512) hw ∗ semVal ((c : Thread nD τ), SemLoc.dma ((cc0_scoped1.slice (Rect.unit (s := S36) ![17] S1.size inb_S36_S1_17)).squeeze S_ squeezes_S1_S_).sem) 0)
      ∗ (holdsOn c MW (Rect.unit (s := S36x2560x512) ![18, 0, 0] S1x2560x512.size inb_S36x2560x512_S1x2560x512_18_0_0) fw ∗ holdsOn c HW (Rect.unit (s := S3x3x2560x2048) ![0, 0, 0, 1024] S1x1x2560x512.size inb_S3x3x2560x2048_S1x1x2560x512_0_0_0_1024) hw ∗ semVal ((c : Thread nD τ), SemLoc.dma ((cc0_scoped1.slice (Rect.unit (s := S36) ![18] S1.size inb_S36_S1_18)).squeeze S_ squeezes_S1_S_).sem) 0)
      ∗ (holdsOn c MW (Rect.unit (s := S36x2560x512) ![19, 0, 0] S1x2560x512.size inb_S36x2560x512_S1x2560x512_19_0_0) fw ∗ holdsOn c HW (Rect.unit (s := S3x3x2560x2048) ![0, 1, 0, 1024] S1x1x2560x512.size inb_S3x3x2560x2048_S1x1x2560x512_0_1_0_1024) hw ∗ semVal ((c : Thread nD τ), SemLoc.dma ((cc0_scoped1.slice (Rect.unit (s := S36) ![19] S1.size inb_S36_S1_19)).squeeze S_ squeezes_S1_S_).sem) 0)
      ∗ (holdsOn c MW (Rect.unit (s := S36x2560x512) ![20, 0, 0] S1x2560x512.size inb_S36x2560x512_S1x2560x512_20_0_0) fw ∗ holdsOn c HW (Rect.unit (s := S3x3x2560x2048) ![0, 2, 0, 1024] S1x1x2560x512.size inb_S3x3x2560x2048_S1x1x2560x512_0_2_0_1024) hw ∗ semVal ((c : Thread nD τ), SemLoc.dma ((cc0_scoped1.slice (Rect.unit (s := S36) ![20] S1.size inb_S36_S1_20)).squeeze S_ squeezes_S1_S_).sem) 0)
      ∗ (holdsOn c MW (Rect.unit (s := S36x2560x512) ![21, 0, 0] S1x2560x512.size inb_S36x2560x512_S1x2560x512_21_0_0) fw ∗ holdsOn c HW (Rect.unit (s := S3x3x2560x2048) ![1, 0, 0, 1024] S1x1x2560x512.size inb_S3x3x2560x2048_S1x1x2560x512_1_0_0_1024) hw ∗ semVal ((c : Thread nD τ), SemLoc.dma ((cc0_scoped1.slice (Rect.unit (s := S36) ![21] S1.size inb_S36_S1_21)).squeeze S_ squeezes_S1_S_).sem) 0)
      ∗ (holdsOn c MW (Rect.unit (s := S36x2560x512) ![22, 0, 0] S1x2560x512.size inb_S36x2560x512_S1x2560x512_22_0_0) fw ∗ holdsOn c HW (Rect.unit (s := S3x3x2560x2048) ![1, 1, 0, 1024] S1x1x2560x512.size inb_S3x3x2560x2048_S1x1x2560x512_1_1_0_1024) hw ∗ semVal ((c : Thread nD τ), SemLoc.dma ((cc0_scoped1.slice (Rect.unit (s := S36) ![22] S1.size inb_S36_S1_22)).squeeze S_ squeezes_S1_S_).sem) 0)
      ∗ (holdsOn c MW (Rect.unit (s := S36x2560x512) ![23, 0, 0] S1x2560x512.size inb_S36x2560x512_S1x2560x512_23_0_0) fw ∗ holdsOn c HW (Rect.unit (s := S3x3x2560x2048) ![1, 2, 0, 1024] S1x1x2560x512.size inb_S3x3x2560x2048_S1x1x2560x512_1_2_0_1024) hw ∗ semVal ((c : Thread nD τ), SemLoc.dma ((cc0_scoped1.slice (Rect.unit (s := S36) ![23] S1.size inb_S36_S1_23)).squeeze S_ squeezes_S1_S_).sem) 0)
      ∗ (holdsOn c MW (Rect.unit (s := S36x2560x512) ![24, 0, 0] S1x2560x512.size inb_S36x2560x512_S1x2560x512_24_0_0) fw ∗ holdsOn c HW (Rect.unit (s := S3x3x2560x2048) ![2, 0, 0, 1024] S1x1x2560x512.size inb_S3x3x2560x2048_S1x1x2560x512_2_0_0_1024) hw ∗ semVal ((c : Thread nD τ), SemLoc.dma ((cc0_scoped1.slice (Rect.unit (s := S36) ![24] S1.size inb_S36_S1_24)).squeeze S_ squeezes_S1_S_).sem) 0)
      ∗ (holdsOn c MW (Rect.unit (s := S36x2560x512) ![25, 0, 0] S1x2560x512.size inb_S36x2560x512_S1x2560x512_25_0_0) fw ∗ holdsOn c HW (Rect.unit (s := S3x3x2560x2048) ![2, 1, 0, 1024] S1x1x2560x512.size inb_S3x3x2560x2048_S1x1x2560x512_2_1_0_1024) hw ∗ semVal ((c : Thread nD τ), SemLoc.dma ((cc0_scoped1.slice (Rect.unit (s := S36) ![25] S1.size inb_S36_S1_25)).squeeze S_ squeezes_S1_S_).sem) 0)
      ∗ (holdsOn c MW (Rect.unit (s := S36x2560x512) ![26, 0, 0] S1x2560x512.size inb_S36x2560x512_S1x2560x512_26_0_0) fw ∗ holdsOn c HW (Rect.unit (s := S3x3x2560x2048) ![2, 2, 0, 1024] S1x1x2560x512.size inb_S3x3x2560x2048_S1x1x2560x512_2_2_0_1024) hw ∗ semVal ((c : Thread nD τ), SemLoc.dma ((cc0_scoped1.slice (Rect.unit (s := S36) ![26] S1.size inb_S36_S1_26)).squeeze S_ squeezes_S1_S_).sem) 0)
      ∗ (holdsOn c MW (Rect.unit (s := S36x2560x512) ![27, 0, 0] S1x2560x512.size inb_S36x2560x512_S1x2560x512_27_0_0) fw ∗ holdsOn c HW (Rect.unit (s := S3x3x2560x2048) ![0, 0, 0, 1536] S1x1x2560x512.size inb_S3x3x2560x2048_S1x1x2560x512_0_0_0_1536) hw ∗ semVal ((c : Thread nD τ), SemLoc.dma ((cc0_scoped1.slice (Rect.unit (s := S36) ![27] S1.size inb_S36_S1_27)).squeeze S_ squeezes_S1_S_).sem) 0)
      ∗ (holdsOn c MW (Rect.unit (s := S36x2560x512) ![28, 0, 0] S1x2560x512.size inb_S36x2560x512_S1x2560x512_28_0_0) fw ∗ holdsOn c HW (Rect.unit (s := S3x3x2560x2048) ![0, 1, 0, 1536] S1x1x2560x512.size inb_S3x3x2560x2048_S1x1x2560x512_0_1_0_1536) hw ∗ semVal ((c : Thread nD τ), SemLoc.dma ((cc0_scoped1.slice (Rect.unit (s := S36) ![28] S1.size inb_S36_S1_28)).squeeze S_ squeezes_S1_S_).sem) 0)
      ∗ (holdsOn c MW (Rect.unit (s := S36x2560x512) ![29, 0, 0] S1x2560x512.size inb_S36x2560x512_S1x2560x512_29_0_0) fw ∗ holdsOn c HW (Rect.unit (s := S3x3x2560x2048) ![0, 2, 0, 1536] S1x1x2560x512.size inb_S3x3x2560x2048_S1x1x2560x512_0_2_0_1536) hw ∗ semVal ((c : Thread nD τ), SemLoc.dma ((cc0_scoped1.slice (Rect.unit (s := S36) ![29] S1.size inb_S36_S1_29)).squeeze S_ squeezes_S1_S_).sem) 0)
      ∗ (holdsOn c MW (Rect.unit (s := S36x2560x512) ![30, 0, 0] S1x2560x512.size inb_S36x2560x512_S1x2560x512_30_0_0) fw ∗ holdsOn c HW (Rect.unit (s := S3x3x2560x2048) ![1, 0, 0, 1536] S1x1x2560x512.size inb_S3x3x2560x2048_S1x1x2560x512_1_0_0_1536) hw ∗ semVal ((c : Thread nD τ), SemLoc.dma ((cc0_scoped1.slice (Rect.unit (s := S36) ![30] S1.size inb_S36_S1_30)).squeeze S_ squeezes_S1_S_).sem) 0)
      ∗ (holdsOn c MW (Rect.unit (s := S36x2560x512) ![31, 0, 0] S1x2560x512.size inb_S36x2560x512_S1x2560x512_31_0_0) fw ∗ holdsOn c HW (Rect.unit (s := S3x3x2560x2048) ![1, 1, 0, 1536] S1x1x2560x512.size inb_S3x3x2560x2048_S1x1x2560x512_1_1_0_1536) hw ∗ semVal ((c : Thread nD τ), SemLoc.dma ((cc0_scoped1.slice (Rect.unit (s := S36) ![31] S1.size inb_S36_S1_31)).squeeze S_ squeezes_S1_S_).sem) 0)
      ∗ (holdsOn c MW (Rect.unit (s := S36x2560x512) ![32, 0, 0] S1x2560x512.size inb_S36x2560x512_S1x2560x512_32_0_0) fw ∗ holdsOn c HW (Rect.unit (s := S3x3x2560x2048) ![1, 2, 0, 1536] S1x1x2560x512.size inb_S3x3x2560x2048_S1x1x2560x512_1_2_0_1536) hw ∗ semVal ((c : Thread nD τ), SemLoc.dma ((cc0_scoped1.slice (Rect.unit (s := S36) ![32] S1.size inb_S36_S1_32)).squeeze S_ squeezes_S1_S_).sem) 0)
      ∗ (holdsOn c MW (Rect.unit (s := S36x2560x512) ![33, 0, 0] S1x2560x512.size inb_S36x2560x512_S1x2560x512_33_0_0) fw ∗ holdsOn c HW (Rect.unit (s := S3x3x2560x2048) ![2, 0, 0, 1536] S1x1x2560x512.size inb_S3x3x2560x2048_S1x1x2560x512_2_0_0_1536) hw ∗ semVal ((c : Thread nD τ), SemLoc.dma ((cc0_scoped1.slice (Rect.unit (s := S36) ![33] S1.size inb_S36_S1_33)).squeeze S_ squeezes_S1_S_).sem) 0)
      ∗ (holdsOn c MW (Rect.unit (s := S36x2560x512) ![34, 0, 0] S1x2560x512.size inb_S36x2560x512_S1x2560x512_34_0_0) fw ∗ holdsOn c HW (Rect.unit (s := S3x3x2560x2048) ![2, 1, 0, 1536] S1x1x2560x512.size inb_S3x3x2560x2048_S1x1x2560x512_2_1_0_1536) hw ∗ semVal ((c : Thread nD τ), SemLoc.dma ((cc0_scoped1.slice (Rect.unit (s := S36) ![34] S1.size inb_S36_S1_34)).squeeze S_ squeezes_S1_S_).sem) 0)
      ∗ (holdsOn c MW (Rect.unit (s := S36x2560x512) ![35, 0, 0] S1x2560x512.size inb_S36x2560x512_S1x2560x512_35_0_0) fw ∗ holdsOn c HW (Rect.unit (s := S3x3x2560x2048) ![2, 2, 0, 1536] S1x1x2560x512.size inb_S3x3x2560x2048_S1x1x2560x512_2_2_0_1536) hw ∗ semVal ((c : Thread nD τ), SemLoc.dma ((cc0_scoped1.slice (Rect.unit (s := S36) ![35] S1.size inb_S36_S1_35)).squeeze S_ squeezes_S1_S_).sem) 0))) := by
  rw [split_w, split_hw, ← bigSep_sep', ← bigSep_sep']
  exact Entails.of_eq (BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35] (by decide) (by decide) (fun k : Fin 36 => iprop(holdsOn c MW (wrect k) fw ∗ holdsOn c HW (hwrect k) hw ∗ semVal ((c : Thread nD τ), wcell k) 0)))
/-- The same of the scales. -/
theorem start_s (fws : HbBuf F c MWS) (hws : HbBuf F c HWS) :
    (iprop(holds c MWS fws ∗ holds c HWS hws ∗ bigSep Finset.univ fun k : Fin 9 => semVal ((c : Thread nD τ), scell k) 0) : sProp 𝕄) ⊢ iprop(((holdsOn c MWS (Rect.unit (s := S9x80x2048) ![0, 0, 0] S1x80x2048.size inb_S9x80x2048_S1x80x2048_0_0_0) fws ∗ holdsOn c HWS (Rect.unit (s := S3x3x80x2048) ![0, 0, 0, 0] S1x1x80x2048.size inb_S3x3x80x2048_S1x1x80x2048_0_0_0_0) hws ∗ semVal ((c : Thread nD τ), SemLoc.dma ((cc0_scoped2.slice (Rect.unit (s := S9) ![0] S1.size inb_S9_S1_0)).squeeze S_ squeezes_S1_S_).sem) 0)
      ∗ (holdsOn c MWS (Rect.unit (s := S9x80x2048) ![1, 0, 0] S1x80x2048.size inb_S9x80x2048_S1x80x2048_1_0_0) fws ∗ holdsOn c HWS (Rect.unit (s := S3x3x80x2048) ![0, 1, 0, 0] S1x1x80x2048.size inb_S3x3x80x2048_S1x1x80x2048_0_1_0_0) hws ∗ semVal ((c : Thread nD τ), SemLoc.dma ((cc0_scoped2.slice (Rect.unit (s := S9) ![1] S1.size inb_S9_S1_1)).squeeze S_ squeezes_S1_S_).sem) 0)
      ∗ (holdsOn c MWS (Rect.unit (s := S9x80x2048) ![2, 0, 0] S1x80x2048.size inb_S9x80x2048_S1x80x2048_2_0_0) fws ∗ holdsOn c HWS (Rect.unit (s := S3x3x80x2048) ![0, 2, 0, 0] S1x1x80x2048.size inb_S3x3x80x2048_S1x1x80x2048_0_2_0_0) hws ∗ semVal ((c : Thread nD τ), SemLoc.dma ((cc0_scoped2.slice (Rect.unit (s := S9) ![2] S1.size inb_S9_S1_2)).squeeze S_ squeezes_S1_S_).sem) 0)
      ∗ (holdsOn c MWS (Rect.unit (s := S9x80x2048) ![3, 0, 0] S1x80x2048.size inb_S9x80x2048_S1x80x2048_3_0_0) fws ∗ holdsOn c HWS (Rect.unit (s := S3x3x80x2048) ![1, 0, 0, 0] S1x1x80x2048.size inb_S3x3x80x2048_S1x1x80x2048_1_0_0_0) hws ∗ semVal ((c : Thread nD τ), SemLoc.dma ((cc0_scoped2.slice (Rect.unit (s := S9) ![3] S1.size inb_S9_S1_3)).squeeze S_ squeezes_S1_S_).sem) 0)
      ∗ (holdsOn c MWS (Rect.unit (s := S9x80x2048) ![4, 0, 0] S1x80x2048.size inb_S9x80x2048_S1x80x2048_4_0_0) fws ∗ holdsOn c HWS (Rect.unit (s := S3x3x80x2048) ![1, 1, 0, 0] S1x1x80x2048.size inb_S3x3x80x2048_S1x1x80x2048_1_1_0_0) hws ∗ semVal ((c : Thread nD τ), SemLoc.dma ((cc0_scoped2.slice (Rect.unit (s := S9) ![4] S1.size inb_S9_S1_4)).squeeze S_ squeezes_S1_S_).sem) 0)
      ∗ (holdsOn c MWS (Rect.unit (s := S9x80x2048) ![5, 0, 0] S1x80x2048.size inb_S9x80x2048_S1x80x2048_5_0_0) fws ∗ holdsOn c HWS (Rect.unit (s := S3x3x80x2048) ![1, 2, 0, 0] S1x1x80x2048.size inb_S3x3x80x2048_S1x1x80x2048_1_2_0_0) hws ∗ semVal ((c : Thread nD τ), SemLoc.dma ((cc0_scoped2.slice (Rect.unit (s := S9) ![5] S1.size inb_S9_S1_5)).squeeze S_ squeezes_S1_S_).sem) 0)
      ∗ (holdsOn c MWS (Rect.unit (s := S9x80x2048) ![6, 0, 0] S1x80x2048.size inb_S9x80x2048_S1x80x2048_6_0_0) fws ∗ holdsOn c HWS (Rect.unit (s := S3x3x80x2048) ![2, 0, 0, 0] S1x1x80x2048.size inb_S3x3x80x2048_S1x1x80x2048_2_0_0_0) hws ∗ semVal ((c : Thread nD τ), SemLoc.dma ((cc0_scoped2.slice (Rect.unit (s := S9) ![6] S1.size inb_S9_S1_6)).squeeze S_ squeezes_S1_S_).sem) 0)
      ∗ (holdsOn c MWS (Rect.unit (s := S9x80x2048) ![7, 0, 0] S1x80x2048.size inb_S9x80x2048_S1x80x2048_7_0_0) fws ∗ holdsOn c HWS (Rect.unit (s := S3x3x80x2048) ![2, 1, 0, 0] S1x1x80x2048.size inb_S3x3x80x2048_S1x1x80x2048_2_1_0_0) hws ∗ semVal ((c : Thread nD τ), SemLoc.dma ((cc0_scoped2.slice (Rect.unit (s := S9) ![7] S1.size inb_S9_S1_7)).squeeze S_ squeezes_S1_S_).sem) 0)
      ∗ (holdsOn c MWS (Rect.unit (s := S9x80x2048) ![8, 0, 0] S1x80x2048.size inb_S9x80x2048_S1x80x2048_8_0_0) fws ∗ holdsOn c HWS (Rect.unit (s := S3x3x80x2048) ![2, 2, 0, 0] S1x1x80x2048.size inb_S3x3x80x2048_S1x1x80x2048_2_2_0_0) hws ∗ semVal ((c : Thread nD τ), SemLoc.dma ((cc0_scoped2.slice (Rect.unit (s := S9) ![8] S1.size inb_S9_S1_8)).squeeze S_ squeezes_S1_S_).sem) 0))) := by
  rw [split_s, split_hs, ← bigSep_sep', ← bigSep_sep']
  exact Entails.of_eq (BI.bigSep_eq_bigSepL_of_eq [0, 1, 2, 3, 4, 5, 6, 7, 8] (by decide) (by decide) (fun k : Fin 9 => iprop(holdsOn c MWS (srect k) fws ∗ holdsOn c HWS (hsrect k) hws ∗ semVal ((c : Thread nD τ), scell k) 0)))
/-- After the last step: every cell at zero, the whole buffers back. -/
theorem fin_w (hw : HbBuf F c HW) :
    (Ring.AtW (Φw (c := c) hw) (stW 36) : sProp 𝕄) ⊢ iprop((bigSep Finset.univ fun k : Fin 36 => semVal ((c : Thread nD τ), wcell k) 0) ∗ holds c MW (WK hw) ∗ holds c HW hw) := by
  rw [split_w, split_hw, ← bigSep_sep', ← bigSep_sep']
  unfold Ring.AtW
  refine bigSep_mono fun k _ => ?_
  rw [show stW 36 k = false from decide_eq_false (by have := k.isLt; omega)]
  unfold Φw
  rw [if_neg Bool.false_ne_true]
  exact Idealize.SL.BI.Entails.refl _
theorem fin_s (hs : HbBuf F c HWS) :
    (Ring.AtW (Φs (c := c) hs) (stS 36) : sProp 𝕄) ⊢ iprop((bigSep Finset.univ fun k : Fin 9 => semVal ((c : Thread nD τ), scell k) 0) ∗ holds c MWS (SK hs) ∗ holds c HWS hs) := by
  rw [split_s, split_hs, ← bigSep_sep', ← bigSep_sep']
  unfold Ring.AtW
  refine bigSep_mono fun k _ => ?_
  rw [show stS 36 k = false from decide_eq_false (by have := k.isLt; omega)]
  unfold Φs
  rw [if_neg Bool.false_ne_true]
  exact Idealize.SL.BI.Entails.refl _

set_option sl_exec.dmaWindow true in
/-- The run, from every slab, window and cell on its own. -/
theorem conv_run (arg4 : Memref sig .tc .vmem S1x2048 .f32) (harg4 : arg4.IsWhole) (arg5 : Memref sig .tc .vmem S2x6x10x2048 .bf16) (harg5 : arg5.IsWhole)
    (fw : HbBuf F c MW) (hw : HbBuf F c HW) (fws : HbBuf F c MWS) (hws : HbBuf F c HWS) (W : Waits sig Unit)
    (hx : HbBuf F c HX) (hs : HbBuf F c HS) (bias : BufTy.Contents (Elt F) arg4.view.ty) (fo : BufTy.Contents (Elt F) arg5.view.ty) :
    (iprop(((holdsOn c MW (Rect.unit (s := S36x2560x512) ![0, 0, 0] S1x2560x512.size inb_S36x2560x512_S1x2560x512_0_0_0) fw ∗ holdsOn c HW (Rect.unit (s := S3x3x2560x2048) ![0, 0, 0, 0] S1x1x2560x512.size inb_S3x3x2560x2048_S1x1x2560x512_0_0_0_0) hw ∗ semVal ((c : Thread nD τ), SemLoc.dma ((cc0_scoped1.slice (Rect.unit (s := S36) ![0] S1.size inb_S36_S1_0)).squeeze S_ squeezes_S1_S_).sem) 0)
      ∗ (holdsOn c MW (Rect.unit (s := S36x2560x512) ![1, 0, 0] S1x2560x512.size inb_S36x2560x512_S1x2560x512_1_0_0) fw ∗ holdsOn c HW (Rect.unit (s := S3x3x2560x2048) ![0, 1, 0, 0] S1x1x2560x512.size inb_S3x3x2560x2048_S1x1x2560x512_0_1_0_0) hw ∗ semVal ((c : Thread nD τ), SemLoc.dma ((cc0_scoped1.slice (Rect.unit (s := S36) ![1] S1.size inb_S36_S1_1)).squeeze S_ squeezes_S1_S_).sem) 0)
      ∗ (holdsOn c MW (Rect.unit (s := S36x2560x512) ![2, 0, 0] S1x2560x512.size inb_S36x2560x512_S1x2560x512_2_0_0) fw ∗ holdsOn c HW (Rect.unit (s := S3x3x2560x2048) ![0, 2, 0, 0] S1x1x2560x512.size inb_S3x3x2560x2048_S1x1x2560x512_0_2_0_0) hw ∗ semVal ((c : Thread nD τ), SemLoc.dma ((cc0_scoped1.slice (Rect.unit (s := S36) ![2] S1.size inb_S36_S1_2)).squeeze S_ squeezes_S1_S_).sem) 0)
      ∗ (holdsOn c MW (Rect.unit (s := S36x2560x512) ![3, 0, 0] S1x2560x512.size inb_S36x2560x512_S1x2560x512_3_0_0) fw ∗ holdsOn c HW (Rect.unit (s := S3x3x2560x2048) ![1, 0, 0, 0] S1x1x2560x512.size inb_S3x3x2560x2048_S1x1x2560x512_1_0_0_0) hw ∗ semVal ((c : Thread nD τ), SemLoc.dma ((cc0_scoped1.slice (Rect.unit (s := S36) ![3] S1.size inb_S36_S1_3)).squeeze S_ squeezes_S1_S_).sem) 0)
      ∗ (holdsOn c MW (Rect.unit (s := S36x2560x512) ![4, 0, 0] S1x2560x512.size inb_S36x2560x512_S1x2560x512_4_0_0) fw ∗ holdsOn c HW (Rect.unit (s := S3x3x2560x2048) ![1, 1, 0, 0] S1x1x2560x512.size inb_S3x3x2560x2048_S1x1x2560x512_1_1_0_0) hw ∗ semVal ((c : Thread nD τ), SemLoc.dma ((cc0_scoped1.slice (Rect.unit (s := S36) ![4] S1.size inb_S36_S1_4)).squeeze S_ squeezes_S1_S_).sem) 0)
      ∗ (holdsOn c MW (Rect.unit (s := S36x2560x512) ![5, 0, 0] S1x2560x512.size inb_S36x2560x512_S1x2560x512_5_0_0) fw ∗ holdsOn c HW (Rect.unit (s := S3x3x2560x2048) ![1, 2, 0, 0] S1x1x2560x512.size inb_S3x3x2560x2048_S1x1x2560x512_1_2_0_0) hw ∗ semVal ((c : Thread nD τ), SemLoc.dma ((cc0_scoped1.slice (Rect.unit (s := S36) ![5] S1.size inb_S36_S1_5)).squeeze S_ squeezes_S1_S_).sem) 0)
      ∗ (holdsOn c MW (Rect.unit (s := S36x2560x512) ![6, 0, 0] S1x2560x512.size inb_S36x2560x512_S1x2560x512_6_0_0) fw ∗ holdsOn c HW (Rect.unit (s := S3x3x2560x2048) ![2, 0, 0, 0] S1x1x2560x512.size inb_S3x3x2560x2048_S1x1x2560x512_2_0_0_0) hw ∗ semVal ((c : Thread nD τ), SemLoc.dma ((cc0_scoped1.slice (Rect.unit (s := S36) ![6] S1.size inb_S36_S1_6)).squeeze S_ squeezes_S1_S_).sem) 0)
      ∗ (holdsOn c MW (Rect.unit (s := S36x2560x512) ![7, 0, 0] S1x2560x512.size inb_S36x2560x512_S1x2560x512_7_0_0) fw ∗ holdsOn c HW (Rect.unit (s := S3x3x2560x2048) ![2, 1, 0, 0] S1x1x2560x512.size inb_S3x3x2560x2048_S1x1x2560x512_2_1_0_0) hw ∗ semVal ((c : Thread nD τ), SemLoc.dma ((cc0_scoped1.slice (Rect.unit (s := S36) ![7] S1.size inb_S36_S1_7)).squeeze S_ squeezes_S1_S_).sem) 0)
      ∗ (holdsOn c MW (Rect.unit (s := S36x2560x512) ![8, 0, 0] S1x2560x512.size inb_S36x2560x512_S1x2560x512_8_0_0) fw ∗ holdsOn c HW (Rect.unit (s := S3x3x2560x2048) ![2, 2, 0, 0] S1x1x2560x512.size inb_S3x3x2560x2048_S1x1x2560x512_2_2_0_0) hw ∗ semVal ((c : Thread nD τ), SemLoc.dma ((cc0_scoped1.slice (Rect.unit (s := S36) ![8] S1.size inb_S36_S1_8)).squeeze S_ squeezes_S1_S_).sem) 0)
      ∗ (holdsOn c MW (Rect.unit (s := S36x2560x512) ![9, 0, 0] S1x2560x512.size inb_S36x2560x512_S1x2560x512_9_0_0) fw ∗ holdsOn c HW (Rect.unit (s := S3x3x2560x2048) ![0, 0, 0, 512] S1x1x2560x512.size inb_S3x3x2560x2048_S1x1x2560x512_0_0_0_512) hw ∗ semVal ((c : Thread nD τ), SemLoc.dma ((cc0_scoped1.slice (Rect.unit (s := S36) ![9] S1.size inb_S36_S1_9)).squeeze S_ squeezes_S1_S_).sem) 0)
      ∗ (holdsOn c MW (Rect.unit (s := S36x2560x512) ![10, 0, 0] S1x2560x512.size inb_S36x2560x512_S1x2560x512_10_0_0) fw ∗ holdsOn c HW (Rect.unit (s := S3x3x2560x2048) ![0, 1, 0, 512] S1x1x2560x512.size inb_S3x3x2560x2048_S1x1x2560x512_0_1_0_512) hw ∗ semVal ((c : Thread nD τ), SemLoc.dma ((cc0_scoped1.slice (Rect.unit (s := S36) ![10] S1.size inb_S36_S1_10)).squeeze S_ squeezes_S1_S_).sem) 0)
      ∗ (holdsOn c MW (Rect.unit (s := S36x2560x512) ![11, 0, 0] S1x2560x512.size inb_S36x2560x512_S1x2560x512_11_0_0) fw ∗ holdsOn c HW (Rect.unit (s := S3x3x2560x2048) ![0, 2, 0, 512] S1x1x2560x512.size inb_S3x3x2560x2048_S1x1x2560x512_0_2_0_512) hw ∗ semVal ((c : Thread nD τ), SemLoc.dma ((cc0_scoped1.slice (Rect.unit (s := S36) ![11] S1.size inb_S36_S1_11)).squeeze S_ squeezes_S1_S_).sem) 0)
      ∗ (holdsOn c MW (Rect.unit (s := S36x2560x512) ![12, 0, 0] S1x2560x512.size inb_S36x2560x512_S1x2560x512_12_0_0) fw ∗ holdsOn c HW (Rect.unit (s := S3x3x2560x2048) ![1, 0, 0, 512] S1x1x2560x512.size inb_S3x3x2560x2048_S1x1x2560x512_1_0_0_512) hw ∗ semVal ((c : Thread nD τ), SemLoc.dma ((cc0_scoped1.slice (Rect.unit (s := S36) ![12] S1.size inb_S36_S1_12)).squeeze S_ squeezes_S1_S_).sem) 0)
      ∗ (holdsOn c MW (Rect.unit (s := S36x2560x512) ![13, 0, 0] S1x2560x512.size inb_S36x2560x512_S1x2560x512_13_0_0) fw ∗ holdsOn c HW (Rect.unit (s := S3x3x2560x2048) ![1, 1, 0, 512] S1x1x2560x512.size inb_S3x3x2560x2048_S1x1x2560x512_1_1_0_512) hw ∗ semVal ((c : Thread nD τ), SemLoc.dma ((cc0_scoped1.slice (Rect.unit (s := S36) ![13] S1.size inb_S36_S1_13)).squeeze S_ squeezes_S1_S_).sem) 0)
      ∗ (holdsOn c MW (Rect.unit (s := S36x2560x512) ![14, 0, 0] S1x2560x512.size inb_S36x2560x512_S1x2560x512_14_0_0) fw ∗ holdsOn c HW (Rect.unit (s := S3x3x2560x2048) ![1, 2, 0, 512] S1x1x2560x512.size inb_S3x3x2560x2048_S1x1x2560x512_1_2_0_512) hw ∗ semVal ((c : Thread nD τ), SemLoc.dma ((cc0_scoped1.slice (Rect.unit (s := S36) ![14] S1.size inb_S36_S1_14)).squeeze S_ squeezes_S1_S_).sem) 0)
      ∗ (holdsOn c MW (Rect.unit (s := S36x2560x512) ![15, 0, 0] S1x2560x512.size inb_S36x2560x512_S1x2560x512_15_0_0) fw ∗ holdsOn c HW (Rect.unit (s := S3x3x2560x2048) ![2, 0, 0, 512] S1x1x2560x512.size inb_S3x3x2560x2048_S1x1x2560x512_2_0_0_512) hw ∗ semVal ((c : Thread nD τ), SemLoc.dma ((cc0_scoped1.slice (Rect.unit (s := S36) ![15] S1.size inb_S36_S1_15)).squeeze S_ squeezes_S1_S_).sem) 0)
      ∗ (holdsOn c MW (Rect.unit (s := S36x2560x512) ![16, 0, 0] S1x2560x512.size inb_S36x2560x512_S1x2560x512_16_0_0) fw ∗ holdsOn c HW (Rect.unit (s := S3x3x2560x2048) ![2, 1, 0, 512] S1x1x2560x512.size inb_S3x3x2560x2048_S1x1x2560x512_2_1_0_512) hw ∗ semVal ((c : Thread nD τ), SemLoc.dma ((cc0_scoped1.slice (Rect.unit (s := S36) ![16] S1.size inb_S36_S1_16)).squeeze S_ squeezes_S1_S_).sem) 0)
      ∗ (holdsOn c MW (Rect.unit (s := S36x2560x512) ![17, 0, 0] S1x2560x512.size inb_S36x2560x512_S1x2560x512_17_0_0) fw ∗ holdsOn c HW (Rect.unit (s := S3x3x2560x2048) ![2, 2, 0, 512] S1x1x2560x512.size inb_S3x3x2560x2048_S1x1x2560x512_2_2_0_512) hw ∗ semVal ((c : Thread nD τ), SemLoc.dma ((cc0_scoped1.slice (Rect.unit (s := S36) ![17] S1.size inb_S36_S1_17)).squeeze S_ squeezes_S1_S_).sem) 0)
      ∗ (holdsOn c MW (Rect.unit (s := S36x2560x512) ![18, 0, 0] S1x2560x512.size inb_S36x2560x512_S1x2560x512_18_0_0) fw ∗ holdsOn c HW (Rect.unit (s := S3x3x2560x2048) ![0, 0, 0, 1024] S1x1x2560x512.size inb_S3x3x2560x2048_S1x1x2560x512_0_0_0_1024) hw ∗ semVal ((c : Thread nD τ), SemLoc.dma ((cc0_scoped1.slice (Rect.unit (s := S36) ![18] S1.size inb_S36_S1_18)).squeeze S_ squeezes_S1_S_).sem) 0)
      ∗ (holdsOn c MW (Rect.unit (s := S36x2560x512) ![19, 0, 0] S1x2560x512.size inb_S36x2560x512_S1x2560x512_19_0_0) fw ∗ holdsOn c HW (Rect.unit (s := S3x3x2560x2048) ![0, 1, 0, 1024] S1x1x2560x512.size inb_S3x3x2560x2048_S1x1x2560x512_0_1_0_1024) hw ∗ semVal ((c : Thread nD τ), SemLoc.dma ((cc0_scoped1.slice (Rect.unit (s := S36) ![19] S1.size inb_S36_S1_19)).squeeze S_ squeezes_S1_S_).sem) 0)
      ∗ (holdsOn c MW (Rect.unit (s := S36x2560x512) ![20, 0, 0] S1x2560x512.size inb_S36x2560x512_S1x2560x512_20_0_0) fw ∗ holdsOn c HW (Rect.unit (s := S3x3x2560x2048) ![0, 2, 0, 1024] S1x1x2560x512.size inb_S3x3x2560x2048_S1x1x2560x512_0_2_0_1024) hw ∗ semVal ((c : Thread nD τ), SemLoc.dma ((cc0_scoped1.slice (Rect.unit (s := S36) ![20] S1.size inb_S36_S1_20)).squeeze S_ squeezes_S1_S_).sem) 0)
      ∗ (holdsOn c MW (Rect.unit (s := S36x2560x512) ![21, 0, 0] S1x2560x512.size inb_S36x2560x512_S1x2560x512_21_0_0) fw ∗ holdsOn c HW (Rect.unit (s := S3x3x2560x2048) ![1, 0, 0, 1024] S1x1x2560x512.size inb_S3x3x2560x2048_S1x1x2560x512_1_0_0_1024) hw ∗ semVal ((c : Thread nD τ), SemLoc.dma ((cc0_scoped1.slice (Rect.unit (s := S36) ![21] S1.size inb_S36_S1_21)).squeeze S_ squeezes_S1_S_).sem) 0)
      ∗ (holdsOn c MW (Rect.unit (s := S36x2560x512) ![22, 0, 0] S1x2560x512.size inb_S36x2560x512_S1x2560x512_22_0_0) fw ∗ holdsOn c HW (Rect.unit (s := S3x3x2560x2048) ![1, 1, 0, 1024] S1x1x2560x512.size inb_S3x3x2560x2048_S1x1x2560x512_1_1_0_1024) hw ∗ semVal ((c : Thread nD τ), SemLoc.dma ((cc0_scoped1.slice (Rect.unit (s := S36) ![22] S1.size inb_S36_S1_22)).squeeze S_ squeezes_S1_S_).sem) 0)
      ∗ (holdsOn c MW (Rect.unit (s := S36x2560x512) ![23, 0, 0] S1x2560x512.size inb_S36x2560x512_S1x2560x512_23_0_0) fw ∗ holdsOn c HW (Rect.unit (s := S3x3x2560x2048) ![1, 2, 0, 1024] S1x1x2560x512.size inb_S3x3x2560x2048_S1x1x2560x512_1_2_0_1024) hw ∗ semVal ((c : Thread nD τ), SemLoc.dma ((cc0_scoped1.slice (Rect.unit (s := S36) ![23] S1.size inb_S36_S1_23)).squeeze S_ squeezes_S1_S_).sem) 0)
      ∗ (holdsOn c MW (Rect.unit (s := S36x2560x512) ![24, 0, 0] S1x2560x512.size inb_S36x2560x512_S1x2560x512_24_0_0) fw ∗ holdsOn c HW (Rect.unit (s := S3x3x2560x2048) ![2, 0, 0, 1024] S1x1x2560x512.size inb_S3x3x2560x2048_S1x1x2560x512_2_0_0_1024) hw ∗ semVal ((c : Thread nD τ), SemLoc.dma ((cc0_scoped1.slice (Rect.unit (s := S36) ![24] S1.size inb_S36_S1_24)).squeeze S_ squeezes_S1_S_).sem) 0)
      ∗ (holdsOn c MW (Rect.unit (s := S36x2560x512) ![25, 0, 0] S1x2560x512.size inb_S36x2560x512_S1x2560x512_25_0_0) fw ∗ holdsOn c HW (Rect.unit (s := S3x3x2560x2048) ![2, 1, 0, 1024] S1x1x2560x512.size inb_S3x3x2560x2048_S1x1x2560x512_2_1_0_1024) hw ∗ semVal ((c : Thread nD τ), SemLoc.dma ((cc0_scoped1.slice (Rect.unit (s := S36) ![25] S1.size inb_S36_S1_25)).squeeze S_ squeezes_S1_S_).sem) 0)
      ∗ (holdsOn c MW (Rect.unit (s := S36x2560x512) ![26, 0, 0] S1x2560x512.size inb_S36x2560x512_S1x2560x512_26_0_0) fw ∗ holdsOn c HW (Rect.unit (s := S3x3x2560x2048) ![2, 2, 0, 1024] S1x1x2560x512.size inb_S3x3x2560x2048_S1x1x2560x512_2_2_0_1024) hw ∗ semVal ((c : Thread nD τ), SemLoc.dma ((cc0_scoped1.slice (Rect.unit (s := S36) ![26] S1.size inb_S36_S1_26)).squeeze S_ squeezes_S1_S_).sem) 0)
      ∗ (holdsOn c MW (Rect.unit (s := S36x2560x512) ![27, 0, 0] S1x2560x512.size inb_S36x2560x512_S1x2560x512_27_0_0) fw ∗ holdsOn c HW (Rect.unit (s := S3x3x2560x2048) ![0, 0, 0, 1536] S1x1x2560x512.size inb_S3x3x2560x2048_S1x1x2560x512_0_0_0_1536) hw ∗ semVal ((c : Thread nD τ), SemLoc.dma ((cc0_scoped1.slice (Rect.unit (s := S36) ![27] S1.size inb_S36_S1_27)).squeeze S_ squeezes_S1_S_).sem) 0)
      ∗ (holdsOn c MW (Rect.unit (s := S36x2560x512) ![28, 0, 0] S1x2560x512.size inb_S36x2560x512_S1x2560x512_28_0_0) fw ∗ holdsOn c HW (Rect.unit (s := S3x3x2560x2048) ![0, 1, 0, 1536] S1x1x2560x512.size inb_S3x3x2560x2048_S1x1x2560x512_0_1_0_1536) hw ∗ semVal ((c : Thread nD τ), SemLoc.dma ((cc0_scoped1.slice (Rect.unit (s := S36) ![28] S1.size inb_S36_S1_28)).squeeze S_ squeezes_S1_S_).sem) 0)
      ∗ (holdsOn c MW (Rect.unit (s := S36x2560x512) ![29, 0, 0] S1x2560x512.size inb_S36x2560x512_S1x2560x512_29_0_0) fw ∗ holdsOn c HW (Rect.unit (s := S3x3x2560x2048) ![0, 2, 0, 1536] S1x1x2560x512.size inb_S3x3x2560x2048_S1x1x2560x512_0_2_0_1536) hw ∗ semVal ((c : Thread nD τ), SemLoc.dma ((cc0_scoped1.slice (Rect.unit (s := S36) ![29] S1.size inb_S36_S1_29)).squeeze S_ squeezes_S1_S_).sem) 0)
      ∗ (holdsOn c MW (Rect.unit (s := S36x2560x512) ![30, 0, 0] S1x2560x512.size inb_S36x2560x512_S1x2560x512_30_0_0) fw ∗ holdsOn c HW (Rect.unit (s := S3x3x2560x2048) ![1, 0, 0, 1536] S1x1x2560x512.size inb_S3x3x2560x2048_S1x1x2560x512_1_0_0_1536) hw ∗ semVal ((c : Thread nD τ), SemLoc.dma ((cc0_scoped1.slice (Rect.unit (s := S36) ![30] S1.size inb_S36_S1_30)).squeeze S_ squeezes_S1_S_).sem) 0)
      ∗ (holdsOn c MW (Rect.unit (s := S36x2560x512) ![31, 0, 0] S1x2560x512.size inb_S36x2560x512_S1x2560x512_31_0_0) fw ∗ holdsOn c HW (Rect.unit (s := S3x3x2560x2048) ![1, 1, 0, 1536] S1x1x2560x512.size inb_S3x3x2560x2048_S1x1x2560x512_1_1_0_1536) hw ∗ semVal ((c : Thread nD τ), SemLoc.dma ((cc0_scoped1.slice (Rect.unit (s := S36) ![31] S1.size inb_S36_S1_31)).squeeze S_ squeezes_S1_S_).sem) 0)
      ∗ (holdsOn c MW (Rect.unit (s := S36x2560x512) ![32, 0, 0] S1x2560x512.size inb_S36x2560x512_S1x2560x512_32_0_0) fw ∗ holdsOn c HW (Rect.unit (s := S3x3x2560x2048) ![1, 2, 0, 1536] S1x1x2560x512.size inb_S3x3x2560x2048_S1x1x2560x512_1_2_0_1536) hw ∗ semVal ((c : Thread nD τ), SemLoc.dma ((cc0_scoped1.slice (Rect.unit (s := S36) ![32] S1.size inb_S36_S1_32)).squeeze S_ squeezes_S1_S_).sem) 0)
      ∗ (holdsOn c MW (Rect.unit (s := S36x2560x512) ![33, 0, 0] S1x2560x512.size inb_S36x2560x512_S1x2560x512_33_0_0) fw ∗ holdsOn c HW (Rect.unit (s := S3x3x2560x2048) ![2, 0, 0, 1536] S1x1x2560x512.size inb_S3x3x2560x2048_S1x1x2560x512_2_0_0_1536) hw ∗ semVal ((c : Thread nD τ), SemLoc.dma ((cc0_scoped1.slice (Rect.unit (s := S36) ![33] S1.size inb_S36_S1_33)).squeeze S_ squeezes_S1_S_).sem) 0)
      ∗ (holdsOn c MW (Rect.unit (s := S36x2560x512) ![34, 0, 0] S1x2560x512.size inb_S36x2560x512_S1x2560x512_34_0_0) fw ∗ holdsOn c HW (Rect.unit (s := S3x3x2560x2048) ![2, 1, 0, 1536] S1x1x2560x512.size inb_S3x3x2560x2048_S1x1x2560x512_2_1_0_1536) hw ∗ semVal ((c : Thread nD τ), SemLoc.dma ((cc0_scoped1.slice (Rect.unit (s := S36) ![34] S1.size inb_S36_S1_34)).squeeze S_ squeezes_S1_S_).sem) 0)
      ∗ (holdsOn c MW (Rect.unit (s := S36x2560x512) ![35, 0, 0] S1x2560x512.size inb_S36x2560x512_S1x2560x512_35_0_0) fw ∗ holdsOn c HW (Rect.unit (s := S3x3x2560x2048) ![2, 2, 0, 1536] S1x1x2560x512.size inb_S3x3x2560x2048_S1x1x2560x512_2_2_0_1536) hw ∗ semVal ((c : Thread nD τ), SemLoc.dma ((cc0_scoped1.slice (Rect.unit (s := S36) ![35] S1.size inb_S36_S1_35)).squeeze S_ squeezes_S1_S_).sem) 0))
      ∗ ((holdsOn c MWS (Rect.unit (s := S9x80x2048) ![0, 0, 0] S1x80x2048.size inb_S9x80x2048_S1x80x2048_0_0_0) fws ∗ holdsOn c HWS (Rect.unit (s := S3x3x80x2048) ![0, 0, 0, 0] S1x1x80x2048.size inb_S3x3x80x2048_S1x1x80x2048_0_0_0_0) hws ∗ semVal ((c : Thread nD τ), SemLoc.dma ((cc0_scoped2.slice (Rect.unit (s := S9) ![0] S1.size inb_S9_S1_0)).squeeze S_ squeezes_S1_S_).sem) 0)
      ∗ (holdsOn c MWS (Rect.unit (s := S9x80x2048) ![1, 0, 0] S1x80x2048.size inb_S9x80x2048_S1x80x2048_1_0_0) fws ∗ holdsOn c HWS (Rect.unit (s := S3x3x80x2048) ![0, 1, 0, 0] S1x1x80x2048.size inb_S3x3x80x2048_S1x1x80x2048_0_1_0_0) hws ∗ semVal ((c : Thread nD τ), SemLoc.dma ((cc0_scoped2.slice (Rect.unit (s := S9) ![1] S1.size inb_S9_S1_1)).squeeze S_ squeezes_S1_S_).sem) 0)
      ∗ (holdsOn c MWS (Rect.unit (s := S9x80x2048) ![2, 0, 0] S1x80x2048.size inb_S9x80x2048_S1x80x2048_2_0_0) fws ∗ holdsOn c HWS (Rect.unit (s := S3x3x80x2048) ![0, 2, 0, 0] S1x1x80x2048.size inb_S3x3x80x2048_S1x1x80x2048_0_2_0_0) hws ∗ semVal ((c : Thread nD τ), SemLoc.dma ((cc0_scoped2.slice (Rect.unit (s := S9) ![2] S1.size inb_S9_S1_2)).squeeze S_ squeezes_S1_S_).sem) 0)
      ∗ (holdsOn c MWS (Rect.unit (s := S9x80x2048) ![3, 0, 0] S1x80x2048.size inb_S9x80x2048_S1x80x2048_3_0_0) fws ∗ holdsOn c HWS (Rect.unit (s := S3x3x80x2048) ![1, 0, 0, 0] S1x1x80x2048.size inb_S3x3x80x2048_S1x1x80x2048_1_0_0_0) hws ∗ semVal ((c : Thread nD τ), SemLoc.dma ((cc0_scoped2.slice (Rect.unit (s := S9) ![3] S1.size inb_S9_S1_3)).squeeze S_ squeezes_S1_S_).sem) 0)
      ∗ (holdsOn c MWS (Rect.unit (s := S9x80x2048) ![4, 0, 0] S1x80x2048.size inb_S9x80x2048_S1x80x2048_4_0_0) fws ∗ holdsOn c HWS (Rect.unit (s := S3x3x80x2048) ![1, 1, 0, 0] S1x1x80x2048.size inb_S3x3x80x2048_S1x1x80x2048_1_1_0_0) hws ∗ semVal ((c : Thread nD τ), SemLoc.dma ((cc0_scoped2.slice (Rect.unit (s := S9) ![4] S1.size inb_S9_S1_4)).squeeze S_ squeezes_S1_S_).sem) 0)
      ∗ (holdsOn c MWS (Rect.unit (s := S9x80x2048) ![5, 0, 0] S1x80x2048.size inb_S9x80x2048_S1x80x2048_5_0_0) fws ∗ holdsOn c HWS (Rect.unit (s := S3x3x80x2048) ![1, 2, 0, 0] S1x1x80x2048.size inb_S3x3x80x2048_S1x1x80x2048_1_2_0_0) hws ∗ semVal ((c : Thread nD τ), SemLoc.dma ((cc0_scoped2.slice (Rect.unit (s := S9) ![5] S1.size inb_S9_S1_5)).squeeze S_ squeezes_S1_S_).sem) 0)
      ∗ (holdsOn c MWS (Rect.unit (s := S9x80x2048) ![6, 0, 0] S1x80x2048.size inb_S9x80x2048_S1x80x2048_6_0_0) fws ∗ holdsOn c HWS (Rect.unit (s := S3x3x80x2048) ![2, 0, 0, 0] S1x1x80x2048.size inb_S3x3x80x2048_S1x1x80x2048_2_0_0_0) hws ∗ semVal ((c : Thread nD τ), SemLoc.dma ((cc0_scoped2.slice (Rect.unit (s := S9) ![6] S1.size inb_S9_S1_6)).squeeze S_ squeezes_S1_S_).sem) 0)
      ∗ (holdsOn c MWS (Rect.unit (s := S9x80x2048) ![7, 0, 0] S1x80x2048.size inb_S9x80x2048_S1x80x2048_7_0_0) fws ∗ holdsOn c HWS (Rect.unit (s := S3x3x80x2048) ![2, 1, 0, 0] S1x1x80x2048.size inb_S3x3x80x2048_S1x1x80x2048_2_1_0_0) hws ∗ semVal ((c : Thread nD τ), SemLoc.dma ((cc0_scoped2.slice (Rect.unit (s := S9) ![7] S1.size inb_S9_S1_7)).squeeze S_ squeezes_S1_S_).sem) 0)
      ∗ (holdsOn c MWS (Rect.unit (s := S9x80x2048) ![8, 0, 0] S1x80x2048.size inb_S9x80x2048_S1x80x2048_8_0_0) fws ∗ holdsOn c HWS (Rect.unit (s := S3x3x80x2048) ![2, 2, 0, 0] S1x1x80x2048.size inb_S3x3x80x2048_S1x1x80x2048_2_2_0_0) hws ∗ semVal ((c : Thread nD τ), SemLoc.dma ((cc0_scoped2.slice (Rect.unit (s := S9) ![8] S1.size inb_S9_S1_8)).squeeze S_ squeezes_S1_S_).sem) 0))
      ∗ semVal ((c : Thread nD τ), SemLoc.dma ((cc0_scoped0.slice (Rect.unit (s := S2) ![0] S1.size inb_S2_S1_0)).squeeze S_ squeezes_S1_S_).sem) 0
      ∗ semVal ((c : Thread nD τ), SemLoc.dma ((cc0_scoped0.slice (Rect.unit (s := S2) ![1] S1.size inb_S2_S1_1)).squeeze S_ squeezes_S1_S_).sem) 0
      ∗ holds c HX hx
      ∗ holds c HS hs
      ∗ (arg4.view.loc (c : Thread nD τ) ↦[arg4.view.set]{fullShare} bias)
      ∗ (arg5.view.loc (c : Thread nD τ) ↦[arg5.view.set]{fullShare} fo)
      ∗ (∃ f, holds c MX f) ∗ (∃ f, holds c MS f) ∗ (∃ f, holds c MC f) ∗ (∃ f, holds c MP f) ∗ (∃ f, holds c MD f) ∗ (∃ f, holds c MA f)
      ∗ owes (c : Thread nD τ) 0 W) : sProp 𝕄)
    ⊢ wp frame (wpE (defs₀ (F := F)) Variants.none c none) Set.univ
      (cc0_mxfp8_conv HX (Memref.isWhole_whole _) HS (Memref.isWhole_whole _) HW (Memref.isWhole_whole _) HWS (Memref.isWhole_whole _) arg4 harg4 arg5 harg5
        MX (Memref.isWhole_whole _) MS (Memref.isWhole_whole _) MW (Memref.isWhole_whole _) MWS (Memref.isWhole_whole _)
        MC (Memref.isWhole_whole _) MP (Memref.isWhole_whole _) MD (Memref.isWhole_whole _) MA (Memref.isWhole_whole _) cc0_scoped0 cc0_scoped1 cc0_scoped2)
      (fun _ => iprop(Ring.AtW (Φw (c := c) hw) (stW 36) ∗ Ring.AtW (Φs (c := c) hws) (stS 36)
        ∗ semVal ((c : Thread nD τ), SemLoc.dma ((cc0_scoped0.slice (Rect.unit (s := S2) ![0] S1.size inb_S2_S1_0)).squeeze S_ squeezes_S1_S_).sem) 0 ∗ semVal ((c : Thread nD τ), SemLoc.dma ((cc0_scoped0.slice (Rect.unit (s := S2) ![1] S1.size inb_S2_S1_1)).squeeze S_ squeezes_S1_S_).sem) 0
        ∗ holds c HX hx ∗ holds c HS hs
        ∗ (arg4.view.loc (c : Thread nD τ) ↦[arg4.view.set]{fullShare} bias)
        ∗ (∃ fo', (arg5.view.loc (c : Thread nD τ) ↦[arg5.view.set]{fullShare} fo') ∗ ⌜OutFact c arg4 arg5 hx hs hw hws bias fo'⌝)
        ∗ (∃ f, holds c MX f) ∗ (∃ f, holds c MS f) ∗ (∃ f, holds c MC f) ∗ (∃ f, holds c MP f) ∗ (∃ f, holds c MD f) ∗ (∃ f, holds c MA f)
        ∗ ∃ W, owes (c : Thread nD τ) 0 W)) := by
  iintro ⟨⟨⟨Hw0, Hhw0, Hcw0⟩, ⟨Hw1, Hhw1, Hcw1⟩, ⟨Hw2, Hhw2, Hcw2⟩, ⟨Hw3, Hhw3, Hcw3⟩, ⟨Hw4, Hhw4, Hcw4⟩, ⟨Hw5, Hhw5, Hcw5⟩, ⟨Hw6, Hhw6, Hcw6⟩, ⟨Hw7, Hhw7, Hcw7⟩, ⟨Hw8, Hhw8, Hcw8⟩, ⟨Hw9, Hhw9, Hcw9⟩, ⟨Hw10, Hhw10, Hcw10⟩, ⟨Hw11, Hhw11, Hcw11⟩, ⟨Hw12, Hhw12, Hcw12⟩, ⟨Hw13, Hhw13, Hcw13⟩, ⟨Hw14, Hhw14, Hcw14⟩, ⟨Hw15, Hhw15, Hcw15⟩, ⟨Hw16, Hhw16, Hcw16⟩, ⟨Hw17, Hhw17, Hcw17⟩, ⟨Hw18, Hhw18, Hcw18⟩, ⟨Hw19, Hhw19, Hcw19⟩, ⟨Hw20, Hhw20, Hcw20⟩, ⟨Hw21, Hhw21, Hcw21⟩, ⟨Hw22, Hhw22, Hcw22⟩, ⟨Hw23, Hhw23, Hcw23⟩, ⟨Hw24, Hhw24, Hcw24⟩, ⟨Hw25, Hhw25, Hcw25⟩, ⟨Hw26, Hhw26, Hcw26⟩, ⟨Hw27, Hhw27, Hcw27⟩, ⟨Hw28, Hhw28, Hcw28⟩, ⟨Hw29, Hhw29, Hcw29⟩, ⟨Hw30, Hhw30, Hcw30⟩, ⟨Hw31, Hhw31, Hcw31⟩, ⟨Hw32, Hhw32, Hcw32⟩, ⟨Hw33, Hhw33, Hcw33⟩, ⟨Hw34, Hhw34, Hcw34⟩, ⟨Hw35, Hhw35, Hcw35⟩⟩, ⟨⟨Hs0, Hhs0, Hcs0⟩, ⟨Hs1, Hhs1, Hcs1⟩, ⟨Hs2, Hhs2, Hcs2⟩, ⟨Hs3, Hhs3, Hcs3⟩, ⟨Hs4, Hhs4, Hcs4⟩, ⟨Hs5, Hhs5, Hcs5⟩, ⟨Hs6, Hhs6, Hcs6⟩, ⟨Hs7, Hhs7, Hcs7⟩, ⟨Hs8, Hhs8, Hcs8⟩⟩, Hcx0, Hcx1, Hx, Hxs, Hb, Ho, ⟨%fx, Hmx⟩, ⟨%fs, Hms⟩, ⟨%fc, Hmc⟩, ⟨%fp, Hmp⟩, ⟨%fd, Hmd⟩, ⟨%fa, Hma⟩, HO⟩
  rw [cc0_mxfp8_conv_eq_skeleton]; unfold cc0_mxfp8_conv_skel
  (set_option sl_exec.stopBefore "k0_part76" in sl_exec)
  ihave HAW : Ring.AtW (Φw (c := c) hw) (stW 0) $$ [Hcw0 Hcw1 Hcw2 Hcw3 Hcw4 Hcw5 Hcw6 Hcw7 Hcw8 Hcw9 Hcw10 Hcw11 Hcw12 Hcw13 Hcw14 Hcw15 Hcw16 Hcw17 Hcw18 Hcw19 Hcw20 Hcw21 Hcw22 Hcw23 Hcw24 Hcw25 Hcw26 Hcw27 Hcw28 Hcw29 Hcw30 Hcw31 Hcw32 Hcw33 Hcw34 Hcw35]
  · iapply (pack_w c hw)
    isplitl [Hcw0]; · iapply (flight_w (c := c) (0) fw hw); iexact Hcw0
    isplitl [Hcw1]; · iapply (flight_w (c := c) (1) fw hw); iexact Hcw1
    isplitl [Hcw2]; · iapply (flight_w (c := c) (2) fw hw); iexact Hcw2
    isplitl [Hcw3]; · iapply (flight_w (c := c) (3) fw hw); iexact Hcw3
    isplitl [Hcw4]; · iapply (flight_w (c := c) (4) fw hw); iexact Hcw4
    isplitl [Hcw5]; · iapply (flight_w (c := c) (5) fw hw); iexact Hcw5
    isplitl [Hcw6]; · iapply (flight_w (c := c) (6) fw hw); iexact Hcw6
    isplitl [Hcw7]; · iapply (flight_w (c := c) (7) fw hw); iexact Hcw7
    isplitl [Hcw8]; · iapply (flight_w (c := c) (8) fw hw); iexact Hcw8
    isplitl [Hcw9]; · iapply (flight_w (c := c) (9) fw hw); iexact Hcw9
    isplitl [Hcw10]; · iapply (flight_w (c := c) (10) fw hw); iexact Hcw10
    isplitl [Hcw11]; · iapply (flight_w (c := c) (11) fw hw); iexact Hcw11
    isplitl [Hcw12]; · iapply (flight_w (c := c) (12) fw hw); iexact Hcw12
    isplitl [Hcw13]; · iapply (flight_w (c := c) (13) fw hw); iexact Hcw13
    isplitl [Hcw14]; · iapply (flight_w (c := c) (14) fw hw); iexact Hcw14
    isplitl [Hcw15]; · iapply (flight_w (c := c) (15) fw hw); iexact Hcw15
    isplitl [Hcw16]; · iapply (flight_w (c := c) (16) fw hw); iexact Hcw16
    isplitl [Hcw17]; · iapply (flight_w (c := c) (17) fw hw); iexact Hcw17
    isplitl [Hcw18]; · iapply (flight_w (c := c) (18) fw hw); iexact Hcw18
    isplitl [Hcw19]; · iapply (flight_w (c := c) (19) fw hw); iexact Hcw19
    isplitl [Hcw20]; · iapply (flight_w (c := c) (20) fw hw); iexact Hcw20
    isplitl [Hcw21]; · iapply (flight_w (c := c) (21) fw hw); iexact Hcw21
    isplitl [Hcw22]; · iapply (flight_w (c := c) (22) fw hw); iexact Hcw22
    isplitl [Hcw23]; · iapply (flight_w (c := c) (23) fw hw); iexact Hcw23
    isplitl [Hcw24]; · iapply (flight_w (c := c) (24) fw hw); iexact Hcw24
    isplitl [Hcw25]; · iapply (flight_w (c := c) (25) fw hw); iexact Hcw25
    isplitl [Hcw26]; · iapply (flight_w (c := c) (26) fw hw); iexact Hcw26
    isplitl [Hcw27]; · iapply (flight_w (c := c) (27) fw hw); iexact Hcw27
    isplitl [Hcw28]; · iapply (flight_w (c := c) (28) fw hw); iexact Hcw28
    isplitl [Hcw29]; · iapply (flight_w (c := c) (29) fw hw); iexact Hcw29
    isplitl [Hcw30]; · iapply (flight_w (c := c) (30) fw hw); iexact Hcw30
    isplitl [Hcw31]; · iapply (flight_w (c := c) (31) fw hw); iexact Hcw31
    isplitl [Hcw32]; · iapply (flight_w (c := c) (32) fw hw); iexact Hcw32
    isplitl [Hcw33]; · iapply (flight_w (c := c) (33) fw hw); iexact Hcw33
    isplitl [Hcw34]; · iapply (flight_w (c := c) (34) fw hw); iexact Hcw34
    iapply (flight_w (c := c) (35) fw hw); iexact Hcw35
  ihave HAS : Ring.AtW (Φs (c := c) hws) (stS 0) $$ [Hcs0 Hcs1 Hcs2 Hcs3 Hcs4 Hcs5 Hcs6 Hcs7 Hcs8]
  · iapply (pack_s c hws)
    isplitl [Hcs0]; · iapply (flight_s (c := c) (0) fws hws); iexact Hcs0
    isplitl [Hcs1]; · iapply (flight_s (c := c) (1) fws hws); iexact Hcs1
    isplitl [Hcs2]; · iapply (flight_s (c := c) (2) fws hws); iexact Hcs2
    isplitl [Hcs3]; · iapply (flight_s (c := c) (3) fws hws); iexact Hcs3
    isplitl [Hcs4]; · iapply (flight_s (c := c) (4) fws hws); iexact Hcs4
    isplitl [Hcs5]; · iapply (flight_s (c := c) (5) fws hws); iexact Hcs5
    isplitl [Hcs6]; · iapply (flight_s (c := c) (6) fws hws); iexact Hcs6
    isplitl [Hcs7]; · iapply (flight_s (c := c) (7) fws hws); iexact Hcs7
    iapply (flight_s (c := c) (8) fws hws); iexact Hcs8
  sl_exec
  sl_step
  isplitl [HAW]; · iexact HAW
  isplitl [HAS]; · iexact HAS
  isplitl [Hcx0]; · iexact Hcx0
  isplitl [Hcx1]; · iexact Hcx1
  isplitl [Hx]; · iexact Hx
  isplitl [Hxs]; · iexact Hxs
  isplitl [Hb]; · iexact Hb
  isplitl [Ho]
  · iexists _
    isplitl [Ho]; · iexact Ho
    ipureintro
    trivial
  isplitl [Hmx]; · iexists _; iexact Hmx
  isplitl [Hms]; · iexists _; iexact Hms
  isplitl [Hmc]; · iexists _; iexact Hmc
  isplitl [Hmp]; · iexists _; iexact Hmp
  isplitl [Hmd]; · iexists _; iexact Hmd
  isplitl [Hma]; · iexists _; iexact Hma
  iexists _; iexact HO

end Cert.Kernel.Hand

end
-- ==== Proof.Kernel.Frame.lean ====
/-
  The launch: the kernel's run (Run) under the pipeline's body obligation, and @main's run from it.
-/
module

public import proofs.«01_k».proof.Proof.Kernel.Run
public import Idealize.ShloMosaic.Lib.Pipeline.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The kernel's cells and the arrays it leaves in HBM -/

/-- The two cells of the first transfers. -/
abbrev xcell (k : Fin 2) : SemLoc sig := SemLoc.dma ⟨2 + k.val, by have := k.isLt; show 2 + k.val < 49; omega⟩
/-- The kernel's own cells: the weights', the scales', the first two. -/
abbrev osem0 : Fin 36 ⊕ Fin 9 ⊕ Fin 2 → SemLoc sig
  | .inl k => wcell k
  | .inr (.inl t) => scell t
  | .inr (.inr j) => xcell j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop((bigSep Finset.univ fun k : Fin 36 => semVal ((c : Thread nD τ), wcell k) 0)
        ∗ (bigSep Finset.univ fun t : Fin 9 => semVal ((c : Thread nD τ), scell t) 0)
        ∗ semVal ((c : Thread nD τ), xcell 0) 0 ∗ semVal ((c : Thread nD τ), xcell 1) 0) := by
  unfold Pipeline.ownSems0
  rw [bigSep_univ_sum, bigSep_univ_sum, bigSep_fin_two]
  rfl
def H0 : Finset (Ref sig .tc) := {main_arg0, main_arg1, main_arg2, main_arg3}
theorem H0_sub : H0 ⊆ Pipeline.restRefs sig spec0 := by decide
theorem hbm_eq (c : Dev nD) :
    (bigSep H0 (fun b => ((c : Thread nD τ).loc b) ↦{fullShare} V m c b) : sProp 𝕄)
      = iprop(holds c HX (V m c main_arg0) ∗ holds c HS (V m c main_arg1) ∗ holds c HW (V m c main_arg2) ∗ holds c HWS (V m c main_arg3)) := by
  rw [BI.bigSep_eq_bigSepL_of_eq [main_arg0, main_arg1, main_arg2, main_arg3] (by decide) (by decide)]
  unfold holds
  simp only [View.set_whole]
  rfl
theorem scratch_eq (c : Dev nD) :
    (Pipeline.scopedRest (Ix := Unit) (Name := ℕ) (U := Pipeline.UD sig nD τ) (Lvl := ℕ) (Val := Elt F) spec0 c : sProp 𝕄)
      = iprop((∃ f, holds c MX f) ∗ (∃ f, holds c MS f) ∗ (∃ f, holds c MW f) ∗ (∃ f, holds c MWS f)
        ∗ (∃ f, holds c MC f) ∗ (∃ f, holds c MP f) ∗ (∃ f, holds c MD f) ∗ (∃ f, holds c MA f)) := by
  rw [scopedRest0_eq]
  unfold holds
  simp only [View.set_whole]

/-! ## The run from the whole buffers -/

theorem conv_whole (c : Dev nD) (arg4 : Memref sig .tc .vmem S1x2048 .f32) (harg4 : arg4.IsWhole) (arg5 : Memref sig .tc .vmem S2x6x10x2048 .bf16) (harg5 : arg5.IsWhole)
    (hx : HbBuf F c HX) (hs : HbBuf F c HS) (hw : HbBuf F c HW) (hws : HbBuf F c HWS) (W : Waits sig Unit)
    (bias : BufTy.Contents (Elt F) arg4.view.ty) (fo : BufTy.Contents (Elt F) arg5.view.ty) :
    (iprop(((∃ f, holds c MX f) ∗ (∃ f, holds c MS f) ∗ (∃ f, holds c MW f) ∗ (∃ f, holds c MWS f)
        ∗ (∃ f, holds c MC f) ∗ (∃ f, holds c MP f) ∗ (∃ f, holds c MD f) ∗ (∃ f, holds c MA f))
      ∗ ((bigSep Finset.univ fun k : Fin 36 => semVal ((c : Thread nD τ), wcell k) 0)
        ∗ (bigSep Finset.univ fun t : Fin 9 => semVal ((c : Thread nD τ), scell t) 0)
        ∗ semVal ((c : Thread nD τ), xcell 0) 0 ∗ semVal ((c : Thread nD τ), xcell 1) 0)
      ∗ (holds c HX hx ∗ holds c HS hs ∗ holds c HW hw ∗ holds c HWS hws)
      ∗ owes (c : Thread nD τ) 0 W
      ∗ (arg4.view.loc (c : Thread nD τ) ↦[arg4.view.set]{fullShare} bias)
      ∗ (arg5.view.loc (c : Thread nD τ) ↦[arg5.view.set]{fullShare} fo)) : sProp 𝕄)
    ⊢ wp frame (wpE (defs₀ (F := F)) Variants.none c none) Set.univ
      (cc0_mxfp8_conv HX (Memref.isWhole_whole _) HS (Memref.isWhole_whole _) HW (Memref.isWhole_whole _) HWS (Memref.isWhole_whole _) arg4 harg4 arg5 harg5
        MX (Memref.isWhole_whole _) MS (Memref.isWhole_whole _) MW (Memref.isWhole_whole _) MWS (Memref.isWhole_whole _)
        MC (Memref.isWhole_whole _) MP (Memref.isWhole_whole _) MD (Memref.isWhole_whole _) MA (Memref.isWhole_whole _) cc0_scoped0 cc0_scoped1 cc0_scoped2)
      (fun _ => iprop(((∃ f, holds c MX f) ∗ (∃ f, holds c MS f) ∗ (∃ f, holds c MW f) ∗ (∃ f, holds c MWS f)
        ∗ (∃ f, holds c MC f) ∗ (∃ f, holds c MP f) ∗ (∃ f, holds c MD f) ∗ (∃ f, holds c MA f))
      ∗ ((bigSep Finset.univ fun k : Fin 36 => semVal ((c : Thread nD τ), wcell k) 0)
        ∗ (bigSep Finset.univ fun t : Fin 9 => semVal ((c : Thread nD τ), scell t) 0)
        ∗ semVal ((c : Thread nD τ), xcell 0) 0 ∗ semVal ((c : Thread nD τ), xcell 1) 0)
      ∗ (holds c HX hx ∗ holds c HS hs ∗ holds c HW hw ∗ holds c HWS hws)
      ∗ (∃ W, owes (c : Thread nD τ) 0 W)
      ∗ (arg4.view.loc (c : Thread nD τ) ↦[arg4.view.set]{fullShare} bias)
      ∗ (∃ fo', (arg5.view.loc (c : Thread nD τ) ↦[arg5.view.set]{fullShare} fo') ∗ ⌜OutFact c arg4 arg5 hx hs hw hws bias fo'⌝))) := by
  iintro ⟨⟨Hmx, Hms, ⟨%fw, Hmw⟩, ⟨%fws, Hmws⟩, Hmc, Hmp, Hmd, Hma⟩, ⟨Hcw, Hcs, Hc0, Hc1⟩, ⟨Hx, Hs, Hw, Hws⟩, HO, Hb, Hfo⟩
  iapply (wp_wand_r frame (wpE (defs₀ (F := F)) Variants.none c none) Set.univ)
  isplitl [Hmx Hms Hmw Hmws Hmc Hmp Hmd Hma Hcw Hcs Hc0 Hc1 Hx Hs Hw Hws HO Hb Hfo]
  · iapply (conv_run c arg4 harg4 arg5 harg5 fw hw fws hws W hx hs bias fo)
    isplitl [Hmw Hw Hcw]
    · iapply (start_w c fw hw)
      isplitl [Hmw]; · iexact Hmw
      isplitl [Hw]; · iexact Hw
      iexact Hcw
    isplitl [Hmws Hws Hcs]
    · iapply (start_s c fws hws)
      isplitl [Hmws]; · iexact Hmws
      isplitl [Hws]; · iexact Hws
      iexact Hcs
    isplitl [Hc0]; · iexact Hc0
    isplitl [Hc1]; · iexact Hc1
    isplitl [Hx]; · iexact Hx
    isplitl [Hs]; · iexact Hs
    isplitl [Hb]; · iexact Hb
    isplitl [Hfo]; · iexact Hfo
    isplitl [Hmx]; · iexact Hmx
    isplitl [Hms]; · iexact Hms
    isplitl [Hmc]; · iexact Hmc
    isplitl [Hmp]; · iexact Hmp
    isplitl [Hmd]; · iexact Hmd
    isplitl [Hma]; · iexact Hma
    iexact HO
  · iintro %_ ⟨HW, HS, Hc0, Hc1, Hx, Hs, Hb, Hfo, Hmx, Hms, Hmc, Hmp, Hmd, Hma, HO⟩
    ihave HW' := (fin_w c hw) $$ HW
    icases HW' with ⟨Hcw, Hmw, Hw⟩
    ihave HS' := (fin_s c hws) $$ HS
    icases HS' with ⟨Hcs, Hmws, Hws⟩
    isplitl [Hmx Hms Hmw Hmws Hmc Hmp Hmd Hma]
    · isplitl [Hmx]; · iexact Hmx
      isplitl [Hms]; · iexact Hms
      isplitl [Hmw]; · iexists _; iexact Hmw
      isplitl [Hmws]; · iexists _; iexact Hmws
      isplitl [Hmc]; · iexact Hmc
      isplitl [Hmp]; · iexact Hmp
      isplitl [Hmd]; · iexact Hmd
      iexact Hma
    isplitl [Hcw Hcs Hc0 Hc1]
    · isplitl [Hcw]; · iexact Hcw
      isplitl [Hcs]; · iexact Hcs
      isplitl [Hc0]; · iexact Hc0
      iexact Hc1
    isplitl [Hx Hs Hw Hws]
    · isplitl [Hx]; · iexact Hx
      isplitl [Hs]; · iexact Hs
      isplitl [Hw]; · iexact Hw
      iexact Hws
    isplitl [HO]; · iexact HO
    isplitl [Hb]; · iexact Hb
    iexact Hfo

/-! ## The proof data and the body obligation -/

abbrev ms0_0 (t : Fin cfg0.N) : Memref sig .tc .vmem S1x2048 .f32 := win0_0.stage (cfg0.slots t 0)
abbrev ms0_1 (t : Fin cfg0.N) : Memref sig .tc .vmem S2x6x10x2048 .bf16 := win0_1.stage (cfg0.slots t 1)

theorem PhiD0_eq (c : Dev nD) :
    (Pipeline.ΦD osem0 spec0 H0 (V m) c : sProp 𝕄)
      = iprop(((∃ f, holds c MX f) ∗ (∃ f, holds c MS f) ∗ (∃ f, holds c MW f) ∗ (∃ f, holds c MWS f)
          ∗ (∃ f, holds c MC f) ∗ (∃ f, holds c MP f) ∗ (∃ f, holds c MD f) ∗ (∃ f, holds c MA f))
        ∗ (∃ r, prngReg c r)
        ∗ ((bigSep Finset.univ fun k : Fin 36 => semVal ((c : Thread nD τ), wcell k) 0)
          ∗ (bigSep Finset.univ fun t : Fin 9 => semVal ((c : Thread nD τ), scell t) 0)
          ∗ semVal ((c : Thread nD τ), xcell 0) 0 ∗ semVal ((c : Thread nD τ), xcell 1) 0)
        ∗ (holds c HX (V m c main_arg0) ∗ holds c HS (V m c main_arg1) ∗ holds c HW (V m c main_arg2) ∗ holds c HWS (V m c main_arg3))) := by
  rw [Pipeline.ΦD_eq, scratch_eq, ownSems0_eq, hbm_eq]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 800000 in
/-- @main up to the region, at the algebra the transfers need. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Nothing here reads what the kernel leaves in the windows. -/
def forgets0 : Fin 2 → Bool := fun _ => true

def dats (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d) ∗ (∃ d, owns (c : Thread nD τ) (ms0_1 t) fullShare d))
def bodyPost (c : Dev nD) (t : Fin cfg0.N) : sProp 𝕄 :=
  iprop((dats m 0 c).Φ t.succ ∗ (dats m 0 c).owesAt () t.succ
    ∗ (∃ d, owns (c : Thread nD τ) (ms0_0 t) fullShare d) ∗ (∃ d, owns (c : Thread nD τ) (ms0_1 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  unfold owns
  iintro ⟨⟨HS, Hg, Hq, Hh⟩, ⟨%W, %hW, HO⟩, ⟨%d0, %f0, %e0, H0⟩, ⟨%d1, %f1, %e1, H1⟩⟩
  iapply (wp_wand_r frame (wpE (defs₀ (F := F)) Variants.none c none) Set.univ)
  isplitl [HS Hq Hh HO H0 H1]
  · iapply (conv_whole c (ms0_0 t) (hstage0_0 0) (ms0_1 t) (hstage0_1 0) (V m c main_arg0) (V m c main_arg1) (V m c main_arg2) (V m c main_arg3) W f0 f1)
    isplitl [HS]; · iexact HS
    isplitl [Hq]; · iexact Hq
    isplitl [Hh]; · iexact Hh
    isplitl [HO]; · iexact HO
    isplitl [H0]; · iexact H0
    iexact H1
  · iintro %_ ⟨HS, Hq, Hh, ⟨%W', HO⟩, H0, ⟨%fo', H1, -⟩⟩
    isplitl [HS Hg Hq Hh]
    · isplitl [HS]; · iexact HS
      isplitl [Hg]; · iexact Hg
      isplitl [Hq]; · iexact Hq
      iexact Hh
    isplitl [HO]
    · iexists W'; isplitr; · ipureintro; exact fun _ _ => Or.inl trivial
      iexact HO
    isplitl [H0]
    · iexists _, _; isplitr; swap; · iexact H0
      ipureintro; rfl
    · iexists _, _; isplitr; swap; · iexact H1
      ipureintro; rfl

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- After the run every argument holds what it held at launch, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel.Hand

end
-- ==== Proof.KernelIdeal.Base.lean ====
/-
  The kernel's buffers and cells, its 36 weight slabs and 9 scale slabs as families of rectangles, and what the
  transfers into them leave: one description of the whole weight buffer (`WK`) and of the whole scale buffer (`SK`)
  after all the transfers, read off the arrays in HBM.
-/
module

public import proofs.«01_k».proof.Proof.Gen.KernelIdeal.Frame
public import proofs.«01_k».proof.Proof.Gen.KernelIdeal.Loops
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers -/

abbrev MX : Memref sig .tc .vmem S2x12x20x2560 .fp8e4m3 := Memref.whole cc0_scratch0
abbrev MS : Memref sig .tc .vmem S2x12x20x80 .i8 := Memref.whole cc0_scratch1
abbrev MW : Memref sig .tc .vmem S36x2560x512 .fp8e4m3 := Memref.whole cc0_scratch2
abbrev MWS : Memref sig .tc .vmem S9x80x2048 .i8 := Memref.whole cc0_scratch3
abbrev MC : Memref sig .tc .vmem S24x16x2x128 .bf16 := Memref.whole cc0_scratch4
abbrev MP : Memref sig .tc .vmem S6x20x80x2x128 .bf16 := Memref.whole cc0_scratch5
abbrev MD : Memref sig .tc .vmem S80x512 .i32 := Memref.whole cc0_scratch6
abbrev MA : Memref sig .tc .vmem S4x128x512 .f32 := Memref.whole cc0_scratch7
abbrev HX : Memref sig .tc .hbm S2x12x20x2560 .fp8e4m3 := Memref.whole main_arg0
abbrev HS : Memref sig .tc .hbm S2x12x20x80 .i8 := Memref.whole main_arg1
abbrev HW : Memref sig .tc .hbm S3x3x2560x2048 .fp8e4m3 := Memref.whole main_arg2
abbrev HWS : Memref sig .tc .hbm S3x3x80x2048 .i8 := Memref.whole main_arg3

/-- A memref's buffer's contents on core `c`. -/
abbrev HbBuf (F : FTy → Type) (c : Dev nD) {sp : Space} {S : Shape} {e : EltTy} (M : Memref sig .tc sp S e) : Type := Buf (Elt F) (M.view.loc (c : Thread nD τ))
/-- A memref held whole. -/
abbrev holds (c : Dev nD) {sp : Space} {S : Shape} {e : EltTy} (M : Memref sig .tc sp S e) (f : HbBuf F c M) : sProp 𝕄 :=
  M.view.loc (c : Thread nD τ) ↦[M.view.set]{fullShare} f
/-- A memref's rectangle held. -/
abbrev holdsOn (c : Dev nD) {sp : Space} {S : Shape} {e : EltTy} (M : Memref sig .tc sp S e) (R : Rect S) (f : HbBuf F c M) : sProp 𝕄 :=
  M.view.loc (c : Thread nD τ) ↦[M.view.setOn R.set]{fullShare} f

/-! ## The slabs -/

theorem trips2 : k0_t2_loop.trips = 36 := by decide

theorem w_inb (k : Fin 36) : ∀ a, (![k.val, 0, 0] : Fin 3 → ℕ) a + S1x2560x512.size a ≤ S36x2560x512.size a := by
  revert k; decide +kernel
theorem hw_inb (k : Fin 36) : ∀ a, (![k.val % 9 / 3, k.val % 3, 0, 512 * (k.val / 9)] : Fin 4 → ℕ) a + S1x1x2560x512.size a ≤ S3x3x2560x2048.size a := by
  revert k; decide +kernel
theorem s_inb (t : Fin 9) : ∀ a, (![t.val, 0, 0] : Fin 3 → ℕ) a + S1x80x2048.size a ≤ S9x80x2048.size a := by
  revert t; decide +kernel
theorem hs_inb (t : Fin 9) : ∀ a, (![t.val / 3, t.val % 3, 0, 0] : Fin 4 → ℕ) a + S1x1x80x2048.size a ≤ S3x3x80x2048.size a := by
  revert t; decide +kernel

/-- Step `k`'s weight slab in VMEM, and the window of the weights in HBM it is copied from. -/
abbrev wrect (k : Fin 36) : Rect S36x2560x512 := Rect.unit (s := S36x2560x512) ![k.val, 0, 0] S1x2560x512.size (w_inb k)
abbrev hwrect (k : Fin 36) : Rect S3x3x2560x2048 := Rect.unit (s := S3x3x2560x2048) ![k.val % 9 / 3, k.val % 3, 0, 512 * (k.val / 9)] S1x1x2560x512.size (hw_inb k)
/-- Tap `t`'s scale slab in VMEM, and its window in HBM. -/
abbrev srect (t : Fin 9) : Rect S9x80x2048 := Rect.unit (s := S9x80x2048) ![t.val, 0, 0] S1x80x2048.size (s_inb t)
abbrev hsrect (t : Fin 9) : Rect S3x3x80x2048 := Rect.unit (s := S3x3x80x2048) ![t.val / 3, t.val % 3, 0, 0] S1x1x80x2048.size (hs_inb t)

abbrev wslot (k : Fin 36) : Memref sig .tc .vmem S2560x512 .fp8e4m3 := (MW.slice (wrect k) (fun _ => rfl)).squeeze S2560x512 squeezes_S1x2560x512_S2560x512
abbrev wsrc (k : Fin 36) : Memref sig .tc .hbm S2560x512 .fp8e4m3 := (HW.slice (hwrect k) (fun _ => rfl)).squeeze S2560x512 squeezes_S1x1x2560x512_S2560x512
abbrev sslot (t : Fin 9) : Memref sig .tc .vmem S80x2048 .i8 := (MWS.slice (srect t) (fun _ => rfl)).squeeze S80x2048 squeezes_S1x80x2048_S80x2048
abbrev ssrc (t : Fin 9) : Memref sig .tc .hbm S80x2048 .i8 := (HWS.slice (hsrect t) (fun _ => rfl)).squeeze S80x2048 squeezes_S1x1x80x2048_S80x2048

/-- The cells of the pool: step `k`'s weight cell, tap `t`'s scale cell. -/
abbrev wcell (k : Fin 36) : SemLoc sig := SemLoc.dma ⟨4 + k.val, by have := k.isLt; show 4 + k.val < 49; omega⟩
abbrev scell (t : Fin 9) : SemLoc sig := SemLoc.dma ⟨40 + t.val, by have := t.isLt; show 40 + t.val < 49; omega⟩

variable {c : Dev nD}

/-! ## What the transfers leave -/

/-- Where the element of the weight buffer at an index comes from. -/
def srcW (i : S36x2560x512.Idx) : S3x3x2560x2048.Idx :=
  ix4 (⟨(i 0).val % 9 / 3, by omega⟩ : Fin 3) (⟨(i 0).val % 3, by omega⟩ : Fin 3) (⟨(i 1).val, (i 1).isLt⟩ : Fin 2560)
    (⟨512 * ((i 0).val / 9) + (i 2).val, by have h0 : (i 0).val < 36 := (i 0).isLt; have h2 : (i 2).val < 512 := (i 2).isLt; omega⟩ : Fin 2048)
/-- Where the element of the scale buffer at an index comes from. -/
def srcS (i : S9x80x2048.Idx) : S3x3x80x2048.Idx :=
  ix4 (⟨(i 0).val / 3, by have h0 : (i 0).val < 9 := (i 0).isLt; omega⟩ : Fin 3) (⟨(i 0).val % 3, by omega⟩ : Fin 3)
    (⟨(i 1).val, (i 1).isLt⟩ : Fin 80) (⟨(i 2).val, (i 2).isLt⟩ : Fin 2048)
/-- The weight buffer once every slab has landed. -/
def WK (hw : HbBuf F c HW) : HbBuf F c MW := fun i => hw (srcW i)
/-- The scale buffer once every slab has landed. -/
def SK (hs : HbBuf F c HWS) : HbBuf F c MWS := fun i => hs (srcS i)

theorem set_wslot (k : Fin 36) : (wslot k).view.set = MW.view.setOn (wrect k).set := (Memref.set_view_squeeze _ _).trans (View.set_slice _ _)
theorem set_wsrc (k : Fin 36) : (wsrc k).view.set = HW.view.setOn (hwrect k).set := (Memref.set_view_squeeze _ _).trans (View.set_slice _ _)
theorem set_sslot (t : Fin 9) : (sslot t).view.set = MWS.view.setOn (srect t).set := (Memref.set_view_squeeze _ _).trans (View.set_slice _ _)
theorem set_ssrc (t : Fin 9) : (ssrc t).view.set = HWS.view.setOn (hsrect t).set := (Memref.set_view_squeeze _ _).trans (View.set_slice _ _)

theorem emb_wslot (k : Fin 36) (a : Fin 2560) (b : Fin 512) : (wslot k).view.emb (ix2 a b) = ix3 k a b := by
  show (wrect k).emb (Shape.reshapeEquiv _ (ix2 a b)) = _
  erw [reshapeEquiv_ix2_1ab]
  funext x
  match x with
  | ⟨0, _⟩ => exact Fin.ext (by show k.val + 1 * 0 = k.val; omega)
  | ⟨1, _⟩ => exact Fin.ext (by show 0 + 1 * a.val = a.val; omega)
  | ⟨2, _⟩ => exact Fin.ext (by show 0 + 1 * b.val = b.val; omega)

theorem emb_wsrc (k : Fin 36) (a : Fin 2560) (b : Fin 512) : (wsrc k).view.emb (ix2 a b) = srcW (ix3 k a b) := by
  show (hwrect k).emb (Shape.reshapeEquiv _ (ix2 a b)) = _
  erw [reshapeEquiv_ix2_11ab]
  funext x
  match x with
  | ⟨0, _⟩ => exact Fin.ext (by show k.val % 9 / 3 + 1 * 0 = k.val % 9 / 3; omega)
  | ⟨1, _⟩ => exact Fin.ext (by show k.val % 3 + 1 * 0 = k.val % 3; omega)
  | ⟨2, _⟩ => exact Fin.ext (by show 0 + 1 * a.val = a.val; omega)
  | ⟨3, _⟩ => exact Fin.ext (by show 512 * (k.val / 9) + 1 * b.val = 512 * (k.val / 9) + b.val; omega)

theorem emb_sslot (k : Fin 9) (a : Fin 80) (b : Fin 2048) : (sslot k).view.emb (ix2 a b) = ix3 k a b := by
  show (srect k).emb (Shape.reshapeEquiv _ (ix2 a b)) = _
  erw [reshapeEquiv_ix2_1ab]
  funext x
  match x with
  | ⟨0, _⟩ => exact Fin.ext (by show k.val + 1 * 0 = k.val; omega)
  | ⟨1, _⟩ => exact Fin.ext (by show 0 + 1 * a.val = a.val; omega)
  | ⟨2, _⟩ => exact Fin.ext (by show 0 + 1 * b.val = b.val; omega)

theorem emb_ssrc (k : Fin 9) (a : Fin 80) (b : Fin 2048) : (ssrc k).view.emb (ix2 a b) = srcS (ix3 k a b) := by
  show (hsrect k).emb (Shape.reshapeEquiv _ (ix2 a b)) = _
  erw [reshapeEquiv_ix2_11ab]
  funext x
  match x with
  | ⟨0, _⟩ => exact Fin.ext (by show k.val / 3 + 1 * 0 = k.val / 3; omega)
  | ⟨1, _⟩ => exact Fin.ext (by show k.val % 3 + 1 * 0 = k.val % 3; omega)
  | ⟨2, _⟩ => exact Fin.ext (by show 0 + 1 * a.val = a.val; omega)
  | ⟨3, _⟩ => exact Fin.ext (by show 0 + 1 * b.val = b.val; omega)

/-- On slab `k` the transfer into it leaves `WK`. -/
theorem land_w (k : Fin 36) (f : HbBuf F c MW) (hw : HbBuf F c HW) : ∀ i ∈ (wslot k).view.set,
    View.write (Elt F) (wslot k).view f (View.read (Elt F) (wsrc k).view hw) Finset.univ i = WK hw i := by
  intro i hi
  obtain ⟨x, -, rfl⟩ := Finset.mem_map.mp hi
  rw [View.write_emb_of_mem _ _ (Finset.mem_univ x)]
  obtain ⟨a, b, rfl⟩ : ∃ (a : Fin 2560) (b : Fin 512), x = ix2 a b := ⟨x 0, x 1, eq_ix2 x⟩
  rw [emb_wslot]
  show hw ((wsrc k).view.emb _) = hw (srcW _)
  rw [emb_wsrc]

/-- On scale slab `t` the transfer into it leaves `SK`. -/
theorem land_s (t : Fin 9) (f : HbBuf F c MWS) (hs : HbBuf F c HWS) : ∀ i ∈ (sslot t).view.set,
    View.write (Elt F) (sslot t).view f (View.read (Elt F) (ssrc t).view hs) Finset.univ i = SK hs i := by
  intro i hi
  obtain ⟨x, -, rfl⟩ := Finset.mem_map.mp hi
  rw [View.write_emb_of_mem _ _ (Finset.mem_univ x)]
  obtain ⟨a, b, rfl⟩ : ∃ (a : Fin 80) (b : Fin 2048), x = ix2 a b := ⟨x 0, x 1, eq_ix2 x⟩
  rw [emb_sslot]
  show hs ((ssrc t).view.emb _) = hs (srcS _)
  rw [emb_ssrc]

/-! ## The families -/

/-- What the transfer of step `k` delivers: the slab landed, its window of the weights given back. -/
abbrev Dw (hw : HbBuf F c HW) (k : Fin 36) : sProp 𝕄 := iprop(holdsOn c MW (wrect k) (WK hw) ∗ holdsOn c HW (hwrect k) hw)
/-- What the transfer of tap `t`'s scales delivers. -/
abbrev Ds (hs : HbBuf F c HWS) (t : Fin 9) : sProp 𝕄 := iprop(holdsOn c MWS (srect t) (SK hs) ∗ holdsOn c HWS (hsrect t) hs)

/-- Step `k`'s transfer: in flight, or landed with its cell at zero. -/
def Φw (hw : HbBuf F c HW) (k : Fin 36) (b : Bool) : sProp 𝕄 :=
  if b then Transfers.Flight (countersEmb (U := Pipeline.UD sig nD τ)) (c : Thread nD τ) (wcell k) () 40960 (Dw hw k)
  else iprop(semVal ((c : Thread nD τ), wcell k) 0 ∗ Dw hw k)
/-- Tap `t`'s transfer of scales, alike. -/
def Φs (hs : HbBuf F c HWS) (t : Fin 9) (b : Bool) : sProp 𝕄 :=
  if b then Transfers.Flight (countersEmb (U := Pipeline.UD sig nD τ)) (c : Thread nD τ) (scell t) () 6144 (Ds hs t)
  else iprop(semVal ((c : Thread nD τ), scell t) 0 ∗ Ds hs t)

theorem deliver_w (k : Fin 36) (f : HbBuf F c MW) (hw : HbBuf F c HW) :
    (iprop(((wslot k).view.loc (c : Thread nD τ) ↦[(wslot k).view.set]{fullShare} View.write (Elt F) (wslot k).view f (View.read (Elt F) (wsrc k).view hw) Finset.univ)
      ∗ (wsrc k).view.loc (c : Thread nD τ) ↦[(wsrc k).view.set]{fullShare} hw) : sProp 𝕄) ⊢ Dw hw k := by
  refine sep_mono (Entails.of_eq ((pointsTo_congr (land_w k f hw)).trans ?_)) (Entails.of_eq ?_)
  · rw [set_wslot]
  · rw [set_wsrc]
theorem deliver_s (t : Fin 9) (f : HbBuf F c MWS) (hs : HbBuf F c HWS) :
    (iprop(((sslot t).view.loc (c : Thread nD τ) ↦[(sslot t).view.set]{fullShare} View.write (Elt F) (sslot t).view f (View.read (Elt F) (ssrc t).view hs) Finset.univ)
      ∗ (ssrc t).view.loc (c : Thread nD τ) ↦[(ssrc t).view.set]{fullShare} hs) : sProp 𝕄) ⊢ Ds hs t := by
  refine sep_mono (Entails.of_eq ((pointsTo_congr (land_s t f hs)).trans ?_)) (Entails.of_eq ?_)
  · rw [set_sslot]
  · rw [set_ssrc]

/-- A transfer just issued is the family's member in flight. -/
theorem flight_w (k : Fin 36) (f : HbBuf F c MW) (hw : HbBuf F c HW) :
    (Transfers.Flight (countersEmb (U := Pipeline.UD sig nD τ)) (c : Thread nD τ) (wcell k) () 40960
      iprop(((wslot k).view.loc (c : Thread nD τ) ↦[(wslot k).view.set]{fullShare} View.write (Elt F) (wslot k).view f (View.read (Elt F) (wsrc k).view hw) Finset.univ)
      ∗ (wsrc k).view.loc (c : Thread nD τ) ↦[(wsrc k).view.set]{fullShare} hw) : sProp 𝕄) ⊢ Φw hw k true :=
  Transfers.Flight_mono _ _ (deliver_w k f hw)
theorem flight_s (t : Fin 9) (f : HbBuf F c MWS) (hs : HbBuf F c HWS) :
    (Transfers.Flight (countersEmb (U := Pipeline.UD sig nD τ)) (c : Thread nD τ) (scell t) () 6144
      iprop(((sslot t).view.loc (c : Thread nD τ) ↦[(sslot t).view.set]{fullShare} View.write (Elt F) (sslot t).view f (View.read (Elt F) (ssrc t).view hs) Finset.univ)
      ∗ (ssrc t).view.loc (c : Thread nD τ) ↦[(ssrc t).view.set]{fullShare} hs) : sProp 𝕄) ⊢ Φs hs t true :=
  Transfers.Flight_mono _ _ (deliver_s t f hs)

/-! ## The whole buffers, slab by slab -/

theorem disj_w (k k' : Fin 36) (h : k ≠ k') : Disjoint (MW.view.setOn (wrect k).set) (MW.view.setOn (wrect k').set) :=
  (Finset.disjoint_map _).mpr (Finset.disjoint_left.mpr fun i hi hi' => h (Fin.ext (by
    have h1 := Rect.mem_set_unit.mp hi 0
    have h2 := Rect.mem_set_unit.mp hi' 0
    have a1 : k.val ≤ (i 0).val := h1.1
    have a2 : (i 0).val < k.val + 1 := h1.2
    have b1 : k'.val ≤ (i 0).val := h2.1
    have b2 : (i 0).val < k'.val + 1 := h2.2
    omega)))
theorem cover_w : Finset.univ.biUnion (fun k : Fin 36 => MW.view.setOn (wrect k).set) = Finset.univ := by
  ext i
  simp only [Finset.mem_biUnion, Finset.mem_univ, true_and, iff_true]
  refine ⟨⟨(i 0).val, (i 0).isLt⟩, Finset.mem_map.mpr ⟨i, Rect.mem_set_unit.mpr fun a => ?_, rfl⟩⟩
  match a with
  | ⟨0, _⟩ => exact ⟨Nat.le_refl _, Nat.lt_succ_self _⟩
  | ⟨1, _⟩ => exact ⟨Nat.zero_le _, by have : (i 1).val < 2560 := (i 1).isLt; show (i 1).val < 0 + 2560; omega⟩
  | ⟨2, _⟩ => exact ⟨Nat.zero_le _, by have : (i 2).val < 512 := (i 2).isLt; show (i 2).val < 0 + 512; omega⟩
theorem disj_s (k k' : Fin 9) (h : k ≠ k') : Disjoint (MWS.view.setOn (srect k).set) (MWS.view.setOn (srect k').set) :=
  (Finset.disjoint_map _).mpr (Finset.disjoint_left.mpr fun i hi hi' => h (Fin.ext (by
    have h1 := Rect.mem_set_unit.mp hi 0
    have h2 := Rect.mem_set_unit.mp hi' 0
    have a1 : k.val ≤ (i 0).val := h1.1
    have a2 : (i 0).val < k.val + 1 := h1.2
    have b1 : k'.val ≤ (i 0).val := h2.1
    have b2 : (i 0).val < k'.val + 1 := h2.2
    omega)))
theorem cover_s : Finset.univ.biUnion (fun k : Fin 9 => MWS.view.setOn (srect k).set) = Finset.univ := by
  ext i
  simp only [Finset.mem_biUnion, Finset.mem_univ, true_and, iff_true]
  refine ⟨⟨(i 0).val, (i 0).isLt⟩, Finset.mem_map.mpr ⟨i, Rect.mem_set_unit.mpr fun a => ?_, rfl⟩⟩
  match a with
  | ⟨0, _⟩ => exact ⟨Nat.le_refl _, Nat.lt_succ_self _⟩
  | ⟨1, _⟩ => exact ⟨Nat.zero_le _, by have : (i 1).val < 80 := (i 1).isLt; show (i 1).val < 0 + 80; omega⟩
  | ⟨2, _⟩ => exact ⟨Nat.zero_le _, by have : (i 2).val < 2048 := (i 2).isLt; show (i 2).val < 0 + 2048; omega⟩
theorem disj_hw (k k' : Fin 36) (h : k ≠ k') : Disjoint (HW.view.setOn (hwrect k).set) (HW.view.setOn (hwrect k').set) :=
  (Finset.disjoint_map _).mpr (Finset.disjoint_left.mpr fun i hi hi' => h (Fin.ext (by
    have h1 := Rect.mem_set_unit.mp hi
    have h2 := Rect.mem_set_unit.mp hi'
    have a0 : k.val % 9 / 3 ≤ (i 0).val := (h1 0).1
    have a1 : (i 0).val < k.val % 9 / 3 + 1 := (h1 0).2
    have a2 : k'.val % 9 / 3 ≤ (i 0).val := (h2 0).1
    have a3 : (i 0).val < k'.val % 9 / 3 + 1 := (h2 0).2
    have b0 : k.val % 3 ≤ (i 1).val := (h1 1).1
    have b1 : (i 1).val < k.val % 3 + 1 := (h1 1).2
    have b2 : k'.val % 3 ≤ (i 1).val := (h2 1).1
    have b3 : (i 1).val < k'.val % 3 + 1 := (h2 1).2
    have c0 : 512 * (k.val / 9) ≤ (i 3).val := (h1 3).1
    have c1 : (i 3).val < 512 * (k.val / 9) + 512 := (h1 3).2
    have c2 : 512 * (k'.val / 9) ≤ (i 3).val := (h2 3).1
    have c3 : (i 3).val < 512 * (k'.val / 9) + 512 := (h2 3).2
    omega)))
theorem cover_hw : Finset.univ.biUnion (fun k : Fin 36 => HW.view.setOn (hwrect k).set) = Finset.univ := by
  ext i
  simp only [Finset.mem_biUnion, Finset.mem_univ, true_and, iff_true]
  have h0 : (i 0).val < 3 := (i 0).isLt
  have h1 : (i 1).val < 3 := (i 1).isLt
  have h2 : (i 2).val < 2560 := (i 2).isLt
  have h3 : (i 3).val < 2048 := (i 3).isLt
  refine ⟨⟨9 * ((i 3).val / 512) + 3 * (i 0).val + (i 1).val, by omega⟩, Finset.mem_map.mpr ⟨i, Rect.mem_set_unit.mpr fun a => ?_, rfl⟩⟩
  match a with
  | ⟨0, _⟩ =>
    show (9 * ((i 3).val / 512) + 3 * (i 0).val + (i 1).val) % 9 / 3 ≤ (i 0).val ∧ (i 0).val < (9 * ((i 3).val / 512) + 3 * (i 0).val + (i 1).val) % 9 / 3 + 1
    omega
  | ⟨1, _⟩ =>
    show (9 * ((i 3).val / 512) + 3 * (i 0).val + (i 1).val) % 3 ≤ (i 1).val ∧ (i 1).val < (9 * ((i 3).val / 512) + 3 * (i 0).val + (i 1).val) % 3 + 1
    omega
  | ⟨2, _⟩ => exact ⟨Nat.zero_le _, by show (i 2).val < 0 + 2560; omega⟩
  | ⟨3, _⟩ =>
    show 512 * ((9 * ((i 3).val / 512) + 3 * (i 0).val + (i 1).val) / 9) ≤ (i 3).val ∧ (i 3).val < 512 * ((9 * ((i 3).val / 512) + 3 * (i 0).val + (i 1).val) / 9) + 512
    omega
theorem disj_hs (k k' : Fin 9) (h : k ≠ k') : Disjoint (HWS.view.setOn (hsrect k).set) (HWS.view.setOn (hsrect k').set) :=
  (Finset.disjoint_map _).mpr (Finset.disjoint_left.mpr fun i hi hi' => h (Fin.ext (by
    have h1 := Rect.mem_set_unit.mp hi
    have h2 := Rect.mem_set_unit.mp hi'
    have a0 : k.val / 3 ≤ (i 0).val := (h1 0).1
    have a1 : (i 0).val < k.val / 3 + 1 := (h1 0).2
    have a2 : k'.val / 3 ≤ (i 0).val := (h2 0).1
    have a3 : (i 0).val < k'.val / 3 + 1 := (h2 0).2
    have b0 : k.val % 3 ≤ (i 1).val := (h1 1).1
    have b1 : (i 1).val < k.val % 3 + 1 := (h1 1).2
    have b2 : k'.val % 3 ≤ (i 1).val := (h2 1).1
    have b3 : (i 1).val < k'.val % 3 + 1 := (h2 1).2
    omega)))
theorem cover_hs : Finset.univ.biUnion (fun k : Fin 9 => HWS.view.setOn (hsrect k).set) = Finset.univ := by
  ext i
  simp only [Finset.mem_biUnion, Finset.mem_univ, true_and, iff_true]
  have h0 : (i 0).val < 3 := (i 0).isLt
  have h1 : (i 1).val < 3 := (i 1).isLt
  have h2 : (i 2).val < 80 := (i 2).isLt
  have h3 : (i 3).val < 2048 := (i 3).isLt
  refine ⟨⟨3 * (i 0).val + (i 1).val, by omega⟩, Finset.mem_map.mpr ⟨i, Rect.mem_set_unit.mpr fun a => ?_, rfl⟩⟩
  match a with
  | ⟨0, _⟩ =>
    show (3 * (i 0).val + (i 1).val) / 3 ≤ (i 0).val ∧ (i 0).val < (3 * (i 0).val + (i 1).val) / 3 + 1
    omega
  | ⟨1, _⟩ =>
    show (3 * (i 0).val + (i 1).val) % 3 ≤ (i 1).val ∧ (i 1).val < (3 * (i 0).val + (i 1).val) % 3 + 1
    omega
  | ⟨2, _⟩ => exact ⟨Nat.zero_le _, by show (i 2).val < 0 + 80; omega⟩
  | ⟨3, _⟩ => exact ⟨Nat.zero_le _, by show (i 3).val < 0 + 2048; omega⟩

theorem split_w (f : HbBuf F c MW) : (holds c MW f : sProp 𝕄) = bigSep Finset.univ fun k : Fin 36 => holdsOn c MW (wrect k) f :=
  (by unfold holds; rw [View.set_whole] : (holds c MW f : sProp 𝕄) = _).trans (Ring.pointsTo_blocks _ disj_w cover_w f)
theorem split_s (f : HbBuf F c MWS) : (holds c MWS f : sProp 𝕄) = bigSep Finset.univ fun k : Fin 9 => holdsOn c MWS (srect k) f :=
  (by unfold holds; rw [View.set_whole] : (holds c MWS f : sProp 𝕄) = _).trans (Ring.pointsTo_blocks _ disj_s cover_s f)
theorem split_hw (f : HbBuf F c HW) : (holds c HW f : sProp 𝕄) = bigSep Finset.univ fun k : Fin 36 => holdsOn c HW (hwrect k) f :=
  (by unfold holds; rw [View.set_whole] : (holds c HW f : sProp 𝕄) = _).trans (Ring.pointsTo_blocks _ disj_hw cover_hw f)
theorem split_hs (f : HbBuf F c HWS) : (holds c HWS f : sProp 𝕄) = bigSep Finset.univ fun k : Fin 9 => holdsOn c HWS (hsrect k) f :=
  (by unfold holds; rw [View.set_whole] : (holds c HWS f : sProp 𝕄) = _).trans (Ring.pointsTo_blocks _ disj_hs cover_hs f)

/-! ## The loop's words in closed form -/

theorem off91_eq : ∀ k : Fin k0_t2_loop.trips, k0_off91 k = ![k.val % 9, 0, 512 * (k.val / 9)] := by decide +kernel
instance closedOff_off91 (k : Fin k0_t2_loop.trips) : ClosedOff (k0_off91 k) := ⟨![k.val % 9, 0, 512 * (k.val / 9)], off91_eq k⟩
theorem cond1_iff : ∀ k : Fin k0_t2_loop.trips, k0_cond1 k = 1#1 ↔ k.val < 9 := by decide +kernel
theorem cond2_iff : ∀ k : Fin k0_t2_loop.trips, k0_cond2 k = 1#1 ↔ k.val % 9 = 0 := by decide +kernel
theorem cond3_iff : ∀ k : Fin k0_t2_loop.trips, k0_cond3 k = 1#1 ↔ ¬ k.val % 9 = 0 := by decide +kernel

end Cert.KernelIdeal.Hand

end
-- ==== Proof.KernelIdeal.StepDef.lean ====
/-
  What one step of the main loop stores, as one function of the buffers: its loads at closed offsets, the scale rows it
  decodes, the ten matrix products one after the other, and the accumulator's slot.
-/
module

public import proofs.«01_k».proof.Proof.KernelIdeal.Base
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F] {c : Dev nD}

/-- The plane step `k` reads, and its first row. -/
def plK (k : Fin k0_t2_loop.trips) : Fin 6 := ⟨(if k.val % 9 / 3 = 1 then 0 else 3) + k.val % 3, by split <;> omega⟩
def rwK (k : Fin k0_t2_loop.trips) : ℕ := if k.val % 9 / 3 = 0 then 0 else 10
theorem rwK_le (k : Fin k0_t2_loop.trips) : rwK k ≤ 10 := by unfold rwK; split <;> omega

/-- Lane tile `t` of the plane's rows. -/
def pLd (fp : HbBuf F c MP) (k : Fin k0_t2_loop.trips) (t : ℕ) : Vec F S1x1x64x2x128 .bf16 :=
  fun i => fp (ix5 (plK k) (⟨t % 20, Nat.mod_lt _ (by decide)⟩ : Fin 20)
    (⟨rwK k + (i 2).val, by have := rwK_le k; have h : (i 2).val < 64 := (i 2).isLt; omega⟩ : Fin 80) (⟨(i 3).val, (i 3).isLt⟩ : Fin 2) (⟨(i 4).val, (i 4).isLt⟩ : Fin 128))
/-- Block `b` of the step's weights. -/
def wLd (fw : HbBuf F c MW) (k : Fin k0_t2_loop.trips) (b : ℕ) : Vec F S1x32x512 .fp8e4m3 :=
  fun i => fw (ix3 (⟨k.val, lt_of_lt_of_eq k.isLt trips2⟩ : Fin 36)
    (⟨32 * (b % 80) + (i 1).val, by have h : (i 1).val < 32 := (i 1).isLt; have := Nat.mod_lt b (show 80 > 0 by decide); omega⟩ : Fin 2560) (⟨(i 2).val, (i 2).isLt⟩ : Fin 512))
/-- The tap's scales, the step's columns. -/
def sLd (fws : HbBuf F c MWS) (k : Fin k0_t2_loop.trips) : Vec F S1x80x512 .i8 :=
  fun i => fws (ix3 (⟨k.val % 9, Nat.mod_lt _ (by decide)⟩ : Fin 9) (⟨(i 1).val, (i 1).isLt⟩ : Fin 80)
    (⟨512 * (k.val / 9) + (i 2).val, by have h : (i 2).val < 512 := (i 2).isLt; have := k.isLt; have := trips2; omega⟩ : Fin 2048))
/-- Row `b` of the decoded scales. -/
def sRow (fws : HbBuf F c MWS) (k : Fin k0_t2_loop.trips) (b : ℕ) : Vec F S1x512 .i32 :=
  fun i => k0_pay216 (sLd fws k) (ix2 (⟨b % 80, Nat.mod_lt _ (by decide)⟩ : Fin 80) (⟨(i 1).val, (i 1).isLt⟩ : Fin 512))
/-- A block of weights times its scales. -/
def wPart (fw : HbBuf F c MW) (fws : HbBuf F c MWS) (k : Fin k0_t2_loop.trips) (b : ℕ) : FVec F S32x512 .bf16 := k0_pay221 (sRow fws k b) (wLd fw k b)
/-- Two lane tiles side by side. -/
def lhsT (fp : HbBuf F c MP) (k : Fin k0_t2_loop.trips) (n : ℕ) : FVec F S128x256 .bf16 := k0_pay218 (pLd fp k (2 * n)) (pLd fp k (2 * n + 1))
/-- Eight blocks, one under the other. -/
def rhsT (fw : HbBuf F c MW) (fws : HbBuf F c MWS) (k : Fin k0_t2_loop.trips) (n : ℕ) : FVec F S256x512 .bf16 :=
  concatenate S256x512 0 [⟨S32x512, wPart fw fws k (8 * n)⟩, ⟨S32x512, wPart fw fws k (8 * n + 1)⟩, ⟨S32x512, wPart fw fws k (8 * n + 2)⟩, ⟨S32x512, wPart fw fws k (8 * n + 3)⟩, ⟨S32x512, wPart fw fws k (8 * n + 4)⟩, ⟨S32x512, wPart fw fws k (8 * n + 5)⟩, ⟨S32x512, wPart fw fws k (8 * n + 6)⟩, ⟨S32x512, wPart fw fws k (8 * n + 7)⟩] concatenates_S32x512_S32x512_S32x512_S32x512_S32x512_S32x512_S32x512_S32x512_S256x512_d0
/-- The step's total after `n` products. -/
def tot (fw : HbBuf F c MW) (fws : HbBuf F c MWS) (fp : HbBuf F c MP) (k : Fin k0_t2_loop.trips) : ℕ → FVec F S128x512 .f32
  | 0 => k0_pay217
  | n + 1 => addf (tot fw fws fp k n) (matmul dot_S128x256_S256x512_S128x512_1_0_0_1_n_n none (lhsT fp k n) (rhsT fw fws k n) (constant S128x512 .f32 0x00000000#32))

/-- Slot `q` of the accumulator. -/
def aLd (fa : HbBuf F c MA) (k : Fin k0_t2_loop.trips) : Vec F S1x128x512 .f32 :=
  fun i => fa (ix3 (⟨k.val / 9, by have := k.isLt; have := trips2; omega⟩ : Fin 4) (⟨(i 1).val, (i 1).isLt⟩ : Fin 128) (⟨(i 2).val, (i 2).isLt⟩ : Fin 512))
/-- The accumulator with its slot `k / 9` replaced. -/
def aSt (fa : HbBuf F c MA) (k : Fin k0_t2_loop.trips) (w : Vec F S1x128x512 .f32) : HbBuf F c MA :=
  fun i => if (i 0).val = k.val / 9 then w (ix3 (0 : Fin 1) (⟨(i 1).val, (i 1).isLt⟩ : Fin 128) (⟨(i 2).val, (i 2).isLt⟩ : Fin 512)) else fa i
/-- The accumulator after step `k`. -/
def accNext (fw : HbBuf F c MW) (fws : HbBuf F c MWS) (fp : HbBuf F c MP) (k : Fin k0_t2_loop.trips) (fa : HbBuf F c MA) : HbBuf F c MA :=
  aSt fa k (shapeCast S1x128x512 (if k.val % 9 = 0 then tot fw fws fp k 10 else addf (shapeCast S128x512 (aLd fa k) shapeCasts_S1x128x512_S128x512) (tot fw fws fp k 10)) shapeCasts_S128x512_S1x128x512)

/-! ## The loads and the stores at their offsets -/

theorem rdP (fp : HbBuf F c MP) (k : Fin k0_t2_loop.trips) (t : ℕ) (ht : t < 20) (off : Fin 5 → ℕ) (h : ∀ a, off a + S1x1x64x2x128.size a ≤ S6x20x80x2x128.size a)
    (e : off = ![(plK k).val, t, rwK k, 0, 0]) :
    View.readAt (Elt F) MP.view (Rect.unit (s := S6x20x80x2x128) off S1x1x64x2x128.size h).toLoadRect fp = pLd fp k t := by
  subst e
  funext i
  show fp ((Rect.unit (s := S6x20x80x2x128) ![(plK k).val, t, rwK k, 0, 0] S1x1x64x2x128.size h).emb i) = fp _
  congr 1
  funext a
  match a with
  | ⟨0, _⟩ => exact Fin.ext (by show (plK k).val + 1 * (i 0).val = (plK k).val; have h : (i 0).val < 1 := (i 0).isLt; omega)
  | ⟨1, _⟩ => exact Fin.ext (by show t + 1 * (i 1).val = t % 20; have h : (i 1).val < 1 := (i 1).isLt; omega)
  | ⟨2, _⟩ => exact Fin.ext (by show rwK k + 1 * (i 2).val = rwK k + (i 2).val; omega)
  | ⟨3, _⟩ => exact Fin.ext (by show 0 + 1 * (i 3).val = (i 3).val; omega)
  | ⟨4, _⟩ => exact Fin.ext (by show 0 + 1 * (i 4).val = (i 4).val; omega)
theorem rdW (fw : HbBuf F c MW) (k : Fin k0_t2_loop.trips) (b : ℕ) (hb : b < 80) (off : Fin 3 → ℕ) (h : ∀ a, off a + S1x32x512.size a ≤ S36x2560x512.size a)
    (e : off = ![k.val, 32 * b, 0]) :
    View.readAt (Elt F) MW.view (Rect.unit (s := S36x2560x512) off S1x32x512.size h).toLoadRect fw = wLd fw k b := by
  subst e
  funext i
  show fw ((Rect.unit (s := S36x2560x512) ![k.val, 32 * b, 0] S1x32x512.size h).emb i) = fw _
  congr 1
  funext a
  match a with
  | ⟨0, _⟩ => exact Fin.ext (by show k.val + 1 * (i 0).val = k.val; have h : (i 0).val < 1 := (i 0).isLt; omega)
  | ⟨1, _⟩ => exact Fin.ext (by show 32 * b + 1 * (i 1).val = 32 * (b % 80) + (i 1).val; omega)
  | ⟨2, _⟩ => exact Fin.ext (by show 0 + 1 * (i 2).val = (i 2).val; omega)
theorem rdS (fws : HbBuf F c MWS) (k : Fin k0_t2_loop.trips) (h : ∀ a, k0_off91 k a + S1x80x512.size a ≤ S9x80x2048.size a) :
    View.readAt (Elt F) MWS.view (Rect.unit (s := S9x80x2048) (k0_off91 k) S1x80x512.size h).toLoadRect fws = sLd fws k := by
  have e := off91_eq k
  generalize k0_off91 k = off at h e
  subst e
  funext i
  show fws ((Rect.unit (s := S9x80x2048) ![k.val % 9, 0, 512 * (k.val / 9)] S1x80x512.size h).emb i) = fws _
  congr 1
  funext a
  match a with
  | ⟨0, _⟩ => exact Fin.ext (by show k.val % 9 + 1 * (i 0).val = k.val % 9; have h : (i 0).val < 1 := (i 0).isLt; omega)
  | ⟨1, _⟩ => exact Fin.ext (by show 0 + 1 * (i 1).val = (i 1).val; omega)
  | ⟨2, _⟩ => exact Fin.ext (by show 512 * (k.val / 9) + 1 * (i 2).val = 512 * (k.val / 9) + (i 2).val; omega)
theorem rdA (fa : HbBuf F c MA) (k : Fin k0_t2_loop.trips) (off : Fin 3 → ℕ) (h : ∀ a, off a + S1x128x512.size a ≤ S4x128x512.size a)
    (e : off = ![k.val / 9, 0, 0]) :
    View.readAt (Elt F) MA.view (Rect.unit (s := S4x128x512) off S1x128x512.size h).toLoadRect fa = aLd fa k := by
  subst e
  funext i
  show fa ((Rect.unit (s := S4x128x512) ![k.val / 9, 0, 0] S1x128x512.size h).emb i) = fa _
  congr 1
  funext a
  match a with
  | ⟨0, _⟩ => exact Fin.ext (by show k.val / 9 + 1 * (i 0).val = k.val / 9; have h : (i 0).val < 1 := (i 0).isLt; omega)
  | ⟨1, _⟩ => exact Fin.ext (by show 0 + 1 * (i 1).val = (i 1).val; omega)
  | ⟨2, _⟩ => exact Fin.ext (by show 0 + 1 * (i 2).val = (i 2).val; omega)
theorem stA (fa : HbBuf F c MA) (k : Fin k0_t2_loop.trips) (off : Fin 3 → ℕ) (h : ∀ a, off a + S1x128x512.size a ≤ S4x128x512.size a)
    (e : off = ![k.val / 9, 0, 0]) (w : Vec F S1x128x512 .f32) :
    MA.view.writes (Elt F) fa [⟨Rect.unit (s := S4x128x512) off S1x128x512.size h, w⟩] = aSt fa k w := by
  subst e
  funext i
  unfold aSt
  have h0 : (i 0).val < 4 := (i 0).isLt
  have h1 : (i 1).val < 128 := (i 1).isLt
  have h2 : (i 2).val < 512 := (i 2).isLt
  by_cases hi : (i 0).val = k.val / 9
  · rw [if_pos hi]
    have hx : i = (Rect.unit (s := S4x128x512) ![k.val / 9, 0, 0] S1x128x512.size h).emb (ix3 (0 : Fin 1) (⟨(i 1).val, (i 1).isLt⟩ : Fin 128) (⟨(i 2).val, (i 2).isLt⟩ : Fin 512)) := by
      funext a
      match a with
      | ⟨0, _⟩ => exact Fin.ext (by show (i 0).val = k.val / 9 + 1 * 0; omega)
      | ⟨1, _⟩ => exact Fin.ext (by show (i 1).val = 0 + 1 * (i 1).val; omega)
      | ⟨2, _⟩ => exact Fin.ext (by show (i 2).val = 0 + 1 * (i 2).val; omega)
    rw [View.writes_singleton]
    conv_lhs => rw [hx]
    exact View.write_emb_of_mem (Val := Elt F) (v := MA.view.slice _) _ _ (Finset.mem_univ _)
  · rw [if_neg hi, View.writes_singleton]
    refine View.write_of_not_mem _ _ _ ?_
    intro hm
    obtain ⟨x, -, hx⟩ := Finset.mem_map.mp hm
    apply hi
    have := congrFun hx 0
    have h' : k.val / 9 + 1 * (x 0).val = (i 0).val := congrArg Fin.val this
    have h'' : (x 0).val < 1 := (x 0).isLt
    omega
/-- A scale row read back from the decoded scales. -/
theorem rdD (fws : HbBuf F c MWS) (k : Fin k0_t2_loop.trips) (L : List (View.Piece (Elt F) S80x512 .i32)) (inb)
    (hL : L = [⟨Rect.unit (s := S80x512) ![0, 0] S80x512.size inb, k0_pay216 (sLd fws k)⟩]) (b : ℕ) (hb : b < 80) (inb') :
    (MD.view.readCov (Val := Elt F) L (Rect.unit (s := S80x512) ![b, 0] S1x512.size inb').toLoadRect : S1x512.Idx → BitVec 32)
      = sRow fws k b := by
  subst hL
  rw [View.readCov_fill _ _ _ _ _ (by intro a; fin_cases a <;> rfl)]
  funext i
  show k0_pay216 (sLd fws k) _ = k0_pay216 (sLd fws k) _
  congr 1
  funext a
  match a with
  | ⟨0, _⟩ => exact Fin.ext (by show b + 1 * (i 0).val = b % 80; have h : (i 0).val < 1 := (i 0).isLt; omega)
  | ⟨1, _⟩ => exact Fin.ext (by show 0 + 1 * (i 1).val = (i 1).val; omega)

/-! ## The step's offsets in closed form -/

theorem off92_eq : ∀ k : Fin k0_t2_loop.trips, k0_off92 k = ![(plK k).val, 0, rwK k, 0, 0] := by decide +kernel
theorem off93_eq : ∀ k : Fin k0_t2_loop.trips, k0_off93 k = ![(plK k).val, 1, rwK k, 0, 0] := by decide +kernel
theorem off94_eq : ∀ k : Fin k0_t2_loop.trips, k0_off94 k = ![k.val, 32 * 0, 0] := by decide +kernel
theorem off95_eq : ∀ k : Fin k0_t2_loop.trips, k0_off95 k = ![k.val, 32 * 1, 0] := by decide +kernel
theorem off96_eq : ∀ k : Fin k0_t2_loop.trips, k0_off96 k = ![k.val, 32 * 2, 0] := by decide +kernel
theorem off97_eq : ∀ k : Fin k0_t2_loop.trips, k0_off97 k = ![k.val, 32 * 3, 0] := by decide +kernel
theorem off98_eq : ∀ k : Fin k0_t2_loop.trips, k0_off98 k = ![k.val, 32 * 4, 0] := by decide +kernel
theorem off99_eq : ∀ k : Fin k0_t2_loop.trips, k0_off99 k = ![k.val, 32 * 5, 0] := by decide +kernel
theorem off100_eq : ∀ k : Fin k0_t2_loop.trips, k0_off100 k = ![k.val, 32 * 6, 0] := by decide +kernel
theorem off101_eq : ∀ k : Fin k0_t2_loop.trips, k0_off101 k = ![k.val, 32 * 7, 0] := by decide +kernel
theorem off102_eq : ∀ k : Fin k0_t2_loop.trips, k0_off102 k = ![(plK k).val, 2, rwK k, 0, 0] := by decide +kernel
theorem off103_eq : ∀ k : Fin k0_t2_loop.trips, k0_off103 k = ![(plK k).val, 3, rwK k, 0, 0] := by decide +kernel
theorem off104_eq : ∀ k : Fin k0_t2_loop.trips, k0_off104 k = ![k.val, 32 * 8, 0] := by decide +kernel
theorem off105_eq : ∀ k : Fin k0_t2_loop.trips, k0_off105 k = ![k.val, 32 * 9, 0] := by decide +kernel
theorem off106_eq : ∀ k : Fin k0_t2_loop.trips, k0_off106 k = ![k.val, 32 * 10, 0] := by decide +kernel
theorem off107_eq : ∀ k : Fin k0_t2_loop.trips, k0_off107 k = ![k.val, 32 * 11, 0] := by decide +kernel
theorem off108_eq : ∀ k : Fin k0_t2_loop.trips, k0_off108 k = ![k.val, 32 * 12, 0] := by decide +kernel
theorem off109_eq : ∀ k : Fin k0_t2_loop.trips, k0_off109 k = ![k.val, 32 * 13, 0] := by decide +kernel
theorem off110_eq : ∀ k : Fin k0_t2_loop.trips, k0_off110 k = ![k.val, 32 * 14, 0] := by decide +kernel
theorem off111_eq : ∀ k : Fin k0_t2_loop.trips, k0_off111 k = ![k.val, 32 * 15, 0] := by decide +kernel
theorem off112_eq : ∀ k : Fin k0_t2_loop.trips, k0_off112 k = ![(plK k).val, 4, rwK k, 0, 0] := by decide +kernel
theorem off113_eq : ∀ k : Fin k0_t2_loop.trips, k0_off113 k = ![(plK k).val, 5, rwK k, 0, 0] := by decide +kernel
theorem off114_eq : ∀ k : Fin k0_t2_loop.trips, k0_off114 k = ![k.val, 32 * 16, 0] := by decide +kernel
theorem off115_eq : ∀ k : Fin k0_t2_loop.trips, k0_off115 k = ![k.val, 32 * 17, 0] := by decide +kernel
theorem off116_eq : ∀ k : Fin k0_t2_loop.trips, k0_off116 k = ![k.val, 32 * 18, 0] := by decide +kernel
theorem off117_eq : ∀ k : Fin k0_t2_loop.trips, k0_off117 k = ![k.val, 32 * 19, 0] := by decide +kernel
theorem off118_eq : ∀ k : Fin k0_t2_loop.trips, k0_off118 k = ![k.val, 32 * 20, 0] := by decide +kernel
theorem off119_eq : ∀ k : Fin k0_t2_loop.trips, k0_off119 k = ![k.val, 32 * 21, 0] := by decide +kernel
theorem off120_eq : ∀ k : Fin k0_t2_loop.trips, k0_off120 k = ![k.val, 32 * 22, 0] := by decide +kernel
theorem off121_eq : ∀ k : Fin k0_t2_loop.trips, k0_off121 k = ![k.val, 32 * 23, 0] := by decide +kernel
theorem off122_eq : ∀ k : Fin k0_t2_loop.trips, k0_off122 k = ![(plK k).val, 6, rwK k, 0, 0] := by decide +kernel
theorem off123_eq : ∀ k : Fin k0_t2_loop.trips, k0_off123 k = ![(plK k).val, 7, rwK k, 0, 0] := by decide +kernel
theorem off124_eq : ∀ k : Fin k0_t2_loop.trips, k0_off124 k = ![k.val, 32 * 24, 0] := by decide +kernel
theorem off125_eq : ∀ k : Fin k0_t2_loop.trips, k0_off125 k = ![k.val, 32 * 25, 0] := by decide +kernel
theorem off126_eq : ∀ k : Fin k0_t2_loop.trips, k0_off126 k = ![k.val, 32 * 26, 0] := by decide +kernel
theorem off127_eq : ∀ k : Fin k0_t2_loop.trips, k0_off127 k = ![k.val, 32 * 27, 0] := by decide +kernel
theorem off128_eq : ∀ k : Fin k0_t2_loop.trips, k0_off128 k = ![k.val, 32 * 28, 0] := by decide +kernel
theorem off129_eq : ∀ k : Fin k0_t2_loop.trips, k0_off129 k = ![k.val, 32 * 29, 0] := by decide +kernel
theorem off130_eq : ∀ k : Fin k0_t2_loop.trips, k0_off130 k = ![k.val, 32 * 30, 0] := by decide +kernel
theorem off131_eq : ∀ k : Fin k0_t2_loop.trips, k0_off131 k = ![k.val, 32 * 31, 0] := by decide +kernel
theorem off132_eq : ∀ k : Fin k0_t2_loop.trips, k0_off132 k = ![(plK k).val, 8, rwK k, 0, 0] := by decide +kernel
theorem off133_eq : ∀ k : Fin k0_t2_loop.trips, k0_off133 k = ![(plK k).val, 9, rwK k, 0, 0] := by decide +kernel
theorem off134_eq : ∀ k : Fin k0_t2_loop.trips, k0_off134 k = ![k.val, 32 * 32, 0] := by decide +kernel
theorem off135_eq : ∀ k : Fin k0_t2_loop.trips, k0_off135 k = ![k.val, 32 * 33, 0] := by decide +kernel
theorem off136_eq : ∀ k : Fin k0_t2_loop.trips, k0_off136 k = ![k.val, 32 * 34, 0] := by decide +kernel
theorem off137_eq : ∀ k : Fin k0_t2_loop.trips, k0_off137 k = ![k.val, 32 * 35, 0] := by decide +kernel
theorem off138_eq : ∀ k : Fin k0_t2_loop.trips, k0_off138 k = ![k.val, 32 * 36, 0] := by decide +kernel
theorem off139_eq : ∀ k : Fin k0_t2_loop.trips, k0_off139 k = ![k.val, 32 * 37, 0] := by decide +kernel
theorem off140_eq : ∀ k : Fin k0_t2_loop.trips, k0_off140 k = ![k.val, 32 * 38, 0] := by decide +kernel
theorem off141_eq : ∀ k : Fin k0_t2_loop.trips, k0_off141 k = ![k.val, 32 * 39, 0] := by decide +kernel
theorem off142_eq : ∀ k : Fin k0_t2_loop.trips, k0_off142 k = ![(plK k).val, 10, rwK k, 0, 0] := by decide +kernel
theorem off143_eq : ∀ k : Fin k0_t2_loop.trips, k0_off143 k = ![(plK k).val, 11, rwK k, 0, 0] := by decide +kernel
theorem off144_eq : ∀ k : Fin k0_t2_loop.trips, k0_off144 k = ![k.val, 32 * 40, 0] := by decide +kernel
theorem off145_eq : ∀ k : Fin k0_t2_loop.trips, k0_off145 k = ![k.val, 32 * 41, 0] := by decide +kernel
theorem off146_eq : ∀ k : Fin k0_t2_loop.trips, k0_off146 k = ![k.val, 32 * 42, 0] := by decide +kernel
theorem off147_eq : ∀ k : Fin k0_t2_loop.trips, k0_off147 k = ![k.val, 32 * 43, 0] := by decide +kernel
theorem off148_eq : ∀ k : Fin k0_t2_loop.trips, k0_off148 k = ![k.val, 32 * 44, 0] := by decide +kernel
theorem off149_eq : ∀ k : Fin k0_t2_loop.trips, k0_off149 k = ![k.val, 32 * 45, 0] := by decide +kernel
theorem off150_eq : ∀ k : Fin k0_t2_loop.trips, k0_off150 k = ![k.val, 32 * 46, 0] := by decide +kernel
theorem off151_eq : ∀ k : Fin k0_t2_loop.trips, k0_off151 k = ![k.val, 32 * 47, 0] := by decide +kernel
theorem off152_eq : ∀ k : Fin k0_t2_loop.trips, k0_off152 k = ![(plK k).val, 12, rwK k, 0, 0] := by decide +kernel
theorem off153_eq : ∀ k : Fin k0_t2_loop.trips, k0_off153 k = ![(plK k).val, 13, rwK k, 0, 0] := by decide +kernel
theorem off154_eq : ∀ k : Fin k0_t2_loop.trips, k0_off154 k = ![k.val, 32 * 48, 0] := by decide +kernel
theorem off155_eq : ∀ k : Fin k0_t2_loop.trips, k0_off155 k = ![k.val, 32 * 49, 0] := by decide +kernel
theorem off156_eq : ∀ k : Fin k0_t2_loop.trips, k0_off156 k = ![k.val, 32 * 50, 0] := by decide +kernel
theorem off157_eq : ∀ k : Fin k0_t2_loop.trips, k0_off157 k = ![k.val, 32 * 51, 0] := by decide +kernel
theorem off158_eq : ∀ k : Fin k0_t2_loop.trips, k0_off158 k = ![k.val, 32 * 52, 0] := by decide +kernel
theorem off159_eq : ∀ k : Fin k0_t2_loop.trips, k0_off159 k = ![k.val, 32 * 53, 0] := by decide +kernel
theorem off160_eq : ∀ k : Fin k0_t2_loop.trips, k0_off160 k = ![k.val, 32 * 54, 0] := by decide +kernel
theorem off161_eq : ∀ k : Fin k0_t2_loop.trips, k0_off161 k = ![k.val, 32 * 55, 0] := by decide +kernel
theorem off162_eq : ∀ k : Fin k0_t2_loop.trips, k0_off162 k = ![(plK k).val, 14, rwK k, 0, 0] := by decide +kernel
theorem off163_eq : ∀ k : Fin k0_t2_loop.trips, k0_off163 k = ![(plK k).val, 15, rwK k, 0, 0] := by decide +kernel
theorem off164_eq : ∀ k : Fin k0_t2_loop.trips, k0_off164 k = ![k.val, 32 * 56, 0] := by decide +kernel
theorem off165_eq : ∀ k : Fin k0_t2_loop.trips, k0_off165 k = ![k.val, 32 * 57, 0] := by decide +kernel
theorem off166_eq : ∀ k : Fin k0_t2_loop.trips, k0_off166 k = ![k.val, 32 * 58, 0] := by decide +kernel
theorem off167_eq : ∀ k : Fin k0_t2_loop.trips, k0_off167 k = ![k.val, 32 * 59, 0] := by decide +kernel
theorem off168_eq : ∀ k : Fin k0_t2_loop.trips, k0_off168 k = ![k.val, 32 * 60, 0] := by decide +kernel
theorem off169_eq : ∀ k : Fin k0_t2_loop.trips, k0_off169 k = ![k.val, 32 * 61, 0] := by decide +kernel
theorem off170_eq : ∀ k : Fin k0_t2_loop.trips, k0_off170 k = ![k.val, 32 * 62, 0] := by decide +kernel
theorem off171_eq : ∀ k : Fin k0_t2_loop.trips, k0_off171 k = ![k.val, 32 * 63, 0] := by decide +kernel
theorem off172_eq : ∀ k : Fin k0_t2_loop.trips, k0_off172 k = ![(plK k).val, 16, rwK k, 0, 0] := by decide +kernel
theorem off173_eq : ∀ k : Fin k0_t2_loop.trips, k0_off173 k = ![(plK k).val, 17, rwK k, 0, 0] := by decide +kernel
theorem off174_eq : ∀ k : Fin k0_t2_loop.trips, k0_off174 k = ![k.val, 32 * 64, 0] := by decide +kernel
theorem off175_eq : ∀ k : Fin k0_t2_loop.trips, k0_off175 k = ![k.val, 32 * 65, 0] := by decide +kernel
theorem off176_eq : ∀ k : Fin k0_t2_loop.trips, k0_off176 k = ![k.val, 32 * 66, 0] := by decide +kernel
theorem off177_eq : ∀ k : Fin k0_t2_loop.trips, k0_off177 k = ![k.val, 32 * 67, 0] := by decide +kernel
theorem off178_eq : ∀ k : Fin k0_t2_loop.trips, k0_off178 k = ![k.val, 32 * 68, 0] := by decide +kernel
theorem off179_eq : ∀ k : Fin k0_t2_loop.trips, k0_off179 k = ![k.val, 32 * 69, 0] := by decide +kernel
theorem off180_eq : ∀ k : Fin k0_t2_loop.trips, k0_off180 k = ![k.val, 32 * 70, 0] := by decide +kernel
theorem off181_eq : ∀ k : Fin k0_t2_loop.trips, k0_off181 k = ![k.val, 32 * 71, 0] := by decide +kernel
theorem off182_eq : ∀ k : Fin k0_t2_loop.trips, k0_off182 k = ![(plK k).val, 18, rwK k, 0, 0] := by decide +kernel
theorem off183_eq : ∀ k : Fin k0_t2_loop.trips, k0_off183 k = ![(plK k).val, 19, rwK k, 0, 0] := by decide +kernel
theorem off184_eq : ∀ k : Fin k0_t2_loop.trips, k0_off184 k = ![k.val, 32 * 72, 0] := by decide +kernel
theorem off185_eq : ∀ k : Fin k0_t2_loop.trips, k0_off185 k = ![k.val, 32 * 73, 0] := by decide +kernel
theorem off186_eq : ∀ k : Fin k0_t2_loop.trips, k0_off186 k = ![k.val, 32 * 74, 0] := by decide +kernel
theorem off187_eq : ∀ k : Fin k0_t2_loop.trips, k0_off187 k = ![k.val, 32 * 75, 0] := by decide +kernel
theorem off188_eq : ∀ k : Fin k0_t2_loop.trips, k0_off188 k = ![k.val, 32 * 76, 0] := by decide +kernel
theorem off189_eq : ∀ k : Fin k0_t2_loop.trips, k0_off189 k = ![k.val, 32 * 77, 0] := by decide +kernel
theorem off190_eq : ∀ k : Fin k0_t2_loop.trips, k0_off190 k = ![k.val, 32 * 78, 0] := by decide +kernel
theorem off191_eq : ∀ k : Fin k0_t2_loop.trips, k0_off191 k = ![k.val, 32 * 79, 0] := by decide +kernel
theorem off192_eq : ∀ k : Fin k0_t2_loop.trips, k0_off192 k = ![k.val / 9, 0, 0] := by decide +kernel
theorem off193_eq : ∀ k : Fin k0_t2_loop.trips, k0_off193 k = ![k.val / 9, 0, 0] := by decide +kernel

end Cert.KernelIdeal.Hand

end
-- ==== Proof.KernelIdeal.Loop.lean ====
/-
  One step of the kernel's 36-step loop, at a symbolic step: it waits for its weight slab (and in the first nine steps
  for its tap's scales), decodes the scales, multiplies and adds into the accumulator. The slabs are members of the two
  families of Base; the loop's invariant is that the members from `k` on are still in flight.
-/
module

public import proofs.«01_k».proof.Proof.KernelIdeal.Base
public import proofs.«01_k».proof.Proof.KernelIdeal.StepDef

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The step's slabs and cells as the program names them -/

abbrev pwcell (k : Fin k0_t2_loop.trips) : SemLoc sig :=
  SemLoc.dma ((cc0_scoped1.slice (Rect.unit (s := S36) (k0_off88 k) S1.size (k0_off88_inb k))).squeeze S_ squeezes_S1_S_).sem
abbrev pwslot (k : Fin k0_t2_loop.trips) : Memref sig .tc .vmem S2560x512 .fp8e4m3 :=
  (MW.slice (Rect.unit (s := S36x2560x512) (k0_off89 k) S1x2560x512.size (k0_off89_inb k)) (fun _ => rfl)).squeeze S2560x512 squeezes_S1x2560x512_S2560x512
abbrev pscell (k : Fin k0_t2_loop.trips) (h : k0_cond1 k = 1#1) : SemLoc sig :=
  SemLoc.dma ((cc0_scoped2.slice (Rect.unit (s := S9) (k0_off85 k) S1.size (k0_off85_inb k h))).squeeze S_ squeezes_S1_S_).sem
abbrev psslot (k : Fin k0_t2_loop.trips) (h : k0_cond1 k = 1#1) : Memref sig .tc .vmem S80x2048 .i8 :=
  (MWS.slice (Rect.unit (s := S9x80x2048) (k0_off86 k) S1x80x2048.size (k0_off86_inb k h)) (fun _ => rfl)).squeeze S80x2048 squeezes_S1x80x2048_S80x2048

/-- Step `k` as a member of the families. -/
abbrev mem36 (k : Fin k0_t2_loop.trips) : Fin 36 := ⟨k.val, lt_of_lt_of_eq k.isLt trips2⟩
abbrev mem9 (k : Fin k0_t2_loop.trips) : Fin 9 := ⟨k.val % 9, Nat.mod_lt _ (by decide)⟩

theorem pwcell_eq : ∀ k : Fin k0_t2_loop.trips, pwcell k = wcell (mem36 k) := by decide +kernel
theorem pscell_eq : ∀ (k : Fin k0_t2_loop.trips) (h : k0_cond1 k = 1#1), pscell k h = scell (mem9 k) := by decide +kernel
theorem pwcredit (k : Fin k0_t2_loop.trips) : (pwslot k).view.dmaCredit = 40960 := by rfl
theorem pscredit (k : Fin k0_t2_loop.trips) (h : k0_cond1 k = 1#1) : (psslot k h).view.dmaCredit = 6144 := by rfl

theorem s_inb' (t : Fin k0_t2_loop.trips) : ∀ a, (![t.val % 9, 0, 0] : Fin 3 → ℕ) a + S1x80x2048.size a ≤ S9x80x2048.size a := by
  revert t; decide +kernel
abbrev srect' (t : Fin k0_t2_loop.trips) : Rect S9x80x2048 := Rect.unit (s := S9x80x2048) ![t.val % 9, 0, 0] S1x80x2048.size (s_inb' t)

variable (c : Dev nD)

/-- What a step does to the accumulator. -/
def AccStep (k : Fin k0_t2_loop.trips) (fw : HbBuf F c MW) (fws : HbBuf F c MWS) (fp : HbBuf F c MP) (fa fa' : HbBuf F c MA) : Prop := fa' = accNext fw fws fp k fa
/-- The accumulator after the first `n` steps. -/
def accIter (fw : HbBuf F c MW) (fws : HbBuf F c MWS) (fp : HbBuf F c MP) (f0 : HbBuf F c MA) : ℕ → HbBuf F c MA
  | 0 => f0
  | n + 1 => if h : n < k0_t2_loop.trips then accNext fw fws fp ⟨n, h⟩ (accIter fw fws fp f0 n) else accIter fw fws fp f0 n
/-- What the accumulator holds before step `k`. -/
def AccInv (hw : HbBuf F c HW) (hs : HbBuf F c HWS) (fp : HbBuf F c MP) (k : ℕ) (fa : HbBuf F c MA) : Prop :=
  match k with
  | 0 => True
  | n + 1 => ∃ f0, fa = accIter c (WK hw) (SK hs) fp f0 (n + 1)
@[simp] theorem accInv_zero (hw : HbBuf F c HW) (hs : HbBuf F c HWS) (fp : HbBuf F c MP) (fa : HbBuf F c MA) : AccInv c hw hs fp 0 fa := trivial
theorem accInv_succ (hw : HbBuf F c HW) (hs : HbBuf F c HWS) (fp : HbBuf F c MP) (k : Fin k0_t2_loop.trips) (fa fa' : HbBuf F c MA)
    (h : AccInv c hw hs fp k.val fa) (h' : AccStep c k (WK hw) (SK hs) fp fa fa') : AccInv c hw hs fp (k.val + 1) fa' := by
  obtain ⟨f0, rfl⟩ : ∃ f0, fa = accIter c (WK hw) (SK hs) fp f0 k.val := by
    generalize k.val = n at h
    cases n with
    | zero => exact ⟨fa, rfl⟩
    | succ n => exact h
  refine ⟨f0, ?_⟩
  rw [h', accIter, dif_pos k.isLt]

/-- The step's program. -/
abbrev body2 (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32) :
    Fin k0_t2_loop.trips → Unit → Prog (TpuEff nD τ sig (Elt F) Λ₀ .tc) Unit :=
  k0_t2_body HX (Memref.isWhole_whole _) HS (Memref.isWhole_whole _) HW (Memref.isWhole_whole _) HWS (Memref.isWhole_whole _) arg4 harg4 arg5 harg5
    MX (Memref.isWhole_whole _) MS (Memref.isWhole_whole _) MW (Memref.isWhole_whole _) MWS (Memref.isWhole_whole _)
    MC (Memref.isWhole_whole _) MP (Memref.isWhole_whole _) MD (Memref.isWhole_whole _) MA (Memref.isWhole_whole _) cc0_scoped0 cc0_scoped1 cc0_scoped2 v585_r0 c32_i32_497_r0 v587_r0 v594_r0 v596_r0

set_option maxHeartbeats 2000000 in
/-- The first step: the scales awaited, the accumulator started. -/
theorem trip_A (k : Fin k0_t2_loop.trips) (h1 : k0_cond1 k = 1#1) (h2 : k0_cond2 k = 1#1) (h3 : ¬ k0_cond3 k = 1#1)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32)
    (fw : HbBuf F c MW) (fh : HbBuf F c HW) (fws : HbBuf F c MWS) (fs : HbBuf F c HWS) (fp : HbBuf F c MP) (fa : HbBuf F c MA) (W : Waits sig Unit) :
    (iprop(Transfers.Flight (countersEmb (U := Pipeline.UD sig nD τ)) (c : Thread nD τ) (pwcell k) () (pwslot k).view.dmaCredit
         iprop((MW.view.loc (c : Thread nD τ) ↦[MW.view.setOn (wrect (mem36 k)).set]{fullShare} fw) ∗ holdsOn c HW (hwrect (mem36 k)) fh)
      ∗ Transfers.Flight (countersEmb (U := Pipeline.UD sig nD τ)) (c : Thread nD τ) (pscell k h1) () (psslot k h1).view.dmaCredit
         iprop((MWS.view.loc (c : Thread nD τ) ↦[MWS.view.setOn (srect' k).set]{fullShare} fws) ∗ holdsOn c HWS (hsrect (mem9 k)) fs)
      ∗ holds c MP fp
      ∗ (∃ fd, holds c MD fd)
      ∗ holds c MA fa
      ∗ owes (c : Thread nD τ) 0 W) : sProp 𝕄)
    ⊢ wp frame (wpE (defs₀ (F := F)) Variants.none c none) Set.univ
      (body2 arg4 harg4 arg5 harg5 v585_r0 c32_i32_497_r0 v587_r0 v594_r0 v596_r0 k ())
      (fun _ => iprop((semVal ((c : Thread nD τ), pwcell k) 0 ∗ holdsOn c MW (wrect (mem36 k)) fw ∗ holdsOn c HW (hwrect (mem36 k)) fh)
        ∗ (semVal ((c : Thread nD τ), pscell k h1) 0 ∗ (MWS.view.loc (c : Thread nD τ) ↦[MWS.view.setOn (srect' k).set]{fullShare} fws) ∗ holdsOn c HWS (hsrect (mem9 k)) fs)
        ∗ holds c MP fp
        ∗ (∃ fd, holds c MD fd)
        ∗ (∃ fa', holds c MA fa' ∗ ⌜AccStep c k fw fws fp fa fa'⌝)
        ∗ ∃ W, owes (c : Thread nD τ) 0 W)) := by
  have hk : k.val < 36 := Nat.lt_of_lt_of_le k.isLt (by decide)
  unfold body2 k0_t2_body
  iintro ⟨Hf, Hg, Hp, ⟨%fd, Hd⟩, Ha, HO⟩
  sl_exec
  sl_step
  isplitl [Hf Hf_dst Hf_src]
  · isplitl [Hf]; · iexact Hf
    isplitl [Hf_dst]; · iexact Hf_dst
    iexact Hf_src
  isplitl [Hg Hg_dst Hg_src]
  · isplitl [Hg]; · iexact Hg
    isplitl [Hg_dst]; · iexact Hg_dst
    iexact Hg_src
  isplitl [Hp]; · iexact Hp
  isplitl [Hd]; · iexists _; iexact Hd
  isplitr [HO]
  · iexists _
    isplitl [Ha]; · iexact Ha
    ipureintro
    show MA.view.writes (Elt F) fa _ = accNext fw fws fp k fa
    rw [stA fa k _ _ (off192_eq k)]
    have hD : trip_A.sl.Hd_1 c k fws = [⟨Rect.unit (s := S80x512) ![0, 0] S80x512.size inb_S80x512_S80x512_0_0, k0_pay216 (sLd fws k)⟩] := by
      delta trip_A.sl.Hd_1; rw [rdS]
    unfold accNext
    rw [if_pos ((cond2_iff k).mp h2)]
    congr 1
    delta trip_A.sl.r trip_A.sl.r_1 trip_A.sl.r_2 trip_A.sl.r_3 trip_A.sl.r_4 trip_A.sl.r_5 trip_A.sl.r_6 trip_A.sl.r_7 trip_A.sl.r_8 trip_A.sl.r_9 trip_A.sl.r_10 trip_A.sl.r_11 trip_A.sl.r_12 trip_A.sl.r_13 trip_A.sl.r_14 trip_A.sl.r_15 trip_A.sl.r_16 trip_A.sl.r_17 trip_A.sl.r_18 trip_A.sl.r_19 trip_A.sl.r_20 trip_A.sl.r_21 trip_A.sl.r_22 trip_A.sl.r_23 trip_A.sl.r_24 trip_A.sl.r_25 trip_A.sl.r_26 trip_A.sl.r_27 trip_A.sl.r_28 trip_A.sl.r_29 trip_A.sl.r_30 trip_A.sl.r_31 trip_A.sl.r_32 trip_A.sl.r_33 trip_A.sl.r_34 trip_A.sl.r_35 trip_A.sl.r_36 trip_A.sl.r_37 trip_A.sl.r_38 trip_A.sl.r_39 trip_A.sl.r_40 trip_A.sl.r_41 trip_A.sl.r_42 trip_A.sl.r_43 trip_A.sl.r_44 trip_A.sl.r_45 trip_A.sl.r_46 trip_A.sl.r_47 trip_A.sl.r_48 trip_A.sl.r_49 trip_A.sl.r_50 trip_A.sl.r_51 trip_A.sl.r_52 trip_A.sl.r_53 trip_A.sl.r_54 trip_A.sl.r_55 trip_A.sl.r_56 trip_A.sl.r_57 trip_A.sl.r_58 trip_A.sl.r_59 trip_A.sl.r_60 trip_A.sl.r_61 trip_A.sl.r_62 trip_A.sl.r_63 trip_A.sl.r_64 trip_A.sl.r_65 trip_A.sl.r_66 trip_A.sl.r_67 trip_A.sl.r_68 trip_A.sl.r_69 trip_A.sl.r_70 trip_A.sl.r_71 trip_A.sl.r_72 trip_A.sl.r_73 trip_A.sl.r_74 trip_A.sl.r_75 trip_A.sl.r_76 trip_A.sl.r_77 trip_A.sl.r_78 trip_A.sl.r_79 trip_A.sl.r_80 trip_A.sl.r_81 trip_A.sl.r_82 trip_A.sl.r_83 trip_A.sl.r_84 trip_A.sl.r_85 trip_A.sl.r_86 trip_A.sl.r_87 trip_A.sl.r_88 trip_A.sl.r_89 trip_A.sl.r_90 trip_A.sl.r_91 trip_A.sl.r_92 trip_A.sl.r_93 trip_A.sl.r_94 trip_A.sl.r_95 trip_A.sl.v1083_r0 trip_A.sl.v1092_r0 trip_A.sl.v1101_r0 trip_A.sl.v1110_r0 trip_A.sl.v1119_r0 trip_A.sl.v1128_r0 trip_A.sl.v1137_r0 trip_A.sl.v1146_r0 trip_A.sl.v1168_r0 trip_A.sl.v1177_r0 trip_A.sl.v1186_r0 trip_A.sl.v1195_r0 trip_A.sl.v1204_r0 trip_A.sl.v1213_r0 trip_A.sl.v1222_r0 trip_A.sl.v1231_r0 trip_A.sl.v1253_r0 trip_A.sl.v1262_r0 trip_A.sl.v1271_r0 trip_A.sl.v1280_r0 trip_A.sl.v1289_r0 trip_A.sl.v1298_r0 trip_A.sl.v1307_r0 trip_A.sl.v1316_r0 trip_A.sl.v1338_r0 trip_A.sl.v1347_r0 trip_A.sl.v1356_r0 trip_A.sl.v1365_r0 trip_A.sl.v1374_r0 trip_A.sl.v1383_r0 trip_A.sl.v1392_r0 trip_A.sl.v1401_r0 trip_A.sl.v1423_r0 trip_A.sl.v1432_r0 trip_A.sl.v1441_r0 trip_A.sl.v1450_r0 trip_A.sl.v1459_r0 trip_A.sl.v1468_r0 trip_A.sl.v1477_r0 trip_A.sl.v1486_r0 trip_A.sl.v1508_r0 trip_A.sl.v1517_r0 trip_A.sl.v1526_r0 trip_A.sl.v1535_r0 trip_A.sl.v1544_r0 trip_A.sl.v1553_r0 trip_A.sl.v1562_r0 trip_A.sl.v1571_r0 trip_A.sl.v1593_r0 trip_A.sl.v1602_r0 trip_A.sl.v1611_r0 trip_A.sl.v1620_r0 trip_A.sl.v1629_r0 trip_A.sl.v1638_r0 trip_A.sl.v1647_r0 trip_A.sl.v1656_r0 trip_A.sl.v1678_r0 trip_A.sl.v1687_r0 trip_A.sl.v1696_r0 trip_A.sl.v1705_r0 trip_A.sl.v1714_r0 trip_A.sl.v1723_r0 trip_A.sl.v1732_r0 trip_A.sl.v1741_r0 trip_A.sl.v1763_r0 trip_A.sl.v1772_r0 trip_A.sl.v1781_r0 trip_A.sl.v1790_r0 trip_A.sl.v1799_r0 trip_A.sl.v1808_r0 trip_A.sl.v1817_r0 trip_A.sl.v1826_r0 trip_A.sl.v1848_r0 trip_A.sl.v1857_r0 trip_A.sl.v1866_r0 trip_A.sl.v1875_r0 trip_A.sl.v1884_r0 trip_A.sl.v1893_r0 trip_A.sl.v1902_r0 trip_A.sl.v1911_r0 trip_A.sl.cst_881_r0
    simp only [rdP fp k 0 (by decide) _ _ (off92_eq k), rdP fp k 1 (by decide) _ _ (off93_eq k), rdW fw k 0 (by decide) _ _ (off94_eq k), rdW fw k 1 (by decide) _ _ (off95_eq k), rdW fw k 2 (by decide) _ _ (off96_eq k), rdW fw k 3 (by decide) _ _ (off97_eq k), rdW fw k 4 (by decide) _ _ (off98_eq k), rdW fw k 5 (by decide) _ _ (off99_eq k), rdW fw k 6 (by decide) _ _ (off100_eq k), rdW fw k 7 (by decide) _ _ (off101_eq k), rdP fp k 2 (by decide) _ _ (off102_eq k), rdP fp k 3 (by decide) _ _ (off103_eq k), rdW fw k 8 (by decide) _ _ (off104_eq k), rdW fw k 9 (by decide) _ _ (off105_eq k), rdW fw k 10 (by decide) _ _ (off106_eq k), rdW fw k 11 (by decide) _ _ (off107_eq k), rdW fw k 12 (by decide) _ _ (off108_eq k), rdW fw k 13 (by decide) _ _ (off109_eq k), rdW fw k 14 (by decide) _ _ (off110_eq k), rdW fw k 15 (by decide) _ _ (off111_eq k), rdP fp k 4 (by decide) _ _ (off112_eq k), rdP fp k 5 (by decide) _ _ (off113_eq k), rdW fw k 16 (by decide) _ _ (off114_eq k), rdW fw k 17 (by decide) _ _ (off115_eq k), rdW fw k 18 (by decide) _ _ (off116_eq k), rdW fw k 19 (by decide) _ _ (off117_eq k), rdW fw k 20 (by decide) _ _ (off118_eq k), rdW fw k 21 (by decide) _ _ (off119_eq k), rdW fw k 22 (by decide) _ _ (off120_eq k), rdW fw k 23 (by decide) _ _ (off121_eq k), rdP fp k 6 (by decide) _ _ (off122_eq k), rdP fp k 7 (by decide) _ _ (off123_eq k), rdW fw k 24 (by decide) _ _ (off124_eq k), rdW fw k 25 (by decide) _ _ (off125_eq k), rdW fw k 26 (by decide) _ _ (off126_eq k), rdW fw k 27 (by decide) _ _ (off127_eq k), rdW fw k 28 (by decide) _ _ (off128_eq k), rdW fw k 29 (by decide) _ _ (off129_eq k), rdW fw k 30 (by decide) _ _ (off130_eq k), rdW fw k 31 (by decide) _ _ (off131_eq k), rdP fp k 8 (by decide) _ _ (off132_eq k), rdP fp k 9 (by decide) _ _ (off133_eq k), rdW fw k 32 (by decide) _ _ (off134_eq k), rdW fw k 33 (by decide) _ _ (off135_eq k), rdW fw k 34 (by decide) _ _ (off136_eq k), rdW fw k 35 (by decide) _ _ (off137_eq k), rdW fw k 36 (by decide) _ _ (off138_eq k), rdW fw k 37 (by decide) _ _ (off139_eq k), rdW fw k 38 (by decide) _ _ (off140_eq k), rdW fw k 39 (by decide) _ _ (off141_eq k), rdP fp k 10 (by decide) _ _ (off142_eq k), rdP fp k 11 (by decide) _ _ (off143_eq k), rdW fw k 40 (by decide) _ _ (off144_eq k), rdW fw k 41 (by decide) _ _ (off145_eq k), rdW fw k 42 (by decide) _ _ (off146_eq k), rdW fw k 43 (by decide) _ _ (off147_eq k), rdW fw k 44 (by decide) _ _ (off148_eq k), rdW fw k 45 (by decide) _ _ (off149_eq k), rdW fw k 46 (by decide) _ _ (off150_eq k), rdW fw k 47 (by decide) _ _ (off151_eq k), rdP fp k 12 (by decide) _ _ (off152_eq k), rdP fp k 13 (by decide) _ _ (off153_eq k), rdW fw k 48 (by decide) _ _ (off154_eq k), rdW fw k 49 (by decide) _ _ (off155_eq k), rdW fw k 50 (by decide) _ _ (off156_eq k), rdW fw k 51 (by decide) _ _ (off157_eq k), rdW fw k 52 (by decide) _ _ (off158_eq k), rdW fw k 53 (by decide) _ _ (off159_eq k), rdW fw k 54 (by decide) _ _ (off160_eq k), rdW fw k 55 (by decide) _ _ (off161_eq k), rdP fp k 14 (by decide) _ _ (off162_eq k), rdP fp k 15 (by decide) _ _ (off163_eq k), rdW fw k 56 (by decide) _ _ (off164_eq k), rdW fw k 57 (by decide) _ _ (off165_eq k), rdW fw k 58 (by decide) _ _ (off166_eq k), rdW fw k 59 (by decide) _ _ (off167_eq k), rdW fw k 60 (by decide) _ _ (off168_eq k), rdW fw k 61 (by decide) _ _ (off169_eq k), rdW fw k 62 (by decide) _ _ (off170_eq k), rdW fw k 63 (by decide) _ _ (off171_eq k), rdP fp k 16 (by decide) _ _ (off172_eq k), rdP fp k 17 (by decide) _ _ (off173_eq k), rdW fw k 64 (by decide) _ _ (off174_eq k), rdW fw k 65 (by decide) _ _ (off175_eq k), rdW fw k 66 (by decide) _ _ (off176_eq k), rdW fw k 67 (by decide) _ _ (off177_eq k), rdW fw k 68 (by decide) _ _ (off178_eq k), rdW fw k 69 (by decide) _ _ (off179_eq k), rdW fw k 70 (by decide) _ _ (off180_eq k), rdW fw k 71 (by decide) _ _ (off181_eq k), rdP fp k 18 (by decide) _ _ (off182_eq k), rdP fp k 19 (by decide) _ _ (off183_eq k), rdW fw k 72 (by decide) _ _ (off184_eq k), rdW fw k 73 (by decide) _ _ (off185_eq k), rdW fw k 74 (by decide) _ _ (off186_eq k), rdW fw k 75 (by decide) _ _ (off187_eq k), rdW fw k 76 (by decide) _ _ (off188_eq k), rdW fw k 77 (by decide) _ _ (off189_eq k), rdW fw k 78 (by decide) _ _ (off190_eq k), rdW fw k 79 (by decide) _ _ (off191_eq k), rdD fws k _ _ hD 0 (by decide), rdD fws k _ _ hD 1 (by decide), rdD fws k _ _ hD 2 (by decide), rdD fws k _ _ hD 3 (by decide), rdD fws k _ _ hD 4 (by decide), rdD fws k _ _ hD 5 (by decide), rdD fws k _ _ hD 6 (by decide), rdD fws k _ _ hD 7 (by decide), rdD fws k _ _ hD 8 (by decide), rdD fws k _ _ hD 9 (by decide), rdD fws k _ _ hD 10 (by decide), rdD fws k _ _ hD 11 (by decide), rdD fws k _ _ hD 12 (by decide), rdD fws k _ _ hD 13 (by decide), rdD fws k _ _ hD 14 (by decide), rdD fws k _ _ hD 15 (by decide), rdD fws k _ _ hD 16 (by decide), rdD fws k _ _ hD 17 (by decide), rdD fws k _ _ hD 18 (by decide), rdD fws k _ _ hD 19 (by decide), rdD fws k _ _ hD 20 (by decide), rdD fws k _ _ hD 21 (by decide), rdD fws k _ _ hD 22 (by decide), rdD fws k _ _ hD 23 (by decide), rdD fws k _ _ hD 24 (by decide), rdD fws k _ _ hD 25 (by decide), rdD fws k _ _ hD 26 (by decide), rdD fws k _ _ hD 27 (by decide), rdD fws k _ _ hD 28 (by decide), rdD fws k _ _ hD 29 (by decide), rdD fws k _ _ hD 30 (by decide), rdD fws k _ _ hD 31 (by decide), rdD fws k _ _ hD 32 (by decide), rdD fws k _ _ hD 33 (by decide), rdD fws k _ _ hD 34 (by decide), rdD fws k _ _ hD 35 (by decide), rdD fws k _ _ hD 36 (by decide), rdD fws k _ _ hD 37 (by decide), rdD fws k _ _ hD 38 (by decide), rdD fws k _ _ hD 39 (by decide), rdD fws k _ _ hD 40 (by decide), rdD fws k _ _ hD 41 (by decide), rdD fws k _ _ hD 42 (by decide), rdD fws k _ _ hD 43 (by decide), rdD fws k _ _ hD 44 (by decide), rdD fws k _ _ hD 45 (by decide), rdD fws k _ _ hD 46 (by decide), rdD fws k _ _ hD 47 (by decide), rdD fws k _ _ hD 48 (by decide), rdD fws k _ _ hD 49 (by decide), rdD fws k _ _ hD 50 (by decide), rdD fws k _ _ hD 51 (by decide), rdD fws k _ _ hD 52 (by decide), rdD fws k _ _ hD 53 (by decide), rdD fws k _ _ hD 54 (by decide), rdD fws k _ _ hD 55 (by decide), rdD fws k _ _ hD 56 (by decide), rdD fws k _ _ hD 57 (by decide), rdD fws k _ _ hD 58 (by decide), rdD fws k _ _ hD 59 (by decide), rdD fws k _ _ hD 60 (by decide), rdD fws k _ _ hD 61 (by decide), rdD fws k _ _ hD 62 (by decide), rdD fws k _ _ hD 63 (by decide), rdD fws k _ _ hD 64 (by decide), rdD fws k _ _ hD 65 (by decide), rdD fws k _ _ hD 66 (by decide), rdD fws k _ _ hD 67 (by decide), rdD fws k _ _ hD 68 (by decide), rdD fws k _ _ hD 69 (by decide), rdD fws k _ _ hD 70 (by decide), rdD fws k _ _ hD 71 (by decide), rdD fws k _ _ hD 72 (by decide), rdD fws k _ _ hD 73 (by decide), rdD fws k _ _ hD 74 (by decide), rdD fws k _ _ hD 75 (by decide), rdD fws k _ _ hD 76 (by decide), rdD fws k _ _ hD 77 (by decide), rdD fws k _ _ hD 78 (by decide), rdD fws k _ _ hD 79 (by decide)]
    simp only [tot, lhsT, rhsT, wPart, Nat.reduceMul, Nat.reduceAdd]
    simp only [k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay360, k0_pay361, k0_pay362]
  · iexists _; iexact HO

set_option maxHeartbeats 2000000 in
/-- Steps 1 to 8: the scales awaited, the accumulator added to. -/
theorem trip_B (k : Fin k0_t2_loop.trips) (h1 : k0_cond1 k = 1#1) (h2 : ¬ k0_cond2 k = 1#1) (h3 : k0_cond3 k = 1#1)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32)
    (fw : HbBuf F c MW) (fh : HbBuf F c HW) (fws : HbBuf F c MWS) (fs : HbBuf F c HWS) (fp : HbBuf F c MP) (fa : HbBuf F c MA) (W : Waits sig Unit) :
    (iprop(Transfers.Flight (countersEmb (U := Pipeline.UD sig nD τ)) (c : Thread nD τ) (pwcell k) () (pwslot k).view.dmaCredit
         iprop((MW.view.loc (c : Thread nD τ) ↦[MW.view.setOn (wrect (mem36 k)).set]{fullShare} fw) ∗ holdsOn c HW (hwrect (mem36 k)) fh)
      ∗ Transfers.Flight (countersEmb (U := Pipeline.UD sig nD τ)) (c : Thread nD τ) (pscell k h1) () (psslot k h1).view.dmaCredit
         iprop((MWS.view.loc (c : Thread nD τ) ↦[MWS.view.setOn (srect' k).set]{fullShare} fws) ∗ holdsOn c HWS (hsrect (mem9 k)) fs)
      ∗ holds c MP fp
      ∗ (∃ fd, holds c MD fd)
      ∗ holds c MA fa
      ∗ owes (c : Thread nD τ) 0 W) : sProp 𝕄)
    ⊢ wp frame (wpE (defs₀ (F := F)) Variants.none c none) Set.univ
      (body2 arg4 harg4 arg5 harg5 v585_r0 c32_i32_497_r0 v587_r0 v594_r0 v596_r0 k ())
      (fun _ => iprop((semVal ((c : Thread nD τ), pwcell k) 0 ∗ holdsOn c MW (wrect (mem36 k)) fw ∗ holdsOn c HW (hwrect (mem36 k)) fh)
        ∗ (semVal ((c : Thread nD τ), pscell k h1) 0 ∗ (MWS.view.loc (c : Thread nD τ) ↦[MWS.view.setOn (srect' k).set]{fullShare} fws) ∗ holdsOn c HWS (hsrect (mem9 k)) fs)
        ∗ holds c MP fp
        ∗ (∃ fd, holds c MD fd)
        ∗ (∃ fa', holds c MA fa' ∗ ⌜AccStep c k fw fws fp fa fa'⌝)
        ∗ ∃ W, owes (c : Thread nD τ) 0 W)) := by
  have hk : k.val < 36 := Nat.lt_of_lt_of_le k.isLt (by decide)
  unfold body2 k0_t2_body
  iintro ⟨Hf, Hg, Hp, ⟨%fd, Hd⟩, Ha, HO⟩
  sl_exec
  sl_step
  isplitl [Hf Hf_dst Hf_src]
  · isplitl [Hf]; · iexact Hf
    isplitl [Hf_dst]; · iexact Hf_dst
    iexact Hf_src
  isplitl [Hg Hg_dst Hg_src]
  · isplitl [Hg]; · iexact Hg
    isplitl [Hg_dst]; · iexact Hg_dst
    iexact Hg_src
  isplitl [Hp]; · iexact Hp
  isplitl [Hd]; · iexists _; iexact Hd
  isplitr [HO]
  · iexists _
    isplitl [Ha]; · iexact Ha
    ipureintro
    show MA.view.writes (Elt F) fa _ = accNext fw fws fp k fa
    rw [stA fa k _ _ (off193_eq k)]
    have hD : trip_B.sl.Hd_1 c k fws = [⟨Rect.unit (s := S80x512) ![0, 0] S80x512.size inb_S80x512_S80x512_0_0, k0_pay216 (sLd fws k)⟩] := by
      delta trip_B.sl.Hd_1; rw [rdS]
    unfold accNext
    rw [if_neg (fun h => h2 ((cond2_iff k).mpr h)), rdA fa k _ _ (off193_eq k)]
    congr 1
    delta trip_B.sl.r trip_B.sl.r_1 trip_B.sl.r_2 trip_B.sl.r_3 trip_B.sl.r_4 trip_B.sl.r_5 trip_B.sl.r_6 trip_B.sl.r_7 trip_B.sl.r_8 trip_B.sl.r_9 trip_B.sl.r_10 trip_B.sl.r_11 trip_B.sl.r_12 trip_B.sl.r_13 trip_B.sl.r_14 trip_B.sl.r_15 trip_B.sl.r_16 trip_B.sl.r_17 trip_B.sl.r_18 trip_B.sl.r_19 trip_B.sl.r_20 trip_B.sl.r_21 trip_B.sl.r_22 trip_B.sl.r_23 trip_B.sl.r_24 trip_B.sl.r_25 trip_B.sl.r_26 trip_B.sl.r_27 trip_B.sl.r_28 trip_B.sl.r_29 trip_B.sl.r_30 trip_B.sl.r_31 trip_B.sl.r_32 trip_B.sl.r_33 trip_B.sl.r_34 trip_B.sl.r_35 trip_B.sl.r_36 trip_B.sl.r_37 trip_B.sl.r_38 trip_B.sl.r_39 trip_B.sl.r_40 trip_B.sl.r_41 trip_B.sl.r_42 trip_B.sl.r_43 trip_B.sl.r_44 trip_B.sl.r_45 trip_B.sl.r_46 trip_B.sl.r_47 trip_B.sl.r_48 trip_B.sl.r_49 trip_B.sl.r_50 trip_B.sl.r_51 trip_B.sl.r_52 trip_B.sl.r_53 trip_B.sl.r_54 trip_B.sl.r_55 trip_B.sl.r_56 trip_B.sl.r_57 trip_B.sl.r_58 trip_B.sl.r_59 trip_B.sl.r_60 trip_B.sl.r_61 trip_B.sl.r_62 trip_B.sl.r_63 trip_B.sl.r_64 trip_B.sl.r_65 trip_B.sl.r_66 trip_B.sl.r_67 trip_B.sl.r_68 trip_B.sl.r_69 trip_B.sl.r_70 trip_B.sl.r_71 trip_B.sl.r_72 trip_B.sl.r_73 trip_B.sl.r_74 trip_B.sl.r_75 trip_B.sl.r_76 trip_B.sl.r_77 trip_B.sl.r_78 trip_B.sl.r_79 trip_B.sl.r_80 trip_B.sl.r_81 trip_B.sl.r_82 trip_B.sl.r_83 trip_B.sl.r_84 trip_B.sl.r_85 trip_B.sl.r_86 trip_B.sl.r_87 trip_B.sl.r_88 trip_B.sl.r_89 trip_B.sl.r_90 trip_B.sl.r_91 trip_B.sl.r_92 trip_B.sl.r_93 trip_B.sl.r_94 trip_B.sl.r_95 trip_B.sl.v1083_r0 trip_B.sl.v1092_r0 trip_B.sl.v1101_r0 trip_B.sl.v1110_r0 trip_B.sl.v1119_r0 trip_B.sl.v1128_r0 trip_B.sl.v1137_r0 trip_B.sl.v1146_r0 trip_B.sl.v1168_r0 trip_B.sl.v1177_r0 trip_B.sl.v1186_r0 trip_B.sl.v1195_r0 trip_B.sl.v1204_r0 trip_B.sl.v1213_r0 trip_B.sl.v1222_r0 trip_B.sl.v1231_r0 trip_B.sl.v1253_r0 trip_B.sl.v1262_r0 trip_B.sl.v1271_r0 trip_B.sl.v1280_r0 trip_B.sl.v1289_r0 trip_B.sl.v1298_r0 trip_B.sl.v1307_r0 trip_B.sl.v1316_r0 trip_B.sl.v1338_r0 trip_B.sl.v1347_r0 trip_B.sl.v1356_r0 trip_B.sl.v1365_r0 trip_B.sl.v1374_r0 trip_B.sl.v1383_r0 trip_B.sl.v1392_r0 trip_B.sl.v1401_r0 trip_B.sl.v1423_r0 trip_B.sl.v1432_r0 trip_B.sl.v1441_r0 trip_B.sl.v1450_r0 trip_B.sl.v1459_r0 trip_B.sl.v1468_r0 trip_B.sl.v1477_r0 trip_B.sl.v1486_r0 trip_B.sl.v1508_r0 trip_B.sl.v1517_r0 trip_B.sl.v1526_r0 trip_B.sl.v1535_r0 trip_B.sl.v1544_r0 trip_B.sl.v1553_r0 trip_B.sl.v1562_r0 trip_B.sl.v1571_r0 trip_B.sl.v1593_r0 trip_B.sl.v1602_r0 trip_B.sl.v1611_r0 trip_B.sl.v1620_r0 trip_B.sl.v1629_r0 trip_B.sl.v1638_r0 trip_B.sl.v1647_r0 trip_B.sl.v1656_r0 trip_B.sl.v1678_r0 trip_B.sl.v1687_r0 trip_B.sl.v1696_r0 trip_B.sl.v1705_r0 trip_B.sl.v1714_r0 trip_B.sl.v1723_r0 trip_B.sl.v1732_r0 trip_B.sl.v1741_r0 trip_B.sl.v1763_r0 trip_B.sl.v1772_r0 trip_B.sl.v1781_r0 trip_B.sl.v1790_r0 trip_B.sl.v1799_r0 trip_B.sl.v1808_r0 trip_B.sl.v1817_r0 trip_B.sl.v1826_r0 trip_B.sl.v1848_r0 trip_B.sl.v1857_r0 trip_B.sl.v1866_r0 trip_B.sl.v1875_r0 trip_B.sl.v1884_r0 trip_B.sl.v1893_r0 trip_B.sl.v1902_r0 trip_B.sl.v1911_r0 trip_B.sl.cst_881_r0
    simp only [rdP fp k 0 (by decide) _ _ (off92_eq k), rdP fp k 1 (by decide) _ _ (off93_eq k), rdW fw k 0 (by decide) _ _ (off94_eq k), rdW fw k 1 (by decide) _ _ (off95_eq k), rdW fw k 2 (by decide) _ _ (off96_eq k), rdW fw k 3 (by decide) _ _ (off97_eq k), rdW fw k 4 (by decide) _ _ (off98_eq k), rdW fw k 5 (by decide) _ _ (off99_eq k), rdW fw k 6 (by decide) _ _ (off100_eq k), rdW fw k 7 (by decide) _ _ (off101_eq k), rdP fp k 2 (by decide) _ _ (off102_eq k), rdP fp k 3 (by decide) _ _ (off103_eq k), rdW fw k 8 (by decide) _ _ (off104_eq k), rdW fw k 9 (by decide) _ _ (off105_eq k), rdW fw k 10 (by decide) _ _ (off106_eq k), rdW fw k 11 (by decide) _ _ (off107_eq k), rdW fw k 12 (by decide) _ _ (off108_eq k), rdW fw k 13 (by decide) _ _ (off109_eq k), rdW fw k 14 (by decide) _ _ (off110_eq k), rdW fw k 15 (by decide) _ _ (off111_eq k), rdP fp k 4 (by decide) _ _ (off112_eq k), rdP fp k 5 (by decide) _ _ (off113_eq k), rdW fw k 16 (by decide) _ _ (off114_eq k), rdW fw k 17 (by decide) _ _ (off115_eq k), rdW fw k 18 (by decide) _ _ (off116_eq k), rdW fw k 19 (by decide) _ _ (off117_eq k), rdW fw k 20 (by decide) _ _ (off118_eq k), rdW fw k 21 (by decide) _ _ (off119_eq k), rdW fw k 22 (by decide) _ _ (off120_eq k), rdW fw k 23 (by decide) _ _ (off121_eq k), rdP fp k 6 (by decide) _ _ (off122_eq k), rdP fp k 7 (by decide) _ _ (off123_eq k), rdW fw k 24 (by decide) _ _ (off124_eq k), rdW fw k 25 (by decide) _ _ (off125_eq k), rdW fw k 26 (by decide) _ _ (off126_eq k), rdW fw k 27 (by decide) _ _ (off127_eq k), rdW fw k 28 (by decide) _ _ (off128_eq k), rdW fw k 29 (by decide) _ _ (off129_eq k), rdW fw k 30 (by decide) _ _ (off130_eq k), rdW fw k 31 (by decide) _ _ (off131_eq k), rdP fp k 8 (by decide) _ _ (off132_eq k), rdP fp k 9 (by decide) _ _ (off133_eq k), rdW fw k 32 (by decide) _ _ (off134_eq k), rdW fw k 33 (by decide) _ _ (off135_eq k), rdW fw k 34 (by decide) _ _ (off136_eq k), rdW fw k 35 (by decide) _ _ (off137_eq k), rdW fw k 36 (by decide) _ _ (off138_eq k), rdW fw k 37 (by decide) _ _ (off139_eq k), rdW fw k 38 (by decide) _ _ (off140_eq k), rdW fw k 39 (by decide) _ _ (off141_eq k), rdP fp k 10 (by decide) _ _ (off142_eq k), rdP fp k 11 (by decide) _ _ (off143_eq k), rdW fw k 40 (by decide) _ _ (off144_eq k), rdW fw k 41 (by decide) _ _ (off145_eq k), rdW fw k 42 (by decide) _ _ (off146_eq k), rdW fw k 43 (by decide) _ _ (off147_eq k), rdW fw k 44 (by decide) _ _ (off148_eq k), rdW fw k 45 (by decide) _ _ (off149_eq k), rdW fw k 46 (by decide) _ _ (off150_eq k), rdW fw k 47 (by decide) _ _ (off151_eq k), rdP fp k 12 (by decide) _ _ (off152_eq k), rdP fp k 13 (by decide) _ _ (off153_eq k), rdW fw k 48 (by decide) _ _ (off154_eq k), rdW fw k 49 (by decide) _ _ (off155_eq k), rdW fw k 50 (by decide) _ _ (off156_eq k), rdW fw k 51 (by decide) _ _ (off157_eq k), rdW fw k 52 (by decide) _ _ (off158_eq k), rdW fw k 53 (by decide) _ _ (off159_eq k), rdW fw k 54 (by decide) _ _ (off160_eq k), rdW fw k 55 (by decide) _ _ (off161_eq k), rdP fp k 14 (by decide) _ _ (off162_eq k), rdP fp k 15 (by decide) _ _ (off163_eq k), rdW fw k 56 (by decide) _ _ (off164_eq k), rdW fw k 57 (by decide) _ _ (off165_eq k), rdW fw k 58 (by decide) _ _ (off166_eq k), rdW fw k 59 (by decide) _ _ (off167_eq k), rdW fw k 60 (by decide) _ _ (off168_eq k), rdW fw k 61 (by decide) _ _ (off169_eq k), rdW fw k 62 (by decide) _ _ (off170_eq k), rdW fw k 63 (by decide) _ _ (off171_eq k), rdP fp k 16 (by decide) _ _ (off172_eq k), rdP fp k 17 (by decide) _ _ (off173_eq k), rdW fw k 64 (by decide) _ _ (off174_eq k), rdW fw k 65 (by decide) _ _ (off175_eq k), rdW fw k 66 (by decide) _ _ (off176_eq k), rdW fw k 67 (by decide) _ _ (off177_eq k), rdW fw k 68 (by decide) _ _ (off178_eq k), rdW fw k 69 (by decide) _ _ (off179_eq k), rdW fw k 70 (by decide) _ _ (off180_eq k), rdW fw k 71 (by decide) _ _ (off181_eq k), rdP fp k 18 (by decide) _ _ (off182_eq k), rdP fp k 19 (by decide) _ _ (off183_eq k), rdW fw k 72 (by decide) _ _ (off184_eq k), rdW fw k 73 (by decide) _ _ (off185_eq k), rdW fw k 74 (by decide) _ _ (off186_eq k), rdW fw k 75 (by decide) _ _ (off187_eq k), rdW fw k 76 (by decide) _ _ (off188_eq k), rdW fw k 77 (by decide) _ _ (off189_eq k), rdW fw k 78 (by decide) _ _ (off190_eq k), rdW fw k 79 (by decide) _ _ (off191_eq k), rdD fws k _ _ hD 0 (by decide), rdD fws k _ _ hD 1 (by decide), rdD fws k _ _ hD 2 (by decide), rdD fws k _ _ hD 3 (by decide), rdD fws k _ _ hD 4 (by decide), rdD fws k _ _ hD 5 (by decide), rdD fws k _ _ hD 6 (by decide), rdD fws k _ _ hD 7 (by decide), rdD fws k _ _ hD 8 (by decide), rdD fws k _ _ hD 9 (by decide), rdD fws k _ _ hD 10 (by decide), rdD fws k _ _ hD 11 (by decide), rdD fws k _ _ hD 12 (by decide), rdD fws k _ _ hD 13 (by decide), rdD fws k _ _ hD 14 (by decide), rdD fws k _ _ hD 15 (by decide), rdD fws k _ _ hD 16 (by decide), rdD fws k _ _ hD 17 (by decide), rdD fws k _ _ hD 18 (by decide), rdD fws k _ _ hD 19 (by decide), rdD fws k _ _ hD 20 (by decide), rdD fws k _ _ hD 21 (by decide), rdD fws k _ _ hD 22 (by decide), rdD fws k _ _ hD 23 (by decide), rdD fws k _ _ hD 24 (by decide), rdD fws k _ _ hD 25 (by decide), rdD fws k _ _ hD 26 (by decide), rdD fws k _ _ hD 27 (by decide), rdD fws k _ _ hD 28 (by decide), rdD fws k _ _ hD 29 (by decide), rdD fws k _ _ hD 30 (by decide), rdD fws k _ _ hD 31 (by decide), rdD fws k _ _ hD 32 (by decide), rdD fws k _ _ hD 33 (by decide), rdD fws k _ _ hD 34 (by decide), rdD fws k _ _ hD 35 (by decide), rdD fws k _ _ hD 36 (by decide), rdD fws k _ _ hD 37 (by decide), rdD fws k _ _ hD 38 (by decide), rdD fws k _ _ hD 39 (by decide), rdD fws k _ _ hD 40 (by decide), rdD fws k _ _ hD 41 (by decide), rdD fws k _ _ hD 42 (by decide), rdD fws k _ _ hD 43 (by decide), rdD fws k _ _ hD 44 (by decide), rdD fws k _ _ hD 45 (by decide), rdD fws k _ _ hD 46 (by decide), rdD fws k _ _ hD 47 (by decide), rdD fws k _ _ hD 48 (by decide), rdD fws k _ _ hD 49 (by decide), rdD fws k _ _ hD 50 (by decide), rdD fws k _ _ hD 51 (by decide), rdD fws k _ _ hD 52 (by decide), rdD fws k _ _ hD 53 (by decide), rdD fws k _ _ hD 54 (by decide), rdD fws k _ _ hD 55 (by decide), rdD fws k _ _ hD 56 (by decide), rdD fws k _ _ hD 57 (by decide), rdD fws k _ _ hD 58 (by decide), rdD fws k _ _ hD 59 (by decide), rdD fws k _ _ hD 60 (by decide), rdD fws k _ _ hD 61 (by decide), rdD fws k _ _ hD 62 (by decide), rdD fws k _ _ hD 63 (by decide), rdD fws k _ _ hD 64 (by decide), rdD fws k _ _ hD 65 (by decide), rdD fws k _ _ hD 66 (by decide), rdD fws k _ _ hD 67 (by decide), rdD fws k _ _ hD 68 (by decide), rdD fws k _ _ hD 69 (by decide), rdD fws k _ _ hD 70 (by decide), rdD fws k _ _ hD 71 (by decide), rdD fws k _ _ hD 72 (by decide), rdD fws k _ _ hD 73 (by decide), rdD fws k _ _ hD 74 (by decide), rdD fws k _ _ hD 75 (by decide), rdD fws k _ _ hD 76 (by decide), rdD fws k _ _ hD 77 (by decide), rdD fws k _ _ hD 78 (by decide), rdD fws k _ _ hD 79 (by decide)]
    simp only [tot, lhsT, rhsT, wPart, Nat.reduceMul, Nat.reduceAdd]
    simp only [k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay360, k0_pay361, k0_pay362]
  · iexists _; iexact HO

set_option maxHeartbeats 2000000 in
/-- Steps 9, 18 and 27: the accumulator started. -/
theorem trip_C (k : Fin k0_t2_loop.trips) (h1 : ¬ k0_cond1 k = 1#1) (h2 : k0_cond2 k = 1#1) (h3 : ¬ k0_cond3 k = 1#1)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32)
    (fw : HbBuf F c MW) (fh : HbBuf F c HW) (fws : HbBuf F c MWS) (fs : HbBuf F c HWS) (fp : HbBuf F c MP) (fa : HbBuf F c MA) (W : Waits sig Unit) :
    (iprop(Transfers.Flight (countersEmb (U := Pipeline.UD sig nD τ)) (c : Thread nD τ) (pwcell k) () (pwslot k).view.dmaCredit
         iprop((MW.view.loc (c : Thread nD τ) ↦[MW.view.setOn (wrect (mem36 k)).set]{fullShare} fw) ∗ holdsOn c HW (hwrect (mem36 k)) fh)
      ∗ (semVal ((c : Thread nD τ), scell (mem9 k)) 0 ∗ (MWS.view.loc (c : Thread nD τ) ↦[MWS.view.setOn (srect' k).set]{fullShare} fws) ∗ holdsOn c HWS (hsrect (mem9 k)) fs)
      ∗ holds c MP fp
      ∗ (∃ fd, holds c MD fd)
      ∗ holds c MA fa
      ∗ owes (c : Thread nD τ) 0 W) : sProp 𝕄)
    ⊢ wp frame (wpE (defs₀ (F := F)) Variants.none c none) Set.univ
      (body2 arg4 harg4 arg5 harg5 v585_r0 c32_i32_497_r0 v587_r0 v594_r0 v596_r0 k ())
      (fun _ => iprop((semVal ((c : Thread nD τ), pwcell k) 0 ∗ holdsOn c MW (wrect (mem36 k)) fw ∗ holdsOn c HW (hwrect (mem36 k)) fh)
        ∗ (semVal ((c : Thread nD τ), scell (mem9 k)) 0 ∗ (MWS.view.loc (c : Thread nD τ) ↦[MWS.view.setOn (srect' k).set]{fullShare} fws) ∗ holdsOn c HWS (hsrect (mem9 k)) fs)
        ∗ holds c MP fp
        ∗ (∃ fd, holds c MD fd)
        ∗ (∃ fa', holds c MA fa' ∗ ⌜AccStep c k fw fws fp fa fa'⌝)
        ∗ ∃ W, owes (c : Thread nD τ) 0 W)) := by
  have hk : k.val < 36 := Nat.lt_of_lt_of_le k.isLt (by decide)
  unfold body2 k0_t2_body
  iintro ⟨Hf, ⟨Hg, Hg_dst, Hg_src⟩, Hp, ⟨%fd, Hd⟩, Ha, HO⟩
  sl_exec
  sl_step
  isplitl [Hf Hf_dst Hf_src]
  · isplitl [Hf]; · iexact Hf
    isplitl [Hf_dst]; · iexact Hf_dst
    iexact Hf_src
  isplitl [Hg Hg_dst Hg_src]
  · isplitl [Hg]; · iexact Hg
    isplitl [Hg_dst]; · iexact Hg_dst
    iexact Hg_src
  isplitl [Hp]; · iexact Hp
  isplitl [Hd]; · iexists _; iexact Hd
  isplitr [HO]
  · iexists _
    isplitl [Ha]; · iexact Ha
    ipureintro
    show MA.view.writes (Elt F) fa _ = accNext fw fws fp k fa
    rw [stA fa k _ _ (off192_eq k)]
    have hD : trip_C.sl.Hd_1 c k fws = [⟨Rect.unit (s := S80x512) ![0, 0] S80x512.size inb_S80x512_S80x512_0_0, k0_pay216 (sLd fws k)⟩] := by
      delta trip_C.sl.Hd_1; rw [rdS]
    unfold accNext
    rw [if_pos ((cond2_iff k).mp h2)]
    congr 1
    delta trip_C.sl.r trip_C.sl.r_1 trip_C.sl.r_2 trip_C.sl.r_3 trip_C.sl.r_4 trip_C.sl.r_5 trip_C.sl.r_6 trip_C.sl.r_7 trip_C.sl.r_8 trip_C.sl.r_9 trip_C.sl.r_10 trip_C.sl.r_11 trip_C.sl.r_12 trip_C.sl.r_13 trip_C.sl.r_14 trip_C.sl.r_15 trip_C.sl.r_16 trip_C.sl.r_17 trip_C.sl.r_18 trip_C.sl.r_19 trip_C.sl.r_20 trip_C.sl.r_21 trip_C.sl.r_22 trip_C.sl.r_23 trip_C.sl.r_24 trip_C.sl.r_25 trip_C.sl.r_26 trip_C.sl.r_27 trip_C.sl.r_28 trip_C.sl.r_29 trip_C.sl.r_30 trip_C.sl.r_31 trip_C.sl.r_32 trip_C.sl.r_33 trip_C.sl.r_34 trip_C.sl.r_35 trip_C.sl.r_36 trip_C.sl.r_37 trip_C.sl.r_38 trip_C.sl.r_39 trip_C.sl.r_40 trip_C.sl.r_41 trip_C.sl.r_42 trip_C.sl.r_43 trip_C.sl.r_44 trip_C.sl.r_45 trip_C.sl.r_46 trip_C.sl.r_47 trip_C.sl.r_48 trip_C.sl.r_49 trip_C.sl.r_50 trip_C.sl.r_51 trip_C.sl.r_52 trip_C.sl.r_53 trip_C.sl.r_54 trip_C.sl.r_55 trip_C.sl.r_56 trip_C.sl.r_57 trip_C.sl.r_58 trip_C.sl.r_59 trip_C.sl.r_60 trip_C.sl.r_61 trip_C.sl.r_62 trip_C.sl.r_63 trip_C.sl.r_64 trip_C.sl.r_65 trip_C.sl.r_66 trip_C.sl.r_67 trip_C.sl.r_68 trip_C.sl.r_69 trip_C.sl.r_70 trip_C.sl.r_71 trip_C.sl.r_72 trip_C.sl.r_73 trip_C.sl.r_74 trip_C.sl.r_75 trip_C.sl.r_76 trip_C.sl.r_77 trip_C.sl.r_78 trip_C.sl.r_79 trip_C.sl.r_80 trip_C.sl.r_81 trip_C.sl.r_82 trip_C.sl.r_83 trip_C.sl.r_84 trip_C.sl.r_85 trip_C.sl.r_86 trip_C.sl.r_87 trip_C.sl.r_88 trip_C.sl.r_89 trip_C.sl.r_90 trip_C.sl.r_91 trip_C.sl.r_92 trip_C.sl.r_93 trip_C.sl.r_94 trip_C.sl.r_95 trip_C.sl.v1083_r0 trip_C.sl.v1092_r0 trip_C.sl.v1101_r0 trip_C.sl.v1110_r0 trip_C.sl.v1119_r0 trip_C.sl.v1128_r0 trip_C.sl.v1137_r0 trip_C.sl.v1146_r0 trip_C.sl.v1168_r0 trip_C.sl.v1177_r0 trip_C.sl.v1186_r0 trip_C.sl.v1195_r0 trip_C.sl.v1204_r0 trip_C.sl.v1213_r0 trip_C.sl.v1222_r0 trip_C.sl.v1231_r0 trip_C.sl.v1253_r0 trip_C.sl.v1262_r0 trip_C.sl.v1271_r0 trip_C.sl.v1280_r0 trip_C.sl.v1289_r0 trip_C.sl.v1298_r0 trip_C.sl.v1307_r0 trip_C.sl.v1316_r0 trip_C.sl.v1338_r0 trip_C.sl.v1347_r0 trip_C.sl.v1356_r0 trip_C.sl.v1365_r0 trip_C.sl.v1374_r0 trip_C.sl.v1383_r0 trip_C.sl.v1392_r0 trip_C.sl.v1401_r0 trip_C.sl.v1423_r0 trip_C.sl.v1432_r0 trip_C.sl.v1441_r0 trip_C.sl.v1450_r0 trip_C.sl.v1459_r0 trip_C.sl.v1468_r0 trip_C.sl.v1477_r0 trip_C.sl.v1486_r0 trip_C.sl.v1508_r0 trip_C.sl.v1517_r0 trip_C.sl.v1526_r0 trip_C.sl.v1535_r0 trip_C.sl.v1544_r0 trip_C.sl.v1553_r0 trip_C.sl.v1562_r0 trip_C.sl.v1571_r0 trip_C.sl.v1593_r0 trip_C.sl.v1602_r0 trip_C.sl.v1611_r0 trip_C.sl.v1620_r0 trip_C.sl.v1629_r0 trip_C.sl.v1638_r0 trip_C.sl.v1647_r0 trip_C.sl.v1656_r0 trip_C.sl.v1678_r0 trip_C.sl.v1687_r0 trip_C.sl.v1696_r0 trip_C.sl.v1705_r0 trip_C.sl.v1714_r0 trip_C.sl.v1723_r0 trip_C.sl.v1732_r0 trip_C.sl.v1741_r0 trip_C.sl.v1763_r0 trip_C.sl.v1772_r0 trip_C.sl.v1781_r0 trip_C.sl.v1790_r0 trip_C.sl.v1799_r0 trip_C.sl.v1808_r0 trip_C.sl.v1817_r0 trip_C.sl.v1826_r0 trip_C.sl.v1848_r0 trip_C.sl.v1857_r0 trip_C.sl.v1866_r0 trip_C.sl.v1875_r0 trip_C.sl.v1884_r0 trip_C.sl.v1893_r0 trip_C.sl.v1902_r0 trip_C.sl.v1911_r0 trip_C.sl.cst_881_r0
    simp only [rdP fp k 0 (by decide) _ _ (off92_eq k), rdP fp k 1 (by decide) _ _ (off93_eq k), rdW fw k 0 (by decide) _ _ (off94_eq k), rdW fw k 1 (by decide) _ _ (off95_eq k), rdW fw k 2 (by decide) _ _ (off96_eq k), rdW fw k 3 (by decide) _ _ (off97_eq k), rdW fw k 4 (by decide) _ _ (off98_eq k), rdW fw k 5 (by decide) _ _ (off99_eq k), rdW fw k 6 (by decide) _ _ (off100_eq k), rdW fw k 7 (by decide) _ _ (off101_eq k), rdP fp k 2 (by decide) _ _ (off102_eq k), rdP fp k 3 (by decide) _ _ (off103_eq k), rdW fw k 8 (by decide) _ _ (off104_eq k), rdW fw k 9 (by decide) _ _ (off105_eq k), rdW fw k 10 (by decide) _ _ (off106_eq k), rdW fw k 11 (by decide) _ _ (off107_eq k), rdW fw k 12 (by decide) _ _ (off108_eq k), rdW fw k 13 (by decide) _ _ (off109_eq k), rdW fw k 14 (by decide) _ _ (off110_eq k), rdW fw k 15 (by decide) _ _ (off111_eq k), rdP fp k 4 (by decide) _ _ (off112_eq k), rdP fp k 5 (by decide) _ _ (off113_eq k), rdW fw k 16 (by decide) _ _ (off114_eq k), rdW fw k 17 (by decide) _ _ (off115_eq k), rdW fw k 18 (by decide) _ _ (off116_eq k), rdW fw k 19 (by decide) _ _ (off117_eq k), rdW fw k 20 (by decide) _ _ (off118_eq k), rdW fw k 21 (by decide) _ _ (off119_eq k), rdW fw k 22 (by decide) _ _ (off120_eq k), rdW fw k 23 (by decide) _ _ (off121_eq k), rdP fp k 6 (by decide) _ _ (off122_eq k), rdP fp k 7 (by decide) _ _ (off123_eq k), rdW fw k 24 (by decide) _ _ (off124_eq k), rdW fw k 25 (by decide) _ _ (off125_eq k), rdW fw k 26 (by decide) _ _ (off126_eq k), rdW fw k 27 (by decide) _ _ (off127_eq k), rdW fw k 28 (by decide) _ _ (off128_eq k), rdW fw k 29 (by decide) _ _ (off129_eq k), rdW fw k 30 (by decide) _ _ (off130_eq k), rdW fw k 31 (by decide) _ _ (off131_eq k), rdP fp k 8 (by decide) _ _ (off132_eq k), rdP fp k 9 (by decide) _ _ (off133_eq k), rdW fw k 32 (by decide) _ _ (off134_eq k), rdW fw k 33 (by decide) _ _ (off135_eq k), rdW fw k 34 (by decide) _ _ (off136_eq k), rdW fw k 35 (by decide) _ _ (off137_eq k), rdW fw k 36 (by decide) _ _ (off138_eq k), rdW fw k 37 (by decide) _ _ (off139_eq k), rdW fw k 38 (by decide) _ _ (off140_eq k), rdW fw k 39 (by decide) _ _ (off141_eq k), rdP fp k 10 (by decide) _ _ (off142_eq k), rdP fp k 11 (by decide) _ _ (off143_eq k), rdW fw k 40 (by decide) _ _ (off144_eq k), rdW fw k 41 (by decide) _ _ (off145_eq k), rdW fw k 42 (by decide) _ _ (off146_eq k), rdW fw k 43 (by decide) _ _ (off147_eq k), rdW fw k 44 (by decide) _ _ (off148_eq k), rdW fw k 45 (by decide) _ _ (off149_eq k), rdW fw k 46 (by decide) _ _ (off150_eq k), rdW fw k 47 (by decide) _ _ (off151_eq k), rdP fp k 12 (by decide) _ _ (off152_eq k), rdP fp k 13 (by decide) _ _ (off153_eq k), rdW fw k 48 (by decide) _ _ (off154_eq k), rdW fw k 49 (by decide) _ _ (off155_eq k), rdW fw k 50 (by decide) _ _ (off156_eq k), rdW fw k 51 (by decide) _ _ (off157_eq k), rdW fw k 52 (by decide) _ _ (off158_eq k), rdW fw k 53 (by decide) _ _ (off159_eq k), rdW fw k 54 (by decide) _ _ (off160_eq k), rdW fw k 55 (by decide) _ _ (off161_eq k), rdP fp k 14 (by decide) _ _ (off162_eq k), rdP fp k 15 (by decide) _ _ (off163_eq k), rdW fw k 56 (by decide) _ _ (off164_eq k), rdW fw k 57 (by decide) _ _ (off165_eq k), rdW fw k 58 (by decide) _ _ (off166_eq k), rdW fw k 59 (by decide) _ _ (off167_eq k), rdW fw k 60 (by decide) _ _ (off168_eq k), rdW fw k 61 (by decide) _ _ (off169_eq k), rdW fw k 62 (by decide) _ _ (off170_eq k), rdW fw k 63 (by decide) _ _ (off171_eq k), rdP fp k 16 (by decide) _ _ (off172_eq k), rdP fp k 17 (by decide) _ _ (off173_eq k), rdW fw k 64 (by decide) _ _ (off174_eq k), rdW fw k 65 (by decide) _ _ (off175_eq k), rdW fw k 66 (by decide) _ _ (off176_eq k), rdW fw k 67 (by decide) _ _ (off177_eq k), rdW fw k 68 (by decide) _ _ (off178_eq k), rdW fw k 69 (by decide) _ _ (off179_eq k), rdW fw k 70 (by decide) _ _ (off180_eq k), rdW fw k 71 (by decide) _ _ (off181_eq k), rdP fp k 18 (by decide) _ _ (off182_eq k), rdP fp k 19 (by decide) _ _ (off183_eq k), rdW fw k 72 (by decide) _ _ (off184_eq k), rdW fw k 73 (by decide) _ _ (off185_eq k), rdW fw k 74 (by decide) _ _ (off186_eq k), rdW fw k 75 (by decide) _ _ (off187_eq k), rdW fw k 76 (by decide) _ _ (off188_eq k), rdW fw k 77 (by decide) _ _ (off189_eq k), rdW fw k 78 (by decide) _ _ (off190_eq k), rdW fw k 79 (by decide) _ _ (off191_eq k), rdD fws k _ _ hD 0 (by decide), rdD fws k _ _ hD 1 (by decide), rdD fws k _ _ hD 2 (by decide), rdD fws k _ _ hD 3 (by decide), rdD fws k _ _ hD 4 (by decide), rdD fws k _ _ hD 5 (by decide), rdD fws k _ _ hD 6 (by decide), rdD fws k _ _ hD 7 (by decide), rdD fws k _ _ hD 8 (by decide), rdD fws k _ _ hD 9 (by decide), rdD fws k _ _ hD 10 (by decide), rdD fws k _ _ hD 11 (by decide), rdD fws k _ _ hD 12 (by decide), rdD fws k _ _ hD 13 (by decide), rdD fws k _ _ hD 14 (by decide), rdD fws k _ _ hD 15 (by decide), rdD fws k _ _ hD 16 (by decide), rdD fws k _ _ hD 17 (by decide), rdD fws k _ _ hD 18 (by decide), rdD fws k _ _ hD 19 (by decide), rdD fws k _ _ hD 20 (by decide), rdD fws k _ _ hD 21 (by decide), rdD fws k _ _ hD 22 (by decide), rdD fws k _ _ hD 23 (by decide), rdD fws k _ _ hD 24 (by decide), rdD fws k _ _ hD 25 (by decide), rdD fws k _ _ hD 26 (by decide), rdD fws k _ _ hD 27 (by decide), rdD fws k _ _ hD 28 (by decide), rdD fws k _ _ hD 29 (by decide), rdD fws k _ _ hD 30 (by decide), rdD fws k _ _ hD 31 (by decide), rdD fws k _ _ hD 32 (by decide), rdD fws k _ _ hD 33 (by decide), rdD fws k _ _ hD 34 (by decide), rdD fws k _ _ hD 35 (by decide), rdD fws k _ _ hD 36 (by decide), rdD fws k _ _ hD 37 (by decide), rdD fws k _ _ hD 38 (by decide), rdD fws k _ _ hD 39 (by decide), rdD fws k _ _ hD 40 (by decide), rdD fws k _ _ hD 41 (by decide), rdD fws k _ _ hD 42 (by decide), rdD fws k _ _ hD 43 (by decide), rdD fws k _ _ hD 44 (by decide), rdD fws k _ _ hD 45 (by decide), rdD fws k _ _ hD 46 (by decide), rdD fws k _ _ hD 47 (by decide), rdD fws k _ _ hD 48 (by decide), rdD fws k _ _ hD 49 (by decide), rdD fws k _ _ hD 50 (by decide), rdD fws k _ _ hD 51 (by decide), rdD fws k _ _ hD 52 (by decide), rdD fws k _ _ hD 53 (by decide), rdD fws k _ _ hD 54 (by decide), rdD fws k _ _ hD 55 (by decide), rdD fws k _ _ hD 56 (by decide), rdD fws k _ _ hD 57 (by decide), rdD fws k _ _ hD 58 (by decide), rdD fws k _ _ hD 59 (by decide), rdD fws k _ _ hD 60 (by decide), rdD fws k _ _ hD 61 (by decide), rdD fws k _ _ hD 62 (by decide), rdD fws k _ _ hD 63 (by decide), rdD fws k _ _ hD 64 (by decide), rdD fws k _ _ hD 65 (by decide), rdD fws k _ _ hD 66 (by decide), rdD fws k _ _ hD 67 (by decide), rdD fws k _ _ hD 68 (by decide), rdD fws k _ _ hD 69 (by decide), rdD fws k _ _ hD 70 (by decide), rdD fws k _ _ hD 71 (by decide), rdD fws k _ _ hD 72 (by decide), rdD fws k _ _ hD 73 (by decide), rdD fws k _ _ hD 74 (by decide), rdD fws k _ _ hD 75 (by decide), rdD fws k _ _ hD 76 (by decide), rdD fws k _ _ hD 77 (by decide), rdD fws k _ _ hD 78 (by decide), rdD fws k _ _ hD 79 (by decide)]
    simp only [tot, lhsT, rhsT, wPart, Nat.reduceMul, Nat.reduceAdd]
    simp only [k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay360, k0_pay361, k0_pay362]
  · iexists _; iexact HO

set_option maxHeartbeats 2000000 in
/-- The other steps: the accumulator added to. -/
theorem trip_D (k : Fin k0_t2_loop.trips) (h1 : ¬ k0_cond1 k = 1#1) (h2 : ¬ k0_cond2 k = 1#1) (h3 : k0_cond3 k = 1#1)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32)
    (fw : HbBuf F c MW) (fh : HbBuf F c HW) (fws : HbBuf F c MWS) (fs : HbBuf F c HWS) (fp : HbBuf F c MP) (fa : HbBuf F c MA) (W : Waits sig Unit) :
    (iprop(Transfers.Flight (countersEmb (U := Pipeline.UD sig nD τ)) (c : Thread nD τ) (pwcell k) () (pwslot k).view.dmaCredit
         iprop((MW.view.loc (c : Thread nD τ) ↦[MW.view.setOn (wrect (mem36 k)).set]{fullShare} fw) ∗ holdsOn c HW (hwrect (mem36 k)) fh)
      ∗ (semVal ((c : Thread nD τ), scell (mem9 k)) 0 ∗ (MWS.view.loc (c : Thread nD τ) ↦[MWS.view.setOn (srect' k).set]{fullShare} fws) ∗ holdsOn c HWS (hsrect (mem9 k)) fs)
      ∗ holds c MP fp
      ∗ (∃ fd, holds c MD fd)
      ∗ holds c MA fa
      ∗ owes (c : Thread nD τ) 0 W) : sProp 𝕄)
    ⊢ wp frame (wpE (defs₀ (F := F)) Variants.none c none) Set.univ
      (body2 arg4 harg4 arg5 harg5 v585_r0 c32_i32_497_r0 v587_r0 v594_r0 v596_r0 k ())
      (fun _ => iprop((semVal ((c : Thread nD τ), pwcell k) 0 ∗ holdsOn c MW (wrect (mem36 k)) fw ∗ holdsOn c HW (hwrect (mem36 k)) fh)
        ∗ (semVal ((c : Thread nD τ), scell (mem9 k)) 0 ∗ (MWS.view.loc (c : Thread nD τ) ↦[MWS.view.setOn (srect' k).set]{fullShare} fws) ∗ holdsOn c HWS (hsrect (mem9 k)) fs)
        ∗ holds c MP fp
        ∗ (∃ fd, holds c MD fd)
        ∗ (∃ fa', holds c MA fa' ∗ ⌜AccStep c k fw fws fp fa fa'⌝)
        ∗ ∃ W, owes (c : Thread nD τ) 0 W)) := by
  have hk : k.val < 36 := Nat.lt_of_lt_of_le k.isLt (by decide)
  unfold body2 k0_t2_body
  iintro ⟨Hf, ⟨Hg, Hg_dst, Hg_src⟩, Hp, ⟨%fd, Hd⟩, Ha, HO⟩
  sl_exec
  sl_step
  isplitl [Hf Hf_dst Hf_src]
  · isplitl [Hf]; · iexact Hf
    isplitl [Hf_dst]; · iexact Hf_dst
    iexact Hf_src
  isplitl [Hg Hg_dst Hg_src]
  · isplitl [Hg]; · iexact Hg
    isplitl [Hg_dst]; · iexact Hg_dst
    iexact Hg_src
  isplitl [Hp]; · iexact Hp
  isplitl [Hd]; · iexists _; iexact Hd
  isplitr [HO]
  · iexists _
    isplitl [Ha]; · iexact Ha
    ipureintro
    show MA.view.writes (Elt F) fa _ = accNext fw fws fp k fa
    rw [stA fa k _ _ (off193_eq k)]
    have hD : trip_D.sl.Hd_1 c k fws = [⟨Rect.unit (s := S80x512) ![0, 0] S80x512.size inb_S80x512_S80x512_0_0, k0_pay216 (sLd fws k)⟩] := by
      delta trip_D.sl.Hd_1; rw [rdS]
    unfold accNext
    rw [if_neg (fun h => h2 ((cond2_iff k).mpr h)), rdA fa k _ _ (off193_eq k)]
    congr 1
    delta trip_D.sl.r trip_D.sl.r_1 trip_D.sl.r_2 trip_D.sl.r_3 trip_D.sl.r_4 trip_D.sl.r_5 trip_D.sl.r_6 trip_D.sl.r_7 trip_D.sl.r_8 trip_D.sl.r_9 trip_D.sl.r_10 trip_D.sl.r_11 trip_D.sl.r_12 trip_D.sl.r_13 trip_D.sl.r_14 trip_D.sl.r_15 trip_D.sl.r_16 trip_D.sl.r_17 trip_D.sl.r_18 trip_D.sl.r_19 trip_D.sl.r_20 trip_D.sl.r_21 trip_D.sl.r_22 trip_D.sl.r_23 trip_D.sl.r_24 trip_D.sl.r_25 trip_D.sl.r_26 trip_D.sl.r_27 trip_D.sl.r_28 trip_D.sl.r_29 trip_D.sl.r_30 trip_D.sl.r_31 trip_D.sl.r_32 trip_D.sl.r_33 trip_D.sl.r_34 trip_D.sl.r_35 trip_D.sl.r_36 trip_D.sl.r_37 trip_D.sl.r_38 trip_D.sl.r_39 trip_D.sl.r_40 trip_D.sl.r_41 trip_D.sl.r_42 trip_D.sl.r_43 trip_D.sl.r_44 trip_D.sl.r_45 trip_D.sl.r_46 trip_D.sl.r_47 trip_D.sl.r_48 trip_D.sl.r_49 trip_D.sl.r_50 trip_D.sl.r_51 trip_D.sl.r_52 trip_D.sl.r_53 trip_D.sl.r_54 trip_D.sl.r_55 trip_D.sl.r_56 trip_D.sl.r_57 trip_D.sl.r_58 trip_D.sl.r_59 trip_D.sl.r_60 trip_D.sl.r_61 trip_D.sl.r_62 trip_D.sl.r_63 trip_D.sl.r_64 trip_D.sl.r_65 trip_D.sl.r_66 trip_D.sl.r_67 trip_D.sl.r_68 trip_D.sl.r_69 trip_D.sl.r_70 trip_D.sl.r_71 trip_D.sl.r_72 trip_D.sl.r_73 trip_D.sl.r_74 trip_D.sl.r_75 trip_D.sl.r_76 trip_D.sl.r_77 trip_D.sl.r_78 trip_D.sl.r_79 trip_D.sl.r_80 trip_D.sl.r_81 trip_D.sl.r_82 trip_D.sl.r_83 trip_D.sl.r_84 trip_D.sl.r_85 trip_D.sl.r_86 trip_D.sl.r_87 trip_D.sl.r_88 trip_D.sl.r_89 trip_D.sl.r_90 trip_D.sl.r_91 trip_D.sl.r_92 trip_D.sl.r_93 trip_D.sl.r_94 trip_D.sl.r_95 trip_D.sl.v1083_r0 trip_D.sl.v1092_r0 trip_D.sl.v1101_r0 trip_D.sl.v1110_r0 trip_D.sl.v1119_r0 trip_D.sl.v1128_r0 trip_D.sl.v1137_r0 trip_D.sl.v1146_r0 trip_D.sl.v1168_r0 trip_D.sl.v1177_r0 trip_D.sl.v1186_r0 trip_D.sl.v1195_r0 trip_D.sl.v1204_r0 trip_D.sl.v1213_r0 trip_D.sl.v1222_r0 trip_D.sl.v1231_r0 trip_D.sl.v1253_r0 trip_D.sl.v1262_r0 trip_D.sl.v1271_r0 trip_D.sl.v1280_r0 trip_D.sl.v1289_r0 trip_D.sl.v1298_r0 trip_D.sl.v1307_r0 trip_D.sl.v1316_r0 trip_D.sl.v1338_r0 trip_D.sl.v1347_r0 trip_D.sl.v1356_r0 trip_D.sl.v1365_r0 trip_D.sl.v1374_r0 trip_D.sl.v1383_r0 trip_D.sl.v1392_r0 trip_D.sl.v1401_r0 trip_D.sl.v1423_r0 trip_D.sl.v1432_r0 trip_D.sl.v1441_r0 trip_D.sl.v1450_r0 trip_D.sl.v1459_r0 trip_D.sl.v1468_r0 trip_D.sl.v1477_r0 trip_D.sl.v1486_r0 trip_D.sl.v1508_r0 trip_D.sl.v1517_r0 trip_D.sl.v1526_r0 trip_D.sl.v1535_r0 trip_D.sl.v1544_r0 trip_D.sl.v1553_r0 trip_D.sl.v1562_r0 trip_D.sl.v1571_r0 trip_D.sl.v1593_r0 trip_D.sl.v1602_r0 trip_D.sl.v1611_r0 trip_D.sl.v1620_r0 trip_D.sl.v1629_r0 trip_D.sl.v1638_r0 trip_D.sl.v1647_r0 trip_D.sl.v1656_r0 trip_D.sl.v1678_r0 trip_D.sl.v1687_r0 trip_D.sl.v1696_r0 trip_D.sl.v1705_r0 trip_D.sl.v1714_r0 trip_D.sl.v1723_r0 trip_D.sl.v1732_r0 trip_D.sl.v1741_r0 trip_D.sl.v1763_r0 trip_D.sl.v1772_r0 trip_D.sl.v1781_r0 trip_D.sl.v1790_r0 trip_D.sl.v1799_r0 trip_D.sl.v1808_r0 trip_D.sl.v1817_r0 trip_D.sl.v1826_r0 trip_D.sl.v1848_r0 trip_D.sl.v1857_r0 trip_D.sl.v1866_r0 trip_D.sl.v1875_r0 trip_D.sl.v1884_r0 trip_D.sl.v1893_r0 trip_D.sl.v1902_r0 trip_D.sl.v1911_r0 trip_D.sl.cst_881_r0
    simp only [rdP fp k 0 (by decide) _ _ (off92_eq k), rdP fp k 1 (by decide) _ _ (off93_eq k), rdW fw k 0 (by decide) _ _ (off94_eq k), rdW fw k 1 (by decide) _ _ (off95_eq k), rdW fw k 2 (by decide) _ _ (off96_eq k), rdW fw k 3 (by decide) _ _ (off97_eq k), rdW fw k 4 (by decide) _ _ (off98_eq k), rdW fw k 5 (by decide) _ _ (off99_eq k), rdW fw k 6 (by decide) _ _ (off100_eq k), rdW fw k 7 (by decide) _ _ (off101_eq k), rdP fp k 2 (by decide) _ _ (off102_eq k), rdP fp k 3 (by decide) _ _ (off103_eq k), rdW fw k 8 (by decide) _ _ (off104_eq k), rdW fw k 9 (by decide) _ _ (off105_eq k), rdW fw k 10 (by decide) _ _ (off106_eq k), rdW fw k 11 (by decide) _ _ (off107_eq k), rdW fw k 12 (by decide) _ _ (off108_eq k), rdW fw k 13 (by decide) _ _ (off109_eq k), rdW fw k 14 (by decide) _ _ (off110_eq k), rdW fw k 15 (by decide) _ _ (off111_eq k), rdP fp k 4 (by decide) _ _ (off112_eq k), rdP fp k 5 (by decide) _ _ (off113_eq k), rdW fw k 16 (by decide) _ _ (off114_eq k), rdW fw k 17 (by decide) _ _ (off115_eq k), rdW fw k 18 (by decide) _ _ (off116_eq k), rdW fw k 19 (by decide) _ _ (off117_eq k), rdW fw k 20 (by decide) _ _ (off118_eq k), rdW fw k 21 (by decide) _ _ (off119_eq k), rdW fw k 22 (by decide) _ _ (off120_eq k), rdW fw k 23 (by decide) _ _ (off121_eq k), rdP fp k 6 (by decide) _ _ (off122_eq k), rdP fp k 7 (by decide) _ _ (off123_eq k), rdW fw k 24 (by decide) _ _ (off124_eq k), rdW fw k 25 (by decide) _ _ (off125_eq k), rdW fw k 26 (by decide) _ _ (off126_eq k), rdW fw k 27 (by decide) _ _ (off127_eq k), rdW fw k 28 (by decide) _ _ (off128_eq k), rdW fw k 29 (by decide) _ _ (off129_eq k), rdW fw k 30 (by decide) _ _ (off130_eq k), rdW fw k 31 (by decide) _ _ (off131_eq k), rdP fp k 8 (by decide) _ _ (off132_eq k), rdP fp k 9 (by decide) _ _ (off133_eq k), rdW fw k 32 (by decide) _ _ (off134_eq k), rdW fw k 33 (by decide) _ _ (off135_eq k), rdW fw k 34 (by decide) _ _ (off136_eq k), rdW fw k 35 (by decide) _ _ (off137_eq k), rdW fw k 36 (by decide) _ _ (off138_eq k), rdW fw k 37 (by decide) _ _ (off139_eq k), rdW fw k 38 (by decide) _ _ (off140_eq k), rdW fw k 39 (by decide) _ _ (off141_eq k), rdP fp k 10 (by decide) _ _ (off142_eq k), rdP fp k 11 (by decide) _ _ (off143_eq k), rdW fw k 40 (by decide) _ _ (off144_eq k), rdW fw k 41 (by decide) _ _ (off145_eq k), rdW fw k 42 (by decide) _ _ (off146_eq k), rdW fw k 43 (by decide) _ _ (off147_eq k), rdW fw k 44 (by decide) _ _ (off148_eq k), rdW fw k 45 (by decide) _ _ (off149_eq k), rdW fw k 46 (by decide) _ _ (off150_eq k), rdW fw k 47 (by decide) _ _ (off151_eq k), rdP fp k 12 (by decide) _ _ (off152_eq k), rdP fp k 13 (by decide) _ _ (off153_eq k), rdW fw k 48 (by decide) _ _ (off154_eq k), rdW fw k 49 (by decide) _ _ (off155_eq k), rdW fw k 50 (by decide) _ _ (off156_eq k), rdW fw k 51 (by decide) _ _ (off157_eq k), rdW fw k 52 (by decide) _ _ (off158_eq k), rdW fw k 53 (by decide) _ _ (off159_eq k), rdW fw k 54 (by decide) _ _ (off160_eq k), rdW fw k 55 (by decide) _ _ (off161_eq k), rdP fp k 14 (by decide) _ _ (off162_eq k), rdP fp k 15 (by decide) _ _ (off163_eq k), rdW fw k 56 (by decide) _ _ (off164_eq k), rdW fw k 57 (by decide) _ _ (off165_eq k), rdW fw k 58 (by decide) _ _ (off166_eq k), rdW fw k 59 (by decide) _ _ (off167_eq k), rdW fw k 60 (by decide) _ _ (off168_eq k), rdW fw k 61 (by decide) _ _ (off169_eq k), rdW fw k 62 (by decide) _ _ (off170_eq k), rdW fw k 63 (by decide) _ _ (off171_eq k), rdP fp k 16 (by decide) _ _ (off172_eq k), rdP fp k 17 (by decide) _ _ (off173_eq k), rdW fw k 64 (by decide) _ _ (off174_eq k), rdW fw k 65 (by decide) _ _ (off175_eq k), rdW fw k 66 (by decide) _ _ (off176_eq k), rdW fw k 67 (by decide) _ _ (off177_eq k), rdW fw k 68 (by decide) _ _ (off178_eq k), rdW fw k 69 (by decide) _ _ (off179_eq k), rdW fw k 70 (by decide) _ _ (off180_eq k), rdW fw k 71 (by decide) _ _ (off181_eq k), rdP fp k 18 (by decide) _ _ (off182_eq k), rdP fp k 19 (by decide) _ _ (off183_eq k), rdW fw k 72 (by decide) _ _ (off184_eq k), rdW fw k 73 (by decide) _ _ (off185_eq k), rdW fw k 74 (by decide) _ _ (off186_eq k), rdW fw k 75 (by decide) _ _ (off187_eq k), rdW fw k 76 (by decide) _ _ (off188_eq k), rdW fw k 77 (by decide) _ _ (off189_eq k), rdW fw k 78 (by decide) _ _ (off190_eq k), rdW fw k 79 (by decide) _ _ (off191_eq k), rdD fws k _ _ hD 0 (by decide), rdD fws k _ _ hD 1 (by decide), rdD fws k _ _ hD 2 (by decide), rdD fws k _ _ hD 3 (by decide), rdD fws k _ _ hD 4 (by decide), rdD fws k _ _ hD 5 (by decide), rdD fws k _ _ hD 6 (by decide), rdD fws k _ _ hD 7 (by decide), rdD fws k _ _ hD 8 (by decide), rdD fws k _ _ hD 9 (by decide), rdD fws k _ _ hD 10 (by decide), rdD fws k _ _ hD 11 (by decide), rdD fws k _ _ hD 12 (by decide), rdD fws k _ _ hD 13 (by decide), rdD fws k _ _ hD 14 (by decide), rdD fws k _ _ hD 15 (by decide), rdD fws k _ _ hD 16 (by decide), rdD fws k _ _ hD 17 (by decide), rdD fws k _ _ hD 18 (by decide), rdD fws k _ _ hD 19 (by decide), rdD fws k _ _ hD 20 (by decide), rdD fws k _ _ hD 21 (by decide), rdD fws k _ _ hD 22 (by decide), rdD fws k _ _ hD 23 (by decide), rdD fws k _ _ hD 24 (by decide), rdD fws k _ _ hD 25 (by decide), rdD fws k _ _ hD 26 (by decide), rdD fws k _ _ hD 27 (by decide), rdD fws k _ _ hD 28 (by decide), rdD fws k _ _ hD 29 (by decide), rdD fws k _ _ hD 30 (by decide), rdD fws k _ _ hD 31 (by decide), rdD fws k _ _ hD 32 (by decide), rdD fws k _ _ hD 33 (by decide), rdD fws k _ _ hD 34 (by decide), rdD fws k _ _ hD 35 (by decide), rdD fws k _ _ hD 36 (by decide), rdD fws k _ _ hD 37 (by decide), rdD fws k _ _ hD 38 (by decide), rdD fws k _ _ hD 39 (by decide), rdD fws k _ _ hD 40 (by decide), rdD fws k _ _ hD 41 (by decide), rdD fws k _ _ hD 42 (by decide), rdD fws k _ _ hD 43 (by decide), rdD fws k _ _ hD 44 (by decide), rdD fws k _ _ hD 45 (by decide), rdD fws k _ _ hD 46 (by decide), rdD fws k _ _ hD 47 (by decide), rdD fws k _ _ hD 48 (by decide), rdD fws k _ _ hD 49 (by decide), rdD fws k _ _ hD 50 (by decide), rdD fws k _ _ hD 51 (by decide), rdD fws k _ _ hD 52 (by decide), rdD fws k _ _ hD 53 (by decide), rdD fws k _ _ hD 54 (by decide), rdD fws k _ _ hD 55 (by decide), rdD fws k _ _ hD 56 (by decide), rdD fws k _ _ hD 57 (by decide), rdD fws k _ _ hD 58 (by decide), rdD fws k _ _ hD 59 (by decide), rdD fws k _ _ hD 60 (by decide), rdD fws k _ _ hD 61 (by decide), rdD fws k _ _ hD 62 (by decide), rdD fws k _ _ hD 63 (by decide), rdD fws k _ _ hD 64 (by decide), rdD fws k _ _ hD 65 (by decide), rdD fws k _ _ hD 66 (by decide), rdD fws k _ _ hD 67 (by decide), rdD fws k _ _ hD 68 (by decide), rdD fws k _ _ hD 69 (by decide), rdD fws k _ _ hD 70 (by decide), rdD fws k _ _ hD 71 (by decide), rdD fws k _ _ hD 72 (by decide), rdD fws k _ _ hD 73 (by decide), rdD fws k _ _ hD 74 (by decide), rdD fws k _ _ hD 75 (by decide), rdD fws k _ _ hD 76 (by decide), rdD fws k _ _ hD 77 (by decide), rdD fws k _ _ hD 78 (by decide), rdD fws k _ _ hD 79 (by decide)]
    simp only [tot, lhsT, rhsT, wPart, Nat.reduceMul, Nat.reduceAdd]
    simp only [k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay360, k0_pay361, k0_pay362]
  · iexists _; iexact HO

/-! ## The invariant -/

/-- The weight family before step `k`: the members from `k` on in flight. -/
def stW (k : ℕ) : Fin 36 → Bool := fun j => decide (k ≤ j.val)
/-- The scale family before step `k`. -/
def stS (k : ℕ) : Fin 9 → Bool := fun j => decide (k ≤ j.val)

theorem stW_succ (k : Fin 36) : Function.update (stW k.val) k false = stW (k.val + 1) := by
  funext j
  by_cases hj : j = k
  · subst hj; rw [Function.update_self]; simp [stW]
  · rw [Function.update_of_ne hj]
    have hv : j.val ≠ k.val := fun h => hj (Fin.ext h)
    exact decide_eq_decide.mpr (by omega)
theorem stS_succ (k : ℕ) (h : k < 9) : Function.update (stS k) (⟨k % 9, Nat.mod_lt _ (by decide)⟩ : Fin 9) false = stS (k + 1) := by
  funext j
  by_cases hj : j = ⟨k % 9, Nat.mod_lt _ (by decide)⟩
  · subst hj; rw [Function.update_self]; have : k % 9 = k := Nat.mod_eq_of_lt h; simp [stS, this]
  · rw [Function.update_of_ne hj]
    have hv : j.val ≠ k := fun h' => hj (Fin.ext (by rw [h']; exact (Nat.mod_eq_of_lt h).symm))
    exact decide_eq_decide.mpr (by omega)
theorem stS_succ' (k : ℕ) (h : ¬ k < 9) : Function.update (stS k) (⟨k % 9, Nat.mod_lt _ (by decide)⟩ : Fin 9) false = stS (k + 1) := by
  funext j
  have hj' := j.isLt
  by_cases hj : j = ⟨k % 9, Nat.mod_lt _ (by decide)⟩
  · subst hj; rw [Function.update_self]; exact (decide_eq_false (by show ¬ k + 1 ≤ k % 9; omega)).symm
  · rw [Function.update_of_ne hj]
    exact decide_eq_decide.mpr (by omega)

/-- Before step `k`: the members from `k` on in flight, the planes as the earlier loop left them, the accumulator as
    `AccInv` says. -/
abbrev inv2 (hw : HbBuf F c HW) (hs : HbBuf F c HWS) (fp : HbBuf F c MP) (k : ℕ) (_ : Unit) : sProp 𝕄 :=
  iprop(Ring.AtW (Φw (c := c) hw) (stW k) ∗ Ring.AtW (Φs (c := c) hs) (stS k)
    ∗ holds c MP fp ∗ (∃ fd, holds c MD fd) ∗ (∃ fa, holds c MA fa ∗ ⌜AccInv c hw hs fp k fa⌝) ∗ ∃ W, owes (c : Thread nD τ) 0 W)

/-- What one step does to the two focused members and the buffers. -/
theorem trip_fam (hw : HbBuf F c HW) (hs : HbBuf F c HWS) (fp : HbBuf F c MP) (fa : HbBuf F c MA) (k : Fin k0_t2_loop.trips)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32) (W : Waits sig Unit) :
    (iprop(Φw (c := c) hw (mem36 k) true ∗ Φs (c := c) hs (mem9 k) (decide (k.val < 9))
      ∗ holds c MP fp ∗ (∃ fd, holds c MD fd) ∗ holds c MA fa ∗ owes (c : Thread nD τ) 0 W) : sProp 𝕄)
    ⊢ wp frame (wpE (defs₀ (F := F)) Variants.none c none) Set.univ (body2 arg4 harg4 arg5 harg5 v585_r0 c32_i32_497_r0 v587_r0 v594_r0 v596_r0 k ())
      (fun _ => iprop(Φw (c := c) hw (mem36 k) false ∗ Φs (c := c) hs (mem9 k) false
        ∗ holds c MP fp ∗ (∃ fd, holds c MD fd) ∗ (∃ fa', holds c MA fa' ∗ ⌜AccStep c k (WK hw) (SK hs) fp fa fa'⌝) ∗ ∃ W, owes (c : Thread nD τ) 0 W)) := by
  have e1 := cond1_iff k
  have e2 := cond2_iff k
  have e3 := cond3_iff k
  simp only [Φw, if_true, Bool.false_eq_true, if_false, ← pwcell_eq k, ← pwcredit k]
  by_cases h : k.val < 9
  · have h1 := e1.mpr h
    simp only [Φs, h, decide_true, if_true, Bool.false_eq_true, if_false, ← pscell_eq k h1, ← pscredit k h1]
    by_cases h0 : k.val % 9 = 0
    · exact trip_A c k h1 (e2.mpr h0) (fun h' => e3.mp h' h0) arg4 harg4 arg5 harg5 v585_r0 c32_i32_497_r0 v587_r0 v594_r0 v596_r0 (WK hw) hw (SK hs) hs fp fa W
    · exact trip_B c k h1 (fun h' => h0 (e2.mp h')) (e3.mpr h0) arg4 harg4 arg5 harg5 v585_r0 c32_i32_497_r0 v587_r0 v594_r0 v596_r0 (WK hw) hw (SK hs) hs fp fa W
  · have h1 : ¬ k0_cond1 k = 1#1 := fun h' => h (e1.mp h')
    simp only [Φs, h, decide_false, Bool.false_eq_true, if_false]
    by_cases h0 : k.val % 9 = 0
    · exact trip_C c k h1 (e2.mpr h0) (fun h' => e3.mp h' h0) arg4 harg4 arg5 harg5 v585_r0 c32_i32_497_r0 v587_r0 v594_r0 v596_r0 (WK hw) hw (SK hs) hs fp fa W
    · exact trip_D c k h1 (fun h' => h0 (e2.mp h')) (e3.mpr h0) arg4 harg4 arg5 harg5 v585_r0 c32_i32_497_r0 v587_r0 v594_r0 v596_r0 (WK hw) hw (SK hs) hs fp fa W

theorem step2 (hw : HbBuf F c HW) (hs : HbBuf F c HWS) (fp : HbBuf F c MP) (k : Fin k0_t2_loop.trips)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32) :
    inv2 c hw hs fp k.val () ⊢ wp frame (wpE (defs₀ (F := F)) Variants.none c none) Set.univ (body2 arg4 harg4 arg5 harg5 v585_r0 c32_i32_497_r0 v587_r0 v594_r0 v596_r0 k ())
      (inv2 c hw hs fp (k.val + 1)) := by
  unfold inv2
  rw [Ring.AtW_focus (Φw (c := c) hw) (stW k.val) (mem36 k), Ring.AtW_focus (Φs (c := c) hs) (stS k.val) (mem9 k)]
  have eW : stW k.val (mem36 k) = true := decide_eq_true (Nat.le_refl _)
  have eS : stS k.val (mem9 k) = decide (k.val < 9) := decide_eq_decide.mpr (by show k.val ≤ k.val % 9 ↔ _; omega)
  have uS : Function.update (stS k.val) (mem9 k) false = stS (k.val + 1) := by
    by_cases h : k.val < 9
    · exact stS_succ k.val h
    · exact stS_succ' k.val h
  have uW : Function.update (stW k.val) (mem36 k) false = stW (k.val + 1) := stW_succ (mem36 k)
  rw [eW, eS, ← uW, ← uS]
  iintro ⟨⟨Hw, Hwr⟩, ⟨Hs, Hsr⟩, Hp, Hd, ⟨%fa, Ha, %hfa⟩, ⟨%W, HO⟩⟩
  iapply (wp_wand_r frame (wpE (defs₀ (F := F)) Variants.none c none) Set.univ)
  isplitl [Hw Hs Hp Hd Ha HO]
  · iapply (trip_fam c hw hs fp fa k arg4 harg4 arg5 harg5 v585_r0 c32_i32_497_r0 v587_r0 v594_r0 v596_r0 W)
    isplitl [Hw]; · iexact Hw
    isplitl [Hs]; · iexact Hs
    isplitl [Hp]; · iexact Hp
    isplitl [Hd]; · iexact Hd
    isplitl [Ha]; · iexact Ha
    iexact HO
  · iintro %_ ⟨Hw, Hs, Hp, Hd, ⟨%fa', Ha, %hfa'⟩, HO⟩
    isplitl [Hw Hwr]
    · iapply (Ring.AtW_update (Φw (c := c) hw) (stW k.val) (mem36 k) false)
      isplitl [Hw]; · iexact Hw
      iexact Hwr
    isplitl [Hs Hsr]
    · iapply (Ring.AtW_update (Φs (c := c) hs) (stS k.val) (mem9 k) false)
      isplitl [Hs]; · iexact Hs
      iexact Hsr
    isplitl [Hp]; · iexact Hp
    isplitl [Hd]; · iexact Hd
    isplitl [Ha]
    · iexists fa'
      isplitl [Ha]; · iexact Ha
      ipureintro
      exact accInv_succ c hw hs fp k fa fa' hfa hfa'
    · iexact HO

set_option warn.classDefReducibility false in
/-- The loop's invariant, for the run. -/
@[sl_loop] def loop2 (hw : HbBuf F c HW) (hs : HbBuf F c HWS) (fp : HbBuf F c MP)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32) :
    LoopInvTy_k0_t2 (F := F) Unit ℕ (Pipeline.UD sig nD τ) ℕ Variants.none c none Set.univ HX (Memref.isWhole_whole _) HS (Memref.isWhole_whole _) HW (Memref.isWhole_whole _) HWS (Memref.isWhole_whole _) arg4 harg4 arg5 harg5 MX (Memref.isWhole_whole _) MS (Memref.isWhole_whole _) MW (Memref.isWhole_whole _) MWS (Memref.isWhole_whole _) MC (Memref.isWhole_whole _) MP (Memref.isWhole_whole _) MD (Memref.isWhole_whole _) MA (Memref.isWhole_whole _) cc0_scoped0 cc0_scoped1 cc0_scoped2 v585_r0 c32_i32_497_r0 v587_r0 v594_r0 v596_r0 where
  inv := inv2 c hw hs fp
  step k _ := step2 c hw hs fp k arg4 harg4 arg5 harg5 v585_r0 c32_i32_497_r0 v587_r0 v594_r0 v596_r0

end Cert.KernelIdeal.Hand

end
-- ==== Proof.KernelIdeal.PlaneDef.lean ====
/-
  What one step of the first loop stores: the planes' values on its lane tile, as one function of the codes and the
  decoded scales.
-/
module

public import proofs.«01_k».proof.Proof.KernelIdeal.Base
public import Idealize.ShloMosaic.Lib.PointwiseCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] {c : Dev nD}

theorem trips1 : k0_t1_loop.trips = 20 := by decide

/-- Row `h` of image `b`, the lanes of tile `k`. -/
def xLd (X : HbBuf F c MX) (b h : ℕ) (k : Fin k0_t1_loop.trips) : Vec F S1x1x20x128 .fp8e4m3 :=
  fun i => X (ix4 (⟨b % 2, Nat.mod_lt _ (by decide)⟩ : Fin 2) (⟨h % 12, Nat.mod_lt _ (by decide)⟩ : Fin 12) (⟨(i 2).val, (i 2).isLt⟩ : Fin 20)
    (⟨128 * k.val + (i 3).val, by have h : (i 3).val < 128 := (i 3).isLt; have := k.isLt; have := trips1; omega⟩ : Fin 2560))
/-- Block `r` of the decoded scales. -/
def cLd (C : HbBuf F c MC) (r : ℕ) : Vec F S1x16x2x128 .bf16 :=
  fun i => C (ix4 (⟨r % 24, Nat.mod_lt _ (by decide)⟩ : Fin 24) (⟨(i 1).val, (i 1).isLt⟩ : Fin 16) (⟨(i 2).val, (i 2).isLt⟩ : Fin 2) (⟨(i 3).val, (i 3).isLt⟩ : Fin 128))
/-- The decoded codes of row `h` of image `b` on tile `k`. -/
def xdT (X : HbBuf F c MX) (C : HbBuf F c MC) (G : IVec S16x128 32) (k : Fin k0_t1_loop.trips) (b h : ℕ) : FVec F S20x128 .bf16 :=
  k0_pay6 (k0_pay3 G 0#32 1#32 k) (xLd X b h k) (cLd C (12 * b + h))
/-- The padding's value. -/
def zF : F .bf16 := (constant S1x1x1x2x128 .bf16 0x0000#16 : FVec F S1x1x1x2x128 .bf16) (ix5 (0 : Fin 1) (0 : Fin 1) (0 : Fin 1) (0 : Fin 2) (0 : Fin 128))
/-- A plane's row on tile `k`. -/
def pRow (X : HbBuf F c MX) (C : HbBuf F c MC) (G : IVec S16x128 32) (k : Fin k0_t1_loop.trips) (p row b : ℕ) (l : Fin 128) : F .bf16 :=
  if row < 10 ∨ 70 ≤ row then zF
  else if p % 3 = 0 then
    if row % 10 = 0 then zF
    else xdT X C G k b (2 * (row / 10 - 1) + p / 3) (ix2 (⟨(2 * (row % 10) - 1) % 20, Nat.mod_lt _ (by decide)⟩ : Fin 20) l)
  else xdT X C G k b (2 * (row / 10 - 1) + p / 3) (ix2 (⟨(2 * (row % 10) + (p % 3 - 1)) % 20, Nat.mod_lt _ (by decide)⟩ : Fin 20) l)
/-- The planes with tile `k` filled in. -/
def pNext (X : HbBuf F c MX) (C : HbBuf F c MC) (G : IVec S16x128 32) (k : Fin k0_t1_loop.trips) (f : HbBuf F c MP) : HbBuf F c MP :=
  fun i => if (i 1).val = k.val then pRow X C G k (i 0).val (i 2).val (i 3).val (⟨(i 4).val, (i 4).isLt⟩ : Fin 128) else f i

/-! ## Writes that agree with one function -/

theorem writes_agree (f g : HbBuf F c MP) (L : List (View.Piece (Elt F) S6x20x80x2x128 .bf16))
    (ha : ∀ pc ∈ L, ∀ x, pc.2 x = g (pc.1.emb x)) (i : S6x20x80x2x128.Idx) (hc : (∃ pc ∈ L, ∃ x, pc.1.emb x = i) ∨ f i = g i) :
    MP.view.writes (Elt F) f L i = g i := by
  induction L with
  | nil =>
    rcases hc with ⟨pc, h, -⟩ | h
    · cases h
    · exact h
  | cons p L ih =>
    rw [View.writes_cons]
    by_cases hi : ∃ x, p.1.emb x = i
    · obtain ⟨x, rfl⟩ := hi
      refine Eq.trans (View.write_emb_of_mem (Val := Elt F) (v := MP.view.slice _) _ _ (Finset.mem_univ x)) ?_
      exact ha p (List.mem_cons_self ..) x
    · rw [View.write_of_not_mem _ _ _ (by
        intro hm
        obtain ⟨x, -, hx⟩ := Finset.mem_map.mp hm
        exact hi ⟨x, hx⟩)]
      refine ih (fun pc h => ha pc (List.mem_cons_of_mem _ h)) ?_
      rcases hc with ⟨pc, h, h'⟩ | h
      · rcases List.mem_cons.mp h with rfl | h
        · exact absurd h' hi
        · exact .inl ⟨pc, h, h'⟩
      · exact .inr h

theorem mem_unit5 (off : Fin 5 → ℕ) (size : Fin 5 → ℕ) (h : ∀ a, off a + size a ≤ S6x20x80x2x128.size a) (p t r b l n : ℕ)
    (e : off = ![p, t, r, 0, 0]) (es : size = ![1, 1, n, 2, 128]) (i : S6x20x80x2x128.Idx) (h0 : (i 0).val = p) (h1 : (i 1).val = t)
    (h2 : r ≤ (i 2).val) (h2' : (i 2).val < r + n) : ∃ x, (Rect.unit (s := S6x20x80x2x128) off size h).emb x = i := by
  subst e es
  refine ⟨ix5 (0 : Fin 1) (0 : Fin 1) (⟨(i 2).val - r, by omega⟩ : Fin n) (⟨(i 3).val, (i 3).isLt⟩ : Fin 2) (⟨(i 4).val, (i 4).isLt⟩ : Fin 128), ?_⟩
  funext a
  match a with
  | ⟨0, _⟩ => exact Fin.ext (by show p + 1 * 0 = (i 0).val; omega)
  | ⟨1, _⟩ => exact Fin.ext (by show t + 1 * 0 = (i 1).val; omega)
  | ⟨2, _⟩ => exact Fin.ext (by show r + 1 * ((i 2).val - r) = (i 2).val; omega)
  | ⟨3, _⟩ => exact Fin.ext (by show 0 + 1 * (i 3).val = (i 3).val; omega)
  | ⟨4, _⟩ => exact Fin.ext (by show 0 + 1 * (i 4).val = (i 4).val; omega)

/-! ## Each kind of piece -/

/-- The even columns, the odd columns, the odd columns moved down one row. -/
def pcEven (A B : FVec F S20x128 .bf16) : Vec F S1x1x10x2x128 .bf16 := k0_pay13 (rowsOfParity 0 S10x128 A bitcasts_S20x128_w16_S10x128_w32) (rowsOfParity 0 S10x128 B bitcasts_S20x128_w16_S10x128_w32)
def pcOdd (A B : FVec F S20x128 .bf16) : Vec F S1x1x10x2x128 .bf16 := k0_pay14 (rowsOfParity 1 S10x128 A bitcasts_S20x128_w16_S10x128_w32) (rowsOfParity 1 S10x128 B bitcasts_S20x128_w16_S10x128_w32)
def pcSh (A B : FVec F S20x128 .bf16) : Vec F S1x1x9x2x128 .bf16 := k0_pay15 (rowsOfParity 1 S10x128 A bitcasts_S20x128_w16_S10x128_w32) (rowsOfParity 1 S10x128 B bitcasts_S20x128_w16_S10x128_w32)

theorem pcEven_apply (A B : FVec F S20x128 .bf16) (j : Fin 10) (b : Fin 2) (l : Fin 128) :
    pcEven A B (ix5 0 0 j b l) = (if b.val = 0 then A else B) (ix2 (⟨2 * j.val, by omega⟩ : Fin 20) l) := by
  fin_vals b with hb <;> pointwise [pcEven, k0_pay13] <;> simp [hb]
theorem pcOdd_apply (A B : FVec F S20x128 .bf16) (j : Fin 10) (b : Fin 2) (l : Fin 128) :
    pcOdd A B (ix5 0 0 j b l) = (if b.val = 0 then A else B) (ix2 (⟨2 * j.val + 1, by omega⟩ : Fin 20) l) := by
  fin_vals b with hb <;> pointwise [pcOdd, k0_pay14] <;> simp [hb]
theorem pcSh_apply (A B : FVec F S20x128 .bf16) (j : Fin 9) (b : Fin 2) (l : Fin 128) :
    pcSh A B (ix5 0 0 j b l) = (if b.val = 0 then A else B) (ix2 (⟨2 * j.val + 1, by omega⟩ : Fin 20) l) := by
  fin_vals b with hb <;> pointwise [pcSh, k0_pay15] <;> simp [hb]

theorem pNext_at (X : HbBuf F c MX) (C : HbBuf F c MC) (G : IVec S16x128 32) (k : Fin k0_t1_loop.trips) (f : HbBuf F c MP)
    (p : Fin 6) (r : Fin 80) (b : Fin 2) (l : Fin 128) (h : k.val < 20) :
    pNext X C G k f (ix5 p (⟨k.val, h⟩ : Fin 20) r b l) = pRow X C G k p.val r.val b.val l := if_pos rfl

theorem emb5 (n p t r : ℕ) (hn : n ≤ 10) (hp : p < 6) (ht : t < 20) (hr : r + n ≤ 80) (off size : Fin 5 → ℕ) (h : ∀ a, off a + size a ≤ S6x20x80x2x128.size a) (e : off = ![p, t, r, 0, 0])
    (es : size = ![1, 1, n, 2, 128]) (j : Fin n) (b : Fin 2) (l : Fin 128) (x : (⟨5, size⟩ : Shape).Idx)
    (hx : ∀ a, (x a).val = ((ix5 (0 : Fin 1) (0 : Fin 1) j b l : (⟨5, ![1, 1, n, 2, 128]⟩ : Shape).Idx) a).val) :
    (Rect.unit (s := S6x20x80x2x128) off size h).emb x
      = (ix5 (⟨p, hp⟩ : Fin 6) (⟨t, ht⟩ : Fin 20) (⟨r + j.val, by omega⟩ : Fin 80) b l : S6x20x80x2x128.Idx) := by
  subst e es
  have h0 := hx 0
  have h1 := hx 1
  have h2 := hx 2
  have h3 := hx 3
  have h4 := hx 4
  funext a
  match a with
  | ⟨0, _⟩ => exact Fin.ext (by show p + 1 * (x 0).val = p; rw [h0]; show p + 1 * 0 = p; omega)
  | ⟨1, _⟩ => exact Fin.ext (by show t + 1 * (x 1).val = t; rw [h1]; show t + 1 * 0 = t; omega)
  | ⟨2, _⟩ => exact Fin.ext (by show r + 1 * (x 2).val = r + j.val; rw [h2]; show r + 1 * j.val = r + j.val; omega)
  | ⟨3, _⟩ => exact Fin.ext (by show 0 + 1 * (x 3).val = b.val; rw [h3]; show 0 + 1 * b.val = b.val; omega)
  | ⟨4, _⟩ => exact Fin.ext (by show 0 + 1 * (x 4).val = l.val; rw [h4]; show 0 + 1 * l.val = l.val; omega)

theorem inb5 (n p r : ℕ) (k : Fin k0_t1_loop.trips) (off : Fin 5 → ℕ) (e : off = ![p, k.val, r, 0, 0]) (hp : p < 6) (hr : r + n ≤ 80) :
    ∀ a, off a + (![1, 1, n, 2, 128] : Fin 5 → ℕ) a ≤ S6x20x80x2x128.size a := by
  subst e
  have hk := k.isLt
  have ht := trips1
  intro a
  match a with
  | ⟨0, _⟩ => show p + 1 ≤ 6; omega
  | ⟨1, _⟩ => show k.val + 1 ≤ 20; omega
  | ⟨2, _⟩ => show r + n ≤ 80; omega
  | ⟨3, _⟩ => show 0 + 2 ≤ 2; omega
  | ⟨4, _⟩ => show 0 + 128 ≤ 128; omega

theorem agZ (X : HbBuf F c MX) (C : HbBuf F c MC) (G : IVec S16x128 32) (k : Fin k0_t1_loop.trips) (f : HbBuf F c MP) (p r : ℕ) (hp : p < 6)
    (hr : r = 0 ∨ r = 70) (off : Fin 5 → ℕ) (hin) (e : off = ![p, k.val, r, 0, 0]) (x : S1x1x10x2x128.Idx) :
    (constant S1x1x10x2x128 .bf16 0x0000#16 : FVec F S1x1x10x2x128 .bf16) x = pNext X C G k f ((Rect.unit (s := S6x20x80x2x128) off S1x1x10x2x128.size hin).emb x) := by
  have hk := k.isLt
  have ht := trips1
  obtain ⟨j, b, l, hx⟩ : ∃ (j : Fin 10) (b : Fin 2) (l : Fin 128), x = ix5 (0 : Fin 1) (0 : Fin 1) j b l := by idx_vars x; exact ⟨_, _, _, by congr 1 <;> exact Subsingleton.elim _ _⟩
  rw [emb5 10 p k.val r (le_refl _) hp (by omega) (by omega) off _ hin e rfl j b l x (fun a => by rw [hx]), pNext_at]
  have hj := j.isLt
  unfold pRow
  rw [if_pos (by show r + j.val < 10 ∨ 70 ≤ r + j.val; omega)]
  rfl

theorem agZ1 (X : HbBuf F c MX) (C : HbBuf F c MC) (G : IVec S16x128 32) (k : Fin k0_t1_loop.trips) (f : HbBuf F c MP) (h : ℕ) (hh : h < 12)
    (off : Fin 5 → ℕ) (hin) (e : off = ![3 * (h % 2), k.val, 10 + 10 * (h / 2), 0, 0]) (x : S1x1x1x2x128.Idx) :
    (constant S1x1x1x2x128 .bf16 0x0000#16 : FVec F S1x1x1x2x128 .bf16) x = pNext X C G k f ((Rect.unit (s := S6x20x80x2x128) off S1x1x1x2x128.size hin).emb x) := by
  have hk := k.isLt
  have ht := trips1
  obtain ⟨j, b, l, hx⟩ : ∃ (j : Fin 1) (b : Fin 2) (l : Fin 128), x = ix5 (0 : Fin 1) (0 : Fin 1) j b l := by idx_vars x; exact ⟨_, _, _, by congr 1 <;> exact Subsingleton.elim _ _⟩
  rw [emb5 1 (3 * (h % 2)) k.val (10 + 10 * (h / 2)) (by omega) (by omega) (by omega) (by omega) off _ hin e rfl j b l x (fun a => by rw [hx]), pNext_at]
  have hj := j.isLt
  unfold pRow
  rw [if_neg (by show ¬ (10 + 10 * (h / 2) + j.val < 10 ∨ 70 ≤ 10 + 10 * (h / 2) + j.val); omega), if_pos (by show 3 * (h % 2) % 3 = 0; omega),
    if_pos (by show (10 + 10 * (h / 2) + j.val) % 10 = 0; omega)]
  rfl

theorem agEven (X : HbBuf F c MX) (C : HbBuf F c MC) (G : IVec S16x128 32) (k : Fin k0_t1_loop.trips) (f : HbBuf F c MP) (h : ℕ) (hh : h < 12)
    (off : Fin 5 → ℕ) (hin) (e : off = ![3 * (h % 2) + 1, k.val, 10 + 10 * (h / 2), 0, 0]) (v : Vec F S1x1x10x2x128 .bf16)
    (hv : v = pcEven (xdT X C G k 0 h) (xdT X C G k 1 h)) (x : S1x1x10x2x128.Idx) :
    v x = pNext X C G k f ((Rect.unit (s := S6x20x80x2x128) off S1x1x10x2x128.size hin).emb x) := by
  have hk := k.isLt
  have ht := trips1
  subst hv
  obtain ⟨j, b, l, hx⟩ : ∃ (j : Fin 10) (b : Fin 2) (l : Fin 128), x = ix5 (0 : Fin 1) (0 : Fin 1) j b l := by idx_vars x; exact ⟨_, _, _, by congr 1 <;> exact Subsingleton.elim _ _⟩
  rw [emb5 10 (3 * (h % 2) + 1) k.val (10 + 10 * (h / 2)) (by omega) (by omega) (by omega) (by omega) off _ hin e rfl j b l x (fun a => by rw [hx]), pNext_at]
  have hj := j.isLt
  unfold pRow
  rw [if_neg (by show ¬ (10 + 10 * (h / 2) + j.val < 10 ∨ 70 ≤ 10 + 10 * (h / 2) + j.val); omega), if_neg (by show ¬ (3 * (h % 2) + 1) % 3 = 0; omega), hx, pcEven_apply]
  have e1 : 2 * ((10 + 10 * (h / 2) + j.val) / 10 - 1) + (3 * (h % 2) + 1) / 3 = h := by omega
  have e2 : (2 * ((10 + 10 * (h / 2) + j.val) % 10) + ((3 * (h % 2) + 1) % 3 - 1)) % 20 = 2 * j.val := by omega
  show (if b.val = 0 then xdT X C G k 0 h else xdT X C G k 1 h) _ = xdT X C G k b.val (2 * ((10 + 10 * (h / 2) + j.val) / 10 - 1) + (3 * (h % 2) + 1) / 3) (ix2 (⟨(2 * ((10 + 10 * (h / 2) + j.val) % 10) + ((3 * (h % 2) + 1) % 3 - 1)) % 20, _⟩ : Fin 20) l)
  rw [e1]
  have e3 : (⟨(2 * ((10 + 10 * (h / 2) + j.val) % 10) + ((3 * (h % 2) + 1) % 3 - 1)) % 20, Nat.mod_lt _ (by decide)⟩ : Fin 20) = ⟨2 * j.val, by omega⟩ := Fin.ext e2
  rw [e3]
  fin_vals b with hb <;> simp [hb]

theorem agOdd (X : HbBuf F c MX) (C : HbBuf F c MC) (G : IVec S16x128 32) (k : Fin k0_t1_loop.trips) (f : HbBuf F c MP) (h : ℕ) (hh : h < 12)
    (off : Fin 5 → ℕ) (hin) (e : off = ![3 * (h % 2) + 2, k.val, 10 + 10 * (h / 2), 0, 0]) (v : Vec F S1x1x10x2x128 .bf16)
    (hv : v = pcOdd (xdT X C G k 0 h) (xdT X C G k 1 h)) (x : S1x1x10x2x128.Idx) :
    v x = pNext X C G k f ((Rect.unit (s := S6x20x80x2x128) off S1x1x10x2x128.size hin).emb x) := by
  have hk := k.isLt
  have ht := trips1
  subst hv
  obtain ⟨j, b, l, hx⟩ : ∃ (j : Fin 10) (b : Fin 2) (l : Fin 128), x = ix5 (0 : Fin 1) (0 : Fin 1) j b l := by idx_vars x; exact ⟨_, _, _, by congr 1 <;> exact Subsingleton.elim _ _⟩
  rw [emb5 10 (3 * (h % 2) + 2) k.val (10 + 10 * (h / 2)) (by omega) (by omega) (by omega) (by omega) off _ hin e rfl j b l x (fun a => by rw [hx]), pNext_at]
  have hj := j.isLt
  unfold pRow
  rw [if_neg (by show ¬ (10 + 10 * (h / 2) + j.val < 10 ∨ 70 ≤ 10 + 10 * (h / 2) + j.val); omega), if_neg (by show ¬ (3 * (h % 2) + 2) % 3 = 0; omega), hx, pcOdd_apply]
  have e1 : 2 * ((10 + 10 * (h / 2) + j.val) / 10 - 1) + (3 * (h % 2) + 2) / 3 = h := by omega
  have e2 : (2 * ((10 + 10 * (h / 2) + j.val) % 10) + ((3 * (h % 2) + 2) % 3 - 1)) % 20 = 2 * j.val + 1 := by omega
  show (if b.val = 0 then xdT X C G k 0 h else xdT X C G k 1 h) _ = xdT X C G k b.val (2 * ((10 + 10 * (h / 2) + j.val) / 10 - 1) + (3 * (h % 2) + 2) / 3) (ix2 (⟨(2 * ((10 + 10 * (h / 2) + j.val) % 10) + ((3 * (h % 2) + 2) % 3 - 1)) % 20, _⟩ : Fin 20) l)
  rw [e1]
  have e3 : (⟨(2 * ((10 + 10 * (h / 2) + j.val) % 10) + ((3 * (h % 2) + 2) % 3 - 1)) % 20, Nat.mod_lt _ (by decide)⟩ : Fin 20) = ⟨2 * j.val + 1, by omega⟩ := Fin.ext e2
  rw [e3]
  fin_vals b with hb <;> simp [hb]

theorem agSh (X : HbBuf F c MX) (C : HbBuf F c MC) (G : IVec S16x128 32) (k : Fin k0_t1_loop.trips) (f : HbBuf F c MP) (h : ℕ) (hh : h < 12)
    (off : Fin 5 → ℕ) (hin) (e : off = ![3 * (h % 2), k.val, 11 + 10 * (h / 2), 0, 0]) (v : Vec F S1x1x9x2x128 .bf16)
    (hv : v = pcSh (xdT X C G k 0 h) (xdT X C G k 1 h)) (x : S1x1x9x2x128.Idx) :
    v x = pNext X C G k f ((Rect.unit (s := S6x20x80x2x128) off S1x1x9x2x128.size hin).emb x) := by
  have hk := k.isLt
  have ht := trips1
  subst hv
  obtain ⟨j, b, l, hx⟩ : ∃ (j : Fin 9) (b : Fin 2) (l : Fin 128), x = ix5 (0 : Fin 1) (0 : Fin 1) j b l := by idx_vars x; exact ⟨_, _, _, by congr 1 <;> exact Subsingleton.elim _ _⟩
  rw [emb5 9 (3 * (h % 2)) k.val (11 + 10 * (h / 2)) (by omega) (by omega) (by omega) (by omega) off _ hin e rfl j b l x (fun a => by rw [hx]), pNext_at]
  have hj := j.isLt
  unfold pRow
  rw [if_neg (by show ¬ (11 + 10 * (h / 2) + j.val < 10 ∨ 70 ≤ 11 + 10 * (h / 2) + j.val); omega), if_pos (by show (3 * (h % 2)) % 3 = 0; omega), if_neg (by show ¬ (11 + 10 * (h / 2) + j.val) % 10 = 0; omega), hx, pcSh_apply]
  have e1 : 2 * ((11 + 10 * (h / 2) + j.val) / 10 - 1) + (3 * (h % 2)) / 3 = h := by omega
  have e2 : (2 * ((11 + 10 * (h / 2) + j.val) % 10) - 1) % 20 = 2 * j.val + 1 := by omega
  show (if b.val = 0 then xdT X C G k 0 h else xdT X C G k 1 h) _ = xdT X C G k b.val (2 * ((11 + 10 * (h / 2) + j.val) / 10 - 1) + (3 * (h % 2)) / 3) (ix2 (⟨(2 * ((11 + 10 * (h / 2) + j.val) % 10) - 1) % 20, _⟩ : Fin 20) l)
  rw [e1]
  have e3 : (⟨(2 * ((11 + 10 * (h / 2) + j.val) % 10) - 1) % 20, Nat.mod_lt _ (by decide)⟩ : Fin 20) = ⟨2 * j.val + 1, by omega⟩ := Fin.ext e2
  rw [e3]
  fin_vals b with hb <;> simp [hb]

/-! ## The loads -/

theorem rdX (X : HbBuf F c MX) (k : Fin k0_t1_loop.trips) (b h : ℕ) (hb : b < 2) (hh : h < 12) (off : Fin 4 → ℕ) (hin : ∀ a, off a + S1x1x20x128.size a ≤ S2x12x20x2560.size a)
    (e : off = ![b, h, 0, 128 * k.val]) :
    View.readAt (Elt F) MX.view (Rect.unit (s := S2x12x20x2560) off S1x1x20x128.size hin).toLoadRect X = xLd X b h k := by
  subst e
  funext i
  show X ((Rect.unit (s := S2x12x20x2560) ![b, h, 0, 128 * k.val] S1x1x20x128.size hin).emb i) = X _
  congr 1
  funext a
  match a with
  | ⟨0, _⟩ => exact Fin.ext (by show b + 1 * (i 0).val = b % 2; have h : (i 0).val < 1 := (i 0).isLt; omega)
  | ⟨1, _⟩ => exact Fin.ext (by show h + 1 * (i 1).val = h % 12; have h : (i 1).val < 1 := (i 1).isLt; omega)
  | ⟨2, _⟩ => exact Fin.ext (by show 0 + 1 * (i 2).val = (i 2).val; omega)
  | ⟨3, _⟩ => exact Fin.ext (by show 128 * k.val + 1 * (i 3).val = 128 * k.val + (i 3).val; omega)
theorem rdC (C : HbBuf F c MC) (r : ℕ) (hr : r < 24) (hin : ∀ a, (![r, 0, 0, 0] : Fin 4 → ℕ) a + S1x16x2x128.size a ≤ S24x16x2x128.size a) :
    View.readAt (Elt F) MC.view (Rect.unit (s := S24x16x2x128) ![r, 0, 0, 0] S1x16x2x128.size hin).toLoadRect C = cLd C r := by
  funext i
  show C ((Rect.unit (s := S24x16x2x128) ![r, 0, 0, 0] S1x16x2x128.size hin).emb i) = C _
  congr 1
  funext a
  match a with
  | ⟨0, _⟩ => exact Fin.ext (by show r + 1 * (i 0).val = r % 24; have h : (i 0).val < 1 := (i 0).isLt; omega)
  | ⟨1, _⟩ => exact Fin.ext (by show 0 + 1 * (i 1).val = (i 1).val; omega)
  | ⟨2, _⟩ => exact Fin.ext (by show 0 + 1 * (i 2).val = (i 2).val; omega)
  | ⟨3, _⟩ => exact Fin.ext (by show 0 + 1 * (i 3).val = (i 3).val; omega)

/-! ## The step's offsets in closed form -/

theorem off1_eq : ∀ k : Fin k0_t1_loop.trips, k0_off1 k = ![0, k.val, 0, 0, 0] := by decide +kernel
theorem off2_eq : ∀ k : Fin k0_t1_loop.trips, k0_off2 k = ![0, k.val, 70, 0, 0] := by decide +kernel
theorem off3_eq : ∀ k : Fin k0_t1_loop.trips, k0_off3 k = ![1, k.val, 0, 0, 0] := by decide +kernel
theorem off4_eq : ∀ k : Fin k0_t1_loop.trips, k0_off4 k = ![1, k.val, 70, 0, 0] := by decide +kernel
theorem off5_eq : ∀ k : Fin k0_t1_loop.trips, k0_off5 k = ![2, k.val, 0, 0, 0] := by decide +kernel
theorem off6_eq : ∀ k : Fin k0_t1_loop.trips, k0_off6 k = ![2, k.val, 70, 0, 0] := by decide +kernel
theorem off7_eq : ∀ k : Fin k0_t1_loop.trips, k0_off7 k = ![3, k.val, 0, 0, 0] := by decide +kernel
theorem off8_eq : ∀ k : Fin k0_t1_loop.trips, k0_off8 k = ![3, k.val, 70, 0, 0] := by decide +kernel
theorem off9_eq : ∀ k : Fin k0_t1_loop.trips, k0_off9 k = ![4, k.val, 0, 0, 0] := by decide +kernel
theorem off10_eq : ∀ k : Fin k0_t1_loop.trips, k0_off10 k = ![4, k.val, 70, 0, 0] := by decide +kernel
theorem off11_eq : ∀ k : Fin k0_t1_loop.trips, k0_off11 k = ![5, k.val, 0, 0, 0] := by decide +kernel
theorem off12_eq : ∀ k : Fin k0_t1_loop.trips, k0_off12 k = ![5, k.val, 70, 0, 0] := by decide +kernel
theorem off13_eq : ∀ k : Fin k0_t1_loop.trips, k0_off13 k = ![0, 0, 0, 128 * k.val] := by decide +kernel
theorem off14_eq : ∀ k : Fin k0_t1_loop.trips, k0_off14 k = ![1, 0, 0, 128 * k.val] := by decide +kernel
theorem off15_eq : ∀ k : Fin k0_t1_loop.trips, k0_off15 k = ![3 * (0 % 2) + 1, k.val, 10 + 10 * (0 / 2), 0, 0] := by decide +kernel
theorem off16_eq : ∀ k : Fin k0_t1_loop.trips, k0_off16 k = ![3 * (0 % 2) + 2, k.val, 10 + 10 * (0 / 2), 0, 0] := by decide +kernel
theorem off17_eq : ∀ k : Fin k0_t1_loop.trips, k0_off17 k = ![3 * (0 % 2), k.val, 10 + 10 * (0 / 2), 0, 0] := by decide +kernel
theorem off18_eq : ∀ k : Fin k0_t1_loop.trips, k0_off18 k = ![3 * (0 % 2), k.val, 11 + 10 * (0 / 2), 0, 0] := by decide +kernel
theorem off19_eq : ∀ k : Fin k0_t1_loop.trips, k0_off19 k = ![0, 1, 0, 128 * k.val] := by decide +kernel
theorem off20_eq : ∀ k : Fin k0_t1_loop.trips, k0_off20 k = ![1, 1, 0, 128 * k.val] := by decide +kernel
theorem off21_eq : ∀ k : Fin k0_t1_loop.trips, k0_off21 k = ![3 * (1 % 2) + 1, k.val, 10 + 10 * (1 / 2), 0, 0] := by decide +kernel
theorem off22_eq : ∀ k : Fin k0_t1_loop.trips, k0_off22 k = ![3 * (1 % 2) + 2, k.val, 10 + 10 * (1 / 2), 0, 0] := by decide +kernel
theorem off23_eq : ∀ k : Fin k0_t1_loop.trips, k0_off23 k = ![3 * (1 % 2), k.val, 10 + 10 * (1 / 2), 0, 0] := by decide +kernel
theorem off24_eq : ∀ k : Fin k0_t1_loop.trips, k0_off24 k = ![3 * (1 % 2), k.val, 11 + 10 * (1 / 2), 0, 0] := by decide +kernel
theorem off25_eq : ∀ k : Fin k0_t1_loop.trips, k0_off25 k = ![0, 2, 0, 128 * k.val] := by decide +kernel
theorem off26_eq : ∀ k : Fin k0_t1_loop.trips, k0_off26 k = ![1, 2, 0, 128 * k.val] := by decide +kernel
theorem off27_eq : ∀ k : Fin k0_t1_loop.trips, k0_off27 k = ![3 * (2 % 2) + 1, k.val, 10 + 10 * (2 / 2), 0, 0] := by decide +kernel
theorem off28_eq : ∀ k : Fin k0_t1_loop.trips, k0_off28 k = ![3 * (2 % 2) + 2, k.val, 10 + 10 * (2 / 2), 0, 0] := by decide +kernel
theorem off29_eq : ∀ k : Fin k0_t1_loop.trips, k0_off29 k = ![3 * (2 % 2), k.val, 10 + 10 * (2 / 2), 0, 0] := by decide +kernel
theorem off30_eq : ∀ k : Fin k0_t1_loop.trips, k0_off30 k = ![3 * (2 % 2), k.val, 11 + 10 * (2 / 2), 0, 0] := by decide +kernel
theorem off31_eq : ∀ k : Fin k0_t1_loop.trips, k0_off31 k = ![0, 3, 0, 128 * k.val] := by decide +kernel
theorem off32_eq : ∀ k : Fin k0_t1_loop.trips, k0_off32 k = ![1, 3, 0, 128 * k.val] := by decide +kernel
theorem off33_eq : ∀ k : Fin k0_t1_loop.trips, k0_off33 k = ![3 * (3 % 2) + 1, k.val, 10 + 10 * (3 / 2), 0, 0] := by decide +kernel
theorem off34_eq : ∀ k : Fin k0_t1_loop.trips, k0_off34 k = ![3 * (3 % 2) + 2, k.val, 10 + 10 * (3 / 2), 0, 0] := by decide +kernel
theorem off35_eq : ∀ k : Fin k0_t1_loop.trips, k0_off35 k = ![3 * (3 % 2), k.val, 10 + 10 * (3 / 2), 0, 0] := by decide +kernel
theorem off36_eq : ∀ k : Fin k0_t1_loop.trips, k0_off36 k = ![3 * (3 % 2), k.val, 11 + 10 * (3 / 2), 0, 0] := by decide +kernel
theorem off37_eq : ∀ k : Fin k0_t1_loop.trips, k0_off37 k = ![0, 4, 0, 128 * k.val] := by decide +kernel
theorem off38_eq : ∀ k : Fin k0_t1_loop.trips, k0_off38 k = ![1, 4, 0, 128 * k.val] := by decide +kernel
theorem off39_eq : ∀ k : Fin k0_t1_loop.trips, k0_off39 k = ![3 * (4 % 2) + 1, k.val, 10 + 10 * (4 / 2), 0, 0] := by decide +kernel
theorem off40_eq : ∀ k : Fin k0_t1_loop.trips, k0_off40 k = ![3 * (4 % 2) + 2, k.val, 10 + 10 * (4 / 2), 0, 0] := by decide +kernel
theorem off41_eq : ∀ k : Fin k0_t1_loop.trips, k0_off41 k = ![3 * (4 % 2), k.val, 10 + 10 * (4 / 2), 0, 0] := by decide +kernel
theorem off42_eq : ∀ k : Fin k0_t1_loop.trips, k0_off42 k = ![3 * (4 % 2), k.val, 11 + 10 * (4 / 2), 0, 0] := by decide +kernel
theorem off43_eq : ∀ k : Fin k0_t1_loop.trips, k0_off43 k = ![0, 5, 0, 128 * k.val] := by decide +kernel
theorem off44_eq : ∀ k : Fin k0_t1_loop.trips, k0_off44 k = ![1, 5, 0, 128 * k.val] := by decide +kernel
theorem off45_eq : ∀ k : Fin k0_t1_loop.trips, k0_off45 k = ![3 * (5 % 2) + 1, k.val, 10 + 10 * (5 / 2), 0, 0] := by decide +kernel
theorem off46_eq : ∀ k : Fin k0_t1_loop.trips, k0_off46 k = ![3 * (5 % 2) + 2, k.val, 10 + 10 * (5 / 2), 0, 0] := by decide +kernel
theorem off47_eq : ∀ k : Fin k0_t1_loop.trips, k0_off47 k = ![3 * (5 % 2), k.val, 10 + 10 * (5 / 2), 0, 0] := by decide +kernel
theorem off48_eq : ∀ k : Fin k0_t1_loop.trips, k0_off48 k = ![3 * (5 % 2), k.val, 11 + 10 * (5 / 2), 0, 0] := by decide +kernel
theorem off49_eq : ∀ k : Fin k0_t1_loop.trips, k0_off49 k = ![0, 6, 0, 128 * k.val] := by decide +kernel
theorem off50_eq : ∀ k : Fin k0_t1_loop.trips, k0_off50 k = ![1, 6, 0, 128 * k.val] := by decide +kernel
theorem off51_eq : ∀ k : Fin k0_t1_loop.trips, k0_off51 k = ![3 * (6 % 2) + 1, k.val, 10 + 10 * (6 / 2), 0, 0] := by decide +kernel
theorem off52_eq : ∀ k : Fin k0_t1_loop.trips, k0_off52 k = ![3 * (6 % 2) + 2, k.val, 10 + 10 * (6 / 2), 0, 0] := by decide +kernel
theorem off53_eq : ∀ k : Fin k0_t1_loop.trips, k0_off53 k = ![3 * (6 % 2), k.val, 10 + 10 * (6 / 2), 0, 0] := by decide +kernel
theorem off54_eq : ∀ k : Fin k0_t1_loop.trips, k0_off54 k = ![3 * (6 % 2), k.val, 11 + 10 * (6 / 2), 0, 0] := by decide +kernel
theorem off55_eq : ∀ k : Fin k0_t1_loop.trips, k0_off55 k = ![0, 7, 0, 128 * k.val] := by decide +kernel
theorem off56_eq : ∀ k : Fin k0_t1_loop.trips, k0_off56 k = ![1, 7, 0, 128 * k.val] := by decide +kernel
theorem off57_eq : ∀ k : Fin k0_t1_loop.trips, k0_off57 k = ![3 * (7 % 2) + 1, k.val, 10 + 10 * (7 / 2), 0, 0] := by decide +kernel
theorem off58_eq : ∀ k : Fin k0_t1_loop.trips, k0_off58 k = ![3 * (7 % 2) + 2, k.val, 10 + 10 * (7 / 2), 0, 0] := by decide +kernel
theorem off59_eq : ∀ k : Fin k0_t1_loop.trips, k0_off59 k = ![3 * (7 % 2), k.val, 10 + 10 * (7 / 2), 0, 0] := by decide +kernel
theorem off60_eq : ∀ k : Fin k0_t1_loop.trips, k0_off60 k = ![3 * (7 % 2), k.val, 11 + 10 * (7 / 2), 0, 0] := by decide +kernel
theorem off61_eq : ∀ k : Fin k0_t1_loop.trips, k0_off61 k = ![0, 8, 0, 128 * k.val] := by decide +kernel
theorem off62_eq : ∀ k : Fin k0_t1_loop.trips, k0_off62 k = ![1, 8, 0, 128 * k.val] := by decide +kernel
theorem off63_eq : ∀ k : Fin k0_t1_loop.trips, k0_off63 k = ![3 * (8 % 2) + 1, k.val, 10 + 10 * (8 / 2), 0, 0] := by decide +kernel
theorem off64_eq : ∀ k : Fin k0_t1_loop.trips, k0_off64 k = ![3 * (8 % 2) + 2, k.val, 10 + 10 * (8 / 2), 0, 0] := by decide +kernel
theorem off65_eq : ∀ k : Fin k0_t1_loop.trips, k0_off65 k = ![3 * (8 % 2), k.val, 10 + 10 * (8 / 2), 0, 0] := by decide +kernel
theorem off66_eq : ∀ k : Fin k0_t1_loop.trips, k0_off66 k = ![3 * (8 % 2), k.val, 11 + 10 * (8 / 2), 0, 0] := by decide +kernel
theorem off67_eq : ∀ k : Fin k0_t1_loop.trips, k0_off67 k = ![0, 9, 0, 128 * k.val] := by decide +kernel
theorem off68_eq : ∀ k : Fin k0_t1_loop.trips, k0_off68 k = ![1, 9, 0, 128 * k.val] := by decide +kernel
theorem off69_eq : ∀ k : Fin k0_t1_loop.trips, k0_off69 k = ![3 * (9 % 2) + 1, k.val, 10 + 10 * (9 / 2), 0, 0] := by decide +kernel
theorem off70_eq : ∀ k : Fin k0_t1_loop.trips, k0_off70 k = ![3 * (9 % 2) + 2, k.val, 10 + 10 * (9 / 2), 0, 0] := by decide +kernel
theorem off71_eq : ∀ k : Fin k0_t1_loop.trips, k0_off71 k = ![3 * (9 % 2), k.val, 10 + 10 * (9 / 2), 0, 0] := by decide +kernel
theorem off72_eq : ∀ k : Fin k0_t1_loop.trips, k0_off72 k = ![3 * (9 % 2), k.val, 11 + 10 * (9 / 2), 0, 0] := by decide +kernel
theorem off73_eq : ∀ k : Fin k0_t1_loop.trips, k0_off73 k = ![0, 10, 0, 128 * k.val] := by decide +kernel
theorem off74_eq : ∀ k : Fin k0_t1_loop.trips, k0_off74 k = ![1, 10, 0, 128 * k.val] := by decide +kernel
theorem off75_eq : ∀ k : Fin k0_t1_loop.trips, k0_off75 k = ![3 * (10 % 2) + 1, k.val, 10 + 10 * (10 / 2), 0, 0] := by decide +kernel
theorem off76_eq : ∀ k : Fin k0_t1_loop.trips, k0_off76 k = ![3 * (10 % 2) + 2, k.val, 10 + 10 * (10 / 2), 0, 0] := by decide +kernel
theorem off77_eq : ∀ k : Fin k0_t1_loop.trips, k0_off77 k = ![3 * (10 % 2), k.val, 10 + 10 * (10 / 2), 0, 0] := by decide +kernel
theorem off78_eq : ∀ k : Fin k0_t1_loop.trips, k0_off78 k = ![3 * (10 % 2), k.val, 11 + 10 * (10 / 2), 0, 0] := by decide +kernel
theorem off79_eq : ∀ k : Fin k0_t1_loop.trips, k0_off79 k = ![0, 11, 0, 128 * k.val] := by decide +kernel
theorem off80_eq : ∀ k : Fin k0_t1_loop.trips, k0_off80 k = ![1, 11, 0, 128 * k.val] := by decide +kernel
theorem off81_eq : ∀ k : Fin k0_t1_loop.trips, k0_off81 k = ![3 * (11 % 2) + 1, k.val, 10 + 10 * (11 / 2), 0, 0] := by decide +kernel
theorem off82_eq : ∀ k : Fin k0_t1_loop.trips, k0_off82 k = ![3 * (11 % 2) + 2, k.val, 10 + 10 * (11 / 2), 0, 0] := by decide +kernel
theorem off83_eq : ∀ k : Fin k0_t1_loop.trips, k0_off83 k = ![3 * (11 % 2), k.val, 10 + 10 * (11 / 2), 0, 0] := by decide +kernel
theorem off84_eq : ∀ k : Fin k0_t1_loop.trips, k0_off84 k = ![3 * (11 % 2), k.val, 11 + 10 * (11 / 2), 0, 0] := by decide +kernel

/-! ## The loop's invariant -/

/-- Before step `k` the tiles before `k` are filled in. -/
def PlaneInv (c : Dev nD) (X : HbBuf F c MX) (C : HbBuf F c MC) (G : IVec S16x128 32) (k : ℕ) (f : HbBuf F c MP) : Prop :=
  ∀ (p : Fin 6) (t : Fin k0_t1_loop.trips) (ht : t.val < 20) (r : Fin 80) (b : Fin 2) (l : Fin 128), t.val < k → f (ix5 p (⟨t.val, ht⟩ : Fin 20) r b l) = pRow X C G t p.val r.val b.val l
@[simp] theorem planeInv_zero (c : Dev nD) (X : HbBuf F c MX) (C : HbBuf F c MC) (G : IVec S16x128 32) (f : HbBuf F c MP) : PlaneInv c X C G 0 f :=
  fun _ _ _ _ _ _ h => absurd h (Nat.not_lt_zero _)
theorem planeInv_succ (c : Dev nD) (X : HbBuf F c MX) (C : HbBuf F c MC) (G : IVec S16x128 32) (k : Fin k0_t1_loop.trips) (f f' : HbBuf F c MP)
    (h : PlaneInv c X C G k.val f) (h' : ∀ i, f' i = pNext X C G k f i) : PlaneInv c X C G (k.val + 1) f' := by
  intro p t ht r b l hlt
  rw [h']
  by_cases e : t.val = k.val
  · obtain rfl : t = k := Fin.ext e
    exact pNext_at _ _ _ _ _ _ _ _ _ _
  · exact (if_neg e).trans (h p t ht r b l (by omega))

end Cert.KernelIdeal.Hand

end
-- ==== Proof.KernelIdeal.Planes.lean ====
/-
  The kernel's first loop, twenty steps, one lane tile of the input each: it decodes the tile's codes and scales and
  lays them out in the planes the matrix products read.
-/
module

public import proofs.«01_k».proof.Proof.KernelIdeal.Base
public import proofs.«01_k».proof.Proof.KernelIdeal.PlaneDef

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The step's program. -/
abbrev body1 (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32) :
    Fin k0_t1_loop.trips → Unit → Prog (TpuEff nD τ sig (Elt F) Λ₀ .tc) Unit :=
  k0_t1_body HX (Memref.isWhole_whole _) HS (Memref.isWhole_whole _) HW (Memref.isWhole_whole _) HWS (Memref.isWhole_whole _) arg4 harg4 arg5 harg5
    MX (Memref.isWhole_whole _) MS (Memref.isWhole_whole _) MW (Memref.isWhole_whole _) MWS (Memref.isWhole_whole _)
    MC (Memref.isWhole_whole _) MP (Memref.isWhole_whole _) MD (Memref.isWhole_whole _) MA (Memref.isWhole_whole _) cc0_scoped0 cc0_scoped1 cc0_scoped2 v585_r0 c32_i32_497_r0 v587_r0 v594_r0 v596_r0

/-- Before step `k`: the codes and the scales as they are, the planes as `PlaneInv` says. -/
abbrev inv1 (X : HbBuf F c MX) (C : HbBuf F c MC) (G : IVec S16x128 32) (k : ℕ) (_ : Unit) : sProp 𝕄 :=
  iprop(holds c MX X ∗ holds c MC C ∗ ∃ f, holds c MP f ∗ ⌜PlaneInv c X C G k f⌝)

theorem step1 (X : HbBuf F c MX) (C : HbBuf F c MC) (k : Fin k0_t1_loop.trips)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32) :
    inv1 c X C (k0_pay357 v585_r0 c32_i32_497_r0 v587_r0 v594_r0 v596_r0) k.val () ⊢ wp frame (wpE (defs₀ (F := F)) Variants.none c none) Set.univ (body1 arg4 harg4 arg5 harg5 v585_r0 c32_i32_497_r0 v587_r0 v594_r0 v596_r0 k ())
      (inv1 c X C (k0_pay357 v585_r0 c32_i32_497_r0 v587_r0 v594_r0 v596_r0) (k.val + 1)) := by
  have hk : k.val < 20 := Nat.lt_of_lt_of_le k.isLt (by decide)
  unfold body1 k0_t1_body
  iintro ⟨Hx, Hc, ⟨%f, Hp, %hf⟩⟩
  sl_exec
  sl_step
  isplitl [Hx]; · iexact Hx
  isplitl [Hc]; · iexact Hc
  iexists _
  isplitl [Hp]; · iexact Hp
  ipureintro
  refine planeInv_succ c X C _ k f _ hf ?_
  intro i
  refine writes_agree f (pNext X C _ k f) _ ?_ i ?_
  ·
    refine List.forall_mem_cons.mpr ⟨?_, ?_⟩
    · exact agSh X C _ k f 11 (by decide) _ (inb5 9 _ _ k _ (off84_eq k) (by decide) (by decide)) (off84_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 11 (by decide) (by decide) _ _ (off79_eq k), rdX X k 1 11 (by decide) (by decide) _ _ (off80_eq k), rdC C 11 (by decide), rdC C 23 (by decide)]); rfl)
    refine List.forall_mem_cons.mpr ⟨?_, ?_⟩
    · exact agZ1 X C _ k f 11 (by decide) _ (inb5 1 _ _ k _ (off83_eq k) (by decide) (by decide)) (off83_eq k)
    refine List.forall_mem_cons.mpr ⟨?_, ?_⟩
    · exact agOdd X C _ k f 11 (by decide) _ (inb5 10 _ _ k _ (off82_eq k) (by decide) (by decide)) (off82_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 11 (by decide) (by decide) _ _ (off79_eq k), rdX X k 1 11 (by decide) (by decide) _ _ (off80_eq k), rdC C 11 (by decide), rdC C 23 (by decide)]); rfl)
    refine List.forall_mem_cons.mpr ⟨?_, ?_⟩
    · exact agEven X C _ k f 11 (by decide) _ (inb5 10 _ _ k _ (off81_eq k) (by decide) (by decide)) (off81_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 11 (by decide) (by decide) _ _ (off79_eq k), rdX X k 1 11 (by decide) (by decide) _ _ (off80_eq k), rdC C 11 (by decide), rdC C 23 (by decide)]); rfl)
    refine List.forall_mem_cons.mpr ⟨?_, ?_⟩
    · exact agSh X C _ k f 10 (by decide) _ (inb5 9 _ _ k _ (off78_eq k) (by decide) (by decide)) (off78_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 10 (by decide) (by decide) _ _ (off73_eq k), rdX X k 1 10 (by decide) (by decide) _ _ (off74_eq k), rdC C 10 (by decide), rdC C 22 (by decide)]); rfl)
    refine List.forall_mem_cons.mpr ⟨?_, ?_⟩
    · exact agZ1 X C _ k f 10 (by decide) _ (inb5 1 _ _ k _ (off77_eq k) (by decide) (by decide)) (off77_eq k)
    refine List.forall_mem_cons.mpr ⟨?_, ?_⟩
    · exact agOdd X C _ k f 10 (by decide) _ (inb5 10 _ _ k _ (off76_eq k) (by decide) (by decide)) (off76_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 10 (by decide) (by decide) _ _ (off73_eq k), rdX X k 1 10 (by decide) (by decide) _ _ (off74_eq k), rdC C 10 (by decide), rdC C 22 (by decide)]); rfl)
    refine List.forall_mem_cons.mpr ⟨?_, ?_⟩
    · exact agEven X C _ k f 10 (by decide) _ (inb5 10 _ _ k _ (off75_eq k) (by decide) (by decide)) (off75_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 10 (by decide) (by decide) _ _ (off73_eq k), rdX X k 1 10 (by decide) (by decide) _ _ (off74_eq k), rdC C 10 (by decide), rdC C 22 (by decide)]); rfl)
    refine List.forall_mem_cons.mpr ⟨?_, ?_⟩
    · exact agSh X C _ k f 9 (by decide) _ (inb5 9 _ _ k _ (off72_eq k) (by decide) (by decide)) (off72_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 9 (by decide) (by decide) _ _ (off67_eq k), rdX X k 1 9 (by decide) (by decide) _ _ (off68_eq k), rdC C 9 (by decide), rdC C 21 (by decide)]); rfl)
    refine List.forall_mem_cons.mpr ⟨?_, ?_⟩
    · exact agZ1 X C _ k f 9 (by decide) _ (inb5 1 _ _ k _ (off71_eq k) (by decide) (by decide)) (off71_eq k)
    refine List.forall_mem_cons.mpr ⟨?_, ?_⟩
    · exact agOdd X C _ k f 9 (by decide) _ (inb5 10 _ _ k _ (off70_eq k) (by decide) (by decide)) (off70_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 9 (by decide) (by decide) _ _ (off67_eq k), rdX X k 1 9 (by decide) (by decide) _ _ (off68_eq k), rdC C 9 (by decide), rdC C 21 (by decide)]); rfl)
    refine List.forall_mem_cons.mpr ⟨?_, ?_⟩
    · exact agEven X C _ k f 9 (by decide) _ (inb5 10 _ _ k _ (off69_eq k) (by decide) (by decide)) (off69_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 9 (by decide) (by decide) _ _ (off67_eq k), rdX X k 1 9 (by decide) (by decide) _ _ (off68_eq k), rdC C 9 (by decide), rdC C 21 (by decide)]); rfl)
    refine List.forall_mem_cons.mpr ⟨?_, ?_⟩
    · exact agSh X C _ k f 8 (by decide) _ (inb5 9 _ _ k _ (off66_eq k) (by decide) (by decide)) (off66_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 8 (by decide) (by decide) _ _ (off61_eq k), rdX X k 1 8 (by decide) (by decide) _ _ (off62_eq k), rdC C 8 (by decide), rdC C 20 (by decide)]); rfl)
    refine List.forall_mem_cons.mpr ⟨?_, ?_⟩
    · exact agZ1 X C _ k f 8 (by decide) _ (inb5 1 _ _ k _ (off65_eq k) (by decide) (by decide)) (off65_eq k)
    refine List.forall_mem_cons.mpr ⟨?_, ?_⟩
    · exact agOdd X C _ k f 8 (by decide) _ (inb5 10 _ _ k _ (off64_eq k) (by decide) (by decide)) (off64_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 8 (by decide) (by decide) _ _ (off61_eq k), rdX X k 1 8 (by decide) (by decide) _ _ (off62_eq k), rdC C 8 (by decide), rdC C 20 (by decide)]); rfl)
    refine List.forall_mem_cons.mpr ⟨?_, ?_⟩
    · exact agEven X C _ k f 8 (by decide) _ (inb5 10 _ _ k _ (off63_eq k) (by decide) (by decide)) (off63_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 8 (by decide) (by decide) _ _ (off61_eq k), rdX X k 1 8 (by decide) (by decide) _ _ (off62_eq k), rdC C 8 (by decide), rdC C 20 (by decide)]); rfl)
    refine List.forall_mem_cons.mpr ⟨?_, ?_⟩
    · exact agSh X C _ k f 7 (by decide) _ (inb5 9 _ _ k _ (off60_eq k) (by decide) (by decide)) (off60_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 7 (by decide) (by decide) _ _ (off55_eq k), rdX X k 1 7 (by decide) (by decide) _ _ (off56_eq k), rdC C 7 (by decide), rdC C 19 (by decide)]); rfl)
    refine List.forall_mem_cons.mpr ⟨?_, ?_⟩
    · exact agZ1 X C _ k f 7 (by decide) _ (inb5 1 _ _ k _ (off59_eq k) (by decide) (by decide)) (off59_eq k)
    refine List.forall_mem_cons.mpr ⟨?_, ?_⟩
    · exact agOdd X C _ k f 7 (by decide) _ (inb5 10 _ _ k _ (off58_eq k) (by decide) (by decide)) (off58_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 7 (by decide) (by decide) _ _ (off55_eq k), rdX X k 1 7 (by decide) (by decide) _ _ (off56_eq k), rdC C 7 (by decide), rdC C 19 (by decide)]); rfl)
    refine List.forall_mem_cons.mpr ⟨?_, ?_⟩
    · exact agEven X C _ k f 7 (by decide) _ (inb5 10 _ _ k _ (off57_eq k) (by decide) (by decide)) (off57_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 7 (by decide) (by decide) _ _ (off55_eq k), rdX X k 1 7 (by decide) (by decide) _ _ (off56_eq k), rdC C 7 (by decide), rdC C 19 (by decide)]); rfl)
    refine List.forall_mem_cons.mpr ⟨?_, ?_⟩
    · exact agSh X C _ k f 6 (by decide) _ (inb5 9 _ _ k _ (off54_eq k) (by decide) (by decide)) (off54_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 6 (by decide) (by decide) _ _ (off49_eq k), rdX X k 1 6 (by decide) (by decide) _ _ (off50_eq k), rdC C 6 (by decide), rdC C 18 (by decide)]); rfl)
    refine List.forall_mem_cons.mpr ⟨?_, ?_⟩
    · exact agZ1 X C _ k f 6 (by decide) _ (inb5 1 _ _ k _ (off53_eq k) (by decide) (by decide)) (off53_eq k)
    refine List.forall_mem_cons.mpr ⟨?_, ?_⟩
    · exact agOdd X C _ k f 6 (by decide) _ (inb5 10 _ _ k _ (off52_eq k) (by decide) (by decide)) (off52_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 6 (by decide) (by decide) _ _ (off49_eq k), rdX X k 1 6 (by decide) (by decide) _ _ (off50_eq k), rdC C 6 (by decide), rdC C 18 (by decide)]); rfl)
    refine List.forall_mem_cons.mpr ⟨?_, ?_⟩
    · exact agEven X C _ k f 6 (by decide) _ (inb5 10 _ _ k _ (off51_eq k) (by decide) (by decide)) (off51_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 6 (by decide) (by decide) _ _ (off49_eq k), rdX X k 1 6 (by decide) (by decide) _ _ (off50_eq k), rdC C 6 (by decide), rdC C 18 (by decide)]); rfl)
    refine List.forall_mem_cons.mpr ⟨?_, ?_⟩
    · exact agSh X C _ k f 5 (by decide) _ (inb5 9 _ _ k _ (off48_eq k) (by decide) (by decide)) (off48_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 5 (by decide) (by decide) _ _ (off43_eq k), rdX X k 1 5 (by decide) (by decide) _ _ (off44_eq k), rdC C 5 (by decide), rdC C 17 (by decide)]); rfl)
    refine List.forall_mem_cons.mpr ⟨?_, ?_⟩
    · exact agZ1 X C _ k f 5 (by decide) _ (inb5 1 _ _ k _ (off47_eq k) (by decide) (by decide)) (off47_eq k)
    refine List.forall_mem_cons.mpr ⟨?_, ?_⟩
    · exact agOdd X C _ k f 5 (by decide) _ (inb5 10 _ _ k _ (off46_eq k) (by decide) (by decide)) (off46_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 5 (by decide) (by decide) _ _ (off43_eq k), rdX X k 1 5 (by decide) (by decide) _ _ (off44_eq k), rdC C 5 (by decide), rdC C 17 (by decide)]); rfl)
    refine List.forall_mem_cons.mpr ⟨?_, ?_⟩
    · exact agEven X C _ k f 5 (by decide) _ (inb5 10 _ _ k _ (off45_eq k) (by decide) (by decide)) (off45_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 5 (by decide) (by decide) _ _ (off43_eq k), rdX X k 1 5 (by decide) (by decide) _ _ (off44_eq k), rdC C 5 (by decide), rdC C 17 (by decide)]); rfl)
    refine List.forall_mem_cons.mpr ⟨?_, ?_⟩
    · exact agSh X C _ k f 4 (by decide) _ (inb5 9 _ _ k _ (off42_eq k) (by decide) (by decide)) (off42_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 4 (by decide) (by decide) _ _ (off37_eq k), rdX X k 1 4 (by decide) (by decide) _ _ (off38_eq k), rdC C 4 (by decide), rdC C 16 (by decide)]); rfl)
    refine List.forall_mem_cons.mpr ⟨?_, ?_⟩
    · exact agZ1 X C _ k f 4 (by decide) _ (inb5 1 _ _ k _ (off41_eq k) (by decide) (by decide)) (off41_eq k)
    refine List.forall_mem_cons.mpr ⟨?_, ?_⟩
    · exact agOdd X C _ k f 4 (by decide) _ (inb5 10 _ _ k _ (off40_eq k) (by decide) (by decide)) (off40_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 4 (by decide) (by decide) _ _ (off37_eq k), rdX X k 1 4 (by decide) (by decide) _ _ (off38_eq k), rdC C 4 (by decide), rdC C 16 (by decide)]); rfl)
    refine List.forall_mem_cons.mpr ⟨?_, ?_⟩
    · exact agEven X C _ k f 4 (by decide) _ (inb5 10 _ _ k _ (off39_eq k) (by decide) (by decide)) (off39_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 4 (by decide) (by decide) _ _ (off37_eq k), rdX X k 1 4 (by decide) (by decide) _ _ (off38_eq k), rdC C 4 (by decide), rdC C 16 (by decide)]); rfl)
    refine List.forall_mem_cons.mpr ⟨?_, ?_⟩
    · exact agSh X C _ k f 3 (by decide) _ (inb5 9 _ _ k _ (off36_eq k) (by decide) (by decide)) (off36_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 3 (by decide) (by decide) _ _ (off31_eq k), rdX X k 1 3 (by decide) (by decide) _ _ (off32_eq k), rdC C 3 (by decide), rdC C 15 (by decide)]); rfl)
    refine List.forall_mem_cons.mpr ⟨?_, ?_⟩
    · exact agZ1 X C _ k f 3 (by decide) _ (inb5 1 _ _ k _ (off35_eq k) (by decide) (by decide)) (off35_eq k)
    refine List.forall_mem_cons.mpr ⟨?_, ?_⟩
    · exact agOdd X C _ k f 3 (by decide) _ (inb5 10 _ _ k _ (off34_eq k) (by decide) (by decide)) (off34_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 3 (by decide) (by decide) _ _ (off31_eq k), rdX X k 1 3 (by decide) (by decide) _ _ (off32_eq k), rdC C 3 (by decide), rdC C 15 (by decide)]); rfl)
    refine List.forall_mem_cons.mpr ⟨?_, ?_⟩
    · exact agEven X C _ k f 3 (by decide) _ (inb5 10 _ _ k _ (off33_eq k) (by decide) (by decide)) (off33_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 3 (by decide) (by decide) _ _ (off31_eq k), rdX X k 1 3 (by decide) (by decide) _ _ (off32_eq k), rdC C 3 (by decide), rdC C 15 (by decide)]); rfl)
    refine List.forall_mem_cons.mpr ⟨?_, ?_⟩
    · exact agSh X C _ k f 2 (by decide) _ (inb5 9 _ _ k _ (off30_eq k) (by decide) (by decide)) (off30_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 2 (by decide) (by decide) _ _ (off25_eq k), rdX X k 1 2 (by decide) (by decide) _ _ (off26_eq k), rdC C 2 (by decide), rdC C 14 (by decide)]); rfl)
    refine List.forall_mem_cons.mpr ⟨?_, ?_⟩
    · exact agZ1 X C _ k f 2 (by decide) _ (inb5 1 _ _ k _ (off29_eq k) (by decide) (by decide)) (off29_eq k)
    refine List.forall_mem_cons.mpr ⟨?_, ?_⟩
    · exact agOdd X C _ k f 2 (by decide) _ (inb5 10 _ _ k _ (off28_eq k) (by decide) (by decide)) (off28_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 2 (by decide) (by decide) _ _ (off25_eq k), rdX X k 1 2 (by decide) (by decide) _ _ (off26_eq k), rdC C 2 (by decide), rdC C 14 (by decide)]); rfl)
    refine List.forall_mem_cons.mpr ⟨?_, ?_⟩
    · exact agEven X C _ k f 2 (by decide) _ (inb5 10 _ _ k _ (off27_eq k) (by decide) (by decide)) (off27_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 2 (by decide) (by decide) _ _ (off25_eq k), rdX X k 1 2 (by decide) (by decide) _ _ (off26_eq k), rdC C 2 (by decide), rdC C 14 (by decide)]); rfl)
    refine List.forall_mem_cons.mpr ⟨?_, ?_⟩
    · exact agSh X C _ k f 1 (by decide) _ (inb5 9 _ _ k _ (off24_eq k) (by decide) (by decide)) (off24_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 1 (by decide) (by decide) _ _ (off19_eq k), rdX X k 1 1 (by decide) (by decide) _ _ (off20_eq k), rdC C 1 (by decide), rdC C 13 (by decide)]); rfl)
    refine List.forall_mem_cons.mpr ⟨?_, ?_⟩
    · exact agZ1 X C _ k f 1 (by decide) _ (inb5 1 _ _ k _ (off23_eq k) (by decide) (by decide)) (off23_eq k)
    refine List.forall_mem_cons.mpr ⟨?_, ?_⟩
    · exact agOdd X C _ k f 1 (by decide) _ (inb5 10 _ _ k _ (off22_eq k) (by decide) (by decide)) (off22_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 1 (by decide) (by decide) _ _ (off19_eq k), rdX X k 1 1 (by decide) (by decide) _ _ (off20_eq k), rdC C 1 (by decide), rdC C 13 (by decide)]); rfl)
    refine List.forall_mem_cons.mpr ⟨?_, ?_⟩
    · exact agEven X C _ k f 1 (by decide) _ (inb5 10 _ _ k _ (off21_eq k) (by decide) (by decide)) (off21_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 1 (by decide) (by decide) _ _ (off19_eq k), rdX X k 1 1 (by decide) (by decide) _ _ (off20_eq k), rdC C 1 (by decide), rdC C 13 (by decide)]); rfl)
    refine List.forall_mem_cons.mpr ⟨?_, ?_⟩
    · exact agSh X C _ k f 0 (by decide) _ (inb5 9 _ _ k _ (off18_eq k) (by decide) (by decide)) (off18_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 0 (by decide) (by decide) _ _ (off13_eq k), rdX X k 1 0 (by decide) (by decide) _ _ (off14_eq k), rdC C 0 (by decide), rdC C 12 (by decide)]); rfl)
    refine List.forall_mem_cons.mpr ⟨?_, ?_⟩
    · exact agZ1 X C _ k f 0 (by decide) _ (inb5 1 _ _ k _ (off17_eq k) (by decide) (by decide)) (off17_eq k)
    refine List.forall_mem_cons.mpr ⟨?_, ?_⟩
    · exact agOdd X C _ k f 0 (by decide) _ (inb5 10 _ _ k _ (off16_eq k) (by decide) (by decide)) (off16_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 0 (by decide) (by decide) _ _ (off13_eq k), rdX X k 1 0 (by decide) (by decide) _ _ (off14_eq k), rdC C 0 (by decide), rdC C 12 (by decide)]); rfl)
    refine List.forall_mem_cons.mpr ⟨?_, ?_⟩
    · exact agEven X C _ k f 0 (by decide) _ (inb5 10 _ _ k _ (off15_eq k) (by decide) (by decide)) (off15_eq k) _ (by (try delta step1.sl.r step1.sl.r_2 step1.sl.r_3 step1.sl.r_4 step1.sl.r_5 step1.sl.r_6 step1.sl.r_7 step1.sl.r_8 step1.sl.r_9 step1.sl.r_10 step1.sl.r_11 step1.sl.r_12 step1.sl.r_13 step1.sl.r_14 step1.sl.r_15 step1.sl.r_16 step1.sl.r_17 step1.sl.r_18 step1.sl.r_19 step1.sl.r_20 step1.sl.r_21 step1.sl.r_22 step1.sl.r_23 step1.sl.r_24 step1.sl.r_25 step1.sl.r_26 step1.sl.r_27 step1.sl.r_28 step1.sl.r_29 step1.sl.r_30 step1.sl.r_31 step1.sl.r_32 step1.sl.r_33 step1.sl.r_34 step1.sl.r_35 step1.sl.r_36 step1.sl.r_37 step1.sl.r_38 step1.sl.r_39 step1.sl.r_40 step1.sl.r_41 step1.sl.r_42 step1.sl.r_43 step1.sl.r_44 step1.sl.r_45 step1.sl.r_46 step1.sl.r_47 step1.sl.r_48 step1.sl.r_49 step1.sl.r_50 step1.sl.r_51 step1.sl.r_52 step1.sl.r_53 step1.sl.r_54 step1.sl.r_56 step1.sl.r_57 step1.sl.r_58 step1.sl.r_59 step1.sl.r_60 step1.sl.r_61 step1.sl.r_62 step1.sl.r_63 step1.sl.r_64 step1.sl.r_65 step1.sl.r_66 step1.sl.r_67 step1.sl.r_68 step1.sl.r_69 step1.sl.r_70 step1.sl.r_71 step1.sl.r_72 step1.sl.r_73 step1.sl.r_74 step1.sl.r_75 step1.sl.r_76 step1.sl.r_77 step1.sl.r_78 step1.sl.r_79 step1.sl.r_80 step1.sl.r_81 step1.sl.r_82 step1.sl.r_83 step1.sl.r_85 step1.sl.r_86 step1.sl.r_87 step1.sl.r_88 step1.sl.r_89 step1.sl.r_90 step1.sl.r_91 step1.sl.r_92 step1.sl.r_93 step1.sl.r_94 step1.sl.r_95 step1.sl.r_96 step1.sl.r_97 step1.sl.r_98 step1.sl.r_99 step1.sl.r_100 step1.sl.r_101 step1.sl.r_104 step1.sl.r_105 step1.sl.r_106 step1.sl.r_107 step1.sl.r_108 step1.sl.r_109 step1.sl.r_110 step1.sl.r_111 step1.sl.r_112 step1.sl.r_113 step1.sl.r_114 step1.sl.r_115 step1.sl.r_116 step1.sl.r_117 step1.sl.r_118 step1.sl.r_119 step1.sl.r_120 step1.sl.r_121 step1.sl.r_122 step1.sl.r_123 step1.sl.r_124 step1.sl.r_125 step1.sl.r_126 step1.sl.r_128 step1.sl.r_129); (try simp only [rdX X k 0 0 (by decide) (by decide) _ _ (off13_eq k), rdX X k 1 0 (by decide) (by decide) _ _ (off14_eq k), rdC C 0 (by decide), rdC C 12 (by decide)]); rfl)
    refine List.forall_mem_cons.mpr ⟨?_, ?_⟩
    · exact agZ X C _ k f 5 70 (by decide) (by decide) _ (inb5 10 _ _ k _ (off12_eq k) (by decide) (by decide)) (off12_eq k)
    refine List.forall_mem_cons.mpr ⟨?_, ?_⟩
    · exact agZ X C _ k f 5 0 (by decide) (by decide) _ (inb5 10 _ _ k _ (off11_eq k) (by decide) (by decide)) (off11_eq k)
    refine List.forall_mem_cons.mpr ⟨?_, ?_⟩
    · exact agZ X C _ k f 4 70 (by decide) (by decide) _ (inb5 10 _ _ k _ (off10_eq k) (by decide) (by decide)) (off10_eq k)
    refine List.forall_mem_cons.mpr ⟨?_, ?_⟩
    · exact agZ X C _ k f 4 0 (by decide) (by decide) _ (inb5 10 _ _ k _ (off9_eq k) (by decide) (by decide)) (off9_eq k)
    refine List.forall_mem_cons.mpr ⟨?_, ?_⟩
    · exact agZ X C _ k f 3 70 (by decide) (by decide) _ (inb5 10 _ _ k _ (off8_eq k) (by decide) (by decide)) (off8_eq k)
    refine List.forall_mem_cons.mpr ⟨?_, ?_⟩
    · exact agZ X C _ k f 3 0 (by decide) (by decide) _ (inb5 10 _ _ k _ (off7_eq k) (by decide) (by decide)) (off7_eq k)
    refine List.forall_mem_cons.mpr ⟨?_, ?_⟩
    · exact agZ X C _ k f 2 70 (by decide) (by decide) _ (inb5 10 _ _ k _ (off6_eq k) (by decide) (by decide)) (off6_eq k)
    refine List.forall_mem_cons.mpr ⟨?_, ?_⟩
    · exact agZ X C _ k f 2 0 (by decide) (by decide) _ (inb5 10 _ _ k _ (off5_eq k) (by decide) (by decide)) (off5_eq k)
    refine List.forall_mem_cons.mpr ⟨?_, ?_⟩
    · exact agZ X C _ k f 1 70 (by decide) (by decide) _ (inb5 10 _ _ k _ (off4_eq k) (by decide) (by decide)) (off4_eq k)
    refine List.forall_mem_cons.mpr ⟨?_, ?_⟩
    · exact agZ X C _ k f 1 0 (by decide) (by decide) _ (inb5 10 _ _ k _ (off3_eq k) (by decide) (by decide)) (off3_eq k)
    refine List.forall_mem_cons.mpr ⟨?_, ?_⟩
    · exact agZ X C _ k f 0 70 (by decide) (by decide) _ (inb5 10 _ _ k _ (off2_eq k) (by decide) (by decide)) (off2_eq k)
    refine List.forall_mem_cons.mpr ⟨?_, ?_⟩
    · exact agZ X C _ k f 0 0 (by decide) (by decide) _ (inb5 10 _ _ k _ (off1_eq k) (by decide) (by decide)) (off1_eq k)
    exact fun _ h => nomatch h
  · by_cases ht : (i 1).val = k.val
    · left
      have hp : (i 0).val < 6 := (i 0).isLt
      have hr : (i 2).val < 80 := (i 2).isLt
      by_cases hp0 : (i 0).val = 0
      · by_cases hr1 : (i 2).val < 10
        · exact ⟨_, List.mem_of_getElem? (i := 59) rfl, mem_unit5 _ _ (inb5 10 _ _ k _ (off1_eq k) (by decide) (by decide)) 0 k.val 0 0 0 10 (off1_eq k) rfl i (by omega) ht (by omega) (by omega)⟩
        by_cases hr2 : 70 ≤ (i 2).val
        · exact ⟨_, List.mem_of_getElem? (i := 58) rfl, mem_unit5 _ _ (inb5 10 _ _ k _ (off2_eq k) (by decide) (by decide)) 0 k.val 70 0 0 10 (off2_eq k) rfl i (by omega) ht (by omega) (by omega)⟩
        by_cases hz0 : (i 2).val < 11
        · exact ⟨_, List.mem_of_getElem? (i := 45) rfl, mem_unit5 _ _ (inb5 1 _ _ k _ (off17_eq k) (by decide) (by decide)) 0 k.val (10 + 10 * (0 / 2)) 0 0 1 (off17_eq k) rfl i (by omega) ht (by omega) (by omega)⟩
        by_cases hq0 : (i 2).val < 20
        · exact ⟨_, List.mem_of_getElem? (i := 44) rfl, mem_unit5 _ _ (inb5 9 _ _ k _ (off18_eq k) (by decide) (by decide)) 0 k.val (11 + 10 * (0 / 2)) 0 0 9 (off18_eq k) rfl i (by omega) ht (by omega) (by omega)⟩
        by_cases hz1 : (i 2).val < 21
        · exact ⟨_, List.mem_of_getElem? (i := 37) rfl, mem_unit5 _ _ (inb5 1 _ _ k _ (off29_eq k) (by decide) (by decide)) 0 k.val (10 + 10 * (2 / 2)) 0 0 1 (off29_eq k) rfl i (by omega) ht (by omega) (by omega)⟩
        by_cases hq1 : (i 2).val < 30
        · exact ⟨_, List.mem_of_getElem? (i := 36) rfl, mem_unit5 _ _ (inb5 9 _ _ k _ (off30_eq k) (by decide) (by decide)) 0 k.val (11 + 10 * (2 / 2)) 0 0 9 (off30_eq k) rfl i (by omega) ht (by omega) (by omega)⟩
        by_cases hz2 : (i 2).val < 31
        · exact ⟨_, List.mem_of_getElem? (i := 29) rfl, mem_unit5 _ _ (inb5 1 _ _ k _ (off41_eq k) (by decide) (by decide)) 0 k.val (10 + 10 * (4 / 2)) 0 0 1 (off41_eq k) rfl i (by omega) ht (by omega) (by omega)⟩
        by_cases hq2 : (i 2).val < 40
        · exact ⟨_, List.mem_of_getElem? (i := 28) rfl, mem_unit5 _ _ (inb5 9 _ _ k _ (off42_eq k) (by decide) (by decide)) 0 k.val (11 + 10 * (4 / 2)) 0 0 9 (off42_eq k) rfl i (by omega) ht (by omega) (by omega)⟩
        by_cases hz3 : (i 2).val < 41
        · exact ⟨_, List.mem_of_getElem? (i := 21) rfl, mem_unit5 _ _ (inb5 1 _ _ k _ (off53_eq k) (by decide) (by decide)) 0 k.val (10 + 10 * (6 / 2)) 0 0 1 (off53_eq k) rfl i (by omega) ht (by omega) (by omega)⟩
        by_cases hq3 : (i 2).val < 50
        · exact ⟨_, List.mem_of_getElem? (i := 20) rfl, mem_unit5 _ _ (inb5 9 _ _ k _ (off54_eq k) (by decide) (by decide)) 0 k.val (11 + 10 * (6 / 2)) 0 0 9 (off54_eq k) rfl i (by omega) ht (by omega) (by omega)⟩
        by_cases hz4 : (i 2).val < 51
        · exact ⟨_, List.mem_of_getElem? (i := 13) rfl, mem_unit5 _ _ (inb5 1 _ _ k _ (off65_eq k) (by decide) (by decide)) 0 k.val (10 + 10 * (8 / 2)) 0 0 1 (off65_eq k) rfl i (by omega) ht (by omega) (by omega)⟩
        by_cases hq4 : (i 2).val < 60
        · exact ⟨_, List.mem_of_getElem? (i := 12) rfl, mem_unit5 _ _ (inb5 9 _ _ k _ (off66_eq k) (by decide) (by decide)) 0 k.val (11 + 10 * (8 / 2)) 0 0 9 (off66_eq k) rfl i (by omega) ht (by omega) (by omega)⟩
        by_cases hz5 : (i 2).val < 61
        · exact ⟨_, List.mem_of_getElem? (i := 5) rfl, mem_unit5 _ _ (inb5 1 _ _ k _ (off77_eq k) (by decide) (by decide)) 0 k.val (10 + 10 * (10 / 2)) 0 0 1 (off77_eq k) rfl i (by omega) ht (by omega) (by omega)⟩
        by_cases hq5 : (i 2).val < 70
        · exact ⟨_, List.mem_of_getElem? (i := 4) rfl, mem_unit5 _ _ (inb5 9 _ _ k _ (off78_eq k) (by decide) (by decide)) 0 k.val (11 + 10 * (10 / 2)) 0 0 9 (off78_eq k) rfl i (by omega) ht (by omega) (by omega)⟩
        omega
      by_cases hp1 : (i 0).val = 1
      · by_cases hr1 : (i 2).val < 10
        · exact ⟨_, List.mem_of_getElem? (i := 57) rfl, mem_unit5 _ _ (inb5 10 _ _ k _ (off3_eq k) (by decide) (by decide)) 1 k.val 0 0 0 10 (off3_eq k) rfl i (by omega) ht (by omega) (by omega)⟩
        by_cases hr2 : 70 ≤ (i 2).val
        · exact ⟨_, List.mem_of_getElem? (i := 56) rfl, mem_unit5 _ _ (inb5 10 _ _ k _ (off4_eq k) (by decide) (by decide)) 1 k.val 70 0 0 10 (off4_eq k) rfl i (by omega) ht (by omega) (by omega)⟩
        by_cases hq0 : (i 2).val < 20
        · exact ⟨_, List.mem_of_getElem? (i := 47) rfl, mem_unit5 _ _ (inb5 10 _ _ k _ (off15_eq k) (by decide) (by decide)) 1 k.val (10 + 10 * (0 / 2)) 0 0 10 (off15_eq k) rfl i (by omega) ht (by omega) (by omega)⟩
        by_cases hq1 : (i 2).val < 30
        · exact ⟨_, List.mem_of_getElem? (i := 39) rfl, mem_unit5 _ _ (inb5 10 _ _ k _ (off27_eq k) (by decide) (by decide)) 1 k.val (10 + 10 * (2 / 2)) 0 0 10 (off27_eq k) rfl i (by omega) ht (by omega) (by omega)⟩
        by_cases hq2 : (i 2).val < 40
        · exact ⟨_, List.mem_of_getElem? (i := 31) rfl, mem_unit5 _ _ (inb5 10 _ _ k _ (off39_eq k) (by decide) (by decide)) 1 k.val (10 + 10 * (4 / 2)) 0 0 10 (off39_eq k) rfl i (by omega) ht (by omega) (by omega)⟩
        by_cases hq3 : (i 2).val < 50
        · exact ⟨_, List.mem_of_getElem? (i := 23) rfl, mem_unit5 _ _ (inb5 10 _ _ k _ (off51_eq k) (by decide) (by decide)) 1 k.val (10 + 10 * (6 / 2)) 0 0 10 (off51_eq k) rfl i (by omega) ht (by omega) (by omega)⟩
        by_cases hq4 : (i 2).val < 60
        · exact ⟨_, List.mem_of_getElem? (i := 15) rfl, mem_unit5 _ _ (inb5 10 _ _ k _ (off63_eq k) (by decide) (by decide)) 1 k.val (10 + 10 * (8 / 2)) 0 0 10 (off63_eq k) rfl i (by omega) ht (by omega) (by omega)⟩
        by_cases hq5 : (i 2).val < 70
        · exact ⟨_, List.mem_of_getElem? (i := 7) rfl, mem_unit5 _ _ (inb5 10 _ _ k _ (off75_eq k) (by decide) (by decide)) 1 k.val (10 + 10 * (10 / 2)) 0 0 10 (off75_eq k) rfl i (by omega) ht (by omega) (by omega)⟩
        omega
      by_cases hp2 : (i 0).val = 2
      · by_cases hr1 : (i 2).val < 10
        · exact ⟨_, List.mem_of_getElem? (i := 55) rfl, mem_unit5 _ _ (inb5 10 _ _ k _ (off5_eq k) (by decide) (by decide)) 2 k.val 0 0 0 10 (off5_eq k) rfl i (by omega) ht (by omega) (by omega)⟩
        by_cases hr2 : 70 ≤ (i 2).val
        · exact ⟨_, List.mem_of_getElem? (i := 54) rfl, mem_unit5 _ _ (inb5 10 _ _ k _ (off6_eq k) (by decide) (by decide)) 2 k.val 70 0 0 10 (off6_eq k) rfl i (by omega) ht (by omega) (by omega)⟩
        by_cases hq0 : (i 2).val < 20
        · exact ⟨_, List.mem_of_getElem? (i := 46) rfl, mem_unit5 _ _ (inb5 10 _ _ k _ (off16_eq k) (by decide) (by decide)) 2 k.val (10 + 10 * (0 / 2)) 0 0 10 (off16_eq k) rfl i (by omega) ht (by omega) (by omega)⟩
        by_cases hq1 : (i 2).val < 30
        · exact ⟨_, List.mem_of_getElem? (i := 38) rfl, mem_unit5 _ _ (inb5 10 _ _ k _ (off28_eq k) (by decide) (by decide)) 2 k.val (10 + 10 * (2 / 2)) 0 0 10 (off28_eq k) rfl i (by omega) ht (by omega) (by omega)⟩
        by_cases hq2 : (i 2).val < 40
        · exact ⟨_, List.mem_of_getElem? (i := 30) rfl, mem_unit5 _ _ (inb5 10 _ _ k _ (off40_eq k) (by decide) (by decide)) 2 k.val (10 + 10 * (4 / 2)) 0 0 10 (off40_eq k) rfl i (by omega) ht (by omega) (by omega)⟩
        by_cases hq3 : (i 2).val < 50
        · exact ⟨_, List.mem_of_getElem? (i := 22) rfl, mem_unit5 _ _ (inb5 10 _ _ k _ (off52_eq k) (by decide) (by decide)) 2 k.val (10 + 10 * (6 / 2)) 0 0 10 (off52_eq k) rfl i (by omega) ht (by omega) (by omega)⟩
        by_cases hq4 : (i 2).val < 60
        · exact ⟨_, List.mem_of_getElem? (i := 14) rfl, mem_unit5 _ _ (inb5 10 _ _ k _ (off64_eq k) (by decide) (by decide)) 2 k.val (10 + 10 * (8 / 2)) 0 0 10 (off64_eq k) rfl i (by omega) ht (by omega) (by omega)⟩
        by_cases hq5 : (i 2).val < 70
        · exact ⟨_, List.mem_of_getElem? (i := 6) rfl, mem_unit5 _ _ (inb5 10 _ _ k _ (off76_eq k) (by decide) (by decide)) 2 k.val (10 + 10 * (10 / 2)) 0 0 10 (off76_eq k) rfl i (by omega) ht (by omega) (by omega)⟩
        omega
      by_cases hp3 : (i 0).val = 3
      · by_cases hr1 : (i 2).val < 10
        · exact ⟨_, List.mem_of_getElem? (i := 53) rfl, mem_unit5 _ _ (inb5 10 _ _ k _ (off7_eq k) (by decide) (by decide)) 3 k.val 0 0 0 10 (off7_eq k) rfl i (by omega) ht (by omega) (by omega)⟩
        by_cases hr2 : 70 ≤ (i 2).val
        · exact ⟨_, List.mem_of_getElem? (i := 52) rfl, mem_unit5 _ _ (inb5 10 _ _ k _ (off8_eq k) (by decide) (by decide)) 3 k.val 70 0 0 10 (off8_eq k) rfl i (by omega) ht (by omega) (by omega)⟩
        by_cases hz0 : (i 2).val < 11
        · exact ⟨_, List.mem_of_getElem? (i := 41) rfl, mem_unit5 _ _ (inb5 1 _ _ k _ (off23_eq k) (by decide) (by decide)) 3 k.val (10 + 10 * (1 / 2)) 0 0 1 (off23_eq k) rfl i (by omega) ht (by omega) (by omega)⟩
        by_cases hq0 : (i 2).val < 20
        · exact ⟨_, List.mem_of_getElem? (i := 40) rfl, mem_unit5 _ _ (inb5 9 _ _ k _ (off24_eq k) (by decide) (by decide)) 3 k.val (11 + 10 * (1 / 2)) 0 0 9 (off24_eq k) rfl i (by omega) ht (by omega) (by omega)⟩
        by_cases hz1 : (i 2).val < 21
        · exact ⟨_, List.mem_of_getElem? (i := 33) rfl, mem_unit5 _ _ (inb5 1 _ _ k _ (off35_eq k) (by decide) (by decide)) 3 k.val (10 + 10 * (3 / 2)) 0 0 1 (off35_eq k) rfl i (by omega) ht (by omega) (by omega)⟩
        by_cases hq1 : (i 2).val < 30
        · exact ⟨_, List.mem_of_getElem? (i := 32) rfl, mem_unit5 _ _ (inb5 9 _ _ k _ (off36_eq k) (by decide) (by decide)) 3 k.val (11 + 10 * (3 / 2)) 0 0 9 (off36_eq k) rfl i (by omega) ht (by omega) (by omega)⟩
        by_cases hz2 : (i 2).val < 31
        · exact ⟨_, List.mem_of_getElem? (i := 25) rfl, mem_unit5 _ _ (inb5 1 _ _ k _ (off47_eq k) (by decide) (by decide)) 3 k.val (10 + 10 * (5 / 2)) 0 0 1 (off47_eq k) rfl i (by omega) ht (by omega) (by omega)⟩
        by_cases hq2 : (i 2).val < 40
        · exact ⟨_, List.mem_of_getElem? (i := 24) rfl, mem_unit5 _ _ (inb5 9 _ _ k _ (off48_eq k) (by decide) (by decide)) 3 k.val (11 + 10 * (5 / 2)) 0 0 9 (off48_eq k) rfl i (by omega) ht (by omega) (by omega)⟩
        by_cases hz3 : (i 2).val < 41
        · exact ⟨_, List.mem_of_getElem? (i := 17) rfl, mem_unit5 _ _ (inb5 1 _ _ k _ (off59_eq k) (by decide) (by decide)) 3 k.val (10 + 10 * (7 / 2)) 0 0 1 (off59_eq k) rfl i (by omega) ht (by omega) (by omega)⟩
        by_cases hq3 : (i 2).val < 50
        · exact ⟨_, List.mem_of_getElem? (i := 16) rfl, mem_unit5 _ _ (inb5 9 _ _ k _ (off60_eq k) (by decide) (by decide)) 3 k.val (11 + 10 * (7 / 2)) 0 0 9 (off60_eq k) rfl i (by omega) ht (by omega) (by omega)⟩
        by_cases hz4 : (i 2).val < 51
        · exact ⟨_, List.mem_of_getElem? (i := 9) rfl, mem_unit5 _ _ (inb5 1 _ _ k _ (off71_eq k) (by decide) (by decide)) 3 k.val (10 + 10 * (9 / 2)) 0 0 1 (off71_eq k) rfl i (by omega) ht (by omega) (by omega)⟩
        by_cases hq4 : (i 2).val < 60
        · exact ⟨_, List.mem_of_getElem? (i := 8) rfl, mem_unit5 _ _ (inb5 9 _ _ k _ (off72_eq k) (by decide) (by decide)) 3 k.val (11 + 10 * (9 / 2)) 0 0 9 (off72_eq k) rfl i (by omega) ht (by omega) (by omega)⟩
        by_cases hz5 : (i 2).val < 61
        · exact ⟨_, List.mem_of_getElem? (i := 1) rfl, mem_unit5 _ _ (inb5 1 _ _ k _ (off83_eq k) (by decide) (by decide)) 3 k.val (10 + 10 * (11 / 2)) 0 0 1 (off83_eq k) rfl i (by omega) ht (by omega) (by omega)⟩
        by_cases hq5 : (i 2).val < 70
        · exact ⟨_, List.mem_of_getElem? (i := 0) rfl, mem_unit5 _ _ (inb5 9 _ _ k _ (off84_eq k) (by decide) (by decide)) 3 k.val (11 + 10 * (11 / 2)) 0 0 9 (off84_eq k) rfl i (by omega) ht (by omega) (by omega)⟩
        omega
      by_cases hp4 : (i 0).val = 4
      · by_cases hr1 : (i 2).val < 10
        · exact ⟨_, List.mem_of_getElem? (i := 51) rfl, mem_unit5 _ _ (inb5 10 _ _ k _ (off9_eq k) (by decide) (by decide)) 4 k.val 0 0 0 10 (off9_eq k) rfl i (by omega) ht (by omega) (by omega)⟩
        by_cases hr2 : 70 ≤ (i 2).val
        · exact ⟨_, List.mem_of_getElem? (i := 50) rfl, mem_unit5 _ _ (inb5 10 _ _ k _ (off10_eq k) (by decide) (by decide)) 4 k.val 70 0 0 10 (off10_eq k) rfl i (by omega) ht (by omega) (by omega)⟩
        by_cases hq0 : (i 2).val < 20
        · exact ⟨_, List.mem_of_getElem? (i := 43) rfl, mem_unit5 _ _ (inb5 10 _ _ k _ (off21_eq k) (by decide) (by decide)) 4 k.val (10 + 10 * (1 / 2)) 0 0 10 (off21_eq k) rfl i (by omega) ht (by omega) (by omega)⟩
        by_cases hq1 : (i 2).val < 30
        · exact ⟨_, List.mem_of_getElem? (i := 35) rfl, mem_unit5 _ _ (inb5 10 _ _ k _ (off33_eq k) (by decide) (by decide)) 4 k.val (10 + 10 * (3 / 2)) 0 0 10 (off33_eq k) rfl i (by omega) ht (by omega) (by omega)⟩
        by_cases hq2 : (i 2).val < 40
        · exact ⟨_, List.mem_of_getElem? (i := 27) rfl, mem_unit5 _ _ (inb5 10 _ _ k _ (off45_eq k) (by decide) (by decide)) 4 k.val (10 + 10 * (5 / 2)) 0 0 10 (off45_eq k) rfl i (by omega) ht (by omega) (by omega)⟩
        by_cases hq3 : (i 2).val < 50
        · exact ⟨_, List.mem_of_getElem? (i := 19) rfl, mem_unit5 _ _ (inb5 10 _ _ k _ (off57_eq k) (by decide) (by decide)) 4 k.val (10 + 10 * (7 / 2)) 0 0 10 (off57_eq k) rfl i (by omega) ht (by omega) (by omega)⟩
        by_cases hq4 : (i 2).val < 60
        · exact ⟨_, List.mem_of_getElem? (i := 11) rfl, mem_unit5 _ _ (inb5 10 _ _ k _ (off69_eq k) (by decide) (by decide)) 4 k.val (10 + 10 * (9 / 2)) 0 0 10 (off69_eq k) rfl i (by omega) ht (by omega) (by omega)⟩
        by_cases hq5 : (i 2).val < 70
        · exact ⟨_, List.mem_of_getElem? (i := 3) rfl, mem_unit5 _ _ (inb5 10 _ _ k _ (off81_eq k) (by decide) (by decide)) 4 k.val (10 + 10 * (11 / 2)) 0 0 10 (off81_eq k) rfl i (by omega) ht (by omega) (by omega)⟩
        omega
      by_cases hp5 : (i 0).val = 5
      · by_cases hr1 : (i 2).val < 10
        · exact ⟨_, List.mem_of_getElem? (i := 49) rfl, mem_unit5 _ _ (inb5 10 _ _ k _ (off11_eq k) (by decide) (by decide)) 5 k.val 0 0 0 10 (off11_eq k) rfl i (by omega) ht (by omega) (by omega)⟩
        by_cases hr2 : 70 ≤ (i 2).val
        · exact ⟨_, List.mem_of_getElem? (i := 48) rfl, mem_unit5 _ _ (inb5 10 _ _ k _ (off12_eq k) (by decide) (by decide)) 5 k.val 70 0 0 10 (off12_eq k) rfl i (by omega) ht (by omega) (by omega)⟩
        by_cases hq0 : (i 2).val < 20
        · exact ⟨_, List.mem_of_getElem? (i := 42) rfl, mem_unit5 _ _ (inb5 10 _ _ k _ (off22_eq k) (by decide) (by decide)) 5 k.val (10 + 10 * (1 / 2)) 0 0 10 (off22_eq k) rfl i (by omega) ht (by omega) (by omega)⟩
        by_cases hq1 : (i 2).val < 30
        · exact ⟨_, List.mem_of_getElem? (i := 34) rfl, mem_unit5 _ _ (inb5 10 _ _ k _ (off34_eq k) (by decide) (by decide)) 5 k.val (10 + 10 * (3 / 2)) 0 0 10 (off34_eq k) rfl i (by omega) ht (by omega) (by omega)⟩
        by_cases hq2 : (i 2).val < 40
        · exact ⟨_, List.mem_of_getElem? (i := 26) rfl, mem_unit5 _ _ (inb5 10 _ _ k _ (off46_eq k) (by decide) (by decide)) 5 k.val (10 + 10 * (5 / 2)) 0 0 10 (off46_eq k) rfl i (by omega) ht (by omega) (by omega)⟩
        by_cases hq3 : (i 2).val < 50
        · exact ⟨_, List.mem_of_getElem? (i := 18) rfl, mem_unit5 _ _ (inb5 10 _ _ k _ (off58_eq k) (by decide) (by decide)) 5 k.val (10 + 10 * (7 / 2)) 0 0 10 (off58_eq k) rfl i (by omega) ht (by omega) (by omega)⟩
        by_cases hq4 : (i 2).val < 60
        · exact ⟨_, List.mem_of_getElem? (i := 10) rfl, mem_unit5 _ _ (inb5 10 _ _ k _ (off70_eq k) (by decide) (by decide)) 5 k.val (10 + 10 * (9 / 2)) 0 0 10 (off70_eq k) rfl i (by omega) ht (by omega) (by omega)⟩
        by_cases hq5 : (i 2).val < 70
        · exact ⟨_, List.mem_of_getElem? (i := 2) rfl, mem_unit5 _ _ (inb5 10 _ _ k _ (off82_eq k) (by decide) (by decide)) 5 k.val (10 + 10 * (11 / 2)) 0 0 10 (off82_eq k) rfl i (by omega) ht (by omega) (by omega)⟩
        omega
      omega
    · exact .inr (if_neg ht).symm

set_option warn.classDefReducibility false in
/-- The loop's invariant, for the run. -/
@[sl_loop] def loop1 (X : HbBuf F c MX) (C : HbBuf F c MC)
    (arg4 : Memref sig .tc .vmem S1x2048 .f32) (harg4 : arg4.IsWhole) (arg5 : Memref sig .tc .vmem S2x6x10x2048 .bf16) (harg5 : arg5.IsWhole) (v585_r0 : IVec S16x128 32) (c32_i32_497_r0 : BitVec 32) (v587_r0 : IVec S16x128 32) (v594_r0 : IVec S16x128 32) (v596_r0 : BitVec 32) :
    LoopInvTy_k0_t1 (F := F) Unit ℕ (Pipeline.UD sig nD τ) ℕ Variants.none c none Set.univ HX (Memref.isWhole_whole _) HS (Memref.isWhole_whole _) HW (Memref.isWhole_whole _) HWS (Memref.isWhole_whole _) arg4 harg4 arg5 harg5 MX (Memref.isWhole_whole _) MS (Memref.isWhole_whole _) MW (Memref.isWhole_whole _) MWS (Memref.isWhole_whole _) MC (Memref.isWhole_whole _) MP (Memref.isWhole_whole _) MD (Memref.isWhole_whole _) MA (Memref.isWhole_whole _) cc0_scoped0 cc0_scoped1 cc0_scoped2 v585_r0 c32_i32_497_r0 v587_r0 v594_r0 v596_r0 where
  inv := inv1 c X C (k0_pay357 v585_r0 c32_i32_497_r0 v587_r0 v594_r0 v596_r0)
  step k _ := step1 c X C k arg4 harg4 arg5 harg5 v585_r0 c32_i32_497_r0 v587_r0 v594_r0 v596_r0

end Cert.KernelIdeal.Hand

end
-- ==== Proof.KernelIdeal.RunDef.lean ====
/-
  What the whole run leaves: the decoded scales of the input, the planes, the accumulator, and the result read off the
  accumulator and the bias.
-/
module

public import proofs.«01_k».proof.Proof.KernelIdeal.PlaneDef
public import proofs.«01_k».proof.Proof.KernelIdeal.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] {c : Dev nD}

/-! ## Writes read back -/

/-- One write more: where it covers, it agrees; elsewhere the earlier ones do. -/
theorem rd_cons {sp : Space} {S : Shape} {e : EltTy} (M : View sig .tc sp S e) (f : M.ty.Contents (Elt F)) (g : S.Idx → Elt F e) (r : Rect S) (w : r.shape.Idx → Elt F e) (L : List (View.Piece (Elt F) S e)) (i : S.Idx) {P Q : Prop}
    (ha : ∀ x, w x = g (r.emb x)) (hP : P → Q ∨ ∃ x, r.emb x = i) (h : Q → M.read (Elt F) (M.writes (Elt F) f L) i = g i) : P → M.read (Elt F) (M.writes (Elt F) f (⟨r, w⟩ :: L)) i = g i := by
  intro p
  by_cases hi : ∃ x, r.emb x = i
  · obtain ⟨x, rfl⟩ := hi
    rw [View.read_writes_cons_emb]
    exact ha x
  · rw [View.writes_cons, View.read_slice_write_of_not_mem r _ _ _ (by
      intro hm
      obtain ⟨x, -, hx⟩ := Finset.mem_map.mp hm
      exact hi ⟨x, hx⟩)]
    exact h ((hP p).resolve_right hi)

theorem landW {sp : Space} {S : Shape} {e : EltTy} (M : View sig .tc sp S e) (f : M.ty.Contents (Elt F)) (w : S.Idx → Elt F e) : M.read (Elt F) (M.writes (Elt F) f [⟨Rect.whole S, w⟩]) = w := by
  funext y
  have h := View.read_writes_cons_emb (Val := Elt F) M f (Rect.whole S) w [] y
  rw [Rect.emb_whole_apply] at h
  exact h
theorem readC (f : HbBuf F c MC) (i : S24x16x2x128.Idx) : f i = MC.view.read (Elt F) f i := rfl
theorem readX (f : HbBuf F c MX) : MX.view.read (Elt F) f = f := rfl
theorem readS (f : HbBuf F c MS) : MS.view.read (Elt F) f = f := rfl
theorem landX (w : S2x12x20x2560.Idx → Elt F .fp8e4m3) (f : HbBuf F c MX) : MX.view.writes (Elt F) f [⟨Rect.whole S2x12x20x2560, w⟩] = w :=
  Eq.trans (readX (c := c) _).symm (landW MX.view f w)

/-! ## The decoded scales -/

/-- Row `h` of image `b`'s scales. -/
def sxLd (hs : S2x12x20x80.Idx → BitVec 8) (b : Fin 2) (h : Fin 12) : Vec F S1x1x20x80 .i8 :=
  fun i => hs (ix4 b h (⟨(i 2).val, (i 2).isLt⟩ : Fin 20) (⟨(i 3).val, (i 3).isLt⟩ : Fin 80))
theorem rdSx (hs : S2x12x20x80.Idx → BitVec 8) (b : Fin 2) (h : Fin 12) (hin : ∀ a, (![b.val, h.val, 0, 0] : Fin 4 → ℕ) a + S1x1x20x80.size a ≤ S2x12x20x80.size a) :
    MS.view.readCov (Val := Elt F) [⟨Rect.whole S2x12x20x80, hs⟩] (Rect.unit (s := S2x12x20x80) ![b.val, h.val, 0, 0] S1x1x20x80.size hin).toLoadRect = sxLd hs b h := by
  unfold View.readCov
  funext i
  refine Eq.trans (congrFun (landW MS.view _ hs) ((Rect.unit (s := S2x12x20x80) ![b.val, h.val, 0, 0] S1x1x20x80.size hin).emb i)) ?_
  show hs ((Rect.unit (s := S2x12x20x80) ![b.val, h.val, 0, 0] S1x1x20x80.size hin).emb i) = hs _
  congr 1
  funext a
  match a with
  | ⟨0, _⟩ => exact Fin.ext (by show b.val + 1 * (i 0).val = b.val; have h : (i 0).val < 1 := (i 0).isLt; omega)
  | ⟨1, _⟩ => exact Fin.ext (by show h.val + 1 * (i 1).val = h.val; have h : (i 1).val < 1 := (i 1).isLt; omega)
  | ⟨2, _⟩ => exact Fin.ext (by show 0 + 1 * (i 2).val = (i 2).val; omega)
  | ⟨3, _⟩ => exact Fin.ext (by show 0 + 1 * (i 3).val = (i 3).val; omega)
/-- A code's scale. -/
def scV (w : BitVec 8) : F .bf16 := FloatOps.truncf .bf16 bitsLt_bf16_f32 (FloatOps.ofBits .f32 (IntOp.shli ArithUnit.vector (BitVec.setWidth 32 w) 23#32))
/-- The decoded scales at an index. -/
def gC (hs : S2x12x20x80.Idx → BitVec 8) : S24x16x2x128.Idx → F .bf16 := fun i =>
  scV (hs (ix4 (⟨(i 0).val / 12 % 2, Nat.mod_lt _ (by decide)⟩ : Fin 2) (⟨(i 0).val % 12, Nat.mod_lt _ (by decide)⟩ : Fin 12)
    (⟨(2 * (i 1).val + (i 2).val) % 20, Nat.mod_lt _ (by decide)⟩ : Fin 20) (⟨(i 3).val % 80, Nat.mod_lt _ (by decide)⟩ : Fin 80)))
theorem scPc_apply (v : Vec F S1x1x20x80 .i8) (r : Fin 10) (p : Fin 2) (g : Fin 80) :
    k0_pay318 v (ix4 0 r p g) = scV (v (ix4 0 0 (⟨2 * r.val + p.val, by omega⟩ : Fin 20) g)) := by
  fin_vals p with hp <;> pointwise [k0_pay318, scV] <;> simp [hp]
theorem agC (hs : S2x12x20x80.Idx → BitVec 8) (b : Fin 2) (h : Fin 12) (n : ℕ) (hn : n = 12 * b.val + h.val)
    (hin : ∀ a, (![n, 0, 0, 0] : Fin 4 → ℕ) a + S1x10x2x80.size a ≤ S24x16x2x128.size a) (v : Vec F S1x10x2x80 .bf16) (hv : v = k0_pay318 (sxLd hs b h)) (x : S1x10x2x80.Idx) :
    v x = gC hs ((Rect.unit (s := S24x16x2x128) ![n, 0, 0, 0] S1x10x2x80.size hin).emb x) := by
  subst hv hn
  obtain ⟨r, p, g, hx⟩ : ∃ (r : Fin 10) (p : Fin 2) (g : Fin 80), x = ix4 (0 : Fin 1) r p g := by idx_vars x; exact ⟨_, _, _, by congr 1 <;> exact Subsingleton.elim _ _⟩
  subst hx
  rw [scPc_apply]
  unfold gC sxLd
  show scV _ = scV _
  congr 2
  have hr := r.isLt
  have hp := p.isLt
  have hg := g.isLt
  have hb := b.isLt
  have hh := h.isLt
  congr 1
  · exact Fin.ext (by show b.val = (12 * b.val + h.val + 1 * 0) / 12 % 2; omega)
  · exact Fin.ext (by show h.val = (12 * b.val + h.val + 1 * 0) % 12; omega)
  · exact Fin.ext (by show 2 * r.val + p.val = (2 * (0 + 1 * r.val) + (0 + 1 * p.val)) % 20; omega)
  · exact Fin.ext (by show g.val = (0 + 1 * g.val) % 80; omega)
theorem memC (n : ℕ) (hin : ∀ a, (![n, 0, 0, 0] : Fin 4 → ℕ) a + S1x10x2x80.size a ≤ S24x16x2x128.size a) (i : S24x16x2x128.Idx) (h0 : (i 0).val = n) (h1 : (i 1).val < 10) (h3 : (i 3).val < 80) :
    ∃ x, (Rect.unit (s := S24x16x2x128) ![n, 0, 0, 0] S1x10x2x80.size hin).emb x = i := by
  refine ⟨ix4 (0 : Fin 1) (⟨(i 1).val, h1⟩ : Fin 10) (⟨(i 2).val, (i 2).isLt⟩ : Fin 2) (⟨(i 3).val, h3⟩ : Fin 80), ?_⟩
  funext a
  match a with
  | ⟨0, _⟩ => exact Fin.ext (by show n + 1 * 0 = (i 0).val; omega)
  | ⟨1, _⟩ => exact Fin.ext (by show 0 + 1 * (i 1).val = (i 1).val; omega)
  | ⟨2, _⟩ => exact Fin.ext (by show 0 + 1 * (i 2).val = (i 2).val; omega)
  | ⟨3, _⟩ => exact Fin.ext (by show 0 + 1 * (i 3).val = (i 3).val; omega)

/-! ## The result -/

/-- Slot `q` of the accumulator, and the columns of the bias from `o` on. -/
def aQ (fa : HbBuf F c MA) (q : ℕ) : Vec F S1x128x512 .f32 :=
  fun i => fa (ix3 (⟨q % 4, Nat.mod_lt _ (by decide)⟩ : Fin 4) (⟨(i 1).val, (i 1).isLt⟩ : Fin 128) (⟨(i 2).val, (i 2).isLt⟩ : Fin 512))
def bQ (B : S1x2048.Idx → F .f32) (o : ℕ) : Vec F S1x512 .f32 :=
  fun i => B (ix2 (0 : Fin 1) (⟨(o + (i 1).val) % 2048, Nat.mod_lt _ (by decide)⟩ : Fin 2048))
theorem rdAQ (fa : HbBuf F c MA) (q : ℕ) (hq : q < 4) (hin : ∀ a, (![q, 0, 0] : Fin 3 → ℕ) a + S1x128x512.size a ≤ S4x128x512.size a) :
    View.readAt (Elt F) MA.view (Rect.unit (s := S4x128x512) ![q, 0, 0] S1x128x512.size hin).toLoadRect fa = aQ fa q := by
  funext i
  show fa ((Rect.unit (s := S4x128x512) ![q, 0, 0] S1x128x512.size hin).emb i) = fa _
  congr 1
  funext a
  match a with
  | ⟨0, _⟩ => exact Fin.ext (by show q + 1 * (i 0).val = q % 4; have h : (i 0).val < 1 := (i 0).isLt; omega)
  | ⟨1, _⟩ => exact Fin.ext (by show 0 + 1 * (i 1).val = (i 1).val; omega)
  | ⟨2, _⟩ => exact Fin.ext (by show 0 + 1 * (i 2).val = (i 2).val; omega)
theorem rdBQ (arg4 : Memref sig .tc .vmem S1x2048 .f32) (bias : BufTy.Contents (Elt F) arg4.view.ty) (o : ℕ) (ho : o + 512 ≤ 2048) (hin : ∀ a, (![0, o] : Fin 2 → ℕ) a + S1x512.size a ≤ S1x2048.size a) :
    View.readAt (Elt F) arg4.view (Rect.unit (s := S1x2048) ![0, o] S1x512.size hin).toLoadRect bias = bQ (View.read (Elt F) arg4.view bias) o := by
  funext i
  show View.read (Elt F) arg4.view bias ((Rect.unit (s := S1x2048) ![0, o] S1x512.size hin).emb i) = View.read (Elt F) arg4.view bias _
  congr 1
  have h1 : (i 1).val < 512 := (i 1).isLt
  funext a
  match a with
  | ⟨0, _⟩ => exact Fin.ext (by show 0 + 1 * (i 0).val = 0; have h : (i 0).val < 1 := (i 0).isLt; omega)
  | ⟨1, _⟩ => exact Fin.ext (by show o + 1 * (i 1).val = (o + (i 1).val) % 2048; omega)
/-- The result at an index. -/
def outV (fa : HbBuf F c MA) (B : S1x2048.Idx → F .f32) : S2x6x10x2048.Idx → F .bf16 := fun i =>
  FloatOps.truncf .bf16 bitsLt_bf16_f32 (FloatOps.addf
    (fa (ix3 (⟨(i 3).val / 512 % 4, Nat.mod_lt _ (by decide)⟩ : Fin 4) (⟨((10 * (i 1).val + (i 2).val) * 2 + (i 0).val) % 128, Nat.mod_lt _ (by decide)⟩ : Fin 128) (⟨(i 3).val % 512, Nat.mod_lt _ (by decide)⟩ : Fin 512)))
    (B (ix2 (0 : Fin 1) (⟨(i 3).val, (i 3).isLt⟩ : Fin 2048))))
theorem agO (fa : HbBuf F c MA) (B : S1x2048.Idx → F .f32) (b o q n : ℕ) (hb : b < 2) (ho : o < 6) (hq : q < 4) (hn : n = 512 * q)
    (hin : ∀ a, (![b, o, 0, n] : Fin 4 → ℕ) a + S1x1x10x512.size a ≤ S2x6x10x2048.size a) (v : Vec F S1x1x10x512 .bf16)
    (hv : ∀ (j : Fin 10) (l : Fin 512), v (ix4 0 0 j l) = FloatOps.truncf .bf16 bitsLt_bf16_f32 (FloatOps.addf (aQ fa q (ix3 (0 : Fin 1) (⟨(10 * o + j.val) * 2 + b, by omega⟩ : Fin 128) l)) (bQ B n (ix2 (0 : Fin 1) l)))) (x : S1x1x10x512.Idx) :
    v x = outV fa B ((Rect.unit (s := S2x6x10x2048) ![b, o, 0, n] S1x1x10x512.size hin).emb x) := by
  subst hn
  obtain ⟨j, l, hx⟩ : ∃ (j : Fin 10) (l : Fin 512), x = ix4 (0 : Fin 1) (0 : Fin 1) j l := by idx_vars x; exact ⟨_, _, by congr 1 <;> exact Subsingleton.elim _ _⟩
  subst hx
  rw [hv]
  have hj := j.isLt
  have hl := l.isLt
  unfold outV aQ bQ
  have e1 : (ix3 (⟨q % 4, Nat.mod_lt _ (by decide)⟩ : Fin 4) (⟨(10 * o + j.val) * 2 + b, by omega⟩ : Fin 128) (⟨l.val, l.isLt⟩ : Fin 512) : S4x128x512.Idx)
      = ix3 (⟨(512 * q + 1 * l.val) / 512 % 4, Nat.mod_lt _ (by decide)⟩ : Fin 4) (⟨((10 * (o + 1 * 0) + (0 + 1 * j.val)) * 2 + (b + 1 * 0)) % 128, Nat.mod_lt _ (by decide)⟩ : Fin 128) (⟨(512 * q + 1 * l.val) % 512, Nat.mod_lt _ (by decide)⟩ : Fin 512) := by
    congr 1
    · exact Fin.ext (by show q % 4 = (512 * q + 1 * l.val) / 512 % 4; omega)
    · exact Fin.ext (by show (10 * o + j.val) * 2 + b = ((10 * (o + 1 * 0) + (0 + 1 * j.val)) * 2 + (b + 1 * 0)) % 128; omega)
    · exact Fin.ext (by show l.val = (512 * q + 1 * l.val) % 512; omega)
  have e2 : (ix2 (0 : Fin 1) (⟨(512 * q + l.val) % 2048, Nat.mod_lt _ (by decide)⟩ : Fin 2048) : S1x2048.Idx) = ix2 (0 : Fin 1) (⟨512 * q + 1 * l.val, by omega⟩ : Fin 2048) := by
    congr 1
    exact Fin.ext (by show (512 * q + l.val) % 2048 = 512 * q + 1 * l.val; omega)
  exact congrArg₂ (fun s t => FloatOps.truncf .bf16 bitsLt_bf16_f32 (FloatOps.addf (fa s) (B t))) e1 e2
theorem oP_0_0 (A : Vec F S1x128x512 .f32) (D : Vec F S1x512 .f32) (j : Fin 10) (l : Fin 512) :
    (k0_pay364 A D) (ix4 0 0 j l) = FloatOps.truncf .bf16 bitsLt_bf16_f32 (FloatOps.addf (A (ix3 (0 : Fin 1) (⟨(10 * 0 + j.val) * 2 + 0, by omega⟩ : Fin 128) l)) (D (ix2 (0 : Fin 1) l))) := by
  pointwise [k0_pay363, k0_pay364]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_0_0 (fa : HbBuf F c MA) (B : S1x2048.Idx → F .f32) (q n : ℕ) (hq : q < 4) (hn : n = 512 * q)
    (hin : ∀ a, (![0, 0, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay364 A D) (x : S1x1x10x512.Idx) :
    v x = outV fa B ((Rect.unit (s := S2x6x10x2048) ![0, 0, 0, n] S1x1x10x512.size hin).emb x) := by
  subst hA hD
  exact agO fa B 0 0 q n (by decide) (by decide) hq hn hin v (fun j l => by rw [hv, oP_0_0]) x
theorem oP_0_1 (A : Vec F S1x128x512 .f32) (D : Vec F S1x512 .f32) (j : Fin 10) (l : Fin 512) :
    (k0_pay366 (k0_pay365 A D)) (ix4 0 0 j l) = FloatOps.truncf .bf16 bitsLt_bf16_f32 (FloatOps.addf (A (ix3 (0 : Fin 1) (⟨(10 * 1 + j.val) * 2 + 0, by omega⟩ : Fin 128) l)) (D (ix2 (0 : Fin 1) l))) := by
  pointwise [k0_pay363, k0_pay365, k0_pay366]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_0_1 (fa : HbBuf F c MA) (B : S1x2048.Idx → F .f32) (q n : ℕ) (hq : q < 4) (hn : n = 512 * q)
    (hin : ∀ a, (![0, 1, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay366 (k0_pay365 A D)) (x : S1x1x10x512.Idx) :
    v x = outV fa B ((Rect.unit (s := S2x6x10x2048) ![0, 1, 0, n] S1x1x10x512.size hin).emb x) := by
  subst hA hD
  exact agO fa B 0 1 q n (by decide) (by decide) hq hn hin v (fun j l => by rw [hv, oP_0_1]) x
theorem oP_0_2 (A : Vec F S1x128x512 .f32) (D : Vec F S1x512 .f32) (j : Fin 10) (l : Fin 512) :
    (k0_pay367 (k0_pay363 A D)) (ix4 0 0 j l) = FloatOps.truncf .bf16 bitsLt_bf16_f32 (FloatOps.addf (A (ix3 (0 : Fin 1) (⟨(10 * 2 + j.val) * 2 + 0, by omega⟩ : Fin 128) l)) (D (ix2 (0 : Fin 1) l))) := by
  pointwise [k0_pay363, k0_pay367]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_0_2 (fa : HbBuf F c MA) (B : S1x2048.Idx → F .f32) (q n : ℕ) (hq : q < 4) (hn : n = 512 * q)
    (hin : ∀ a, (![0, 2, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay367 (k0_pay363 A D)) (x : S1x1x10x512.Idx) :
    v x = outV fa B ((Rect.unit (s := S2x6x10x2048) ![0, 2, 0, n] S1x1x10x512.size hin).emb x) := by
  subst hA hD
  exact agO fa B 0 2 q n (by decide) (by decide) hq hn hin v (fun j l => by rw [hv, oP_0_2]) x
theorem oP_0_3 (A : Vec F S1x128x512 .f32) (D : Vec F S1x512 .f32) (j : Fin 10) (l : Fin 512) :
    (k0_pay368 (k0_pay363 A D)) (ix4 0 0 j l) = FloatOps.truncf .bf16 bitsLt_bf16_f32 (FloatOps.addf (A (ix3 (0 : Fin 1) (⟨(10 * 3 + j.val) * 2 + 0, by omega⟩ : Fin 128) l)) (D (ix2 (0 : Fin 1) l))) := by
  pointwise [k0_pay363, k0_pay368]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_0_3 (fa : HbBuf F c MA) (B : S1x2048.Idx → F .f32) (q n : ℕ) (hq : q < 4) (hn : n = 512 * q)
    (hin : ∀ a, (![0, 3, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay368 (k0_pay363 A D)) (x : S1x1x10x512.Idx) :
    v x = outV fa B ((Rect.unit (s := S2x6x10x2048) ![0, 3, 0, n] S1x1x10x512.size hin).emb x) := by
  subst hA hD
  exact agO fa B 0 3 q n (by decide) (by decide) hq hn hin v (fun j l => by rw [hv, oP_0_3]) x
theorem oP_0_4 (A : Vec F S1x128x512 .f32) (D : Vec F S1x512 .f32) (j : Fin 10) (l : Fin 512) :
    (k0_pay369 (k0_pay363 A D)) (ix4 0 0 j l) = FloatOps.truncf .bf16 bitsLt_bf16_f32 (FloatOps.addf (A (ix3 (0 : Fin 1) (⟨(10 * 4 + j.val) * 2 + 0, by omega⟩ : Fin 128) l)) (D (ix2 (0 : Fin 1) l))) := by
  pointwise [k0_pay363, k0_pay369]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_0_4 (fa : HbBuf F c MA) (B : S1x2048.Idx → F .f32) (q n : ℕ) (hq : q < 4) (hn : n = 512 * q)
    (hin : ∀ a, (![0, 4, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay369 (k0_pay363 A D)) (x : S1x1x10x512.Idx) :
    v x = outV fa B ((Rect.unit (s := S2x6x10x2048) ![0, 4, 0, n] S1x1x10x512.size hin).emb x) := by
  subst hA hD
  exact agO fa B 0 4 q n (by decide) (by decide) hq hn hin v (fun j l => by rw [hv, oP_0_4]) x
theorem oP_0_5 (A : Vec F S1x128x512 .f32) (D : Vec F S1x512 .f32) (j : Fin 10) (l : Fin 512) :
    (k0_pay370 (k0_pay363 A D)) (ix4 0 0 j l) = FloatOps.truncf .bf16 bitsLt_bf16_f32 (FloatOps.addf (A (ix3 (0 : Fin 1) (⟨(10 * 5 + j.val) * 2 + 0, by omega⟩ : Fin 128) l)) (D (ix2 (0 : Fin 1) l))) := by
  pointwise [k0_pay363, k0_pay370]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_0_5 (fa : HbBuf F c MA) (B : S1x2048.Idx → F .f32) (q n : ℕ) (hq : q < 4) (hn : n = 512 * q)
    (hin : ∀ a, (![0, 5, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay370 (k0_pay363 A D)) (x : S1x1x10x512.Idx) :
    v x = outV fa B ((Rect.unit (s := S2x6x10x2048) ![0, 5, 0, n] S1x1x10x512.size hin).emb x) := by
  subst hA hD
  exact agO fa B 0 5 q n (by decide) (by decide) hq hn hin v (fun j l => by rw [hv, oP_0_5]) x
theorem oP_1_0 (A : Vec F S1x128x512 .f32) (D : Vec F S1x512 .f32) (j : Fin 10) (l : Fin 512) :
    (k0_pay372 (k0_pay371 (k0_pay363 A D))) (ix4 0 0 j l) = FloatOps.truncf .bf16 bitsLt_bf16_f32 (FloatOps.addf (A (ix3 (0 : Fin 1) (⟨(10 * 0 + j.val) * 2 + 1, by omega⟩ : Fin 128) l)) (D (ix2 (0 : Fin 1) l))) := by
  pointwise [k0_pay363, k0_pay371, k0_pay372]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_1_0 (fa : HbBuf F c MA) (B : S1x2048.Idx → F .f32) (q n : ℕ) (hq : q < 4) (hn : n = 512 * q)
    (hin : ∀ a, (![1, 0, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay372 (k0_pay371 (k0_pay363 A D))) (x : S1x1x10x512.Idx) :
    v x = outV fa B ((Rect.unit (s := S2x6x10x2048) ![1, 0, 0, n] S1x1x10x512.size hin).emb x) := by
  subst hA hD
  exact agO fa B 1 0 q n (by decide) (by decide) hq hn hin v (fun j l => by rw [hv, oP_1_0]) x
theorem oP_1_1 (A : Vec F S1x128x512 .f32) (D : Vec F S1x512 .f32) (j : Fin 10) (l : Fin 512) :
    (k0_pay373 (k0_pay363 A D)) (ix4 0 0 j l) = FloatOps.truncf .bf16 bitsLt_bf16_f32 (FloatOps.addf (A (ix3 (0 : Fin 1) (⟨(10 * 1 + j.val) * 2 + 1, by omega⟩ : Fin 128) l)) (D (ix2 (0 : Fin 1) l))) := by
  pointwise [k0_pay363, k0_pay373]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_1_1 (fa : HbBuf F c MA) (B : S1x2048.Idx → F .f32) (q n : ℕ) (hq : q < 4) (hn : n = 512 * q)
    (hin : ∀ a, (![1, 1, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay373 (k0_pay363 A D)) (x : S1x1x10x512.Idx) :
    v x = outV fa B ((Rect.unit (s := S2x6x10x2048) ![1, 1, 0, n] S1x1x10x512.size hin).emb x) := by
  subst hA hD
  exact agO fa B 1 1 q n (by decide) (by decide) hq hn hin v (fun j l => by rw [hv, oP_1_1]) x
theorem oP_1_2 (A : Vec F S1x128x512 .f32) (D : Vec F S1x512 .f32) (j : Fin 10) (l : Fin 512) :
    (k0_pay374 (k0_pay363 A D)) (ix4 0 0 j l) = FloatOps.truncf .bf16 bitsLt_bf16_f32 (FloatOps.addf (A (ix3 (0 : Fin 1) (⟨(10 * 2 + j.val) * 2 + 1, by omega⟩ : Fin 128) l)) (D (ix2 (0 : Fin 1) l))) := by
  pointwise [k0_pay363, k0_pay374]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_1_2 (fa : HbBuf F c MA) (B : S1x2048.Idx → F .f32) (q n : ℕ) (hq : q < 4) (hn : n = 512 * q)
    (hin : ∀ a, (![1, 2, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay374 (k0_pay363 A D)) (x : S1x1x10x512.Idx) :
    v x = outV fa B ((Rect.unit (s := S2x6x10x2048) ![1, 2, 0, n] S1x1x10x512.size hin).emb x) := by
  subst hA hD
  exact agO fa B 1 2 q n (by decide) (by decide) hq hn hin v (fun j l => by rw [hv, oP_1_2]) x
theorem oP_1_3 (A : Vec F S1x128x512 .f32) (D : Vec F S1x512 .f32) (j : Fin 10) (l : Fin 512) :
    (k0_pay375 (k0_pay363 A D)) (ix4 0 0 j l) = FloatOps.truncf .bf16 bitsLt_bf16_f32 (FloatOps.addf (A (ix3 (0 : Fin 1) (⟨(10 * 3 + j.val) * 2 + 1, by omega⟩ : Fin 128) l)) (D (ix2 (0 : Fin 1) l))) := by
  pointwise [k0_pay363, k0_pay375]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_1_3 (fa : HbBuf F c MA) (B : S1x2048.Idx → F .f32) (q n : ℕ) (hq : q < 4) (hn : n = 512 * q)
    (hin : ∀ a, (![1, 3, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay375 (k0_pay363 A D)) (x : S1x1x10x512.Idx) :
    v x = outV fa B ((Rect.unit (s := S2x6x10x2048) ![1, 3, 0, n] S1x1x10x512.size hin).emb x) := by
  subst hA hD
  exact agO fa B 1 3 q n (by decide) (by decide) hq hn hin v (fun j l => by rw [hv, oP_1_3]) x
theorem oP_1_4 (A : Vec F S1x128x512 .f32) (D : Vec F S1x512 .f32) (j : Fin 10) (l : Fin 512) :
    (k0_pay376 (k0_pay363 A D)) (ix4 0 0 j l) = FloatOps.truncf .bf16 bitsLt_bf16_f32 (FloatOps.addf (A (ix3 (0 : Fin 1) (⟨(10 * 4 + j.val) * 2 + 1, by omega⟩ : Fin 128) l)) (D (ix2 (0 : Fin 1) l))) := by
  pointwise [k0_pay363, k0_pay376]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_1_4 (fa : HbBuf F c MA) (B : S1x2048.Idx → F .f32) (q n : ℕ) (hq : q < 4) (hn : n = 512 * q)
    (hin : ∀ a, (![1, 4, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay376 (k0_pay363 A D)) (x : S1x1x10x512.Idx) :
    v x = outV fa B ((Rect.unit (s := S2x6x10x2048) ![1, 4, 0, n] S1x1x10x512.size hin).emb x) := by
  subst hA hD
  exact agO fa B 1 4 q n (by decide) (by decide) hq hn hin v (fun j l => by rw [hv, oP_1_4]) x
theorem oP_1_5 (A : Vec F S1x128x512 .f32) (D : Vec F S1x512 .f32) (j : Fin 10) (l : Fin 512) :
    (k0_pay377 (k0_pay363 A D)) (ix4 0 0 j l) = FloatOps.truncf .bf16 bitsLt_bf16_f32 (FloatOps.addf (A (ix3 (0 : Fin 1) (⟨(10 * 5 + j.val) * 2 + 1, by omega⟩ : Fin 128) l)) (D (ix2 (0 : Fin 1) l))) := by
  pointwise [k0_pay363, k0_pay377]
  try exact congrArg (fun a : Fin 128 => FloatOps.truncf .bf16 bitsLt_bf16_f32 (FloatOps.addf (A (ix3 (0 : Fin 1) a l)) (D (ix2 (0 : Fin 1) l)))) (Fin.ext (by dsimp only; omega))
theorem agO_1_5 (fa : HbBuf F c MA) (B : S1x2048.Idx → F .f32) (q n : ℕ) (hq : q < 4) (hn : n = 512 * q)
    (hin : ∀ a, (![1, 5, 0, n] : Fin 4 → ℕ) a + S1x1x10x512.size a ≤ S2x6x10x2048.size a) (v : Vec F S1x1x10x512 .bf16)
    (A : Vec F S1x128x512 .f32) (hA : A = aQ fa q) (D : Vec F S1x512 .f32) (hD : D = bQ B n) (hv : v = k0_pay377 (k0_pay363 A D)) (x : S1x1x10x512.Idx) :
    v x = outV fa B ((Rect.unit (s := S2x6x10x2048) ![1, 5, 0, n] S1x1x10x512.size hin).emb x) := by
  subst hA hD
  exact agO fa B 1 5 q n (by decide) (by decide) hq hn hin v (fun j l => by rw [hv, oP_1_5]) x
theorem coverC (n : ℕ) (hin : ∀ a, (![n, 0, 0, 0] : Fin 4 → ℕ) a + S1x10x2x80.size a ≤ S24x16x2x128.size a) (a : Fin 24) (r : Fin 16) (p : Fin 2) (g : Fin 128) (hr : r.val < 10) (hg : g.val < 80) :
    a.val < n + 1 → a.val < n ∨ ∃ x, (Rect.unit (s := S24x16x2x128) ![n, 0, 0, 0] S1x10x2x80.size hin).emb x = ix4 a r p g := fun h => by
  rcases Nat.lt_or_eq_of_le (Nat.le_of_lt_succ h) with h | h
  · exact Or.inl h
  · exact Or.inr (memC n hin _ h hr hg)
theorem memO (b o n : ℕ) (hin : ∀ a, (![b, o, 0, n] : Fin 4 → ℕ) a + S1x1x10x512.size a ≤ S2x6x10x2048.size a) (i : S2x6x10x2048.Idx) (h0 : (i 0).val = b) (h1 : (i 1).val = o) (h3 : n ≤ (i 3).val) (h3' : (i 3).val < n + 512) :
    ∃ x, (Rect.unit (s := S2x6x10x2048) ![b, o, 0, n] S1x1x10x512.size hin).emb x = i := by
  refine ⟨ix4 (0 : Fin 1) (0 : Fin 1) (⟨(i 2).val, (i 2).isLt⟩ : Fin 10) (⟨(i 3).val - n, by omega⟩ : Fin 512), ?_⟩
  funext a
  match a with
  | ⟨0, _⟩ => exact Fin.ext (by show b + 1 * 0 = (i 0).val; omega)
  | ⟨1, _⟩ => exact Fin.ext (by show o + 1 * 0 = (i 1).val; omega)
  | ⟨2, _⟩ => exact Fin.ext (by show 0 + 1 * (i 2).val = (i 2).val; omega)
  | ⟨3, _⟩ => exact Fin.ext (by show n + 1 * ((i 3).val - n) = (i 3).val; omega)

/-- The number of the piece an index falls in. -/
def pcO (i : S2x6x10x2048.Idx) : ℕ := (i 3).val / 512 * 12 + (i 0).val * 6 + (i 1).val
theorem pcO_lt (i : S2x6x10x2048.Idx) : pcO i < 48 := by
  have h0 : (i 0).val < 2 := (i 0).isLt
  have h1 : (i 1).val < 6 := (i 1).isLt
  have h3 : (i 3).val < 2048 := (i 3).isLt
  unfold pcO
  omega
theorem coverO (k b o n : ℕ) (hb : b < 2) (ho : o < 6) (hn : n % 512 = 0) (hk : k = n / 512 * 12 + b * 6 + o) (hin : ∀ a, (![b, o, 0, n] : Fin 4 → ℕ) a + S1x1x10x512.size a ≤ S2x6x10x2048.size a) (i : S2x6x10x2048.Idx) :
    pcO i < k + 1 → pcO i < k ∨ ∃ x, (Rect.unit (s := S2x6x10x2048) ![b, o, 0, n] S1x1x10x512.size hin).emb x = i := fun h => by
  rcases Nat.lt_or_eq_of_le (Nat.le_of_lt_succ h) with h | h
  · exact Or.inl h
  · have h0 : (i 0).val < 2 := (i 0).isLt
    have h1 : (i 1).val < 6 := (i 1).isLt
    have h3 : (i 3).val < 2048 := (i 3).isLt
    unfold pcO at h
    exact Or.inr (memO b o n hin i (by omega) (by omega) (by omega) (by omega))

/-! ## What the run stores -/

/-- The lane groups, as the run computes them. -/
def G0 : IVec S16x128 32 := k0_pay357 (iota .tc S16x128 32 [1] iota_S16x128_d1_w32) 32#32 k0_pay355 k0_pay356 1#32
/-- What the scales' buffer holds where it is read. -/
def ScOK (C : HbBuf F c MC) (hs : S2x12x20x80.Idx → BitVec 8) : Prop :=
  ∀ (a : Fin 24) (r : Fin 16) (p : Fin 2) (g : Fin 128), r.val < 10 → g.val < 80 → C (ix4 a r p g) = gC hs (ix4 a r p g)
/-- The result is the accumulator's plus the bias; the accumulator holds the 36 steps over the planes; the planes hold the codes times the scales. -/
def OutFact (c : Dev nD) (arg4 : Memref sig .tc .vmem S1x2048 .f32) (arg5 : Memref sig .tc .vmem S2x6x10x2048 .bf16) (hx : HbBuf F c HX) (hs : HbBuf F c HS) (hw : HbBuf F c HW) (hws : HbBuf F c HWS)
    (bias : BufTy.Contents (Elt F) arg4.view.ty) (fo : BufTy.Contents (Elt F) arg5.view.ty) : Prop :=
  ∃ (C : HbBuf F c MC) (fp : HbBuf F c MP) (fa : HbBuf F c MA), ScOK C hs ∧ PlaneInv c hx C G0 20 fp ∧ AccInv c hw hws fp 36 fa
    ∧ View.read (Elt F) arg5.view fo = outV fa (View.read (Elt F) arg4.view bias)

end Cert.KernelIdeal.Hand

end
-- ==== Proof.KernelIdeal.Run.lean ====
/-
  The kernel's whole run on one core: the 47 transfers issued, the two loops, the bias added and the result stored.
-/
module

public import proofs.«01_k».proof.Proof.KernelIdeal.Loop
public import proofs.«01_k».proof.Proof.KernelIdeal.Planes
public import proofs.«01_k».proof.Proof.KernelIdeal.RunDef

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem pack_w (hw : HbBuf F c HW) :
    (iprop(Φw (c := c) hw (0) true ∗ Φw (c := c) hw (1) true ∗ Φw (c := c) hw (2) true ∗ Φw (c := c) hw (3) true ∗ Φw (c := c) hw (4) true ∗ Φw (c := c) hw (5) true ∗ Φw (c := c) hw (6) true ∗ Φw (c := c) hw (7) true ∗ Φw (c := c) hw (8) true ∗ Φw (c := c) hw (9) true ∗ Φw (c := c) hw (10) true ∗ Φw (c := c) hw (11) true ∗ Φw (c := c) hw (12) true ∗ Φw (c := c) hw (13) true ∗ Φw (c := c) hw (14) true ∗ Φw (c := c) hw (15) true ∗ Φw (c := c) hw (16) true ∗ Φw (c := c) hw (17) true ∗ Φw (c := c) hw (18) true ∗ Φw (c := c) hw (19) true ∗ Φw (c := c) hw (20) true ∗ Φw (c := c) hw (21) true ∗ Φw (c := c) hw (22) true ∗ Φw (c := c) hw (23) true ∗ Φw (c := c) hw (24) true ∗ Φw (c := c) hw (25) true ∗ Φw (c := c) hw (26) true ∗ Φw (c := c) hw (27) true ∗ Φw (c := c) hw (28) true ∗ Φw (c := c) hw (29) true ∗ Φw (c := c) hw (30) true ∗ Φw (c := c) hw (31) true ∗ Φw (c := c) hw (32) true ∗ Φw (c := c) hw (33) true ∗ Φw (c := c) hw (34) true ∗ Φw (c := c) hw (35) true) : sProp 𝕄) ⊢ Ring.AtW (Φw (c := c) hw) (stW 0) :=
  by
  unfold Ring.AtW
  exact Entails.of_eq (BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35] (by decide) (by decide) (fun k : Fin 36 => Φw (c := c) hw k (stW 0 k))).symm
theorem pack_s (hs : HbBuf F c HWS) :
    (iprop(Φs (c := c) hs (0) true ∗ Φs (c := c) hs (1) true ∗ Φs (c := c) hs (2) true ∗ Φs (c := c) hs (3) true ∗ Φs (c := c) hs (4) true ∗ Φs (c := c) hs (5) true ∗ Φs (c := c) hs (6) true ∗ Φs (c := c) hs (7) true ∗ Φs (c := c) hs (8) true) : sProp 𝕄) ⊢ Ring.AtW (Φs (c := c) hs) (stS 0) :=
  by
  unfold Ring.AtW
  exact Entails.of_eq (BI.bigSep_eq_bigSepL_of_eq [0, 1, 2, 3, 4, 5, 6, 7, 8] (by decide) (by decide) (fun k : Fin 9 => Φs (c := c) hs k (stS 0 k))).symm

set_option maxHeartbeats 4000000 in
/-- The weight slabs, windows and cells, one by one, from the whole buffers and the family of cells. -/
theorem start_w (fw : HbBuf F c MW) (hw : HbBuf F c HW) :
    (iprop(holds c MW fw ∗ holds c HW hw ∗ bigSep Finset.univ fun k : Fin 36 => semVal ((c : Thread nD τ), wcell k) 0) : sProp 𝕄) ⊢ iprop(((holdsOn c MW (Rect.unit (s := S36x2560x512) ![0, 0, 0] S1x2560x512.size inb_S36x2560x512_S1x2560x512_0_0_0) fw ∗ holdsOn c HW (Rect.unit (s := S3x3x2560x2048) ![0, 0, 0, 0] S1x1x2560x512.size inb_S3x3x2560x2048_S1x1x2560x512_0_0_0_0) hw ∗ semVal ((c : Thread nD τ), SemLoc.dma ((cc0_scoped1.slice (Rect.unit (s := S36) ![0] S1.size inb_S36_S1_0)).squeeze S_ squeezes_S1_S_).sem) 0)
      ∗ (holdsOn c MW (Rect.unit (s := S36x2560x512) ![1, 0, 0] S1x2560x512.size inb_S36x2560x512_S1x2560x512_1_0_0) fw ∗ holdsOn c HW (Rect.unit (s := S3x3x2560x2048) ![0, 1, 0, 0] S1x1x2560x512.size inb_S3x3x2560x2048_S1x1x2560x512_0_1_0_0) hw ∗ semVal ((c : Thread nD τ), SemLoc.dma ((cc0_scoped1.slice (Rect.unit (s := S36) ![1] S1.size inb_S36_S1_1)).squeeze S_ squeezes_S1_S_).sem) 0)
      ∗ (holdsOn c MW (Rect.unit (s := S36x2560x512) ![2, 0, 0] S1x2560x512.size inb_S36x2560x512_S1x2560x512_2_0_0) fw ∗ holdsOn c HW (Rect.unit (s := S3x3x2560x2048) ![0, 2, 0, 0] S1x1x2560x512.size inb_S3x3x2560x2048_S1x1x2560x512_0_2_0_0) hw ∗ semVal ((c : Thread nD τ), SemLoc.dma ((cc0_scoped1.slice (Rect.unit (s := S36) ![2] S1.size inb_S36_S1_2)).squeeze S_ squeezes_S1_S_).sem) 0)
      ∗ (holdsOn c MW (Rect.unit (s := S36x2560x512) ![3, 0, 0] S1x2560x512.size inb_S36x2560x512_S1x2560x512_3_0_0) fw ∗ holdsOn c HW (Rect.unit (s := S3x3x2560x2048) ![1, 0, 0, 0] S1x1x2560x512.size inb_S3x3x2560x2048_S1x1x2560x512_1_0_0_0) hw ∗ semVal ((c : Thread nD τ), SemLoc.dma ((cc0_scoped1.slice (Rect.unit (s := S36) ![3] S1.size inb_S36_S1_3)).squeeze S_ squeezes_S1_S_).sem) 0)
      ∗ (holdsOn c MW (Rect.unit (s := S36x2560x512) ![4, 0, 0] S1x2560x512.size inb_S36x2560x512_S1x2560x512_4_0_0) fw ∗ holdsOn c HW (Rect.unit (s := S3x3x2560x2048) ![1, 1, 0, 0] S1x1x2560x512.size inb_S3x3x2560x2048_S1x1x2560x512_1_1_0_0) hw ∗ semVal ((c : Thread nD τ), SemLoc.dma ((cc0_scoped1.slice (Rect.unit (s := S36) ![4] S1.size inb_S36_S1_4)).squeeze S_ squeezes_S1_S_).sem) 0)
      ∗ (holdsOn c MW (Rect.unit (s := S36x2560x512) ![5, 0, 0] S1x2560x512.size inb_S36x2560x512_S1x2560x512_5_0_0) fw ∗ holdsOn c HW (Rect.unit (s := S3x3x2560x2048) ![1, 2, 0, 0] S1x1x2560x512.size inb_S3x3x2560x2048_S1x1x2560x512_1_2_0_0) hw ∗ semVal ((c : Thread nD τ), SemLoc.dma ((cc0_scoped1.slice (Rect.unit (s := S36) ![5] S1.size inb_S36_S1_5)).squeeze S_ squeezes_S1_S_).sem) 0)
      ∗ (holdsOn c MW (Rect.unit (s := S36x2560x512) ![6, 0, 0] S1x2560x512.size inb_S36x2560x512_S1x2560x512_6_0_0) fw ∗ holdsOn c HW (Rect.unit (s := S3x3x2560x2048) ![2, 0, 0, 0] S1x1x2560x512.size inb_S3x3x2560x2048_S1x1x2560x512_2_0_0_0) hw ∗ semVal ((c : Thread nD τ), SemLoc.dma ((cc0_scoped1.slice (Rect.unit (s := S36) ![6] S1.size inb_S36_S1_6)).squeeze S_ squeezes_S1_S_).sem) 0)
      ∗ (holdsOn c MW (Rect.unit (s := S36x2560x512) ![7, 0, 0] S1x2560x512.size inb_S36x2560x512_S1x2560x512_7_0_0) fw ∗ holdsOn c HW (Rect.unit (s := S3x3x2560x2048) ![2, 1, 0, 0] S1x1x2560x512.size inb_S3x3x2560x2048_S1x1x2560x512_2_1_0_0) hw ∗ semVal ((c : Thread nD τ), SemLoc.dma ((cc0_scoped1.slice (Rect.unit (s := S36) ![7] S1.size inb_S36_S1_7)).squeeze S_ squeezes_S1_S_).sem) 0)
      ∗ (holdsOn c MW (Rect.unit (s := S36x2560x512) ![8, 0, 0] S1x2560x512.size inb_S36x2560x512_S1x2560x512_8_0_0) fw ∗ holdsOn c HW (Rect.unit (s := S3x3x2560x2048) ![2, 2, 0, 0] S1x1x2560x512.size inb_S3x3x2560x2048_S1x1x2560x512_2_2_0_0) hw ∗ semVal ((c : Thread nD τ), SemLoc.dma ((cc0_scoped1.slice (Rect.unit (s := S36) ![8] S1.size inb_S36_S1_8)).squeeze S_ squeezes_S1_S_).sem) 0)
      ∗ (holdsOn c MW (Rect.unit (s := S36x2560x512) ![9, 0, 0] S1x2560x512.size inb_S36x2560x512_S1x2560x512_9_0_0) fw ∗ holdsOn c HW (Rect.unit (s := S3x3x2560x2048) ![0, 0, 0, 512] S1x1x2560x512.size inb_S3x3x2560x2048_S1x1x2560x512_0_0_0_512) hw ∗ semVal ((c : Thread nD τ), SemLoc.dma ((cc0_scoped1.slice (Rect.unit (s := S36) ![9] S1.size inb_S36_S1_9)).squeeze S_ squeezes_S1_S_).sem) 0)
      ∗ (holdsOn c MW (Rect.unit (s := S36x2560x512) ![10, 0, 0] S1x2560x512.size inb_S36x2560x512_S1x2560x512_10_0_0) fw ∗ holdsOn c HW (Rect.unit (s := S3x3x2560x2048) ![0, 1, 0, 512] S1x1x2560x512.size inb_S3x3x2560x2048_S1x1x2560x512_0_1_0_512) hw ∗ semVal ((c : Thread nD τ), SemLoc.dma ((cc0_scoped1.slice (Rect.unit (s := S36) ![10] S1.size inb_S36_S1_10)).squeeze S_ squeezes_S1_S_).sem) 0)
      ∗ (holdsOn c MW (Rect.unit (s := S36x2560x512) ![11, 0, 0] S1x2560x512.size inb_S36x2560x512_S1x2560x512_11_0_0) fw ∗ holdsOn c HW (Rect.unit (s := S3x3x2560x2048) ![0, 2, 0, 512] S1x1x2560x512.size inb_S3x3x2560x2048_S1x1x2560x512_0_2_0_512) hw ∗ semVal ((c : Thread nD τ), SemLoc.dma ((cc0_scoped1.slice (Rect.unit (s := S36) ![11] S1.size inb_S36_S1_11)).squeeze S_ squeezes_S1_S_).sem) 0)
      ∗ (holdsOn c MW (Rect.unit (s := S36x2560x512) ![12, 0, 0] S1x2560x512.size inb_S36x2560x512_S1x2560x512_12_0_0) fw ∗ holdsOn c HW (Rect.unit (s := S3x3x2560x2048) ![1, 0, 0, 512] S1x1x2560x512.size inb_S3x3x2560x2048_S1x1x2560x512_1_0_0_512) hw ∗ semVal ((c : Thread nD τ), SemLoc.dma ((cc0_scoped1.slice (Rect.unit (s := S36) ![12] S1.size inb_S36_S1_12)).squeeze S_ squeezes_S1_S_).sem) 0)
      ∗ (holdsOn c MW (Rect.unit (s := S36x2560x512) ![13, 0, 0] S1x2560x512.size inb_S36x2560x512_S1x2560x512_13_0_0) fw ∗ holdsOn c HW (Rect.unit (s := S3x3x2560x2048) ![1, 1, 0, 512] S1x1x2560x512.size inb_S3x3x2560x2048_S1x1x2560x512_1_1_0_512) hw ∗ semVal ((c : Thread nD τ), SemLoc.dma ((cc0_scoped1.slice (Rect.unit (s := S36) ![13] S1.size inb_S36_S1_13)).squeeze S_ squeezes_S1_S_).sem) 0)
      ∗ (holdsOn c MW (Rect.unit (s := S36x2560x512) ![14, 0, 0] S1x2560x512.size inb_S36x2560x512_S1x2560x512_14_0_0) fw ∗ holdsOn c HW (Rect.unit (s := S3x3x2560x2048) ![1, 2, 0, 512] S1x1x2560x512.size inb_S3x3x2560x2048_S1x1x2560x512_1_2_0_512) hw ∗ semVal ((c : Thread nD τ), SemLoc.dma ((cc0_scoped1.slice (Rect.unit (s := S36) ![14] S1.size inb_S36_S1_14)).squeeze S_ squeezes_S1_S_).sem) 0)
      ∗ (holdsOn c MW (Rect.unit (s := S36x2560x512) ![15, 0, 0] S1x2560x512.size inb_S36x2560x512_S1x2560x512_15_0_0) fw ∗ holdsOn c HW (Rect.unit (s := S3x3x2560x2048) ![2, 0, 0, 512] S1x1x2560x512.size inb_S3x3x2560x2048_S1x1x2560x512_2_0_0_512) hw ∗ semVal ((c : Thread nD τ), SemLoc.dma ((cc0_scoped1.slice (Rect.unit (s := S36) ![15] S1.size inb_S36_S1_15)).squeeze S_ squeezes_S1_S_).sem) 0)
      ∗ (holdsOn c MW (Rect.unit (s := S36x2560x512) ![16, 0, 0] S1x2560x512.size inb_S36x2560x512_S1x2560x512_16_0_0) fw ∗ holdsOn c HW (Rect.unit (s := S3x3x2560x2048) ![2, 1, 0, 512] S1x1x2560x512.size inb_S3x3x2560x2048_S1x1x2560x512_2_1_0_512) hw ∗ semVal ((c : Thread nD τ), SemLoc.dma ((cc0_scoped1.slice (Rect.unit (s := S36) ![16] S1.size inb_S36_S1_16)).squeeze S_ squeezes_S1_S_).sem) 0)
      ∗ (holdsOn c MW (Rect.unit (s := S36x2560x512) ![17, 0, 0] S1x2560x512.size inb_S36x2560x512_S1x2560x512_17_0_0) fw ∗ holdsOn c HW (Rect.unit (s := S3x3x2560x2048) ![2, 2, 0, 512] S1x1x2560x512.size inb_S3x3x2560x2048_S1x1x2560x512_2_2_0_512) hw ∗ semVal ((c : Thread nD τ), SemLoc.dma ((cc0_scoped1.slice (Rect.unit (s := S36) ![17] S1.size inb_S36_S1_17)).squeeze S_ squeezes_S1_S_).sem) 0)
      ∗ (holdsOn c MW (Rect.unit (s := S36x2560x512) ![18, 0, 0] S1x2560x512.size inb_S36x2560x512_S1x2560x512_18_0_0) fw ∗ holdsOn c HW (Rect.unit (s := S3x3x2560x2048) ![0, 0, 0, 1024] S1x1x2560x512.size inb_S3x3x2560x2048_S1x1x2560x512_0_0_0_1024) hw ∗ semVal ((c : Thread nD τ), SemLoc.dma ((cc0_scoped1.slice (Rect.unit (s := S36) ![18] S1.size inb_S36_S1_18)).squeeze S_ squeezes_S1_S_).sem) 0)
      ∗ (holdsOn c MW (Rect.unit (s := S36x2560x512) ![19, 0, 0] S1x2560x512.size inb_S36x2560x512_S1x2560x512_19_0_0) fw ∗ holdsOn c HW (Rect.unit (s := S3x3x2560x2048) ![0, 1, 0, 1024] S1x1x2560x512.size inb_S3x3x2560x2048_S1x1x2560x512_0_1_0_1024) hw ∗ semVal ((c : Thread nD τ), SemLoc.dma ((cc0_scoped1.slice (Rect.unit (s := S36) ![19] S1.size inb_S36_S1_19)).squeeze S_ squeezes_S1_S_).sem) 0)
      ∗ (holdsOn c MW (Rect.unit (s := S36x2560x512) ![20, 0, 0] S1x2560x512.size inb_S36x2560x512_S1x2560x512_20_0_0) fw ∗ holdsOn c HW (Rect.unit (s := S3x3x2560x2048) ![0, 2, 0, 1024] S1x1x2560x512.size inb_S3x3x2560x2048_S1x1x2560x512_0_2_0_1024) hw ∗ semVal ((c : Thread nD τ), SemLoc.dma ((cc0_scoped1.slice (Rect.unit (s := S36) ![20] S1.size inb_S36_S1_20)).squeeze S_ squeezes_S1_S_).sem) 0)
      ∗ (holdsOn c MW (Rect.unit (s := S36x2560x512) ![21, 0, 0] S1x2560x512.size inb_S36x2560x512_S1x2560x512_21_0_0) fw ∗ holdsOn c HW (Rect.unit (s := S3x3x2560x2048) ![1, 0, 0, 1024] S1x1x2560x512.size inb_S3x3x2560x2048_S1x1x2560x512_1_0_0_1024) hw ∗ semVal ((c : Thread nD τ), SemLoc.dma ((cc0_scoped1.slice (Rect.unit (s := S36) ![21] S1.size inb_S36_S1_21)).squeeze S_ squeezes_S1_S_).sem) 0)
      ∗ (holdsOn c MW (Rect.unit (s := S36x2560x512) ![22, 0, 0] S1x2560x512.size inb_S36x2560x512_S1x2560x512_22_0_0) fw ∗ holdsOn c HW (Rect.unit (s := S3x3x2560x2048) ![1, 1, 0, 1024] S1x1x2560x512.size inb_S3x3x2560x2048_S1x1x2560x512_1_1_0_1024) hw ∗ semVal ((c : Thread nD τ), SemLoc.dma ((cc0_scoped1.slice (Rect.unit (s := S36) ![22] S1.size inb_S36_S1_22)).squeeze S_ squeezes_S1_S_).sem) 0)
      ∗ (holdsOn c MW (Rect.unit (s := S36x2560x512) ![23, 0, 0] S1x2560x512.size inb_S36x2560x512_S1x2560x512_23_0_0) fw ∗ holdsOn c HW (Rect.unit (s := S3x3x2560x2048) ![1, 2, 0, 1024] S1x1x2560x512.size inb_S3x3x2560x2048_S1x1x2560x512_1_2_0_1024) hw ∗ semVal ((c : Thread nD τ), SemLoc.dma ((cc0_scoped1.slice (Rect.unit (s := S36) ![23] S1.size inb_S36_S1_23)).squeeze S_ squeezes_S1_S_).sem) 0)
      ∗ (holdsOn c MW (Rect.unit (s := S36x2560x512) ![24, 0, 0] S1x2560x512.size inb_S36x2560x512_S1x2560x512_24_0_0) fw ∗ holdsOn c HW (Rect.unit (s := S3x3x2560x2048) ![2, 0, 0, 1024] S1x1x2560x512.size inb_S3x3x2560x2048_S1x1x2560x512_2_0_0_1024) hw ∗ semVal ((c : Thread nD τ), SemLoc.dma ((cc0_scoped1.slice (Rect.unit (s := S36) ![24] S1.size inb_S36_S1_24)).squeeze S_ squeezes_S1_S_).sem) 0)
      ∗ (holdsOn c MW (Rect.unit (s := S36x2560x512) ![25, 0, 0] S1x2560x512.size inb_S36x2560x512_S1x2560x512_25_0_0) fw ∗ holdsOn c HW (Rect.unit (s := S3x3x2560x2048) ![2, 1, 0, 1024] S1x1x2560x512.size inb_S3x3x2560x2048_S1x1x2560x512_2_1_0_1024) hw ∗ semVal ((c : Thread nD τ), SemLoc.dma ((cc0_scoped1.slice (Rect.unit (s := S36) ![25] S1.size inb_S36_S1_25)).squeeze S_ squeezes_S1_S_).sem) 0)
      ∗ (holdsOn c MW (Rect.unit (s := S36x2560x512) ![26, 0, 0] S1x2560x512.size inb_S36x2560x512_S1x2560x512_26_0_0) fw ∗ holdsOn c HW (Rect.unit (s := S3x3x2560x2048) ![2, 2, 0, 1024] S1x1x2560x512.size inb_S3x3x2560x2048_S1x1x2560x512_2_2_0_1024) hw ∗ semVal ((c : Thread nD τ), SemLoc.dma ((cc0_scoped1.slice (Rect.unit (s := S36) ![26] S1.size inb_S36_S1_26)).squeeze S_ squeezes_S1_S_).sem) 0)
      ∗ (holdsOn c MW (Rect.unit (s := S36x2560x512) ![27, 0, 0] S1x2560x512.size inb_S36x2560x512_S1x2560x512_27_0_0) fw ∗ holdsOn c HW (Rect.unit (s := S3x3x2560x2048) ![0, 0, 0, 1536] S1x1x2560x512.size inb_S3x3x2560x2048_S1x1x2560x512_0_0_0_1536) hw ∗ semVal ((c : Thread nD τ), SemLoc.dma ((cc0_scoped1.slice (Rect.unit (s := S36) ![27] S1.size inb_S36_S1_27)).squeeze S_ squeezes_S1_S_).sem) 0)
      ∗ (holdsOn c MW (Rect.unit (s := S36x2560x512) ![28, 0, 0] S1x2560x512.size inb_S36x2560x512_S1x2560x512_28_0_0) fw ∗ holdsOn c HW (Rect.unit (s := S3x3x2560x2048) ![0, 1, 0, 1536] S1x1x2560x512.size inb_S3x3x2560x2048_S1x1x2560x512_0_1_0_1536) hw ∗ semVal ((c : Thread nD τ), SemLoc.dma ((cc0_scoped1.slice (Rect.unit (s := S36) ![28] S1.size inb_S36_S1_28)).squeeze S_ squeezes_S1_S_).sem) 0)
      ∗ (holdsOn c MW (Rect.unit (s := S36x2560x512) ![29, 0, 0] S1x2560x512.size inb_S36x2560x512_S1x2560x512_29_0_0) fw ∗ holdsOn c HW (Rect.unit (s := S3x3x2560x2048) ![0, 2, 0, 1536] S1x1x2560x512.size inb_S3x3x2560x2048_S1x1x2560x512_0_2_0_1536) hw ∗ semVal ((c : Thread nD τ), SemLoc.dma ((cc0_scoped1.slice (Rect.unit (s := S36) ![29] S1.size inb_S36_S1_29)).squeeze S_ squeezes_S1_S_).sem) 0)
      ∗ (holdsOn c MW (Rect.unit (s := S36x2560x512) ![30, 0, 0] S1x2560x512.size inb_S36x2560x512_S1x2560x512_30_0_0) fw ∗ holdsOn c HW (Rect.unit (s := S3x3x2560x2048) ![1, 0, 0, 1536] S1x1x2560x512.size inb_S3x3x2560x2048_S1x1x2560x512_1_0_0_1536) hw ∗ semVal ((c : Thread nD τ), SemLoc.dma ((cc0_scoped1.slice (Rect.unit (s := S36) ![30] S1.size inb_S36_S1_30)).squeeze S_ squeezes_S1_S_).sem) 0)
      ∗ (holdsOn c MW (Rect.unit (s := S36x2560x512) ![31, 0, 0] S1x2560x512.size inb_S36x2560x512_S1x2560x512_31_0_0) fw ∗ holdsOn c HW (Rect.unit (s := S3x3x2560x2048) ![1, 1, 0, 1536] S1x1x2560x512.size inb_S3x3x2560x2048_S1x1x2560x512_1_1_0_1536) hw ∗ semVal ((c : Thread nD τ), SemLoc.dma ((cc0_scoped1.slice (Rect.unit (s := S36) ![31] S1.size inb_S36_S1_31)).squeeze S_ squeezes_S1_S_).sem) 0)
      ∗ (holdsOn c MW (Rect.unit (s := S36x2560x512) ![32, 0, 0] S1x2560x512.size inb_S36x2560x512_S1x2560x512_32_0_0) fw ∗ holdsOn c HW (Rect.unit (s := S3x3x2560x2048) ![1, 2, 0, 1536] S1x1x2560x512.size inb_S3x3x2560x2048_S1x1x2560x512_1_2_0_1536) hw ∗ semVal ((c : Thread nD τ), SemLoc.dma ((cc0_scoped1.slice (Rect.unit (s := S36) ![32] S1.size inb_S36_S1_32)).squeeze S_ squeezes_S1_S_).sem) 0)
      ∗ (holdsOn c MW (Rect.unit (s := S36x2560x512) ![33, 0, 0] S1x2560x512.size inb_S36x2560x512_S1x2560x512_33_0_0) fw ∗ holdsOn c HW (Rect.unit (s := S3x3x2560x2048) ![2, 0, 0, 1536] S1x1x2560x512.size inb_S3x3x2560x2048_S1x1x2560x512_2_0_0_1536) hw ∗ semVal ((c : Thread nD τ), SemLoc.dma ((cc0_scoped1.slice (Rect.unit (s := S36) ![33] S1.size inb_S36_S1_33)).squeeze S_ squeezes_S1_S_).sem) 0)
      ∗ (holdsOn c MW (Rect.unit (s := S36x2560x512) ![34, 0, 0] S1x2560x512.size inb_S36x2560x512_S1x2560x512_34_0_0) fw ∗ holdsOn c HW (Rect.unit (s := S3x3x2560x2048) ![2, 1, 0, 1536] S1x1x2560x512.size inb_S3x3x2560x2048_S1x1x2560x512_2_1_0_1536) hw ∗ semVal ((c : Thread nD τ), SemLoc.dma ((cc0_scoped1.slice (Rect.unit (s := S36) ![34] S1.size inb_S36_S1_34)).squeeze S_ squeezes_S1_S_).sem) 0)
      ∗ (holdsOn c MW (Rect.unit (s := S36x2560x512) ![35, 0, 0] S1x2560x512.size inb_S36x2560x512_S1x2560x512_35_0_0) fw ∗ holdsOn c HW (Rect.unit (s := S3x3x2560x2048) ![2, 2, 0, 1536] S1x1x2560x512.size inb_S3x3x2560x2048_S1x1x2560x512_2_2_0_1536) hw ∗ semVal ((c : Thread nD τ), SemLoc.dma ((cc0_scoped1.slice (Rect.unit (s := S36) ![35] S1.size inb_S36_S1_35)).squeeze S_ squeezes_S1_S_).sem) 0))) := by
  rw [split_w, split_hw, ← bigSep_sep', ← bigSep_sep']
  exact Entails.of_eq (BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35] (by decide) (by decide) (fun k : Fin 36 => iprop(holdsOn c MW (wrect k) fw ∗ holdsOn c HW (hwrect k) hw ∗ semVal ((c : Thread nD τ), wcell k) 0)))
/-- The same of the scales. -/
theorem start_s (fws : HbBuf F c MWS) (hws : HbBuf F c HWS) :
    (iprop(holds c MWS fws ∗ holds c HWS hws ∗ bigSep Finset.univ fun k : Fin 9 => semVal ((c : Thread nD τ), scell k) 0) : sProp 𝕄) ⊢ iprop(((holdsOn c MWS (Rect.unit (s := S9x80x2048) ![0, 0, 0] S1x80x2048.size inb_S9x80x2048_S1x80x2048_0_0_0) fws ∗ holdsOn c HWS (Rect.unit (s := S3x3x80x2048) ![0, 0, 0, 0] S1x1x80x2048.size inb_S3x3x80x2048_S1x1x80x2048_0_0_0_0) hws ∗ semVal ((c : Thread nD τ), SemLoc.dma ((cc0_scoped2.slice (Rect.unit (s := S9) ![0] S1.size inb_S9_S1_0)).squeeze S_ squeezes_S1_S_).sem) 0)
      ∗ (holdsOn c MWS (Rect.unit (s := S9x80x2048) ![1, 0, 0] S1x80x2048.size inb_S9x80x2048_S1x80x2048_1_0_0) fws ∗ holdsOn c HWS (Rect.unit (s := S3x3x80x2048) ![0, 1, 0, 0] S1x1x80x2048.size inb_S3x3x80x2048_S1x1x80x2048_0_1_0_0) hws ∗ semVal ((c : Thread nD τ), SemLoc.dma ((cc0_scoped2.slice (Rect.unit (s := S9) ![1] S1.size inb_S9_S1_1)).squeeze S_ squeezes_S1_S_).sem) 0)
      ∗ (holdsOn c MWS (Rect.unit (s := S9x80x2048) ![2, 0, 0] S1x80x2048.size inb_S9x80x2048_S1x80x2048_2_0_0) fws ∗ holdsOn c HWS (Rect.unit (s := S3x3x80x2048) ![0, 2, 0, 0] S1x1x80x2048.size inb_S3x3x80x2048_S1x1x80x2048_0_2_0_0) hws ∗ semVal ((c : Thread nD τ), SemLoc.dma ((cc0_scoped2.slice (Rect.unit (s := S9) ![2] S1.size inb_S9_S1_2)).squeeze S_ squeezes_S1_S_).sem) 0)
      ∗ (holdsOn c MWS (Rect.unit (s := S9x80x2048) ![3, 0, 0] S1x80x2048.size inb_S9x80x2048_S1x80x2048_3_0_0) fws ∗ holdsOn c HWS (Rect.unit (s := S3x3x80x2048) ![1, 0, 0, 0] S1x1x80x2048.size inb_S3x3x80x2048_S1x1x80x2048_1_0_0_0) hws ∗ semVal ((c : Thread nD τ), SemLoc.dma ((cc0_scoped2.slice (Rect.unit (s := S9) ![3] S1.size inb_S9_S1_3)).squeeze S_ squeezes_S1_S_).sem) 0)
      ∗ (holdsOn c MWS (Rect.unit (s := S9x80x2048) ![4, 0, 0] S1x80x2048.size inb_S9x80x2048_S1x80x2048_4_0_0) fws ∗ holdsOn c HWS (Rect.unit (s := S3x3x80x2048) ![1, 1, 0, 0] S1x1x80x2048.size inb_S3x3x80x2048_S1x1x80x2048_1_1_0_0) hws ∗ semVal ((c : Thread nD τ), SemLoc.dma ((cc0_scoped2.slice (Rect.unit (s := S9) ![4] S1.size inb_S9_S1_4)).squeeze S_ squeezes_S1_S_).sem) 0)
      ∗ (holdsOn c MWS (Rect.unit (s := S9x80x2048) ![5, 0, 0] S1x80x2048.size inb_S9x80x2048_S1x80x2048_5_0_0) fws ∗ holdsOn c HWS (Rect.unit (s := S3x3x80x2048) ![1, 2, 0, 0] S1x1x80x2048.size inb_S3x3x80x2048_S1x1x80x2048_1_2_0_0) hws ∗ semVal ((c : Thread nD τ), SemLoc.dma ((cc0_scoped2.slice (Rect.unit (s := S9) ![5] S1.size inb_S9_S1_5)).squeeze S_ squeezes_S1_S_).sem) 0)
      ∗ (holdsOn c MWS (Rect.unit (s := S9x80x2048) ![6, 0, 0] S1x80x2048.size inb_S9x80x2048_S1x80x2048_6_0_0) fws ∗ holdsOn c HWS (Rect.unit (s := S3x3x80x2048) ![2, 0, 0, 0] S1x1x80x2048.size inb_S3x3x80x2048_S1x1x80x2048_2_0_0_0) hws ∗ semVal ((c : Thread nD τ), SemLoc.dma ((cc0_scoped2.slice (Rect.unit (s := S9) ![6] S1.size inb_S9_S1_6)).squeeze S_ squeezes_S1_S_).sem) 0)
      ∗ (holdsOn c MWS (Rect.unit (s := S9x80x2048) ![7, 0, 0] S1x80x2048.size inb_S9x80x2048_S1x80x2048_7_0_0) fws ∗ holdsOn c HWS (Rect.unit (s := S3x3x80x2048) ![2, 1, 0, 0] S1x1x80x2048.size inb_S3x3x80x2048_S1x1x80x2048_2_1_0_0) hws ∗ semVal ((c : Thread nD τ), SemLoc.dma ((cc0_scoped2.slice (Rect.unit (s := S9) ![7] S1.size inb_S9_S1_7)).squeeze S_ squeezes_S1_S_).sem) 0)
      ∗ (holdsOn c MWS (Rect.unit (s := S9x80x2048) ![8, 0, 0] S1x80x2048.size inb_S9x80x2048_S1x80x2048_8_0_0) fws ∗ holdsOn c HWS (Rect.unit (s := S3x3x80x2048) ![2, 2, 0, 0] S1x1x80x2048.size inb_S3x3x80x2048_S1x1x80x2048_2_2_0_0) hws ∗ semVal ((c : Thread nD τ), SemLoc.dma ((cc0_scoped2.slice (Rect.unit (s := S9) ![8] S1.size inb_S9_S1_8)).squeeze S_ squeezes_S1_S_).sem) 0))) := by
  rw [split_s, split_hs, ← bigSep_sep', ← bigSep_sep']
  exact Entails.of_eq (BI.bigSep_eq_bigSepL_of_eq [0, 1, 2, 3, 4, 5, 6, 7, 8] (by decide) (by decide) (fun k : Fin 9 => iprop(holdsOn c MWS (srect k) fws ∗ holdsOn c HWS (hsrect k) hws ∗ semVal ((c : Thread nD τ), scell k) 0)))
/-- After the last step: every cell at zero, the whole buffers back. -/
theorem fin_w (hw : HbBuf F c HW) :
    (Ring.AtW (Φw (c := c) hw) (stW 36) : sProp 𝕄) ⊢ iprop((bigSep Finset.univ fun k : Fin 36 => semVal ((c : Thread nD τ), wcell k) 0) ∗ holds c MW (WK hw) ∗ holds c HW hw) := by
  rw [split_w, split_hw, ← bigSep_sep', ← bigSep_sep']
  unfold Ring.AtW
  refine bigSep_mono fun k _ => ?_
  rw [show stW 36 k = false from decide_eq_false (by have := k.isLt; omega)]
  unfold Φw
  rw [if_neg Bool.false_ne_true]
  exact Idealize.SL.BI.Entails.refl _
theorem fin_s (hs : HbBuf F c HWS) :
    (Ring.AtW (Φs (c := c) hs) (stS 36) : sProp 𝕄) ⊢ iprop((bigSep Finset.univ fun k : Fin 9 => semVal ((c : Thread nD τ), scell k) 0) ∗ holds c MWS (SK hs) ∗ holds c HWS hs) := by
  rw [split_s, split_hs, ← bigSep_sep', ← bigSep_sep']
  unfold Ring.AtW
  refine bigSep_mono fun k _ => ?_
  rw [show stS 36 k = false from decide_eq_false (by have := k.isLt; omega)]
  unfold Φs
  rw [if_neg Bool.false_ne_true]
  exact Idealize.SL.BI.Entails.refl _

set_option maxHeartbeats 2000000 in
set_option sl_exec.dmaWindow true in
/-- The run, from every slab, window and cell on its own. -/
theorem conv_run (arg4 : Memref sig .tc .vmem S1x2048 .f32) (harg4 : arg4.IsWhole) (arg5 : Memref sig .tc .vmem S2x6x10x2048 .bf16) (harg5 : arg5.IsWhole)
    (fw : HbBuf F c MW) (hw : HbBuf F c HW) (fws : HbBuf F c MWS) (hws : HbBuf F c HWS) (W : Waits sig Unit)
    (hx : HbBuf F c HX) (hs : HbBuf F c HS) (bias : BufTy.Contents (Elt F) arg4.view.ty) (fo : BufTy.Contents (Elt F) arg5.view.ty) :
    (iprop(((holdsOn c MW (Rect.unit (s := S36x2560x512) ![0, 0, 0] S1x2560x512.size inb_S36x2560x512_S1x2560x512_0_0_0) fw ∗ holdsOn c HW (Rect.unit (s := S3x3x2560x2048) ![0, 0, 0, 0] S1x1x2560x512.size inb_S3x3x2560x2048_S1x1x2560x512_0_0_0_0) hw ∗ semVal ((c : Thread nD τ), SemLoc.dma ((cc0_scoped1.slice (Rect.unit (s := S36) ![0] S1.size inb_S36_S1_0)).squeeze S_ squeezes_S1_S_).sem) 0)
      ∗ (holdsOn c MW (Rect.unit (s := S36x2560x512) ![1, 0, 0] S1x2560x512.size inb_S36x2560x512_S1x2560x512_1_0_0) fw ∗ holdsOn c HW (Rect.unit (s := S3x3x2560x2048) ![0, 1, 0, 0] S1x1x2560x512.size inb_S3x3x2560x2048_S1x1x2560x512_0_1_0_0) hw ∗ semVal ((c : Thread nD τ), SemLoc.dma ((cc0_scoped1.slice (Rect.unit (s := S36) ![1] S1.size inb_S36_S1_1)).squeeze S_ squeezes_S1_S_).sem) 0)
      ∗ (holdsOn c MW (Rect.unit (s := S36x2560x512) ![2, 0, 0] S1x2560x512.size inb_S36x2560x512_S1x2560x512_2_0_0) fw ∗ holdsOn c HW (Rect.unit (s := S3x3x2560x2048) ![0, 2, 0, 0] S1x1x2560x512.size inb_S3x3x2560x2048_S1x1x2560x512_0_2_0_0) hw ∗ semVal ((c : Thread nD τ), SemLoc.dma ((cc0_scoped1.slice (Rect.unit (s := S36) ![2] S1.size inb_S36_S1_2)).squeeze S_ squeezes_S1_S_).sem) 0)
      ∗ (holdsOn c MW (Rect.unit (s := S36x2560x512) ![3, 0, 0] S1x2560x512.size inb_S36x2560x512_S1x2560x512_3_0_0) fw ∗ holdsOn c HW (Rect.unit (s := S3x3x2560x2048) ![1, 0, 0, 0] S1x1x2560x512.size inb_S3x3x2560x2048_S1x1x2560x512_1_0_0_0) hw ∗ semVal ((c : Thread nD τ), SemLoc.dma ((cc0_scoped1.slice (Rect.unit (s := S36) ![3] S1.size inb_S36_S1_3)).squeeze S_ squeezes_S1_S_).sem) 0)
      ∗ (holdsOn c MW (Rect.unit (s := S36x2560x512) ![4, 0, 0] S1x2560x512.size inb_S36x2560x512_S1x2560x512_4_0_0) fw ∗ holdsOn c HW (Rect.unit (s := S3x3x2560x2048) ![1, 1, 0, 0] S1x1x2560x512.size inb_S3x3x2560x2048_S1x1x2560x512_1_1_0_0) hw ∗ semVal ((c : Thread nD τ), SemLoc.dma ((cc0_scoped1.slice (Rect.unit (s := S36) ![4] S1.size inb_S36_S1_4)).squeeze S_ squeezes_S1_S_).sem) 0)
      ∗ (holdsOn c MW (Rect.unit (s := S36x2560x512) ![5, 0, 0] S1x2560x512.size inb_S36x2560x512_S1x2560x512_5_0_0) fw ∗ holdsOn c HW (Rect.unit (s := S3x3x2560x2048) ![1, 2, 0, 0] S1x1x2560x512.size inb_S3x3x2560x2048_S1x1x2560x512_1_2_0_0) hw ∗ semVal ((c : Thread nD τ), SemLoc.dma ((cc0_scoped1.slice (Rect.unit (s := S36) ![5] S1.size inb_S36_S1_5)).squeeze S_ squeezes_S1_S_).sem) 0)
      ∗ (holdsOn c MW (Rect.unit (s := S36x2560x512) ![6, 0, 0] S1x2560x512.size inb_S36x2560x512_S1x2560x512_6_0_0) fw ∗ holdsOn c HW (Rect.unit (s := S3x3x2560x2048) ![2, 0, 0, 0] S1x1x2560x512.size inb_S3x3x2560x2048_S1x1x2560x512_2_0_0_0) hw ∗ semVal ((c : Thread nD τ), SemLoc.dma ((cc0_scoped1.slice (Rect.unit (s := S36) ![6] S1.size inb_S36_S1_6)).squeeze S_ squeezes_S1_S_).sem) 0)
      ∗ (holdsOn c MW (Rect.unit (s := S36x2560x512) ![7, 0, 0] S1x2560x512.size inb_S36x2560x512_S1x2560x512_7_0_0) fw ∗ holdsOn c HW (Rect.unit (s := S3x3x2560x2048) ![2, 1, 0, 0] S1x1x2560x512.size inb_S3x3x2560x2048_S1x1x2560x512_2_1_0_0) hw ∗ semVal ((c : Thread nD τ), SemLoc.dma ((cc0_scoped1.slice (Rect.unit (s := S36) ![7] S1.size inb_S36_S1_7)).squeeze S_ squeezes_S1_S_).sem) 0)
      ∗ (holdsOn c MW (Rect.unit (s := S36x2560x512) ![8, 0, 0] S1x2560x512.size inb_S36x2560x512_S1x2560x512_8_0_0) fw ∗ holdsOn c HW (Rect.unit (s := S3x3x2560x2048) ![2, 2, 0, 0] S1x1x2560x512.size inb_S3x3x2560x2048_S1x1x2560x512_2_2_0_0) hw ∗ semVal ((c : Thread nD τ), SemLoc.dma ((cc0_scoped1.slice (Rect.unit (s := S36) ![8] S1.size inb_S36_S1_8)).squeeze S_ squeezes_S1_S_).sem) 0)
      ∗ (holdsOn c MW (Rect.unit (s := S36x2560x512) ![9, 0, 0] S1x2560x512.size inb_S36x2560x512_S1x2560x512_9_0_0) fw ∗ holdsOn c HW (Rect.unit (s := S3x3x2560x2048) ![0, 0, 0, 512] S1x1x2560x512.size inb_S3x3x2560x2048_S1x1x2560x512_0_0_0_512) hw ∗ semVal ((c : Thread nD τ), SemLoc.dma ((cc0_scoped1.slice (Rect.unit (s := S36) ![9] S1.size inb_S36_S1_9)).squeeze S_ squeezes_S1_S_).sem) 0)
      ∗ (holdsOn c MW (Rect.unit (s := S36x2560x512) ![10, 0, 0] S1x2560x512.size inb_S36x2560x512_S1x2560x512_10_0_0) fw ∗ holdsOn c HW (Rect.unit (s := S3x3x2560x2048) ![0, 1, 0, 512] S1x1x2560x512.size inb_S3x3x2560x2048_S1x1x2560x512_0_1_0_512) hw ∗ semVal ((c : Thread nD τ), SemLoc.dma ((cc0_scoped1.slice (Rect.unit (s := S36) ![10] S1.size inb_S36_S1_10)).squeeze S_ squeezes_S1_S_).sem) 0)
      ∗ (holdsOn c MW (Rect.unit (s := S36x2560x512) ![11, 0, 0] S1x2560x512.size inb_S36x2560x512_S1x2560x512_11_0_0) fw ∗ holdsOn c HW (Rect.unit (s := S3x3x2560x2048) ![0, 2, 0, 512] S1x1x2560x512.size inb_S3x3x2560x2048_S1x1x2560x512_0_2_0_512) hw ∗ semVal ((c : Thread nD τ), SemLoc.dma ((cc0_scoped1.slice (Rect.unit (s := S36) ![11] S1.size inb_S36_S1_11)).squeeze S_ squeezes_S1_S_).sem) 0)
      ∗ (holdsOn c MW (Rect.unit (s := S36x2560x512) ![12, 0, 0] S1x2560x512.size inb_S36x2560x512_S1x2560x512_12_0_0) fw ∗ holdsOn c HW (Rect.unit (s := S3x3x2560x2048) ![1, 0, 0, 512] S1x1x2560x512.size inb_S3x3x2560x2048_S1x1x2560x512_1_0_0_512) hw ∗ semVal ((c : Thread nD τ), SemLoc.dma ((cc0_scoped1.slice (Rect.unit (s := S36) ![12] S1.size inb_S36_S1_12)).squeeze S_ squeezes_S1_S_).sem) 0)
      ∗ (holdsOn c MW (Rect.unit (s := S36x2560x512) ![13, 0, 0] S1x2560x512.size inb_S36x2560x512_S1x2560x512_13_0_0) fw ∗ holdsOn c HW (Rect.unit (s := S3x3x2560x2048) ![1, 1, 0, 512] S1x1x2560x512.size inb_S3x3x2560x2048_S1x1x2560x512_1_1_0_512) hw ∗ semVal ((c : Thread nD τ), SemLoc.dma ((cc0_scoped1.slice (Rect.unit (s := S36) ![13] S1.size inb_S36_S1_13)).squeeze S_ squeezes_S1_S_).sem) 0)
      ∗ (holdsOn c MW (Rect.unit (s := S36x2560x512) ![14, 0, 0] S1x2560x512.size inb_S36x2560x512_S1x2560x512_14_0_0) fw ∗ holdsOn c HW (Rect.unit (s := S3x3x2560x2048) ![1, 2, 0, 512] S1x1x2560x512.size inb_S3x3x2560x2048_S1x1x2560x512_1_2_0_512) hw ∗ semVal ((c : Thread nD τ), SemLoc.dma ((cc0_scoped1.slice (Rect.unit (s := S36) ![14] S1.size inb_S36_S1_14)).squeeze S_ squeezes_S1_S_).sem) 0)
      ∗ (holdsOn c MW (Rect.unit (s := S36x2560x512) ![15, 0, 0] S1x2560x512.size inb_S36x2560x512_S1x2560x512_15_0_0) fw ∗ holdsOn c HW (Rect.unit (s := S3x3x2560x2048) ![2, 0, 0, 512] S1x1x2560x512.size inb_S3x3x2560x2048_S1x1x2560x512_2_0_0_512) hw ∗ semVal ((c : Thread nD τ), SemLoc.dma ((cc0_scoped1.slice (Rect.unit (s := S36) ![15] S1.size inb_S36_S1_15)).squeeze S_ squeezes_S1_S_).sem) 0)
      ∗ (holdsOn c MW (Rect.unit (s := S36x2560x512) ![16, 0, 0] S1x2560x512.size inb_S36x2560x512_S1x2560x512_16_0_0) fw ∗ holdsOn c HW (Rect.unit (s := S3x3x2560x2048) ![2, 1, 0, 512] S1x1x2560x512.size inb_S3x3x2560x2048_S1x1x2560x512_2_1_0_512) hw ∗ semVal ((c : Thread nD τ), SemLoc.dma ((cc0_scoped1.slice (Rect.unit (s := S36) ![16] S1.size inb_S36_S1_16)).squeeze S_ squeezes_S1_S_).sem) 0)
      ∗ (holdsOn c MW (Rect.unit (s := S36x2560x512) ![17, 0, 0] S1x2560x512.size inb_S36x2560x512_S1x2560x512_17_0_0) fw ∗ holdsOn c HW (Rect.unit (s := S3x3x2560x2048) ![2, 2, 0, 512] S1x1x2560x512.size inb_S3x3x2560x2048_S1x1x2560x512_2_2_0_512) hw ∗ semVal ((c : Thread nD τ), SemLoc.dma ((cc0_scoped1.slice (Rect.unit (s := S36) ![17] S1.size inb_S36_S1_17)).squeeze S_ squeezes_S1_S_).sem) 0)
      ∗ (holdsOn c MW (Rect.unit (s := S36x2560x512) ![18, 0, 0] S1x2560x512.size inb_S36x2560x512_S1x2560x512_18_0_0) fw ∗ holdsOn c HW (Rect.unit (s := S3x3x2560x2048) ![0, 0, 0, 1024] S1x1x2560x512.size inb_S3x3x2560x2048_S1x1x2560x512_0_0_0_1024) hw ∗ semVal ((c : Thread nD τ), SemLoc.dma ((cc0_scoped1.slice (Rect.unit (s := S36) ![18] S1.size inb_S36_S1_18)).squeeze S_ squeezes_S1_S_).sem) 0)
      ∗ (holdsOn c MW (Rect.unit (s := S36x2560x512) ![19, 0, 0] S1x2560x512.size inb_S36x2560x512_S1x2560x512_19_0_0) fw ∗ holdsOn c HW (Rect.unit (s := S3x3x2560x2048) ![0, 1, 0, 1024] S1x1x2560x512.size inb_S3x3x2560x2048_S1x1x2560x512_0_1_0_1024) hw ∗ semVal ((c : Thread nD τ), SemLoc.dma ((cc0_scoped1.slice (Rect.unit (s := S36) ![19] S1.size inb_S36_S1_19)).squeeze S_ squeezes_S1_S_).sem) 0)
      ∗ (holdsOn c MW (Rect.unit (s := S36x2560x512) ![20, 0, 0] S1x2560x512.size inb_S36x2560x512_S1x2560x512_20_0_0) fw ∗ holdsOn c HW (Rect.unit (s := S3x3x2560x2048) ![0, 2, 0, 1024] S1x1x2560x512.size inb_S3x3x2560x2048_S1x1x2560x512_0_2_0_1024) hw ∗ semVal ((c : Thread nD τ), SemLoc.dma ((cc0_scoped1.slice (Rect.unit (s := S36) ![20] S1.size inb_S36_S1_20)).squeeze S_ squeezes_S1_S_).sem) 0)
      ∗ (holdsOn c MW (Rect.unit (s := S36x2560x512) ![21, 0, 0] S1x2560x512.size inb_S36x2560x512_S1x2560x512_21_0_0) fw ∗ holdsOn c HW (Rect.unit (s := S3x3x2560x2048) ![1, 0, 0, 1024] S1x1x2560x512.size inb_S3x3x2560x2048_S1x1x2560x512_1_0_0_1024) hw ∗ semVal ((c : Thread nD τ), SemLoc.dma ((cc0_scoped1.slice (Rect.unit (s := S36) ![21] S1.size inb_S36_S1_21)).squeeze S_ squeezes_S1_S_).sem) 0)
      ∗ (holdsOn c MW (Rect.unit (s := S36x2560x512) ![22, 0, 0] S1x2560x512.size inb_S36x2560x512_S1x2560x512_22_0_0) fw ∗ holdsOn c HW (Rect.unit (s := S3x3x2560x2048) ![1, 1, 0, 1024] S1x1x2560x512.size inb_S3x3x2560x2048_S1x1x2560x512_1_1_0_1024) hw ∗ semVal ((c : Thread nD τ), SemLoc.dma ((cc0_scoped1.slice (Rect.unit (s := S36) ![22] S1.size inb_S36_S1_22)).squeeze S_ squeezes_S1_S_).sem) 0)
      ∗ (holdsOn c MW (Rect.unit (s := S36x2560x512) ![23, 0, 0] S1x2560x512.size inb_S36x2560x512_S1x2560x512_23_0_0) fw ∗ holdsOn c HW (Rect.unit (s := S3x3x2560x2048) ![1, 2, 0, 1024] S1x1x2560x512.size inb_S3x3x2560x2048_S1x1x2560x512_1_2_0_1024) hw ∗ semVal ((c : Thread nD τ), SemLoc.dma ((cc0_scoped1.slice (Rect.unit (s := S36) ![23] S1.size inb_S36_S1_23)).squeeze S_ squeezes_S1_S_).sem) 0)
      ∗ (holdsOn c MW (Rect.unit (s := S36x2560x512) ![24, 0, 0] S1x2560x512.size inb_S36x2560x512_S1x2560x512_24_0_0) fw ∗ holdsOn c HW (Rect.unit (s := S3x3x2560x2048) ![2, 0, 0, 1024] S1x1x2560x512.size inb_S3x3x2560x2048_S1x1x2560x512_2_0_0_1024) hw ∗ semVal ((c : Thread nD τ), SemLoc.dma ((cc0_scoped1.slice (Rect.unit (s := S36) ![24] S1.size inb_S36_S1_24)).squeeze S_ squeezes_S1_S_).sem) 0)
      ∗ (holdsOn c MW (Rect.unit (s := S36x2560x512) ![25, 0, 0] S1x2560x512.size inb_S36x2560x512_S1x2560x512_25_0_0) fw ∗ holdsOn c HW (Rect.unit (s := S3x3x2560x2048) ![2, 1, 0, 1024] S1x1x2560x512.size inb_S3x3x2560x2048_S1x1x2560x512_2_1_0_1024) hw ∗ semVal ((c : Thread nD τ), SemLoc.dma ((cc0_scoped1.slice (Rect.unit (s := S36) ![25] S1.size inb_S36_S1_25)).squeeze S_ squeezes_S1_S_).sem) 0)
      ∗ (holdsOn c MW (Rect.unit (s := S36x2560x512) ![26, 0, 0] S1x2560x512.size inb_S36x2560x512_S1x2560x512_26_0_0) fw ∗ holdsOn c HW (Rect.unit (s := S3x3x2560x2048) ![2, 2, 0, 1024] S1x1x2560x512.size inb_S3x3x2560x2048_S1x1x2560x512_2_2_0_1024) hw ∗ semVal ((c : Thread nD τ), SemLoc.dma ((cc0_scoped1.slice (Rect.unit (s := S36) ![26] S1.size inb_S36_S1_26)).squeeze S_ squeezes_S1_S_).sem) 0)
      ∗ (holdsOn c MW (Rect.unit (s := S36x2560x512) ![27, 0, 0] S1x2560x512.size inb_S36x2560x512_S1x2560x512_27_0_0) fw ∗ holdsOn c HW (Rect.unit (s := S3x3x2560x2048) ![0, 0, 0, 1536] S1x1x2560x512.size inb_S3x3x2560x2048_S1x1x2560x512_0_0_0_1536) hw ∗ semVal ((c : Thread nD τ), SemLoc.dma ((cc0_scoped1.slice (Rect.unit (s := S36) ![27] S1.size inb_S36_S1_27)).squeeze S_ squeezes_S1_S_).sem) 0)
      ∗ (holdsOn c MW (Rect.unit (s := S36x2560x512) ![28, 0, 0] S1x2560x512.size inb_S36x2560x512_S1x2560x512_28_0_0) fw ∗ holdsOn c HW (Rect.unit (s := S3x3x2560x2048) ![0, 1, 0, 1536] S1x1x2560x512.size inb_S3x3x2560x2048_S1x1x2560x512_0_1_0_1536) hw ∗ semVal ((c : Thread nD τ), SemLoc.dma ((cc0_scoped1.slice (Rect.unit (s := S36) ![28] S1.size inb_S36_S1_28)).squeeze S_ squeezes_S1_S_).sem) 0)
      ∗ (holdsOn c MW (Rect.unit (s := S36x2560x512) ![29, 0, 0] S1x2560x512.size inb_S36x2560x512_S1x2560x512_29_0_0) fw ∗ holdsOn c HW (Rect.unit (s := S3x3x2560x2048) ![0, 2, 0, 1536] S1x1x2560x512.size inb_S3x3x2560x2048_S1x1x2560x512_0_2_0_1536) hw ∗ semVal ((c : Thread nD τ), SemLoc.dma ((cc0_scoped1.slice (Rect.unit (s := S36) ![29] S1.size inb_S36_S1_29)).squeeze S_ squeezes_S1_S_).sem) 0)
      ∗ (holdsOn c MW (Rect.unit (s := S36x2560x512) ![30, 0, 0] S1x2560x512.size inb_S36x2560x512_S1x2560x512_30_0_0) fw ∗ holdsOn c HW (Rect.unit (s := S3x3x2560x2048) ![1, 0, 0, 1536] S1x1x2560x512.size inb_S3x3x2560x2048_S1x1x2560x512_1_0_0_1536) hw ∗ semVal ((c : Thread nD τ), SemLoc.dma ((cc0_scoped1.slice (Rect.unit (s := S36) ![30] S1.size inb_S36_S1_30)).squeeze S_ squeezes_S1_S_).sem) 0)
      ∗ (holdsOn c MW (Rect.unit (s := S36x2560x512) ![31, 0, 0] S1x2560x512.size inb_S36x2560x512_S1x2560x512_31_0_0) fw ∗ holdsOn c HW (Rect.unit (s := S3x3x2560x2048) ![1, 1, 0, 1536] S1x1x2560x512.size inb_S3x3x2560x2048_S1x1x2560x512_1_1_0_1536) hw ∗ semVal ((c : Thread nD τ), SemLoc.dma ((cc0_scoped1.slice (Rect.unit (s := S36) ![31] S1.size inb_S36_S1_31)).squeeze S_ squeezes_S1_S_).sem) 0)
      ∗ (holdsOn c MW (Rect.unit (s := S36x2560x512) ![32, 0, 0] S1x2560x512.size inb_S36x2560x512_S1x2560x512_32_0_0) fw ∗ holdsOn c HW (Rect.unit (s := S3x3x2560x2048) ![1, 2, 0, 1536] S1x1x2560x512.size inb_S3x3x2560x2048_S1x1x2560x512_1_2_0_1536) hw ∗ semVal ((c : Thread nD τ), SemLoc.dma ((cc0_scoped1.slice (Rect.unit (s := S36) ![32] S1.size inb_S36_S1_32)).squeeze S_ squeezes_S1_S_).sem) 0)
      ∗ (holdsOn c MW (Rect.unit (s := S36x2560x512) ![33, 0, 0] S1x2560x512.size inb_S36x2560x512_S1x2560x512_33_0_0) fw ∗ holdsOn c HW (Rect.unit (s := S3x3x2560x2048) ![2, 0, 0, 1536] S1x1x2560x512.size inb_S3x3x2560x2048_S1x1x2560x512_2_0_0_1536) hw ∗ semVal ((c : Thread nD τ), SemLoc.dma ((cc0_scoped1.slice (Rect.unit (s := S36) ![33] S1.size inb_S36_S1_33)).squeeze S_ squeezes_S1_S_).sem) 0)
      ∗ (holdsOn c MW (Rect.unit (s := S36x2560x512) ![34, 0, 0] S1x2560x512.size inb_S36x2560x512_S1x2560x512_34_0_0) fw ∗ holdsOn c HW (Rect.unit (s := S3x3x2560x2048) ![2, 1, 0, 1536] S1x1x2560x512.size inb_S3x3x2560x2048_S1x1x2560x512_2_1_0_1536) hw ∗ semVal ((c : Thread nD τ), SemLoc.dma ((cc0_scoped1.slice (Rect.unit (s := S36) ![34] S1.size inb_S36_S1_34)).squeeze S_ squeezes_S1_S_).sem) 0)
      ∗ (holdsOn c MW (Rect.unit (s := S36x2560x512) ![35, 0, 0] S1x2560x512.size inb_S36x2560x512_S1x2560x512_35_0_0) fw ∗ holdsOn c HW (Rect.unit (s := S3x3x2560x2048) ![2, 2, 0, 1536] S1x1x2560x512.size inb_S3x3x2560x2048_S1x1x2560x512_2_2_0_1536) hw ∗ semVal ((c : Thread nD τ), SemLoc.dma ((cc0_scoped1.slice (Rect.unit (s := S36) ![35] S1.size inb_S36_S1_35)).squeeze S_ squeezes_S1_S_).sem) 0))
      ∗ ((holdsOn c MWS (Rect.unit (s := S9x80x2048) ![0, 0, 0] S1x80x2048.size inb_S9x80x2048_S1x80x2048_0_0_0) fws ∗ holdsOn c HWS (Rect.unit (s := S3x3x80x2048) ![0, 0, 0, 0] S1x1x80x2048.size inb_S3x3x80x2048_S1x1x80x2048_0_0_0_0) hws ∗ semVal ((c : Thread nD τ), SemLoc.dma ((cc0_scoped2.slice (Rect.unit (s := S9) ![0] S1.size inb_S9_S1_0)).squeeze S_ squeezes_S1_S_).sem) 0)
      ∗ (holdsOn c MWS (Rect.unit (s := S9x80x2048) ![1, 0, 0] S1x80x2048.size inb_S9x80x2048_S1x80x2048_1_0_0) fws ∗ holdsOn c HWS (Rect.unit (s := S3x3x80x2048) ![0, 1, 0, 0] S1x1x80x2048.size inb_S3x3x80x2048_S1x1x80x2048_0_1_0_0) hws ∗ semVal ((c : Thread nD τ), SemLoc.dma ((cc0_scoped2.slice (Rect.unit (s := S9) ![1] S1.size inb_S9_S1_1)).squeeze S_ squeezes_S1_S_).sem) 0)
      ∗ (holdsOn c MWS (Rect.unit (s := S9x80x2048) ![2, 0, 0] S1x80x2048.size inb_S9x80x2048_S1x80x2048_2_0_0) fws ∗ holdsOn c HWS (Rect.unit (s := S3x3x80x2048) ![0, 2, 0, 0] S1x1x80x2048.size inb_S3x3x80x2048_S1x1x80x2048_0_2_0_0) hws ∗ semVal ((c : Thread nD τ), SemLoc.dma ((cc0_scoped2.slice (Rect.unit (s := S9) ![2] S1.size inb_S9_S1_2)).squeeze S_ squeezes_S1_S_).sem) 0)
      ∗ (holdsOn c MWS (Rect.unit (s := S9x80x2048) ![3, 0, 0] S1x80x2048.size inb_S9x80x2048_S1x80x2048_3_0_0) fws ∗ holdsOn c HWS (Rect.unit (s := S3x3x80x2048) ![1, 0, 0, 0] S1x1x80x2048.size inb_S3x3x80x2048_S1x1x80x2048_1_0_0_0) hws ∗ semVal ((c : Thread nD τ), SemLoc.dma ((cc0_scoped2.slice (Rect.unit (s := S9) ![3] S1.size inb_S9_S1_3)).squeeze S_ squeezes_S1_S_).sem) 0)
      ∗ (holdsOn c MWS (Rect.unit (s := S9x80x2048) ![4, 0, 0] S1x80x2048.size inb_S9x80x2048_S1x80x2048_4_0_0) fws ∗ holdsOn c HWS (Rect.unit (s := S3x3x80x2048) ![1, 1, 0, 0] S1x1x80x2048.size inb_S3x3x80x2048_S1x1x80x2048_1_1_0_0) hws ∗ semVal ((c : Thread nD τ), SemLoc.dma ((cc0_scoped2.slice (Rect.unit (s := S9) ![4] S1.size inb_S9_S1_4)).squeeze S_ squeezes_S1_S_).sem) 0)
      ∗ (holdsOn c MWS (Rect.unit (s := S9x80x2048) ![5, 0, 0] S1x80x2048.size inb_S9x80x2048_S1x80x2048_5_0_0) fws ∗ holdsOn c HWS (Rect.unit (s := S3x3x80x2048) ![1, 2, 0, 0] S1x1x80x2048.size inb_S3x3x80x2048_S1x1x80x2048_1_2_0_0) hws ∗ semVal ((c : Thread nD τ), SemLoc.dma ((cc0_scoped2.slice (Rect.unit (s := S9) ![5] S1.size inb_S9_S1_5)).squeeze S_ squeezes_S1_S_).sem) 0)
      ∗ (holdsOn c MWS (Rect.unit (s := S9x80x2048) ![6, 0, 0] S1x80x2048.size inb_S9x80x2048_S1x80x2048_6_0_0) fws ∗ holdsOn c HWS (Rect.unit (s := S3x3x80x2048) ![2, 0, 0, 0] S1x1x80x2048.size inb_S3x3x80x2048_S1x1x80x2048_2_0_0_0) hws ∗ semVal ((c : Thread nD τ), SemLoc.dma ((cc0_scoped2.slice (Rect.unit (s := S9) ![6] S1.size inb_S9_S1_6)).squeeze S_ squeezes_S1_S_).sem) 0)
      ∗ (holdsOn c MWS (Rect.unit (s := S9x80x2048) ![7, 0, 0] S1x80x2048.size inb_S9x80x2048_S1x80x2048_7_0_0) fws ∗ holdsOn c HWS (Rect.unit (s := S3x3x80x2048) ![2, 1, 0, 0] S1x1x80x2048.size inb_S3x3x80x2048_S1x1x80x2048_2_1_0_0) hws ∗ semVal ((c : Thread nD τ), SemLoc.dma ((cc0_scoped2.slice (Rect.unit (s := S9) ![7] S1.size inb_S9_S1_7)).squeeze S_ squeezes_S1_S_).sem) 0)
      ∗ (holdsOn c MWS (Rect.unit (s := S9x80x2048) ![8, 0, 0] S1x80x2048.size inb_S9x80x2048_S1x80x2048_8_0_0) fws ∗ holdsOn c HWS (Rect.unit (s := S3x3x80x2048) ![2, 2, 0, 0] S1x1x80x2048.size inb_S3x3x80x2048_S1x1x80x2048_2_2_0_0) hws ∗ semVal ((c : Thread nD τ), SemLoc.dma ((cc0_scoped2.slice (Rect.unit (s := S9) ![8] S1.size inb_S9_S1_8)).squeeze S_ squeezes_S1_S_).sem) 0))
      ∗ semVal ((c : Thread nD τ), SemLoc.dma ((cc0_scoped0.slice (Rect.unit (s := S2) ![0] S1.size inb_S2_S1_0)).squeeze S_ squeezes_S1_S_).sem) 0
      ∗ semVal ((c : Thread nD τ), SemLoc.dma ((cc0_scoped0.slice (Rect.unit (s := S2) ![1] S1.size inb_S2_S1_1)).squeeze S_ squeezes_S1_S_).sem) 0
      ∗ holds c HX hx
      ∗ holds c HS hs
      ∗ (arg4.view.loc (c : Thread nD τ) ↦[arg4.view.set]{fullShare} bias)
      ∗ (arg5.view.loc (c : Thread nD τ) ↦[arg5.view.set]{fullShare} fo)
      ∗ (∃ f, holds c MX f) ∗ (∃ f, holds c MS f) ∗ (∃ f, holds c MC f) ∗ (∃ f, holds c MP f) ∗ (∃ f, holds c MD f) ∗ (∃ f, holds c MA f)
      ∗ owes (c : Thread nD τ) 0 W) : sProp 𝕄)
    ⊢ wp frame (wpE (defs₀ (F := F)) Variants.none c none) Set.univ
      (cc0_mxfp8_conv HX (Memref.isWhole_whole _) HS (Memref.isWhole_whole _) HW (Memref.isWhole_whole _) HWS (Memref.isWhole_whole _) arg4 harg4 arg5 harg5
        MX (Memref.isWhole_whole _) MS (Memref.isWhole_whole _) MW (Memref.isWhole_whole _) MWS (Memref.isWhole_whole _)
        MC (Memref.isWhole_whole _) MP (Memref.isWhole_whole _) MD (Memref.isWhole_whole _) MA (Memref.isWhole_whole _) cc0_scoped0 cc0_scoped1 cc0_scoped2)
      (fun _ => iprop(Ring.AtW (Φw (c := c) hw) (stW 36) ∗ Ring.AtW (Φs (c := c) hws) (stS 36)
        ∗ semVal ((c : Thread nD τ), SemLoc.dma ((cc0_scoped0.slice (Rect.unit (s := S2) ![0] S1.size inb_S2_S1_0)).squeeze S_ squeezes_S1_S_).sem) 0 ∗ semVal ((c : Thread nD τ), SemLoc.dma ((cc0_scoped0.slice (Rect.unit (s := S2) ![1] S1.size inb_S2_S1_1)).squeeze S_ squeezes_S1_S_).sem) 0
        ∗ holds c HX hx ∗ holds c HS hs
        ∗ (arg4.view.loc (c : Thread nD τ) ↦[arg4.view.set]{fullShare} bias)
        ∗ (∃ fo', (arg5.view.loc (c : Thread nD τ) ↦[arg5.view.set]{fullShare} fo') ∗ ⌜OutFact c arg4 arg5 hx hs hw hws bias fo'⌝)
        ∗ (∃ f, holds c MX f) ∗ (∃ f, holds c MS f) ∗ (∃ f, holds c MC f) ∗ (∃ f, holds c MP f) ∗ (∃ f, holds c MD f) ∗ (∃ f, holds c MA f)
        ∗ ∃ W, owes (c : Thread nD τ) 0 W)) := by
  iintro ⟨⟨⟨Hw0, Hhw0, Hcw0⟩, ⟨Hw1, Hhw1, Hcw1⟩, ⟨Hw2, Hhw2, Hcw2⟩, ⟨Hw3, Hhw3, Hcw3⟩, ⟨Hw4, Hhw4, Hcw4⟩, ⟨Hw5, Hhw5, Hcw5⟩, ⟨Hw6, Hhw6, Hcw6⟩, ⟨Hw7, Hhw7, Hcw7⟩, ⟨Hw8, Hhw8, Hcw8⟩, ⟨Hw9, Hhw9, Hcw9⟩, ⟨Hw10, Hhw10, Hcw10⟩, ⟨Hw11, Hhw11, Hcw11⟩, ⟨Hw12, Hhw12, Hcw12⟩, ⟨Hw13, Hhw13, Hcw13⟩, ⟨Hw14, Hhw14, Hcw14⟩, ⟨Hw15, Hhw15, Hcw15⟩, ⟨Hw16, Hhw16, Hcw16⟩, ⟨Hw17, Hhw17, Hcw17⟩, ⟨Hw18, Hhw18, Hcw18⟩, ⟨Hw19, Hhw19, Hcw19⟩, ⟨Hw20, Hhw20, Hcw20⟩, ⟨Hw21, Hhw21, Hcw21⟩, ⟨Hw22, Hhw22, Hcw22⟩, ⟨Hw23, Hhw23, Hcw23⟩, ⟨Hw24, Hhw24, Hcw24⟩, ⟨Hw25, Hhw25, Hcw25⟩, ⟨Hw26, Hhw26, Hcw26⟩, ⟨Hw27, Hhw27, Hcw27⟩, ⟨Hw28, Hhw28, Hcw28⟩, ⟨Hw29, Hhw29, Hcw29⟩, ⟨Hw30, Hhw30, Hcw30⟩, ⟨Hw31, Hhw31, Hcw31⟩, ⟨Hw32, Hhw32, Hcw32⟩, ⟨Hw33, Hhw33, Hcw33⟩, ⟨Hw34, Hhw34, Hcw34⟩, ⟨Hw35, Hhw35, Hcw35⟩⟩, ⟨⟨Hs0, Hhs0, Hcs0⟩, ⟨Hs1, Hhs1, Hcs1⟩, ⟨Hs2, Hhs2, Hcs2⟩, ⟨Hs3, Hhs3, Hcs3⟩, ⟨Hs4, Hhs4, Hcs4⟩, ⟨Hs5, Hhs5, Hcs5⟩, ⟨Hs6, Hhs6, Hcs6⟩, ⟨Hs7, Hhs7, Hcs7⟩, ⟨Hs8, Hhs8, Hcs8⟩⟩, Hcx0, Hcx1, Hx, Hxs, Hb, Ho, ⟨%fx, Hmx⟩, ⟨%fs, Hms⟩, ⟨%fc, Hmc⟩, ⟨%fp, Hmp⟩, ⟨%fd, Hmd⟩, ⟨%fa, Hma⟩, HO⟩
  rw [cc0_mxfp8_conv_eq_skeleton]; unfold cc0_mxfp8_conv_skel
  (set_option sl_exec.stopBefore "k0_part87" in sl_exec)
  ihave HAW : Ring.AtW (Φw (c := c) hw) (stW 0) $$ [Hcw0 Hcw1 Hcw2 Hcw3 Hcw4 Hcw5 Hcw6 Hcw7 Hcw8 Hcw9 Hcw10 Hcw11 Hcw12 Hcw13 Hcw14 Hcw15 Hcw16 Hcw17 Hcw18 Hcw19 Hcw20 Hcw21 Hcw22 Hcw23 Hcw24 Hcw25 Hcw26 Hcw27 Hcw28 Hcw29 Hcw30 Hcw31 Hcw32 Hcw33 Hcw34 Hcw35]
  · iapply (pack_w c hw)
    isplitl [Hcw0]; · iapply (flight_w (c := c) (0) fw hw); iexact Hcw0
    isplitl [Hcw1]; · iapply (flight_w (c := c) (1) fw hw); iexact Hcw1
    isplitl [Hcw2]; · iapply (flight_w (c := c) (2) fw hw); iexact Hcw2
    isplitl [Hcw3]; · iapply (flight_w (c := c) (3) fw hw); iexact Hcw3
    isplitl [Hcw4]; · iapply (flight_w (c := c) (4) fw hw); iexact Hcw4
    isplitl [Hcw5]; · iapply (flight_w (c := c) (5) fw hw); iexact Hcw5
    isplitl [Hcw6]; · iapply (flight_w (c := c) (6) fw hw); iexact Hcw6
    isplitl [Hcw7]; · iapply (flight_w (c := c) (7) fw hw); iexact Hcw7
    isplitl [Hcw8]; · iapply (flight_w (c := c) (8) fw hw); iexact Hcw8
    isplitl [Hcw9]; · iapply (flight_w (c := c) (9) fw hw); iexact Hcw9
    isplitl [Hcw10]; · iapply (flight_w (c := c) (10) fw hw); iexact Hcw10
    isplitl [Hcw11]; · iapply (flight_w (c := c) (11) fw hw); iexact Hcw11
    isplitl [Hcw12]; · iapply (flight_w (c := c) (12) fw hw); iexact Hcw12
    isplitl [Hcw13]; · iapply (flight_w (c := c) (13) fw hw); iexact Hcw13
    isplitl [Hcw14]; · iapply (flight_w (c := c) (14) fw hw); iexact Hcw14
    isplitl [Hcw15]; · iapply (flight_w (c := c) (15) fw hw); iexact Hcw15
    isplitl [Hcw16]; · iapply (flight_w (c := c) (16) fw hw); iexact Hcw16
    isplitl [Hcw17]; · iapply (flight_w (c := c) (17) fw hw); iexact Hcw17
    isplitl [Hcw18]; · iapply (flight_w (c := c) (18) fw hw); iexact Hcw18
    isplitl [Hcw19]; · iapply (flight_w (c := c) (19) fw hw); iexact Hcw19
    isplitl [Hcw20]; · iapply (flight_w (c := c) (20) fw hw); iexact Hcw20
    isplitl [Hcw21]; · iapply (flight_w (c := c) (21) fw hw); iexact Hcw21
    isplitl [Hcw22]; · iapply (flight_w (c := c) (22) fw hw); iexact Hcw22
    isplitl [Hcw23]; · iapply (flight_w (c := c) (23) fw hw); iexact Hcw23
    isplitl [Hcw24]; · iapply (flight_w (c := c) (24) fw hw); iexact Hcw24
    isplitl [Hcw25]; · iapply (flight_w (c := c) (25) fw hw); iexact Hcw25
    isplitl [Hcw26]; · iapply (flight_w (c := c) (26) fw hw); iexact Hcw26
    isplitl [Hcw27]; · iapply (flight_w (c := c) (27) fw hw); iexact Hcw27
    isplitl [Hcw28]; · iapply (flight_w (c := c) (28) fw hw); iexact Hcw28
    isplitl [Hcw29]; · iapply (flight_w (c := c) (29) fw hw); iexact Hcw29
    isplitl [Hcw30]; · iapply (flight_w (c := c) (30) fw hw); iexact Hcw30
    isplitl [Hcw31]; · iapply (flight_w (c := c) (31) fw hw); iexact Hcw31
    isplitl [Hcw32]; · iapply (flight_w (c := c) (32) fw hw); iexact Hcw32
    isplitl [Hcw33]; · iapply (flight_w (c := c) (33) fw hw); iexact Hcw33
    isplitl [Hcw34]; · iapply (flight_w (c := c) (34) fw hw); iexact Hcw34
    iapply (flight_w (c := c) (35) fw hw); iexact Hcw35
  ihave HAS : Ring.AtW (Φs (c := c) hws) (stS 0) $$ [Hcs0 Hcs1 Hcs2 Hcs3 Hcs4 Hcs5 Hcs6 Hcs7 Hcs8]
  · iapply (pack_s c hws)
    isplitl [Hcs0]; · iapply (flight_s (c := c) (0) fws hws); iexact Hcs0
    isplitl [Hcs1]; · iapply (flight_s (c := c) (1) fws hws); iexact Hcs1
    isplitl [Hcs2]; · iapply (flight_s (c := c) (2) fws hws); iexact Hcs2
    isplitl [Hcs3]; · iapply (flight_s (c := c) (3) fws hws); iexact Hcs3
    isplitl [Hcs4]; · iapply (flight_s (c := c) (4) fws hws); iexact Hcs4
    isplitl [Hcs5]; · iapply (flight_s (c := c) (5) fws hws); iexact Hcs5
    isplitl [Hcs6]; · iapply (flight_s (c := c) (6) fws hws); iexact Hcs6
    isplitl [Hcs7]; · iapply (flight_s (c := c) (7) fws hws); iexact Hcs7
    iapply (flight_s (c := c) (8) fws hws); iexact Hcs8
  have hzero : True := trivial
  sl_exec
  sl_step
  isplitl [HAW]; · iexact HAW
  isplitl [HAS]; · iexact HAS
  isplitl [Hcx0]; · iexact Hcx0
  isplitl [Hcx1]; · iexact Hcx1
  isplitl [Hx]; · iexact Hx
  isplitl [Hxs]; · iexact Hxs
  isplitl [Hb]; · iexact Hb
  isplitl [Ho]
  · iexists _
    isplitl [Ho]; · iexact Ho
    ipureintro
    have hX0 : MX.view.writes (Elt F) MX.view.junk [⟨Rect.whole S2x12x20x2560, conv_run.sl.dma0_1 c hx⟩] = hx := landX (c := c) _ _
    rw [hX0] at hL3
    refine ⟨_, fL0, faL2, ?_, hL3, hL9, ?_⟩
    · intro a r p g hr hg
      refine (readC (c := c) _ _).trans ?_
      delta conv_run.sl.Hmc_2
      refine (?_ : a.val < 23 + 1 → _) a.isLt
      refine rd_cons MC.view _ (gC hs) _ _ _ _ (agC hs 1 11 23 rfl (by decide) _ (congrArg k0_pay318 (rdSx hs 1 11 (by decide)))) (coverC 23 (by decide) a r p g hr hg) ?_
      refine rd_cons MC.view _ (gC hs) _ _ _ _ (agC hs 1 10 22 rfl (by decide) _ (congrArg k0_pay318 (rdSx hs 1 10 (by decide)))) (coverC 22 (by decide) a r p g hr hg) ?_
      refine rd_cons MC.view _ (gC hs) _ _ _ _ (agC hs 1 9 21 rfl (by decide) _ (congrArg k0_pay318 (rdSx hs 1 9 (by decide)))) (coverC 21 (by decide) a r p g hr hg) ?_
      refine rd_cons MC.view _ (gC hs) _ _ _ _ (agC hs 1 8 20 rfl (by decide) _ (congrArg k0_pay318 (rdSx hs 1 8 (by decide)))) (coverC 20 (by decide) a r p g hr hg) ?_
      refine rd_cons MC.view _ (gC hs) _ _ _ _ (agC hs 1 7 19 rfl (by decide) _ (congrArg k0_pay318 (rdSx hs 1 7 (by decide)))) (coverC 19 (by decide) a r p g hr hg) ?_
      refine rd_cons MC.view _ (gC hs) _ _ _ _ (agC hs 1 6 18 rfl (by decide) _ (congrArg k0_pay318 (rdSx hs 1 6 (by decide)))) (coverC 18 (by decide) a r p g hr hg) ?_
      refine rd_cons MC.view _ (gC hs) _ _ _ _ (agC hs 1 5 17 rfl (by decide) _ (congrArg k0_pay318 (rdSx hs 1 5 (by decide)))) (coverC 17 (by decide) a r p g hr hg) ?_
      refine rd_cons MC.view _ (gC hs) _ _ _ _ (agC hs 1 4 16 rfl (by decide) _ (congrArg k0_pay318 (rdSx hs 1 4 (by decide)))) (coverC 16 (by decide) a r p g hr hg) ?_
      refine rd_cons MC.view _ (gC hs) _ _ _ _ (agC hs 1 3 15 rfl (by decide) _ (congrArg k0_pay318 (rdSx hs 1 3 (by decide)))) (coverC 15 (by decide) a r p g hr hg) ?_
      refine rd_cons MC.view _ (gC hs) _ _ _ _ (agC hs 1 2 14 rfl (by decide) _ (congrArg k0_pay318 (rdSx hs 1 2 (by decide)))) (coverC 14 (by decide) a r p g hr hg) ?_
      refine rd_cons MC.view _ (gC hs) _ _ _ _ (agC hs 1 1 13 rfl (by decide) _ (congrArg k0_pay318 (rdSx hs 1 1 (by decide)))) (coverC 13 (by decide) a r p g hr hg) ?_
      refine rd_cons MC.view _ (gC hs) _ _ _ _ (agC hs 1 0 12 rfl (by decide) _ (congrArg k0_pay318 (rdSx hs 1 0 (by decide)))) (coverC 12 (by decide) a r p g hr hg) ?_
      refine rd_cons MC.view _ (gC hs) _ _ _ _ (agC hs 0 11 11 rfl (by decide) _ (congrArg k0_pay318 (rdSx hs 0 11 (by decide)))) (coverC 11 (by decide) a r p g hr hg) ?_
      refine rd_cons MC.view _ (gC hs) _ _ _ _ (agC hs 0 10 10 rfl (by decide) _ (congrArg k0_pay318 (rdSx hs 0 10 (by decide)))) (coverC 10 (by decide) a r p g hr hg) ?_
      refine rd_cons MC.view _ (gC hs) _ _ _ _ (agC hs 0 9 9 rfl (by decide) _ (congrArg k0_pay318 (rdSx hs 0 9 (by decide)))) (coverC 9 (by decide) a r p g hr hg) ?_
      refine rd_cons MC.view _ (gC hs) _ _ _ _ (agC hs 0 8 8 rfl (by decide) _ (congrArg k0_pay318 (rdSx hs 0 8 (by decide)))) (coverC 8 (by decide) a r p g hr hg) ?_
      refine rd_cons MC.view _ (gC hs) _ _ _ _ (agC hs 0 7 7 rfl (by decide) _ (congrArg k0_pay318 (rdSx hs 0 7 (by decide)))) (coverC 7 (by decide) a r p g hr hg) ?_
      refine rd_cons MC.view _ (gC hs) _ _ _ _ (agC hs 0 6 6 rfl (by decide) _ (congrArg k0_pay318 (rdSx hs 0 6 (by decide)))) (coverC 6 (by decide) a r p g hr hg) ?_
      refine rd_cons MC.view _ (gC hs) _ _ _ _ (agC hs 0 5 5 rfl (by decide) _ (congrArg k0_pay318 (rdSx hs 0 5 (by decide)))) (coverC 5 (by decide) a r p g hr hg) ?_
      refine rd_cons MC.view _ (gC hs) _ _ _ _ (agC hs 0 4 4 rfl (by decide) _ (congrArg k0_pay318 (rdSx hs 0 4 (by decide)))) (coverC 4 (by decide) a r p g hr hg) ?_
      refine rd_cons MC.view _ (gC hs) _ _ _ _ (agC hs 0 3 3 rfl (by decide) _ (congrArg k0_pay318 (rdSx hs 0 3 (by decide)))) (coverC 3 (by decide) a r p g hr hg) ?_
      refine rd_cons MC.view _ (gC hs) _ _ _ _ (agC hs 0 2 2 rfl (by decide) _ (congrArg k0_pay318 (rdSx hs 0 2 (by decide)))) (coverC 2 (by decide) a r p g hr hg) ?_
      refine rd_cons MC.view _ (gC hs) _ _ _ _ (agC hs 0 1 1 rfl (by decide) _ (congrArg k0_pay318 (rdSx hs 0 1 (by decide)))) (coverC 1 (by decide) a r p g hr hg) ?_
      refine rd_cons MC.view _ (gC hs) _ _ _ _ (agC hs 0 0 0 rfl (by decide) _ (congrArg k0_pay318 (rdSx hs 0 0 (by decide)))) (coverC 0 (by decide) a r p g hr hg) ?_
      exact fun h => absurd h (Nat.not_lt_zero _)
    · funext i
      refine (?_ : pcO i < 47 + 1 → _) (pcO_lt i)
      refine rd_cons arg5.view _ (outV faL2 (View.read (Elt F) arg4.view bias)) _ _ _ _ (agO_1_5 (c := c) faL2 _ 3 1536 (by decide) rfl (by decide) _ _ (rdAQ faL2 3 (by decide) (by decide)) _ (rdBQ arg4 bias 1536 (by decide) (by decide)) rfl) (coverO 47 1 5 1536 (by decide) (by decide) rfl rfl (by decide) i) ?_
      refine rd_cons arg5.view _ (outV faL2 (View.read (Elt F) arg4.view bias)) _ _ _ _ (agO_1_4 (c := c) faL2 _ 3 1536 (by decide) rfl (by decide) _ _ (rdAQ faL2 3 (by decide) (by decide)) _ (rdBQ arg4 bias 1536 (by decide) (by decide)) rfl) (coverO 46 1 4 1536 (by decide) (by decide) rfl rfl (by decide) i) ?_
      refine rd_cons arg5.view _ (outV faL2 (View.read (Elt F) arg4.view bias)) _ _ _ _ (agO_1_3 (c := c) faL2 _ 3 1536 (by decide) rfl (by decide) _ _ (rdAQ faL2 3 (by decide) (by decide)) _ (rdBQ arg4 bias 1536 (by decide) (by decide)) rfl) (coverO 45 1 3 1536 (by decide) (by decide) rfl rfl (by decide) i) ?_
      refine rd_cons arg5.view _ (outV faL2 (View.read (Elt F) arg4.view bias)) _ _ _ _ (agO_1_2 (c := c) faL2 _ 3 1536 (by decide) rfl (by decide) _ _ (rdAQ faL2 3 (by decide) (by decide)) _ (rdBQ arg4 bias 1536 (by decide) (by decide)) rfl) (coverO 44 1 2 1536 (by decide) (by decide) rfl rfl (by decide) i) ?_
      refine rd_cons arg5.view _ (outV faL2 (View.read (Elt F) arg4.view bias)) _ _ _ _ (agO_1_1 (c := c) faL2 _ 3 1536 (by decide) rfl (by decide) _ _ (rdAQ faL2 3 (by decide) (by decide)) _ (rdBQ arg4 bias 1536 (by decide) (by decide)) rfl) (coverO 43 1 1 1536 (by decide) (by decide) rfl rfl (by decide) i) ?_
      refine rd_cons arg5.view _ (outV faL2 (View.read (Elt F) arg4.view bias)) _ _ _ _ (agO_1_0 (c := c) faL2 _ 3 1536 (by decide) rfl (by decide) _ _ (rdAQ faL2 3 (by decide) (by decide)) _ (rdBQ arg4 bias 1536 (by decide) (by decide)) rfl) (coverO 42 1 0 1536 (by decide) (by decide) rfl rfl (by decide) i) ?_
      refine rd_cons arg5.view _ (outV faL2 (View.read (Elt F) arg4.view bias)) _ _ _ _ (agO_0_5 (c := c) faL2 _ 3 1536 (by decide) rfl (by decide) _ _ (rdAQ faL2 3 (by decide) (by decide)) _ (rdBQ arg4 bias 1536 (by decide) (by decide)) rfl) (coverO 41 0 5 1536 (by decide) (by decide) rfl rfl (by decide) i) ?_
      refine rd_cons arg5.view _ (outV faL2 (View.read (Elt F) arg4.view bias)) _ _ _ _ (agO_0_4 (c := c) faL2 _ 3 1536 (by decide) rfl (by decide) _ _ (rdAQ faL2 3 (by decide) (by decide)) _ (rdBQ arg4 bias 1536 (by decide) (by decide)) rfl) (coverO 40 0 4 1536 (by decide) (by decide) rfl rfl (by decide) i) ?_
      refine rd_cons arg5.view _ (outV faL2 (View.read (Elt F) arg4.view bias)) _ _ _ _ (agO_0_3 (c := c) faL2 _ 3 1536 (by decide) rfl (by decide) _ _ (rdAQ faL2 3 (by decide) (by decide)) _ (rdBQ arg4 bias 1536 (by decide) (by decide)) rfl) (coverO 39 0 3 1536 (by decide) (by decide) rfl rfl (by decide) i) ?_
      refine rd_cons arg5.view _ (outV faL2 (View.read (Elt F) arg4.view bias)) _ _ _ _ (agO_0_2 (c := c) faL2 _ 3 1536 (by decide) rfl (by decide) _ _ (rdAQ faL2 3 (by decide) (by decide)) _ (rdBQ arg4 bias 1536 (by decide) (by decide)) rfl) (coverO 38 0 2 1536 (by decide) (by decide) rfl rfl (by decide) i) ?_
      refine rd_cons arg5.view _ (outV faL2 (View.read (Elt F) arg4.view bias)) _ _ _ _ (agO_0_1 (c := c) faL2 _ 3 1536 (by decide) rfl (by decide) _ _ (rdAQ faL2 3 (by decide) (by decide)) _ (rdBQ arg4 bias 1536 (by decide) (by decide)) rfl) (coverO 37 0 1 1536 (by decide) (by decide) rfl rfl (by decide) i) ?_
      refine rd_cons arg5.view _ (outV faL2 (View.read (Elt F) arg4.view bias)) _ _ _ _ (agO_0_0 (c := c) faL2 _ 3 1536 (by decide) rfl (by decide) _ _ (rdAQ faL2 3 (by decide) (by decide)) _ (rdBQ arg4 bias 1536 (by decide) (by decide)) rfl) (coverO 36 0 0 1536 (by decide) (by decide) rfl rfl (by decide) i) ?_
      refine rd_cons arg5.view _ (outV faL2 (View.read (Elt F) arg4.view bias)) _ _ _ _ (agO_1_5 (c := c) faL2 _ 2 1024 (by decide) rfl (by decide) _ _ (rdAQ faL2 2 (by decide) (by decide)) _ (rdBQ arg4 bias 1024 (by decide) (by decide)) rfl) (coverO 35 1 5 1024 (by decide) (by decide) rfl rfl (by decide) i) ?_
      refine rd_cons arg5.view _ (outV faL2 (View.read (Elt F) arg4.view bias)) _ _ _ _ (agO_1_4 (c := c) faL2 _ 2 1024 (by decide) rfl (by decide) _ _ (rdAQ faL2 2 (by decide) (by decide)) _ (rdBQ arg4 bias 1024 (by decide) (by decide)) rfl) (coverO 34 1 4 1024 (by decide) (by decide) rfl rfl (by decide) i) ?_
      refine rd_cons arg5.view _ (outV faL2 (View.read (Elt F) arg4.view bias)) _ _ _ _ (agO_1_3 (c := c) faL2 _ 2 1024 (by decide) rfl (by decide) _ _ (rdAQ faL2 2 (by decide) (by decide)) _ (rdBQ arg4 bias 1024 (by decide) (by decide)) rfl) (coverO 33 1 3 1024 (by decide) (by decide) rfl rfl (by decide) i) ?_
      refine rd_cons arg5.view _ (outV faL2 (View.read (Elt F) arg4.view bias)) _ _ _ _ (agO_1_2 (c := c) faL2 _ 2 1024 (by decide) rfl (by decide) _ _ (rdAQ faL2 2 (by decide) (by decide)) _ (rdBQ arg4 bias 1024 (by decide) (by decide)) rfl) (coverO 32 1 2 1024 (by decide) (by decide) rfl rfl (by decide) i) ?_
      refine rd_cons arg5.view _ (outV faL2 (View.read (Elt F) arg4.view bias)) _ _ _ _ (agO_1_1 (c := c) faL2 _ 2 1024 (by decide) rfl (by decide) _ _ (rdAQ faL2 2 (by decide) (by decide)) _ (rdBQ arg4 bias 1024 (by decide) (by decide)) rfl) (coverO 31 1 1 1024 (by decide) (by decide) rfl rfl (by decide) i) ?_
      refine rd_cons arg5.view _ (outV faL2 (View.read (Elt F) arg4.view bias)) _ _ _ _ (agO_1_0 (c := c) faL2 _ 2 1024 (by decide) rfl (by decide) _ _ (rdAQ faL2 2 (by decide) (by decide)) _ (rdBQ arg4 bias 1024 (by decide) (by decide)) rfl) (coverO 30 1 0 1024 (by decide) (by decide) rfl rfl (by decide) i) ?_
      refine rd_cons arg5.view _ (outV faL2 (View.read (Elt F) arg4.view bias)) _ _ _ _ (agO_0_5 (c := c) faL2 _ 2 1024 (by decide) rfl (by decide) _ _ (rdAQ faL2 2 (by decide) (by decide)) _ (rdBQ arg4 bias 1024 (by decide) (by decide)) rfl) (coverO 29 0 5 1024 (by decide) (by decide) rfl rfl (by decide) i) ?_
      refine rd_cons arg5.view _ (outV faL2 (View.read (Elt F) arg4.view bias)) _ _ _ _ (agO_0_4 (c := c) faL2 _ 2 1024 (by decide) rfl (by decide) _ _ (rdAQ faL2 2 (by decide) (by decide)) _ (rdBQ arg4 bias 1024 (by decide) (by decide)) rfl) (coverO 28 0 4 1024 (by decide) (by decide) rfl rfl (by decide) i) ?_
      refine rd_cons arg5.view _ (outV faL2 (View.read (Elt F) arg4.view bias)) _ _ _ _ (agO_0_3 (c := c) faL2 _ 2 1024 (by decide) rfl (by decide) _ _ (rdAQ faL2 2 (by decide) (by decide)) _ (rdBQ arg4 bias 1024 (by decide) (by decide)) rfl) (coverO 27 0 3 1024 (by decide) (by decide) rfl rfl (by decide) i) ?_
      refine rd_cons arg5.view _ (outV faL2 (View.read (Elt F) arg4.view bias)) _ _ _ _ (agO_0_2 (c := c) faL2 _ 2 1024 (by decide) rfl (by decide) _ _ (rdAQ faL2 2 (by decide) (by decide)) _ (rdBQ arg4 bias 1024 (by decide) (by decide)) rfl) (coverO 26 0 2 1024 (by decide) (by decide) rfl rfl (by decide) i) ?_
      refine rd_cons arg5.view _ (outV faL2 (View.read (Elt F) arg4.view bias)) _ _ _ _ (agO_0_1 (c := c) faL2 _ 2 1024 (by decide) rfl (by decide) _ _ (rdAQ faL2 2 (by decide) (by decide)) _ (rdBQ arg4 bias 1024 (by decide) (by decide)) rfl) (coverO 25 0 1 1024 (by decide) (by decide) rfl rfl (by decide) i) ?_
      refine rd_cons arg5.view _ (outV faL2 (View.read (Elt F) arg4.view bias)) _ _ _ _ (agO_0_0 (c := c) faL2 _ 2 1024 (by decide) rfl (by decide) _ _ (rdAQ faL2 2 (by decide) (by decide)) _ (rdBQ arg4 bias 1024 (by decide) (by decide)) rfl) (coverO 24 0 0 1024 (by decide) (by decide) rfl rfl (by decide) i) ?_
      refine rd_cons arg5.view _ (outV faL2 (View.read (Elt F) arg4.view bias)) _ _ _ _ (agO_1_5 (c := c) faL2 _ 1 512 (by decide) rfl (by decide) _ _ (rdAQ faL2 1 (by decide) (by decide)) _ (rdBQ arg4 bias 512 (by decide) (by decide)) rfl) (coverO 23 1 5 512 (by decide) (by decide) rfl rfl (by decide) i) ?_
      refine rd_cons arg5.view _ (outV faL2 (View.read (Elt F) arg4.view bias)) _ _ _ _ (agO_1_4 (c := c) faL2 _ 1 512 (by decide) rfl (by decide) _ _ (rdAQ faL2 1 (by decide) (by decide)) _ (rdBQ arg4 bias 512 (by decide) (by decide)) rfl) (coverO 22 1 4 512 (by decide) (by decide) rfl rfl (by decide) i) ?_
      refine rd_cons arg5.view _ (outV faL2 (View.read (Elt F) arg4.view bias)) _ _ _ _ (agO_1_3 (c := c) faL2 _ 1 512 (by decide) rfl (by decide) _ _ (rdAQ faL2 1 (by decide) (by decide)) _ (rdBQ arg4 bias 512 (by decide) (by decide)) rfl) (coverO 21 1 3 512 (by decide) (by decide) rfl rfl (by decide) i) ?_
      refine rd_cons arg5.view _ (outV faL2 (View.read (Elt F) arg4.view bias)) _ _ _ _ (agO_1_2 (c := c) faL2 _ 1 512 (by decide) rfl (by decide) _ _ (rdAQ faL2 1 (by decide) (by decide)) _ (rdBQ arg4 bias 512 (by decide) (by decide)) rfl) (coverO 20 1 2 512 (by decide) (by decide) rfl rfl (by decide) i) ?_
      refine rd_cons arg5.view _ (outV faL2 (View.read (Elt F) arg4.view bias)) _ _ _ _ (agO_1_1 (c := c) faL2 _ 1 512 (by decide) rfl (by decide) _ _ (rdAQ faL2 1 (by decide) (by decide)) _ (rdBQ arg4 bias 512 (by decide) (by decide)) rfl) (coverO 19 1 1 512 (by decide) (by decide) rfl rfl (by decide) i) ?_
      refine rd_cons arg5.view _ (outV faL2 (View.read (Elt F) arg4.view bias)) _ _ _ _ (agO_1_0 (c := c) faL2 _ 1 512 (by decide) rfl (by decide) _ _ (rdAQ faL2 1 (by decide) (by decide)) _ (rdBQ arg4 bias 512 (by decide) (by decide)) rfl) (coverO 18 1 0 512 (by decide) (by decide) rfl rfl (by decide) i) ?_
      refine rd_cons arg5.view _ (outV faL2 (View.read (Elt F) arg4.view bias)) _ _ _ _ (agO_0_5 (c := c) faL2 _ 1 512 (by decide) rfl (by decide) _ _ (rdAQ faL2 1 (by decide) (by decide)) _ (rdBQ arg4 bias 512 (by decide) (by decide)) rfl) (coverO 17 0 5 512 (by decide) (by decide) rfl rfl (by decide) i) ?_
      refine rd_cons arg5.view _ (outV faL2 (View.read (Elt F) arg4.view bias)) _ _ _ _ (agO_0_4 (c := c) faL2 _ 1 512 (by decide) rfl (by decide) _ _ (rdAQ faL2 1 (by decide) (by decide)) _ (rdBQ arg4 bias 512 (by decide) (by decide)) rfl) (coverO 16 0 4 512 (by decide) (by decide) rfl rfl (by decide) i) ?_
      refine rd_cons arg5.view _ (outV faL2 (View.read (Elt F) arg4.view bias)) _ _ _ _ (agO_0_3 (c := c) faL2 _ 1 512 (by decide) rfl (by decide) _ _ (rdAQ faL2 1 (by decide) (by decide)) _ (rdBQ arg4 bias 512 (by decide) (by decide)) rfl) (coverO 15 0 3 512 (by decide) (by decide) rfl rfl (by decide) i) ?_
      refine rd_cons arg5.view _ (outV faL2 (View.read (Elt F) arg4.view bias)) _ _ _ _ (agO_0_2 (c := c) faL2 _ 1 512 (by decide) rfl (by decide) _ _ (rdAQ faL2 1 (by decide) (by decide)) _ (rdBQ arg4 bias 512 (by decide) (by decide)) rfl) (coverO 14 0 2 512 (by decide) (by decide) rfl rfl (by decide) i) ?_
      refine rd_cons arg5.view _ (outV faL2 (View.read (Elt F) arg4.view bias)) _ _ _ _ (agO_0_1 (c := c) faL2 _ 1 512 (by decide) rfl (by decide) _ _ (rdAQ faL2 1 (by decide) (by decide)) _ (rdBQ arg4 bias 512 (by decide) (by decide)) rfl) (coverO 13 0 1 512 (by decide) (by decide) rfl rfl (by decide) i) ?_
      refine rd_cons arg5.view _ (outV faL2 (View.read (Elt F) arg4.view bias)) _ _ _ _ (agO_0_0 (c := c) faL2 _ 1 512 (by decide) rfl (by decide) _ _ (rdAQ faL2 1 (by decide) (by decide)) _ (rdBQ arg4 bias 512 (by decide) (by decide)) rfl) (coverO 12 0 0 512 (by decide) (by decide) rfl rfl (by decide) i) ?_
      refine rd_cons arg5.view _ (outV faL2 (View.read (Elt F) arg4.view bias)) _ _ _ _ (agO_1_5 (c := c) faL2 _ 0 0 (by decide) rfl (by decide) _ _ (rdAQ faL2 0 (by decide) (by decide)) _ (rdBQ arg4 bias 0 (by decide) (by decide)) rfl) (coverO 11 1 5 0 (by decide) (by decide) rfl rfl (by decide) i) ?_
      refine rd_cons arg5.view _ (outV faL2 (View.read (Elt F) arg4.view bias)) _ _ _ _ (agO_1_4 (c := c) faL2 _ 0 0 (by decide) rfl (by decide) _ _ (rdAQ faL2 0 (by decide) (by decide)) _ (rdBQ arg4 bias 0 (by decide) (by decide)) rfl) (coverO 10 1 4 0 (by decide) (by decide) rfl rfl (by decide) i) ?_
      refine rd_cons arg5.view _ (outV faL2 (View.read (Elt F) arg4.view bias)) _ _ _ _ (agO_1_3 (c := c) faL2 _ 0 0 (by decide) rfl (by decide) _ _ (rdAQ faL2 0 (by decide) (by decide)) _ (rdBQ arg4 bias 0 (by decide) (by decide)) rfl) (coverO 9 1 3 0 (by decide) (by decide) rfl rfl (by decide) i) ?_
      refine rd_cons arg5.view _ (outV faL2 (View.read (Elt F) arg4.view bias)) _ _ _ _ (agO_1_2 (c := c) faL2 _ 0 0 (by decide) rfl (by decide) _ _ (rdAQ faL2 0 (by decide) (by decide)) _ (rdBQ arg4 bias 0 (by decide) (by decide)) rfl) (coverO 8 1 2 0 (by decide) (by decide) rfl rfl (by decide) i) ?_
      refine rd_cons arg5.view _ (outV faL2 (View.read (Elt F) arg4.view bias)) _ _ _ _ (agO_1_1 (c := c) faL2 _ 0 0 (by decide) rfl (by decide) _ _ (rdAQ faL2 0 (by decide) (by decide)) _ (rdBQ arg4 bias 0 (by decide) (by decide)) rfl) (coverO 7 1 1 0 (by decide) (by decide) rfl rfl (by decide) i) ?_
      refine rd_cons arg5.view _ (outV faL2 (View.read (Elt F) arg4.view bias)) _ _ _ _ (agO_1_0 (c := c) faL2 _ 0 0 (by decide) rfl (by decide) _ _ (rdAQ faL2 0 (by decide) (by decide)) _ (rdBQ arg4 bias 0 (by decide) (by decide)) rfl) (coverO 6 1 0 0 (by decide) (by decide) rfl rfl (by decide) i) ?_
      refine rd_cons arg5.view _ (outV faL2 (View.read (Elt F) arg4.view bias)) _ _ _ _ (agO_0_5 (c := c) faL2 _ 0 0 (by decide) rfl (by decide) _ _ (rdAQ faL2 0 (by decide) (by decide)) _ (rdBQ arg4 bias 0 (by decide) (by decide)) rfl) (coverO 5 0 5 0 (by decide) (by decide) rfl rfl (by decide) i) ?_
      refine rd_cons arg5.view _ (outV faL2 (View.read (Elt F) arg4.view bias)) _ _ _ _ (agO_0_4 (c := c) faL2 _ 0 0 (by decide) rfl (by decide) _ _ (rdAQ faL2 0 (by decide) (by decide)) _ (rdBQ arg4 bias 0 (by decide) (by decide)) rfl) (coverO 4 0 4 0 (by decide) (by decide) rfl rfl (by decide) i) ?_
      refine rd_cons arg5.view _ (outV faL2 (View.read (Elt F) arg4.view bias)) _ _ _ _ (agO_0_3 (c := c) faL2 _ 0 0 (by decide) rfl (by decide) _ _ (rdAQ faL2 0 (by decide) (by decide)) _ (rdBQ arg4 bias 0 (by decide) (by decide)) rfl) (coverO 3 0 3 0 (by decide) (by decide) rfl rfl (by decide) i) ?_
      refine rd_cons arg5.view _ (outV faL2 (View.read (Elt F) arg4.view bias)) _ _ _ _ (agO_0_2 (c := c) faL2 _ 0 0 (by decide) rfl (by decide) _ _ (rdAQ faL2 0 (by decide) (by decide)) _ (rdBQ arg4 bias 0 (by decide) (by decide)) rfl) (coverO 2 0 2 0 (by decide) (by decide) rfl rfl (by decide) i) ?_
      refine rd_cons arg5.view _ (outV faL2 (View.read (Elt F) arg4.view bias)) _ _ _ _ (agO_0_1 (c := c) faL2 _ 0 0 (by decide) rfl (by decide) _ _ (rdAQ faL2 0 (by decide) (by decide)) _ (rdBQ arg4 bias 0 (by decide) (by decide)) rfl) (coverO 1 0 1 0 (by decide) (by decide) rfl rfl (by decide) i) ?_
      refine rd_cons arg5.view _ (outV faL2 (View.read (Elt F) arg4.view bias)) _ _ _ _ (agO_0_0 (c := c) faL2 _ 0 0 (by decide) rfl (by decide) _ _ (rdAQ faL2 0 (by decide) (by decide)) _ (rdBQ arg4 bias 0 (by decide) (by decide)) rfl) (coverO 0 0 0 0 (by decide) (by decide) rfl rfl (by decide) i) ?_
      exact fun h => absurd h (Nat.not_lt_zero _)
  isplitl [Hmx]; · iexists _; iexact Hmx
  isplitl [Hms]; · iexists _; iexact Hms
  isplitl [Hmc]; · iexists _; iexact Hmc
  isplitl [Hmp]; · iexists _; iexact Hmp
  isplitl [Hmd]; · iexists _; iexact Hmd
  isplitl [Hma]; · iexists _; iexact Hma
  iexists _; iexact HO

end Cert.KernelIdeal.Hand

end
-- ==== Proof.KernelIdeal.Frame.lean ====
/-
  The launch: the kernel's run (Run) under the pipeline's body obligation, and @main's run from it.
-/
module

public import proofs.«01_k».proof.Proof.KernelIdeal.Run
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's cells and the arrays it leaves in HBM -/

/-- The two cells of the first transfers. -/
abbrev xcell (k : Fin 2) : SemLoc sig := SemLoc.dma ⟨2 + k.val, by have := k.isLt; show 2 + k.val < 49; omega⟩
/-- The kernel's own cells: the weights', the scales', the first two. -/
abbrev osem0 : Fin 36 ⊕ Fin 9 ⊕ Fin 2 → SemLoc sig
  | .inl k => wcell k
  | .inr (.inl t) => scell t
  | .inr (.inr j) => xcell j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop((bigSep Finset.univ fun k : Fin 36 => semVal ((c : Thread nD τ), wcell k) 0)
        ∗ (bigSep Finset.univ fun t : Fin 9 => semVal ((c : Thread nD τ), scell t) 0)
        ∗ semVal ((c : Thread nD τ), xcell 0) 0 ∗ semVal ((c : Thread nD τ), xcell 1) 0) := by
  unfold Pipeline.ownSems0
  rw [bigSep_univ_sum, bigSep_univ_sum, bigSep_fin_two]
  rfl
def H0 : Finset (Ref sig .tc) := {main_arg0, main_arg1, main_arg2, main_arg3}
theorem H0_sub : H0 ⊆ Pipeline.restRefs sig spec0 := by decide
theorem hbm_eq (c : Dev nD) :
    (bigSep H0 (fun b => ((c : Thread nD τ).loc b) ↦{fullShare} V m c b) : sProp 𝕄)
      = iprop(holds c HX (V m c main_arg0) ∗ holds c HS (V m c main_arg1) ∗ holds c HW (V m c main_arg2) ∗ holds c HWS (V m c main_arg3)) := by
  rw [BI.bigSep_eq_bigSepL_of_eq [main_arg0, main_arg1, main_arg2, main_arg3] (by decide) (by decide)]
  unfold holds
  simp only [View.set_whole]
  rfl
theorem scratch_eq (c : Dev nD) :
    (Pipeline.scopedRest (Ix := Unit) (Name := ℕ) (U := Pipeline.UD sig nD τ) (Lvl := ℕ) (Val := Elt F) spec0 c : sProp 𝕄)
      = iprop((∃ f, holds c MX f) ∗ (∃ f, holds c MS f) ∗ (∃ f, holds c MW f) ∗ (∃ f, holds c MWS f)
        ∗ (∃ f, holds c MC f) ∗ (∃ f, holds c MP f) ∗ (∃ f, holds c MD f) ∗ (∃ f, holds c MA f)) := by
  rw [scopedRest0_eq]
  unfold holds
  simp only [View.set_whole]

/-! ## The run from the whole buffers -/

theorem conv_whole (c : Dev nD) (arg4 : Memref sig .tc .vmem S1x2048 .f32) (harg4 : arg4.IsWhole) (arg5 : Memref sig .tc .vmem S2x6x10x2048 .bf16) (harg5 : arg5.IsWhole)
    (hx : HbBuf F c HX) (hs : HbBuf F c HS) (hw : HbBuf F c HW) (hws : HbBuf F c HWS) (W : Waits sig Unit)
    (bias : BufTy.Contents (Elt F) arg4.view.ty) (fo : BufTy.Contents (Elt F) arg5.view.ty) :
    (iprop(((∃ f, holds c MX f) ∗ (∃ f, holds c MS f) ∗ (∃ f, holds c MW f) ∗ (∃ f, holds c MWS f)
        ∗ (∃ f, holds c MC f) ∗ (∃ f, holds c MP f) ∗ (∃ f, holds c MD f) ∗ (∃ f, holds c MA f))
      ∗ ((bigSep Finset.univ fun k : Fin 36 => semVal ((c : Thread nD τ), wcell k) 0)
        ∗ (bigSep Finset.univ fun t : Fin 9 => semVal ((c : Thread nD τ), scell t) 0)
        ∗ semVal ((c : Thread nD τ), xcell 0) 0 ∗ semVal ((c : Thread nD τ), xcell 1) 0)
      ∗ (holds c HX hx ∗ holds c HS hs ∗ holds c HW hw ∗ holds c HWS hws)
      ∗ owes (c : Thread nD τ) 0 W
      ∗ (arg4.view.loc (c : Thread nD τ) ↦[arg4.view.set]{fullShare} bias)
      ∗ (arg5.view.loc (c : Thread nD τ) ↦[arg5.view.set]{fullShare} fo)) : sProp 𝕄)
    ⊢ wp frame (wpE (defs₀ (F := F)) Variants.none c none) Set.univ
      (cc0_mxfp8_conv HX (Memref.isWhole_whole _) HS (Memref.isWhole_whole _) HW (Memref.isWhole_whole _) HWS (Memref.isWhole_whole _) arg4 harg4 arg5 harg5
        MX (Memref.isWhole_whole _) MS (Memref.isWhole_whole _) MW (Memref.isWhole_whole _) MWS (Memref.isWhole_whole _)
        MC (Memref.isWhole_whole _) MP (Memref.isWhole_whole _) MD (Memref.isWhole_whole _) MA (Memref.isWhole_whole _) cc0_scoped0 cc0_scoped1 cc0_scoped2)
      (fun _ => iprop(((∃ f, holds c MX f) ∗ (∃ f, holds c MS f) ∗ (∃ f, holds c MW f) ∗ (∃ f, holds c MWS f)
        ∗ (∃ f, holds c MC f) ∗ (∃ f, holds c MP f) ∗ (∃ f, holds c MD f) ∗ (∃ f, holds c MA f))
      ∗ ((bigSep Finset.univ fun k : Fin 36 => semVal ((c : Thread nD τ), wcell k) 0)
        ∗ (bigSep Finset.univ fun t : Fin 9 => semVal ((c : Thread nD τ), scell t) 0)
        ∗ semVal ((c : Thread nD τ), xcell 0) 0 ∗ semVal ((c : Thread nD τ), xcell 1) 0)
      ∗ (holds c HX hx ∗ holds c HS hs ∗ holds c HW hw ∗ holds c HWS hws)
      ∗ (∃ W, owes (c : Thread nD τ) 0 W)
      ∗ (arg4.view.loc (c : Thread nD τ) ↦[arg4.view.set]{fullShare} bias)
      ∗ (∃ fo', (arg5.view.loc (c : Thread nD τ) ↦[arg5.view.set]{fullShare} fo') ∗ ⌜OutFact c arg4 arg5 hx hs hw hws bias fo'⌝))) := by
  iintro ⟨⟨Hmx, Hms, ⟨%fw, Hmw⟩, ⟨%fws, Hmws⟩, Hmc, Hmp, Hmd, Hma⟩, ⟨Hcw, Hcs, Hc0, Hc1⟩, ⟨Hx, Hs, Hw, Hws⟩, HO, Hb, Hfo⟩
  iapply (wp_wand_r frame (wpE (defs₀ (F := F)) Variants.none c none) Set.univ)
  isplitl [Hmx Hms Hmw Hmws Hmc Hmp Hmd Hma Hcw Hcs Hc0 Hc1 Hx Hs Hw Hws HO Hb Hfo]
  · iapply (conv_run c arg4 harg4 arg5 harg5 fw hw fws hws W hx hs bias fo)
    isplitl [Hmw Hw Hcw]
    · iapply (start_w c fw hw)
      isplitl [Hmw]; · iexact Hmw
      isplitl [Hw]; · iexact Hw
      iexact Hcw
    isplitl [Hmws Hws Hcs]
    · iapply (start_s c fws hws)
      isplitl [Hmws]; · iexact Hmws
      isplitl [Hws]; · iexact Hws
      iexact Hcs
    isplitl [Hc0]; · iexact Hc0
    isplitl [Hc1]; · iexact Hc1
    isplitl [Hx]; · iexact Hx
    isplitl [Hs]; · iexact Hs
    isplitl [Hb]; · iexact Hb
    isplitl [Hfo]; · iexact Hfo
    isplitl [Hmx]; · iexact Hmx
    isplitl [Hms]; · iexact Hms
    isplitl [Hmc]; · iexact Hmc
    isplitl [Hmp]; · iexact Hmp
    isplitl [Hmd]; · iexact Hmd
    isplitl [Hma]; · iexact Hma
    iexact HO
  · iintro %_ ⟨HW, HS, Hc0, Hc1, Hx, Hs, Hb, Hfo, Hmx, Hms, Hmc, Hmp, Hmd, Hma, HO⟩
    ihave HW' := (fin_w c hw) $$ HW
    icases HW' with ⟨Hcw, Hmw, Hw⟩
    ihave HS' := (fin_s c hws) $$ HS
    icases HS' with ⟨Hcs, Hmws, Hws⟩
    isplitl [Hmx Hms Hmw Hmws Hmc Hmp Hmd Hma]
    · isplitl [Hmx]; · iexact Hmx
      isplitl [Hms]; · iexact Hms
      isplitl [Hmw]; · iexists _; iexact Hmw
      isplitl [Hmws]; · iexists _; iexact Hmws
      isplitl [Hmc]; · iexact Hmc
      isplitl [Hmp]; · iexact Hmp
      isplitl [Hmd]; · iexact Hmd
      iexact Hma
    isplitl [Hcw Hcs Hc0 Hc1]
    · isplitl [Hcw]; · iexact Hcw
      isplitl [Hcs]; · iexact Hcs
      isplitl [Hc0]; · iexact Hc0
      iexact Hc1
    isplitl [Hx Hs Hw Hws]
    · isplitl [Hx]; · iexact Hx
      isplitl [Hs]; · iexact Hs
      isplitl [Hw]; · iexact Hw
      iexact Hws
    isplitl [HO]; · iexact HO
    isplitl [Hb]; · iexact Hb
    iexact Hfo

/-! ## The proof data and the body obligation -/

abbrev ms0_0 (t : Fin cfg0.N) : Memref sig .tc .vmem S1x2048 .f32 := win0_0.stage (cfg0.slots t 0)
abbrev ms0_1 (t : Fin cfg0.N) : Memref sig .tc .vmem S2x6x10x2048 .bf16 := win0_1.stage (cfg0.slots t 1)

theorem PhiD0_eq (c : Dev nD) :
    (Pipeline.ΦD osem0 spec0 H0 (V m) c : sProp 𝕄)
      = iprop(((∃ f, holds c MX f) ∗ (∃ f, holds c MS f) ∗ (∃ f, holds c MW f) ∗ (∃ f, holds c MWS f)
          ∗ (∃ f, holds c MC f) ∗ (∃ f, holds c MP f) ∗ (∃ f, holds c MD f) ∗ (∃ f, holds c MA f))
        ∗ (∃ r, prngReg c r)
        ∗ ((bigSep Finset.univ fun k : Fin 36 => semVal ((c : Thread nD τ), wcell k) 0)
          ∗ (bigSep Finset.univ fun t : Fin 9 => semVal ((c : Thread nD τ), scell t) 0)
          ∗ semVal ((c : Thread nD τ), xcell 0) 0 ∗ semVal ((c : Thread nD τ), xcell 1) 0)
        ∗ (holds c HX (V m c main_arg0) ∗ holds c HS (V m c main_arg1) ∗ holds c HW (V m c main_arg2) ∗ holds c HWS (V m c main_arg3))) := by
  rw [Pipeline.ΦD_eq, scratch_eq, ownSems0_eq, hbm_eq]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 800000 in
/-- @main up to the region, at the algebra the transfers need. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Nothing here reads what the kernel leaves in the windows. -/
def forgets0 : Fin 2 → Bool := fun _ => true

def dats (_ : Fin 1) (c : Dev nD) : Dat τ (Elt F) Unit ℕ (Pipeline.UD sig nD τ) ℕ cfg0 c where
  A w := V m c (Pipeline.arrRef spec0 w)
  after w t := Pipeline.Dat.unnamed (cfg := cfg0) w t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d) ∗ (∃ d, owns (c : Thread nD τ) (ms0_1 t) fullShare d))
def bodyPost (c : Dev nD) (t : Fin cfg0.N) : sProp 𝕄 :=
  iprop((dats m 0 c).Φ t.succ ∗ (dats m 0 c).owesAt () t.succ
    ∗ (∃ d, owns (c : Thread nD τ) (ms0_0 t) fullShare d) ∗ (∃ d, owns (c : Thread nD τ) (ms0_1 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  unfold owns
  iintro ⟨⟨HS, Hg, Hq, Hh⟩, ⟨%W, %hW, HO⟩, ⟨%d0, %f0, %e0, H0⟩, ⟨%d1, %f1, %e1, H1⟩⟩
  iapply (wp_wand_r frame (wpE (defs₀ (F := F)) Variants.none c none) Set.univ)
  isplitl [HS Hq Hh HO H0 H1]
  · iapply (conv_whole c (ms0_0 t) (hstage0_0 0) (ms0_1 t) (hstage0_1 0) (V m c main_arg0) (V m c main_arg1) (V m c main_arg2) (V m c main_arg3) W f0 f1)
    isplitl [HS]; · iexact HS
    isplitl [Hq]; · iexact Hq
    isplitl [Hh]; · iexact Hh
    isplitl [HO]; · iexact HO
    isplitl [H0]; · iexact H0
    iexact H1
  · iintro %_ ⟨HS, Hq, Hh, ⟨%W', HO⟩, H0, ⟨%fo', H1, -⟩⟩
    isplitl [HS Hg Hq Hh]
    · isplitl [HS]; · iexact HS
      isplitl [Hg]; · iexact Hg
      isplitl [Hq]; · iexact Hq
      iexact Hh
    isplitl [HO]
    · iexists W'; isplitr; · ipureintro; exact fun _ _ => Or.inl trivial
      iexact HO
    isplitl [H0]
    · iexists _, _; isplitr; swap; · iexact H0
      ipureintro; rfl
    · iexists _, _; isplitr; swap; · iexact H1
      ipureintro; rfl

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- After the run every argument holds what it held at launch, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Hand

end
-- ==== Proof.Preserves.lean ====
/- The `preserves` claim: the sixteen distinct statements of the idealization's ledger, in its order. -/
module

public import proofs.«01_k».proof.Defs
public import Idealize.ShloMosaic.Lib.Bf16PairInverse

@[expose] public section

noncomputable section

open Idealize.ShloMosaic

namespace Cert.Proof

/-- `BufferStatement` for each of the two word scratches (the planes and the scales, kept as bf16 pairs), then per access
    shape the rows `Statement` of loads, stores and bitcasts, and the `SelectZeroStatement` of each zero fill. -/
theorem preserves : Cert.preserves_Kernel_KernelIdeal :=
  open Cert.KernelIdeal IdealRules.bf16_pair in
  ⟨bufferStatement S24x16x2x128 S24x16x1x128, bufferStatement S6x20x80x2x128 S6x20x80x1x128,
    statement S24x16x2x128 S24x16x1x128, selectZeroStatement S24x16x128, statement S20x80 S10x80,
    statement S1x10x2x80 S1x10x1x80, statement S1x1x10x2x128 S1x1x10x1x128, selectZeroStatement S1x1x10x128,
    statement S1x16x2x128 S1x16x1x128, statement S16x128 S8x128, statement S20x128 S10x128,
    statement S1x1x1x2x128 S1x1x1x1x128, selectZeroStatement S1x1x1x128, statement S1x1x9x2x128 S1x1x9x1x128,
    statement S1x1x64x2x128 S1x1x64x1x128, statement S128x256 S64x256⟩

end Cert.Proof

end
-- ==== Proof.Spec.lean ====
/-
  The convolution both programs compute: codes times the power of two their block's scale names, nine taps at stride two
  over the image padded by one, and the bias.
-/
module

public import Idealize.ShloMosaic.Lib.Pointwise
public import Idealize.ShloMosaic.Lib.IdealHost

@[expose] public section

noncomputable section

namespace Cert.Spec

open Idealize.ShloMosaic

/-- What a scale's code names: 2 to its excess over 127, zero at 0 and infinity at 255. -/
def sc (w : BitVec 8) : EReal := if w.toNat = 0 then 0 else if w.toNat = 255 then ⊤ else (((2 : ℝ) ^ ((w.toNat : ℤ) - 127) : ℝ) : EReal)

/-- An input value: its code times its block's scale. -/
def xd (X : Fin 2 → Fin 12 → Fin 20 → Fin 2560 → EReal) (S : Fin 2 → Fin 12 → Fin 20 → Fin 80 → BitVec 8) (b : Fin 2) (h : Fin 12) (w : Fin 20) (k : Fin 2560) : EReal :=
  X b h w k * sc (S b h w ⟨k.val / 32, by omega⟩)
/-- A weight: its code times its block's scale. -/
def wd (Y : Fin 3 → Fin 3 → Fin 2560 → Fin 2048 → EReal) (T : Fin 3 → Fin 3 → Fin 80 → Fin 2048 → BitVec 8) (i j : Fin 3) (k : Fin 2560) (n : Fin 2048) : EReal :=
  Y i j k n * sc (T i j ⟨k.val / 32, by omega⟩ n)
/-- The padded input. -/
def xp (D : Fin 2 → Fin 12 → Fin 20 → Fin 2560 → EReal) (b : Fin 2) (r s : ℕ) (k : Fin 2560) : EReal :=
  if h : (1 ≤ r ∧ r - 1 < 12) ∧ 1 ≤ s ∧ s - 1 < 20 then D b ⟨r - 1, h.1.2⟩ ⟨s - 1, h.2.2⟩ k else 0
/-- One tap's contribution. -/
def tap (D : Fin 2 → Fin 12 → Fin 20 → Fin 2560 → EReal) (E : Fin 3 → Fin 3 → Fin 2560 → Fin 2048 → EReal) (i j : Fin 3) (b : Fin 2) (o : Fin 6) (s : Fin 10) (n : Fin 2048) : EReal :=
  ∑ k : Fin 2560, xp D b (2 * o.val + i.val) (2 * s.val + j.val) k * E i j k n
/-- The result. -/
def out (D : Fin 2 → Fin 12 → Fin 20 → Fin 2560 → EReal) (E : Fin 3 → Fin 3 → Fin 2560 → Fin 2048 → EReal) (B : Fin 2048 → EReal) (b : Fin 2) (o : Fin 6) (s : Fin 10) (n : Fin 2048) : EReal :=
  tap D E 0 0 b o s n + tap D E 0 1 b o s n + tap D E 0 2 b o s n + tap D E 1 0 b o s n + tap D E 1 1 b o s n + tap D E 1 2 b o s n
    + tap D E 2 0 b o s n + tap D E 2 1 b o s n + tap D E 2 2 b o s n + B n

/-! ## The two spellings of a scale -/

theorem bits32 : ∀ w : BitVec 8, (IntOp.shli ArithUnit.vector (BitVec.setWidth 32 w) 23#32).extractLsb' 31 1 = 0#1 ∧ (IntOp.shli ArithUnit.vector (BitVec.setWidth 32 w) 23#32).extractLsb' 23 8 = w
    ∧ (IntOp.shli ArithUnit.vector (BitVec.setWidth 32 w) 23#32).extractLsb' 0 23 = 0#23 := by decide +kernel
theorem bits16 : ∀ w : BitVec 8, (BitVec.setWidth 16 w <<< 7).extractLsb' 15 1 = 0#1 ∧ (BitVec.setWidth 16 w <<< 7).extractLsb' 7 8 = w ∧ (BitVec.setWidth 16 w <<< 7).extractLsb' 0 7 = 0#7 := by decide +kernel
theorem word : ∀ w : BitVec 8, (IntOp.subi (BitVec.setWidth 32 w) 127#32).toInt = (w.toNat : ℤ) - 127 := by decide +kernel

theorem ieee_sc (m t : ℕ) (b : BitVec t) (w : BitVec 8) (h0 : b.extractLsb' (8 + m) 1 = 0#1) (h1 : b.extractLsb' m 8 = w) (h2 : b.extractLsb' 0 m = 0#m) : Ideal.ieee 8 m b = sc w := by
  unfold Ideal.ieee sc
  simp only [h0, h1, h2]
  have hw := w.isLt
  by_cases h255 : w.toNat = 255
  · simp [h255]
  by_cases h00 : w.toNat = 0
  · simp [h00]
  rw [if_neg h255, if_neg h00]
  rw [if_neg (by simpa using h255), if_neg h00]
  congr 1
  have e2 : ((2 ^ m + (0#m).toNat : ℕ) : ℝ) = (2 : ℝ) ^ (m : ℤ) := by simp
  rw [e2]
  have e : ((w.toNat : ℤ) - (2 ^ (8 - 1) - 1) - m) = ((w.toNat : ℤ) - 127) - m := by norm_num
  rw [e]
  rw [if_neg (by decide), one_mul, ← zpow_add₀ (by norm_num : (2 : ℝ) ≠ 0)]
  congr 1
  omega
theorem sc_f32 (w : BitVec 8) : Ideal.ofBits .f32 (IntOp.shli ArithUnit.vector (BitVec.setWidth 32 w) 23#32) = sc w :=
  ieee_sc 23 32 _ w (bits32 w).1 (bits32 w).2.1 (bits32 w).2.2
theorem sc_bf16 (w : BitVec 8) : Ideal.ofBits .bf16 (BitVec.setWidth 16 w <<< 7) = sc w :=
  ieee_sc 7 16 _ w (bits16 w).1 (bits16 w).2.1 (bits16 w).2.2
theorem two_f32 : Ideal.ofBits .f32 1073741824#32 = ((2 : ℝ) : EReal) := by simp [Ideal.ofBits, Ideal.ieee, -EReal.coe_mul]; norm_num
theorem inf_f32 : Ideal.ofBits .f32 2139095040#32 = ⊤ := by simp [Ideal.ofBits, Ideal.ieee]
theorem sc_pow (w : BitVec 8) : Scalar.select (IntOp.cmpi CmpIPredicate.eq w 0#8) (Ideal.ofBits .f32 0#32)
    (Scalar.select (IntOp.cmpi CmpIPredicate.eq w 255#8) (Ideal.ofBits .f32 2139095040#32)
      (Ideal.pow (Ideal.ofBits .f32 1073741824#32) (((IntOp.subi (BitVec.setWidth 32 w) 127#32).toInt : ℝ) : EReal))) = sc w := by
  rw [two_f32, inf_f32, word]
  unfold sc
  have e0 : w.toNat = 0 ↔ w = 0#8 := ⟨fun h => BitVec.eq_of_toNat_eq h, fun h => by rw [h]; rfl⟩
  have e1 : w.toNat = 255 ↔ w = 255#8 := ⟨fun h => BitVec.eq_of_toNat_eq h, fun h => by rw [h]; rfl⟩
  by_cases h0 : w = 0#8
  · subst h0
    simp [Scalar.select, IntOp.cmpi, Ideal.ofBits, Ideal.ieee]
  by_cases h1 : w = 255#8
  · subst h1
    simp [Scalar.select, IntOp.cmpi]
  rw [if_neg (fun h => h0 (e0.mp h)), if_neg (fun h => h1 (e1.mp h))]
  have p : Ideal.pow ((2 : ℝ) : EReal) ((((w.toNat : ℤ) - 127 : ℤ) : ℝ) : EReal) = (((2 : ℝ) ^ ((w.toNat : ℤ) - 127) : ℝ) : EReal) := by
    show ((Real.rpow 2 (((w.toNat : ℤ) - 127 : ℤ) : ℝ) : ℝ) : EReal) = _
    congr 1
    exact Real.rpow_intCast 2 _
  rw [p]
  have b0 : (w == 0#8) = false := by simpa using h0
  have b1 : (w == 255#8) = false := by simpa using h1
  simp [Scalar.select, IntOp.cmpi, b0, b1]

end Cert.Spec

end
-- ==== Proof.RefVal.lean ====
/-
  What the reference leaves in its result: the convolution of `Spec`.
-/
module

public import proofs.«01_k».proof.Proof.Gen.ReferenceIdeal.Frame
public import proofs.«01_k».proof.Proof.Spec
public import Idealize.ShloMosaic.Lib.StableHlo.ReadAt
public import Idealize.ShloMosaic.Lib.Claim
public import Idealize.ShloMosaic.Lib.Pipeline.ValueKit.Geometry
public import Idealize.ShloMosaic.Lib.Pipeline.ValueKit.Acc

@[expose] public section

noncomputable section

namespace Cert.ReferenceIdeal.Hand

open Cert.ReferenceIdeal Cert.ReferenceIdeal.Gen
open Idealize.ShloMosaic Idealize.ShloMosaic.TcCoe Idealize.ShloMosaic.Tactic

/-- The lines before the last stretch. -/
abbrev pre : List (HloOp τ sig (Elt Ideal)) :=
  hostOps1 ++ (hostOps1_1 ++ (hostOps1_2 ++ (hostOps1_3 ++ (hostOps1_4 ++ (hostOps1_5 ++ (hostOps1_6 ++ (hostOps1_7 ++ (hostOps1_8 ++ hostOps1_9))))))))

theorem k32 (k : Fin 2560) (h : k.val / 32 * 32 + k.val % 32 < 2560) : (⟨k.val / 32 * 32 + k.val % 32, h⟩ : Fin 2560) = k := Fin.ext (by dsimp only; omega)
set_option maxHeartbeats 8000000 in
theorem v37_at (W : Valuation τ sig (Elt Ideal)) (b : Fin 2) (r : Fin 14) (s : Fin 22) (k : Fin 2560) :
    (StableHlo.after pre W (Proc.devRef .tc main_v37) : S2x14x22x2560.Idx → EReal) (ix4 b r s k)
      = Spec.xp (Spec.xd (fun b h w k => (W (Proc.devRef .tc main_v0_0) : S2x12x20x2560.Idx → EReal) (ix4 b h w k)) (fun b h w g => (W (Proc.devRef .tc main_arg1) : S2x12x20x80.Idx → BitVec 8) (ix4 b h w g))) b r.val s.val k := by
  after_reads_at
  simp only [k32]
  unfold Spec.xp Spec.xd
  by_cases h : (1 ≤ r.val ∧ r.val - 1 < 12) ∧ 1 ≤ s.val ∧ s.val - 1 < 20
  · rw [dif_pos h, dif_pos h]
    exact congrArg (fun z : EReal => _ * z) (Spec.sc_pow (W (Proc.devRef .tc main_arg1) (ix4 b (⟨r.val - 1, h.1.2⟩ : Fin 12) (⟨s.val - 1, h.2.2⟩ : Fin 20) (⟨k.val / 32, by omega⟩ : Fin 80))))
  · rw [dif_neg h, dif_neg h]
    show (((0#32).toInt : ℝ) : EReal) = 0
    simp
theorem v36_at (W : Valuation τ sig (Elt Ideal)) (i j : Fin 3) (k : Fin 2560) (n : Fin 2048) :
    (StableHlo.after pre W (Proc.devRef .tc main_v36) : S3x3x2560x2048.Idx → EReal) (ix4 i j k n)
      = Spec.wd (fun i j k n => (W (Proc.devRef .tc main_v0_1) : S3x3x2560x2048.Idx → EReal) (ix4 i j k n)) (fun i j g n => (W (Proc.devRef .tc main_arg3) : S3x3x80x2048.Idx → BitVec 8) (ix4 i j g n)) i j k n := by
  after_reads_at
  simp only [k32]
  unfold Spec.wd
  exact congrArg _ (Spec.sc_pow _)
theorem arg4_pre (W : Valuation τ sig (Elt Ideal)) : StableHlo.after pre W (Proc.devRef .tc main_arg4) = W (Proc.devRef .tc main_arg4) := by
  after_reads_simp
/-- The convolution at an index, of a padded input and weights that are `P`, `E`. -/
theorem v87_at (W : Valuation τ sig (Elt Ideal)) (P : Fin 2 → ℕ → ℕ → Fin 2560 → EReal) (E : Fin 3 → Fin 3 → Fin 2560 → Fin 2048 → EReal)
    (hP : ∀ b (r : Fin 14) (s : Fin 22) k, (W (Proc.devRef .tc main_v37) : S2x14x22x2560.Idx → EReal) (ix4 b r s k) = P b r.val s.val k)
    (hE : ∀ i j k n, (W (Proc.devRef .tc main_v36) : S3x3x2560x2048.Idx → EReal) (ix4 i j k n) = E i j k n)
    (b : Fin 2) (o : Fin 6) (s : Fin 10) (n : Fin 2048) :
    (StableHlo.after hostOps1_10 W (Proc.devRef .tc main_v87) : S2x6x10x2048.Idx → EReal) (ix4 b o s n)
      = (∑ k : Fin 2560, P b (2 * o.val) (2 * s.val) k * E 0 0 k n) + (∑ k : Fin 2560, P b (2 * o.val) (1 + 2 * s.val) k * E 0 1 k n) + (∑ k : Fin 2560, P b (2 * o.val) (2 + 2 * s.val) k * E 0 2 k n)
        + (∑ k : Fin 2560, P b (1 + 2 * o.val) (2 * s.val) k * E 1 0 k n) + (∑ k : Fin 2560, P b (1 + 2 * o.val) (1 + 2 * s.val) k * E 1 1 k n) + (∑ k : Fin 2560, P b (1 + 2 * o.val) (2 + 2 * s.val) k * E 1 2 k n)
        + (∑ k : Fin 2560, P b (2 + 2 * o.val) (2 * s.val) k * E 2 0 k n) + (∑ k : Fin 2560, P b (2 + 2 * o.val) (1 + 2 * s.val) k * E 2 1 k n) + (∑ k : Fin 2560, P b (2 + 2 * o.val) (2 + 2 * s.val) k * E 2 2 k n)
        + (W (Proc.devRef .tc main_arg4) : S2048.Idx → EReal) (ix1 n) := by
  after_reads_at
  simp only [hP, hE]
  try rfl
theorem codes_x (m : (ℓ : Loc nD τ sig) → Buf (Elt Ideal) ℓ) (c : Dev nD) : (dats m 0 c).arrAt 2 (cfgs 0).N = m ((c : Thread nD τ).loc main_arg0) := by
  refine (dats m 0 c).arrAt_eq_of_covers 2 _ (by decide +kernel) fun t hf y => ?_
  blk_simp
  rw [after0_2]
  frame_out
  show iblk m c 0 t y = _
  unfold iblk
  blk_simp
  rfl
theorem codes_w (m : (ℓ : Loc nD τ sig) → Buf (Elt Ideal) ℓ) (c : Dev nD) : (dats m 0 c).arrAt 3 (cfgs 0).N = m ((c : Thread nD τ).loc main_arg2) := by
  refine (dats m 0 c).arrAt_eq_of_covers 3 _ (by decide +kernel) fun t hf y => ?_
  blk_simp
  rw [after0_3]
  frame_out
  show iblk m c 1 t y = _
  unfold iblk
  blk_simp
  rfl

theorem after_app (l₁ l₂ : List (HloOp τ sig (Elt Ideal))) (W : Valuation τ sig (Elt Ideal)) : StableHlo.after (l₁ ++ l₂) W = StableHlo.after l₂ (StableHlo.after l₁ W) := by
  induction l₁ generalizing W with
  | nil => rfl
  | cons op l ih => exact ih _

/-- The reference's result of its arguments. -/
abbrev val (a0 : S2x12x20x2560.Idx → EReal) (a1 : S2x12x20x80.Idx → BitVec 8) (a2 : S3x3x2560x2048.Idx → EReal) (a3 : S3x3x80x2048.Idx → BitVec 8) (a4 : S2048.Idx → EReal) : S2x6x10x2048.Idx → EReal := fun i =>
  Spec.out (Spec.xd (fun b h w k => a0 (ix4 b h w k)) (fun b h w g => a1 (ix4 b h w g))) (Spec.wd (fun i j k n => a2 (ix4 i j k n)) (fun i j g n => a3 (ix4 i j g n))) (fun n => a4 (ix1 n)) (i 0) (i 1) (i 2) (i 3)

theorem ref_after (W : Valuation τ sig (Elt Ideal)) :
    (StableHlo.after [hostOps1, hostOps1_1, hostOps1_2, hostOps1_3, hostOps1_4, hostOps1_5, hostOps1_6, hostOps1_7, hostOps1_8, hostOps1_9, hostOps1_10].flatten W (Proc.devRef .tc main_v87) : S2x6x10x2048.Idx → EReal)
      = val (W (Proc.devRef .tc main_v0_0)) (W (Proc.devRef .tc main_arg1)) (W (Proc.devRef .tc main_v0_1)) (W (Proc.devRef .tc main_arg3)) (W (Proc.devRef .tc main_arg4)) := by
  have e : [hostOps1, hostOps1_1, hostOps1_2, hostOps1_3, hostOps1_4, hostOps1_5, hostOps1_6, hostOps1_7, hostOps1_8, hostOps1_9, hostOps1_10].flatten = (pre ++ hostOps1_10 : List (HloOp τ sig (Elt Ideal))) := by
    simp only [pre, List.flatten_cons, List.flatten_nil, List.append_nil, List.append_assoc]
  rw [e, after_app]
  funext i
  obtain ⟨b, o, s, n, rfl⟩ : ∃ (b : Fin 2) (o : Fin 6) (s : Fin 10) (n : Fin 2048), i = ix4 b o s n := ⟨i 0, i 1, i 2, i 3, by funext a; match a with | ⟨0, _⟩ => rfl | ⟨1, _⟩ => rfl | ⟨2, _⟩ => rfl | ⟨3, _⟩ => rfl⟩
  rw [v87_at _ _ _ (v37_at W) (v36_at W) b o s n, arg4_pre]
  show _ = Spec.out _ _ _ b o s n
  unfold Spec.out Spec.tap
  simp only [show ((0 : Fin 3) : ℕ) = 0 from rfl, show ((1 : Fin 3) : ℕ) = 1 from rfl, show ((2 : Fin 3) : ℕ) = 2 from rfl, Nat.add_zero, Nat.zero_add, Nat.add_comm]

variable (m : (ℓ : Loc nD τ sig) → Buf (Elt Ideal) ℓ) (ρ : Dev nD → PrngReg)

/-- What the lines after the region leave in the result. -/
theorem tail_value (c : Dev nD) :
    (Pipeline.afterTail₀ cfgs (dats m) 0 (V0 m) [hostOps1, hostOps1_1, hostOps1_2, hostOps1_3, hostOps1_4, hostOps1_5, hostOps1_6, hostOps1_7, hostOps1_8, hostOps1_9, hostOps1_10] c main_v87 : S2x6x10x2048.Idx → EReal)
      = val (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  refine (ref_after _).trans ?_
  rw [show Pipeline.withArrays (cfgs 0).spec c (V0 m c) (fun w => (dats m 0 c).arrAt w (cfgs 0).N) (Proc.devRef .tc main_v0_0) = _ from (Pipeline.withArrays_arr _ launch0.win.arr_inj c (V0 m c) _ 2).trans (codes_x m c),
    show Pipeline.withArrays (cfgs 0).spec c (V0 m c) (fun w => (dats m 0 c).arrAt w (cfgs 0).N) (Proc.devRef .tc main_v0_1) = _ from (Pipeline.withArrays_arr _ launch0.win.arr_inj c (V0 m c) _ 3).trans (codes_w m c),
    Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4))]
  rfl

/-- The reference's run with its result named. -/
theorem run : θ_run defs (onTc (τ := τ) (main (F := Ideal))) ⟨m, fun _ => 0, ρ⟩ (fun r => ∀ c : Dev nD,
      r.2.mem ((c.tc : Thread nD τ).loc main_v87) = val (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v87 (Pipeline.mem_restRefs_of main_v87 (by decide) (by decide))).trans (tail_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.ReferenceIdeal.Hand

end
-- ==== Proof.KernelIdeal.Value.lean ====
/-
  The kernel's result over the extended reals: the convolution of `Spec`.
-/
module

public import proofs.«01_k».proof.Proof.KernelIdeal.RunDef
public import proofs.«01_k».proof.Proof.Spec
public import Idealize.ShloMosaic.Lib.BitcastPair

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {c : Dev nD}

/-- The decoded input and the decoded weights. -/
abbrev dX (hx : S2x12x20x2560.Idx → EReal) (hs : S2x12x20x80.Idx → BitVec 8) : Fin 2 → Fin 12 → Fin 20 → Fin 2560 → EReal := Spec.xd (fun b h w k => hx (ix4 b h w k)) (fun b h w g => hs (ix4 b h w g))
abbrev dW (hw : S3x3x2560x2048.Idx → EReal) (hws : S3x3x80x2048.Idx → BitVec 8) : Fin 3 → Fin 3 → Fin 2560 → Fin 2048 → EReal := Spec.wd (fun i j k n => hw (ix4 i j k n)) (fun i j g n => hws (ix4 i j g n))
/-- The kernel's result of its arguments, the bias as a row. -/
abbrev outS (hx : S2x12x20x2560.Idx → EReal) (hs : S2x12x20x80.Idx → BitVec 8) (hw : S3x3x2560x2048.Idx → EReal) (hws : S3x3x80x2048.Idx → BitVec 8) (B : S1x2048.Idx → EReal) : S2x6x10x2048.Idx → EReal := fun i =>
  Spec.out (dX hx hs) (dW hw hws) (fun n => B (ix2 0 n)) (i 0) (i 1) (i 2) (i 3)

/-! ## The decoded input -/

theorem grp_word : ∀ (l : Fin 128), Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (1#32) (Scalar.extui (Scalar.cmpi CmpIPredicate.slt 32#32 0#32))))
          (IntOp.cmpi CmpIPredicate.ne (IntOp.remsi ArithUnit.vector (BitVec.ofNat 32 l.val) 32#32) 0#32))
        (IntOp.subi (IntOp.divsi ArithUnit.vector (BitVec.ofNat 32 l.val) 32#32) 1#32)
        (IntOp.divsi ArithUnit.vector (BitVec.ofNat 32 l.val) 32#32) = BitVec.ofNat 32 (l.val / 32) := by decide +kernel
theorem grp_tile : ∀ k : Fin 20, Scalar.muli (Scf.iv 0#32 1#32 k.val) 4#32 = BitVec.ofNat 32 (4 * k.val) := by decide +kernel
theorem grp (k : Fin k0_t1_loop.trips) (w : Fin 16) (l : Fin 128) : k0_pay3 G0 0#32 1#32 k (ix2 w l) = BitVec.ofNat 32 (l.val / 32 + 4 * k.val) := by
  pointwise [k0_pay3, G0, k0_pay357, k0_pay355, k0_pay356]
  refine (congrArg₂ (fun a b : BitVec 32 => IntOp.addi a b) (grp_word l) (grp_tile ⟨k.val, by have := k.isLt; have := trips1; omega⟩)).trans ?_
  show BitVec.ofNat 32 (l.val / 32) + BitVec.ofNat 32 (4 * k.val) = _
  rw [← BitVec.ofNat_add]
theorem grp_sel : ∀ n : Fin 80, (Scalar.select (IntOp.cmpi CmpIPredicate.slt (BitVec.ofNat 32 n.val) 0#32) (IntOp.addi (BitVec.ofNat 32 n.val) 128#32) (BitVec.ofNat 32 n.val)).toNat % 128 = n.val := by decide +kernel
/-- The decoded codes at an index: the code times the scale of its row, column and group. -/
theorem pay6_at (k : Fin k0_t1_loop.trips) (x : Vec Ideal S1x1x20x128 .fp8e4m3) (C : Vec Ideal S1x16x2x128 .bf16) (w : Fin 20) (l : Fin 128) :
    (k0_pay6 (k0_pay3 G0 0#32 1#32 k) x C (ix2 w l) : EReal)
      = (x (ix4 0 0 w l) : EReal) * (C (ix4 0 (⟨w.val / 2, by omega⟩ : Fin 16) (⟨w.val % 2, by omega⟩ : Fin 2) (⟨l.val / 32 + 4 * k.val, by have := k.isLt; have := trips1; omega⟩ : Fin 128)) : EReal) := by
  have hk : k.val < 20 := lt_of_lt_of_eq k.isLt trips1
  have hl := l.isLt
  have hw := w.isLt
  have hs := grp_sel ⟨l.val / 32 + 4 * k.val, by omega⟩
  have hi : ∀ (a : Fin 16) (b : Fin 2) (n : ℕ) (hn : n < 128) (a' : Fin 16) (b' : Fin 2) (n' : ℕ) (hn' : n' < 128), a = a' → b = b' → n = n' → (C (ix4 0 a b (⟨n, hn⟩ : Fin 128)) : EReal) = C (ix4 0 a' b' (⟨n', hn'⟩ : Fin 128)) := by
    intro a b n hn a' b' n' hn' ha hb hc
    subst ha hb hc
    rfl
  pointwise [k0_pay6]
  refine congrArg₂ (fun a b : EReal => a * b) rfl ?_
  simp only [grp]
  split
  · split
    · rw [if_pos (by omega)]
      exact hi _ _ _ _ _ _ _ _ (Fin.ext (by dsimp only; omega)) (Fin.ext (by show 0 = w.val % 2; omega)) hs
    · rw [if_pos (by omega)]
      exact hi _ _ _ _ _ _ _ _ (Fin.ext (by dsimp only; omega)) (Fin.ext (by show 0 = w.val % 2; omega)) hs
  · split
    · rw [if_neg (by omega)]
      exact hi _ _ _ _ _ _ _ _ (Fin.ext (by dsimp only; omega)) (Fin.ext (by show 1 = w.val % 2; omega)) hs
    · rw [if_neg (by omega)]
      exact hi _ _ _ _ _ _ _ _ (Fin.ext (by dsimp only; omega)) (Fin.ext (by show 1 = w.val % 2; omega)) hs
theorem scV_sc (w : BitVec 8) : (scV (F := Ideal) w : EReal) = Spec.sc w := by
  unfold scV
  exact Spec.sc_f32 w
/-- The decoded row is the decoded input. -/
theorem xdT_at (X : HbBuf Ideal c MX) (C : HbBuf Ideal c MC) (hs : S2x12x20x80.Idx → BitVec 8) (hC : ScOK C hs) (k : Fin k0_t1_loop.trips) (b : Fin 2) (h : Fin 12) (w : Fin 20) (l : Fin 128) :
    (xdT X C G0 k b.val h.val (ix2 w l) : EReal) = dX X hs b h w (⟨128 * k.val + l.val, by have := k.isLt; have := trips1; omega⟩ : Fin 2560) := by
  have hk : k.val < 20 := lt_of_lt_of_eq k.isLt trips1
  have hl := l.isLt
  have hw := w.isLt
  have hb := b.isLt
  have hh := h.isLt
  unfold xdT
  rw [pay6_at]
  unfold dX Spec.xd
  have e1 : (xLd X b.val h.val k (ix4 0 0 w l) : EReal) = X (ix4 b h w (⟨128 * k.val + l.val, by omega⟩ : Fin 2560)) := by
    unfold xLd
    congr 1
    congr 1
    · exact Fin.ext (by show b.val % 2 = b.val; omega)
    · exact Fin.ext (by show h.val % 12 = h.val; omega)
  have e2 : (cLd C (12 * b.val + h.val) (ix4 0 (⟨w.val / 2, by omega⟩ : Fin 16) (⟨w.val % 2, by omega⟩ : Fin 2) (⟨l.val / 32 + 4 * k.val, by omega⟩ : Fin 128)) : EReal)
      = Spec.sc (hs (ix4 b h w (⟨(128 * k.val + l.val) / 32, by omega⟩ : Fin 80))) := by
    unfold cLd
    refine (hC (⟨(12 * b.val + h.val) % 24, Nat.mod_lt _ (by decide)⟩ : Fin 24) (⟨w.val / 2, by omega⟩ : Fin 16) (⟨w.val % 2, by omega⟩ : Fin 2) (⟨l.val / 32 + 4 * k.val, by omega⟩ : Fin 128) (by show w.val / 2 < 10; omega) (by show l.val / 32 + 4 * k.val < 80; omega)).trans ?_
    unfold gC
    rw [scV_sc]
    congr 2
    congr 1
    · exact Fin.ext (by show (12 * b.val + h.val) % 24 / 12 % 2 = b.val; omega)
    · exact Fin.ext (by show (12 * b.val + h.val) % 24 % 12 = h.val; omega)
    · exact Fin.ext (by show (2 * (w.val / 2) + w.val % 2) % 20 = w.val; omega)
    · exact Fin.ext (by show (l.val / 32 + 4 * k.val) % 80 = (128 * k.val + l.val) / 32; omega)
  exact congrArg₂ (fun a b : EReal => a * b) e1 e2
theorem zF_zero : (zF : Ideal .bf16) = (0 : EReal) := by
  unfold zF
  pointwise
/-- A plane's row is the padded input's. -/
theorem pRow_at (X : HbBuf Ideal c MX) (C : HbBuf Ideal c MC) (hs : S2x12x20x80.Idx → BitVec 8) (hC : ScOK C hs) (k : Fin k0_t1_loop.trips) (i j : Fin 3) (o : Fin 6) (s : Fin 10) (b : Fin 2) (l : Fin 128) :
    (pRow X C G0 k ((if i.val = 1 then 0 else 3) + j.val) ((if i.val = 0 then 0 else 10) + (10 * o.val + s.val)) b.val l : EReal)
      = Spec.xp (dX X hs) b (2 * o.val + i.val) (2 * s.val + j.val) (⟨128 * k.val + l.val, by have := k.isLt; have := trips1; omega⟩ : Fin 2560) := by
  have hk : k.val < 20 := lt_of_lt_of_eq k.isLt trips1
  have ho := o.isLt
  have hsl := s.isLt
  have hj := j.isLt
  have hi := i.isLt
  have key : ∀ (h w : ℕ) (hw : w < 20) (r q : ℕ), 1 ≤ r → r - 1 < 12 → h = r - 1 → 1 ≤ q → w = q - 1 →
      (xdT X C G0 k b.val h (ix2 (⟨w, hw⟩ : Fin 20) l) : EReal) = Spec.xp (dX X hs) b r q (⟨128 * k.val + l.val, by have := k.isLt; have := trips1; omega⟩ : Fin 2560) := by
    intro h w hw r q h1 h2 h3 h4 h5
    subst h3 h5
    unfold Spec.xp
    rw [dif_pos ⟨⟨h1, h2⟩, h4, hw⟩]
    exact xdT_at X C hs hC k b ⟨r - 1, h2⟩ ⟨q - 1, hw⟩ l
  have hp : ((i.val = 1 ∧ (if i.val = 1 then 0 else 3) + j.val = j.val) ∨ (i.val ≠ 1 ∧ (if i.val = 1 then 0 else 3) + j.val = 3 + j.val)) := by
    by_cases h : i.val = 1
    · exact .inl ⟨h, by rw [if_pos h]; omega⟩
    · exact .inr ⟨h, by rw [if_neg h]⟩
  have hr : ((i.val = 0 ∧ (if i.val = 0 then 0 else 10) + (10 * o.val + s.val) = 10 * o.val + s.val) ∨ (i.val ≠ 0 ∧ (if i.val = 0 then 0 else 10) + (10 * o.val + s.val) = 10 + (10 * o.val + s.val))) := by
    by_cases h : i.val = 0
    · exact .inl ⟨h, by rw [if_pos h]; omega⟩
    · exact .inr ⟨h, by rw [if_neg h]⟩
  generalize (if i.val = 1 then 0 else 3) + j.val = p at hp ⊢
  generalize (if i.val = 0 then 0 else 10) + (10 * o.val + s.val) = row at hr ⊢
  unfold pRow
  by_cases h0 : row < 10 ∨ 70 ≤ row
  · rw [if_pos h0, zF_zero]
    unfold Spec.xp
    rw [dif_neg]
    omega
  rw [if_neg h0]
  by_cases h1 : p % 3 = 0
  · rw [if_pos h1]
    by_cases h2 : row % 10 = 0
    · rw [if_pos h2, zF_zero]
      unfold Spec.xp
      rw [dif_neg]
      omega
    rw [if_neg h2]
    refine key _ _ _ _ _ ?_ ?_ ?_ ?_ ?_ <;> omega
  · rw [if_neg h1]
    refine key _ _ _ _ _ ?_ ?_ ?_ ?_ ?_ <;> omega

/-! ## The decoded weights -/

theorem word_lo : ∀ w : BitVec 8, (IntOp.ori (IntOp.shli ArithUnit.vector (BitVec.setWidth 32 w) 7#32) (IntOp.shli ArithUnit.vector (BitVec.setWidth 32 w) 23#32)).extractLsb' 0 16 = BitVec.setWidth 16 w <<< 7 := by decide +kernel
theorem word_hi : ∀ w : BitVec 8, (IntOp.ori (IntOp.shli ArithUnit.vector (BitVec.setWidth 32 w) 7#32) (IntOp.shli ArithUnit.vector (BitVec.setWidth 32 w) 23#32)).extractLsb' 16 16 = BitVec.setWidth 16 w <<< 7 := by decide +kernel
theorem pay216_at (s : Vec Ideal S1x80x512 .i8) (r : Fin 80) (n : Fin 512) : k0_pay216 (F := Ideal) s (ix2 r n) = IntOp.ori (IntOp.shli ArithUnit.vector (BitVec.setWidth 32 (s (ix3 0 r n))) 7#32) (IntOp.shli ArithUnit.vector (BitVec.setWidth 32 (s (ix3 0 r n))) 23#32) := by
  pointwise [k0_pay216]
/-- A row of words read as pairs of halves. -/
theorem halves (s : S1x512.Idx → BitVec 32) (r : Fin 32) (n : Fin 512) (w : BitVec 8) (hs : s (ix2 0 n) = IntOp.ori (IntOp.shli ArithUnit.vector (BitVec.setWidth 32 w) 7#32) (IntOp.shli ArithUnit.vector (BitVec.setWidth 32 w) 23#32)) :
    bitcast S32x512 16 (broadcastTo S16x512 s broadcasts_S1x512_S16x512) bitcasts_S16x512_w32_S32x512_w16 (ix2 r n) = BitVec.setWidth 16 w <<< 7 := by
  rw [bitcast_32_16]
  have e : ∀ i : S16x512.Idx, (i 1).val = n.val → broadcastTo S16x512 s broadcasts_S1x512_S16x512 i = s (ix2 0 n) := by
    intro i hi
    obtain ⟨a, b, rfl⟩ : ∃ (a : Fin 16) (b : Fin 512), i = ix2 a b := ⟨i 0, i 1, by funext x; match x with | ⟨0, _⟩ => rfl | ⟨1, _⟩ => rfl⟩
    have hb : b = n := Fin.ext hi
    subst hb
    pointwise
  rw [e _ (Shape.Bitcasts.srcIdx_other _ _ _ _ _ (by decide)), hs]
  rcases Nat.mod_two_eq_zero_or_one (S32x512.row (ix2 r n)) with h | h
  · rw [h]; exact word_lo w
  · rw [h]; exact word_hi w
/-- A block's value: the code times its scale. -/
theorem wPart_at (hw : HbBuf Ideal c HW) (hws : HbBuf Ideal c HWS) (k : Fin k0_t2_loop.trips) (b : ℕ) (hb : b < 80) (r : Fin 32) (n : Fin 512) :
    (wPart (WK hw) (SK hws) k b (ix2 r n) : EReal)
      = dW hw hws (⟨k.val % 9 / 3, by omega⟩ : Fin 3) (⟨k.val % 9 % 3, by omega⟩ : Fin 3) (⟨32 * b + r.val, by omega⟩ : Fin 2560) (⟨512 * (k.val / 9) + n.val, by have := k.isLt; have := trips2; omega⟩ : Fin 2048) := by
  have hk : k.val < 36 := lt_of_lt_of_eq k.isLt trips2
  have hr := r.isLt
  have hn := n.isLt
  unfold wPart
  have e : ∀ (s : Vec Ideal S1x512 .i32) (w : Vec Ideal S1x32x512 .fp8e4m3), (k0_pay221 s w (ix2 r n) : EReal) = (w (ix3 0 r n) : EReal) *
      Ideal.ofBits FTy.bf16 (bitcast S32x512 16 (broadcastTo S16x512 s broadcasts_S1x512_S16x512) bitcasts_S16x512_w32_S32x512_w16 (ix2 r n)) := by
    intro s w
    pointwise [k0_pay221]
  rw [e]
  unfold dW Spec.wd
  refine congrArg₂ (fun a b : EReal => a * b) ?_ ?_
  · unfold wLd WK srcW
    congr 1
    congr 1
    · exact Fin.ext (by show k.val % 3 = k.val % 9 % 3; omega)
    · exact Fin.ext (by show 32 * (b % 80) + r.val = 32 * b + r.val; omega)
  · rw [halves _ r n (hws (ix4 (⟨k.val % 9 / 3, by omega⟩ : Fin 3) (⟨k.val % 9 % 3, by omega⟩ : Fin 3) (⟨(32 * b + r.val) / 32, by omega⟩ : Fin 80) (⟨512 * (k.val / 9) + n.val, by omega⟩ : Fin 2048)))]
    · exact Spec.sc_bf16 _
    · unfold sRow
      refine (pay216_at _ (⟨b % 80, Nat.mod_lt _ (by decide)⟩ : Fin 80) (⟨n.val, n.isLt⟩ : Fin 512)).trans ?_
      have e' : sLd (SK hws) k (ix3 0 (⟨b % 80, Nat.mod_lt _ (by decide)⟩ : Fin 80) (⟨n.val, n.isLt⟩ : Fin 512)) = hws (ix4 (⟨k.val % 9 / 3, by omega⟩ : Fin 3) (⟨k.val % 9 % 3, by omega⟩ : Fin 3) (⟨(32 * b + r.val) / 32, by omega⟩ : Fin 80) (⟨512 * (k.val / 9) + n.val, by omega⟩ : Fin 2048)) := by
        unfold sLd SK srcS
        congr 1
        congr 1
        exact Fin.ext (by show b % 80 = (32 * b + r.val) / 32; omega)
      exact congrArg (fun w : BitVec 8 => IntOp.ori (IntOp.shli ArithUnit.vector (BitVec.setWidth 32 w) 7#32) (IntOp.shli ArithUnit.vector (BitVec.setWidth 32 w) 23#32)) e'
theorem rhsT_at (hw : HbBuf Ideal c HW) (hws : HbBuf Ideal c HWS) (k : Fin k0_t2_loop.trips) (m : ℕ) (hm : m < 10) (r : Fin 256) (n : Fin 512) :
    (rhsT (WK hw) (SK hws) k m (ix2 r n) : EReal)
      = dW hw hws (⟨k.val % 9 / 3, by omega⟩ : Fin 3) (⟨k.val % 9 % 3, by omega⟩ : Fin 3) (⟨256 * m + r.val, by omega⟩ : Fin 2560) (⟨512 * (k.val / 9) + n.val, by have := k.isLt; have := trips2; omega⟩ : Fin 2048) := by
  have hk : k.val < 36 := lt_of_lt_of_eq k.isLt trips2
  have hr := r.isLt
  have key : ∀ (b q : ℕ) (hq : q < 32) (hb : b < 80), 32 * b + q = 256 * m + r.val → (wPart (WK hw) (SK hws) k b (ix2 (⟨q, hq⟩ : Fin 32) n) : EReal)
      = dW hw hws (⟨k.val % 9 / 3, by omega⟩ : Fin 3) (⟨k.val % 9 % 3, by omega⟩ : Fin 3) (⟨256 * m + r.val, by omega⟩ : Fin 2560) (⟨512 * (k.val / 9) + n.val, by omega⟩ : Fin 2048) := by
    intro b q hq hb e
    rw [wPart_at hw hws k b hb]
    have e' : (⟨32 * b + q, by omega⟩ : Fin 2560) = ⟨256 * m + r.val, by omega⟩ := Fin.ext e
    exact congrArg (fun z : Fin 2560 => dW hw hws _ _ z _) e'
  pointwise [rhsT]
  split
  · exact key _ _ _ (by omega) (by omega)
  split
  · exact key _ _ _ (by omega) (by omega)
  split
  · exact key _ _ _ (by omega) (by omega)
  split
  · exact key _ _ _ (by omega) (by omega)
  split
  · exact key _ _ _ (by omega) (by omega)
  split
  · exact key _ _ _ (by omega) (by omega)
  split
  · exact key _ _ _ (by omega) (by omega)
  · exact key _ _ _ (by omega) (by omega)

/-! ## One step -/

/-- The padded input as step `k` reads it, at row `(10 o + s) 2 + b`. -/
theorem lhsT_at (X : HbBuf Ideal c MX) (C : HbBuf Ideal c MC) (hs : S2x12x20x80.Idx → BitVec 8) (hC : ScOK C hs) (fp : HbBuf Ideal c MP) (hP : PlaneInv c X C G0 20 fp)
    (k : Fin k0_t2_loop.trips) (m : ℕ) (hm : m < 10) (o : Fin 6) (s : Fin 10) (b : Fin 2) (r : Fin 256) :
    (lhsT fp k m (ix2 (⟨(10 * o.val + s.val) * 2 + b.val, by omega⟩ : Fin 128) r) : EReal)
      = Spec.xp (dX X hs) b (2 * o.val + k.val % 9 / 3) (2 * s.val + k.val % 9 % 3) (⟨256 * m + r.val, by omega⟩ : Fin 2560) := by
  have hk : k.val < 36 := lt_of_lt_of_eq k.isLt trips2
  have hr := r.isLt
  have ho := o.isLt
  have hsl := s.isLt
  have hb := b.isLt
  have key : ∀ (t : ℕ) (j : ℕ) (hj : j < 64) (b' : Fin 2) (q : ℕ) (hq : q < 128), t < 20 → j = 10 * o.val + s.val → b' = b → 128 * t + q = 256 * m + r.val →
      (pLd fp k t (ix5 0 0 (⟨j, hj⟩ : Fin 64) b' (⟨q, hq⟩ : Fin 128)) : EReal) = Spec.xp (dX X hs) b (2 * o.val + k.val % 9 / 3) (2 * s.val + k.val % 9 % 3) (⟨256 * m + r.val, by omega⟩ : Fin 2560) := by
    intro t j hj b' q hq ht ej eb eq
    subst ej eb
    have ht1 : t < k0_t1_loop.trips := lt_of_lt_of_eq ht trips1.symm
    have e1 : (pLd fp k t (ix5 0 0 (⟨10 * o.val + s.val, hj⟩ : Fin 64) b' (⟨q, hq⟩ : Fin 128)) : EReal)
        = fp (ix5 (plK k) (⟨t, ht⟩ : Fin 20) (⟨rwK k + (10 * o.val + s.val), by have := rwK_le k; omega⟩ : Fin 80) b' (⟨q, hq⟩ : Fin 128)) := by
      unfold pLd
      congr 1
      congr 1
      exact Fin.ext (by show t % 20 = t; omega)
    rw [e1]
    refine (hP (plK k) ⟨t, ht1⟩ ht (⟨rwK k + (10 * o.val + s.val), by have := rwK_le k; omega⟩ : Fin 80) b' (⟨q, hq⟩ : Fin 128) ht).trans ?_
    have e2 := pRow_at X C hs hC ⟨t, ht1⟩ (⟨k.val % 9 / 3, by omega⟩ : Fin 3) (⟨k.val % 9 % 3, by omega⟩ : Fin 3) o s b' (⟨q, hq⟩ : Fin 128)
    have e3 : (plK k).val = (if k.val % 9 / 3 = 1 then 0 else 3) + k.val % 9 % 3 := by
      show (if k.val % 9 / 3 = 1 then 0 else 3) + k.val % 3 = _
      rw [Nat.mod_mod_of_dvd _ (by decide : 3 ∣ 9)]
    have e4 : (⟨128 * t + q, by omega⟩ : Fin 2560) = ⟨256 * m + r.val, by omega⟩ := Fin.ext eq
    show (pRow X C G0 ⟨t, ht1⟩ (plK k).val (rwK k + (10 * o.val + s.val)) b'.val (⟨q, hq⟩ : Fin 128) : EReal) = _
    rw [e3]
    refine Eq.trans e2 ?_
    exact congrArg (fun z : Fin 2560 => Spec.xp (dX X hs) b' (2 * o.val + k.val % 9 / 3) (2 * s.val + k.val % 9 % 3) z) e4
  pointwise [lhsT, k0_pay218]
  split
  · split
    · exact key _ _ _ _ _ _ (by omega) (by omega) (Fin.ext (by show 0 = b.val; omega)) (by omega)
    · exact key _ _ _ _ _ _ (by omega) (by omega) (Fin.ext (by show 0 = b.val; omega)) (by omega)
  · split
    · exact key _ _ _ _ _ _ (by omega) (by omega) (Fin.ext (by show 1 = b.val; omega)) (by omega)
    · exact key _ _ _ _ _ _ (by omega) (by omega) (Fin.ext (by show 1 = b.val; omega)) (by omega)
theorem tot_zero (fw : HbBuf Ideal c MW) (fws : HbBuf Ideal c MWS) (fp : HbBuf Ideal c MP) (k : Fin k0_t2_loop.trips) (r : Fin 128) (n : Fin 512) : (tot fw fws fp k 0 (ix2 r n) : EReal) = 0 := by
  unfold tot
  pointwise [k0_pay217]
theorem tot_succ (fw : HbBuf Ideal c MW) (fws : HbBuf Ideal c MWS) (fp : HbBuf Ideal c MP) (k : Fin k0_t2_loop.trips) (m : ℕ) (r : Fin 128) (n : Fin 512) :
    (tot fw fws fp k (m + 1) (ix2 r n) : EReal) = (tot fw fws fp k m (ix2 r n) : EReal) + ∑ x : Fin 256, (lhsT fp k m (ix2 r x) : EReal) * (rhsT fw fws k m (ix2 x n) : EReal) := by
  have e : ∀ (A : FVec Ideal S128x256 .bf16) (B : FVec Ideal S256x512 .bf16), (matmul dot_S128x256_S256x512_S128x512_1_0_0_1_n_n none A B (constant S128x512 .f32 0x00000000#32) (ix2 r n) : EReal) = ∑ x : Fin 256, (A (ix2 r x) : EReal) * (B (ix2 x n) : EReal) := by
    intro A B
    pointwise
  exact congrArg (fun z : EReal => (tot fw fws fp k m (ix2 r n) : EReal) + z) (e _ _)
/-- Sums over blocks of 256. -/
theorem sum_blocks (g : ℕ → EReal) (T : ℕ → EReal) (h0 : T 0 = 0) (h : ∀ m, m < 10 → T (m + 1) = T m + ∑ x : Fin 256, g (256 * m + x.val)) : T 10 = ∑ x : Fin 2560, g x.val := by
  have e : ∀ m, m ≤ 10 → T m = ∑ x ∈ Finset.range (256 * m), g x := by
    intro m
    induction m with
    | zero => intro _; simp [h0]
    | succ m ih =>
      intro hm
      rw [h m (by omega), ih (by omega), Nat.mul_succ, Finset.sum_range_add, Finset.sum_range (fun x => g (256 * m + x))]
  rw [e 10 le_rfl, Finset.sum_range]
/-- A step's total is its tap's contribution. -/
theorem tot_at (X : HbBuf Ideal c MX) (C : HbBuf Ideal c MC) (hs : S2x12x20x80.Idx → BitVec 8) (hC : ScOK C hs) (fp : HbBuf Ideal c MP) (hP : PlaneInv c X C G0 20 fp) (hw : HbBuf Ideal c HW) (hws : HbBuf Ideal c HWS)
    (k : Fin k0_t2_loop.trips) (o : Fin 6) (s : Fin 10) (b : Fin 2) (n : Fin 512) :
    (tot (WK hw) (SK hws) fp k 10 (ix2 (⟨(10 * o.val + s.val) * 2 + b.val, by omega⟩ : Fin 128) n) : EReal)
      = Spec.tap (dX X hs) (dW hw hws) (⟨k.val % 9 / 3, by omega⟩ : Fin 3) (⟨k.val % 9 % 3, by omega⟩ : Fin 3) b o s (⟨512 * (k.val / 9) + n.val, by have := k.isLt; have := trips2; omega⟩ : Fin 2048) := by
  have hk : k.val < 36 := lt_of_lt_of_eq k.isLt trips2
  have hn := n.isLt
  unfold Spec.tap
  have := sum_blocks (fun x => if h : x < 2560 then Spec.xp (dX X hs) b (2 * o.val + k.val % 9 / 3) (2 * s.val + k.val % 9 % 3) ⟨x, h⟩ * dW hw hws (⟨k.val % 9 / 3, by omega⟩ : Fin 3) (⟨k.val % 9 % 3, by omega⟩ : Fin 3) ⟨x, h⟩ (⟨512 * (k.val / 9) + n.val, by omega⟩ : Fin 2048) else 0)
    (fun m => (tot (WK hw) (SK hws) fp k m (ix2 (⟨(10 * o.val + s.val) * 2 + b.val, by omega⟩ : Fin 128) n) : EReal)) (tot_zero _ _ _ _ _ _) (by
      intro m hm
      rw [tot_succ]
      refine congrArg (fun z : EReal => _ + z) (Finset.sum_congr rfl fun x _ => ?_)
      have hx := x.isLt
      rw [dif_pos (by omega : 256 * m + x.val < 2560)]
      exact congrArg₂ (fun a b : EReal => a * b) (lhsT_at X C hs hC fp hP k m hm o s b x) (rhsT_at hw hws k m hm x n))
  refine this.trans (Finset.sum_congr rfl fun x _ => ?_)
  rw [dif_pos x.isLt]

/-! ## The accumulator -/

/-- The accumulator, and a step's total, at an index. -/
abbrev aAt (fa : HbBuf Ideal c MA) (q : Fin 4) (r : Fin 128) (n : Fin 512) : EReal := fa (ix3 q r n)
abbrev tAt (fw : HbBuf Ideal c MW) (fws : HbBuf Ideal c MWS) (fp : HbBuf Ideal c MP) (k : Fin k0_t2_loop.trips) (r : Fin 128) (n : Fin 512) : EReal := tot fw fws fp k 10 (ix2 r n)

theorem accNext_at (fw : HbBuf Ideal c MW) (fws : HbBuf Ideal c MWS) (fp : HbBuf Ideal c MP) (fa : HbBuf Ideal c MA) (k : Fin k0_t2_loop.trips) (q : Fin 4) (r : Fin 128) (n : Fin 512) :
    aAt (accNext fw fws fp k fa) q r n = if q.val = k.val / 9 then (if k.val % 9 = 0 then tAt fw fws fp k r n else aAt fa q r n + tAt fw fws fp k r n) else aAt fa q r n := by
  have hk : k.val < 36 := lt_of_lt_of_eq k.isLt trips2
  pointwise [accNext, aSt]
  split
  · rename_i hq
    split
    · rfl
    · have e : (addf (shapeCast S128x512 (aLd fa k) shapeCasts_S1x128x512_S128x512) (tot fw fws fp k 10) (ix2 r n) : EReal) = aAt fa q r n + tAt fw fws fp k r n := by
        have hq' : q = (⟨k.val / 9, by omega⟩ : Fin 4) := Fin.ext hq
        pointwise [aLd]
        rw [hq']
        rfl
      exact e
  · rfl
/-- After nine steps a slot holds the nine totals, and keeps them. -/
theorem acc_at (fw : HbBuf Ideal c MW) (fws : HbBuf Ideal c MWS) (fp : HbBuf Ideal c MP) (f0 : HbBuf Ideal c MA) (q : Fin 4) (r : Fin 128) (n : Fin 512) (T : ℕ → EReal)
    (hT : ∀ (j : ℕ) (hj : j < 9), tAt fw fws fp ⟨9 * q.val + j, by have := trips2; omega⟩ r n = T j) :
    aAt (accIter c fw fws fp f0 36) q r n = T 0 + T 1 + T 2 + T 3 + T 4 + T 5 + T 6 + T 7 + T 8 := by
  have hq := q.isLt
  have step : ∀ (k : ℕ) (hk : k < 36), aAt (accIter c fw fws fp f0 (k + 1)) q r n
      = if q.val = k / 9 then (if k % 9 = 0 then tAt fw fws fp ⟨k, lt_of_lt_of_eq hk trips2.symm⟩ r n else aAt (accIter c fw fws fp f0 k) q r n + tAt fw fws fp ⟨k, lt_of_lt_of_eq hk trips2.symm⟩ r n) else aAt (accIter c fw fws fp f0 k) q r n := by
    intro k hk
    rw [accIter, dif_pos (lt_of_lt_of_eq hk trips2.symm)]
    exact accNext_at fw fws fp _ ⟨k, lt_of_lt_of_eq hk trips2.symm⟩ q r n
  have first : aAt (accIter c fw fws fp f0 (9 * q.val + 1)) q r n = T 0 := by
    rw [step (9 * q.val) (by omega), if_pos (by omega), if_pos (by omega)]
    exact hT 0 (by decide)
  have next : ∀ (j : ℕ) (h0 : 0 < j) (hj : j < 9), aAt (accIter c fw fws fp f0 (9 * q.val + j + 1)) q r n = aAt (accIter c fw fws fp f0 (9 * q.val + j)) q r n + T j := by
    intro j h0 hj
    rw [step (9 * q.val + j) (by omega), if_pos (by omega), if_neg (by omega), hT j hj]
  have keep : ∀ d, 9 * q.val + 9 + d ≤ 36 → aAt (accIter c fw fws fp f0 (9 * q.val + 9 + d)) q r n = aAt (accIter c fw fws fp f0 (9 * q.val + 9)) q r n := by
    intro d
    induction d with
    | zero => intro _; rfl
    | succ d ih =>
      intro hd
      have := step (9 * q.val + 9 + d) (by omega)
      rw [if_neg (by omega)] at this
      exact this.trans (ih (by omega))
  have h36 : aAt (accIter c fw fws fp f0 36) q r n = aAt (accIter c fw fws fp f0 (9 * q.val + 9)) q r n := by
    have := keep (27 - 9 * q.val) (by omega)
    rw [show 9 * q.val + 9 + (27 - 9 * q.val) = 36 by omega] at this
    exact this
  rw [h36]
  have n1 := next 1 (by decide) (by decide)
  have n2 := next 2 (by decide) (by decide)
  have n3 := next 3 (by decide) (by decide)
  have n4 := next 4 (by decide) (by decide)
  have n5 := next 5 (by decide) (by decide)
  have n6 := next 6 (by decide) (by decide)
  have n7 := next 7 (by decide) (by decide)
  have n8 := next 8 (by decide) (by decide)
  simp only [Nat.add_assoc, Nat.reduceAdd] at first n1 n2 n3 n4 n5 n6 n7 n8 ⊢
  rw [n8, n7, n6, n5, n4, n3, n2, n1, first]

/-- What the run's fact says of the result. -/
theorem out_read {arg4 : Memref sig .tc .vmem S1x2048 .f32} {arg5 : Memref sig .tc .vmem S2x6x10x2048 .bf16} {hx : HbBuf Ideal c HX} {hs : HbBuf Ideal c HS} {hw : HbBuf Ideal c HW} {hws : HbBuf Ideal c HWS}
    {bias : BufTy.Contents (Elt Ideal) arg4.view.ty} {fo : BufTy.Contents (Elt Ideal) arg5.view.ty} (h : OutFact (F := Ideal) c arg4 arg5 hx hs hw hws bias fo) :
    View.read (Elt Ideal) arg5.view fo = outS hx hs hw hws (View.read (Elt Ideal) arg4.view bias) := by
  obtain ⟨C, fp, fa, hC, hP, hA, hO⟩ := h
  obtain ⟨f0, rfl⟩ : ∃ f0, fa = accIter c (WK hw) (SK hws) fp f0 36 := hA
  rw [hO]
  funext i
  obtain ⟨b, o, s, n, rfl⟩ : ∃ (b : Fin 2) (o : Fin 6) (s : Fin 10) (n : Fin 2048), i = ix4 b o s n := ⟨i 0, i 1, i 2, i 3, by funext a; match a with | ⟨0, _⟩ => rfl | ⟨1, _⟩ => rfl | ⟨2, _⟩ => rfl | ⟨3, _⟩ => rfl⟩
  have hb := b.isLt
  have ho := o.isLt
  have hsl := s.isLt
  have hn := n.isLt
  show (aAt (accIter c (WK hw) (SK hws) fp f0 36) (⟨n.val / 512 % 4, Nat.mod_lt _ (by decide)⟩ : Fin 4) (⟨((10 * o.val + s.val) * 2 + b.val) % 128, Nat.mod_lt _ (by decide)⟩ : Fin 128) (⟨n.val % 512, Nat.mod_lt _ (by decide)⟩ : Fin 512)
    + (View.read (Elt Ideal) arg4.view bias (ix2 (0 : Fin 1) n) : EReal)) = Spec.out (dX hx hs) (dW hw hws) (fun n => View.read (Elt Ideal) arg4.view bias (ix2 0 n)) b o s n
  have er : (⟨((10 * o.val + s.val) * 2 + b.val) % 128, Nat.mod_lt _ (by decide)⟩ : Fin 128) = ⟨(10 * o.val + s.val) * 2 + b.val, by omega⟩ := Fin.ext (by show ((10 * o.val + s.val) * 2 + b.val) % 128 = (10 * o.val + s.val) * 2 + b.val; omega)
  rw [er, acc_at (WK hw) (SK hws) fp f0 _ _ _ (fun j => Spec.tap (dX hx hs) (dW hw hws) (⟨j % 9 / 3, by omega⟩ : Fin 3) (⟨j % 9 % 3, by omega⟩ : Fin 3) b o s n) (by
    intro j hj
    refine (tot_at hx C hs hC fp hP hw hws _ o s b (⟨n.val % 512, Nat.mod_lt _ (by decide)⟩ : Fin 512)).trans ?_
    have e1 : (⟨(9 * (n.val / 512 % 4) + j) % 9 / 3, by omega⟩ : Fin 3) = ⟨j % 9 / 3, by omega⟩ := Fin.ext (by show (9 * (n.val / 512 % 4) + j) % 9 / 3 = j % 9 / 3; omega)
    have e2 : (⟨(9 * (n.val / 512 % 4) + j) % 9 % 3, by omega⟩ : Fin 3) = ⟨j % 9 % 3, by omega⟩ := Fin.ext (by show (9 * (n.val / 512 % 4) + j) % 9 % 3 = j % 9 % 3; omega)
    have e3 : (⟨512 * ((9 * (n.val / 512 % 4) + j) / 9) + n.val % 512, by omega⟩ : Fin 2048) = n := Fin.ext (by show 512 * ((9 * (n.val / 512 % 4) + j) / 9) + n.val % 512 = n.val; omega)
    show Spec.tap (dX hx hs) (dW hw hws) (⟨(9 * (n.val / 512 % 4) + j) % 9 / 3, _⟩ : Fin 3) (⟨(9 * (n.val / 512 % 4) + j) % 9 % 3, _⟩ : Fin 3) b o s (⟨512 * ((9 * (n.val / 512 % 4) + j) / 9) + n.val % 512, _⟩ : Fin 2048) = _
    rw [e1, e2, e3])]
  rfl

end Cert.KernelIdeal.Hand

end
-- ==== Proof.KernelIdeal.FrameX.lean ====
/-
  The launch with its result named: the result array ends as the convolution of `Spec`.
-/
module

public import proofs.«01_k».proof.Proof.KernelIdeal.Frame
public import proofs.«01_k».proof.Proof.KernelIdeal.Value
public import Idealize.ShloMosaic.Lib.StableHlo.ReadAt
public import Idealize.ShloMosaic.Lib.Pipeline.ValueKit.Geometry
public import Idealize.ShloMosaic.Lib.Pipeline.ValueKit.Acc

@[expose] public section

noncomputable section

namespace Cert.KernelIdeal.Exact

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (Pipeline.UD sig nD τ) ℕ

variable (m : (ℓ : Loc nD τ sig) → Buf (Elt Ideal) ℓ) (ρ : Dev nD → PrngReg)

/-- The bias as the region finds it. -/
theorem V_bias (c : Dev nD) (n : Fin 2048) : (V m c main_v0 : S1x2048.Idx → EReal) (ix2 0 n) = (m ((c : Thread nD τ).loc main_arg4) : S2048.Idx → EReal) (ix1 n) := by
  show (StableHlo.after hostOps0 (fun b => m (c, b)) (Proc.devRef .tc main_v0) : S1x2048.Idx → EReal) (ix2 0 n) = _
  after_reads_at

/-- What the run leaves in the result. -/
def outB (c : Dev nD) (t : Fin cfg0.N) : S2x6x10x2048.Idx → EReal :=
  outS (V m c main_arg0) (V m c main_arg1) (V m c main_arg2) (V m c main_arg3) (iblk m c 0 t)

def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => outB m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = outB m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  rw [after0_0, after0_1]
  simp only [before0_0]
  unfold owns
  iintro ⟨⟨HS, Hg, Hq, Hh⟩, ⟨%W, %hW, HO⟩, ⟨%d0, %f0, %e0, H0⟩, ⟨%d1, %f1, %e1, H1⟩⟩
  iapply (wp_wand_r frame (wpE (defs₀ (F := Ideal)) Variants.none c none) Set.univ)
  isplitl [HS Hq Hh HO H0 H1]
  · iapply (conv_whole c (ms0_0 t) (hstage0_0 0) (ms0_1 t) (hstage0_1 0) (V m c main_arg0) (V m c main_arg1) (V m c main_arg2) (V m c main_arg3) W f0 f1)
    isplitl [HS]; · iexact HS
    isplitl [Hq]; · iexact Hq
    isplitl [Hh]; · iexact Hh
    isplitl [HO]; · iexact HO
    isplitl [H0]; · iexact H0
    iexact H1
  · iintro %_ ⟨HS, Hq, Hh, ⟨%W', HO⟩, H0, ⟨%fo', H1, %hO⟩⟩
    isplitl [HS Hg Hq Hh]
    · isplitl [HS]; · iexact HS
      isplitl [Hg]; · iexact Hg
      isplitl [Hq]; · iexact Hq
      iexact Hh
    isplitl [HO]
    · iexists W'; isplitr; · ipureintro; exact fun _ _ => Or.inl trivial
      iexact HO
    isplitl [H0]
    · iexists _; isplitr; swap; · iexact H0
      ipureintro; exact e0
    · iexists _; isplitr; swap; · iexact H1
      ipureintro
      exact (out_read hO).trans (by unfold outB; rw [e0])

theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

/-! ## The launch -/

set_option backward.isDefEq.respectTransparency.types false in
theorem run_main :
    θ_run defs (onTc (τ := τ) (main (F := Ideal))) (s₀ m ρ) (Pipeline.FramePost cfgs (dats m) 0 (V m)) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The result's array at the end. -/
theorem arr_out (c : Dev nD) : (dats m 0 c).arrAt 1 (cfgs 0).N = (outS (m ((c : Thread nD τ).loc main_arg0)) (m ((c : Thread nD τ).loc main_arg1)) (m ((c : Thread nD τ).loc main_arg2)) (m ((c : Thread nD τ).loc main_arg3))
      (fun i => (m ((c : Thread nD τ).loc main_arg4) : S2048.Idx → EReal) (ix1 (⟨(i 1).val, (i 1).isLt⟩ : Fin 2048))) : S2x6x10x2048.Idx → EReal) := by
  refine (dats m 0 c).arrAt_eq_of_covers 1 _ (by decide +kernel) fun t hf y => ?_
  blk_simp
  rw [after0_1]
  frame_out
  have e1 : ((View.whole main_v1).slice (win0_1.rect t)).emb y = y := by
    funext a
    match a with
    | ⟨0, _⟩ => exact Fin.ext ((Nat.zero_add _).trans (Nat.one_mul _))
    | ⟨1, _⟩ => exact Fin.ext ((Nat.zero_add _).trans (Nat.one_mul _))
    | ⟨2, _⟩ => exact Fin.ext ((Nat.zero_add _).trans (Nat.one_mul _))
    | ⟨3, _⟩ => exact Fin.ext ((Nat.zero_add _).trans (Nat.one_mul _))
  have e2 : ∀ n : Fin 2048, (iblk m c 0 t : S1x2048.Idx → EReal) (ix2 0 n) = (m ((c : Thread nD τ).loc main_arg4) : S2048.Idx → EReal) (ix1 n) := by
    intro n
    refine Eq.trans ?_ (V_bias m c n)
    show (V m c main_v0 : S1x2048.Idx → EReal) _ = _
    congr 1
    funext a
    match a with
    | ⟨0, _⟩ => exact Fin.ext ((Nat.zero_add _).trans (Nat.one_mul _))
    | ⟨1, _⟩ => exact Fin.ext ((Nat.zero_add _).trans (Nat.one_mul _))
  refine Eq.trans ?_ (congrArg _ e1.symm)
  unfold outB outS
  rw [V_main_arg0, V_main_arg1, V_main_arg2, V_main_arg3]
  show Spec.out _ _ _ _ _ _ _ = Spec.out _ _ _ _ _ _ _
  exact congrArg (fun B : Fin 2048 → EReal => Spec.out _ _ B _ _ _ _) (funext e2)

/-- The kernel's run with its result named. -/
theorem run : θ_run defs (onTc (τ := τ) (main (F := Ideal))) ⟨m, fun _ => 0, ρ⟩ (fun r => ∀ c : Dev nD,
      r.2.mem ((c.tc : Thread nD τ).loc main_v1) = (outS (m ((c : Thread nD τ).loc main_arg0)) (m ((c : Thread nD τ).loc main_arg1)) (m ((c : Thread nD τ).loc main_arg2)) (m ((c : Thread nD τ).loc main_arg3))
      (fun i => (m ((c : Thread nD τ).loc main_arg4) : S2048.Idx → EReal) (ix1 (⟨(i 1).val, (i 1).isLt⟩ : Fin 2048))) : S2x6x10x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 1).trans (arr_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Exact

end
-- ==== Proof.Algebraic.lean ====
/-
  The `algebraic` claim: both programs leave the convolution of `Spec`, of arguments that agree.
-/
module

public import proofs.«01_k».proof.Defs
public import proofs.«01_k».proof.Proof.RefVal
public import proofs.«01_k».proof.Proof.KernelIdeal.FrameX

@[expose] public section

noncomputable section

open Idealize.ShloMosaic Idealize.SL.Sem

namespace Cert.Proof

theorem algebraic : @Cert.algebraic_KernelIdeal_ReferenceIdeal Cert.KernelIdeal.Gen.facts Cert.ReferenceIdeal.Gen.facts := by
  intro m g m' g' hpre hagree
  refine ⟨_, Cert.KernelIdeal.Exact.run m g, ?_⟩
  refine (θ_run Cert.ReferenceIdeal.defs _ _).mono (fun r h c => ⟨(h c).1.trans ?_, (h c).2⟩) (Cert.ReferenceIdeal.Hand.run m' g')
  obtain ⟨h0, h1, h2, h3, h4⟩ := hagree c
  rw [show m' ((c.tc : Thread Cert.ReferenceIdeal.nD Cert.ReferenceIdeal.τ).loc Cert.ReferenceIdeal.main_arg0) = _ from h0, show m' ((c.tc : Thread Cert.ReferenceIdeal.nD Cert.ReferenceIdeal.τ).loc Cert.ReferenceIdeal.main_arg1) = _ from h1,
    show m' ((c.tc : Thread Cert.ReferenceIdeal.nD Cert.ReferenceIdeal.τ).loc Cert.ReferenceIdeal.main_arg2) = _ from h2, show m' ((c.tc : Thread Cert.ReferenceIdeal.nD Cert.ReferenceIdeal.τ).loc Cert.ReferenceIdeal.main_arg3) = _ from h3,
    show m' ((c.tc : Thread Cert.ReferenceIdeal.nD Cert.ReferenceIdeal.τ).loc Cert.ReferenceIdeal.main_arg4) = _ from h4]
  rfl

end Cert.Proof

end
-- ==== Proof.lean ====
module

public import proofs.«01_k».proof.Defs
public import proofs.«01_k».proof.Proof.Kernel.Frame
public import proofs.«01_k».proof.Proof.KernelIdeal.Frame
public import proofs.«01_k».proof.Proof.Gen.ReferenceIdeal.Frame
public import proofs.«01_k».proof.Proof.Preserves
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, preserves, algebraic⟩

end Cert.Proof

end
